-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2.1 = (fun _ => 1#1)
    ∧ (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))).2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2.1 = (fun _ => 1#1)
    ∧ (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2.2 = (fun _ => 1#1)

def Pre_Lnorm (m : (ℓ : Loc Cert.Lnorm.nD Cert.Lnorm.τ Cert.Lnorm.sig) → Buf (Elt Bits) ℓ) : Prop :=
  True

def Pre_LnormIdeal (m : (ℓ : Loc Cert.LnormIdeal.nD Cert.LnormIdeal.τ Cert.LnormIdeal.sig) → Buf (Elt Ideal) ℓ) : Prop :=
  True

def Pre_LnormIdeal_finite_lnorm [hPre_finite_lnorm : Cert.Pre_finite_lnorm.Facts] (m : (ℓ : Loc Cert.LnormIdeal.nD Cert.LnormIdeal.τ Cert.LnormIdeal.sig) → Buf (Elt Ideal) ℓ) : Prop :=
  ∀ c : Dev Cert.LnormIdeal.nD,
    (Cert.Pre_finite_lnorm.fn (F := Ideal) (m ((c.tc : Thread Cert.LnormIdeal.nD Cert.LnormIdeal.τ).loc Cert.LnormIdeal.main_arg0)) (m ((c.tc : Thread Cert.LnormIdeal.nD Cert.LnormIdeal.τ).loc Cert.LnormIdeal.main_arg1)) (m ((c.tc : Thread Cert.LnormIdeal.nD Cert.LnormIdeal.τ).loc Cert.LnormIdeal.main_arg2)) (m ((c.tc : Thread Cert.LnormIdeal.nD Cert.LnormIdeal.τ).loc Cert.LnormIdeal.main_arg3)) (m ((c.tc : Thread Cert.LnormIdeal.nD Cert.LnormIdeal.τ).loc Cert.LnormIdeal.main_arg4)) (m ((c.tc : Thread Cert.LnormIdeal.nD Cert.LnormIdeal.τ).loc Cert.LnormIdeal.main_arg5)) (m ((c.tc : Thread Cert.LnormIdeal.nD Cert.LnormIdeal.τ).loc Cert.LnormIdeal.main_arg6))).1 = (fun _ => 1#1)
    ∧ (Cert.Pre_finite_lnorm.fn (F := Ideal) (m ((c.tc : Thread Cert.LnormIdeal.nD Cert.LnormIdeal.τ).loc Cert.LnormIdeal.main_arg0)) (m ((c.tc : Thread Cert.LnormIdeal.nD Cert.LnormIdeal.τ).loc Cert.LnormIdeal.main_arg1)) (m ((c.tc : Thread Cert.LnormIdeal.nD Cert.LnormIdeal.τ).loc Cert.LnormIdeal.main_arg2)) (m ((c.tc : Thread Cert.LnormIdeal.nD Cert.LnormIdeal.τ).loc Cert.LnormIdeal.main_arg3)) (m ((c.tc : Thread Cert.LnormIdeal.nD Cert.LnormIdeal.τ).loc Cert.LnormIdeal.main_arg4)) (m ((c.tc : Thread Cert.LnormIdeal.nD Cert.LnormIdeal.τ).loc Cert.LnormIdeal.main_arg5)) (m ((c.tc : Thread Cert.LnormIdeal.nD Cert.LnormIdeal.τ).loc Cert.LnormIdeal.main_arg6))).2.1 = (fun _ => 1#1)
    ∧ (Cert.Pre_finite_lnorm.fn (F := Ideal) (m ((c.tc : Thread Cert.LnormIdeal.nD Cert.LnormIdeal.τ).loc Cert.LnormIdeal.main_arg0)) (m ((c.tc : Thread Cert.LnormIdeal.nD Cert.LnormIdeal.τ).loc Cert.LnormIdeal.main_arg1)) (m ((c.tc : Thread Cert.LnormIdeal.nD Cert.LnormIdeal.τ).loc Cert.LnormIdeal.main_arg2)) (m ((c.tc : Thread Cert.LnormIdeal.nD Cert.LnormIdeal.τ).loc Cert.LnormIdeal.main_arg3)) (m ((c.tc : Thread Cert.LnormIdeal.nD Cert.LnormIdeal.τ).loc Cert.LnormIdeal.main_arg4)) (m ((c.tc : Thread Cert.LnormIdeal.nD Cert.LnormIdeal.τ).loc Cert.LnormIdeal.main_arg5)) (m ((c.tc : Thread Cert.LnormIdeal.nD Cert.LnormIdeal.τ).loc Cert.LnormIdeal.main_arg6))).2.2.1 = (fun _ => 1#1)
    ∧ (Cert.Pre_finite_lnorm.fn (F := Ideal) (m ((c.tc : Thread Cert.LnormIdeal.nD Cert.LnormIdeal.τ).loc Cert.LnormIdeal.main_arg0)) (m ((c.tc : Thread Cert.LnormIdeal.nD Cert.LnormIdeal.τ).loc Cert.LnormIdeal.main_arg1)) (m ((c.tc : Thread Cert.LnormIdeal.nD Cert.LnormIdeal.τ).loc Cert.LnormIdeal.main_arg2)) (m ((c.tc : Thread Cert.LnormIdeal.nD Cert.LnormIdeal.τ).loc Cert.LnormIdeal.main_arg3)) (m ((c.tc : Thread Cert.LnormIdeal.nD Cert.LnormIdeal.τ).loc Cert.LnormIdeal.main_arg4)) (m ((c.tc : Thread Cert.LnormIdeal.nD Cert.LnormIdeal.τ).loc Cert.LnormIdeal.main_arg5)) (m ((c.tc : Thread Cert.LnormIdeal.nD Cert.LnormIdeal.τ).loc Cert.LnormIdeal.main_arg6))).2.2.2.1 = (fun _ => 1#1)
    ∧ (Cert.Pre_finite_lnorm.fn (F := Ideal) (m ((c.tc : Thread Cert.LnormIdeal.nD Cert.LnormIdeal.τ).loc Cert.LnormIdeal.main_arg0)) (m ((c.tc : Thread Cert.LnormIdeal.nD Cert.LnormIdeal.τ).loc Cert.LnormIdeal.main_arg1)) (m ((c.tc : Thread Cert.LnormIdeal.nD Cert.LnormIdeal.τ).loc Cert.LnormIdeal.main_arg2)) (m ((c.tc : Thread Cert.LnormIdeal.nD Cert.LnormIdeal.τ).loc Cert.LnormIdeal.main_arg3)) (m ((c.tc : Thread Cert.LnormIdeal.nD Cert.LnormIdeal.τ).loc Cert.LnormIdeal.main_arg4)) (m ((c.tc : Thread Cert.LnormIdeal.nD Cert.LnormIdeal.τ).loc Cert.LnormIdeal.main_arg5)) (m ((c.tc : Thread Cert.LnormIdeal.nD Cert.LnormIdeal.τ).loc Cert.LnormIdeal.main_arg6))).2.2.2.2.1 = (fun _ => 1#1)
    ∧ (Cert.Pre_finite_lnorm.fn (F := Ideal) (m ((c.tc : Thread Cert.LnormIdeal.nD Cert.LnormIdeal.τ).loc Cert.LnormIdeal.main_arg0)) (m ((c.tc : Thread Cert.LnormIdeal.nD Cert.LnormIdeal.τ).loc Cert.LnormIdeal.main_arg1)) (m ((c.tc : Thread Cert.LnormIdeal.nD Cert.LnormIdeal.τ).loc Cert.LnormIdeal.main_arg2)) (m ((c.tc : Thread Cert.LnormIdeal.nD Cert.LnormIdeal.τ).loc Cert.LnormIdeal.main_arg3)) (m ((c.tc : Thread Cert.LnormIdeal.nD Cert.LnormIdeal.τ).loc Cert.LnormIdeal.main_arg4)) (m ((c.tc : Thread Cert.LnormIdeal.nD Cert.LnormIdeal.τ).loc Cert.LnormIdeal.main_arg5)) (m ((c.tc : Thread Cert.LnormIdeal.nD Cert.LnormIdeal.τ).loc Cert.LnormIdeal.main_arg6))).2.2.2.2.2.1 = (fun _ => 1#1)
    ∧ (Cert.Pre_finite_lnorm.fn (F := Ideal) (m ((c.tc : Thread Cert.LnormIdeal.nD Cert.LnormIdeal.τ).loc Cert.LnormIdeal.main_arg0)) (m ((c.tc : Thread Cert.LnormIdeal.nD Cert.LnormIdeal.τ).loc Cert.LnormIdeal.main_arg1)) (m ((c.tc : Thread Cert.LnormIdeal.nD Cert.LnormIdeal.τ).loc Cert.LnormIdeal.main_arg2)) (m ((c.tc : Thread Cert.LnormIdeal.nD Cert.LnormIdeal.τ).loc Cert.LnormIdeal.main_arg3)) (m ((c.tc : Thread Cert.LnormIdeal.nD Cert.LnormIdeal.τ).loc Cert.LnormIdeal.main_arg4)) (m ((c.tc : Thread Cert.LnormIdeal.nD Cert.LnormIdeal.τ).loc Cert.LnormIdeal.main_arg5)) (m ((c.tc : Thread Cert.LnormIdeal.nD Cert.LnormIdeal.τ).loc Cert.LnormIdeal.main_arg6))).2.2.2.2.2.2 = (fun _ => 1#1)

def Pre_LnormRefIdeal (m : (ℓ : Loc Cert.LnormRefIdeal.nD Cert.LnormRefIdeal.τ Cert.LnormRefIdeal.sig) → Buf (Elt Ideal) ℓ) : Prop :=
  True

def Pre_LnormRefIdeal_finite_lnorm [hPre_finite_lnorm : Cert.Pre_finite_lnorm.Facts] (m : (ℓ : Loc Cert.LnormRefIdeal.nD Cert.LnormRefIdeal.τ Cert.LnormRefIdeal.sig) → Buf (Elt Ideal) ℓ) : Prop :=
  ∀ c : Dev Cert.LnormRefIdeal.nD,
    (Cert.Pre_finite_lnorm.fn (F := Ideal) (m ((c.tc : Thread Cert.LnormRefIdeal.nD Cert.LnormRefIdeal.τ).loc Cert.LnormRefIdeal.main_arg0)) (m ((c.tc : Thread Cert.LnormRefIdeal.nD Cert.LnormRefIdeal.τ).loc Cert.LnormRefIdeal.main_arg1)) (m ((c.tc : Thread Cert.LnormRefIdeal.nD Cert.LnormRefIdeal.τ).loc Cert.LnormRefIdeal.main_arg2)) (m ((c.tc : Thread Cert.LnormRefIdeal.nD Cert.LnormRefIdeal.τ).loc Cert.LnormRefIdeal.main_arg3)) (m ((c.tc : Thread Cert.LnormRefIdeal.nD Cert.LnormRefIdeal.τ).loc Cert.LnormRefIdeal.main_arg4)) (m ((c.tc : Thread Cert.LnormRefIdeal.nD Cert.LnormRefIdeal.τ).loc Cert.LnormRefIdeal.main_arg5)) (m ((c.tc : Thread Cert.LnormRefIdeal.nD Cert.LnormRefIdeal.τ).loc Cert.LnormRefIdeal.main_arg6))).1 = (fun _ => 1#1)
    ∧ (Cert.Pre_finite_lnorm.fn (F := Ideal) (m ((c.tc : Thread Cert.LnormRefIdeal.nD Cert.LnormRefIdeal.τ).loc Cert.LnormRefIdeal.main_arg0)) (m ((c.tc : Thread Cert.LnormRefIdeal.nD Cert.LnormRefIdeal.τ).loc Cert.LnormRefIdeal.main_arg1)) (m ((c.tc : Thread Cert.LnormRefIdeal.nD Cert.LnormRefIdeal.τ).loc Cert.LnormRefIdeal.main_arg2)) (m ((c.tc : Thread Cert.LnormRefIdeal.nD Cert.LnormRefIdeal.τ).loc Cert.LnormRefIdeal.main_arg3)) (m ((c.tc : Thread Cert.LnormRefIdeal.nD Cert.LnormRefIdeal.τ).loc Cert.LnormRefIdeal.main_arg4)) (m ((c.tc : Thread Cert.LnormRefIdeal.nD Cert.LnormRefIdeal.τ).loc Cert.LnormRefIdeal.main_arg5)) (m ((c.tc : Thread Cert.LnormRefIdeal.nD Cert.LnormRefIdeal.τ).loc Cert.LnormRefIdeal.main_arg6))).2.1 = (fun _ => 1#1)
    ∧ (Cert.Pre_finite_lnorm.fn (F := Ideal) (m ((c.tc : Thread Cert.LnormRefIdeal.nD Cert.LnormRefIdeal.τ).loc Cert.LnormRefIdeal.main_arg0)) (m ((c.tc : Thread Cert.LnormRefIdeal.nD Cert.LnormRefIdeal.τ).loc Cert.LnormRefIdeal.main_arg1)) (m ((c.tc : Thread Cert.LnormRefIdeal.nD Cert.LnormRefIdeal.τ).loc Cert.LnormRefIdeal.main_arg2)) (m ((c.tc : Thread Cert.LnormRefIdeal.nD Cert.LnormRefIdeal.τ).loc Cert.LnormRefIdeal.main_arg3)) (m ((c.tc : Thread Cert.LnormRefIdeal.nD Cert.LnormRefIdeal.τ).loc Cert.LnormRefIdeal.main_arg4)) (m ((c.tc : Thread Cert.LnormRefIdeal.nD Cert.LnormRefIdeal.τ).loc Cert.LnormRefIdeal.main_arg5)) (m ((c.tc : Thread Cert.LnormRefIdeal.nD Cert.LnormRefIdeal.τ).loc Cert.LnormRefIdeal.main_arg6))).2.2.1 = (fun _ => 1#1)
    ∧ (Cert.Pre_finite_lnorm.fn (F := Ideal) (m ((c.tc : Thread Cert.LnormRefIdeal.nD Cert.LnormRefIdeal.τ).loc Cert.LnormRefIdeal.main_arg0)) (m ((c.tc : Thread Cert.LnormRefIdeal.nD Cert.LnormRefIdeal.τ).loc Cert.LnormRefIdeal.main_arg1)) (m ((c.tc : Thread Cert.LnormRefIdeal.nD Cert.LnormRefIdeal.τ).loc Cert.LnormRefIdeal.main_arg2)) (m ((c.tc : Thread Cert.LnormRefIdeal.nD Cert.LnormRefIdeal.τ).loc Cert.LnormRefIdeal.main_arg3)) (m ((c.tc : Thread Cert.LnormRefIdeal.nD Cert.LnormRefIdeal.τ).loc Cert.LnormRefIdeal.main_arg4)) (m ((c.tc : Thread Cert.LnormRefIdeal.nD Cert.LnormRefIdeal.τ).loc Cert.LnormRefIdeal.main_arg5)) (m ((c.tc : Thread Cert.LnormRefIdeal.nD Cert.LnormRefIdeal.τ).loc Cert.LnormRefIdeal.main_arg6))).2.2.2.1 = (fun _ => 1#1)
    ∧ (Cert.Pre_finite_lnorm.fn (F := Ideal) (m ((c.tc : Thread Cert.LnormRefIdeal.nD Cert.LnormRefIdeal.τ).loc Cert.LnormRefIdeal.main_arg0)) (m ((c.tc : Thread Cert.LnormRefIdeal.nD Cert.LnormRefIdeal.τ).loc Cert.LnormRefIdeal.main_arg1)) (m ((c.tc : Thread Cert.LnormRefIdeal.nD Cert.LnormRefIdeal.τ).loc Cert.LnormRefIdeal.main_arg2)) (m ((c.tc : Thread Cert.LnormRefIdeal.nD Cert.LnormRefIdeal.τ).loc Cert.LnormRefIdeal.main_arg3)) (m ((c.tc : Thread Cert.LnormRefIdeal.nD Cert.LnormRefIdeal.τ).loc Cert.LnormRefIdeal.main_arg4)) (m ((c.tc : Thread Cert.LnormRefIdeal.nD Cert.LnormRefIdeal.τ).loc Cert.LnormRefIdeal.main_arg5)) (m ((c.tc : Thread Cert.LnormRefIdeal.nD Cert.LnormRefIdeal.τ).loc Cert.LnormRefIdeal.main_arg6))).2.2.2.2.1 = (fun _ => 1#1)
    ∧ (Cert.Pre_finite_lnorm.fn (F := Ideal) (m ((c.tc : Thread Cert.LnormRefIdeal.nD Cert.LnormRefIdeal.τ).loc Cert.LnormRefIdeal.main_arg0)) (m ((c.tc : Thread Cert.LnormRefIdeal.nD Cert.LnormRefIdeal.τ).loc Cert.LnormRefIdeal.main_arg1)) (m ((c.tc : Thread Cert.LnormRefIdeal.nD Cert.LnormRefIdeal.τ).loc Cert.LnormRefIdeal.main_arg2)) (m ((c.tc : Thread Cert.LnormRefIdeal.nD Cert.LnormRefIdeal.τ).loc Cert.LnormRefIdeal.main_arg3)) (m ((c.tc : Thread Cert.LnormRefIdeal.nD Cert.LnormRefIdeal.τ).loc Cert.LnormRefIdeal.main_arg4)) (m ((c.tc : Thread Cert.LnormRefIdeal.nD Cert.LnormRefIdeal.τ).loc Cert.LnormRefIdeal.main_arg5)) (m ((c.tc : Thread Cert.LnormRefIdeal.nD Cert.LnormRefIdeal.τ).loc Cert.LnormRefIdeal.main_arg6))).2.2.2.2.2.1 = (fun _ => 1#1)
    ∧ (Cert.Pre_finite_lnorm.fn (F := Ideal) (m ((c.tc : Thread Cert.LnormRefIdeal.nD Cert.LnormRefIdeal.τ).loc Cert.LnormRefIdeal.main_arg0)) (m ((c.tc : Thread Cert.LnormRefIdeal.nD Cert.LnormRefIdeal.τ).loc Cert.LnormRefIdeal.main_arg1)) (m ((c.tc : Thread Cert.LnormRefIdeal.nD Cert.LnormRefIdeal.τ).loc Cert.LnormRefIdeal.main_arg2)) (m ((c.tc : Thread Cert.LnormRefIdeal.nD Cert.LnormRefIdeal.τ).loc Cert.LnormRefIdeal.main_arg3)) (m ((c.tc : Thread Cert.LnormRefIdeal.nD Cert.LnormRefIdeal.τ).loc Cert.LnormRefIdeal.main_arg4)) (m ((c.tc : Thread Cert.LnormRefIdeal.nD Cert.LnormRefIdeal.τ).loc Cert.LnormRefIdeal.main_arg5)) (m ((c.tc : Thread Cert.LnormRefIdeal.nD Cert.LnormRefIdeal.τ).loc Cert.LnormRefIdeal.main_arg6))).2.2.2.2.2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.2.2.2.1 = (fun _ => 1#1)
    ∧ (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4)) (m ((c.tc : Thread Cert.LossIdeal.nD Cert.LossIdeal.τ).loc Cert.LossIdeal.main_arg5))).2.2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.1 = (fun _ => 1#1)
    ∧ (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))).2.2.2.2.2 = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormIdeal_finite_norm [hPre_finite_norm : Cert.Pre_finite_norm.Facts] (m : (ℓ : Loc Cert.NormIdeal.nD Cert.NormIdeal.τ Cert.NormIdeal.sig) → Buf (Elt Ideal) ℓ) : Prop :=
  ∀ c : Dev Cert.NormIdeal.nD,
    (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))).1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))).2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))).2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))).2.2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))).2.2.2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))).2.2.2.2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))).2.2.2.2.2.2.1 = (fun _ => 1#1)
    ∧ (Cert.Pre_finite_norm.fn (F := Ideal) (m ((c.tc : Thread Cert.NormIdeal.nD Cert.NormIdeal.τ).loc Cert.NormIdeal.main_arg0)) (m ((c.tc : Thread Cert.NormIdeal.nD Cert.NormIdeal.τ).loc Cert.NormIdeal.main_arg1)) (m ((c.tc : Thread Cert.NormIdeal.nD Cert.NormIdeal.τ).loc Cert.NormIdeal.main_arg2)) (m ((c.tc : Thread Cert.NormIdeal.nD Cert.NormIdeal.τ).loc Cert.NormIdeal.main_arg3)) (m ((c.tc : Thread Cert.NormIdeal.nD Cert.NormIdeal.τ).loc Cert.NormIdeal.main_arg4)) (m ((c.tc : Thread Cert.NormIdeal.nD Cert.NormIdeal.τ).loc Cert.NormIdeal.main_arg5)) (m ((c.tc : Thread Cert.NormIdeal.nD Cert.NormIdeal.τ).loc Cert.NormIdeal.main_arg6)) (m ((c.tc : Thread Cert.NormIdeal.nD Cert.NormIdeal.τ).loc Cert.NormIdeal.main_arg7))).2.2.2.2.2.2.2 = (fun _ => 1#1)

def Pre_NormRefIdeal (m : (ℓ : Loc Cert.NormRefIdeal.nD Cert.NormRefIdeal.τ Cert.NormRefIdeal.sig) → Buf (Elt Ideal) ℓ) : Prop :=
  True

def Pre_NormRefIdeal_finite_norm [hPre_finite_norm : Cert.Pre_finite_norm.Facts] (m : (ℓ : Loc Cert.NormRefIdeal.nD Cert.NormRefIdeal.τ Cert.NormRefIdeal.sig) → Buf (Elt Ideal) ℓ) : Prop :=
  ∀ c : Dev Cert.NormRefIdeal.nD,
    (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))).1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))).2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))).2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))).2.2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))).2.2.2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))).2.2.2.2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))).2.2.2.2.2.2.1 = (fun _ => 1#1)
    ∧ (Cert.Pre_finite_norm.fn (F := Ideal) (m ((c.tc : Thread Cert.NormRefIdeal.nD Cert.NormRefIdeal.τ).loc Cert.NormRefIdeal.main_arg0)) (m ((c.tc : Thread Cert.NormRefIdeal.nD Cert.NormRefIdeal.τ).loc Cert.NormRefIdeal.main_arg1)) (m ((c.tc : Thread Cert.NormRefIdeal.nD Cert.NormRefIdeal.τ).loc Cert.NormRefIdeal.main_arg2)) (m ((c.tc : Thread Cert.NormRefIdeal.nD Cert.NormRefIdeal.τ).loc Cert.NormRefIdeal.main_arg3)) (m ((c.tc : Thread Cert.NormRefIdeal.nD Cert.NormRefIdeal.τ).loc Cert.NormRefIdeal.main_arg4)) (m ((c.tc : Thread Cert.NormRefIdeal.nD Cert.NormRefIdeal.τ).loc Cert.NormRefIdeal.main_arg5)) (m ((c.tc : Thread Cert.NormRefIdeal.nD Cert.NormRefIdeal.τ).loc Cert.NormRefIdeal.main_arg6)) (m ((c.tc : Thread Cert.NormRefIdeal.nD Cert.NormRefIdeal.τ).loc Cert.NormRefIdeal.main_arg7))).2.2.2.2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).1 = (fun _ => 1#1)
    ∧ (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).1 = (fun _ => 1#1)
    ∧ (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).2 = (fun _ => 1#1)

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_Gw (m : (ℓ : Loc Cert.Gw.nD Cert.Gw.τ Cert.Gw.sig) → Buf (Elt Bits) ℓ) : Prop :=
  True

def Pre_GwIdeal (m : (ℓ : Loc Cert.GwIdeal.nD Cert.GwIdeal.τ Cert.GwIdeal.sig) → Buf (Elt Ideal) ℓ) : Prop :=
  True

def Pre_GwRefIdeal (m : (ℓ : Loc Cert.GwRefIdeal.nD Cert.GwRefIdeal.τ Cert.GwRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_Cw (m : (ℓ : Loc Cert.Cw.nD Cert.Cw.τ Cert.Cw.sig) → Buf (Elt Bits) ℓ) : Prop :=
  True

def Pre_CwIdeal (m : (ℓ : Loc Cert.CwIdeal.nD Cert.CwIdeal.τ Cert.CwIdeal.sig) → Buf (Elt Ideal) ℓ) : Prop :=
  True

def Pre_CwRefIdeal (m : (ℓ : Loc Cert.CwRefIdeal.nD Cert.CwRefIdeal.τ Cert.CwRefIdeal.sig) → Buf (Elt Ideal) ℓ) : Prop :=
  True

def Pre_Gout (m : (ℓ : Loc Cert.Gout.nD Cert.Gout.τ Cert.Gout.sig) → Buf (Elt Bits) ℓ) : Prop :=
  True

def Pre_GoutIdeal (m : (ℓ : Loc Cert.GoutIdeal.nD Cert.GoutIdeal.τ Cert.GoutIdeal.sig) → Buf (Elt Ideal) ℓ) : Prop :=
  True

def Pre_GoutRefIdeal (m : (ℓ : Loc Cert.GoutRefIdeal.nD Cert.GoutRefIdeal.τ Cert.GoutRefIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Lnorm [hLnorm : Cert.Lnorm.Facts] : Prop :=
  ∀ (m : (ℓ : Loc Cert.Lnorm.nD Cert.Lnorm.τ Cert.Lnorm.sig) → Buf (Elt Bits) ℓ) (g : Dev Cert.Lnorm.nD → PrngReg), Pre_Lnorm m →
    θ_run (Cert.Lnorm.defs (F := Bits)) (onTc (τ := Cert.Lnorm.τ) (Cert.Lnorm.main (F := Bits))) ⟨m, fun _ => 0, g⟩ (fun r => (∀ c : Dev Cert.Lnorm.nD,
      r.2.mem ((c.tc : Thread Cert.Lnorm.nD Cert.Lnorm.τ).loc Cert.Lnorm.main_arg0) = m ((c.tc : Thread Cert.Lnorm.nD Cert.Lnorm.τ).loc Cert.Lnorm.main_arg0)
      ∧ r.2.mem ((c.tc : Thread Cert.Lnorm.nD Cert.Lnorm.τ).loc Cert.Lnorm.main_arg1) = m ((c.tc : Thread Cert.Lnorm.nD Cert.Lnorm.τ).loc Cert.Lnorm.main_arg1)
      ∧ r.2.mem ((c.tc : Thread Cert.Lnorm.nD Cert.Lnorm.τ).loc Cert.Lnorm.main_arg2) = m ((c.tc : Thread Cert.Lnorm.nD Cert.Lnorm.τ).loc Cert.Lnorm.main_arg2)
      ∧ r.2.mem ((c.tc : Thread Cert.Lnorm.nD Cert.Lnorm.τ).loc Cert.Lnorm.main_arg3) = m ((c.tc : Thread Cert.Lnorm.nD Cert.Lnorm.τ).loc Cert.Lnorm.main_arg3)
      ∧ r.2.mem ((c.tc : Thread Cert.Lnorm.nD Cert.Lnorm.τ).loc Cert.Lnorm.main_arg4) = m ((c.tc : Thread Cert.Lnorm.nD Cert.Lnorm.τ).loc Cert.Lnorm.main_arg4)
      ∧ r.2.mem ((c.tc : Thread Cert.Lnorm.nD Cert.Lnorm.τ).loc Cert.Lnorm.main_arg5) = m ((c.tc : Thread Cert.Lnorm.nD Cert.Lnorm.τ).loc Cert.Lnorm.main_arg5)
      ∧ r.2.mem ((c.tc : Thread Cert.Lnorm.nD Cert.Lnorm.τ).loc Cert.Lnorm.main_arg6) = m ((c.tc : Thread Cert.Lnorm.nD Cert.Lnorm.τ).loc Cert.Lnorm.main_arg6))
      ∧ r.2.sem = fun _ => 0)

def quiescent_LnormIdeal [hLnormIdeal : Cert.LnormIdeal.Facts] : Prop :=
  ∀ (m : (ℓ : Loc Cert.LnormIdeal.nD Cert.LnormIdeal.τ Cert.LnormIdeal.sig) → Buf (Elt Ideal) ℓ) (g : Dev Cert.LnormIdeal.nD → PrngReg), Pre_LnormIdeal m →
    θ_run (Cert.LnormIdeal.defs (F := Ideal)) (onTc (τ := Cert.LnormIdeal.τ) (Cert.LnormIdeal.main (F := Ideal))) ⟨m, fun _ => 0, g⟩ (fun r => (∀ c : Dev Cert.LnormIdeal.nD,
      r.2.mem ((c.tc : Thread Cert.LnormIdeal.nD Cert.LnormIdeal.τ).loc Cert.LnormIdeal.main_arg0) = m ((c.tc : Thread Cert.LnormIdeal.nD Cert.LnormIdeal.τ).loc Cert.LnormIdeal.main_arg0)
      ∧ r.2.mem ((c.tc : Thread Cert.LnormIdeal.nD Cert.LnormIdeal.τ).loc Cert.LnormIdeal.main_arg1) = m ((c.tc : Thread Cert.LnormIdeal.nD Cert.LnormIdeal.τ).loc Cert.LnormIdeal.main_arg1)
      ∧ r.2.mem ((c.tc : Thread Cert.LnormIdeal.nD Cert.LnormIdeal.τ).loc Cert.LnormIdeal.main_arg2) = m ((c.tc : Thread Cert.LnormIdeal.nD Cert.LnormIdeal.τ).loc Cert.LnormIdeal.main_arg2)
      ∧ r.2.mem ((c.tc : Thread Cert.LnormIdeal.nD Cert.LnormIdeal.τ).loc Cert.LnormIdeal.main_arg3) = m ((c.tc : Thread Cert.LnormIdeal.nD Cert.LnormIdeal.τ).loc Cert.LnormIdeal.main_arg3)
      ∧ r.2.mem ((c.tc : Thread Cert.LnormIdeal.nD Cert.LnormIdeal.τ).loc Cert.LnormIdeal.main_arg4) = m ((c.tc : Thread Cert.LnormIdeal.nD Cert.LnormIdeal.τ).loc Cert.LnormIdeal.main_arg4)
      ∧ r.2.mem ((c.tc : Thread Cert.LnormIdeal.nD Cert.LnormIdeal.τ).loc Cert.LnormIdeal.main_arg5) = m ((c.tc : Thread Cert.LnormIdeal.nD Cert.LnormIdeal.τ).loc Cert.LnormIdeal.main_arg5)
      ∧ r.2.mem ((c.tc : Thread Cert.LnormIdeal.nD Cert.LnormIdeal.τ).loc Cert.LnormIdeal.main_arg6) = m ((c.tc : Thread Cert.LnormIdeal.nD Cert.LnormIdeal.τ).loc Cert.LnormIdeal.main_arg6))
      ∧ r.2.sem = fun _ => 0)

def quiescent_LnormIdeal_pre_finite_lnorm [hLnormIdeal : Cert.LnormIdeal.Facts] [hPre_finite_lnorm : Cert.Pre_finite_lnorm.Facts] : Prop :=
  ∀ (m : (ℓ : Loc Cert.LnormIdeal.nD Cert.LnormIdeal.τ Cert.LnormIdeal.sig) → Buf (Elt Ideal) ℓ) (g : Dev Cert.LnormIdeal.nD → PrngReg), Pre_LnormIdeal_finite_lnorm m →
    θ_run (Cert.LnormIdeal.defs (F := Ideal)) (onTc (τ := Cert.LnormIdeal.τ) (Cert.LnormIdeal.main (F := Ideal))) ⟨m, fun _ => 0, g⟩ (fun r => (∀ c : Dev Cert.LnormIdeal.nD,
      r.2.mem ((c.tc : Thread Cert.LnormIdeal.nD Cert.LnormIdeal.τ).loc Cert.LnormIdeal.main_arg0) = m ((c.tc : Thread Cert.LnormIdeal.nD Cert.LnormIdeal.τ).loc Cert.LnormIdeal.main_arg0)
      ∧ r.2.mem ((c.tc : Thread Cert.LnormIdeal.nD Cert.LnormIdeal.τ).loc Cert.LnormIdeal.main_arg1) = m ((c.tc : Thread Cert.LnormIdeal.nD Cert.LnormIdeal.τ).loc Cert.LnormIdeal.main_arg1)
      ∧ r.2.mem ((c.tc : Thread Cert.LnormIdeal.nD Cert.LnormIdeal.τ).loc Cert.LnormIdeal.main_arg2) = m ((c.tc : Thread Cert.LnormIdeal.nD Cert.LnormIdeal.τ).loc Cert.LnormIdeal.main_arg2)
      ∧ r.2.mem ((c.tc : Thread Cert.LnormIdeal.nD Cert.LnormIdeal.τ).loc Cert.LnormIdeal.main_arg3) = m ((c.tc : Thread Cert.LnormIdeal.nD Cert.LnormIdeal.τ).loc Cert.LnormIdeal.main_arg3)
      ∧ r.2.mem ((c.tc : Thread Cert.LnormIdeal.nD Cert.LnormIdeal.τ).loc Cert.LnormIdeal.main_arg4) = m ((c.tc : Thread Cert.LnormIdeal.nD Cert.LnormIdeal.τ).loc Cert.LnormIdeal.main_arg4)
      ∧ r.2.mem ((c.tc : Thread Cert.LnormIdeal.nD Cert.LnormIdeal.τ).loc Cert.LnormIdeal.main_arg5) = m ((c.tc : Thread Cert.LnormIdeal.nD Cert.LnormIdeal.τ).loc Cert.LnormIdeal.main_arg5)
      ∧ r.2.mem ((c.tc : Thread Cert.LnormIdeal.nD Cert.LnormIdeal.τ).loc Cert.LnormIdeal.main_arg6) = m ((c.tc : Thread Cert.LnormIdeal.nD Cert.LnormIdeal.τ).loc Cert.LnormIdeal.main_arg6))
      ∧ r.2.sem = fun _ => 0)

def quiescent_LnormRefIdeal [hLnormRefIdeal : Cert.LnormRefIdeal.Facts] : Prop :=
  ∀ (m : (ℓ : Loc Cert.LnormRefIdeal.nD Cert.LnormRefIdeal.τ Cert.LnormRefIdeal.sig) → Buf (Elt Ideal) ℓ) (g : Dev Cert.LnormRefIdeal.nD → PrngReg), Pre_LnormRefIdeal m →
    θ_run (Cert.LnormRefIdeal.defs (F := Ideal)) (onTc (τ := Cert.LnormRefIdeal.τ) (Cert.LnormRefIdeal.main (F := Ideal))) ⟨m, fun _ => 0, g⟩ (fun r => (∀ c : Dev Cert.LnormRefIdeal.nD,
      r.2.mem ((c.tc : Thread Cert.LnormRefIdeal.nD Cert.LnormRefIdeal.τ).loc Cert.LnormRefIdeal.main_arg0) = m ((c.tc : Thread Cert.LnormRefIdeal.nD Cert.LnormRefIdeal.τ).loc Cert.LnormRefIdeal.main_arg0)
      ∧ r.2.mem ((c.tc : Thread Cert.LnormRefIdeal.nD Cert.LnormRefIdeal.τ).loc Cert.LnormRefIdeal.main_arg1) = m ((c.tc : Thread Cert.LnormRefIdeal.nD Cert.LnormRefIdeal.τ).loc Cert.LnormRefIdeal.main_arg1)
      ∧ r.2.mem ((c.tc : Thread Cert.LnormRefIdeal.nD Cert.LnormRefIdeal.τ).loc Cert.LnormRefIdeal.main_arg2) = m ((c.tc : Thread Cert.LnormRefIdeal.nD Cert.LnormRefIdeal.τ).loc Cert.LnormRefIdeal.main_arg2)
      ∧ r.2.mem ((c.tc : Thread Cert.LnormRefIdeal.nD Cert.LnormRefIdeal.τ).loc Cert.LnormRefIdeal.main_arg3) = m ((c.tc : Thread Cert.LnormRefIdeal.nD Cert.LnormRefIdeal.τ).loc Cert.LnormRefIdeal.main_arg3)
      ∧ r.2.mem ((c.tc : Thread Cert.LnormRefIdeal.nD Cert.LnormRefIdeal.τ).loc Cert.LnormRefIdeal.main_arg4) = m ((c.tc : Thread Cert.LnormRefIdeal.nD Cert.LnormRefIdeal.τ).loc Cert.LnormRefIdeal.main_arg4)
      ∧ r.2.mem ((c.tc : Thread Cert.LnormRefIdeal.nD Cert.LnormRefIdeal.τ).loc Cert.LnormRefIdeal.main_arg5) = m ((c.tc : Thread Cert.LnormRefIdeal.nD Cert.LnormRefIdeal.τ).loc Cert.LnormRefIdeal.main_arg5)
      ∧ r.2.mem ((c.tc : Thread Cert.LnormRefIdeal.nD Cert.LnormRefIdeal.τ).loc Cert.LnormRefIdeal.main_arg6) = m ((c.tc : Thread Cert.LnormRefIdeal.nD Cert.LnormRefIdeal.τ).loc Cert.LnormRefIdeal.main_arg6))
      ∧ r.2.sem = fun _ => 0)

def quiescent_LnormRefIdeal_pre_finite_lnorm [hLnormRefIdeal : Cert.LnormRefIdeal.Facts] [hPre_finite_lnorm : Cert.Pre_finite_lnorm.Facts] : Prop :=
  ∀ (m : (ℓ : Loc Cert.LnormRefIdeal.nD Cert.LnormRefIdeal.τ Cert.LnormRefIdeal.sig) → Buf (Elt Ideal) ℓ) (g : Dev Cert.LnormRefIdeal.nD → PrngReg), Pre_LnormRefIdeal_finite_lnorm m →
    θ_run (Cert.LnormRefIdeal.defs (F := Ideal)) (onTc (τ := Cert.LnormRefIdeal.τ) (Cert.LnormRefIdeal.main (F := Ideal))) ⟨m, fun _ => 0, g⟩ (fun r => (∀ c : Dev Cert.LnormRefIdeal.nD,
      r.2.mem ((c.tc : Thread Cert.LnormRefIdeal.nD Cert.LnormRefIdeal.τ).loc Cert.LnormRefIdeal.main_arg0) = m ((c.tc : Thread Cert.LnormRefIdeal.nD Cert.LnormRefIdeal.τ).loc Cert.LnormRefIdeal.main_arg0)
      ∧ r.2.mem ((c.tc : Thread Cert.LnormRefIdeal.nD Cert.LnormRefIdeal.τ).loc Cert.LnormRefIdeal.main_arg1) = m ((c.tc : Thread Cert.LnormRefIdeal.nD Cert.LnormRefIdeal.τ).loc Cert.LnormRefIdeal.main_arg1)
      ∧ r.2.mem ((c.tc : Thread Cert.LnormRefIdeal.nD Cert.LnormRefIdeal.τ).loc Cert.LnormRefIdeal.main_arg2) = m ((c.tc : Thread Cert.LnormRefIdeal.nD Cert.LnormRefIdeal.τ).loc Cert.LnormRefIdeal.main_arg2)
      ∧ r.2.mem ((c.tc : Thread Cert.LnormRefIdeal.nD Cert.LnormRefIdeal.τ).loc Cert.LnormRefIdeal.main_arg3) = m ((c.tc : Thread Cert.LnormRefIdeal.nD Cert.LnormRefIdeal.τ).loc Cert.LnormRefIdeal.main_arg3)
      ∧ r.2.mem ((c.tc : Thread Cert.LnormRefIdeal.nD Cert.LnormRefIdeal.τ).loc Cert.LnormRefIdeal.main_arg4) = m ((c.tc : Thread Cert.LnormRefIdeal.nD Cert.LnormRefIdeal.τ).loc Cert.LnormRefIdeal.main_arg4)
      ∧ r.2.mem ((c.tc : Thread Cert.LnormRefIdeal.nD Cert.LnormRefIdeal.τ).loc Cert.LnormRefIdeal.main_arg5) = m ((c.tc : Thread Cert.LnormRefIdeal.nD Cert.LnormRefIdeal.τ).loc Cert.LnormRefIdeal.main_arg5)
      ∧ r.2.mem ((c.tc : Thread Cert.LnormRefIdeal.nD Cert.LnormRefIdeal.τ).loc Cert.LnormRefIdeal.main_arg6) = m ((c.tc : Thread Cert.LnormRefIdeal.nD Cert.LnormRefIdeal.τ).loc Cert.LnormRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6)
      ∧ r.2.mem ((c.tc : Thread Cert.Norm.nD Cert.Norm.τ).loc Cert.Norm.main_arg7) = m ((c.tc : Thread Cert.Norm.nD Cert.Norm.τ).loc Cert.Norm.main_arg7))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ r.2.sem = fun _ => 0)

def quiescent_NormIdeal_pre_finite_norm [hNormIdeal : Cert.NormIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg), Pre_NormIdeal_finite_norm m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
      ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7))
      ∧ r.2.sem = fun _ => 0)

def quiescent_NormRefIdeal_pre_finite_norm [hNormRefIdeal : Cert.NormRefIdeal.Facts] [hPre_finite_norm : Cert.Pre_finite_norm.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal_finite_norm m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6)
      ∧ r.2.mem ((c.tc : Thread Cert.NormRefIdeal.nD Cert.NormRefIdeal.τ).loc Cert.NormRefIdeal.main_arg7) = m ((c.tc : Thread Cert.NormRefIdeal.nD Cert.NormRefIdeal.τ).loc Cert.NormRefIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_Gw [hGw : Cert.Gw.Facts] : Prop :=
  ∀ (m : (ℓ : Loc Cert.Gw.nD Cert.Gw.τ Cert.Gw.sig) → Buf (Elt Bits) ℓ) (g : Dev Cert.Gw.nD → PrngReg), Pre_Gw m →
    θ_run (Cert.Gw.defs (F := Bits)) (onTc (τ := Cert.Gw.τ) (Cert.Gw.main (F := Bits))) ⟨m, fun _ => 0, g⟩ (fun r => (∀ c : Dev Cert.Gw.nD,
      r.2.mem ((c.tc : Thread Cert.Gw.nD Cert.Gw.τ).loc Cert.Gw.main_arg0) = m ((c.tc : Thread Cert.Gw.nD Cert.Gw.τ).loc Cert.Gw.main_arg0)
      ∧ r.2.mem ((c.tc : Thread Cert.Gw.nD Cert.Gw.τ).loc Cert.Gw.main_arg1) = m ((c.tc : Thread Cert.Gw.nD Cert.Gw.τ).loc Cert.Gw.main_arg1)
      ∧ r.2.mem ((c.tc : Thread Cert.Gw.nD Cert.Gw.τ).loc Cert.Gw.main_arg2) = m ((c.tc : Thread Cert.Gw.nD Cert.Gw.τ).loc Cert.Gw.main_arg2))
      ∧ r.2.sem = fun _ => 0)

def quiescent_GwIdeal [hGwIdeal : Cert.GwIdeal.Facts] : Prop :=
  ∀ (m : (ℓ : Loc Cert.GwIdeal.nD Cert.GwIdeal.τ Cert.GwIdeal.sig) → Buf (Elt Ideal) ℓ) (g : Dev Cert.GwIdeal.nD → PrngReg), Pre_GwIdeal m →
    θ_run (Cert.GwIdeal.defs (F := Ideal)) (onTc (τ := Cert.GwIdeal.τ) (Cert.GwIdeal.main (F := Ideal))) ⟨m, fun _ => 0, g⟩ (fun r => (∀ c : Dev Cert.GwIdeal.nD,
      r.2.mem ((c.tc : Thread Cert.GwIdeal.nD Cert.GwIdeal.τ).loc Cert.GwIdeal.main_arg0) = m ((c.tc : Thread Cert.GwIdeal.nD Cert.GwIdeal.τ).loc Cert.GwIdeal.main_arg0)
      ∧ r.2.mem ((c.tc : Thread Cert.GwIdeal.nD Cert.GwIdeal.τ).loc Cert.GwIdeal.main_arg1) = m ((c.tc : Thread Cert.GwIdeal.nD Cert.GwIdeal.τ).loc Cert.GwIdeal.main_arg1)
      ∧ r.2.mem ((c.tc : Thread Cert.GwIdeal.nD Cert.GwIdeal.τ).loc Cert.GwIdeal.main_arg2) = m ((c.tc : Thread Cert.GwIdeal.nD Cert.GwIdeal.τ).loc Cert.GwIdeal.main_arg2))
      ∧ r.2.sem = fun _ => 0)

def quiescent_GwRefIdeal [hGwRefIdeal : Cert.GwRefIdeal.Facts] : Prop :=
  ∀ (m : (ℓ : Loc Cert.GwRefIdeal.nD Cert.GwRefIdeal.τ Cert.GwRefIdeal.sig) → Buf (Elt Ideal) ℓ) (g : Dev Cert.GwRefIdeal.nD → PrngReg), Pre_GwRefIdeal m →
    θ_run (Cert.GwRefIdeal.defs (F := Ideal)) (onTc (τ := Cert.GwRefIdeal.τ) (Cert.GwRefIdeal.main (F := Ideal))) ⟨m, fun _ => 0, g⟩ (fun r => (∀ c : Dev Cert.GwRefIdeal.nD,
      r.2.mem ((c.tc : Thread Cert.GwRefIdeal.nD Cert.GwRefIdeal.τ).loc Cert.GwRefIdeal.main_arg0) = m ((c.tc : Thread Cert.GwRefIdeal.nD Cert.GwRefIdeal.τ).loc Cert.GwRefIdeal.main_arg0)
      ∧ r.2.mem ((c.tc : Thread Cert.GwRefIdeal.nD Cert.GwRefIdeal.τ).loc Cert.GwRefIdeal.main_arg1) = m ((c.tc : Thread Cert.GwRefIdeal.nD Cert.GwRefIdeal.τ).loc Cert.GwRefIdeal.main_arg1)
      ∧ r.2.mem ((c.tc : Thread Cert.GwRefIdeal.nD Cert.GwRefIdeal.τ).loc Cert.GwRefIdeal.main_arg2) = m ((c.tc : Thread Cert.GwRefIdeal.nD Cert.GwRefIdeal.τ).loc Cert.GwRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3)
      ∧ r.2.mem ((c.tc : Thread Cert.Small.nD Cert.Small.τ).loc Cert.Small.main_arg4) = m ((c.tc : Thread Cert.Small.nD Cert.Small.τ).loc Cert.Small.main_arg4)
      ∧ r.2.mem ((c.tc : Thread Cert.Small.nD Cert.Small.τ).loc Cert.Small.main_arg5) = m ((c.tc : Thread Cert.Small.nD Cert.Small.τ).loc Cert.Small.main_arg5)
      ∧ r.2.mem ((c.tc : Thread Cert.Small.nD Cert.Small.τ).loc Cert.Small.main_arg6) = m ((c.tc : Thread Cert.Small.nD Cert.Small.τ).loc Cert.Small.main_arg6)
      ∧ r.2.mem ((c.tc : Thread Cert.Small.nD Cert.Small.τ).loc Cert.Small.main_arg7) = m ((c.tc : Thread Cert.Small.nD Cert.Small.τ).loc Cert.Small.main_arg7)
      ∧ r.2.mem ((c.tc : Thread Cert.Small.nD Cert.Small.τ).loc Cert.Small.main_arg8) = m ((c.tc : Thread Cert.Small.nD Cert.Small.τ).loc Cert.Small.main_arg8)
      ∧ r.2.mem ((c.tc : Thread Cert.Small.nD Cert.Small.τ).loc Cert.Small.main_arg9) = m ((c.tc : Thread Cert.Small.nD Cert.Small.τ).loc Cert.Small.main_arg9)
      ∧ r.2.mem ((c.tc : Thread Cert.Small.nD Cert.Small.τ).loc Cert.Small.main_arg10) = m ((c.tc : Thread Cert.Small.nD Cert.Small.τ).loc Cert.Small.main_arg10)
      ∧ r.2.mem ((c.tc : Thread Cert.Small.nD Cert.Small.τ).loc Cert.Small.main_arg11) = m ((c.tc : Thread Cert.Small.nD Cert.Small.τ).loc Cert.Small.main_arg11)
      ∧ r.2.mem ((c.tc : Thread Cert.Small.nD Cert.Small.τ).loc Cert.Small.main_arg12) = m ((c.tc : Thread Cert.Small.nD Cert.Small.τ).loc Cert.Small.main_arg12)
      ∧ r.2.mem ((c.tc : Thread Cert.Small.nD Cert.Small.τ).loc Cert.Small.main_arg13) = m ((c.tc : Thread Cert.Small.nD Cert.Small.τ).loc Cert.Small.main_arg13)
      ∧ r.2.mem ((c.tc : Thread Cert.Small.nD Cert.Small.τ).loc Cert.Small.main_arg14) = m ((c.tc : Thread Cert.Small.nD Cert.Small.τ).loc Cert.Small.main_arg14)
      ∧ r.2.mem ((c.tc : Thread Cert.Small.nD Cert.Small.τ).loc Cert.Small.main_arg15) = m ((c.tc : Thread Cert.Small.nD Cert.Small.τ).loc Cert.Small.main_arg15)
      ∧ r.2.mem ((c.tc : Thread Cert.Small.nD Cert.Small.τ).loc Cert.Small.main_arg16) = m ((c.tc : Thread Cert.Small.nD Cert.Small.τ).loc Cert.Small.main_arg16)
      ∧ r.2.mem ((c.tc : Thread Cert.Small.nD Cert.Small.τ).loc Cert.Small.main_arg17) = m ((c.tc : Thread Cert.Small.nD Cert.Small.τ).loc Cert.Small.main_arg17)
      ∧ r.2.mem ((c.tc : Thread Cert.Small.nD Cert.Small.τ).loc Cert.Small.main_arg18) = m ((c.tc : Thread Cert.Small.nD Cert.Small.τ).loc Cert.Small.main_arg18)
      ∧ r.2.mem ((c.tc : Thread Cert.Small.nD Cert.Small.τ).loc Cert.Small.main_arg19) = m ((c.tc : Thread Cert.Small.nD Cert.Small.τ).loc Cert.Small.main_arg19)
      ∧ r.2.mem ((c.tc : Thread Cert.Small.nD Cert.Small.τ).loc Cert.Small.main_arg20) = m ((c.tc : Thread Cert.Small.nD Cert.Small.τ).loc Cert.Small.main_arg20))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
      ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
      ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
      ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
      ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
      ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
      ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
      ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
      ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
      ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
      ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
      ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
      ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
      ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
      ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
      ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
      ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
      ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0)
      ∧ r.2.mem ((c.tc : Thread Cert.SmallRefIdeal.nD Cert.SmallRefIdeal.τ).loc Cert.SmallRefIdeal.main_arg1) = m ((c.tc : Thread Cert.SmallRefIdeal.nD Cert.SmallRefIdeal.τ).loc Cert.SmallRefIdeal.main_arg1)
      ∧ r.2.mem ((c.tc : Thread Cert.SmallRefIdeal.nD Cert.SmallRefIdeal.τ).loc Cert.SmallRefIdeal.main_arg2) = m ((c.tc : Thread Cert.SmallRefIdeal.nD Cert.SmallRefIdeal.τ).loc Cert.SmallRefIdeal.main_arg2)
      ∧ r.2.mem ((c.tc : Thread Cert.SmallRefIdeal.nD Cert.SmallRefIdeal.τ).loc Cert.SmallRefIdeal.main_arg3) = m ((c.tc : Thread Cert.SmallRefIdeal.nD Cert.SmallRefIdeal.τ).loc Cert.SmallRefIdeal.main_arg3)
      ∧ r.2.mem ((c.tc : Thread Cert.SmallRefIdeal.nD Cert.SmallRefIdeal.τ).loc Cert.SmallRefIdeal.main_arg4) = m ((c.tc : Thread Cert.SmallRefIdeal.nD Cert.SmallRefIdeal.τ).loc Cert.SmallRefIdeal.main_arg4)
      ∧ r.2.mem ((c.tc : Thread Cert.SmallRefIdeal.nD Cert.SmallRefIdeal.τ).loc Cert.SmallRefIdeal.main_arg5) = m ((c.tc : Thread Cert.SmallRefIdeal.nD Cert.SmallRefIdeal.τ).loc Cert.SmallRefIdeal.main_arg5)
      ∧ r.2.mem ((c.tc : Thread Cert.SmallRefIdeal.nD Cert.SmallRefIdeal.τ).loc Cert.SmallRefIdeal.main_arg6) = m ((c.tc : Thread Cert.SmallRefIdeal.nD Cert.SmallRefIdeal.τ).loc Cert.SmallRefIdeal.main_arg6)
      ∧ r.2.mem ((c.tc : Thread Cert.SmallRefIdeal.nD Cert.SmallRefIdeal.τ).loc Cert.SmallRefIdeal.main_arg7) = m ((c.tc : Thread Cert.SmallRefIdeal.nD Cert.SmallRefIdeal.τ).loc Cert.SmallRefIdeal.main_arg7)
      ∧ r.2.mem ((c.tc : Thread Cert.SmallRefIdeal.nD Cert.SmallRefIdeal.τ).loc Cert.SmallRefIdeal.main_arg8) = m ((c.tc : Thread Cert.SmallRefIdeal.nD Cert.SmallRefIdeal.τ).loc Cert.SmallRefIdeal.main_arg8)
      ∧ r.2.mem ((c.tc : Thread Cert.SmallRefIdeal.nD Cert.SmallRefIdeal.τ).loc Cert.SmallRefIdeal.main_arg9) = m ((c.tc : Thread Cert.SmallRefIdeal.nD Cert.SmallRefIdeal.τ).loc Cert.SmallRefIdeal.main_arg9)
      ∧ r.2.mem ((c.tc : Thread Cert.SmallRefIdeal.nD Cert.SmallRefIdeal.τ).loc Cert.SmallRefIdeal.main_arg10) = m ((c.tc : Thread Cert.SmallRefIdeal.nD Cert.SmallRefIdeal.τ).loc Cert.SmallRefIdeal.main_arg10)
      ∧ r.2.mem ((c.tc : Thread Cert.SmallRefIdeal.nD Cert.SmallRefIdeal.τ).loc Cert.SmallRefIdeal.main_arg11) = m ((c.tc : Thread Cert.SmallRefIdeal.nD Cert.SmallRefIdeal.τ).loc Cert.SmallRefIdeal.main_arg11)
      ∧ r.2.mem ((c.tc : Thread Cert.SmallRefIdeal.nD Cert.SmallRefIdeal.τ).loc Cert.SmallRefIdeal.main_arg12) = m ((c.tc : Thread Cert.SmallRefIdeal.nD Cert.SmallRefIdeal.τ).loc Cert.SmallRefIdeal.main_arg12)
      ∧ r.2.mem ((c.tc : Thread Cert.SmallRefIdeal.nD Cert.SmallRefIdeal.τ).loc Cert.SmallRefIdeal.main_arg13) = m ((c.tc : Thread Cert.SmallRefIdeal.nD Cert.SmallRefIdeal.τ).loc Cert.SmallRefIdeal.main_arg13)
      ∧ r.2.mem ((c.tc : Thread Cert.SmallRefIdeal.nD Cert.SmallRefIdeal.τ).loc Cert.SmallRefIdeal.main_arg14) = m ((c.tc : Thread Cert.SmallRefIdeal.nD Cert.SmallRefIdeal.τ).loc Cert.SmallRefIdeal.main_arg14)
      ∧ r.2.mem ((c.tc : Thread Cert.SmallRefIdeal.nD Cert.SmallRefIdeal.τ).loc Cert.SmallRefIdeal.main_arg15) = m ((c.tc : Thread Cert.SmallRefIdeal.nD Cert.SmallRefIdeal.τ).loc Cert.SmallRefIdeal.main_arg15)
      ∧ r.2.mem ((c.tc : Thread Cert.SmallRefIdeal.nD Cert.SmallRefIdeal.τ).loc Cert.SmallRefIdeal.main_arg16) = m ((c.tc : Thread Cert.SmallRefIdeal.nD Cert.SmallRefIdeal.τ).loc Cert.SmallRefIdeal.main_arg16)
      ∧ r.2.mem ((c.tc : Thread Cert.SmallRefIdeal.nD Cert.SmallRefIdeal.τ).loc Cert.SmallRefIdeal.main_arg17) = m ((c.tc : Thread Cert.SmallRefIdeal.nD Cert.SmallRefIdeal.τ).loc Cert.SmallRefIdeal.main_arg17)
      ∧ r.2.mem ((c.tc : Thread Cert.SmallRefIdeal.nD Cert.SmallRefIdeal.τ).loc Cert.SmallRefIdeal.main_arg18) = m ((c.tc : Thread Cert.SmallRefIdeal.nD Cert.SmallRefIdeal.τ).loc Cert.SmallRefIdeal.main_arg18)
      ∧ r.2.mem ((c.tc : Thread Cert.SmallRefIdeal.nD Cert.SmallRefIdeal.τ).loc Cert.SmallRefIdeal.main_arg19) = m ((c.tc : Thread Cert.SmallRefIdeal.nD Cert.SmallRefIdeal.τ).loc Cert.SmallRefIdeal.main_arg19)
      ∧ r.2.mem ((c.tc : Thread Cert.SmallRefIdeal.nD Cert.SmallRefIdeal.τ).loc Cert.SmallRefIdeal.main_arg20) = m ((c.tc : Thread Cert.SmallRefIdeal.nD Cert.SmallRefIdeal.τ).loc Cert.SmallRefIdeal.main_arg20))
      ∧ r.2.sem = fun _ => 0)

def quiescent_Cw [hCw : Cert.Cw.Facts] : Prop :=
  ∀ (m : (ℓ : Loc Cert.Cw.nD Cert.Cw.τ Cert.Cw.sig) → Buf (Elt Bits) ℓ) (g : Dev Cert.Cw.nD → PrngReg), Pre_Cw m →
    θ_run (Cert.Cw.defs (F := Bits)) (onTc (τ := Cert.Cw.τ) (Cert.Cw.main (F := Bits))) ⟨m, fun _ => 0, g⟩ (fun r => (∀ c : Dev Cert.Cw.nD,
      r.2.mem ((c.tc : Thread Cert.Cw.nD Cert.Cw.τ).loc Cert.Cw.main_arg0) = m ((c.tc : Thread Cert.Cw.nD Cert.Cw.τ).loc Cert.Cw.main_arg0)
      ∧ r.2.mem ((c.tc : Thread Cert.Cw.nD Cert.Cw.τ).loc Cert.Cw.main_arg1) = m ((c.tc : Thread Cert.Cw.nD Cert.Cw.τ).loc Cert.Cw.main_arg1)
      ∧ r.2.mem ((c.tc : Thread Cert.Cw.nD Cert.Cw.τ).loc Cert.Cw.main_arg2) = m ((c.tc : Thread Cert.Cw.nD Cert.Cw.τ).loc Cert.Cw.main_arg2)
      ∧ r.2.mem ((c.tc : Thread Cert.Cw.nD Cert.Cw.τ).loc Cert.Cw.main_arg3) = m ((c.tc : Thread Cert.Cw.nD Cert.Cw.τ).loc Cert.Cw.main_arg3))
      ∧ r.2.sem = fun _ => 0)

def quiescent_CwIdeal [hCwIdeal : Cert.CwIdeal.Facts] : Prop :=
  ∀ (m : (ℓ : Loc Cert.CwIdeal.nD Cert.CwIdeal.τ Cert.CwIdeal.sig) → Buf (Elt Ideal) ℓ) (g : Dev Cert.CwIdeal.nD → PrngReg), Pre_CwIdeal m →
    θ_run (Cert.CwIdeal.defs (F := Ideal)) (onTc (τ := Cert.CwIdeal.τ) (Cert.CwIdeal.main (F := Ideal))) ⟨m, fun _ => 0, g⟩ (fun r => (∀ c : Dev Cert.CwIdeal.nD,
      r.2.mem ((c.tc : Thread Cert.CwIdeal.nD Cert.CwIdeal.τ).loc Cert.CwIdeal.main_arg0) = m ((c.tc : Thread Cert.CwIdeal.nD Cert.CwIdeal.τ).loc Cert.CwIdeal.main_arg0)
      ∧ r.2.mem ((c.tc : Thread Cert.CwIdeal.nD Cert.CwIdeal.τ).loc Cert.CwIdeal.main_arg1) = m ((c.tc : Thread Cert.CwIdeal.nD Cert.CwIdeal.τ).loc Cert.CwIdeal.main_arg1)
      ∧ r.2.mem ((c.tc : Thread Cert.CwIdeal.nD Cert.CwIdeal.τ).loc Cert.CwIdeal.main_arg2) = m ((c.tc : Thread Cert.CwIdeal.nD Cert.CwIdeal.τ).loc Cert.CwIdeal.main_arg2)
      ∧ r.2.mem ((c.tc : Thread Cert.CwIdeal.nD Cert.CwIdeal.τ).loc Cert.CwIdeal.main_arg3) = m ((c.tc : Thread Cert.CwIdeal.nD Cert.CwIdeal.τ).loc Cert.CwIdeal.main_arg3))
      ∧ r.2.sem = fun _ => 0)

def quiescent_CwRefIdeal [hCwRefIdeal : Cert.CwRefIdeal.Facts] : Prop :=
  ∀ (m : (ℓ : Loc Cert.CwRefIdeal.nD Cert.CwRefIdeal.τ Cert.CwRefIdeal.sig) → Buf (Elt Ideal) ℓ) (g : Dev Cert.CwRefIdeal.nD → PrngReg), Pre_CwRefIdeal m →
    θ_run (Cert.CwRefIdeal.defs (F := Ideal)) (onTc (τ := Cert.CwRefIdeal.τ) (Cert.CwRefIdeal.main (F := Ideal))) ⟨m, fun _ => 0, g⟩ (fun r => (∀ c : Dev Cert.CwRefIdeal.nD,
      r.2.mem ((c.tc : Thread Cert.CwRefIdeal.nD Cert.CwRefIdeal.τ).loc Cert.CwRefIdeal.main_arg0) = m ((c.tc : Thread Cert.CwRefIdeal.nD Cert.CwRefIdeal.τ).loc Cert.CwRefIdeal.main_arg0)
      ∧ r.2.mem ((c.tc : Thread Cert.CwRefIdeal.nD Cert.CwRefIdeal.τ).loc Cert.CwRefIdeal.main_arg1) = m ((c.tc : Thread Cert.CwRefIdeal.nD Cert.CwRefIdeal.τ).loc Cert.CwRefIdeal.main_arg1)
      ∧ r.2.mem ((c.tc : Thread Cert.CwRefIdeal.nD Cert.CwRefIdeal.τ).loc Cert.CwRefIdeal.main_arg2) = m ((c.tc : Thread Cert.CwRefIdeal.nD Cert.CwRefIdeal.τ).loc Cert.CwRefIdeal.main_arg2)
      ∧ r.2.mem ((c.tc : Thread Cert.CwRefIdeal.nD Cert.CwRefIdeal.τ).loc Cert.CwRefIdeal.main_arg3) = m ((c.tc : Thread Cert.CwRefIdeal.nD Cert.CwRefIdeal.τ).loc Cert.CwRefIdeal.main_arg3))
      ∧ r.2.sem = fun _ => 0)

def quiescent_Gout [hGout : Cert.Gout.Facts] : Prop :=
  ∀ (m : (ℓ : Loc Cert.Gout.nD Cert.Gout.τ Cert.Gout.sig) → Buf (Elt Bits) ℓ) (g : Dev Cert.Gout.nD → PrngReg), Pre_Gout m →
    θ_run (Cert.Gout.defs (F := Bits)) (onTc (τ := Cert.Gout.τ) (Cert.Gout.main (F := Bits))) ⟨m, fun _ => 0, g⟩ (fun r => (∀ c : Dev Cert.Gout.nD,
      r.2.mem ((c.tc : Thread Cert.Gout.nD Cert.Gout.τ).loc Cert.Gout.main_arg0) = m ((c.tc : Thread Cert.Gout.nD Cert.Gout.τ).loc Cert.Gout.main_arg0)
      ∧ r.2.mem ((c.tc : Thread Cert.Gout.nD Cert.Gout.τ).loc Cert.Gout.main_arg1) = m ((c.tc : Thread Cert.Gout.nD Cert.Gout.τ).loc Cert.Gout.main_arg1)
      ∧ r.2.mem ((c.tc : Thread Cert.Gout.nD Cert.Gout.τ).loc Cert.Gout.main_arg2) = m ((c.tc : Thread Cert.Gout.nD Cert.Gout.τ).loc Cert.Gout.main_arg2))
      ∧ r.2.sem = fun _ => 0)

def quiescent_GoutIdeal [hGoutIdeal : Cert.GoutIdeal.Facts] : Prop :=
  ∀ (m : (ℓ : Loc Cert.GoutIdeal.nD Cert.GoutIdeal.τ Cert.GoutIdeal.sig) → Buf (Elt Ideal) ℓ) (g : Dev Cert.GoutIdeal.nD → PrngReg), Pre_GoutIdeal m →
    θ_run (Cert.GoutIdeal.defs (F := Ideal)) (onTc (τ := Cert.GoutIdeal.τ) (Cert.GoutIdeal.main (F := Ideal))) ⟨m, fun _ => 0, g⟩ (fun r => (∀ c : Dev Cert.GoutIdeal.nD,
      r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
      ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1)
      ∧ r.2.mem ((c.tc : Thread Cert.GoutIdeal.nD Cert.GoutIdeal.τ).loc Cert.GoutIdeal.main_arg2) = m ((c.tc : Thread Cert.GoutIdeal.nD Cert.GoutIdeal.τ).loc Cert.GoutIdeal.main_arg2))
      ∧ r.2.sem = fun _ => 0)

def quiescent_GoutRefIdeal [hGoutRefIdeal : Cert.GoutRefIdeal.Facts] : Prop :=
  ∀ (m : (ℓ : Loc Cert.GoutRefIdeal.nD Cert.GoutRefIdeal.τ Cert.GoutRefIdeal.sig) → Buf (Elt Ideal) ℓ) (g : Dev Cert.GoutRefIdeal.nD → PrngReg), Pre_GoutRefIdeal m →
    θ_run (Cert.GoutRefIdeal.defs (F := Ideal)) (onTc (τ := Cert.GoutRefIdeal.τ) (Cert.GoutRefIdeal.main (F := Ideal))) ⟨m, fun _ => 0, g⟩ (fun r => (∀ c : Dev Cert.GoutRefIdeal.nD,
      r.2.mem ((c.tc : Thread Cert.GoutRefIdeal.nD Cert.GoutRefIdeal.τ).loc Cert.GoutRefIdeal.main_arg0) = m ((c.tc : Thread Cert.GoutRefIdeal.nD Cert.GoutRefIdeal.τ).loc Cert.GoutRefIdeal.main_arg0)
      ∧ r.2.mem ((c.tc : Thread Cert.GoutRefIdeal.nD Cert.GoutRefIdeal.τ).loc Cert.GoutRefIdeal.main_arg1) = m ((c.tc : Thread Cert.GoutRefIdeal.nD Cert.GoutRefIdeal.τ).loc Cert.GoutRefIdeal.main_arg1)
      ∧ r.2.mem ((c.tc : Thread Cert.GoutRefIdeal.nD Cert.GoutRefIdeal.τ).loc Cert.GoutRefIdeal.main_arg2) = m ((c.tc : Thread Cert.GoutRefIdeal.nD Cert.GoutRefIdeal.τ).loc Cert.GoutRefIdeal.main_arg2))
      ∧ r.2.sem = fun _ => 0)

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v11)) (v1 : (c : Dev Cert.GateIdeal.nD) → Buf (Elt Ideal) ((c.tc : Thread Cert.GateIdeal.nD Cert.GateIdeal.τ).loc Cert.GateIdeal.main_v14)) (v2 : (c : Dev Cert.GateIdeal.nD) → Buf (Elt Ideal) ((c.tc : Thread Cert.GateIdeal.nD Cert.GateIdeal.τ).loc Cert.GateIdeal.main_v18)) (v3 : (c : Dev Cert.GateIdeal.nD) → Buf (Elt Ideal) ((c.tc : Thread Cert.GateIdeal.nD Cert.GateIdeal.τ).loc Cert.GateIdeal.main_v21)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v11) = v0 c
          ∧ r.2.mem ((c.tc : Thread Cert.GateIdeal.nD Cert.GateIdeal.τ).loc Cert.GateIdeal.main_v14) = v1 c
          ∧ r.2.mem ((c.tc : Thread Cert.GateIdeal.nD Cert.GateIdeal.τ).loc Cert.GateIdeal.main_v18) = v2 c
          ∧ r.2.mem ((c.tc : Thread Cert.GateIdeal.nD Cert.GateIdeal.τ).loc Cert.GateIdeal.main_v21) = v3 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v6) = v0 c
          ∧ r.2.mem ((c.tc : Thread Cert.GateRefIdeal.nD Cert.GateRefIdeal.τ).loc Cert.GateRefIdeal.main_v11) = v1 c
          ∧ r.2.mem ((c.tc : Thread Cert.GateRefIdeal.nD Cert.GateRefIdeal.τ).loc Cert.GateRefIdeal.main_v10) = v2 c
          ∧ r.2.mem ((c.tc : Thread Cert.GateRefIdeal.nD Cert.GateRefIdeal.τ).loc Cert.GateRefIdeal.main_v12) = v3 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Lnorm_LnormIdeal : Prop :=
  True

def algebraic_LnormIdeal_LnormRefIdeal_pre_finite_lnorm [hLnormIdeal : Cert.LnormIdeal.Facts] [hLnormRefIdeal : Cert.LnormRefIdeal.Facts] [hPre_finite_lnorm : Cert.Pre_finite_lnorm.Facts] : Prop :=
  ∀ (m : (ℓ : Loc Cert.LnormIdeal.nD Cert.LnormIdeal.τ Cert.LnormIdeal.sig) → Buf (Elt Ideal) ℓ) (g : Dev Cert.LnormIdeal.nD → PrngReg)
    (m' : (ℓ : Loc Cert.LnormRefIdeal.nD Cert.LnormRefIdeal.τ Cert.LnormRefIdeal.sig) → Buf (Elt Ideal) ℓ) (g' : Dev Cert.LnormRefIdeal.nD → PrngReg), Pre_LnormIdeal_finite_lnorm m →
    (∀ c : Dev Cert.LnormIdeal.nD,
      m' ((c.tc : Thread Cert.LnormRefIdeal.nD Cert.LnormRefIdeal.τ).loc Cert.LnormRefIdeal.main_arg0) = m ((c.tc : Thread Cert.LnormIdeal.nD Cert.LnormIdeal.τ).loc Cert.LnormIdeal.main_arg0)
      ∧ m' ((c.tc : Thread Cert.LnormRefIdeal.nD Cert.LnormRefIdeal.τ).loc Cert.LnormRefIdeal.main_arg1) = m ((c.tc : Thread Cert.LnormIdeal.nD Cert.LnormIdeal.τ).loc Cert.LnormIdeal.main_arg1)
      ∧ m' ((c.tc : Thread Cert.LnormRefIdeal.nD Cert.LnormRefIdeal.τ).loc Cert.LnormRefIdeal.main_arg2) = m ((c.tc : Thread Cert.LnormIdeal.nD Cert.LnormIdeal.τ).loc Cert.LnormIdeal.main_arg2)
      ∧ m' ((c.tc : Thread Cert.LnormRefIdeal.nD Cert.LnormRefIdeal.τ).loc Cert.LnormRefIdeal.main_arg3) = m ((c.tc : Thread Cert.LnormIdeal.nD Cert.LnormIdeal.τ).loc Cert.LnormIdeal.main_arg3)
      ∧ m' ((c.tc : Thread Cert.LnormRefIdeal.nD Cert.LnormRefIdeal.τ).loc Cert.LnormRefIdeal.main_arg4) = m ((c.tc : Thread Cert.LnormIdeal.nD Cert.LnormIdeal.τ).loc Cert.LnormIdeal.main_arg4)
      ∧ m' ((c.tc : Thread Cert.LnormRefIdeal.nD Cert.LnormRefIdeal.τ).loc Cert.LnormRefIdeal.main_arg5) = m ((c.tc : Thread Cert.LnormIdeal.nD Cert.LnormIdeal.τ).loc Cert.LnormIdeal.main_arg5)
      ∧ m' ((c.tc : Thread Cert.LnormRefIdeal.nD Cert.LnormRefIdeal.τ).loc Cert.LnormRefIdeal.main_arg6) = m ((c.tc : Thread Cert.LnormIdeal.nD Cert.LnormIdeal.τ).loc Cert.LnormIdeal.main_arg6)) →
    ∃ (v0 : (c : Dev Cert.LnormIdeal.nD) → Buf (Elt Ideal) ((c.tc : Thread Cert.LnormIdeal.nD Cert.LnormIdeal.τ).loc Cert.LnormIdeal.main_v4_0)) (v1 : (c : Dev Cert.LnormIdeal.nD) → Buf (Elt Ideal) ((c.tc : Thread Cert.LnormIdeal.nD Cert.LnormIdeal.τ).loc Cert.LnormIdeal.main_v4_1)) (v2 : (c : Dev Cert.LnormIdeal.nD) → Buf (Elt Ideal) ((c.tc : Thread Cert.LnormIdeal.nD Cert.LnormIdeal.τ).loc Cert.LnormIdeal.main_v4_2)) (v3 : (c : Dev Cert.LnormIdeal.nD) → Buf (Elt Ideal) ((c.tc : Thread Cert.LnormIdeal.nD Cert.LnormIdeal.τ).loc Cert.LnormIdeal.main_v4_3)) (v4 : (c : Dev Cert.LnormIdeal.nD) → Buf (Elt Ideal) ((c.tc : Thread Cert.LnormIdeal.nD Cert.LnormIdeal.τ).loc Cert.LnormIdeal.main_v4_4)),
      θ_run (Cert.LnormIdeal.defs (F := Ideal)) (onTc (τ := Cert.LnormIdeal.τ) (Cert.LnormIdeal.main (F := Ideal))) ⟨m, fun _ => 0, g⟩ (fun r => ∀ c : Dev Cert.LnormIdeal.nD,
          r.2.mem ((c.tc : Thread Cert.LnormIdeal.nD Cert.LnormIdeal.τ).loc Cert.LnormIdeal.main_v4_0) = v0 c
          ∧ r.2.mem ((c.tc : Thread Cert.LnormIdeal.nD Cert.LnormIdeal.τ).loc Cert.LnormIdeal.main_v4_1) = v1 c
          ∧ r.2.mem ((c.tc : Thread Cert.LnormIdeal.nD Cert.LnormIdeal.τ).loc Cert.LnormIdeal.main_v4_2) = v2 c
          ∧ r.2.mem ((c.tc : Thread Cert.LnormIdeal.nD Cert.LnormIdeal.τ).loc Cert.LnormIdeal.main_v4_3) = v3 c
          ∧ r.2.mem ((c.tc : Thread Cert.LnormIdeal.nD Cert.LnormIdeal.τ).loc Cert.LnormIdeal.main_v4_4) = v4 c
          ∧ r.2.mem ((c.tc : Thread Cert.LnormIdeal.nD Cert.LnormIdeal.τ).loc Cert.LnormIdeal.main_arg0) = m ((c.tc : Thread Cert.LnormIdeal.nD Cert.LnormIdeal.τ).loc Cert.LnormIdeal.main_arg0)
          ∧ r.2.mem ((c.tc : Thread Cert.LnormIdeal.nD Cert.LnormIdeal.τ).loc Cert.LnormIdeal.main_arg1) = m ((c.tc : Thread Cert.LnormIdeal.nD Cert.LnormIdeal.τ).loc Cert.LnormIdeal.main_arg1)
          ∧ r.2.mem ((c.tc : Thread Cert.LnormIdeal.nD Cert.LnormIdeal.τ).loc Cert.LnormIdeal.main_arg2) = m ((c.tc : Thread Cert.LnormIdeal.nD Cert.LnormIdeal.τ).loc Cert.LnormIdeal.main_arg2)
          ∧ r.2.mem ((c.tc : Thread Cert.LnormIdeal.nD Cert.LnormIdeal.τ).loc Cert.LnormIdeal.main_arg3) = m ((c.tc : Thread Cert.LnormIdeal.nD Cert.LnormIdeal.τ).loc Cert.LnormIdeal.main_arg3)
          ∧ r.2.mem ((c.tc : Thread Cert.LnormIdeal.nD Cert.LnormIdeal.τ).loc Cert.LnormIdeal.main_arg4) = m ((c.tc : Thread Cert.LnormIdeal.nD Cert.LnormIdeal.τ).loc Cert.LnormIdeal.main_arg4)
          ∧ r.2.mem ((c.tc : Thread Cert.LnormIdeal.nD Cert.LnormIdeal.τ).loc Cert.LnormIdeal.main_arg5) = m ((c.tc : Thread Cert.LnormIdeal.nD Cert.LnormIdeal.τ).loc Cert.LnormIdeal.main_arg5)
          ∧ r.2.mem ((c.tc : Thread Cert.LnormIdeal.nD Cert.LnormIdeal.τ).loc Cert.LnormIdeal.main_arg6) = m ((c.tc : Thread Cert.LnormIdeal.nD Cert.LnormIdeal.τ).loc Cert.LnormIdeal.main_arg6))
      ∧ θ_run (Cert.LnormRefIdeal.defs (F := Ideal)) (onTc (τ := Cert.LnormRefIdeal.τ) (Cert.LnormRefIdeal.main (F := Ideal))) ⟨m', fun _ => 0, g'⟩ (fun r => ∀ c : Dev Cert.LnormRefIdeal.nD,
          r.2.mem ((c.tc : Thread Cert.LnormRefIdeal.nD Cert.LnormRefIdeal.τ).loc Cert.LnormRefIdeal.main_v85) = v0 c
          ∧ r.2.mem ((c.tc : Thread Cert.LnormRefIdeal.nD Cert.LnormRefIdeal.τ).loc Cert.LnormRefIdeal.main_v78) = v1 c
          ∧ r.2.mem ((c.tc : Thread Cert.LnormRefIdeal.nD Cert.LnormRefIdeal.τ).loc Cert.LnormRefIdeal.main_v80) = v2 c
          ∧ r.2.mem ((c.tc : Thread Cert.LnormRefIdeal.nD Cert.LnormRefIdeal.τ).loc Cert.LnormRefIdeal.main_v79) = v3 c
          ∧ r.2.mem ((c.tc : Thread Cert.LnormRefIdeal.nD Cert.LnormRefIdeal.τ).loc Cert.LnormRefIdeal.main_v84) = v4 c
          ∧ r.2.mem ((c.tc : Thread Cert.LnormRefIdeal.nD Cert.LnormRefIdeal.τ).loc Cert.LnormRefIdeal.main_arg0) = m' ((c.tc : Thread Cert.LnormRefIdeal.nD Cert.LnormRefIdeal.τ).loc Cert.LnormRefIdeal.main_arg0)
          ∧ r.2.mem ((c.tc : Thread Cert.LnormRefIdeal.nD Cert.LnormRefIdeal.τ).loc Cert.LnormRefIdeal.main_arg1) = m' ((c.tc : Thread Cert.LnormRefIdeal.nD Cert.LnormRefIdeal.τ).loc Cert.LnormRefIdeal.main_arg1)
          ∧ r.2.mem ((c.tc : Thread Cert.LnormRefIdeal.nD Cert.LnormRefIdeal.τ).loc Cert.LnormRefIdeal.main_arg2) = m' ((c.tc : Thread Cert.LnormRefIdeal.nD Cert.LnormRefIdeal.τ).loc Cert.LnormRefIdeal.main_arg2)
          ∧ r.2.mem ((c.tc : Thread Cert.LnormRefIdeal.nD Cert.LnormRefIdeal.τ).loc Cert.LnormRefIdeal.main_arg3) = m' ((c.tc : Thread Cert.LnormRefIdeal.nD Cert.LnormRefIdeal.τ).loc Cert.LnormRefIdeal.main_arg3)
          ∧ r.2.mem ((c.tc : Thread Cert.LnormRefIdeal.nD Cert.LnormRefIdeal.τ).loc Cert.LnormRefIdeal.main_arg4) = m' ((c.tc : Thread Cert.LnormRefIdeal.nD Cert.LnormRefIdeal.τ).loc Cert.LnormRefIdeal.main_arg4)
          ∧ r.2.mem ((c.tc : Thread Cert.LnormRefIdeal.nD Cert.LnormRefIdeal.τ).loc Cert.LnormRefIdeal.main_arg5) = m' ((c.tc : Thread Cert.LnormRefIdeal.nD Cert.LnormRefIdeal.τ).loc Cert.LnormRefIdeal.main_arg5)
          ∧ r.2.mem ((c.tc : Thread Cert.LnormRefIdeal.nD Cert.LnormRefIdeal.τ).loc Cert.LnormRefIdeal.main_arg6) = m' ((c.tc : Thread Cert.LnormRefIdeal.nD Cert.LnormRefIdeal.τ).loc Cert.LnormRefIdeal.main_arg6))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v9)) (v1 : (c : Dev Cert.LossIdeal.nD) → Buf (Elt Ideal) ((c.tc : Thread Cert.LossIdeal.nD Cert.LossIdeal.τ).loc Cert.LossIdeal.main_v7_0)) (v2 : (c : Dev Cert.LossIdeal.nD) → Buf (Elt Ideal) ((c.tc : Thread Cert.LossIdeal.nD Cert.LossIdeal.τ).loc Cert.LossIdeal.main_v7_1)) (v3 : (c : Dev Cert.LossIdeal.nD) → Buf (Elt Ideal) ((c.tc : Thread Cert.LossIdeal.nD Cert.LossIdeal.τ).loc Cert.LossIdeal.main_v7_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v9) = v0 c
          ∧ r.2.mem ((c.tc : Thread Cert.LossIdeal.nD Cert.LossIdeal.τ).loc Cert.LossIdeal.main_v7_0) = v1 c
          ∧ r.2.mem ((c.tc : Thread Cert.LossIdeal.nD Cert.LossIdeal.τ).loc Cert.LossIdeal.main_v7_1) = v2 c
          ∧ r.2.mem ((c.tc : Thread Cert.LossIdeal.nD Cert.LossIdeal.τ).loc Cert.LossIdeal.main_v7_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v27) = v0 c
          ∧ r.2.mem ((c.tc : Thread Cert.LossRefIdeal.nD Cert.LossRefIdeal.τ).loc Cert.LossRefIdeal.main_v53) = v1 c
          ∧ r.2.mem ((c.tc : Thread Cert.LossRefIdeal.nD Cert.LossRefIdeal.τ).loc Cert.LossRefIdeal.main_v54) = v2 c
          ∧ r.2.mem ((c.tc : Thread Cert.LossRefIdeal.nD Cert.LossRefIdeal.τ).loc Cert.LossRefIdeal.main_v55) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_Norm_NormIdeal : Prop :=
  True

def algebraic_NormIdeal_NormRefIdeal_pre_finite_norm [hNormIdeal : Cert.NormIdeal.Facts] [hNormRefIdeal : Cert.NormRefIdeal.Facts] [hPre_finite_norm : Cert.Pre_finite_norm.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal_finite_norm m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)
      ∧ m' ((c.tc : Thread Cert.NormRefIdeal.nD Cert.NormRefIdeal.τ).loc Cert.NormRefIdeal.main_arg7) = m ((c.tc : Thread Cert.NormIdeal.nD Cert.NormIdeal.τ).loc Cert.NormIdeal.main_arg7)) →
    ∃ (v0 : (c : Dev Cert.NormIdeal.nD) → Buf (Elt Ideal) ((c.tc : Thread Cert.NormIdeal.nD Cert.NormIdeal.τ).loc Cert.NormIdeal.main_v15_0)) (v1 : (c : Dev Cert.NormIdeal.nD) → Buf (Elt Ideal) ((c.tc : Thread Cert.NormIdeal.nD Cert.NormIdeal.τ).loc Cert.NormIdeal.main_v15_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v15_0) = v0 c
          ∧ r.2.mem ((c.tc : Thread Cert.NormIdeal.nD Cert.NormIdeal.τ).loc Cert.NormIdeal.main_v15_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6)
          ∧ r.2.mem ((c.tc : Thread Cert.NormIdeal.nD Cert.NormIdeal.τ).loc Cert.NormIdeal.main_arg7) = m ((c.tc : Thread Cert.NormIdeal.nD Cert.NormIdeal.τ).loc Cert.NormIdeal.main_arg7))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v40) = v0 c
          ∧ r.2.mem ((c.tc : Thread Cert.NormRefIdeal.nD Cert.NormRefIdeal.τ).loc Cert.NormRefIdeal.main_v41) = v1 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6)
          ∧ r.2.mem ((c.tc : Thread Cert.NormRefIdeal.nD Cert.NormRefIdeal.τ).loc Cert.NormRefIdeal.main_arg7) = m' ((c.tc : Thread Cert.NormRefIdeal.nD Cert.NormRefIdeal.τ).loc Cert.NormRefIdeal.main_arg7))

def preserves_Attn_AttnIdeal : Prop :=
  IdealRules.named_const.Statement Cert.AttnIdeal.κ "slope0" .f32 0x3F3504F3#32 (((Real.sqrt 2)⁻¹ : ℝ) : EReal)
  ∧ IdealRules.named_const.Statement Cert.AttnIdeal.κ "mask" .f32 0xF149F2CA#32 ⊥
  ∧ IdealRules.named_const.Statement Cert.AttnIdeal.κ "slope2" .f32 0x3EB504F3#32 (((Real.sqrt 8)⁻¹ : ℝ) : EReal)
  ∧ IdealRules.named_const.Statement Cert.AttnIdeal.κ "slope4" .f32 0x3E3504F3#32 (((Real.sqrt 32)⁻¹ : ℝ) : EReal)
  ∧ IdealRules.named_const.Statement Cert.AttnIdeal.κ "slope6" .f32 0x3DB504F3#32 (((Real.sqrt 128)⁻¹ : ℝ) : EReal)
  ∧ IdealRules.named_const.Statement Cert.AttnIdeal.κ "slope8" .f32 0x3D3504F3#32 (((Real.sqrt 512)⁻¹ : ℝ) : EReal)
  ∧ IdealRules.named_const.Statement Cert.AttnIdeal.κ "slope10" .f32 0x3CB504F3#32 (((Real.sqrt 2048)⁻¹ : ℝ) : EReal)
  ∧ IdealRules.named_const.Statement Cert.AttnIdeal.κ "slope12" .f32 0x3C3504F3#32 (((Real.sqrt 8192)⁻¹ : ℝ) : EReal)
  ∧ IdealRules.named_const.Statement Cert.AttnIdeal.κ "slope14" .f32 0x3BB504F3#32 (((Real.sqrt 32768)⁻¹ : ℝ) : EReal)

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v107)) (v1 : (c : Dev Cert.AttnIdeal.nD) → Buf (Elt Ideal) ((c.tc : Thread Cert.AttnIdeal.nD Cert.AttnIdeal.τ).loc Cert.AttnIdeal.main_v108)) (v2 : (c : Dev Cert.AttnIdeal.nD) → Buf (Elt Ideal) ((c.tc : Thread Cert.AttnIdeal.nD Cert.AttnIdeal.τ).loc Cert.AttnIdeal.main_v109)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v107) = v0 c
          ∧ r.2.mem ((c.tc : Thread Cert.AttnIdeal.nD Cert.AttnIdeal.τ).loc Cert.AttnIdeal.main_v108) = v1 c
          ∧ r.2.mem ((c.tc : Thread Cert.AttnIdeal.nD Cert.AttnIdeal.τ).loc Cert.AttnIdeal.main_v109) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v131) = v0 c
          ∧ r.2.mem ((c.tc : Thread Cert.AttnRefIdeal.nD Cert.AttnRefIdeal.τ).loc Cert.AttnRefIdeal.main_v128) = v1 c
          ∧ r.2.mem ((c.tc : Thread Cert.AttnRefIdeal.nD Cert.AttnRefIdeal.τ).loc Cert.AttnRefIdeal.main_v119) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Fwd_FwdIdeal : Prop :=
  IdealRules.named_const.Statement Cert.FwdIdeal.κ "slope0" .f32 0x3F3504F3#32 (((Real.sqrt 2)⁻¹ : ℝ) : EReal)
  ∧ IdealRules.named_const.Statement Cert.FwdIdeal.κ "mask" .f32 0xF149F2CA#32 ⊥
  ∧ IdealRules.named_const.Statement Cert.FwdIdeal.κ "slope2" .f32 0x3EB504F3#32 (((Real.sqrt 8)⁻¹ : ℝ) : EReal)
  ∧ IdealRules.named_const.Statement Cert.FwdIdeal.κ "slope4" .f32 0x3E3504F3#32 (((Real.sqrt 32)⁻¹ : ℝ) : EReal)
  ∧ IdealRules.named_const.Statement Cert.FwdIdeal.κ "slope6" .f32 0x3DB504F3#32 (((Real.sqrt 128)⁻¹ : ℝ) : EReal)
  ∧ IdealRules.named_const.Statement Cert.FwdIdeal.κ "slope8" .f32 0x3D3504F3#32 (((Real.sqrt 512)⁻¹ : ℝ) : EReal)
  ∧ IdealRules.named_const.Statement Cert.FwdIdeal.κ "slope10" .f32 0x3CB504F3#32 (((Real.sqrt 2048)⁻¹ : ℝ) : EReal)
  ∧ IdealRules.named_const.Statement Cert.FwdIdeal.κ "slope12" .f32 0x3C3504F3#32 (((Real.sqrt 8192)⁻¹ : ℝ) : EReal)
  ∧ IdealRules.named_const.Statement Cert.FwdIdeal.κ "slope14" .f32 0x3BB504F3#32 (((Real.sqrt 32768)⁻¹ : ℝ) : EReal)

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v15)) (v1 : (c : Dev Cert.FwdIdeal.nD) → Buf (Elt Ideal) ((c.tc : Thread Cert.FwdIdeal.nD Cert.FwdIdeal.τ).loc Cert.FwdIdeal.main_v19)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v15) = v0 c
          ∧ r.2.mem ((c.tc : Thread Cert.FwdIdeal.nD Cert.FwdIdeal.τ).loc Cert.FwdIdeal.main_v19) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v66) = v0 c
          ∧ r.2.mem ((c.tc : Thread Cert.FwdRefIdeal.nD Cert.FwdRefIdeal.τ).loc Cert.FwdRefIdeal.main_v70) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v3)) (v1 : (c : Dev Cert.RmsIdeal.nD) → Buf (Elt Ideal) ((c.tc : Thread Cert.RmsIdeal.nD Cert.RmsIdeal.τ).loc Cert.RmsIdeal.main_v0_1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v3) = v0 c
          ∧ r.2.mem ((c.tc : Thread Cert.RmsIdeal.nD Cert.RmsIdeal.τ).loc Cert.RmsIdeal.main_v0_1) = v1 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v14) = v0 c
          ∧ r.2.mem ((c.tc : Thread Cert.RmsRefIdeal.nD Cert.RmsRefIdeal.τ).loc Cert.RmsRefIdeal.main_v14) = v1 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_Gw_GwIdeal : Prop :=
  True

def algebraic_GwIdeal_GwRefIdeal [hGwIdeal : Cert.GwIdeal.Facts] [hGwRefIdeal : Cert.GwRefIdeal.Facts] : Prop :=
  ∀ (m : (ℓ : Loc Cert.GwIdeal.nD Cert.GwIdeal.τ Cert.GwIdeal.sig) → Buf (Elt Ideal) ℓ) (g : Dev Cert.GwIdeal.nD → PrngReg)
    (m' : (ℓ : Loc Cert.GwRefIdeal.nD Cert.GwRefIdeal.τ Cert.GwRefIdeal.sig) → Buf (Elt Ideal) ℓ) (g' : Dev Cert.GwRefIdeal.nD → PrngReg), Pre_GwIdeal m →
    (∀ c : Dev Cert.GwIdeal.nD,
      m' ((c.tc : Thread Cert.GwRefIdeal.nD Cert.GwRefIdeal.τ).loc Cert.GwRefIdeal.main_arg0) = m ((c.tc : Thread Cert.GwIdeal.nD Cert.GwIdeal.τ).loc Cert.GwIdeal.main_arg0)
      ∧ m' ((c.tc : Thread Cert.GwRefIdeal.nD Cert.GwRefIdeal.τ).loc Cert.GwRefIdeal.main_arg1) = m ((c.tc : Thread Cert.GwIdeal.nD Cert.GwIdeal.τ).loc Cert.GwIdeal.main_arg1)
      ∧ m' ((c.tc : Thread Cert.GwRefIdeal.nD Cert.GwRefIdeal.τ).loc Cert.GwRefIdeal.main_arg2) = m ((c.tc : Thread Cert.GwIdeal.nD Cert.GwIdeal.τ).loc Cert.GwIdeal.main_arg2)) →
    ∃ (v0 : (c : Dev Cert.GwIdeal.nD) → Buf (Elt Ideal) ((c.tc : Thread Cert.GwIdeal.nD Cert.GwIdeal.τ).loc Cert.GwIdeal.main_v3)),
      θ_run (Cert.GwIdeal.defs (F := Ideal)) (onTc (τ := Cert.GwIdeal.τ) (Cert.GwIdeal.main (F := Ideal))) ⟨m, fun _ => 0, g⟩ (fun r => ∀ c : Dev Cert.GwIdeal.nD,
          r.2.mem ((c.tc : Thread Cert.GwIdeal.nD Cert.GwIdeal.τ).loc Cert.GwIdeal.main_v3) = v0 c
          ∧ r.2.mem ((c.tc : Thread Cert.GwIdeal.nD Cert.GwIdeal.τ).loc Cert.GwIdeal.main_arg0) = m ((c.tc : Thread Cert.GwIdeal.nD Cert.GwIdeal.τ).loc Cert.GwIdeal.main_arg0)
          ∧ r.2.mem ((c.tc : Thread Cert.GwIdeal.nD Cert.GwIdeal.τ).loc Cert.GwIdeal.main_arg1) = m ((c.tc : Thread Cert.GwIdeal.nD Cert.GwIdeal.τ).loc Cert.GwIdeal.main_arg1)
          ∧ r.2.mem ((c.tc : Thread Cert.GwIdeal.nD Cert.GwIdeal.τ).loc Cert.GwIdeal.main_arg2) = m ((c.tc : Thread Cert.GwIdeal.nD Cert.GwIdeal.τ).loc Cert.GwIdeal.main_arg2))
      ∧ θ_run (Cert.GwRefIdeal.defs (F := Ideal)) (onTc (τ := Cert.GwRefIdeal.τ) (Cert.GwRefIdeal.main (F := Ideal))) ⟨m', fun _ => 0, g'⟩ (fun r => ∀ c : Dev Cert.GwRefIdeal.nD,
          r.2.mem ((c.tc : Thread Cert.GwRefIdeal.nD Cert.GwRefIdeal.τ).loc Cert.GwRefIdeal.main_v6) = v0 c
          ∧ r.2.mem ((c.tc : Thread Cert.GwRefIdeal.nD Cert.GwRefIdeal.τ).loc Cert.GwRefIdeal.main_arg0) = m' ((c.tc : Thread Cert.GwRefIdeal.nD Cert.GwRefIdeal.τ).loc Cert.GwRefIdeal.main_arg0)
          ∧ r.2.mem ((c.tc : Thread Cert.GwRefIdeal.nD Cert.GwRefIdeal.τ).loc Cert.GwRefIdeal.main_arg1) = m' ((c.tc : Thread Cert.GwRefIdeal.nD Cert.GwRefIdeal.τ).loc Cert.GwRefIdeal.main_arg1)
          ∧ r.2.mem ((c.tc : Thread Cert.GwRefIdeal.nD Cert.GwRefIdeal.τ).loc Cert.GwRefIdeal.main_arg2) = m' ((c.tc : Thread Cert.GwRefIdeal.nD Cert.GwRefIdeal.τ).loc Cert.GwRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v1_0)) (v1 : (c : Dev Cert.AdamIdeal.nD) → Buf (Elt Ideal) ((c.tc : Thread Cert.AdamIdeal.nD Cert.AdamIdeal.τ).loc Cert.AdamIdeal.main_v1_1)) (v2 : (c : Dev Cert.AdamIdeal.nD) → Buf (Elt Ideal) ((c.tc : Thread Cert.AdamIdeal.nD Cert.AdamIdeal.τ).loc Cert.AdamIdeal.main_v1_2)) (v3 : (c : Dev Cert.AdamIdeal.nD) → Buf (Elt Ideal) ((c.tc : Thread Cert.AdamIdeal.nD Cert.AdamIdeal.τ).loc Cert.AdamIdeal.main_v1_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v1_0) = v0 c
          ∧ r.2.mem ((c.tc : Thread Cert.AdamIdeal.nD Cert.AdamIdeal.τ).loc Cert.AdamIdeal.main_v1_1) = v1 c
          ∧ r.2.mem ((c.tc : Thread Cert.AdamIdeal.nD Cert.AdamIdeal.τ).loc Cert.AdamIdeal.main_v1_2) = v2 c
          ∧ r.2.mem ((c.tc : Thread Cert.AdamIdeal.nD Cert.AdamIdeal.τ).loc Cert.AdamIdeal.main_v1_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v0) = v0 c
          ∧ r.2.mem ((c.tc : Thread Cert.AdamRefIdeal.nD Cert.AdamRefIdeal.τ).loc Cert.AdamRefIdeal.main_v24) = v1 c
          ∧ r.2.mem ((c.tc : Thread Cert.AdamRefIdeal.nD Cert.AdamRefIdeal.τ).loc Cert.AdamRefIdeal.main_v5) = v2 c
          ∧ r.2.mem ((c.tc : Thread Cert.AdamRefIdeal.nD Cert.AdamRefIdeal.τ).loc Cert.AdamRefIdeal.main_v11) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m' ((c.tc : Thread Cert.SmallRefIdeal.nD Cert.SmallRefIdeal.τ).loc Cert.SmallRefIdeal.main_arg0) = m ((c.tc : Thread Cert.SmallIdeal.nD Cert.SmallIdeal.τ).loc Cert.SmallIdeal.main_arg0)
      ∧ m' ((c.tc : Thread Cert.SmallRefIdeal.nD Cert.SmallRefIdeal.τ).loc Cert.SmallRefIdeal.main_arg1) = m ((c.tc : Thread Cert.SmallIdeal.nD Cert.SmallIdeal.τ).loc Cert.SmallIdeal.main_arg1)
      ∧ m' ((c.tc : Thread Cert.SmallRefIdeal.nD Cert.SmallRefIdeal.τ).loc Cert.SmallRefIdeal.main_arg2) = m ((c.tc : Thread Cert.SmallIdeal.nD Cert.SmallIdeal.τ).loc Cert.SmallIdeal.main_arg2)
      ∧ m' ((c.tc : Thread Cert.SmallRefIdeal.nD Cert.SmallRefIdeal.τ).loc Cert.SmallRefIdeal.main_arg3) = m ((c.tc : Thread Cert.SmallIdeal.nD Cert.SmallIdeal.τ).loc Cert.SmallIdeal.main_arg3)
      ∧ m' ((c.tc : Thread Cert.SmallRefIdeal.nD Cert.SmallRefIdeal.τ).loc Cert.SmallRefIdeal.main_arg4) = m ((c.tc : Thread Cert.SmallIdeal.nD Cert.SmallIdeal.τ).loc Cert.SmallIdeal.main_arg4)
      ∧ m' ((c.tc : Thread Cert.SmallRefIdeal.nD Cert.SmallRefIdeal.τ).loc Cert.SmallRefIdeal.main_arg5) = m ((c.tc : Thread Cert.SmallIdeal.nD Cert.SmallIdeal.τ).loc Cert.SmallIdeal.main_arg5)
      ∧ m' ((c.tc : Thread Cert.SmallRefIdeal.nD Cert.SmallRefIdeal.τ).loc Cert.SmallRefIdeal.main_arg6) = m ((c.tc : Thread Cert.SmallIdeal.nD Cert.SmallIdeal.τ).loc Cert.SmallIdeal.main_arg6)
      ∧ m' ((c.tc : Thread Cert.SmallRefIdeal.nD Cert.SmallRefIdeal.τ).loc Cert.SmallRefIdeal.main_arg7) = m ((c.tc : Thread Cert.SmallIdeal.nD Cert.SmallIdeal.τ).loc Cert.SmallIdeal.main_arg7)
      ∧ m' ((c.tc : Thread Cert.SmallRefIdeal.nD Cert.SmallRefIdeal.τ).loc Cert.SmallRefIdeal.main_arg8) = m ((c.tc : Thread Cert.SmallIdeal.nD Cert.SmallIdeal.τ).loc Cert.SmallIdeal.main_arg8)
      ∧ m' ((c.tc : Thread Cert.SmallRefIdeal.nD Cert.SmallRefIdeal.τ).loc Cert.SmallRefIdeal.main_arg9) = m ((c.tc : Thread Cert.SmallIdeal.nD Cert.SmallIdeal.τ).loc Cert.SmallIdeal.main_arg9)
      ∧ m' ((c.tc : Thread Cert.SmallRefIdeal.nD Cert.SmallRefIdeal.τ).loc Cert.SmallRefIdeal.main_arg10) = m ((c.tc : Thread Cert.SmallIdeal.nD Cert.SmallIdeal.τ).loc Cert.SmallIdeal.main_arg10)
      ∧ m' ((c.tc : Thread Cert.SmallRefIdeal.nD Cert.SmallRefIdeal.τ).loc Cert.SmallRefIdeal.main_arg11) = m ((c.tc : Thread Cert.SmallIdeal.nD Cert.SmallIdeal.τ).loc Cert.SmallIdeal.main_arg11)
      ∧ m' ((c.tc : Thread Cert.SmallRefIdeal.nD Cert.SmallRefIdeal.τ).loc Cert.SmallRefIdeal.main_arg12) = m ((c.tc : Thread Cert.SmallIdeal.nD Cert.SmallIdeal.τ).loc Cert.SmallIdeal.main_arg12)
      ∧ m' ((c.tc : Thread Cert.SmallRefIdeal.nD Cert.SmallRefIdeal.τ).loc Cert.SmallRefIdeal.main_arg13) = m ((c.tc : Thread Cert.SmallIdeal.nD Cert.SmallIdeal.τ).loc Cert.SmallIdeal.main_arg13)
      ∧ m' ((c.tc : Thread Cert.SmallRefIdeal.nD Cert.SmallRefIdeal.τ).loc Cert.SmallRefIdeal.main_arg14) = m ((c.tc : Thread Cert.SmallIdeal.nD Cert.SmallIdeal.τ).loc Cert.SmallIdeal.main_arg14)
      ∧ m' ((c.tc : Thread Cert.SmallRefIdeal.nD Cert.SmallRefIdeal.τ).loc Cert.SmallRefIdeal.main_arg15) = m ((c.tc : Thread Cert.SmallIdeal.nD Cert.SmallIdeal.τ).loc Cert.SmallIdeal.main_arg15)
      ∧ m' ((c.tc : Thread Cert.SmallRefIdeal.nD Cert.SmallRefIdeal.τ).loc Cert.SmallRefIdeal.main_arg16) = m ((c.tc : Thread Cert.SmallIdeal.nD Cert.SmallIdeal.τ).loc Cert.SmallIdeal.main_arg16)
      ∧ m' ((c.tc : Thread Cert.SmallRefIdeal.nD Cert.SmallRefIdeal.τ).loc Cert.SmallRefIdeal.main_arg17) = m ((c.tc : Thread Cert.SmallIdeal.nD Cert.SmallIdeal.τ).loc Cert.SmallIdeal.main_arg17)
      ∧ m' ((c.tc : Thread Cert.SmallRefIdeal.nD Cert.SmallRefIdeal.τ).loc Cert.SmallRefIdeal.main_arg18) = m ((c.tc : Thread Cert.SmallIdeal.nD Cert.SmallIdeal.τ).loc Cert.SmallIdeal.main_arg18)
      ∧ m' ((c.tc : Thread Cert.SmallRefIdeal.nD Cert.SmallRefIdeal.τ).loc Cert.SmallRefIdeal.main_arg19) = m ((c.tc : Thread Cert.SmallIdeal.nD Cert.SmallIdeal.τ).loc Cert.SmallIdeal.main_arg19)
      ∧ m' ((c.tc : Thread Cert.SmallRefIdeal.nD Cert.SmallRefIdeal.τ).loc Cert.SmallRefIdeal.main_arg20) = m ((c.tc : Thread Cert.SmallIdeal.nD Cert.SmallIdeal.τ).loc Cert.SmallIdeal.main_arg20)) →
    ∃ (v0 : (c : Dev Cert.SmallIdeal.nD) → Buf (Elt Ideal) ((c.tc : Thread Cert.SmallIdeal.nD Cert.SmallIdeal.τ).loc Cert.SmallIdeal.main_v17)) (v1 : (c : Dev Cert.SmallIdeal.nD) → Buf (Elt Ideal) ((c.tc : Thread Cert.SmallIdeal.nD Cert.SmallIdeal.τ).loc Cert.SmallIdeal.main_v18)) (v2 : (c : Dev Cert.SmallIdeal.nD) → Buf (Elt Ideal) ((c.tc : Thread Cert.SmallIdeal.nD Cert.SmallIdeal.τ).loc Cert.SmallIdeal.main_v19)) (v3 : (c : Dev Cert.SmallIdeal.nD) → Buf (Elt Ideal) ((c.tc : Thread Cert.SmallIdeal.nD Cert.SmallIdeal.τ).loc Cert.SmallIdeal.main_v20)) (v4 : (c : Dev Cert.SmallIdeal.nD) → Buf (Elt Ideal) ((c.tc : Thread Cert.SmallIdeal.nD Cert.SmallIdeal.τ).loc Cert.SmallIdeal.main_v21)) (v5 : (c : Dev Cert.SmallIdeal.nD) → Buf (Elt Ideal) ((c.tc : Thread Cert.SmallIdeal.nD Cert.SmallIdeal.τ).loc Cert.SmallIdeal.main_v23)) (v6 : (c : Dev Cert.SmallIdeal.nD) → Buf (Elt Ideal) ((c.tc : Thread Cert.SmallIdeal.nD Cert.SmallIdeal.τ).loc Cert.SmallIdeal.main_v24)) (v7 : (c : Dev Cert.SmallIdeal.nD) → Buf (Elt Ideal) ((c.tc : Thread Cert.SmallIdeal.nD Cert.SmallIdeal.τ).loc Cert.SmallIdeal.main_v25)) (v8 : (c : Dev Cert.SmallIdeal.nD) → Buf (Elt Ideal) ((c.tc : Thread Cert.SmallIdeal.nD Cert.SmallIdeal.τ).loc Cert.SmallIdeal.main_v26)) (v9 : (c : Dev Cert.SmallIdeal.nD) → Buf (Elt Ideal) ((c.tc : Thread Cert.SmallIdeal.nD Cert.SmallIdeal.τ).loc Cert.SmallIdeal.main_v27)) (v10 : (c : Dev Cert.SmallIdeal.nD) → Buf (Elt Ideal) ((c.tc : Thread Cert.SmallIdeal.nD Cert.SmallIdeal.τ).loc Cert.SmallIdeal.main_v29)) (v11 : (c : Dev Cert.SmallIdeal.nD) → Buf (Elt Ideal) ((c.tc : Thread Cert.SmallIdeal.nD Cert.SmallIdeal.τ).loc Cert.SmallIdeal.main_v30)) (v12 : (c : Dev Cert.SmallIdeal.nD) → Buf (Elt Ideal) ((c.tc : Thread Cert.SmallIdeal.nD Cert.SmallIdeal.τ).loc Cert.SmallIdeal.main_v31)) (v13 : (c : Dev Cert.SmallIdeal.nD) → Buf (Elt Ideal) ((c.tc : Thread Cert.SmallIdeal.nD Cert.SmallIdeal.τ).loc Cert.SmallIdeal.main_v32)) (v14 : (c : Dev Cert.SmallIdeal.nD) → Buf (Elt Ideal) ((c.tc : Thread Cert.SmallIdeal.nD Cert.SmallIdeal.τ).loc Cert.SmallIdeal.main_v33)) (v15 : (c : Dev Cert.SmallIdeal.nD) → Buf (Elt Ideal) ((c.tc : Thread Cert.SmallIdeal.nD Cert.SmallIdeal.τ).loc Cert.SmallIdeal.main_v35)) (v16 : (c : Dev Cert.SmallIdeal.nD) → Buf (Elt Ideal) ((c.tc : Thread Cert.SmallIdeal.nD Cert.SmallIdeal.τ).loc Cert.SmallIdeal.main_v36)) (v17 : (c : Dev Cert.SmallIdeal.nD) → Buf (Elt Ideal) ((c.tc : Thread Cert.SmallIdeal.nD Cert.SmallIdeal.τ).loc Cert.SmallIdeal.main_v37)) (v18 : (c : Dev Cert.SmallIdeal.nD) → Buf (Elt Ideal) ((c.tc : Thread Cert.SmallIdeal.nD Cert.SmallIdeal.τ).loc Cert.SmallIdeal.main_v38)) (v19 : (c : Dev Cert.SmallIdeal.nD) → Buf (Elt Ideal) ((c.tc : Thread Cert.SmallIdeal.nD Cert.SmallIdeal.τ).loc Cert.SmallIdeal.main_v39)) (v20 : (c : Dev Cert.SmallIdeal.nD) → Buf (Elt Ideal) ((c.tc : Thread Cert.SmallIdeal.nD Cert.SmallIdeal.τ).loc Cert.SmallIdeal.main_v41)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v17) = v0 c
          ∧ r.2.mem ((c.tc : Thread Cert.SmallIdeal.nD Cert.SmallIdeal.τ).loc Cert.SmallIdeal.main_v18) = v1 c
          ∧ r.2.mem ((c.tc : Thread Cert.SmallIdeal.nD Cert.SmallIdeal.τ).loc Cert.SmallIdeal.main_v19) = v2 c
          ∧ r.2.mem ((c.tc : Thread Cert.SmallIdeal.nD Cert.SmallIdeal.τ).loc Cert.SmallIdeal.main_v20) = v3 c
          ∧ r.2.mem ((c.tc : Thread Cert.SmallIdeal.nD Cert.SmallIdeal.τ).loc Cert.SmallIdeal.main_v21) = v4 c
          ∧ r.2.mem ((c.tc : Thread Cert.SmallIdeal.nD Cert.SmallIdeal.τ).loc Cert.SmallIdeal.main_v23) = v5 c
          ∧ r.2.mem ((c.tc : Thread Cert.SmallIdeal.nD Cert.SmallIdeal.τ).loc Cert.SmallIdeal.main_v24) = v6 c
          ∧ r.2.mem ((c.tc : Thread Cert.SmallIdeal.nD Cert.SmallIdeal.τ).loc Cert.SmallIdeal.main_v25) = v7 c
          ∧ r.2.mem ((c.tc : Thread Cert.SmallIdeal.nD Cert.SmallIdeal.τ).loc Cert.SmallIdeal.main_v26) = v8 c
          ∧ r.2.mem ((c.tc : Thread Cert.SmallIdeal.nD Cert.SmallIdeal.τ).loc Cert.SmallIdeal.main_v27) = v9 c
          ∧ r.2.mem ((c.tc : Thread Cert.SmallIdeal.nD Cert.SmallIdeal.τ).loc Cert.SmallIdeal.main_v29) = v10 c
          ∧ r.2.mem ((c.tc : Thread Cert.SmallIdeal.nD Cert.SmallIdeal.τ).loc Cert.SmallIdeal.main_v30) = v11 c
          ∧ r.2.mem ((c.tc : Thread Cert.SmallIdeal.nD Cert.SmallIdeal.τ).loc Cert.SmallIdeal.main_v31) = v12 c
          ∧ r.2.mem ((c.tc : Thread Cert.SmallIdeal.nD Cert.SmallIdeal.τ).loc Cert.SmallIdeal.main_v32) = v13 c
          ∧ r.2.mem ((c.tc : Thread Cert.SmallIdeal.nD Cert.SmallIdeal.τ).loc Cert.SmallIdeal.main_v33) = v14 c
          ∧ r.2.mem ((c.tc : Thread Cert.SmallIdeal.nD Cert.SmallIdeal.τ).loc Cert.SmallIdeal.main_v35) = v15 c
          ∧ r.2.mem ((c.tc : Thread Cert.SmallIdeal.nD Cert.SmallIdeal.τ).loc Cert.SmallIdeal.main_v36) = v16 c
          ∧ r.2.mem ((c.tc : Thread Cert.SmallIdeal.nD Cert.SmallIdeal.τ).loc Cert.SmallIdeal.main_v37) = v17 c
          ∧ r.2.mem ((c.tc : Thread Cert.SmallIdeal.nD Cert.SmallIdeal.τ).loc Cert.SmallIdeal.main_v38) = v18 c
          ∧ r.2.mem ((c.tc : Thread Cert.SmallIdeal.nD Cert.SmallIdeal.τ).loc Cert.SmallIdeal.main_v39) = v19 c
          ∧ r.2.mem ((c.tc : Thread Cert.SmallIdeal.nD Cert.SmallIdeal.τ).loc Cert.SmallIdeal.main_v41) = v20 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3)
          ∧ r.2.mem ((c.tc : Thread Cert.SmallIdeal.nD Cert.SmallIdeal.τ).loc Cert.SmallIdeal.main_arg4) = m ((c.tc : Thread Cert.SmallIdeal.nD Cert.SmallIdeal.τ).loc Cert.SmallIdeal.main_arg4)
          ∧ r.2.mem ((c.tc : Thread Cert.SmallIdeal.nD Cert.SmallIdeal.τ).loc Cert.SmallIdeal.main_arg5) = m ((c.tc : Thread Cert.SmallIdeal.nD Cert.SmallIdeal.τ).loc Cert.SmallIdeal.main_arg5)
          ∧ r.2.mem ((c.tc : Thread Cert.SmallIdeal.nD Cert.SmallIdeal.τ).loc Cert.SmallIdeal.main_arg6) = m ((c.tc : Thread Cert.SmallIdeal.nD Cert.SmallIdeal.τ).loc Cert.SmallIdeal.main_arg6)
          ∧ r.2.mem ((c.tc : Thread Cert.SmallIdeal.nD Cert.SmallIdeal.τ).loc Cert.SmallIdeal.main_arg7) = m ((c.tc : Thread Cert.SmallIdeal.nD Cert.SmallIdeal.τ).loc Cert.SmallIdeal.main_arg7)
          ∧ r.2.mem ((c.tc : Thread Cert.SmallIdeal.nD Cert.SmallIdeal.τ).loc Cert.SmallIdeal.main_arg8) = m ((c.tc : Thread Cert.SmallIdeal.nD Cert.SmallIdeal.τ).loc Cert.SmallIdeal.main_arg8)
          ∧ r.2.mem ((c.tc : Thread Cert.SmallIdeal.nD Cert.SmallIdeal.τ).loc Cert.SmallIdeal.main_arg9) = m ((c.tc : Thread Cert.SmallIdeal.nD Cert.SmallIdeal.τ).loc Cert.SmallIdeal.main_arg9)
          ∧ r.2.mem ((c.tc : Thread Cert.SmallIdeal.nD Cert.SmallIdeal.τ).loc Cert.SmallIdeal.main_arg10) = m ((c.tc : Thread Cert.SmallIdeal.nD Cert.SmallIdeal.τ).loc Cert.SmallIdeal.main_arg10)
          ∧ r.2.mem ((c.tc : Thread Cert.SmallIdeal.nD Cert.SmallIdeal.τ).loc Cert.SmallIdeal.main_arg11) = m ((c.tc : Thread Cert.SmallIdeal.nD Cert.SmallIdeal.τ).loc Cert.SmallIdeal.main_arg11)
          ∧ r.2.mem ((c.tc : Thread Cert.SmallIdeal.nD Cert.SmallIdeal.τ).loc Cert.SmallIdeal.main_arg12) = m ((c.tc : Thread Cert.SmallIdeal.nD Cert.SmallIdeal.τ).loc Cert.SmallIdeal.main_arg12)
          ∧ r.2.mem ((c.tc : Thread Cert.SmallIdeal.nD Cert.SmallIdeal.τ).loc Cert.SmallIdeal.main_arg13) = m ((c.tc : Thread Cert.SmallIdeal.nD Cert.SmallIdeal.τ).loc Cert.SmallIdeal.main_arg13)
          ∧ r.2.mem ((c.tc : Thread Cert.SmallIdeal.nD Cert.SmallIdeal.τ).loc Cert.SmallIdeal.main_arg14) = m ((c.tc : Thread Cert.SmallIdeal.nD Cert.SmallIdeal.τ).loc Cert.SmallIdeal.main_arg14)
          ∧ r.2.mem ((c.tc : Thread Cert.SmallIdeal.nD Cert.SmallIdeal.τ).loc Cert.SmallIdeal.main_arg15) = m ((c.tc : Thread Cert.SmallIdeal.nD Cert.SmallIdeal.τ).loc Cert.SmallIdeal.main_arg15)
          ∧ r.2.mem ((c.tc : Thread Cert.SmallIdeal.nD Cert.SmallIdeal.τ).loc Cert.SmallIdeal.main_arg16) = m ((c.tc : Thread Cert.SmallIdeal.nD Cert.SmallIdeal.τ).loc Cert.SmallIdeal.main_arg16)
          ∧ r.2.mem ((c.tc : Thread Cert.SmallIdeal.nD Cert.SmallIdeal.τ).loc Cert.SmallIdeal.main_arg17) = m ((c.tc : Thread Cert.SmallIdeal.nD Cert.SmallIdeal.τ).loc Cert.SmallIdeal.main_arg17)
          ∧ r.2.mem ((c.tc : Thread Cert.SmallIdeal.nD Cert.SmallIdeal.τ).loc Cert.SmallIdeal.main_arg18) = m ((c.tc : Thread Cert.SmallIdeal.nD Cert.SmallIdeal.τ).loc Cert.SmallIdeal.main_arg18)
          ∧ r.2.mem ((c.tc : Thread Cert.SmallIdeal.nD Cert.SmallIdeal.τ).loc Cert.SmallIdeal.main_arg19) = m ((c.tc : Thread Cert.SmallIdeal.nD Cert.SmallIdeal.τ).loc Cert.SmallIdeal.main_arg19)
          ∧ r.2.mem ((c.tc : Thread Cert.SmallIdeal.nD Cert.SmallIdeal.τ).loc Cert.SmallIdeal.main_arg20) = m ((c.tc : Thread Cert.SmallIdeal.nD Cert.SmallIdeal.τ).loc Cert.SmallIdeal.main_arg20))
      ∧ θ_run (Cert.SmallRefIdeal.defs (F := Ideal)) (onTc (τ := Cert.SmallRefIdeal.τ) (Cert.SmallRefIdeal.main (F := Ideal))) ⟨m', fun _ => 0, g'⟩ (fun r => ∀ c : Dev Cert.SmallRefIdeal.nD,
          r.2.mem ((c.tc : Thread Cert.SmallRefIdeal.nD Cert.SmallRefIdeal.τ).loc Cert.SmallRefIdeal.main_v3) = v0 c
          ∧ r.2.mem ((c.tc : Thread Cert.SmallRefIdeal.nD Cert.SmallRefIdeal.τ).loc Cert.SmallRefIdeal.main_v4) = v1 c
          ∧ r.2.mem ((c.tc : Thread Cert.SmallRefIdeal.nD Cert.SmallRefIdeal.τ).loc Cert.SmallRefIdeal.main_v5) = v2 c
          ∧ r.2.mem ((c.tc : Thread Cert.SmallRefIdeal.nD Cert.SmallRefIdeal.τ).loc Cert.SmallRefIdeal.main_v6) = v3 c
          ∧ r.2.mem ((c.tc : Thread Cert.SmallRefIdeal.nD Cert.SmallRefIdeal.τ).loc Cert.SmallRefIdeal.main_v7) = v4 c
          ∧ r.2.mem ((c.tc : Thread Cert.SmallRefIdeal.nD Cert.SmallRefIdeal.τ).loc Cert.SmallRefIdeal.main_v9) = v5 c
          ∧ r.2.mem ((c.tc : Thread Cert.SmallRefIdeal.nD Cert.SmallRefIdeal.τ).loc Cert.SmallRefIdeal.main_v33) = v6 c
          ∧ r.2.mem ((c.tc : Thread Cert.SmallRefIdeal.nD Cert.SmallRefIdeal.τ).loc Cert.SmallRefIdeal.main_v57) = v7 c
          ∧ r.2.mem ((c.tc : Thread Cert.SmallRefIdeal.nD Cert.SmallRefIdeal.τ).loc Cert.SmallRefIdeal.main_v81) = v8 c
          ∧ r.2.mem ((c.tc : Thread Cert.SmallRefIdeal.nD Cert.SmallRefIdeal.τ).loc Cert.SmallRefIdeal.main_v105) = v9 c
          ∧ r.2.mem ((c.tc : Thread Cert.SmallRefIdeal.nD Cert.SmallRefIdeal.τ).loc Cert.SmallRefIdeal.main_v129) = v10 c
          ∧ r.2.mem ((c.tc : Thread Cert.SmallRefIdeal.nD Cert.SmallRefIdeal.τ).loc Cert.SmallRefIdeal.main_v14) = v11 c
          ∧ r.2.mem ((c.tc : Thread Cert.SmallRefIdeal.nD Cert.SmallRefIdeal.τ).loc Cert.SmallRefIdeal.main_v38) = v12 c
          ∧ r.2.mem ((c.tc : Thread Cert.SmallRefIdeal.nD Cert.SmallRefIdeal.τ).loc Cert.SmallRefIdeal.main_v62) = v13 c
          ∧ r.2.mem ((c.tc : Thread Cert.SmallRefIdeal.nD Cert.SmallRefIdeal.τ).loc Cert.SmallRefIdeal.main_v86) = v14 c
          ∧ r.2.mem ((c.tc : Thread Cert.SmallRefIdeal.nD Cert.SmallRefIdeal.τ).loc Cert.SmallRefIdeal.main_v110) = v15 c
          ∧ r.2.mem ((c.tc : Thread Cert.SmallRefIdeal.nD Cert.SmallRefIdeal.τ).loc Cert.SmallRefIdeal.main_v20) = v16 c
          ∧ r.2.mem ((c.tc : Thread Cert.SmallRefIdeal.nD Cert.SmallRefIdeal.τ).loc Cert.SmallRefIdeal.main_v44) = v17 c
          ∧ r.2.mem ((c.tc : Thread Cert.SmallRefIdeal.nD Cert.SmallRefIdeal.τ).loc Cert.SmallRefIdeal.main_v68) = v18 c
          ∧ r.2.mem ((c.tc : Thread Cert.SmallRefIdeal.nD Cert.SmallRefIdeal.τ).loc Cert.SmallRefIdeal.main_v92) = v19 c
          ∧ r.2.mem ((c.tc : Thread Cert.SmallRefIdeal.nD Cert.SmallRefIdeal.τ).loc Cert.SmallRefIdeal.main_v116) = v20 c
          ∧ r.2.mem ((c.tc : Thread Cert.SmallRefIdeal.nD Cert.SmallRefIdeal.τ).loc Cert.SmallRefIdeal.main_arg0) = m' ((c.tc : Thread Cert.SmallRefIdeal.nD Cert.SmallRefIdeal.τ).loc Cert.SmallRefIdeal.main_arg0)
          ∧ r.2.mem ((c.tc : Thread Cert.SmallRefIdeal.nD Cert.SmallRefIdeal.τ).loc Cert.SmallRefIdeal.main_arg1) = m' ((c.tc : Thread Cert.SmallRefIdeal.nD Cert.SmallRefIdeal.τ).loc Cert.SmallRefIdeal.main_arg1)
          ∧ r.2.mem ((c.tc : Thread Cert.SmallRefIdeal.nD Cert.SmallRefIdeal.τ).loc Cert.SmallRefIdeal.main_arg2) = m' ((c.tc : Thread Cert.SmallRefIdeal.nD Cert.SmallRefIdeal.τ).loc Cert.SmallRefIdeal.main_arg2)
          ∧ r.2.mem ((c.tc : Thread Cert.SmallRefIdeal.nD Cert.SmallRefIdeal.τ).loc Cert.SmallRefIdeal.main_arg3) = m' ((c.tc : Thread Cert.SmallRefIdeal.nD Cert.SmallRefIdeal.τ).loc Cert.SmallRefIdeal.main_arg3)
          ∧ r.2.mem ((c.tc : Thread Cert.SmallRefIdeal.nD Cert.SmallRefIdeal.τ).loc Cert.SmallRefIdeal.main_arg4) = m' ((c.tc : Thread Cert.SmallRefIdeal.nD Cert.SmallRefIdeal.τ).loc Cert.SmallRefIdeal.main_arg4)
          ∧ r.2.mem ((c.tc : Thread Cert.SmallRefIdeal.nD Cert.SmallRefIdeal.τ).loc Cert.SmallRefIdeal.main_arg5) = m' ((c.tc : Thread Cert.SmallRefIdeal.nD Cert.SmallRefIdeal.τ).loc Cert.SmallRefIdeal.main_arg5)
          ∧ r.2.mem ((c.tc : Thread Cert.SmallRefIdeal.nD Cert.SmallRefIdeal.τ).loc Cert.SmallRefIdeal.main_arg6) = m' ((c.tc : Thread Cert.SmallRefIdeal.nD Cert.SmallRefIdeal.τ).loc Cert.SmallRefIdeal.main_arg6)
          ∧ r.2.mem ((c.tc : Thread Cert.SmallRefIdeal.nD Cert.SmallRefIdeal.τ).loc Cert.SmallRefIdeal.main_arg7) = m' ((c.tc : Thread Cert.SmallRefIdeal.nD Cert.SmallRefIdeal.τ).loc Cert.SmallRefIdeal.main_arg7)
          ∧ r.2.mem ((c.tc : Thread Cert.SmallRefIdeal.nD Cert.SmallRefIdeal.τ).loc Cert.SmallRefIdeal.main_arg8) = m' ((c.tc : Thread Cert.SmallRefIdeal.nD Cert.SmallRefIdeal.τ).loc Cert.SmallRefIdeal.main_arg8)
          ∧ r.2.mem ((c.tc : Thread Cert.SmallRefIdeal.nD Cert.SmallRefIdeal.τ).loc Cert.SmallRefIdeal.main_arg9) = m' ((c.tc : Thread Cert.SmallRefIdeal.nD Cert.SmallRefIdeal.τ).loc Cert.SmallRefIdeal.main_arg9)
          ∧ r.2.mem ((c.tc : Thread Cert.SmallRefIdeal.nD Cert.SmallRefIdeal.τ).loc Cert.SmallRefIdeal.main_arg10) = m' ((c.tc : Thread Cert.SmallRefIdeal.nD Cert.SmallRefIdeal.τ).loc Cert.SmallRefIdeal.main_arg10)
          ∧ r.2.mem ((c.tc : Thread Cert.SmallRefIdeal.nD Cert.SmallRefIdeal.τ).loc Cert.SmallRefIdeal.main_arg11) = m' ((c.tc : Thread Cert.SmallRefIdeal.nD Cert.SmallRefIdeal.τ).loc Cert.SmallRefIdeal.main_arg11)
          ∧ r.2.mem ((c.tc : Thread Cert.SmallRefIdeal.nD Cert.SmallRefIdeal.τ).loc Cert.SmallRefIdeal.main_arg12) = m' ((c.tc : Thread Cert.SmallRefIdeal.nD Cert.SmallRefIdeal.τ).loc Cert.SmallRefIdeal.main_arg12)
          ∧ r.2.mem ((c.tc : Thread Cert.SmallRefIdeal.nD Cert.SmallRefIdeal.τ).loc Cert.SmallRefIdeal.main_arg13) = m' ((c.tc : Thread Cert.SmallRefIdeal.nD Cert.SmallRefIdeal.τ).loc Cert.SmallRefIdeal.main_arg13)
          ∧ r.2.mem ((c.tc : Thread Cert.SmallRefIdeal.nD Cert.SmallRefIdeal.τ).loc Cert.SmallRefIdeal.main_arg14) = m' ((c.tc : Thread Cert.SmallRefIdeal.nD Cert.SmallRefIdeal.τ).loc Cert.SmallRefIdeal.main_arg14)
          ∧ r.2.mem ((c.tc : Thread Cert.SmallRefIdeal.nD Cert.SmallRefIdeal.τ).loc Cert.SmallRefIdeal.main_arg15) = m' ((c.tc : Thread Cert.SmallRefIdeal.nD Cert.SmallRefIdeal.τ).loc Cert.SmallRefIdeal.main_arg15)
          ∧ r.2.mem ((c.tc : Thread Cert.SmallRefIdeal.nD Cert.SmallRefIdeal.τ).loc Cert.SmallRefIdeal.main_arg16) = m' ((c.tc : Thread Cert.SmallRefIdeal.nD Cert.SmallRefIdeal.τ).loc Cert.SmallRefIdeal.main_arg16)
          ∧ r.2.mem ((c.tc : Thread Cert.SmallRefIdeal.nD Cert.SmallRefIdeal.τ).loc Cert.SmallRefIdeal.main_arg17) = m' ((c.tc : Thread Cert.SmallRefIdeal.nD Cert.SmallRefIdeal.τ).loc Cert.SmallRefIdeal.main_arg17)
          ∧ r.2.mem ((c.tc : Thread Cert.SmallRefIdeal.nD Cert.SmallRefIdeal.τ).loc Cert.SmallRefIdeal.main_arg18) = m' ((c.tc : Thread Cert.SmallRefIdeal.nD Cert.SmallRefIdeal.τ).loc Cert.SmallRefIdeal.main_arg18)
          ∧ r.2.mem ((c.tc : Thread Cert.SmallRefIdeal.nD Cert.SmallRefIdeal.τ).loc Cert.SmallRefIdeal.main_arg19) = m' ((c.tc : Thread Cert.SmallRefIdeal.nD Cert.SmallRefIdeal.τ).loc Cert.SmallRefIdeal.main_arg19)
          ∧ r.2.mem ((c.tc : Thread Cert.SmallRefIdeal.nD Cert.SmallRefIdeal.τ).loc Cert.SmallRefIdeal.main_arg20) = m' ((c.tc : Thread Cert.SmallRefIdeal.nD Cert.SmallRefIdeal.τ).loc Cert.SmallRefIdeal.main_arg20))

def preserves_Cw_CwIdeal : Prop :=
  True

def algebraic_CwIdeal_CwRefIdeal [hCwIdeal : Cert.CwIdeal.Facts] [hCwRefIdeal : Cert.CwRefIdeal.Facts] : Prop :=
  ∀ (m : (ℓ : Loc Cert.CwIdeal.nD Cert.CwIdeal.τ Cert.CwIdeal.sig) → Buf (Elt Ideal) ℓ) (g : Dev Cert.CwIdeal.nD → PrngReg)
    (m' : (ℓ : Loc Cert.CwRefIdeal.nD Cert.CwRefIdeal.τ Cert.CwRefIdeal.sig) → Buf (Elt Ideal) ℓ) (g' : Dev Cert.CwRefIdeal.nD → PrngReg), Pre_CwIdeal m →
    (∀ c : Dev Cert.CwIdeal.nD,
      m' ((c.tc : Thread Cert.CwRefIdeal.nD Cert.CwRefIdeal.τ).loc Cert.CwRefIdeal.main_arg0) = m ((c.tc : Thread Cert.CwIdeal.nD Cert.CwIdeal.τ).loc Cert.CwIdeal.main_arg0)
      ∧ m' ((c.tc : Thread Cert.CwRefIdeal.nD Cert.CwRefIdeal.τ).loc Cert.CwRefIdeal.main_arg1) = m ((c.tc : Thread Cert.CwIdeal.nD Cert.CwIdeal.τ).loc Cert.CwIdeal.main_arg1)
      ∧ m' ((c.tc : Thread Cert.CwRefIdeal.nD Cert.CwRefIdeal.τ).loc Cert.CwRefIdeal.main_arg2) = m ((c.tc : Thread Cert.CwIdeal.nD Cert.CwIdeal.τ).loc Cert.CwIdeal.main_arg2)
      ∧ m' ((c.tc : Thread Cert.CwRefIdeal.nD Cert.CwRefIdeal.τ).loc Cert.CwRefIdeal.main_arg3) = m ((c.tc : Thread Cert.CwIdeal.nD Cert.CwIdeal.τ).loc Cert.CwIdeal.main_arg3)) →
    ∃ (v0 : (c : Dev Cert.CwIdeal.nD) → Buf (Elt Ideal) ((c.tc : Thread Cert.CwIdeal.nD Cert.CwIdeal.τ).loc Cert.CwIdeal.main_v0_0)) (v1 : (c : Dev Cert.CwIdeal.nD) → Buf (Elt Ideal) ((c.tc : Thread Cert.CwIdeal.nD Cert.CwIdeal.τ).loc Cert.CwIdeal.main_v0_1)) (v2 : (c : Dev Cert.CwIdeal.nD) → Buf (Elt Ideal) ((c.tc : Thread Cert.CwIdeal.nD Cert.CwIdeal.τ).loc Cert.CwIdeal.main_v0_2)) (v3 : (c : Dev Cert.CwIdeal.nD) → Buf (Elt Ideal) ((c.tc : Thread Cert.CwIdeal.nD Cert.CwIdeal.τ).loc Cert.CwIdeal.main_v0_3)),
      θ_run (Cert.CwIdeal.defs (F := Ideal)) (onTc (τ := Cert.CwIdeal.τ) (Cert.CwIdeal.main (F := Ideal))) ⟨m, fun _ => 0, g⟩ (fun r => ∀ c : Dev Cert.CwIdeal.nD,
          r.2.mem ((c.tc : Thread Cert.CwIdeal.nD Cert.CwIdeal.τ).loc Cert.CwIdeal.main_v0_0) = v0 c
          ∧ r.2.mem ((c.tc : Thread Cert.CwIdeal.nD Cert.CwIdeal.τ).loc Cert.CwIdeal.main_v0_1) = v1 c
          ∧ r.2.mem ((c.tc : Thread Cert.CwIdeal.nD Cert.CwIdeal.τ).loc Cert.CwIdeal.main_v0_2) = v2 c
          ∧ r.2.mem ((c.tc : Thread Cert.CwIdeal.nD Cert.CwIdeal.τ).loc Cert.CwIdeal.main_v0_3) = v3 c
          ∧ r.2.mem ((c.tc : Thread Cert.CwIdeal.nD Cert.CwIdeal.τ).loc Cert.CwIdeal.main_arg0) = m ((c.tc : Thread Cert.CwIdeal.nD Cert.CwIdeal.τ).loc Cert.CwIdeal.main_arg0)
          ∧ r.2.mem ((c.tc : Thread Cert.CwIdeal.nD Cert.CwIdeal.τ).loc Cert.CwIdeal.main_arg1) = m ((c.tc : Thread Cert.CwIdeal.nD Cert.CwIdeal.τ).loc Cert.CwIdeal.main_arg1)
          ∧ r.2.mem ((c.tc : Thread Cert.CwIdeal.nD Cert.CwIdeal.τ).loc Cert.CwIdeal.main_arg2) = m ((c.tc : Thread Cert.CwIdeal.nD Cert.CwIdeal.τ).loc Cert.CwIdeal.main_arg2)
          ∧ r.2.mem ((c.tc : Thread Cert.CwIdeal.nD Cert.CwIdeal.τ).loc Cert.CwIdeal.main_arg3) = m ((c.tc : Thread Cert.CwIdeal.nD Cert.CwIdeal.τ).loc Cert.CwIdeal.main_arg3))
      ∧ θ_run (Cert.CwRefIdeal.defs (F := Ideal)) (onTc (τ := Cert.CwRefIdeal.τ) (Cert.CwRefIdeal.main (F := Ideal))) ⟨m', fun _ => 0, g'⟩ (fun r => ∀ c : Dev Cert.CwRefIdeal.nD,
          r.2.mem ((c.tc : Thread Cert.CwRefIdeal.nD Cert.CwRefIdeal.τ).loc Cert.CwRefIdeal.main_v0) = v0 c
          ∧ r.2.mem ((c.tc : Thread Cert.CwRefIdeal.nD Cert.CwRefIdeal.τ).loc Cert.CwRefIdeal.main_v24) = v1 c
          ∧ r.2.mem ((c.tc : Thread Cert.CwRefIdeal.nD Cert.CwRefIdeal.τ).loc Cert.CwRefIdeal.main_v5) = v2 c
          ∧ r.2.mem ((c.tc : Thread Cert.CwRefIdeal.nD Cert.CwRefIdeal.τ).loc Cert.CwRefIdeal.main_v11) = v3 c
          ∧ r.2.mem ((c.tc : Thread Cert.CwRefIdeal.nD Cert.CwRefIdeal.τ).loc Cert.CwRefIdeal.main_arg0) = m' ((c.tc : Thread Cert.CwRefIdeal.nD Cert.CwRefIdeal.τ).loc Cert.CwRefIdeal.main_arg0)
          ∧ r.2.mem ((c.tc : Thread Cert.CwRefIdeal.nD Cert.CwRefIdeal.τ).loc Cert.CwRefIdeal.main_arg1) = m' ((c.tc : Thread Cert.CwRefIdeal.nD Cert.CwRefIdeal.τ).loc Cert.CwRefIdeal.main_arg1)
          ∧ r.2.mem ((c.tc : Thread Cert.CwRefIdeal.nD Cert.CwRefIdeal.τ).loc Cert.CwRefIdeal.main_arg2) = m' ((c.tc : Thread Cert.CwRefIdeal.nD Cert.CwRefIdeal.τ).loc Cert.CwRefIdeal.main_arg2)
          ∧ r.2.mem ((c.tc : Thread Cert.CwRefIdeal.nD Cert.CwRefIdeal.τ).loc Cert.CwRefIdeal.main_arg3) = m' ((c.tc : Thread Cert.CwRefIdeal.nD Cert.CwRefIdeal.τ).loc Cert.CwRefIdeal.main_arg3))

def preserves_Gout_GoutIdeal : Prop :=
  True

def algebraic_GoutIdeal_GoutRefIdeal [hGoutIdeal : Cert.GoutIdeal.Facts] [hGoutRefIdeal : Cert.GoutRefIdeal.Facts] : Prop :=
  ∀ (m : (ℓ : Loc Cert.GoutIdeal.nD Cert.GoutIdeal.τ Cert.GoutIdeal.sig) → Buf (Elt Ideal) ℓ) (g : Dev Cert.GoutIdeal.nD → PrngReg)
    (m' : (ℓ : Loc Cert.GoutRefIdeal.nD Cert.GoutRefIdeal.τ Cert.GoutRefIdeal.sig) → Buf (Elt Ideal) ℓ) (g' : Dev Cert.GoutRefIdeal.nD → PrngReg), Pre_GoutIdeal m →
    (∀ c : Dev Cert.GoutIdeal.nD,
      m' ((c.tc : Thread Cert.GoutRefIdeal.nD Cert.GoutRefIdeal.τ).loc Cert.GoutRefIdeal.main_arg0) = m ((c.tc : Thread Cert.GoutIdeal.nD Cert.GoutIdeal.τ).loc Cert.GoutIdeal.main_arg0)
      ∧ m' ((c.tc : Thread Cert.GoutRefIdeal.nD Cert.GoutRefIdeal.τ).loc Cert.GoutRefIdeal.main_arg1) = m ((c.tc : Thread Cert.GoutIdeal.nD Cert.GoutIdeal.τ).loc Cert.GoutIdeal.main_arg1)
      ∧ m' ((c.tc : Thread Cert.GoutRefIdeal.nD Cert.GoutRefIdeal.τ).loc Cert.GoutRefIdeal.main_arg2) = m ((c.tc : Thread Cert.GoutIdeal.nD Cert.GoutIdeal.τ).loc Cert.GoutIdeal.main_arg2)) →
    ∃ (v0 : (c : Dev Cert.GoutIdeal.nD) → Buf (Elt Ideal) ((c.tc : Thread Cert.GoutIdeal.nD Cert.GoutIdeal.τ).loc Cert.GoutIdeal.main_v9)),
      θ_run (Cert.GoutIdeal.defs (F := Ideal)) (onTc (τ := Cert.GoutIdeal.τ) (Cert.GoutIdeal.main (F := Ideal))) ⟨m, fun _ => 0, g⟩ (fun r => ∀ c : Dev Cert.GoutIdeal.nD,
          r.2.mem ((c.tc : Thread Cert.GoutIdeal.nD Cert.GoutIdeal.τ).loc Cert.GoutIdeal.main_v9) = v0 c
          ∧ r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
          ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1)
          ∧ r.2.mem ((c.tc : Thread Cert.GoutIdeal.nD Cert.GoutIdeal.τ).loc Cert.GoutIdeal.main_arg2) = m ((c.tc : Thread Cert.GoutIdeal.nD Cert.GoutIdeal.τ).loc Cert.GoutIdeal.main_arg2))
      ∧ θ_run (Cert.GoutRefIdeal.defs (F := Ideal)) (onTc (τ := Cert.GoutRefIdeal.τ) (Cert.GoutRefIdeal.main (F := Ideal))) ⟨m', fun _ => 0, g'⟩ (fun r => ∀ c : Dev Cert.GoutRefIdeal.nD,
          r.2.mem ((c.tc : Thread Cert.GoutRefIdeal.nD Cert.GoutRefIdeal.τ).loc Cert.GoutRefIdeal.main_v5) = v0 c
          ∧ r.2.mem ((c.tc : Thread Cert.GoutRefIdeal.nD Cert.GoutRefIdeal.τ).loc Cert.GoutRefIdeal.main_arg0) = m' ((c.tc : Thread Cert.GoutRefIdeal.nD Cert.GoutRefIdeal.τ).loc Cert.GoutRefIdeal.main_arg0)
          ∧ r.2.mem ((c.tc : Thread Cert.GoutRefIdeal.nD Cert.GoutRefIdeal.τ).loc Cert.GoutRefIdeal.main_arg1) = m' ((c.tc : Thread Cert.GoutRefIdeal.nD Cert.GoutRefIdeal.τ).loc Cert.GoutRefIdeal.main_arg1)
          ∧ r.2.mem ((c.tc : Thread Cert.GoutRefIdeal.nD Cert.GoutRefIdeal.τ).loc Cert.GoutRefIdeal.main_arg2) = m' ((c.tc : Thread Cert.GoutRefIdeal.nD Cert.GoutRefIdeal.τ).loc Cert.GoutRefIdeal.main_arg2))

def Claim : Prop :=
  ∃ (hGate : Cert.Gate.Facts) (hGateIdeal : Cert.GateIdeal.Facts) (hGateRefIdeal : Cert.GateRefIdeal.Facts) (hLnorm : Cert.Lnorm.Facts) (hLnormIdeal : Cert.LnormIdeal.Facts) (hLnormRefIdeal : Cert.LnormRefIdeal.Facts) (hLoss : Cert.Loss.Facts) (hLossIdeal : Cert.LossIdeal.Facts) (hLossRefIdeal : Cert.LossRefIdeal.Facts) (hNorm : Cert.Norm.Facts) (hNormIdeal : Cert.NormIdeal.Facts) (hNormRefIdeal : Cert.NormRefIdeal.Facts) (hAttn : Cert.Attn.Facts) (hAttnIdeal : Cert.AttnIdeal.Facts) (hAttnRefIdeal : Cert.AttnRefIdeal.Facts) (hFwd : Cert.Fwd.Facts) (hFwdIdeal : Cert.FwdIdeal.Facts) (hFwdRefIdeal : Cert.FwdRefIdeal.Facts) (hRms : Cert.Rms.Facts) (hRmsIdeal : Cert.RmsIdeal.Facts) (hRmsRefIdeal : Cert.RmsRefIdeal.Facts) (hGw : Cert.Gw.Facts) (hGwIdeal : Cert.GwIdeal.Facts) (hGwRefIdeal : Cert.GwRefIdeal.Facts) (hAdam : Cert.Adam.Facts) (hAdamIdeal : Cert.AdamIdeal.Facts) (hAdamRefIdeal : Cert.AdamRefIdeal.Facts) (hSmall : Cert.Small.Facts) (hSmallIdeal : Cert.SmallIdeal.Facts) (hSmallRefIdeal : Cert.SmallRefIdeal.Facts) (hCw : Cert.Cw.Facts) (hCwIdeal : Cert.CwIdeal.Facts) (hCwRefIdeal : Cert.CwRefIdeal.Facts) (hGout : Cert.Gout.Facts) (hGoutIdeal : Cert.GoutIdeal.Facts) (hGoutRefIdeal : Cert.GoutRefIdeal.Facts) (hPre_finite_gate : Cert.Pre_finite_gate.Facts) (hPre_finite_lnorm : Cert.Pre_finite_lnorm.Facts) (hPre_finite_loss : Cert.Pre_finite_loss.Facts) (hPre_finite_norm : Cert.Pre_finite_norm.Facts) (hPre_finite_attn : Cert.Pre_finite_attn.Facts) (hPre_finite_fwd : Cert.Pre_finite_fwd.Facts),
    quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_Lnorm (hLnorm := hLnorm)
    ∧ quiescent_LnormIdeal (hLnormIdeal := hLnormIdeal)
    ∧ quiescent_LnormIdeal_pre_finite_lnorm (hLnormIdeal := hLnormIdeal) (hPre_finite_lnorm := hPre_finite_lnorm)
    ∧ quiescent_LnormRefIdeal (hLnormRefIdeal := hLnormRefIdeal)
    ∧ quiescent_LnormRefIdeal_pre_finite_lnorm (hLnormRefIdeal := hLnormRefIdeal) (hPre_finite_lnorm := hPre_finite_lnorm)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Norm (hNorm := hNorm)
    ∧ quiescent_NormIdeal (hNormIdeal := hNormIdeal)
    ∧ quiescent_NormIdeal_pre_finite_norm (hNormIdeal := hNormIdeal) (hPre_finite_norm := hPre_finite_norm)
    ∧ quiescent_NormRefIdeal (hNormRefIdeal := hNormRefIdeal)
    ∧ quiescent_NormRefIdeal_pre_finite_norm (hNormRefIdeal := hNormRefIdeal) (hPre_finite_norm := hPre_finite_norm)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ quiescent_Rms (hRms := hRms)
    ∧ quiescent_RmsIdeal (hRmsIdeal := hRmsIdeal)
    ∧ quiescent_RmsRefIdeal (hRmsRefIdeal := hRmsRefIdeal)
    ∧ quiescent_Gw (hGw := hGw)
    ∧ quiescent_GwIdeal (hGwIdeal := hGwIdeal)
    ∧ quiescent_GwRefIdeal (hGwRefIdeal := hGwRefIdeal)
    ∧ quiescent_Adam (hAdam := hAdam)
    ∧ quiescent_AdamIdeal (hAdamIdeal := hAdamIdeal)
    ∧ quiescent_AdamRefIdeal (hAdamRefIdeal := hAdamRefIdeal)
    ∧ quiescent_Small (hSmall := hSmall)
    ∧ quiescent_SmallIdeal (hSmallIdeal := hSmallIdeal)
    ∧ quiescent_SmallRefIdeal (hSmallRefIdeal := hSmallRefIdeal)
    ∧ quiescent_Cw (hCw := hCw)
    ∧ quiescent_CwIdeal (hCwIdeal := hCwIdeal)
    ∧ quiescent_CwRefIdeal (hCwRefIdeal := hCwRefIdeal)
    ∧ quiescent_Gout (hGout := hGout)
    ∧ quiescent_GoutIdeal (hGoutIdeal := hGoutIdeal)
    ∧ quiescent_GoutRefIdeal (hGoutRefIdeal := hGoutRefIdeal)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_Lnorm_LnormIdeal
    ∧ algebraic_LnormIdeal_LnormRefIdeal_pre_finite_lnorm (hLnormIdeal := hLnormIdeal) (hLnormRefIdeal := hLnormRefIdeal) (hPre_finite_lnorm := hPre_finite_lnorm)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Norm_NormIdeal
    ∧ algebraic_NormIdeal_NormRefIdeal_pre_finite_norm (hNormIdeal := hNormIdeal) (hNormRefIdeal := hNormRefIdeal) (hPre_finite_norm := hPre_finite_norm)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
    ∧ preserves_Rms_RmsIdeal
    ∧ algebraic_RmsIdeal_RmsRefIdeal (hRmsIdeal := hRmsIdeal) (hRmsRefIdeal := hRmsRefIdeal)
    ∧ preserves_Gw_GwIdeal
    ∧ algebraic_GwIdeal_GwRefIdeal (hGwIdeal := hGwIdeal) (hGwRefIdeal := hGwRefIdeal)
    ∧ preserves_Adam_AdamIdeal
    ∧ algebraic_AdamIdeal_AdamRefIdeal (hAdamIdeal := hAdamIdeal) (hAdamRefIdeal := hAdamRefIdeal)
    ∧ preserves_Small_SmallIdeal
    ∧ algebraic_SmallIdeal_SmallRefIdeal (hSmallIdeal := hSmallIdeal) (hSmallRefIdeal := hSmallRefIdeal)
    ∧ preserves_Cw_CwIdeal
    ∧ algebraic_CwIdeal_CwRefIdeal (hCwIdeal := hCwIdeal) (hCwRefIdeal := hCwRefIdeal)
    ∧ preserves_Gout_GoutIdeal
    ∧ algebraic_GoutIdeal_GoutRefIdeal (hGoutIdeal := hGoutIdeal) (hGoutRefIdeal := hGoutRefIdeal)
-- ==== Pre_finite_attn.lean ====
abbrev S4096x1024 : Shape := ⟨2, ![4096, 1024]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  bcast_S_S4096x256 : S_.BroadcastsInDim S4096x256 (![] : Fin 0 → Fin S4096x256.rank)

variable [Facts]

def fn {F : FTy → Type} [FloatOps F] (main_arg0 : FVec F S4096x1024 .f32) (main_arg1 : FVec F S4096x256 .f32) (main_arg2 : FVec F S4096x256 .f32) (main_arg3 : FVec F S4096x1024 .f32) : IVec S4096x1024 1 × IVec S4096x256 1 × IVec S4096x256 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  let main_v6 : FVec F S4096x256 .f32 := Host.absf main_arg2
  let main_cst_1 : FVec F S_ .f32 := constant S_ .f32 0x7F800000#32
  let main_v7 : FVec F S4096x256 .f32 := broadcastInDim S4096x256 ![] bcast_S_S4096x256 main_cst_1
  let main_v8 : IVec S4096x256 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_fwd.lean ====
abbrev S4096x1024 : Shape := ⟨2, ![4096, 1024]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  bcast_S_S4096x256 : S_.BroadcastsInDim S4096x256 (![] : Fin 0 → Fin S4096x256.rank)

variable [Facts]

def fn {F : FTy → Type} [FloatOps F] (main_arg0 : FVec F S4096x1024 .f32) (main_arg1 : FVec F S4096x256 .f32) (main_arg2 : FVec F S4096x256 .f32) : IVec S4096x1024 1 × IVec S4096x256 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  (main_v2, main_v5)
-- ==== Pre_finite_gate.lean ====
abbrev S4096x1024 : Shape := ⟨2, ![4096, 1024]⟩
abbrev S2048x1024 : Shape := ⟨2, ![2048, 1024]⟩
abbrev S_ : Shape := ⟨0, ![]⟩

class Facts : Prop where
  bcast_S_S4096x1024 : S_.BroadcastsInDim S4096x1024 (![] : Fin 0 → Fin S4096x1024.rank)
  bcast_S_S2048x1024 : S_.BroadcastsInDim S2048x1024 (![] : Fin 0 → Fin S2048x1024.rank)

variable [Facts]

def fn {F : FTy → Type} [FloatOps F] (main_arg0 : FVec F S4096x1024 .f32) (main_arg1 : FVec F S2048x1024 .f32) (main_arg2 : FVec F S4096x1024 .f32) (main_arg3 : FVec F S4096x1024 .f32) : IVec S4096x1024 1 × IVec S2048x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_finite_lnorm.lean ====
abbrev S4096x1024 : Shape := ⟨2, ![4096, 1024]⟩
abbrev S2048x1024 : Shape := ⟨2, ![2048, 1024]⟩
abbrev S4096x3072 : Shape := ⟨2, ![4096, 3072]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S2048x1024 : S_.BroadcastsInDim S2048x1024 (![] : Fin 0 → Fin S2048x1024.rank)
  bcast_S_S4096x3072 : S_.BroadcastsInDim S4096x3072 (![] : Fin 0 → Fin S4096x3072.rank)
  bcast_S_S1x1024 : S_.BroadcastsInDim S1x1024 (![] : Fin 0 → Fin S1x1024.rank)

variable [Facts]

def fn_part1 {F : FTy → Type} [FloatOps F] (main_arg6 : FVec F S1x1024 .f32) (main_v2 : IVec S4096x1024 1) (main_v5 : IVec S2048x1024 1) (main_v8 : IVec S4096x3072 1) (main_v11 : IVec S4096x1024 1) (main_v14 : IVec S1x1024 1) (main_v17 : IVec S1x1024 1) : IVec S4096x1024 1 × IVec S2048x1024 1 × IVec S4096x3072 1 × IVec S4096x1024 1 × IVec S1x1024 1 × IVec S1x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  (main_v2, main_v5, main_v8, main_v11, main_v14, main_v17, main_v20)

def fn {F : FTy → Type} [FloatOps F] (main_arg0 : FVec F S4096x1024 .f32) (main_arg1 : FVec F S2048x1024 .f32) (main_arg2 : FVec F S4096x3072 .f32) (main_arg3 : FVec F S4096x1024 .f32) (main_arg4 : FVec F S1x1024 .f32) (main_arg5 : FVec F S1x1024 .f32) (main_arg6 : FVec F S1x1024 .f32) : IVec S4096x1024 1 × IVec S2048x1024 1 × IVec S4096x3072 1 × IVec S4096x1024 1 × IVec S1x1024 1 × IVec S1x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S4096x3072 .f32 := Host.absf main_arg2
  let main_cst_1 : FVec F S_ .f32 := constant S_ .f32 0x7F800000#32
  let main_v7 : FVec F S4096x3072 .f32 := broadcastInDim S4096x3072 ![] bcast_S_S4096x3072 main_cst_1
  let main_v8 : IVec S4096x3072 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Pre_finite_loss.lean ====
abbrev S4096x1024 : Shape := ⟨2, ![4096, 1024]⟩
abbrev S2048x1024 : Shape := ⟨2, ![2048, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S4096x1024 .f32) (main_arg3 : FVec F S2048x1024 .f32) (main_arg4 : FVec F S1024 .f32) (main_arg5 : FVec F S4096x1024 .f32) : IVec S4096x1024 1 × IVec S4096x1024 1 × IVec S4096x1024 1 × IVec S2048x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_finite_norm.lean ====
abbrev S4096x1024 : Shape := ⟨2, ![4096, 1024]⟩
abbrev S4096x512 : Shape := ⟨2, ![4096, 512]⟩
abbrev S4096x3072 : Shape := ⟨2, ![4096, 3072]⟩
abbrev S1024x5632 : Shape := ⟨2, ![1024, 5632]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S4096x512 : S_.BroadcastsInDim S4096x512 (![] : Fin 0 → Fin S4096x512.rank)
  bcast_S_S4096x3072 : S_.BroadcastsInDim S4096x3072 (![] : Fin 0 → Fin S4096x3072.rank)
  bcast_S_S1024x5632 : S_.BroadcastsInDim S1024x5632 (![] : Fin 0 → Fin S1024x5632.rank)
  bcast_S_S1x1024 : S_.BroadcastsInDim S1x1024 (![] : Fin 0 → Fin S1x1024.rank)

variable [Facts]

def fn_part1 {F : FTy → Type} [FloatOps F] (main_arg6 : FVec F S4096x1024 .f32) (main_arg7 : FVec F S1x1024 .f32) (main_v2 : IVec S4096x1024 1) (main_v5 : IVec S4096x512 1) (main_v8 : IVec S4096x1024 1) (main_v11 : IVec S4096x3072 1) (main_v14 : IVec S1024x5632 1) (main_v17 : IVec S4096x1024 1) : IVec S4096x1024 1 × IVec S4096x512 1 × IVec S4096x1024 1 × IVec S4096x3072 1 × IVec S1024x5632 1 × IVec S4096x1024 1 × IVec S4096x1024 1 × IVec S1x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  (main_v2, main_v5, main_v8, main_v11, main_v14, main_v17, main_v20, main_v23)

def fn {F : FTy → Type} [FloatOps F] (main_arg0 : FVec F S4096x1024 .f32) (main_arg1 : FVec F S4096x512 .f32) (main_arg2 : FVec F S4096x1024 .f32) (main_arg3 : FVec F S4096x3072 .f32) (main_arg4 : FVec F S1024x5632 .f32) (main_arg5 : FVec F S4096x1024 .f32) (main_arg6 : FVec F S4096x1024 .f32) (main_arg7 : FVec F S1x1024 .f32) : IVec S4096x1024 1 × IVec S4096x512 1 × IVec S4096x1024 1 × IVec S4096x3072 1 × IVec S1024x5632 1 × IVec S4096x1024 1 × IVec S4096x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x3072 .f32 := Host.absf main_arg3
  let main_cst_2 : FVec F S_ .f32 := constant S_ .f32 0x7F800000#32
  let main_v10 : FVec F S4096x3072 .f32 := broadcastInDim S4096x3072 ![] bcast_S_S4096x3072 main_cst_2
  let main_v11 : IVec S4096x3072 1 := cmpf .olt main_v9 main_v10
  let main_v12 : FVec F S1024x5632 .f32 := Host.absf main_arg4
  let main_cst_3 : FVec F S_ .f32 := constant S_ .f32 0x7F800000#32
  let main_v13 : FVec F S1024x5632 .f32 := broadcastInDim S1024x5632 ![] bcast_S_S1024x5632 main_cst_3
  let main_v14 : IVec S1024x5632 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_arg7 main_v2 main_v5 main_v8 main_v11 main_v14 main_v17
-- ==== Gate.lean ====
abbrev S4096x1024 : Shape := ⟨2, ![4096, 1024]⟩
abbrev S2048x1024 : Shape := ⟨2, ![2048, 1024]⟩
abbrev S32x8x16x1024 : Shape := ⟨4, ![32, 8, 16, 1024]⟩
abbrev S32x16x8x1024 : Shape := ⟨4, ![32, 16, 8, 1024]⟩
abbrev S4096x128 : Shape := ⟨2, ![4096, 128]⟩
abbrev S512x1024 : Shape := ⟨2, ![512, 1024]⟩
abbrev S1024x1024 : Shape := ⟨2, ![1024, 1024]⟩
abbrev S512x128 : Shape := ⟨2, ![512, 128]⟩
abbrev S128x128 : Shape := ⟨2, ![128, 128]⟩
abbrev S128x1024 : Shape := ⟨2, ![128, 1024]⟩
abbrev S1024x128 : Shape := ⟨2, ![1024, 128]⟩
abbrev S32x16x8x128 : Shape := ⟨4, ![32, 16, 8, 128]⟩
abbrev S32x8x16x128 : Shape := ⟨4, ![32, 8, 16, 128]⟩
abbrev S4096x16 : Shape := ⟨2, ![4096, 16]⟩

abbrev nBuf : Space → Nat
  | .hbm => 29
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S4096x1024, .bf16⟩
  | .hbm, ⟨5, _⟩ => ⟨S2048x1024, .bf16⟩
  | .hbm, ⟨6, _⟩ => ⟨S32x8x16x1024, .f32⟩
  | .hbm, ⟨7, _⟩ => ⟨S32x16x8x1024, .f32⟩
  | .hbm, ⟨8, _⟩ => ⟨S4096x1024, .f32⟩
  | .hbm, ⟨9, _⟩ => ⟨S32x8x16x1024, .f32⟩
  | .hbm, ⟨10, _⟩ => ⟨S32x16x8x1024, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S4096x128, .f32⟩
  | .hbm, ⟨15, _⟩ => ⟨S4096x1024, .bf16⟩
  | .hbm, ⟨16, _⟩ => ⟨S32x16x8x1024, .f32⟩
  | .hbm, ⟨17, _⟩ => ⟨S32x8x16x1024, .f32⟩
  | .hbm, ⟨18, _⟩ => ⟨S4096x1024, .f32⟩
  | .hbm, ⟨19, _⟩ => ⟨S32x16x8x1024, .bf16⟩
  | .hbm, ⟨20, _⟩ => ⟨S32x8x16x1024, .bf16⟩
  | .hbm, ⟨21, _⟩ => ⟨S4096x1024, .bf16⟩
  | .hbm, ⟨22, _⟩ => ⟨S32x16x8x128, .f32⟩
  | .hbm, ⟨23, _⟩ => ⟨S32x8x16x128, .f32⟩
  | .hbm, ⟨24, _⟩ => ⟨S4096x128, .f32⟩
  | .hbm, ⟨25, _⟩ => ⟨S4096x16, .f32⟩
  | .hbm, ⟨26, _⟩ => ⟨S32x16x8x1024, .bf16⟩
  | .hbm, ⟨27, _⟩ => ⟨S32x8x16x1024, .bf16⟩
  | .hbm, ⟨28, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x128, .f32⟩
  | .local _ .vmem, ⟨12, _⟩ => ⟨S512x128, .f32⟩
  | .local _ .vmem, ⟨13, _⟩ => ⟨S512x1024, .bf16⟩
  | .local _ .vmem, ⟨14, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateRefIdeal.lean ====
abbrev S4096x1024 : Shape := ⟨2, ![4096, 1024]⟩
abbrev S2048x1024 : Shape := ⟨2, ![2048, 1024]⟩
abbrev S_ : Shape := ⟨0, ![]⟩
abbrev S1024x1024 : Shape := ⟨2, ![1024, 1024]⟩
abbrev S4096x16x64 : Shape := ⟨3, ![4096, 16, 64]⟩
abbrev S4096x16 : Shape := ⟨2, ![4096, 16]⟩

abbrev nBuf : Space → Nat
  | .hbm => 33
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x16x64, .f32⟩
  | .hbm, ⟨29, _⟩ => ⟨S_, .f32⟩
  | .hbm, ⟨30, _⟩ => ⟨S4096x16, .f32⟩
  | .hbm, ⟨31, _⟩ => ⟨S4096x1024, .bf16⟩
  | .hbm, ⟨32, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Lnorm.lean ====
abbrev S4096x1024 : Shape := ⟨2, ![4096, 1024]⟩
abbrev S2048x1024 : Shape := ⟨2, ![2048, 1024]⟩
abbrev S4096x3072 : Shape := ⟨2, ![4096, 3072]⟩
abbrev S1x1024 : Shape := ⟨2, ![1, 1024]⟩
abbrev S512x1024 : Shape := ⟨2, ![512, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S2048x1024, .f32⟩
  | .hbm, ⟨2, _⟩ => ⟨S4096x3072, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .bf16⟩
  | .hbm, ⟨8, _⟩ => ⟨S2048x1024, .bf16⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LnormRefIdeal.lean ====
abbrev S4096x1024 : Shape := ⟨2, ![4096, 1024]⟩
abbrev S2048x1024 : Shape := ⟨2, ![2048, 1024]⟩
abbrev S4096x3072 : Shape := ⟨2, ![4096, 3072]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x1024 : Shape := ⟨2, ![1024, 1024]⟩

abbrev nBuf : Space → Nat
  | .hbm => 143
  | .vmem => 0
  | .smem => 0
  | _ => 0

abbrev hbmTy0_0 (i : Nat) : BufTy := match i % 128 with
  | 0 => ⟨S4096x1024, .f32⟩
  | 1 => ⟨S2048x1024, .f32⟩
  | 2 => ⟨S4096x3072, .f32⟩
  | 3 => ⟨S4096x1024, .f32⟩
  | 4 => ⟨S1x1024, .f32⟩
  | 5 => ⟨S1x1024, .f32⟩
  | 6 => ⟨S1x1024, .f32⟩
  | 7 => ⟨S4096x1024, .f32⟩
  | 8 => ⟨S1024, .f32⟩
  | 9 => ⟨S1x1024, .f32⟩
  | 10 => ⟨S4096x1024, .f32⟩
  | 11 => ⟨S4096x1024, .f32⟩
  | 12 => ⟨S1024, .f32⟩
  | 13 => ⟨S1024, .f32⟩
  | 14 => ⟨S_, .f32⟩
  | 15 => ⟨S4096, .f32⟩
  | 16 => ⟨S4096x1, .f32⟩
  | 17 => ⟨S_, .f32⟩
  | 18 => ⟨S4096x1, .f32⟩
  | 19 => ⟨S4096x1, .f32⟩
  | 20 => ⟨S4096x1024, .f32⟩
  | 21 => ⟨S4096x1024, .f32⟩
  | 22 => ⟨S4096x1024, .f32⟩
  | 23 => ⟨S_, .f32⟩
  | 24 => ⟨S4096x1024, .f32⟩
  | 25 => ⟨S4096x1024, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S4096x1024, .f32⟩
  | 33 => ⟨S4096x1024, .f32⟩
  | 34 => ⟨S_, .f32⟩
  | 35 => ⟨S4096x1, .f32⟩
  | 36 => ⟨S4096x1, .f32⟩
  | 37 => ⟨S4096x1, .f32⟩
  | 38 => ⟨S4096x1, .f32⟩
  | 39 => ⟨S_, .f32⟩
  | 40 => ⟨S4096x1, .f32⟩
  | 41 => ⟨S4096x1, .f32⟩
  | 42 => ⟨S4096x1024, .f32⟩
  | 43 => ⟨S4096x1024, .f32⟩
  | 44 => ⟨S1x1024, .f32⟩
  | 45 => ⟨S4096x1024, .f32⟩
  | 46 => ⟨S4096x1024, .f32⟩
  | 47 => ⟨S1x1024, .f32⟩
  | 48 => ⟨S4096x1024, .f32⟩
  | 49 => ⟨S4096x1024, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S_, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S1024x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S_, .f32⟩
  | 91 => ⟨S1024, .f32⟩
  | 92 => ⟨S1x1024, .f32⟩
  | 93 => ⟨S_, .f32⟩
  | 94 => ⟨S1024, .f32⟩
  | 95 => ⟨S4096x1024, .f32⟩
  | 96 => ⟨S_, .f32⟩
  | 97 => ⟨S1024, .f32⟩
  | 98 => ⟨S1x1024, .f32⟩
  | 99 => ⟨S4096x1024, .f32⟩
  | 100 => ⟨S4096x1024, .f32⟩
  | 101 => ⟨S_, .f32⟩
  | 102 => ⟨S1024, .f32⟩
  | 103 => ⟨S4096x1024, .f32⟩
  | 104 => ⟨S_, .f32⟩
  | 105 => ⟨S4096, .f32⟩
  | 106 => ⟨S4096x1, .f32⟩
  | 107 => ⟨S4096x1024, .f32⟩
  | 108 => ⟨S4096x1024, .f32⟩
  | 109 => ⟨S4096x1, .f32⟩
  | 110 => ⟨S4096x1024, .f32⟩
  | 111 => ⟨S_, .f32⟩
  | 112 => ⟨S4096, .f32⟩
  | 113 => ⟨S4096x1, .f32⟩
  | 114 => ⟨S_, .f32⟩
  | 115 => ⟨S4096x1, .f32⟩
  | 116 => ⟨S4096x1, .f32⟩
  | 117 => ⟨S_, .f32⟩
  | 118 => ⟨S4096, .f32⟩
  | 119 => ⟨S4096x1024, .f32⟩
  | 120 => ⟨S4096x1024, .f32⟩
  | 121 => ⟨S4096x1024, .f32⟩
  | 122 => ⟨S_, .f32⟩
  | 123 => ⟨S4096, .f32⟩
  | 124 => ⟨S4096x1, .f32⟩
  | 125 => ⟨S4096x1024, .f32⟩
  | 126 => ⟨S4096x1, .f32⟩
  | 127 => ⟨S_, .f32⟩
  | _ => ⟨S4096x1024, .f32⟩

abbrev hbmTy0_1 (i : Nat) : BufTy := match i % 128 with
  | 0 => ⟨S4096x1, .f32⟩
  | 1 => ⟨S4096x1, .f32⟩
  | 2 => ⟨S_, .f32⟩
  | 3 => ⟨S4096, .f32⟩
  | 4 => ⟨S4096x1024, .f32⟩
  | 5 => ⟨S4096x1024, .f32⟩
  | 6 => ⟨S1x1024, .f32⟩
  | 7 => ⟨S1x1024, .f32⟩
  | 8 => ⟨S_, .f32⟩
  | 9 => ⟨S1024, .f32⟩
  | 10 => ⟨S1x1024, .f32⟩
  | 11 => ⟨S_, .f32⟩
  | 12 => ⟨S1024, .f32⟩
  | 13 => ⟨S1x1024, .f32⟩
  | 14 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_v36_2 : Ref sig .tc := ⟨.hbm, 57, rfl⟩
abbrev main_call0_cst_1 : Ref sig .tc := ⟨.hbm, 58, rfl⟩
abbrev main_call0_v6 : Ref sig .tc := ⟨.hbm, 59, rfl⟩
abbrev main_call0_v7 : Ref sig .tc := ⟨.hbm, 60, rfl⟩
abbrev main_v36_1 : Ref sig .tc := ⟨.hbm, 61, rfl⟩
abbrev main_v36_0 : Ref sig .tc := ⟨.hbm, 62, rfl⟩
abbrev main_call1_v0 : Ref sig .tc := ⟨.hbm, 63, rfl⟩
abbrev main_call1_v1 : Ref sig .tc := ⟨.hbm, 64, rfl⟩
abbrev main_call1_cst : Ref sig .tc := ⟨.hbm, 65, rfl⟩
abbrev main_call1_v2 : Ref sig .tc := ⟨.hbm, 66, rfl⟩
abbrev main_call1_v3 : Ref sig .tc := ⟨.hbm, 67, rfl⟩
abbrev main_call1_cst_0 : Ref sig .tc := ⟨.hbm, 68, rfl⟩
abbrev main_call1_v4 : Ref sig .tc := ⟨.hbm, 69, rfl⟩
abbrev main_v37_2 : Ref sig .tc := ⟨.hbm, 70, rfl⟩
abbrev main_call1_cst_1 : Ref sig .tc := ⟨.hbm, 71, rfl⟩
abbrev main_call1_v6 : Ref sig .tc := ⟨.hbm, 72, rfl⟩
abbrev main_call1_v7 : Ref sig .tc := ⟨.hbm, 73, rfl⟩
abbrev main_v37_1 : Ref sig .tc := ⟨.hbm, 74, rfl⟩
abbrev main_v37_0 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v44 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_v45 : Ref sig .tc := ⟨.hbm, 89, rfl⟩
abbrev main_cst_6 : Ref sig .tc := ⟨.hbm, 90, rfl⟩
abbrev main_v46 : Ref sig .tc := ⟨.hbm, 91, rfl⟩
abbrev main_v47 : Ref sig .tc := ⟨.hbm, 92, rfl⟩
abbrev main_cst_7 : Ref sig .tc := ⟨.hbm, 93, rfl⟩
abbrev main_v48 : Ref sig .tc := ⟨.hbm, 94, rfl⟩
abbrev main_v49 : Ref sig .tc := ⟨.hbm, 95, rfl⟩
abbrev main_cst_8 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_cst_9 : Ref sig .tc := ⟨.hbm, 101, rfl⟩
abbrev main_v54 : Ref sig .tc := ⟨.hbm, 102, rfl⟩
abbrev main_v55 : Ref sig .tc := ⟨.hbm, 103, rfl⟩
abbrev main_cst_10 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_11 : Ref sig .tc := ⟨.hbm, 111, rfl⟩
abbrev main_v62 : Ref sig .tc := ⟨.hbm, 112, rfl⟩
abbrev main_v63 : Ref sig .tc := ⟨.hbm, 113, rfl⟩
abbrev main_cst_12 : Ref sig .tc := ⟨.hbm, 114, rfl⟩
abbrev main_v64 : Ref sig .tc := ⟨.hbm, 115, rfl⟩
abbrev main_v65 : Ref sig .tc := ⟨.hbm, 116, rfl⟩
abbrev main_cst_13 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_cst_14 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_15 : Ref sig .tc := ⟨.hbm, 127, rfl⟩
abbrev main_v74 : Ref sig .tc := ⟨.hbm, 128, rfl⟩
abbrev main_v75 : Ref sig .tc := ⟨.hbm, 129, rfl⟩
abbrev main_cst_16 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_cst_17 : Ref sig .tc := ⟨.hbm, 136, rfl⟩
abbrev main_v81 : Ref sig .tc := ⟨.hbm, 137, rfl⟩
abbrev main_v82 : Ref sig .tc := ⟨.hbm, 138, rfl⟩
abbrev main_cst_18 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩

abbrev nD : Nat := 1
abbrev τ : Topo := Topo.v7x

variable {F : FTy → Type} [FloatOps F]
-- ==== Loss.lean ====
abbrev S4096x1024 : Shape := ⟨2, ![4096, 1024]⟩
abbrev S2048x1024 : Shape := ⟨2, ![2048, 1024]⟩
abbrev S1024 : Shape := ⟨1, ![1024]⟩
abbrev S32x8x16x1024 : Shape := ⟨4, ![32, 8, 16, 1024]⟩
abbrev S32x16x8x1024 : Shape := ⟨4, ![32, 16, 8, 1024]⟩
abbrev S1x1024 : Shape := ⟨2, ![1, 1024]⟩
abbrev S512x1024 : Shape := ⟨2, ![512, 1024]⟩
abbrev S128x128 : Shape := ⟨2, ![128, 128]⟩
abbrev S128x1024 : Shape := ⟨2, ![128, 1024]⟩
abbrev S1024x1024 : Shape := ⟨2, ![1024, 1024]⟩
abbrev S512 : Shape := ⟨1, ![512]⟩
abbrev S512x1 : Shape := ⟨2, ![512, 1]⟩
abbrev S_ : Shape := ⟨0, ![]⟩

abbrev nBuf : Space → Nat
  | .hbm => 21
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S4096x1024, .f32⟩
  | .hbm, ⟨6, _⟩ => ⟨S32x8x16x1024, .f32⟩
  | .hbm, ⟨7, _⟩ => ⟨S32x16x8x1024, .f32⟩
  | .hbm, ⟨8, _⟩ => ⟨S4096x1024, .f32⟩
  | .hbm, ⟨9, _⟩ => ⟨S4096x1024, .bf16⟩
  | .hbm, ⟨10, _⟩ => ⟨S4096x1024, .bf16⟩
  | .hbm, ⟨11, _⟩ => ⟨S2048x1024, .bf16⟩
  | .hbm, ⟨12, _⟩ => ⟨S1x1024, .f32⟩
  | .hbm, ⟨13, _⟩ => ⟨S4096x1024, .f32⟩
  | .hbm, ⟨14, _⟩ => ⟨S4096x1024, .bf16⟩
  | .hbm, ⟨15, _⟩ => ⟨S1x1024, .f32⟩
  | .hbm, ⟨16, _⟩ => ⟨S1x1024, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2048x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S4096x1024 : Shape := ⟨2, ![4096, 1024]⟩
abbrev S2048x1024 : Shape := ⟨2, ![2048, 1024]⟩
abbrev S1024 : Shape := ⟨1, ![1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S4096x1024, .f32⟩
  | .hbm, ⟨6, _⟩ => ⟨S4096x2048, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .bf16⟩
  | .hbm, ⟨78, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_cst_8 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_cst_10 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_cst_15 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]
-- ==== Norm.lean ====
abbrev S4096x1024 : Shape := ⟨2, ![4096, 1024]⟩
abbrev S4096x512 : Shape := ⟨2, ![4096, 512]⟩
abbrev S4096x3072 : Shape := ⟨2, ![4096, 3072]⟩
abbrev S1024x5632 : Shape := ⟨2, ![1024, 5632]⟩
abbrev S1x1024 : Shape := ⟨2, ![1, 1024]⟩
abbrev S32x8x16x1024 : Shape := ⟨4, ![32, 8, 16, 1024]⟩
abbrev S32x16x8x1024 : Shape := ⟨4, ![32, 16, 8, 1024]⟩
abbrev S32x8x16x512 : Shape := ⟨4, ![32, 8, 16, 512]⟩
abbrev S32x16x8x512 : Shape := ⟨4, ![32, 16, 8, 512]⟩
abbrev S5632x1024 : Shape := ⟨2, ![5632, 1024]⟩
abbrev S1024x512 : Shape := ⟨2, ![1024, 512]⟩
abbrev S512x1024 : Shape := ⟨2, ![512, 1024]⟩
abbrev S1024x1024 : Shape := ⟨2, ![1024, 1024]⟩
abbrev S4x1024x1024 : Shape := ⟨3, ![4, 1024, 1024]⟩
abbrev S1x1024x1024 : Shape := ⟨3, ![1, 1024, 1024]⟩
abbrev S128x128 : Shape := ⟨2, ![128, 128]⟩
abbrev S128x512 : Shape := ⟨2, ![128, 512]⟩
abbrev S1024 : Shape := ⟨1, ![1024]⟩
abbrev S1024x1 : Shape := ⟨2, ![1024, 1]⟩

abbrev nBuf : Space → Nat
  | .hbm => 25
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .f32⟩
  | .hbm, ⟨3, _⟩ => ⟨S4096x3072, .f32⟩
  | .hbm, ⟨4, _⟩ => ⟨S1024x5632, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S32x8x16x1024, .f32⟩
  | .hbm, ⟨9, _⟩ => ⟨S32x16x8x1024, .f32⟩
  | .hbm, ⟨10, _⟩ => ⟨S4096x1024, .f32⟩
  | .hbm, ⟨11, _⟩ => ⟨S4096x1024, .bf16⟩
  | .hbm, ⟨12, _⟩ => ⟨S32x8x16x512, .f32⟩
  | .hbm, ⟨13, _⟩ => ⟨S32x16x8x512, .f32⟩
  | .hbm, ⟨14, _⟩ => ⟨S4096x512, .f32⟩
  | .hbm, ⟨15, _⟩ => ⟨S4096x512, .bf16⟩
  | .hbm, ⟨16, _⟩ => ⟨S32x8x16x1024, .f32⟩
  | .hbm, ⟨17, _⟩ => ⟨S32x16x8x1024, .f32⟩
  | .hbm, ⟨18, _⟩ => ⟨S4096x1024, .f32⟩
  | .hbm, ⟨19, _⟩ => ⟨S4096x1024, .bf16⟩
  | .hbm, ⟨20, _⟩ => ⟨S4096x3072, .bf16⟩
  | .hbm, ⟨21, _⟩ => ⟨S5632x1024, .f32⟩
  | .hbm, ⟨22, _⟩ => ⟨S5632x1024, .bf16⟩
  | .hbm, ⟨23, _⟩ => ⟨S4096x1024, .f32⟩
  | .hbm, ⟨24, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1x1024, .f32⟩
  | .local _ .vmem, ⟨18, _⟩ => ⟨S4x1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨2, ![11, 4], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 3 → Nat :=
  let arg1 : BitVec 32 := BitVec.ofNat 32 (i 1).val
  let v32 : Index := Scalar.indexCast arg1
  let c0 : Index := 0#32
  let c0_13 : Index := 0#32
  ![v32.toNat, 0, 0]
def k0_cond3 (i : grid0.Coords) : BitVec 1 :=
  let arg0 : BitVec 32 := BitVec.ofNat 32 (i 0).val
  let c0_i32_4 : BitVec 32 := 0#32
  let v8 : BitVec 1 := Scalar.cmpi .sge arg0 c0_i32_4
  let c2_i32 : BitVec 32 := 2#32
  let v9 : BitVec 1 := Scalar.cmpi .slt arg0 c2_i32
  let v10 : BitVec 1 := Scalar.andi v8 v9
  let v11 : BitVec 32 := Scalar.extui v10
  let c0_i32_5 : BitVec 32 := 0#32
  let v12 : BitVec 1 := Scalar.cmpi .ne v11 c0_i32_5
  v12

def k0_off2 (i : grid0.Coords) : Fin 3 → Nat :=
  let arg1 : BitVec 32 := BitVec.ofNat 32 (i 1).val
  let v101 : Index := Scalar.indexCast arg1
  let c0_34 : Index := 0#32
  let c0_35 : Index := 0#32
  ![v101.toNat, 0, 0]
def k0_cond4 (i : grid0.Coords) : BitVec 1 :=
  let arg0 : BitVec 32 := BitVec.ofNat 32 (i 0).val
  let c2_i32_6 : BitVec 32 := 2#32
  let v13 : BitVec 1 := Scalar.cmpi .sge arg0 c2_i32_6
  let c3_i32 : BitVec 32 := 3#32
  let v14 : BitVec 1 := Scalar.cmpi .slt arg0 c3_i32
  let v15 : BitVec 1 := Scalar.andi v13 v14
  let v16 : BitVec 32 := Scalar.extui v15
  let c0_i32_7 : BitVec 32 := 0#32
  let v17 : BitVec 1 := Scalar.cmpi .ne v16 c0_i32_7
  v17

def k0_off3 (i : grid0.Coords) : Fin 3 → Nat :=
  let arg1 : BitVec 32 := BitVec.ofNat 32 (i 1).val
  let v101 : Index := Scalar.indexCast arg1
  let c0_34 : Index := 0#32
  let c0_35 : Index := 0#32
  ![v101.toNat, 0, 0]
def k0_cond5 (i : grid0.Coords) : BitVec 1 :=
  let arg0 : BitVec 32 := BitVec.ofNat 32 (i 0).val
  let c3_i32_8 : BitVec 32 := 3#32
  let v18 : BitVec 1 := Scalar.cmpi .sge arg0 c3_i32_8
  let c5_i32 : BitVec 32 := 5#32
  let v19 : BitVec 1 := Scalar.cmpi .slt arg0 c5_i32
  let v20 : BitVec 1 := Scalar.andi v18 v19
  let v21 : BitVec 32 := Scalar.extui v20
  let c0_i32_9 : BitVec 32 := 0#32
  let v22 : BitVec 1 := Scalar.cmpi .ne v21 c0_i32_9
  v22

def k0_off4 (i : grid0.Coords) : Fin 3 → Nat :=
  let arg1 : BitVec 32 := BitVec.ofNat 32 (i 1).val
  let v101 : Index := Scalar.indexCast arg1
  let c0_34 : Index := 0#32
  let c0_35 : Index := 0#32
  ![v101.toNat, 0, 0]
def k0_cond6 (i : grid0.Coords) : BitVec 1 :=
  let arg0 : BitVec 32 := BitVec.ofNat 32 (i 0).val
  let c5_i32_10 : BitVec 32 := 5#32
  let v23 : BitVec 1 := Scalar.cmpi .sge arg0 c5_i32_10
  let c11_i32 : BitVec 32 := 11#32
  let v24 : BitVec 1 := Scalar.cmpi .slt arg0 c11_i32
  let v25 : BitVec 1 := Scalar.andi v23 v24
  let v26 : BitVec 32 := Scalar.extui v25
  let c0_i32_11 : BitVec 32 := 0#32
  let v27 : BitVec 1 := Scalar.cmpi .ne v26 c0_i32_11
  v27

def k0_off5 (i : grid0.Coords) : Fin 3 → Nat :=
  let arg1 : BitVec 32 := BitVec.ofNat 32 (i 1).val
  let v33 : Index := Scalar.indexCast arg1
  let c0_14 : Index := 0#32
  let c0_15 : Index := 0#32
  ![v33.toNat, 0, 0]
def k0_cond7 (i : grid0.Coords) : BitVec 1 :=
  let arg0 : BitVec 32 := BitVec.ofNat 32 (i 0).val
  let c10_i32 : BitVec 32 := 10#32
  let v28 : BitVec 1 := Scalar.cmpi .eq arg0 c10_i32
  let v29 : BitVec 32 := Scalar.extui v28
  let c0_i32_12 : BitVec 32 := 0#32
  let v30 : BitVec 1 := Scalar.cmpi .ne v29 c0_i32_12
  v30

def k0_off6 (i : grid0.Coords) : Fin 3 → Nat :=
  let arg1 : BitVec 32 := BitVec.ofNat 32 (i 1).val
  let v31 : Index := Scalar.indexCast arg1
  let c0 : Index := 0#32
  let c0_13 : Index := 0#32
  ![v31.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg0 : BitVec 32 := BitVec.ofNat 32 (i 0).val
  let c0_i32_0 : BitVec 32 := 0#32
  let v1 : BitVec 1 := Scalar.cmpi .eq arg0 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let v1 : BitVec 1 := Scalar.cmpi .slt v0 c0_i32_0
  let c2_i32 : BitVec 32 := 2#32
  let v2 : BitVec 1 := Scalar.cmpi .sge v0 c2_i32
  let c3_i32 : BitVec 32 := 3#32
  let v3 : BitVec 32 := Scalar.select v2 c3_i32 arg1
  let c0_i32_1 : BitVec 32 := 0#32
  let v4 : BitVec 32 := Scalar.select v1 c0_i32_1 v3
  let c0_i32_2 : BitVec 32 := 0#32
  let c1_i32 : BitVec 32 := 1#32
  let v5 : BitVec 32 := Scalar.maxsi c0_i32_2 v0
  let v6 : BitVec 32 := Scalar.minsi c1_i32 v5
  let c0_i32_3 : BitVec 32 := 0#32
  ![v4.toNat, v6.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg0 c2_i32
  let c0_i32 : BitVec 32 := 0#32
  let v1 : BitVec 1 := Scalar.cmpi .slt v0 c0_i32
  let c1_i32 : BitVec 32 := 1#32
  let v2 : BitVec 1 := Scalar.cmpi .sge v0 c1_i32
  let c3_i32 : BitVec 32 := 3#32
  let v3 : BitVec 32 := Scalar.select v2 c3_i32 arg1
  let c0_i32_0 : BitVec 32 := 0#32
  let v4 : BitVec 32 := Scalar.select v1 c0_i32_0 v3
  let c0_i32_1 : BitVec 32 := 0#32
  let c0_i32_2 : BitVec 32 := 0#32
  let v5 : BitVec 32 := Scalar.maxsi c0_i32_1 v0
  let v6 : BitVec 32 := Scalar.minsi c0_i32_2 v5
  let c0_i32_3 : BitVec 32 := 0#32
  ![v4.toNat, v6.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi arg0 c3_i32
  let c0_i32 : BitVec 32 := 0#32
  let v1 : BitVec 1 := Scalar.cmpi .slt v0 c0_i32
  let c2_i32 : BitVec 32 := 2#32
  let v2 : BitVec 1 := Scalar.cmpi .sge v0 c2_i32
  let c3_i32_0 : BitVec 32 := 3#32
  let v3 : BitVec 32 := Scalar.select v2 c3_i32_0 arg1
  let c0_i32_1 : BitVec 32 := 0#32
  let v4 : BitVec 32 := Scalar.select v1 c0_i32_1 v3
  let c0_i32_2 : BitVec 32 := 0#32
  let c1_i32 : BitVec 32 := 1#32
  let v5 : BitVec 32 := Scalar.maxsi c0_i32_2 v0
  let v6 : BitVec 32 := Scalar.minsi c1_i32 v5
  let c0_i32_3 : BitVec 32 := 0#32
  ![v4.toNat, v6.toNat]

def cc0_transform_3 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.subi arg0 c5_i32
  let c0_i32 : BitVec 32 := 0#32
  let v1 : BitVec 1 := Scalar.cmpi .slt v0 c0_i32
  let c6_i32 : BitVec 32 := 6#32
  let v2 : BitVec 1 := Scalar.cmpi .sge v0 c6_i32
  let c3_i32 : BitVec 32 := 3#32
  let v3 : BitVec 32 := Scalar.select v2 c3_i32 arg1
  let c0_i32_0 : BitVec 32 := 0#32
  let v4 : BitVec 32 := Scalar.select v1 c0_i32_0 v3
  let c0_i32_1 : BitVec 32 := 0#32
  let c5_i32_2 : BitVec 32 := 5#32
  let v5 : BitVec 32 := Scalar.maxsi c0_i32_1 v0
  let v6 : BitVec 32 := Scalar.minsi c5_i32_2 v5
  let c0_i32_3 : BitVec 32 := 0#32
  ![v4.toNat, v6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .eq arg0 c10_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .eq arg0 c10_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 1 := Scalar.cmpi .eq arg0 c10_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== NormRefIdeal.lean ====
abbrev S4096x1024 : Shape := ⟨2, ![4096, 1024]⟩
abbrev S4096x512 : Shape := ⟨2, ![4096, 512]⟩
abbrev S4096x3072 : Shape := ⟨2, ![4096, 3072]⟩
abbrev S1024x5632 : Shape := ⟨2, ![1024, 5632]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x1024, .f32⟩
  | .hbm, ⟨3, _⟩ => ⟨S4096x3072, .f32⟩
  | .hbm, ⟨4, _⟩ => ⟨S1024x5632, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x5632, .f32⟩
  | .hbm, ⟨30, _⟩ => ⟨S4096x5632, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Attn.lean ====
abbrev S4096x1024 : Shape := ⟨2, ![4096, 1024]⟩
abbrev S4096x256 : Shape := ⟨2, ![4096, 256]⟩
abbrev S16 : Shape := ⟨1, ![16]⟩
abbrev S_ : Shape := ⟨0, ![]⟩
abbrev S4x4 : Shape := ⟨2, ![4, 4]⟩
abbrev S2x128x16x4x4x64 : Shape := ⟨6, ![2, 128, 16, 4, 4, 64]⟩
abbrev S2x16x128x4x4x64 : Shape := ⟨6, ![2, 16, 128, 4, 4, 64]⟩
abbrev S32x128x4x4x64 : Shape := ⟨5, ![32, 128, 4, 4, 64]⟩
abbrev S2x128x16x4x64 : Shape := ⟨5, ![2, 128, 16, 4, 64]⟩
abbrev S2x16x128x4x64 : Shape := ⟨5, ![2, 16, 128, 4, 64]⟩
abbrev S32x128x4x64 : Shape := ⟨4, ![32, 128, 4, 64]⟩
abbrev S16x128x4x64 : Shape := ⟨4, ![16, 128, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S32x128x256 : Shape := ⟨3, ![32, 128, 256]⟩
abbrev S32x4x4x128 : Shape := ⟨4, ![32, 4, 4, 128]⟩
abbrev S32x4x64x4x128 : Shape := ⟨5, ![32, 4, 64, 4, 128]⟩
abbrev S32x128x4x4 : Shape := ⟨4, ![32, 128, 4, 4]⟩
abbrev S2x16x128x4x4 : Shape := ⟨5, ![2, 16, 128, 4, 4]⟩
abbrev S2x128x16x4x4 : Shape := ⟨5, ![2, 128, 16, 4, 4]⟩
abbrev S4096x16 : Shape := ⟨2, ![4096, 16]⟩
abbrev S4096x16x64 : Shape := ⟨3, ![4096, 16, 64]⟩
abbrev S4096x112 : Shape := ⟨2, ![4096, 112]⟩
abbrev S32x8x16x1024 : Shape := ⟨4, ![32, 8, 16, 1024]⟩
abbrev S32x16x8x1024 : Shape := ⟨4, ![32, 16, 8, 1024]⟩
abbrev S4096x512 : Shape := ⟨2, ![4096, 512]⟩
abbrev S32x8x16x512 : Shape := ⟨4, ![32, 8, 16, 512]⟩
abbrev S32x16x8x512 : Shape := ⟨4, ![32, 16, 8, 512]⟩
abbrev S4096x128 : Shape := ⟨2, ![4096, 128]⟩
abbrev S32x8x16x128 : Shape := ⟨4, ![32, 8, 16, 128]⟩
abbrev S32x16x8x128 : Shape := ⟨4, ![32, 16, 8, 128]⟩
abbrev S16x1x8x1024 : Shape := ⟨4, ![16, 1, 8, 1024]⟩
abbrev S16x1x8x128 : Shape := ⟨4, ![16, 1, 8, 128]⟩
abbrev S16x1x8x512 : Shape := ⟨4, ![16, 1, 8, 512]⟩
abbrev S128x512 : Shape := ⟨2, ![128, 512]⟩
abbrev S32x256x128 : Shape := ⟨3, ![32, 256, 128]⟩
abbrev S256x128 : Shape := ⟨2, ![256, 128]⟩
abbrev S1x256x128 : Shape := ⟨3, ![1, 256, 128]⟩
abbrev S16x8x512 : Shape := ⟨3, ![16, 8, 512]⟩
abbrev S256x512 : Shape := ⟨2, ![256, 512]⟩
abbrev S16x8x128 : Shape := ⟨3, ![16, 8, 128]⟩
abbrev S128x128 : Shape := ⟨2, ![128, 128]⟩
abbrev S256x256 : Shape := ⟨2, ![256, 256]⟩
abbrev S1x128 : Shape := ⟨2, ![1, 128]⟩
abbrev S1x256 : Shape := ⟨2, ![1, 256]⟩

abbrev nBuf : Space → Nat
  | .hbm => 128
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x1024, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S_, .f32⟩
  | .hbm, ⟨9, _⟩ => ⟨S16, .f32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S4x4, .f32⟩
  | .hbm, ⟨15, _⟩ => ⟨S2x128x16x4x4x64, .f32⟩
  | .hbm, ⟨16, _⟩ => ⟨S2x16x128x4x4x64, .f32⟩
  | .hbm, ⟨17, _⟩ => ⟨S32x128x4x4x64, .f32⟩
  | .hbm, ⟨18, _⟩ => ⟨S2x128x16x4x64, .f32⟩
  | .hbm, ⟨19, _⟩ => ⟨S2x16x128x4x64, .f32⟩
  | .hbm, ⟨20, _⟩ => ⟨S32x128x4x64, .f32⟩
  | .hbm, ⟨21, _⟩ => ⟨S_, .f32⟩
  | .hbm, ⟨22, _⟩ => ⟨S16x128x4x64, .f32⟩
  | .hbm, ⟨23, _⟩ => ⟨S16x128x4x64, .f32⟩
  | .hbm, ⟨24, _⟩ => ⟨S32x128x4x64, .f32⟩
  | .hbm, ⟨25, _⟩ => ⟨S32x256x4x64, .f32⟩
  | .hbm, ⟨26, _⟩ => ⟨S2x128x16x4x64, .f32⟩
  | .hbm, ⟨27, _⟩ => ⟨S2x16x128x4x64, .f32⟩
  | .hbm, ⟨28, _⟩ => ⟨S32x128x4x64, .f32⟩
  | .hbm, ⟨29, _⟩ => ⟨S_, .f32⟩
  | .hbm, ⟨30, _⟩ => ⟨S16x128x4x64, .f32⟩
  | .hbm, ⟨31, _⟩ => ⟨S16x128x4x64, .f32⟩
  | .hbm, ⟨32, _⟩ => ⟨S32x128x4x64, .f32⟩
  | .hbm, ⟨33, _⟩ => ⟨S32x256x4x64, .f32⟩
  | .hbm, ⟨34, _⟩ => ⟨S32x4x256x128x4, .f32⟩
  | .hbm, ⟨35, _⟩ => ⟨S32x4x4x128x256, .f32⟩
  | .hbm, ⟨36, _⟩ => ⟨S32x128x256, .i32⟩
  | .hbm, ⟨37, _⟩ => ⟨S32x128x256, .i32⟩
  | .hbm, ⟨38, _⟩ => ⟨S32x128x256, .i32⟩
  | .hbm, ⟨39, _⟩ => ⟨S_, .i32⟩
  | .hbm, ⟨40, _⟩ => ⟨S32x128x256, .i32⟩
  | .hbm, ⟨41, _⟩ => ⟨S_, .i32⟩
  | .hbm, ⟨42, _⟩ => ⟨S32x128x256, .i32⟩
  | .hbm, ⟨43, _⟩ => ⟨S_, .i32⟩
  | .hbm, ⟨44, _⟩ => ⟨S32x128x256, .i32⟩
  | .hbm, ⟨45, _⟩ => ⟨S32x128x256, .i32⟩
  | .hbm, ⟨46, _⟩ => ⟨S32x128x256, .i32⟩
  | .hbm, ⟨47, _⟩ => ⟨S32x128x256, .i1⟩
  | .hbm, ⟨48, _⟩ => ⟨S32x128x256, .i1⟩
  | .hbm, ⟨49, _⟩ => ⟨S32x128x256, .i1⟩
  | .hbm, ⟨50, _⟩ => ⟨S32x128x256, .i1⟩
  | .hbm, ⟨51, _⟩ => ⟨S32x128x256, .i1⟩
  | .hbm, ⟨52, _⟩ => ⟨S32x128x256, .i1⟩
  | .hbm, ⟨53, _⟩ => ⟨S32x128x256, .i1⟩
  | .hbm, ⟨54, _⟩ => ⟨S4x4, .f32⟩
  | .hbm, ⟨55, _⟩ => ⟨S32x4x4x128x256, .f32⟩
  | .hbm, ⟨56, _⟩ => ⟨S32x128x256, .i32⟩
  | .hbm, ⟨57, _⟩ => ⟨S32x128x256, .f32⟩
  | .hbm, ⟨58, _⟩ => ⟨S32x4x4x128x256, .f32⟩
  | .hbm, ⟨59, _⟩ => ⟨S32x4x4x128x256, .f32⟩
  | .hbm, ⟨60, _⟩ => ⟨S32x4x4x128x256, .i1⟩
  | .hbm, ⟨61, _⟩ => ⟨S32x4x4x128x256, .f32⟩
  | .hbm, ⟨62, _⟩ => ⟨S_, .f32⟩
  | .hbm, ⟨63, _⟩ => ⟨S32x4x4x128x256, .f32⟩
  | .hbm, ⟨64, _⟩ => ⟨S32x4x4x128x256, .f32⟩
  | .hbm, ⟨65, _⟩ => ⟨S_, .f32⟩
  | .hbm, ⟨66, _⟩ => ⟨S32x4x4x128, .f32⟩
  | .hbm, ⟨67, _⟩ => ⟨S32x4x4x128x256, .f32⟩
  | .hbm, ⟨68, _⟩ => ⟨S32x4x4x128x256, .f32⟩
  | .hbm, ⟨69, _⟩ => ⟨S32x4x4x128x256, .f32⟩
  | .hbm, ⟨70, _⟩ => ⟨S_, .f32⟩
  | .hbm, ⟨71, _⟩ => ⟨S32x4x4x128, .f32⟩
  | .hbm, ⟨72, _⟩ => ⟨S32x4x64x4x128, .f32⟩
  | .hbm, ⟨73, _⟩ => ⟨S32x128x4x4x64, .f32⟩
  | .hbm, ⟨74, _⟩ => ⟨S32x128x4x4, .f32⟩
  | .hbm, ⟨75, _⟩ => ⟨S32x128x4x4x64, .f32⟩
  | .hbm, ⟨76, _⟩ => ⟨S32x128x4x4x64, .f32⟩
  | .hbm, ⟨77, _⟩ => ⟨S32x4x4x128, .f32⟩
  | .hbm, ⟨78, _⟩ => ⟨S32x4x4x128, .f32⟩
  | .hbm, ⟨79, _⟩ => ⟨S2x16x128x4x4x64, .f32⟩
  | .hbm, ⟨80, _⟩ => ⟨S2x128x16x4x4x64, .f32⟩
  | .hbm, ⟨81, _⟩ => ⟨S4096x1024, .f32⟩
  | .hbm, ⟨82, _⟩ => ⟨S32x128x4x4, .f32⟩
  | .hbm, ⟨83, _⟩ => ⟨S2x16x128x4x4, .f32⟩
  | .hbm, ⟨84, _⟩ => ⟨S2x128x16x4x4, .f32⟩
  | .hbm, ⟨85, _⟩ => ⟨S4096x16, .f32⟩
  | .hbm, ⟨86, _⟩ => ⟨S4096x1024, .f32⟩
  | .hbm, ⟨87, _⟩ => ⟨S4096x16x64, .f32⟩
  | .hbm, ⟨88, _⟩ => ⟨S_, .f32⟩
  | .hbm, ⟨89, _⟩ => ⟨S4096x16, .f32⟩
  | .hbm, ⟨90, _⟩ => ⟨S_, .f32⟩
  | .hbm, ⟨91, _⟩ => ⟨S4096x112, .f32⟩
  | .hbm, ⟨92, _⟩ => ⟨S32x8x16x1024, .f32⟩
  | .hbm, ⟨93, _⟩ => ⟨S32x16x8x1024, .f32⟩
  | .hbm, ⟨94, _⟩ => ⟨S4096x1024, .f32⟩
  | .hbm, ⟨95, _⟩ => ⟨S4096x512, .f32⟩
  | .hbm, ⟨96, _⟩ => ⟨S32x8x16x512, .f32⟩
  | .hbm, ⟨97, _⟩ => ⟨S32x16x8x512, .f32⟩
  | .hbm, ⟨98, _⟩ => ⟨S4096x512, .f32⟩
  | .hbm, ⟨99, _⟩ => ⟨S32x8x16x1024, .f32⟩
  | .hbm, ⟨100, _⟩ => ⟨S32x16x8x1024, .f32⟩
  | .hbm, ⟨101, _⟩ => ⟨S4096x1024, .f32⟩
  | .hbm, ⟨102, _⟩ => ⟨S4096x128, .f32⟩
  | .hbm, ⟨103, _⟩ => ⟨S32x8x16x128, .f32⟩
  | .hbm, ⟨104, _⟩ => ⟨S32x16x8x128, .f32⟩
  | .hbm, ⟨105, _⟩ => ⟨S4096x128, .f32⟩
  | .hbm, ⟨106, _⟩ => ⟨S4096x128, .f32⟩
  | .hbm, ⟨107, _⟩ => ⟨S32x8x16x128, .f32⟩
  | .hbm, ⟨108, _⟩ => ⟨S32x16x8x128, .f32⟩
  | .hbm, ⟨109, _⟩ => ⟨S4096x128, .f32⟩
  | .hbm, ⟨110, _⟩ => ⟨S32x16x8x1024, .f32⟩
  | .hbm, ⟨111, _⟩ => ⟨S32x16x8x1024, .f32⟩
  | .hbm, ⟨112, _⟩ => ⟨S32x16x8x128, .f32⟩
  | .hbm, ⟨113, _⟩ => ⟨S32x16x8x128, .f32⟩
  | .hbm, ⟨114, _⟩ => ⟨S32x16x8x512, .f32⟩
  | .hbm, ⟨115, _⟩ => ⟨S32x16x8x512, .f32⟩
  | .hbm, ⟨116, _⟩ => ⟨S32x16x8x1024, .f32⟩
  | .hbm, ⟨117, _⟩ => ⟨S32x16x8x512, .f32⟩
  | .hbm, ⟨118, _⟩ => ⟨S4096x1024, .f32⟩
  | .hbm, ⟨119, _⟩ => ⟨S4096x512, .f32⟩
  | .hbm, ⟨120, _⟩ => ⟨S32x16x8x512, .f32⟩
  | .hbm, ⟨121, _⟩ => ⟨S32x8x16x512, .f32⟩
  | .hbm, ⟨122, _⟩ => ⟨S4096x512, .f32⟩
  | .hbm, ⟨123, _⟩ => ⟨S32x16x8x1024, .f32⟩
  | .hbm, ⟨124, _⟩ => ⟨S32x8x16x1024, .f32⟩
  | .hbm, ⟨125, _⟩ => ⟨S4096x1024, .f32⟩
  | .hbm, ⟨126, _⟩ => ⟨S4096x256, .f32⟩
  | .hbm, ⟨127, _⟩ => ⟨S4096x256, .f32⟩
  | .local _ .vmem, ⟨0, _⟩ => ⟨S16x1x8x1024, .f32⟩
  | .local _ .vmem, ⟨1, _⟩ => ⟨S16x1x8x1024, .f32⟩
  | .local _ .vmem, ⟨2, _⟩ => ⟨S16x1x8x1024, .f32⟩
  | .local _ .vmem, ⟨3, _⟩ => ⟨S16x1x8x1024, .f32⟩
  | .local _ .vmem, ⟨4, _⟩ => ⟨S16x1x8x128, .f32⟩
  | .local _ .vmem, ⟨5, _⟩ => ⟨S16x1x8x128, .f32⟩
  | .local _ .vmem, ⟨6, _⟩ => ⟨S16x1x8x128, .f32⟩
  | .local _ .vmem, ⟨7, _⟩ => ⟨S16x1x8x128, .f32⟩
  | .local _ .vmem, ⟨8, _⟩ => ⟨S16x1x8x512, .f32⟩
  | .local _ .vmem, ⟨9, _⟩ => ⟨S16x1x8x512, .f32⟩
  | .local _ .vmem, ⟨10, _⟩ => ⟨S16x1x8x512, .f32⟩
  | .local _ .vmem, ⟨11, _⟩ => ⟨S16x1x8x512, .f32⟩
  | .local _ .vmem, ⟨12, _⟩ => ⟨S16x1x8x1024, .f32⟩
  | .local _ .vmem, ⟨13, _⟩ => ⟨S16x1x8x1024, .f32⟩
  | .local _ .vmem, ⟨14, _⟩ => ⟨S16x1x8x512, .f32⟩
  | .local _ .vmem, ⟨15, _⟩ => ⟨S16x1x8x512, .f32⟩
  | .local _ .vmem, ⟨16, _⟩ => ⟨S128x512, .f32⟩
  | .local _ .vmem, ⟨17, _⟩ => ⟨S32x256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_6 : Ref sig .tc := ⟨.hbm, 62, rfl⟩
abbrev main_v50 : Ref sig .tc := ⟨.hbm, 63, rfl⟩
abbrev main_v51 : Ref sig .tc := ⟨.hbm, 64, rfl⟩
abbrev main_cst_7 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_9 : Ref sig .tc := ⟨.hbm, 88, rfl⟩
abbrev main_v73 : Ref sig .tc := ⟨.hbm, 89, rfl⟩
abbrev main_cst_10 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99_0 : Ref sig .tc := ⟨.hbm, 116, rfl⟩
abbrev main_v99_1 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v13 : BitVec 1 := Scalar.cmpi .slt arg0 c32_i32
  let v14 : BitVec 32 := Scalar.extui v13
  let c0_i32_5 : BitVec 32 := 0#32
  let v15 : BitVec 1 := Scalar.cmpi .ne v14 c0_i32_5
  v15

def k0_off1 (i : grid0.Coords) (c0_i32_51 : BitVec 32) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_49 : BitVec 32 := 0#32
  let v75 : BitVec 1 := Scalar.cmpi .eq v9 c0_i32_49
  let c0_i32_50 : BitVec 32 := 0#32
  let c16_i32 : BitVec 32 := 16#32
  let v76 : BitVec 32 := Scalar.select v75 c0_i32_50 c16_i32
  let v77 : BitVec 32 := Scalar.addi v76 c0_i32_51
  let v78 : Index := Scalar.indexCast v77
  let c0_52 : Index := 0#32
  let c0_53 : Index := 0#32
  ![v78.toNat, 0, 0]
def k0_cond3 (i : grid0.Coords) : BitVec 1 :=
  let arg0 : BitVec 32 := BitVec.ofNat 32 (i 0).val
  let c32_i32_6 : BitVec 32 := 32#32
  let v16 : BitVec 1 := Scalar.cmpi .eq arg0 c32_i32_6
  let v17 : BitVec 32 := Scalar.extui v16
  let c0_i32_7 : BitVec 32 := 0#32
  let v18 : BitVec 1 := Scalar.cmpi .ne v17 c0_i32_7
  v18

def cc0_transform_0 (i : grid0.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c2_i32 : BitVec 32 := 2#32
  let v3 : BitVec 32 := Scalar.divsi v2 c2_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![v29.toNat, v19.toNat, c0_i32_12.toNat, c0_i32_13.toNat]

def cc0_transform_1 (i : grid0.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c2_i32 : BitVec 32 := 2#32
  let v3 : BitVec 32 := Scalar.divsi v2 c2_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![v29.toNat, v19.toNat, c0_i32_12.toNat, c0_i32_13.toNat]

def cc0_transform_2 (i : grid0.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c2_i32 : BitVec 32 := 2#32
  let v3 : BitVec 32 := Scalar.divsi v2 c2_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![v29.toNat, v19.toNat, c0_i32_12.toNat, c0_i32_13.toNat]

def cc0_transform_3 (i : grid0.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c2_i32 : BitVec 32 := 2#32
  let v3 : BitVec 32 := Scalar.divsi v2 c2_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![v29.toNat, v19.toNat, c0_i32_12.toNat, c0_i32_13.toNat]

def cc0_transform_4 (i : grid0.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c2_i32 : BitVec 32 := 2#32
  let v3 : BitVec 32 := Scalar.divsi v2 c2_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![v29.toNat, v19.toNat, c0_i32_12.toNat, c0_i32_13.toNat]

def cc0_transform_5 (i : grid0.Coords) : Fin 4 → Nat :=
  let arg0 : BitVec 32 := BitVec.ofNat 32 (i 0).val
  let c31_i32 : BitVec 32 := 31#32
  let v0 : BitVec 32 := Scalar.minsi arg0 c31_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c1_i32_10 : BitVec 32 := 1#32
  let v28 : BitVec 32 := Scalar.subi v27 c1_i32_10
  let c0_i32_11 : BitVec 32 := 0#32
  let v29 : BitVec 32 := Scalar.maxsi v28 c0_i32_11
  let c0_i32_12 : BitVec 32 := 0#32
  let c0_i32_13 : BitVec 32 := 0#32
  let c0_i32_14 : BitVec 32 := 0#32
  ![v29.toNat, v17.toNat, c0_i32_12.toNat, c0_i32_13.toNat]

def cc0_transform_6 (i : grid0.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c31_i32 : BitVec 32 := 31#32
  let v1 : BitVec 32 := Scalar.maxsi c0_i32_0 v0
  let v2 : BitVec 32 := Scalar.minsi c31_i32 v1
  let c2_i32 : BitVec 32 := 2#32
  let v3 : BitVec 32 := Scalar.divsi v2 c2_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi v2 c2_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![v29.toNat, v19.toNat, c0_i32_12.toNat, c0_i32_13.toNat]

def cc0_transform_7 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let c31_i32 : BitVec 32 := 31#32
  let v1 : BitVec 32 := Scalar.maxsi c0_i32 v0
  let v2 : BitVec 32 := Scalar.minsi c31_i32 v1
  let c2_i32 : BitVec 32 := 2#32
  let v3 : BitVec 32 := Scalar.divsi v2 c2_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c2_i32 c0_i32_2
  let v10 : BitVec 32 := Scalar.extui v9
  let c0_i32_3 : BitVec 32 := 0#32
  let v11 : BitVec 1 := Scalar.cmpi .slt c2_i32 c0_i32_3
  let v12 : BitVec 32 := Scalar.extui v11
  let v13 : BitVec 32 := Scalar.subi v10 v12
  let v14 : BitVec 1 := Scalar.cmpi .ne v8 v13
  let v15 : BitVec 32 := Scalar.remsi v2 c2_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![v29.toNat, v19.toNat, c0_i32_12.toNat, c0_i32_13.toNat]

abbrev stage0_0 : Fin 2 → Memref sig .tc .vmem S16x1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1x8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x1x8x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1x8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnIdeal.lean ====
variable {F : FTy → Type} [FloatOps F] [Named F]
def κ : String → Option EReal := fun
  | "mask" => some ⊥
  | "slope0" => some (((Real.sqrt 2)⁻¹ : ℝ) : EReal)
  | "slope10" => some (((Real.sqrt 2048)⁻¹ : ℝ) : EReal)
  | "slope12" => some (((Real.sqrt 8192)⁻¹ : ℝ) : EReal)
  | "slope14" => some (((Real.sqrt 32768)⁻¹ : ℝ) : EReal)
  | "slope2" => some (((Real.sqrt 8)⁻¹ : ℝ) : EReal)
  | "slope4" => some (((Real.sqrt 32)⁻¹ : ℝ) : EReal)
  | "slope6" => some (((Real.sqrt 128)⁻¹ : ℝ) : EReal)
  | "slope8" => some (((Real.sqrt 512)⁻¹ : ℝ) : EReal)
  | _ => none
-- ==== AttnRefIdeal.lean ====
abbrev S4096x1024 : Shape := ⟨2, ![4096, 1024]⟩
abbrev S4096x256 : Shape := ⟨2, ![4096, 256]⟩
abbrev S16 : Shape := ⟨1, ![16]⟩
abbrev S_ : Shape := ⟨0, ![]⟩
abbrev S4x4 : Shape := ⟨2, ![4, 4]⟩
abbrev S2x128x16x4x4x64 : Shape := ⟨6, ![2, 128, 16, 4, 4, 64]⟩
abbrev S2x16x128x4x4x64 : Shape := ⟨6, ![2, 16, 128, 4, 4, 64]⟩
abbrev S32x128x4x4x64 : Shape := ⟨5, ![32, 128, 4, 4, 64]⟩
abbrev S2x128x16x4x64 : Shape := ⟨5, ![2, 128, 16, 4, 64]⟩
abbrev S2x16x128x4x64 : Shape := ⟨5, ![2, 16, 128, 4, 64]⟩
abbrev S32x128x4x64 : Shape := ⟨4, ![32, 128, 4, 64]⟩
abbrev S16x128x4x64 : Shape := ⟨4, ![16, 128, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S32x128x256 : Shape := ⟨3, ![32, 128, 256]⟩
abbrev S32x4x4x128 : Shape := ⟨4, ![32, 4, 4, 128]⟩
abbrev S32x4x4x128x1 : Shape := ⟨5, ![32, 4, 4, 128, 1]⟩
abbrev S32x4x64x4x128 : Shape := ⟨5, ![32, 4, 64, 4, 128]⟩
abbrev S32x128x4x4 : Shape := ⟨4, ![32, 128, 4, 4]⟩
abbrev S2x16x128x4x4 : Shape := ⟨5, ![2, 16, 128, 4, 4]⟩
abbrev S2x128x16x4x4 : Shape := ⟨5, ![2, 128, 16, 4, 4]⟩
abbrev S4096x16 : Shape := ⟨2, ![4096, 16]⟩
abbrev S32x4x64x256 : Shape := ⟨4, ![32, 4, 64, 256]⟩
abbrev S32x4x128x4x64 : Shape := ⟨5, ![32, 4, 128, 4, 64]⟩
abbrev S32x4x256x64 : Shape := ⟨4, ![32, 4, 256, 64]⟩

abbrev nBuf : Space → Nat
  | .hbm => 157
  | .vmem => 0
  | .smem => 0
  | _ => 0

abbrev hbmTy0_0 (i : Nat) : BufTy := match i % 128 with
  | 0 => ⟨S4096x1024, .f32⟩
  | 1 => ⟨S4096x256, .f32⟩
  | 2 => ⟨S4096x256, .f32⟩
  | 3 => ⟨S4096x1024, .f32⟩
  | 4 => ⟨S16, .f32⟩
  | 5 => ⟨S_, .f32⟩
  | 6 => ⟨S16, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S4x4, .f32⟩
  | 15 => ⟨S2x128x16x4x4x64, .f32⟩
  | 16 => ⟨S2x16x128x4x4x64, .f32⟩
  | 17 => ⟨S32x128x4x4x64, .f32⟩
  | 18 => ⟨S2x128x16x4x64, .f32⟩
  | 19 => ⟨S2x16x128x4x64, .f32⟩
  | 20 => ⟨S32x128x4x64, .f32⟩
  | 21 => ⟨S_, .f32⟩
  | 22 => ⟨S16x128x4x64, .f32⟩
  | 23 => ⟨S16x128x4x64, .f32⟩
  | 24 => ⟨S32x128x4x64, .f32⟩
  | 25 => ⟨S_, .f32⟩
  | 26 => ⟨S16x128x4x64, .f32⟩
  | 27 => ⟨S32x256x4x64, .f32⟩
  | 28 => ⟨S2x128x16x4x64, .f32⟩
  | 29 => ⟨S2x16x128x4x64, .f32⟩
  | 30 => ⟨S32x128x4x64, .f32⟩
  | 31 => ⟨S_, .f32⟩
  | 32 => ⟨S16x128x4x64, .f32⟩
  | 33 => ⟨S16x128x4x64, .f32⟩
  | 34 => ⟨S32x128x4x64, .f32⟩
  | 35 => ⟨S_, .f32⟩
  | 36 => ⟨S16x128x4x64, .f32⟩
  | 37 => ⟨S32x256x4x64, .f32⟩
  | 38 => ⟨S32x4x256x128x4, .f32⟩
  | 39 => ⟨S32x4x4x128x256, .f32⟩
  | 40 => ⟨S32x128x256, .i32⟩
  | 41 => ⟨S32x128x256, .i32⟩
  | 42 => ⟨S32x128x256, .i32⟩
  | 43 => ⟨S_, .i32⟩
  | 44 => ⟨S32x128x256, .i32⟩
  | 45 => ⟨S_, .i32⟩
  | 46 => ⟨S32x128x256, .i32⟩
  | 47 => ⟨S_, .i32⟩
  | 48 => ⟨S32x128x256, .i32⟩
  | 49 => ⟨S32x128x256, .i32⟩
  | 50 => ⟨S32x128x256, .i32⟩
  | 51 => ⟨S32x128x256, .i1⟩
  | 52 => ⟨S32x128x256, .i1⟩
  | 53 => ⟨S32x128x256, .i1⟩
  | 54 => ⟨S32x128x256, .i1⟩
  | 55 => ⟨S32x128x256, .i1⟩
  | 56 => ⟨S32x128x256, .i1⟩
  | 57 => ⟨S32x128x256, .i1⟩
  | 58 => ⟨S4x4, .f32⟩
  | 59 => ⟨S32x4x4x128x256, .f32⟩
  | 60 => ⟨S32x128x256, .i32⟩
  | 61 => ⟨S32x128x256, .f32⟩
  | 62 => ⟨S32x4x4x128x256, .f32⟩
  | 63 => ⟨S32x4x4x128x256, .f32⟩
  | 64 => ⟨S32x4x4x128x256, .i1⟩
  | 65 => ⟨S32x4x4x128x256, .f32⟩
  | 66 => ⟨S_, .f32⟩
  | 67 => ⟨S32x4x4x128x256, .f32⟩
  | 68 => ⟨S32x4x4x128x256, .f32⟩
  | 69 => ⟨S_, .f32⟩
  | 70 => ⟨S32x4x4x128x256, .f32⟩
  | 71 => ⟨S_, .f32⟩
  | 72 => ⟨S32x4x4x128, .f32⟩
  | 73 => ⟨S32x4x4x128x1, .f32⟩
  | 74 => ⟨S32x4x4x128x256, .f32⟩
  | 75 => ⟨S32x4x4x128x256, .i1⟩
  | 76 => ⟨S32x4x4x128x256, .f32⟩
  | 77 => ⟨S_, .f32⟩
  | 78 => ⟨S32x4x4x128, .f32⟩
  | 79 => ⟨S32x4x4x128x256, .f32⟩
  | 80 => ⟨S32x4x4x128x256, .f32⟩
  | 81 => ⟨S32x4x4x128x256, .f32⟩
  | 82 => ⟨S_, .f32⟩
  | 83 => ⟨S32x4x4x128, .f32⟩
  | 84 => ⟨S32x4x64x4x128, .f32⟩
  | 85 => ⟨S32x128x4x4x64, .f32⟩
  | 86 => ⟨S32x128x4x4, .f32⟩
  | 87 => ⟨S32x128x4x4x64, .f32⟩
  | 88 => ⟨S32x128x4x4x64, .f32⟩
  | 89 => ⟨S32x128x4x4x64, .f32⟩
  | 90 => ⟨S_, .f32⟩
  | 91 => ⟨S32x128x4x4x64, .f32⟩
  | 92 => ⟨S32x128x4x4x64, .f32⟩
  | 93 => ⟨S32x4x4x128, .f32⟩
  | 94 => ⟨S32x4x4x128, .f32⟩
  | 95 => ⟨S2x16x128x4x4x64, .f32⟩
  | 96 => ⟨S2x128x16x4x4x64, .f32⟩
  | 97 => ⟨S4096x1024, .f32⟩
  | 98 => ⟨S32x128x4x4, .f32⟩
  | 99 => ⟨S2x16x128x4x4, .f32⟩
  | 100 => ⟨S2x128x16x4x4, .f32⟩
  | 101 => ⟨S4096x16, .f32⟩
  | 102 => ⟨S2x128x16x4x4x64, .f32⟩
  | 103 => ⟨S2x16x128x4x4x64, .f32⟩
  | 104 => ⟨S32x128x4x4x64, .f32⟩
  | 105 => ⟨S32x128x4x4x64, .f32⟩
  | 106 => ⟨S32x128x4x4x64, .f32⟩
  | 107 => ⟨S32x128x4x4x64, .f32⟩
  | 108 => ⟨S32x128x4x4x64, .f32⟩
  | 109 => ⟨S_, .f32⟩
  | 110 => ⟨S32x128x4x4, .f32⟩
  | 111 => ⟨S32x4x4x128, .f32⟩
  | 112 => ⟨S32x4x64x4x128, .f32⟩
  | 113 => ⟨S32x4x4x128x256, .f32⟩
  | 114 => ⟨S32x4x64x256, .f32⟩
  | 115 => ⟨S32x256x4x64, .f32⟩
  | 116 => ⟨S32x4x4x128x256, .f32⟩
  | 117 => ⟨S32x4x4x128x256, .f32⟩
  | 118 => ⟨S32x4x4x128x256, .f32⟩
  | 119 => ⟨S32x4x4x128x256, .f32⟩
  | 120 => ⟨S_, .f32⟩
  | 121 => ⟨S32x4x4x128, .f32⟩
  | 122 => ⟨S32x4x4x128, .f32⟩
  | 123 => ⟨S32x4x4x128x256, .f32⟩
  | 124 => ⟨S32x4x4x128x256, .f32⟩
  | 125 => ⟨S32x4x4x128x256, .f32⟩
  | 126 => ⟨S_, .f32⟩
  | 127 => ⟨S32x4x4x128x256, .f32⟩
  | _ => ⟨S4096x1024, .f32⟩

abbrev hbmTy0_1 (i : Nat) : BufTy := match i % 128 with
  | 0 => ⟨S32x4x4x128x256, .f32⟩
  | 1 => ⟨S32x4x256x128x4, .f32⟩
  | 2 => ⟨S32x4x128x4x64, .f32⟩
  | 3 => ⟨S32x128x4x4x64, .f32⟩
  | 4 => ⟨S32x4x256x64, .f32⟩
  | 5 => ⟨S32x256x4x64, .f32⟩
  | 6 => ⟨S32x128x4x64, .f32⟩
  | 7 => ⟨S32x128x4x64, .f32⟩
  | 8 => ⟨S16x128x4x64, .f32⟩
  | 9 => ⟨S16x128x4x64, .f32⟩
  | 10 => ⟨S_, .f32⟩
  | 11 => ⟨S32x128x4x64, .f32⟩
  | 12 => ⟨S32x128x4x64, .f32⟩
  | 13 => ⟨S2x16x128x4x64, .f32⟩
  | 14 => ⟨S2x128x16x4x64, .f32⟩
  | 15 => ⟨S4096x256, .f32⟩
  | 16 => ⟨S32x128x4x64, .f32⟩
  | 17 => ⟨S32x128x4x64, .f32⟩
  | 18 => ⟨S16x128x4x64, .f32⟩
  | 19 => ⟨S16x128x4x64, .f32⟩
  | 20 => ⟨S_, .f32⟩
  | 21 => ⟨S32x128x4x64, .f32⟩
  | 22 => ⟨S32x128x4x64, .f32⟩
  | 23 => ⟨S2x16x128x4x64, .f32⟩
  | 24 => ⟨S2x128x16x4x64, .f32⟩
  | 25 => ⟨S4096x256, .f32⟩
  | 26 => ⟨S2x16x128x4x4x64, .f32⟩
  | 27 => ⟨S2x128x16x4x4x64, .f32⟩
  | 28 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_c_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_8 : Ref sig .tc := ⟨.hbm, 66, rfl⟩
abbrev main_v52 : Ref sig .tc := ⟨.hbm, 67, rfl⟩
abbrev main_v53 : Ref sig .tc := ⟨.hbm, 68, rfl⟩
abbrev main_cst_9 : Ref sig .tc := ⟨.hbm, 69, rfl⟩
abbrev main_v54 : Ref sig .tc := ⟨.hbm, 70, rfl⟩
abbrev main_cst_10 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_11 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_13 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_14 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_cst_15 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_cst_16 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_cst_17 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_cst_18 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩

abbrev nD : Nat := 1
abbrev τ : Topo := Topo.v7x

variable {F : FTy → Type} [FloatOps F]
-- ==== Fwd.lean ====
abbrev S4096x1024 : Shape := ⟨2, ![4096, 1024]⟩
abbrev S4096x256 : Shape := ⟨2, ![4096, 256]⟩
abbrev S32x8x16x1024 : Shape := ⟨4, ![32, 8, 16, 1024]⟩
abbrev S32x16x8x1024 : Shape := ⟨4, ![32, 16, 8, 1024]⟩
abbrev S4096x512 : Shape := ⟨2, ![4096, 512]⟩
abbrev S32x8x16x512 : Shape := ⟨4, ![32, 8, 16, 512]⟩
abbrev S32x16x8x512 : Shape := ⟨4, ![32, 16, 8, 512]⟩
abbrev S32x16x8x128 : Shape := ⟨4, ![32, 16, 8, 128]⟩
abbrev S16x1x8x1024 : Shape := ⟨4, ![16, 1, 8, 1024]⟩
abbrev S16x1x8x512 : Shape := ⟨4, ![16, 1, 8, 512]⟩
abbrev S16x1x8x128 : Shape := ⟨4, ![16, 1, 8, 128]⟩
abbrev S32x128x256 : Shape := ⟨3, ![32, 128, 256]⟩
abbrev S128x256 : Shape := ⟨2, ![128, 256]⟩
abbrev S1x128x256 : Shape := ⟨3, ![1, 128, 256]⟩
abbrev S16x8x512 : Shape := ⟨3, ![16, 8, 512]⟩
abbrev S128x512 : Shape := ⟨2, ![128, 512]⟩
abbrev S256x512 : Shape := ⟨2, ![256, 512]⟩
abbrev S256x128 : Shape := ⟨2, ![256, 128]⟩
abbrev S128x128 : Shape := ⟨2, ![128, 128]⟩
abbrev S16x8x128 : Shape := ⟨3, ![16, 8, 128]⟩
abbrev S256x256 : Shape := ⟨2, ![256, 256]⟩
abbrev S256 : Shape := ⟨1, ![256]⟩
abbrev S256x1 : Shape := ⟨2, ![256, 1]⟩
abbrev S128x1 : Shape := ⟨2, ![128, 1]⟩
abbrev S4096x128 : Shape := ⟨2, ![4096, 128]⟩
abbrev S32x8x16x128 : Shape := ⟨4, ![32, 8, 16, 128]⟩
abbrev S4096x16 : Shape := ⟨2, ![4096, 16]⟩

abbrev nBuf : Space → Nat
  | .hbm => 24
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S32x8x16x1024, .f32⟩
  | .hbm, ⟨4, _⟩ => ⟨S32x16x8x1024, .f32⟩
  | .hbm, ⟨5, _⟩ => ⟨S4096x1024, .f32⟩
  | .hbm, ⟨6, _⟩ => ⟨S4096x512, .f32⟩
  | .hbm, ⟨7, _⟩ => ⟨S32x8x16x512, .f32⟩
  | .hbm, ⟨8, _⟩ => ⟨S32x16x8x512, .f32⟩
  | .hbm, ⟨9, _⟩ => ⟨S4096x512, .f32⟩
  | .hbm, ⟨10, _⟩ => ⟨S32x16x8x1024, .f32⟩
  | .hbm, ⟨11, _⟩ => ⟨S32x16x8x512, .f32⟩
  | .hbm, ⟨12, _⟩ => ⟨S32x16x8x512, .f32⟩
  | .hbm, ⟨13, _⟩ => ⟨S32x16x8x1024, .f32⟩
  | .hbm, ⟨14, _⟩ => ⟨S32x16x8x128, .f32⟩
  | .hbm, ⟨15, _⟩ => ⟨S4096x1024, .f32⟩
  | .hbm, ⟨16, _⟩ => ⟨S4096x128, .f32⟩
  | .hbm, ⟨17, _⟩ => ⟨S32x16x8x1024, .f32⟩
  | .hbm, ⟨18, _⟩ => ⟨S32x8x16x1024, .f32⟩
  | .hbm, ⟨19, _⟩ => ⟨S4096x1024, .f32⟩
  | .hbm, ⟨20, _⟩ => ⟨S32x16x8x128, .f32⟩
  | .hbm, ⟨21, _⟩ => ⟨S32x8x16x128, .f32⟩
  | .hbm, ⟨22, _⟩ => ⟨S4096x128, .f32⟩
  | .hbm, ⟨23, _⟩ => ⟨S4096x16, .f32⟩
  | .local _ .vmem, ⟨0, _⟩ => ⟨S16x1x8x1024, .f32⟩
  | .local _ .vmem, ⟨1, _⟩ => ⟨S16x1x8x1024, .f32⟩
  | .local _ .vmem, ⟨2, _⟩ => ⟨S16x1x8x512, .f32⟩
  | .local _ .vmem, ⟨3, _⟩ => ⟨S16x1x8x512, .f32⟩
  | .local _ .vmem, ⟨4, _⟩ => ⟨S16x1x8x512, .f32⟩
  | .local _ .vmem, ⟨5, _⟩ => ⟨S16x1x8x512, .f32⟩
  | .local _ .vmem, ⟨6, _⟩ => ⟨S16x1x8x1024, .f32⟩
  | .local _ .vmem, ⟨7, _⟩ => ⟨S16x1x8x1024, .f32⟩
  | .local _ .vmem, ⟨8, _⟩ => ⟨S16x1x8x128, .f32⟩
  | .local _ .vmem, ⟨9, _⟩ => ⟨S16x1x8x128, .f32⟩
  | .local _ .vmem, ⟨10, _⟩ => ⟨S32x128x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def k0_off1 (i : grid0.Coords) (c0_i32_26 : BitVec 32) : Fin 3 → Nat :=
  let arg1 : BitVec 32 := BitVec.ofNat 32 (i 1).val
  let c0_i32_24 : BitVec 32 := 0#32
  let v43 : BitVec 1 := Scalar.cmpi .eq arg1 c0_i32_24
  let c0_i32_25 : BitVec 32 := 0#32
  let c16_i32 : BitVec 32 := 16#32
  let v44 : BitVec 32 := Scalar.select v43 c0_i32_25 c16_i32
  let v45 : BitVec 32 := Scalar.addi v44 c0_i32_26
  let v46 : Index := Scalar.indexCast v45
  let c0_27 : Index := 0#32
  let c0_28 : Index := 0#32
  ![v46.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S16x1x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdIdeal.lean ====
variable {F : FTy → Type} [FloatOps F] [Named F]
def κ : String → Option EReal := fun
  | "mask" => some ⊥
  | "slope0" => some (((Real.sqrt 2)⁻¹ : ℝ) : EReal)
  | "slope10" => some (((Real.sqrt 2048)⁻¹ : ℝ) : EReal)
  | "slope12" => some (((Real.sqrt 8192)⁻¹ : ℝ) : EReal)
  | "slope14" => some (((Real.sqrt 32768)⁻¹ : ℝ) : EReal)
  | "slope2" => some (((Real.sqrt 8)⁻¹ : ℝ) : EReal)
  | "slope4" => some (((Real.sqrt 32)⁻¹ : ℝ) : EReal)
  | "slope6" => some (((Real.sqrt 128)⁻¹ : ℝ) : EReal)
  | "slope8" => some (((Real.sqrt 512)⁻¹ : ℝ) : EReal)
  | _ => none
-- ==== FwdRefIdeal.lean ====
abbrev S4096x1024 : Shape := ⟨2, ![4096, 1024]⟩
abbrev S4096x256 : Shape := ⟨2, ![4096, 256]⟩
abbrev S16 : Shape := ⟨1, ![16]⟩
abbrev S_ : Shape := ⟨0, ![]⟩
abbrev S4x4 : Shape := ⟨2, ![4, 4]⟩
abbrev S2x128x16x4x4x64 : Shape := ⟨6, ![2, 128, 16, 4, 4, 64]⟩
abbrev S2x16x128x4x4x64 : Shape := ⟨6, ![2, 16, 128, 4, 4, 64]⟩
abbrev S32x128x4x4x64 : Shape := ⟨5, ![32, 128, 4, 4, 64]⟩
abbrev S2x128x16x4x64 : Shape := ⟨5, ![2, 128, 16, 4, 64]⟩
abbrev S2x16x128x4x64 : Shape := ⟨5, ![2, 16, 128, 4, 64]⟩
abbrev S32x128x4x64 : Shape := ⟨4, ![32, 128, 4, 64]⟩
abbrev S16x128x4x64 : Shape := ⟨4, ![16, 128, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S32x128x256 : Shape := ⟨3, ![32, 128, 256]⟩
abbrev S32x4x4x128 : Shape := ⟨4, ![32, 4, 4, 128]⟩
abbrev S32x4x64x4x128 : Shape := ⟨5, ![32, 4, 64, 4, 128]⟩
abbrev S32x128x4x4 : Shape := ⟨4, ![32, 128, 4, 4]⟩
abbrev S2x16x128x4x4 : Shape := ⟨5, ![2, 16, 128, 4, 4]⟩
abbrev S2x128x16x4x4 : Shape := ⟨5, ![2, 128, 16, 4, 4]⟩
abbrev S4096x16 : Shape := ⟨2, ![4096, 16]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S16, .f32⟩
  | .hbm, ⟨4, _⟩ => ⟨S_, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S4x4, .f32⟩
  | .hbm, ⟨14, _⟩ => ⟨S2x128x16x4x4x64, .f32⟩
  | .hbm, ⟨15, _⟩ => ⟨S2x16x128x4x4x64, .f32⟩
  | .hbm, ⟨16, _⟩ => ⟨S32x128x4x4x64, .f32⟩
  | .hbm, ⟨17, _⟩ => ⟨S2x128x16x4x64, .f32⟩
  | .hbm, ⟨18, _⟩ => ⟨S2x16x128x4x64, .f32⟩
  | .hbm, ⟨19, _⟩ => ⟨S32x128x4x64, .f32⟩
  | .hbm, ⟨20, _⟩ => ⟨S_, .f32⟩
  | .hbm, ⟨21, _⟩ => ⟨S16x128x4x64, .f32⟩
  | .hbm, ⟨22, _⟩ => ⟨S16x128x4x64, .f32⟩
  | .hbm, ⟨23, _⟩ => ⟨S32x128x4x64, .f32⟩
  | .hbm, ⟨24, _⟩ => ⟨S32x256x4x64, .f32⟩
  | .hbm, ⟨25, _⟩ => ⟨S2x128x16x4x64, .f32⟩
  | .hbm, ⟨26, _⟩ => ⟨S2x16x128x4x64, .f32⟩
  | .hbm, ⟨27, _⟩ => ⟨S32x128x4x64, .f32⟩
  | .hbm, ⟨28, _⟩ => ⟨S_, .f32⟩
  | .hbm, ⟨29, _⟩ => ⟨S16x128x4x64, .f32⟩
  | .hbm, ⟨30, _⟩ => ⟨S16x128x4x64, .f32⟩
  | .hbm, ⟨31, _⟩ => ⟨S32x128x4x64, .f32⟩
  | .hbm, ⟨32, _⟩ => ⟨S32x256x4x64, .f32⟩
  | .hbm, ⟨33, _⟩ => ⟨S32x4x256x128x4, .f32⟩
  | .hbm, ⟨34, _⟩ => ⟨S32x4x4x128x256, .f32⟩
  | .hbm, ⟨35, _⟩ => ⟨S32x128x256, .i32⟩
  | .hbm, ⟨36, _⟩ => ⟨S32x128x256, .i32⟩
  | .hbm, ⟨37, _⟩ => ⟨S32x128x256, .i32⟩
  | .hbm, ⟨38, _⟩ => ⟨S_, .i32⟩
  | .hbm, ⟨39, _⟩ => ⟨S32x128x256, .i32⟩
  | .hbm, ⟨40, _⟩ => ⟨S_, .i32⟩
  | .hbm, ⟨41, _⟩ => ⟨S32x128x256, .i32⟩
  | .hbm, ⟨42, _⟩ => ⟨S_, .i32⟩
  | .hbm, ⟨43, _⟩ => ⟨S32x128x256, .i32⟩
  | .hbm, ⟨44, _⟩ => ⟨S32x128x256, .i32⟩
  | .hbm, ⟨45, _⟩ => ⟨S32x128x256, .i32⟩
  | .hbm, ⟨46, _⟩ => ⟨S32x128x256, .i1⟩
  | .hbm, ⟨47, _⟩ => ⟨S32x128x256, .i1⟩
  | .hbm, ⟨48, _⟩ => ⟨S32x128x256, .i1⟩
  | .hbm, ⟨49, _⟩ => ⟨S32x128x256, .i1⟩
  | .hbm, ⟨50, _⟩ => ⟨S32x128x256, .i1⟩
  | .hbm, ⟨51, _⟩ => ⟨S32x128x256, .i1⟩
  | .hbm, ⟨52, _⟩ => ⟨S32x128x256, .i1⟩
  | .hbm, ⟨53, _⟩ => ⟨S4x4, .f32⟩
  | .hbm, ⟨54, _⟩ => ⟨S32x4x4x128x256, .f32⟩
  | .hbm, ⟨55, _⟩ => ⟨S32x128x256, .i32⟩
  | .hbm, ⟨56, _⟩ => ⟨S32x128x256, .f32⟩
  | .hbm, ⟨57, _⟩ => ⟨S32x4x4x128x256, .f32⟩
  | .hbm, ⟨58, _⟩ => ⟨S32x4x4x128x256, .f32⟩
  | .hbm, ⟨59, _⟩ => ⟨S32x4x4x128x256, .i1⟩
  | .hbm, ⟨60, _⟩ => ⟨S32x4x4x128x256, .f32⟩
  | .hbm, ⟨61, _⟩ => ⟨S_, .f32⟩
  | .hbm, ⟨62, _⟩ => ⟨S32x4x4x128x256, .f32⟩
  | .hbm, ⟨63, _⟩ => ⟨S32x4x4x128x256, .f32⟩
  | .hbm, ⟨64, _⟩ => ⟨S_, .f32⟩
  | .hbm, ⟨65, _⟩ => ⟨S32x4x4x128, .f32⟩
  | .hbm, ⟨66, _⟩ => ⟨S32x4x4x128x256, .f32⟩
  | .hbm, ⟨67, _⟩ => ⟨S32x4x4x128x256, .f32⟩
  | .hbm, ⟨68, _⟩ => ⟨S32x4x4x128x256, .f32⟩
  | .hbm, ⟨69, _⟩ => ⟨S_, .f32⟩
  | .hbm, ⟨70, _⟩ => ⟨S32x4x4x128, .f32⟩
  | .hbm, ⟨71, _⟩ => ⟨S32x4x64x4x128, .f32⟩
  | .hbm, ⟨72, _⟩ => ⟨S32x128x4x4x64, .f32⟩
  | .hbm, ⟨73, _⟩ => ⟨S32x128x4x4, .f32⟩
  | .hbm, ⟨74, _⟩ => ⟨S32x128x4x4x64, .f32⟩
  | .hbm, ⟨75, _⟩ => ⟨S32x128x4x4x64, .f32⟩
  | .hbm, ⟨76, _⟩ => ⟨S32x4x4x128, .f32⟩
  | .hbm, ⟨77, _⟩ => ⟨S32x4x4x128, .f32⟩
  | .hbm, ⟨78, _⟩ => ⟨S2x16x128x4x4x64, .f32⟩
  | .hbm, ⟨79, _⟩ => ⟨S2x128x16x4x4x64, .f32⟩
  | .hbm, ⟨80, _⟩ => ⟨S4096x1024, .f32⟩
  | .hbm, ⟨81, _⟩ => ⟨S32x128x4x4, .f32⟩
  | .hbm, ⟨82, _⟩ => ⟨S2x16x128x4x4, .f32⟩
  | .hbm, ⟨83, _⟩ => ⟨S2x128x16x4x4, .f32⟩
  | .hbm, ⟨84, _⟩ => ⟨S4096x16, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c : Ref sig .tc := ⟨.hbm, 38, rfl⟩
abbrev main_v30 : Ref sig .tc := ⟨.hbm, 39, rfl⟩
abbrev main_c_4 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_6 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_cst_8 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩

abbrev nD : Nat := 1
abbrev τ : Topo := Topo.v7x

variable {F : FTy → Type} [FloatOps F]
-- ==== Rms.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S128x128 : Shape := ⟨2, ![128, 128]⟩
abbrev S128x1024 : Shape := ⟨2, ![128, 1024]⟩
abbrev S32x16x8x1024 : Shape := ⟨4, ![32, 16, 8, 1024]⟩
abbrev S32x8x16x1024 : Shape := ⟨4, ![32, 8, 16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S4096x1024, .bf16⟩
  | .hbm, ⟨4, _⟩ => ⟨S32x16x8x1024, .bf16⟩
  | .hbm, ⟨5, _⟩ => ⟨S32x8x16x1024, .bf16⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsRefIdeal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Gw.lean ====
abbrev S4096x3072 : Shape := ⟨2, ![4096, 3072]⟩
abbrev S4096x1024 : Shape := ⟨2, ![4096, 1024]⟩
abbrev S448x1024 : Shape := ⟨2, ![448, 1024]⟩
abbrev S3520x1024 : Shape := ⟨2, ![3520, 1024]⟩
abbrev S512x3072 : Shape := ⟨2, ![512, 3072]⟩
abbrev S512x1024 : Shape := ⟨2, ![512, 1024]⟩
abbrev S3072x1024 : Shape := ⟨2, ![3072, 1024]⟩
abbrev S512x512 : Shape := ⟨2, ![512, 512]⟩

abbrev nBuf : Space → Nat
  | .hbm => 7
  | .vmem => 7
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S448x1024, .f32⟩
  | .hbm, ⟨3, _⟩ => ⟨S4096x3072, .bf16⟩
  | .hbm, ⟨4, _⟩ => ⟨S4096x1024, .bf16⟩
  | .hbm, ⟨5, _⟩ => ⟨S448x1024, .bf16⟩
  | .hbm, ⟨6, _⟩ => ⟨S3520x1024, .bf16⟩
  | .local _ .vmem, ⟨0, _⟩ => ⟨S512x3072, .bf16⟩
  | .local _ .vmem, ⟨1, _⟩ => ⟨S512x3072, .bf16⟩
  | .local _ .vmem, ⟨2, _⟩ => ⟨S512x1024, .bf16⟩
  | .local _ .vmem, ⟨3, _⟩ => ⟨S512x1024, .bf16⟩
  | .local _ .vmem, ⟨4, _⟩ => ⟨S448x1024, .bf16⟩
  | .local _ .vmem, ⟨5, _⟩ => ⟨S3520x1024, .bf16⟩
  | .local _ .vmem, ⟨6, _⟩ => ⟨S3072x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v53 : BitVec 1 := Scalar.cmpi .eq arg0 c7_i32
  let v54 : BitVec 32 := Scalar.extui v53
  let c0_i32_38 : BitVec 32 := 0#32
  let v55 : BitVec 1 := Scalar.cmpi .ne v54 c0_i32_38
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S448x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3520x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== GwRefIdeal.lean ====
abbrev S4096x3072 : Shape := ⟨2, ![4096, 3072]⟩
abbrev S4096x1024 : Shape := ⟨2, ![4096, 1024]⟩
abbrev S448x1024 : Shape := ⟨2, ![448, 1024]⟩
abbrev S_ : Shape := ⟨0, ![]⟩
abbrev S1024x3072 : Shape := ⟨2, ![1024, 3072]⟩
abbrev S3072x1024 : Shape := ⟨2, ![3072, 1024]⟩
abbrev S3520x1024 : Shape := ⟨2, ![3520, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S448x1024, .f32⟩
  | .hbm, ⟨3, _⟩ => ⟨S_, .f32⟩
  | .hbm, ⟨4, _⟩ => ⟨S1024x3072, .f32⟩
  | .hbm, ⟨5, _⟩ => ⟨S4096x3072, .f32⟩
  | .hbm, ⟨6, _⟩ => ⟨S3072x1024, .f32⟩
  | .hbm, ⟨7, _⟩ => ⟨S1024x3072, .f32⟩
  | .hbm, ⟨8, _⟩ => ⟨S3072x1024, .f32⟩
  | .hbm, ⟨9, _⟩ => ⟨S3520x1024, .f32⟩
  | .hbm, ⟨10, _⟩ => ⟨S3520x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Adam.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .bf16⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let v_true : BitVec 1 := 1#1
  let c0_i32 : BitVec 32 := 0#32
  let v0 : BitVec 32 := Scalar.select v_true arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Small.lean ====
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S3x1024 : Shape := ⟨2, ![3, 1024]⟩
abbrev S8x2x1024 : Shape := ⟨3, ![8, 2, 1024]⟩
abbrev S8x8x1024 : Shape := ⟨3, ![8, 8, 1024]⟩
abbrev S8x1024 : Shape := ⟨2, ![8, 1024]⟩
abbrev S5x1024 : Shape := ⟨2, ![5, 1024]⟩
abbrev S1x8x1024 : Shape := ⟨3, ![1, 8, 1024]⟩

abbrev nBuf : Space → Nat
  | .hbm => 72
  | .vmem => 8
  | .smem => 0
  | _ => 0

abbrev bufTy : (tb : Table) → Fin (tcTables nBuf tb) → BufTy
  | .hbm, ⟨0, _⟩ => ⟨S8x1x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1024, .f32⟩
  | .hbm, ⟨21, _⟩ => ⟨S_, .f32⟩
  | .hbm, ⟨22, _⟩ => ⟨S3x1024, .f32⟩
  | .hbm, ⟨23, _⟩ => ⟨S_, .f32⟩
  | .hbm, ⟨24, _⟩ => ⟨S8x2x1024, .f32⟩
  | .hbm, ⟨25, _⟩ => ⟨S8x8x1024, .f32⟩
  | .hbm, ⟨26, _⟩ => ⟨S1x1024, .f32⟩
  | .hbm, ⟨27, _⟩ => ⟨S8x1024, .f32⟩
  | .hbm, ⟨28, _⟩ => ⟨S1x1024, .f32⟩
  | .hbm, ⟨29, _⟩ => ⟨S8x1024, .f32⟩
  | .hbm, ⟨30, _⟩ => ⟨S1x1024, .f32⟩
  | .hbm, ⟨31, _⟩ => ⟨S8x1024, .f32⟩
  | .hbm, ⟨32, _⟩ => ⟨S_, .f32⟩
  | .hbm, ⟨33, _⟩ => ⟨S5x1024, .f32⟩
  | .hbm, ⟨34, _⟩ => ⟨S_, .f32⟩
  | .hbm, ⟨35, _⟩ => ⟨S3x1024, .f32⟩
  | .hbm, ⟨36, _⟩ => ⟨S8x1024, .f32⟩
  | .hbm, ⟨37, _⟩ => ⟨S8x1024, .f32⟩
  | .hbm, ⟨38, _⟩ => ⟨S8x1024, .f32⟩
  | .hbm, ⟨39, _⟩ => ⟨S8x1024, .f32⟩
  | .hbm, ⟨40, _⟩ => ⟨S8x1024, .f32⟩
  | .hbm, ⟨41, _⟩ => ⟨S8x1024, .f32⟩
  | .hbm, ⟨42, _⟩ => ⟨S1x1024, .f32⟩
  | .hbm, ⟨43, _⟩ => ⟨S1024, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1024, .f32⟩
  | .hbm, ⟨66, _⟩ => ⟨S1x1024, .f32⟩
  | .hbm, ⟨67, _⟩ => ⟨S1x1024, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1024, .f32⟩
  | .local _ .vmem, ⟨0, _⟩ => ⟨S8x8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst_1 : Ref sig .tc := ⟨.hbm, 32, rfl⟩
abbrev main_v9 : Ref sig .tc := ⟨.hbm, 33, rfl⟩
abbrev main_cst_2 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13_0 : Ref sig .tc := ⟨.hbm, 38, rfl⟩
abbrev main_v13_1 : Ref sig .tc := ⟨.hbm, 39, rfl⟩
abbrev main_v13_2 : Ref sig .tc := ⟨.hbm, 40, rfl⟩
abbrev main_v13_3 : Ref sig .tc := ⟨.hbm, 41, rfl⟩
abbrev main_v14 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_cst_4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let v_true : BitVec 1 := 1#1
  let c0_i32 : BitVec 32 := 0#32
  let v0 : BitVec 32 := Scalar.select v_true arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SmallRefIdeal.lean ====
abbrev S8x1x1024 : Shape := ⟨3, ![8, 1, 1024]⟩
abbrev S1x1024 : Shape := ⟨2, ![1, 1024]⟩
abbrev S1024 : Shape := ⟨1, ![1024]⟩
abbrev S_ : Shape := ⟨0, ![]⟩

abbrev nBuf : Space → Nat
  | .hbm => 204
  | .vmem => 0
  | .smem => 0
  | _ => 0

abbrev hbmTy0_0 (i : Nat) : BufTy := match i % 128 with
  | 0 => ⟨S8x1x1024, .f32⟩
  | 1 => ⟨S8x1x1024, .f32⟩
  | 2 => ⟨S8x1x1024, .f32⟩
  | 3 => ⟨S8x1x1024, .f32⟩
  | 4 => ⟨S8x1x1024, .f32⟩
  | 5 => ⟨S8x1x1024, .f32⟩
  | 6 => ⟨S1x1024, .f32⟩
  | 7 => ⟨S1x1024, .f32⟩
  | 8 => ⟨S1x1024, .f32⟩
  | 9 => ⟨S1x1024, .f32⟩
  | 10 => ⟨S1024, .f32⟩
  | 11 => ⟨S1x1024, .f32⟩
  | 12 => ⟨S1x1024, .f32⟩
  | 13 => ⟨S1x1024, .f32⟩
  | 14 => ⟨S1x1024, .f32⟩
  | 15 => ⟨S1024, .f32⟩
  | 16 => ⟨S1x1024, .f32⟩
  | 17 => ⟨S1x1024, .f32⟩
  | 18 => ⟨S1x1024, .f32⟩
  | 19 => ⟨S1x1024, .f32⟩
  | 20 => ⟨S1024, .f32⟩
  | 21 => ⟨S_, .f32⟩
  | 22 => ⟨S1x1024, .f32⟩
  | 23 => ⟨S1024, .f32⟩
  | 24 => ⟨S_, .f32⟩
  | 25 => ⟨S_, .f32⟩
  | 26 => ⟨S_, .f32⟩
  | 27 => ⟨S_, .f32⟩
  | 28 => ⟨S_, .f32⟩
  | 29 => ⟨S1x1024, .f32⟩
  | 30 => ⟨S_, .f32⟩
  | 31 => ⟨S1x1024, .f32⟩
  | 32 => ⟨S_, .f32⟩
  | 33 => ⟨S1x1024, .f32⟩
  | 34 => ⟨S_, .f32⟩
  | 35 => ⟨S1x1024, .f32⟩
  | 36 => ⟨S_, .f32⟩
  | 37 => ⟨S1x1024, .f32⟩
  | 38 => ⟨S1024, .f32⟩
  | 39 => ⟨S_, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S1x1024, .f32⟩
  | 83 => ⟨S_, .f32⟩
  | 84 => ⟨S1x1024, .f32⟩
  | 85 => ⟨S1x1024, .f32⟩
  | 86 => ⟨S1x1024, .f32⟩
  | 87 => ⟨S_, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S1x1024, .f32⟩
  | 98 => ⟨S_, .f32⟩
  | 99 => ⟨S1x1024, .f32⟩
  | 100 => ⟨S1x1024, .f32⟩
  | 101 => ⟨S1x1024, .f32⟩
  | 102 => ⟨S_, .f32⟩
  | 103 => ⟨S1x1024, .f32⟩
  | 104 => ⟨S1x1024, .f32⟩
  | 105 => ⟨S_, .f32⟩
  | 106 => ⟨S1x1024, .f32⟩
  | 107 => ⟨S1x1024, .f32⟩
  | 108 => ⟨S_, .f32⟩
  | 109 => ⟨S1x1024, .f32⟩
  | 110 => ⟨S1x1024, .f32⟩
  | 111 => ⟨S1x1024, .f32⟩
  | 112 => ⟨S_, .f32⟩
  | 113 => ⟨S1x1024, .f32⟩
  | 114 => ⟨S1x1024, .f32⟩
  | 115 => ⟨S1x1024, .f32⟩
  | 116 => ⟨S_, .f32⟩
  | 117 => ⟨S1x1024, .f32⟩
  | 118 => ⟨S1x1024, .f32⟩
  | 119 => ⟨S1x1024, .f32⟩
  | 120 => ⟨S_, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S8x1x1024, .f32⟩

abbrev hbmTy0_1 (i : Nat) : BufTy := match i % 128 with
  | 0 => ⟨S1x1024, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S_, .f32⟩
  | 14 => ⟨S1x1024, .f32⟩
  | 15 => ⟨S1x1024, .f32⟩
  | 16 => ⟨S1x1024, .f32⟩
  | 17 => ⟨S_, .f32⟩
  | 18 => ⟨S1x1024, .f32⟩
  | 19 => ⟨S1x1024, .f32⟩
  | 20 => ⟨S1x1024, .f32⟩
  | 21 => ⟨S_, .f32⟩
  | 22 => ⟨S1x1024, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S_, .f32⟩
  | 44 => ⟨S1024, .f32⟩
  | 45 => ⟨S1024, .f32⟩
  | 46 => ⟨S_, .f32⟩
  | 47 => ⟨S1024, .f32⟩
  | 48 => ⟨S1024, .f32⟩
  | 49 => ⟨S1024, .f32⟩
  | 50 => ⟨S_, .f32⟩
  | 51 => ⟨S1024, .f32⟩
  | 52 => ⟨S1024, .f32⟩
  | 53 => ⟨S1024, .f32⟩
  | 54 => ⟨S_, .f32⟩
  | 55 => ⟨S1024, .f32⟩
  | 56 => ⟨S1024, .f32⟩
  | 57 => ⟨S1024, .f32⟩
  | 58 => ⟨S_, .f32⟩
  | 59 => ⟨S1024, .f32⟩
  | 60 => ⟨S1024, .f32⟩
  | 61 => ⟨S_, .f32⟩
  | 62 => ⟨S1024, .f32⟩
  | 63 => ⟨S1024, .f32⟩
  | 64 => ⟨S1024, .f32⟩
  | 65 => ⟨S_, .f32⟩
  | 66 => ⟨S1024, .f32⟩
  | 67 => ⟨S1024, .f32⟩
  | 68 => ⟨S1024, .f32⟩
  | 69 => ⟨S_, .f32⟩
  | 70 => ⟨S1024, .f32⟩
  | 71 => ⟨S1024, .f32⟩
  | 72 => ⟨S1024, .f32⟩
  | 73 => ⟨S_, .f32⟩
  | 74 => ⟨S1024, .f32⟩
  | 75 => ⟨S1024, .f32⟩
  | _ => ⟨S8x1x1024, .f32⟩

abbrev hbmTy (i : Nat) : BufTy := match i / 128 with
  | 0 => hbmTy0_0 i
  | 1 => hbmTy0_1 i
  | _ => ⟨S8x1x1024, .f32⟩

abbrev bufTy : (tb : Table) → Fin (tcTables nBuf tb) → BufTy
  | .hbm, ⟨i, _⟩ => hbmTy i
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_v1 : Ref sig .tc := ⟨.hbm, 23, rfl⟩
abbrev main_cst_0 : Ref sig .tc := ⟨.hbm, 24, rfl⟩
abbrev main_v2 : Ref sig .tc := ⟨.hbm, 25, rfl⟩
abbrev main_cst_1 : Ref sig .tc := ⟨.hbm, 26, rfl⟩
abbrev main_v3 : Ref sig .tc := ⟨.hbm, 27, rfl⟩
abbrev main_cst_2 : Ref sig .tc := ⟨.hbm, 28, rfl⟩
abbrev main_v4 : Ref sig .tc := ⟨.hbm, 29, rfl⟩
abbrev main_cst_3 : Ref sig .tc := ⟨.hbm, 30, rfl⟩
abbrev main_v5 : Ref sig .tc := ⟨.hbm, 31, rfl⟩
abbrev main_cst_4 : Ref sig .tc := ⟨.hbm, 32, rfl⟩
abbrev main_v6 : Ref sig .tc := ⟨.hbm, 33, rfl⟩
abbrev main_cst_5 : Ref sig .tc := ⟨.hbm, 34, rfl⟩
abbrev main_v7 : Ref sig .tc := ⟨.hbm, 35, rfl⟩
abbrev main_cst_6 : Ref sig .tc := ⟨.hbm, 36, rfl⟩
abbrev main_v8 : Ref sig .tc := ⟨.hbm, 37, rfl⟩
abbrev main_v9 : Ref sig .tc := ⟨.hbm, 38, rfl⟩
abbrev main_cst_7 : Ref sig .tc := ⟨.hbm, 39, rfl⟩
abbrev main_v10 : Ref sig .tc := ⟨.hbm, 40, rfl⟩
abbrev main_v11 : Ref sig .tc := ⟨.hbm, 41, rfl⟩
abbrev main_cst_8 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst_9 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_cst_10 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_cst_11 : Ref sig .tc := ⟨.hbm, 54, rfl⟩
abbrev main_v21 : Ref sig .tc := ⟨.hbm, 55, rfl⟩
abbrev main_v22 : Ref sig .tc := ⟨.hbm, 56, rfl⟩
abbrev main_cst_12 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_13 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_14 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_15 : Ref sig .tc := ⟨.hbm, 69, rfl⟩
abbrev main_v32 : Ref sig .tc := ⟨.hbm, 70, rfl⟩
abbrev main_v33 : Ref sig .tc := ⟨.hbm, 71, rfl⟩
abbrev main_cst_16 : Ref sig .tc := ⟨.hbm, 72, rfl⟩
abbrev main_v34 : Ref sig .tc := ⟨.hbm, 73, rfl⟩
abbrev main_v35 : Ref sig .tc := ⟨.hbm, 74, rfl⟩
abbrev main_cst_17 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_cst_18 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_cst_19 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_cst_20 : Ref sig .tc := ⟨.hbm, 87, rfl⟩
abbrev main_v45 : Ref sig .tc := ⟨.hbm, 88, rfl⟩
abbrev main_v46 : Ref sig .tc := ⟨.hbm, 89, rfl⟩
abbrev main_cst_21 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_cst_22 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_23 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_24 : Ref sig .tc := ⟨.hbm, 102, rfl⟩
abbrev main_v56 : Ref sig .tc := ⟨.hbm, 103, rfl⟩
abbrev main_v57 : Ref sig .tc := ⟨.hbm, 104, rfl⟩
abbrev main_cst_25 : Ref sig .tc := ⟨.hbm, 105, rfl⟩
abbrev main_v58 : Ref sig .tc := ⟨.hbm, 106, rfl⟩
abbrev main_v59 : Ref sig .tc := ⟨.hbm, 107, rfl⟩
abbrev main_cst_26 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_27 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_cst_28 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_cst_29 : Ref sig .tc := ⟨.hbm, 120, rfl⟩
abbrev main_v69 : Ref sig .tc := ⟨.hbm, 121, rfl⟩
abbrev main_v70 : Ref sig .tc := ⟨.hbm, 122, rfl⟩
abbrev main_cst_30 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_31 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_cst_32 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_cst_33 : Ref sig .tc := ⟨.hbm, 135, rfl⟩
abbrev main_v80 : Ref sig .tc := ⟨.hbm, 136, rfl⟩
abbrev main_v81 : Ref sig .tc := ⟨.hbm, 137, rfl⟩
abbrev main_cst_34 : Ref sig .tc := ⟨.hbm, 138, rfl⟩
abbrev main_v82 : Ref sig .tc := ⟨.hbm, 139, rfl⟩
abbrev main_v83 : Ref sig .tc := ⟨.hbm, 140, rfl⟩
abbrev main_cst_35 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_36 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_cst_37 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_38 : Ref sig .tc := ⟨.hbm, 153, rfl⟩
abbrev main_v93 : Ref sig .tc := ⟨.hbm, 154, rfl⟩
abbrev main_v94 : Ref sig .tc := ⟨.hbm, 155, rfl⟩
abbrev main_cst_39 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_cst_40 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_cst_41 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_cst_42 : Ref sig .tc := ⟨.hbm, 168, rfl⟩
abbrev main_v104 : Ref sig .tc := ⟨.hbm, 169, rfl⟩
abbrev main_v105 : Ref sig .tc := ⟨.hbm, 170, rfl⟩
abbrev main_cst_43 : Ref sig .tc := ⟨.hbm, 171, rfl⟩
abbrev main_v106 : Ref sig .tc := ⟨.hbm, 172, rfl⟩
abbrev main_v107 : Ref sig .tc := ⟨.hbm, 173, rfl⟩
abbrev main_cst_44 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_cst_45 : Ref sig .tc := ⟨.hbm, 178, rfl⟩
abbrev main_v111 : Ref sig .tc := ⟨.hbm, 179, rfl⟩
abbrev main_v112 : Ref sig .tc := ⟨.hbm, 180, rfl⟩
abbrev main_v113 : Ref sig .tc := ⟨.hbm, 181, rfl⟩
abbrev main_cst_46 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_cst_47 : Ref sig .tc := ⟨.hbm, 186, rfl⟩
abbrev main_v117 : Ref sig .tc := ⟨.hbm, 187, rfl⟩
abbrev main_v118 : Ref sig .tc := ⟨.hbm, 188, rfl⟩
abbrev main_cst_48 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_cst_49 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_cst_50 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_cst_51 : Ref sig .tc := ⟨.hbm, 201, rfl⟩
abbrev main_v128 : Ref sig .tc := ⟨.hbm, 202, rfl⟩
abbrev main_v129 : Ref sig .tc := ⟨.hbm, 203, rfl⟩

abbrev nD : Nat := 1
abbrev τ : Topo := Topo.v7x

variable {F : FTy → Type} [FloatOps F]
-- ==== Cw.lean ====
abbrev S8x31x128 : Shape := ⟨3, ![8, 31, 128]⟩
abbrev S31x128 : Shape := ⟨2, ![31, 128]⟩
abbrev S1x31x128 : Shape := ⟨3, ![1, 31, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S31x128, .f32⟩
  | .hbm, ⟨5, _⟩ => ⟨S31x128, .f32⟩
  | .hbm, ⟨6, _⟩ => ⟨S31x128, .f32⟩
  | .hbm, ⟨7, _⟩ => ⟨S31x128, .f32⟩
  | .local _ .vmem, ⟨0, _⟩ => ⟨S8x31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | .local _ .vmem, ⟨7, _⟩ => ⟨S31x128, .f32⟩
  | _, _ => ⟨S8x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let v_true : BitVec 1 := 1#1
  let c0_i32 : BitVec 32 := 0#32
  let v0 : BitVec 32 := Scalar.select v_true arg0 c0_i32
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S31x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== CwRefIdeal.lean ====
abbrev S8x31x128 : Shape := ⟨3, ![8, 31, 128]⟩
abbrev S31x128 : Shape := ⟨2, ![31, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S_, .f32⟩
  | .hbm, ⟨5, _⟩ => ⟨S31x128, .f32⟩
  | .hbm, ⟨6, _⟩ => ⟨S_, .f32⟩
  | .hbm, ⟨7, _⟩ => ⟨S31x128, .f32⟩
  | .hbm, ⟨8, _⟩ => ⟨S31x128, .f32⟩
  | .hbm, ⟨9, _⟩ => ⟨S_, .f32⟩
  | .hbm, ⟨10, _⟩ => ⟨S31x128, .f32⟩
  | .hbm, ⟨11, _⟩ => ⟨S31x128, .f32⟩
  | .hbm, ⟨12, _⟩ => ⟨S31x128, .f32⟩
  | .hbm, ⟨13, _⟩ => ⟨S_, .f32⟩
  | .hbm, ⟨14, _⟩ => ⟨S31x128, .f32⟩
  | .hbm, ⟨15, _⟩ => ⟨S31x128, .f32⟩
  | .hbm, ⟨16, _⟩ => ⟨S31x128, .f32⟩
  | .hbm, ⟨17, _⟩ => ⟨S_, .f32⟩
  | .hbm, ⟨18, _⟩ => ⟨S31x128, .f32⟩
  | .hbm, ⟨19, _⟩ => ⟨S31x128, .f32⟩
  | .hbm, ⟨20, _⟩ => ⟨S31x128, .f32⟩
  | .hbm, ⟨21, _⟩ => ⟨S_, .f32⟩
  | .hbm, ⟨22, _⟩ => ⟨S31x128, .f32⟩
  | .hbm, ⟨23, _⟩ => ⟨S31x128, .f32⟩
  | .hbm, ⟨24, _⟩ => ⟨S_, .f32⟩
  | .hbm, ⟨25, _⟩ => ⟨S31x128, .f32⟩
  | .hbm, ⟨26, _⟩ => ⟨S31x128, .f32⟩
  | .hbm, ⟨27, _⟩ => ⟨S31x128, .f32⟩
  | .hbm, ⟨28, _⟩ => ⟨S_, .f32⟩
  | .hbm, ⟨29, _⟩ => ⟨S31x128, .f32⟩
  | .hbm, ⟨30, _⟩ => ⟨S31x128, .f32⟩
  | .hbm, ⟨31, _⟩ => ⟨S31x128, .f32⟩
  | .hbm, ⟨32, _⟩ => ⟨S_, .f32⟩
  | .hbm, ⟨33, _⟩ => ⟨S31x128, .f32⟩
  | .hbm, ⟨34, _⟩ => ⟨S31x128, .f32⟩
  | .hbm, ⟨35, _⟩ => ⟨S31x128, .f32⟩
  | .hbm, ⟨36, _⟩ => ⟨S_, .f32⟩
  | .hbm, ⟨37, _⟩ => ⟨S31x128, .f32⟩
  | .hbm, ⟨38, _⟩ => ⟨S31x128, .f32⟩
  | _, _ => ⟨S8x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Gout.lean ====
abbrev S4096x1024 : Shape := ⟨2, ![4096, 1024]⟩
abbrev S32x8x16x1024 : Shape := ⟨4, ![32, 8, 16, 1024]⟩
abbrev S32x16x8x1024 : Shape := ⟨4, ![32, 16, 8, 1024]⟩
abbrev S2048x1024 : Shape := ⟨2, ![2048, 1024]⟩
abbrev S512x1024 : Shape := ⟨2, ![512, 1024]⟩
abbrev S1024x1024 : Shape := ⟨2, ![1024, 1024]⟩
abbrev S512x512 : Shape := ⟨2, ![512, 512]⟩

abbrev nBuf : Space → Nat
  | .hbm => 13
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S32x8x16x1024, .bf16⟩
  | .hbm, ⟨6, _⟩ => ⟨S32x16x8x1024, .bf16⟩
  | .hbm, ⟨7, _⟩ => ⟨S4096x1024, .bf16⟩
  | .hbm, ⟨8, _⟩ => ⟨S32x8x16x1024, .bf16⟩
  | .hbm, ⟨9, _⟩ => ⟨S32x16x8x1024, .bf16⟩
  | .hbm, ⟨10, _⟩ => ⟨S4096x1024, .bf16⟩
  | .hbm, ⟨11, _⟩ => ⟨S4096x1024, .bf16⟩
  | .hbm, ⟨12, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S1024x1024, .f32⟩
  | .local _ .vmem, ⟨10, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v39 : BitVec 1 := Scalar.cmpi .eq arg0 c7_i32
  let v40 : BitVec 32 := Scalar.extui v39
  let c0_i32_30 : BitVec 32 := 0#32
  let v41 : BitVec 1 := Scalar.cmpi .ne v40 c0_i32_30
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== GoutRefIdeal.lean ====
abbrev S4096x1024 : Shape := ⟨2, ![4096, 1024]⟩
abbrev S4096x2048 : Shape := ⟨2, ![4096, 2048]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x2048, .f32⟩
  | .hbm, ⟨4, _⟩ => ⟨S_, .f32⟩
  | .hbm, ⟨5, _⟩ => ⟨S2048x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.Reals.lean ====
/- Arithmetic on the finite extended reals, shared by every value proof of this directory. An array of which the
   precondition says that each element is below infinity in magnitude is the coercion of an array of reals
   (`exists_real`); each operation of the programs on coerced operands is the coercion of the real operation (the simp
   set that a proof passes by name: `coe_sum`, `exp_coe`, `rsqrt_coe`, `div_coe_pos`, `sig_coe`, ...), so that an
   equation between two programs' elements becomes one between real numbers. -/
module

public import Idealize.ShloMosaic.Lib.Pointwise
public import Idealize.ShloMosaic.Lib.IdealHost
public import Mathlib.Tactic.FieldSimp
public import Mathlib.Tactic.Ring
public import Mathlib.Tactic.Positivity

@[expose] public section

noncomputable section

namespace Cert.Step

open Idealize.ShloMosaic

/-- An extended real of which both it and its negation are below infinity is a real. -/
theorem real_of_lt {x : EReal} (h : max x (-x) < ⊤) : ∃ r : ℝ, x = (r : EReal) := by
  induction x with
  | bot => simp at h
  | top => simp at h
  | coe r => exact ⟨r, rfl⟩

/-- An array whose elements are below infinity in magnitude, as the precondition tests it, is an array of reals. -/
theorem exists_real {s : Shape} (x : FVec Ideal s .f32) (hb : (⟨0, ![]⟩ : Shape).BroadcastsInDim s ![])
    (h : cmpf .olt (Host.absf x) (broadcastInDim s ![] hb (constant ⟨0, ![]⟩ .f32 0x7F800000#32)) = fun _ => 1#1) :
    ∃ r : s.Idx → ℝ, x = fun i => (r i : EReal) := by
  have htop : Ideal.ofBits .f32 0x7F800000#32 = ⊤ := by simp [Ideal.ofBits, Ideal.ieee]
  have key : ∀ i, ∃ r : ℝ, x i = (r : EReal) := fun i => by
    have hi : Ideal.cmp .olt (max (x i : EReal) (-(x i))) (Ideal.ofBits .f32 0x7F800000#32) = 1#1 := congrFun h i
    rw [htop] at hi
    exact real_of_lt ((Ideal.cmp_olt_eq_one _ _).1 hi)
  choose r hr using key
  exact ⟨r, funext hr⟩

/-! ## Operations on coerced operands -/

theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem exp_coe (r : ℝ) : Ideal.exp (r : EReal) = ((Real.exp r : ℝ) : EReal) := rfl

theorem rsqrt_coe {r : ℝ} (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.2 h.le), if_neg h.ne']

theorem div_coe_ne {y : ℝ} (h : y ≠ 0) (x : ℝ) : Ideal.div (x : EReal) (y : EReal) = ((x / y : ℝ) : EReal) := by
  rw [Ideal.div_coe h, ← EReal.coe_mul, mul_one_div]

/-- The logistic function. -/
def sig (v : ℝ) : ℝ := 1 / (1 + Real.exp (-v))

theorem sig_coe (v : ℝ) : Ideal.div (1 : EReal) (1 + Ideal.exp (-(v : EReal))) = ((sig v : ℝ) : EReal) := by
  have h : (1 + Real.exp (-v)) ≠ 0 := by positivity
  rw [← EReal.coe_neg, exp_coe, ← EReal.coe_one, ← EReal.coe_add, div_coe_ne h]; rfl

theorem sig_coe' (v : ℝ) : Ideal.div (1 : EReal) (1 + Ideal.exp (0 - (v : EReal))) = ((sig v : ℝ) : EReal) := by
  rw [zero_sub, sig_coe]

/-! ## The constants of the programs -/

theorem ofBits_1024 : Ideal.ofBits .f32 0x44800000#32 = ((1024 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The RMS norm's epsilon, the float nearest to a millionth. -/
def eps6 : ℝ := 8796093 * 2 ^ (-43 : ℤ)
theorem eps6_pos : 0 < eps6 := by unfold eps6; positivity
theorem ofBits_eps6 : Ideal.ofBits .f32 0x358637BD#32 = (eps6 : EReal) := by
  simp [Ideal.ofBits, Ideal.ieee, -EReal.coe_mul, eps6]

/-- The layer norm's epsilon, the float nearest to a hundred thousandth. -/
def eps5 : ℝ := 10995116 * 2 ^ (-40 : ℤ)
theorem eps5_pos : 0 < eps5 := by unfold eps5; positivity
theorem ofBits_eps5 : Ideal.ofBits .f32 0x3727C5AC#32 = (eps5 : EReal) := by
  simp [Ideal.ofBits, Ideal.ieee, -EReal.coe_mul, eps5]

/-! ## The row order of the attention calls: one-hot products -/

/-- A sum of which one term alone is selected. -/
theorem sum_select {n : ℕ} (c : Fin n → BitVec 1) (v : Fin n → EReal) (k : Fin n) (h : ∀ x, c x = 1#1 ↔ x = k) :
    ∑ x, Scalar.select (c x) (v x) 0 = v k := by
  rw [Finset.sum_eq_single k]
  · rw [(h k).2 rfl]; rfl
  · intro b _ hb
    have : c b ≠ 1#1 := fun e => hb ((h b).1 e)
    unfold Scalar.select; simp [this]
  · simp

/-- Row `8 * (w % 16) + w / 16` of a 128-row chunk as the kernels compute it on 32-bit words: where token `w` of the
    chunk stands in the order by token mod 16. -/
abbrev resWord (w : BitVec 32) : BitVec 32 :=
  IntOp.addi
    (IntOp.muli (8#32)
      (Scalar.select
        (IntOp.andi
          (IntOp.xori
            (IntOp.cmpi CmpIPredicate.slt
              (IntOp.remsi ArithUnit.vector w
                (Scalar.select (Scalar.cmpi CmpIPredicate.eq 16#32 0#32) 1#32 16#32))
              0#32)
            (Scalar.cmpi CmpIPredicate.slt
              (Scalar.select (Scalar.cmpi CmpIPredicate.eq 16#32 0#32) 1#32 16#32) 0#32))
          (IntOp.cmpi CmpIPredicate.ne
            (IntOp.remsi ArithUnit.vector w
              (Scalar.select (Scalar.cmpi CmpIPredicate.eq 16#32 0#32) 1#32 16#32))
            0#32))
        (IntOp.addi
          (IntOp.remsi ArithUnit.vector w
            (Scalar.select (Scalar.cmpi CmpIPredicate.eq 16#32 0#32) 1#32 16#32))
          (Scalar.select (Scalar.cmpi CmpIPredicate.eq 16#32 0#32) 1#32 16#32))
        (IntOp.remsi ArithUnit.vector w
          (Scalar.select (Scalar.cmpi CmpIPredicate.eq 16#32 0#32) 1#32 16#32))))
    (Scalar.select
      (IntOp.andi
        (IntOp.cmpi CmpIPredicate.ne
          (IntOp.subi (BitVec.setWidth 32 (IntOp.cmpi CmpIPredicate.sgt w 0#32))
            (BitVec.setWidth 32 (IntOp.cmpi CmpIPredicate.slt w 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector w 16#32) 0#32))
      (IntOp.subi (IntOp.divsi ArithUnit.vector w 16#32) 1#32)
      (IntOp.divsi ArithUnit.vector w 16#32))

/-- On the words of 0 to 127 `resWord` is the formula. -/
theorem resWord_ofNat : ∀ k : Fin 128, resWord (BitVec.ofNat 32 k) = BitVec.ofNat 32 (8 * (k % 16) + k / 16) := by
  decide +kernel

theorem ofNat_inj_of_lt {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

theorem cmpi_eq_iff (a b : BitVec 32) : IntOp.cmpi .eq a b = 1#1 ↔ a = b := by
  show BitVec.ofBool (a == b) = 1#1 ↔ a = b
  by_cases h : a = b
  · simp [h]
  · rw [beq_false_of_ne h]; exact ⟨fun e => absurd e (by decide), fun e => absurd e h⟩

/-- Row `a` of the one-hot product into the order by token mod 16 is token `a % 8 * 16 + a / 8`. -/
theorem sum_resWord {a : ℕ} (ha : a < 128) (v : Fin 128 → EReal) :
    ∑ x : Fin 128, Scalar.select (IntOp.cmpi .eq (BitVec.ofNat 32 a) (resWord (BitVec.ofNat 32 ↑x))) (v x) 0
      = v ⟨a % 8 * 16 + a / 8, by omega⟩ := by
  refine sum_select _ v _ fun x => ?_
  have hx := x.isLt
  rw [resWord_ofNat, cmpi_eq_iff]
  constructor
  · intro h
    have h' := ofNat_inj_of_lt (by omega) (by omega) h
    apply Fin.ext; simp only; omega
  · intro h
    rw [h]; congr 1; simp only; omega

/-- Row `b` of the one-hot product back into token order is row `8 * (b % 16) + b / 16`. -/
theorem sum_resWord_inv {b : ℕ} (hb : b < 128) (v : Fin 128 → EReal) :
    ∑ x : Fin 128, Scalar.select (IntOp.cmpi .eq (BitVec.ofNat 32 ↑x) (resWord (BitVec.ofNat 32 b))) (v x) 0
      = v ⟨8 * (b % 16) + b / 16, by omega⟩ := by
  refine sum_select _ v _ fun x => ?_
  have hx := x.isLt
  rw [show resWord (BitVec.ofNat 32 b) = BitVec.ofNat 32 (8 * (b % 16) + b / 16) from resWord_ofNat ⟨b, hb⟩, cmpi_eq_iff]
  constructor
  · intro h
    exact Fin.ext (ofNat_inj_of_lt (by omega) (by omega) h)
  · intro h
    rw [h]

/-! ## Sums over one head's lanes: the one-hot head indicator -/

/-- The quotient by 64 as the kernels compute it on 32-bit words: the head of a lane. -/
abbrev headWord (w : BitVec 32) : BitVec 32 :=
  Scalar.select
    (IntOp.andi
      (IntOp.cmpi CmpIPredicate.ne
        (IntOp.subi (BitVec.setWidth 32 (IntOp.cmpi CmpIPredicate.sgt w 0#32))
          (BitVec.setWidth 32 (IntOp.cmpi CmpIPredicate.slt w 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector w 64#32) 0#32))
    (IntOp.subi (IntOp.divsi ArithUnit.vector w 64#32) 1#32)
    (IntOp.divsi ArithUnit.vector w 64#32)

theorem headWord_ofNat : ∀ k : Fin 1024, headWord (BitVec.ofNat 32 k) = BitVec.ofNat 32 (k / 64) := by
  decide +kernel

/-- The lanes selected for head `h` are the 64 lanes from `h * 64`. -/
theorem sum_headWord {h : ℕ} (hh : h < 16) (v : Fin 1024 → EReal) :
    ∑ x : Fin 1024, Scalar.select (IntOp.cmpi .eq (headWord (BitVec.ofNat 32 ↑x)) (BitVec.ofNat 32 h)) (v x) 0
      = ∑ d : Fin 64, v ⟨h * 64 + d, by omega⟩ := by
  have hc : ∀ x : Fin 1024, IntOp.cmpi .eq (headWord (BitVec.ofNat 32 ↑x)) (BitVec.ofNat 32 h) = 1#1 ↔ (x : ℕ) / 64 = h := fun x => by
    have hx := x.isLt
    rw [headWord_ofNat, cmpi_eq_iff]
    exact ⟨fun e => ofNat_inj_of_lt (by omega) (by omega) e, fun e => by rw [e]⟩
  rw [Fin.sum_univ_tiles 16 64 rfl, Finset.sum_eq_single ⟨h, hh⟩]
  · refine Finset.sum_congr rfl fun d _ => ?_
    rw [(hc _).2 (by have := d.isLt; simp only; omega)]; rfl
  · intro b _ hb
    refine Finset.sum_eq_zero fun d _ => ?_
    have hne : (b : ℕ) ≠ h := fun e => hb (Fin.ext e)
    unfold Scalar.select
    rw [if_neg]
    intro e
    have := (hc _).1 e
    have hd := d.isLt
    simp only at this
    omega
  · simp

theorem coe_sub_self (r : ℝ) : (r : EReal) - (r : EReal) = 0 := by
  rw [← EReal.coe_sub, sub_self, EReal.coe_zero]

theorem select_zero (c : BitVec 1) : Scalar.select c (0 : EReal) 0 = 0 := by
  unfold Scalar.select; split <;> rfl

end Cert.Step

end
-- ==== Proof.GateVal.lean ====
/- The gated output projection's backward call, idealized: what its four result arrays hold after the run, element by
   element, as functions of the argument arrays. The region works on rows ordered by token mod 16 within chunks of 128
   rows (`tok`); the host operations after the region put the rows back. -/
module

public import proofs.«01_k».proof.Proof.Gen.GateIdeal.Frame
public import proofs.«01_k».proof.Proof.Reals
public import Idealize.ShloMosaic.Lib.Pipeline.ValueKit

@[expose] public section
set_option maxRecDepth 16384
noncomputable section
namespace Cert.GateIdeal.Val
open Idealize.ShloMosaic Idealize.ShloMosaic.TcCoe Idealize.SL.Sem
open Cert.GateIdeal Cert.GateIdeal.Gen Cert.Step

/-- The token that stands at row `r` of the region's arrays. -/
abbrev tok (r : Fin 4096) : Fin 4096 := ⟨r / 128 * 128 + r % 8 * 16 + r % 128 / 8, by omega⟩
/-- The same order within one block of 512 rows. -/
abbrev pi (r : Fin 512) : Fin 512 := ⟨r / 128 * 128 + r % 8 * 16 + r % 128 / 8, by omega⟩

/-- The stored rows are the input block's rows in the order by token mod 16. -/
theorem pay6_at (v : FVec Ideal S512x1024 .bf16) (r : Fin 512) (l : Fin 1024) :
    k0_pay6 (F := Ideal) v (iota .tc S128x128 32 [0] iota_S128x128_d0_w32) k0_pay3 k0_pay4 k0_pay5 1#32 (ix2 r l) = v (ix2 (pi r) l) := by
  pointwise [k0_pay6, k0_pay3, k0_pay4, k0_pay5]
  have hr := r.isLt
  by_cases h0 : (r : ℕ) < 128
  · rw [dif_pos h0, sum_resWord h0]
    congr 2; apply Fin.ext; simp only; omega
  rw [dif_neg h0]
  by_cases h1 : (r : ℕ) - 128 < 128
  · rw [dif_pos h1, sum_resWord h1]
    congr 2; apply Fin.ext; simp only; omega
  rw [dif_neg h1]
  by_cases h2 : (r : ℕ) - 128 - 128 < 128
  · rw [dif_pos h2, sum_resWord h2]
    congr 2; apply Fin.ext; simp only; omega
  rw [dif_neg h2, sum_resWord (by omega)]
  congr 2; apply Fin.ext; simp only; omega

/-- Which block each window reads or writes at point `t`. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of the block of point `t` in the whole array. -/
abbrev row (t : Fin cfg0.N) (r : Fin 512) : Fin 4096 := ⟨t.val * 512 + r, by have := t.isLt; have : t.val < 8 := this; omega⟩

theorem tok_row (t : Fin cfg0.N) (r : Fin 512) : tok (row t r) = row t (pi r) := by
  apply Fin.ext; simp only; omega

theorem emb7 (t : Fin cfg0.N) (r : Fin 512) (l : Fin 1024) :
    ((View.whole main_v8_3).slice (win0_7.rect t)).emb (ix2 r l) = (ix2 (row t r) l : S4096x1024.Idx) := by blk_ext [idx t]
theorem emb4 (t : Fin cfg0.N) (r : Fin 512) (l : Fin 1024) :
    ((View.whole main_v8_0).slice (win0_4.rect t)).emb (ix2 r l) = (ix2 (row t r) l : S4096x1024.Idx) := by blk_ext [idx t]
theorem emb5 (t : Fin cfg0.N) (r : Fin 512) (l : Fin 1024) :
    ((View.whole main_v8_1).slice (win0_5.rect t)).emb (ix2 r l) = (ix2 (row t r) l : S4096x1024.Idx) := by blk_ext [idx t]
theorem emb6 (t : Fin cfg0.N) (r : Fin 512) (l : Fin 128) :
    ((View.whole main_v8_2).slice (win0_6.rect t)).emb (ix2 r l) = (ix2 (row t r) l : S4096x128.Idx) := by blk_ext [idx t]

variable (m : (ℓ : Loc nD τ sig) → Buf (Elt Ideal) ℓ)

/-! The argument arrays. -/

abbrev X0 (c : Dev nD) : FVec Ideal S4096x1024 .f32 := m ((c : Thread nD τ).loc main_arg0)
abbrev X1 (c : Dev nD) : FVec Ideal S2048x1024 .f32 := m ((c : Thread nD τ).loc main_arg1)
abbrev X2 (c : Dev nD) : FVec Ideal S4096x1024 .f32 := m ((c : Thread nD τ).loc main_arg2)
abbrev X3 (c : Dev nD) : FVec Ideal S4096x1024 .f32 := m ((c : Thread nD τ).loc main_arg3)

theorem blk0 (c : Dev nD) (t : Fin cfg0.N) (r : Fin 512) (l : Fin 1024) :
    (iblk m c 0 t : FVec Ideal S512x1024 .bf16) (ix2 r l) = X0 m c (ix2 (row t r) l) := by
  blk_point [iblk, V, idx t]
theorem blk1 (c : Dev nD) (t : Fin cfg0.N) (r l : Fin 1024)  :
    (iblk m c 1 t : FVec Ideal S1024x1024 .bf16) (ix2 r l) = X1 m c (ix2 ⟨r, by omega⟩ l) := by
  blk_point [iblk, V, idx t]
theorem V4 (c : Dev nD) (p : Fin 4096) (l : Fin 1024) :
    (V m c main_v4 : FVec Ideal S4096x1024 .f32) (ix2 p l) = X2 m c (ix2 (tok p) l) := by
  unfold V V0
  simp only [hostOps0, List.flatten_cons, List.flatten_nil, List.append_nil]
  after_results
  pointwise
  try (blk_ext; done)
theorem V7 (c : Dev nD) (p : Fin 4096) (l : Fin 1024) :
    (V m c main_v7 : FVec Ideal S4096x1024 .f32) (ix2 p l) = X3 m c (ix2 (tok p) l) := by
  unfold V V0
  simp only [hostOps0, List.flatten_cons, List.flatten_nil, List.append_nil]
  after_results
  pointwise
  try (blk_ext; done)
theorem blk2 (c : Dev nD) (t : Fin cfg0.N) (r : Fin 512) (l : Fin 1024) :
    (iblk m c 2 t : FVec Ideal S512x1024 .f32) (ix2 r l) = X2 m c (ix2 (tok (row t r)) l) := by
  refine Eq.trans ?_ (V4 m c (row t r) l)
  blk_point [iblk, idx t]
theorem blk3 (c : Dev nD) (t : Fin cfg0.N) (r : Fin 512) (l : Fin 1024) :
    (iblk m c 3 t : FVec Ideal S512x1024 .f32) (ix2 r l) = X3 m c (ix2 (tok (row t r)) l) := by
  refine Eq.trans ?_ (V7 m c (row t r) l)
  blk_point [iblk, idx t]

theorem final7 (c : Dev nD) : (dats m 0 c).arrAt 7 (cfgs 0).N = fun i => X0 m c (ix2 (tok (i 0)) (i 1)) := by
  refine (dats m 0 c).arrAt_eq_of_covers 7 _ (by decide +kernel) fun t _ y => ?_
  blk_simp
  rw [after0_7]
  unfold_out out0_7
  frame_out
  obtain ⟨r, l, rfl⟩ : ∃ (r : Fin 512) (l : Fin 1024), y = ix2 r l := ⟨y 0, y 1, by funext a; fin_cases a <;> rfl⟩
  rw [emb7]
  refine (pay6_at _ r l).trans ?_
  refine Eq.trans ?_ ((blk0 m c t (pi r) l).trans ?_)
  · pointwise [k0_pay2]
  · rw [← tok_row]; rfl

/-- The product of the permuted rows with the transposed projection, read at an index. -/
theorem pay7_at (c : Dev nD) (t : Fin cfg0.N) (r : Fin 512) (l : Fin 1024) :
   k0_pay7 (k0_pay2 (iblk m c 0 t : FVec Ideal S512x1024 .bf16)) (iota Kind.tc S128x128 32 [0] iota_S128x128_d0_w32) k0_pay3 k0_pay4 k0_pay5 (1#32) (iblk m c 1 t : FVec Ideal S1024x1024 .bf16) (ix2 r l)
    = ∑ k : Fin 1024, X0 m c (ix2 (tok (row t r)) k) * X1 m c (ix2 ⟨l, by omega⟩ k) := by
  have h6 := fun k => pay6_at (k0_pay2 (iblk m c 0 t : FVec Ideal S512x1024 .bf16)) r k
  have h2 : k0_pay2 (iblk m c 0 t : FVec Ideal S512x1024 .bf16) = (iblk m c 0 t : FVec Ideal S512x1024 .bf16) := by
    funext y
    pointwise [k0_pay2]
  simp only [h2] at h6 ⊢
  unfold k0_pay7
  generalize k0_pay6 (F := Ideal) _ _ _ _ _ _ = P6 at h6 ⊢
  pointwise
  refine Finset.sum_congr rfl fun k _ => ?_
  rw [h6, blk0, blk1, tok_row]

/-- The gradient of the gated output at token `s`, column `l`. -/
abbrev dy (c : Dev nD) (s : Fin 4096) (l : Fin 1024) : EReal := ∑ k : Fin 1024, X0 m c (ix2 s k) * X1 m c (ix2 ⟨l, by omega⟩ k)

/-- The logistic function as the kernel computes it. -/
abbrev sg (v : EReal) : EReal := Ideal.div 1 (1 + Ideal.exp (0 - v))

theorem tok_inv (s : Fin 4096) : tok ⟨s / 128 * 128 + s % 16 * 8 + s / 16 % 8, by omega⟩ = s := by
  apply Fin.ext
  have h1 : (s.val / 128 * 128 + s.val % 16 * 8 + s.val / 16 % 8) / 128 = s.val / 128 := by omega
  have h2 : (s.val / 128 * 128 + s.val % 16 * 8 + s.val / 16 % 8) % 8 = s.val / 16 % 8 := by omega
  have h3 : (s.val / 128 * 128 + s.val % 16 * 8 + s.val / 16 % 8) % 128 / 8 = s.val % 16 := by omega
  simp only [h1, h2, h3]
  omega

theorem final4 (c : Dev nD) : (dats m 0 c).arrAt 4 (cfgs 0).N =
    fun i => dy m c (tok (i 0)) (i 1) * (X2 m c (ix2 (tok (i 0)) (i 1)) * sg (X2 m c (ix2 (tok (i 0)) (i 1)))) := by
  refine (dats m 0 c).arrAt_eq_of_covers 4 _ (by decide +kernel) fun t _ y => ?_
  blk_simp
  rw [after0_4]
  unfold_out out0_4
  frame_out
  obtain ⟨r, l, rfl⟩ : ∃ (r : Fin 512) (l : Fin 1024), y = ix2 r l := ⟨y 0, y 1, by funext a; fin_cases a <;> rfl⟩
  rw [emb4]
  have h := pay7_at m c t r l
  revert h
  generalize k0_pay7 (F := Ideal) _ _ _ _ _ _ _ = P
  intro h
  pointwise [k0_pay14, k0_pay11, k0_pay10, k0_pay8]
  rw [h, blk2]

theorem final5 (c : Dev nD) : (dats m 0 c).arrAt 5 (cfgs 0).N =
    fun i => dy m c (tok (i 0)) (i 1) * X3 m c (ix2 (tok (i 0)) (i 1)) * (sg (X2 m c (ix2 (tok (i 0)) (i 1))) *
      (1 + X2 m c (ix2 (tok (i 0)) (i 1)) * (1 - sg (X2 m c (ix2 (tok (i 0)) (i 1)))))) := by
  refine (dats m 0 c).arrAt_eq_of_covers 5 _ (by decide +kernel) fun t _ y => ?_
  blk_simp
  rw [after0_5]
  unfold_out out0_5
  frame_out
  obtain ⟨r, l, rfl⟩ : ∃ (r : Fin 512) (l : Fin 1024), y = ix2 r l := ⟨y 0, y 1, by funext a; fin_cases a <;> rfl⟩
  rw [emb5]
  have h := pay7_at m c t r l
  revert h
  generalize k0_pay7 (F := Ideal) _ _ _ _ _ _ _ = P
  intro h
  pointwise [k0_pay15, k0_pay13, k0_pay12, k0_pay9, k0_pay10, k0_pay8]
  rw [h, blk2, blk3]

theorem tail4 (c : Dev nD) : Pipeline.afterTail₀ cfgs (dats m) 0 (V0 m) [hostOps1] c main_v11 =
    fun i => dy m c (i 0) (i 1) * (X2 m c i * sg (X2 m c i)) := by
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.tc.devRef main_v8_0) =
      (dats m 0 c).arrAt 4 (cfgs 0).N := Pipeline.withArrays_arr (cfgs 0).spec (by decide) c _ _ 4
  rw [h, final4]
  funext i
  obtain ⟨r, l, rfl⟩ : ∃ (r : Fin 4096) (l : Fin 1024), i = ix2 r l := ⟨i 0, i 1, by funext a; fin_cases a <;> rfl⟩
  pointwise
  rw [tok_inv]

theorem tail5 (c : Dev nD) : Pipeline.afterTail₀ cfgs (dats m) 0 (V0 m) [hostOps1] c main_v14 =
    fun i => dy m c (i 0) (i 1) * X3 m c i * (sg (X2 m c i) * (1 + X2 m c i * (1 - sg (X2 m c i)))) := by
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.tc.devRef main_v8_1) =
      (dats m 0 c).arrAt 5 (cfgs 0).N := Pipeline.withArrays_arr (cfgs 0).spec (by decide) c _ _ 5
  rw [h, final5]
  funext i
  obtain ⟨r, l, rfl⟩ : ∃ (r : Fin 4096) (l : Fin 1024), i = ix2 r l := ⟨i 0, i 1, by funext a; fin_cases a <;> rfl⟩
  pointwise
  rw [tok_inv]

theorem tail7 (c : Dev nD) : Pipeline.afterTail₀ cfgs (dats m) 0 (V0 m) [hostOps1] c main_v21 = X0 m c := by
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.tc.devRef main_v8_3) =
      (dats m 0 c).arrAt 7 (cfgs 0).N := Pipeline.withArrays_arr (cfgs 0).spec (by decide) c _ _ 7
  rw [h, final7]
  funext i
  obtain ⟨r, l, rfl⟩ : ∃ (r : Fin 4096) (l : Fin 1024), i = ix2 r l := ⟨i 0, i 1, by funext a; fin_cases a <;> rfl⟩
  pointwise
  rw [tok_inv]

/-- The product whose sum over a head's lanes is the call's delta, at token `s`, column `l`. -/
abbrev dyo (c : Dev nD) (s : Fin 4096) (l : Fin 1024) : EReal :=
  dy m c s l * (X2 m c (ix2 s l) * sg (X2 m c (ix2 s l))) * X3 m c (ix2 s l)

theorem dyo_coe {c : Dev nD} {a0 : S4096x1024.Idx → ℝ} {a1 : S2048x1024.Idx → ℝ} {a2 a3 : S4096x1024.Idx → ℝ}
    (h0 : X0 m c = fun i => (a0 i : EReal)) (h1 : X1 m c = fun i => (a1 i : EReal)) (h2 : X2 m c = fun i => (a2 i : EReal))
    (h3 : X3 m c = fun i => (a3 i : EReal)) (s : Fin 4096) (l : Fin 1024) : ∃ r : ℝ, dyo m c s l = (r : EReal) := by
  unfold dyo dy sg
  rw [h0, h1, h2, h3]
  simp only [sig_coe', ← EReal.coe_mul, coe_sum]
  exact ⟨_, rfl⟩

theorem final6 (c : Dev nD) (hf : ∀ s l, ∃ r : ℝ, dyo m c s l = (r : EReal)) : (dats m 0 c).arrAt 6 (cfgs 0).N =
    fun i => (∑ x : Fin 1024, Scalar.select (IntOp.cmpi .eq (headWord (BitVec.ofNat 32 x)) (BitVec.ofNat 32 (i 1))) (dyo m c (tok (i 0)) x) 0 : EReal) := by
  refine (dats m 0 c).arrAt_eq_of_covers 6 _ (by decide +kernel) fun t _ y => ?_
  blk_simp
  rw [after0_6]
  unfold_out out0_6
  frame_out
  obtain ⟨r, l, rfl⟩ : ∃ (r : Fin 512) (l : Fin 128), y = ix2 r l := ⟨y 0, y 1, by funext a; fin_cases a <;> rfl⟩
  rw [emb6]
  have h := pay7_at m c t r
  revert h
  generalize k0_pay7 (F := Ideal) _ _ _ _ _ _ _ = P
  intro h
  pointwise [k0_pay1, k0_pay16, k0_pay17, k0_pay18, k0_pay19, k0_pay20, k0_pay14, k0_pay11, k0_pay10, k0_pay9, k0_pay8]
  simp only [h, blk2, blk3]
  have hz : ∀ x, dyo m c (tok (row t r)) x - dyo m c (tok (row t r)) x = 0 := fun x => by
    obtain ⟨q, hq⟩ := hf (tok (row t r)) x
    rw [hq, coe_sub_self]
  unfold dyo dy sg at hz
  simp only [hz, sub_zero, select_zero, Finset.sum_const_zero, add_zero]
  have e : win0_6.index t 1 = 0 := by obtain ⟨-, -, -, -, -, -, e, -⟩ := idx t; rw [e]; rfl
  rw [e, Nat.zero_mul, Nat.zero_add]

theorem tail6 (c : Dev nD) (hf : ∀ s l, ∃ r : ℝ, dyo m c s l = (r : EReal)) :
    Pipeline.afterTail₀ cfgs (dats m) 0 (V0 m) [hostOps1] c main_v18 =
      fun i => (∑ d : Fin 64, dyo m c (i 0) ⟨(i 1 : ℕ) * 64 + d, by have : (i 1 : ℕ) < 16 := (i 1).isLt; omega⟩ : EReal) := by
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.tc.devRef main_v8_2) =
      (dats m 0 c).arrAt 6 (cfgs 0).N := Pipeline.withArrays_arr (cfgs 0).spec (by decide) c _ _ 6
  rw [h, final6 m c hf]
  funext i
  obtain ⟨r, l, rfl⟩ : ∃ (r : Fin 4096) (l : Fin 16), i = ix2 r l := ⟨i 0, i 1, by funext a; fin_cases a <;> rfl⟩
  pointwise
  rw [tok_inv]
  exact sum_headWord l.isLt _

end Cert.GateIdeal.Val

end
-- ==== Proof.GateClaim.lean ====
/- The gated output projection's backward call: at the reals, on finite arguments, the kernel's four results are the
   reference's. -/
module

public import proofs.«01_k».proof.Defs
public import proofs.«01_k».proof.Proof.GateVal
public import proofs.«01_k».proof.Proof.Gen.GateRefIdeal.Run
public import proofs.«01_k».proof.Proof.Gen.Gate.Frame

@[expose] public section
set_option maxRecDepth 16384
noncomputable section
namespace Cert.GateIdeal.Val
open Idealize.ShloMosaic Idealize.ShloMosaic.TcCoe Idealize.SL.Sem
open Cert.GateIdeal Cert.GateIdeal.Gen Cert.Step

/-- The two programs end with equal results on finite arguments. -/
theorem algebraic [hPre : Cert.Pre_finite_gate.Facts] : Cert.algebraic_GateIdeal_GateRefIdeal_pre_finite_gate (hGateIdeal := Cert.GateIdeal.Gen.facts)
    (hGateRefIdeal := Cert.GateRefIdeal.Gen.facts) := by
  intro m g m' g' hpre hagree
  have hreal : ∀ c : Dev nD, ∃ (a0 : S4096x1024.Idx → ℝ) (a1 : S2048x1024.Idx → ℝ) (a2 a3 : S4096x1024.Idx → ℝ), X0 m c = (fun i => (a0 i : EReal)) ∧ X1 m c = (fun i => (a1 i : EReal))
      ∧ X2 m c = (fun i => (a2 i : EReal)) ∧ X3 m c = (fun i => (a3 i : EReal)) := fun c => by
    obtain ⟨h0, h1, h2, h3⟩ := hpre c
    obtain ⟨a0, e0⟩ := exists_real (X0 m c) _ h0
    obtain ⟨a1, e1⟩ := exists_real (X1 m c) _ h1
    obtain ⟨a2, e2⟩ := exists_real (X2 m c) _ h2
    obtain ⟨a3, e3⟩ := exists_real (X3 m c) _ h3
    exact ⟨a0, a1, a2, a3, e0, e1, e2, e3⟩
  have hf : ∀ (c : Dev nD) s l, ∃ r : ℝ, dyo m c s l = (r : EReal) := fun c => by
    obtain ⟨a0, a1, a2, a3, e0, e1, e2, e3⟩ := hreal c
    exact dyo_coe m e0 e1 e2 e3
  have hsuf := fun (b : Ref sig .tc) (hs : b.isScoped = false) (ha : ∀ w, (spec0 w).arr.view.ref ≠ b) (r : PUnit × MemSt nD τ sig (Elt Ideal))
     (h : Pipeline.FramePost cfgs (dats m) 0 (Pipeline.afterTail₀ cfgs (dats m) 0 (V0 m) [hostOps1]) r) (c : Dev nD) => (h c).2 b (Pipeline.mem_restRefs_of b hs ha)
  refine ⟨_, _, _, _, (θ_run defs _ _).mono (fun r h c => ⟨(hsuf main_v11 (by decide) (by decide) r h c).trans (tail4 m c),
    (hsuf main_v14 (by decide) (by decide) r h c).trans (tail5 m c), (hsuf main_v18 (by decide) (by decide) r h c).trans (tail6 m c (hf c)),
    (hsuf main_v21 (by decide) (by decide) r h c).trans (tail7 m c),
    (hsuf main_arg0 (by decide) (by decide) r h c).trans (W_main_arg0 m _ c), (hsuf main_arg1 (by decide) (by decide) r h c).trans (W_main_arg1 m _ c),
    (hsuf main_arg2 (by decide) (by decide) r h c).trans (W_main_arg2 m _ c), (hsuf main_arg3 (by decide) (by decide) r h c).trans (W_main_arg3 m _ c)⟩) (run_main m g),
    (θ_run Cert.GateRefIdeal.defs _ _).mono (fun r h c => ?_) (Cert.GateRefIdeal.Value.run m' g')⟩
  obtain ⟨h0, h1, h2, h3, hk⟩ := h c
  obtain ⟨g0, g1, g2, g3⟩ := hagree c
  obtain ⟨a0, a1, a2, a3, e0, e1, e2, e3⟩ := hreal c
  rw [g0, g1, g2] at h0
  rw [g0, g1, g2, g3] at h1 h2
  rw [g0] at h3
  refine ⟨h0.trans ?_, h1.trans ?_, h2.trans ?_, h3.trans ?_, hk⟩
  · funext i
    obtain ⟨r, l, rfl⟩ : ∃ (r : Fin 4096) (l : Fin 1024), i = ix2 r l := ⟨i 0, i 1, by funext a; fin_cases a <;> rfl⟩
    pointwise
    unfold dy sg
    rw [zero_sub]
  · funext i
    obtain ⟨r, l, rfl⟩ : ∃ (r : Fin 4096) (l : Fin 1024), i = ix2 r l := ⟨i 0, i 1, by funext a; fin_cases a <;> rfl⟩
    pointwise
    have f0 : ∀ j, m (c.tc.loc main_arg0) j = (a0 j : EReal) := fun j => congrFun e0 j
    have f1 : ∀ j, m (c.tc.loc main_arg1) j = (a1 j : EReal) := fun j => congrFun e1 j
    have f2 : ∀ j, m (c.tc.loc main_arg2) j = (a2 j : EReal) := fun j => congrFun e2 j
    have f3 : ∀ j, m (c.tc.loc main_arg3) j = (a3 j : EReal) := fun j => congrFun e3 j
    unfold dy sg
    simp only [f0, f1, f2, f3, zero_sub, sig_coe]
    simp only [← EReal.coe_one, ← EReal.coe_mul, ← EReal.coe_add, ← EReal.coe_sub, coe_sum]
    congr 1
    ring
  · funext i
    obtain ⟨r, l, rfl⟩ : ∃ (r : Fin 4096) (l : Fin 16), i = ix2 r l := ⟨i 0, i 1, by funext a; fin_cases a <;> rfl⟩
    pointwise
    refine Finset.sum_congr rfl fun x _ => ?_
    unfold dyo dy sg
    rw [zero_sub]
  · rfl

end Cert.GateIdeal.Val
end
-- ==== Proof.LnormVal.lean ====
/- The convolution branch's backward call up to the convolution's output, idealized: what its five result arrays hold
   after the run, element by element, as functions of the argument arrays. Two are written block by block; the three
   gradients of row vectors are accumulated over the eight blocks of 512 rows. -/
module

public import proofs.«01_k».proof.Proof.Gen.LnormIdeal.Value
public import proofs.«01_k».proof.Proof.Reals
public import Idealize.ShloMosaic.Lib.Pipeline.ValueKit

@[expose] public section
set_option maxRecDepth 16384
noncomputable section
namespace Cert.LnormIdeal.Val
open Idealize.ShloMosaic Idealize.ShloMosaic.TcCoe Idealize.SL.Sem
open Cert.LnormIdeal Cert.LnormIdeal.Gen Cert.Step

/-! One row of the layer norm and the gates, as the kernel computes them. -/

/-- The mean of a row. -/
abbrev mean (f : Fin 1024 → EReal) : EReal := Ideal.div (∑ k, f k) (Ideal.ofBits .f32 0x44800000#32)
abbrev cen (f : Fin 1024 → EReal) (l : Fin 1024) : EReal := f l - mean f
abbrev rstd (f : Fin 1024 → EReal) : EReal := Ideal.rsqrt (mean (fun k => cen f k * cen f k) + Ideal.ofBits .f32 0x3727C5AC#32)
abbrev nrm (f : Fin 1024 → EReal) (l : Fin 1024) : EReal := cen f l * rstd f
abbrev aff (f g b : Fin 1024 → EReal) (l : Fin 1024) : EReal := nrm f l * g l + b l
abbrev sg (v : EReal) : EReal := Ideal.div 1 (1 + Ideal.exp (0 - v))
abbrev dsilu (v : EReal) : EReal := sg v * (1 + v * (1 - sg v))
/-- The gradient of the gate's input. -/
abbrev dgt (y ln gt : EReal) : EReal := y * (ln * sg ln) * dsilu gt
/-- The gradient of the layer norm's output. -/
abbrev dln (y ln gt : EReal) : EReal := y * (gt * sg gt) * dsilu ln
/-- The gradient of the layer norm's input, from that of its output. -/
abbrev dcv (f g d : Fin 1024 → EReal) (l : Fin 1024) : EReal :=
  rstd f * (d l * g l - mean (fun k => d k * g k) - nrm f l * mean (fun k => d k * g k * nrm f k))

theorem pay8_at (v : FVec Ideal S512x1024 .f32) (r : Fin 512) (l : Fin 1024) : k0_pay8 (F := Ideal) v (ix2 r l) = cen (fun k => v (ix2 r k)) l := by
  pointwise [k0_pay8]
theorem pay9_at (v : FVec Ideal S512x1024 .f32) (r : Fin 512) (l : Fin 1) : k0_pay9 (F := Ideal) v (ix2 r l) = rstd (fun k => v (ix2 r k)) := by
  unfold k0_pay9
  have h := pay8_at v r
  revert h; generalize k0_pay8 (F := Ideal) _ = P; intro h
  pointwise
  simp only [h]
theorem pay10_at (v : FVec Ideal S512x1024 .f32) (r : Fin 512) (l : Fin 1024) : k0_pay10 (F := Ideal) v (ix2 r l) = nrm (fun k => v (ix2 r k)) l := by
  unfold k0_pay10
  have h := pay8_at v r l
  have h9 := pay9_at v r 0
  revert h h9; generalize k0_pay8 (F := Ideal) _ = P; generalize k0_pay9 (F := Ideal) _ = P9; intro h h9
  pointwise
  rw [h]
  exact congrArg _ h9
theorem pay11_at (v : FVec Ideal S512x1024 .f32) (g b : FVec Ideal S1x1024 .f32) (r : Fin 512) (l : Fin 1024) :
    k0_pay11 (F := Ideal) v g b (ix2 r l) = aff (fun k => v (ix2 r k)) (fun k => g (ix2 0 k)) (fun k => b (ix2 0 k)) l := by
  unfold k0_pay11
  have h := pay10_at v r l
  revert h; generalize k0_pay10 (F := Ideal) _ = P; intro h
  pointwise
  rw [h]
theorem pay14_at (v : FVec Ideal S512x1024 .f32) (r : Fin 512) (l : Fin 1024) : k0_pay14 (F := Ideal) v (ix2 r l) = sg (v (ix2 r l)) := by
  pointwise [k0_pay14]
theorem pay13_at (v : FVec Ideal S512x1024 .f32) (g b : FVec Ideal S1x1024 .f32) (r : Fin 512) (l : Fin 1024) :
    k0_pay13 (F := Ideal) (k0_pay12 (F := Ideal) v g b) (Scalar.ofBits .f32 0x3F800000#32) (ix2 r l) = sg (k0_pay11 (F := Ideal) v g b (ix2 r l)) := by
  unfold k0_pay13 k0_pay12
  generalize k0_pay11 (F := Ideal) _ _ _ = P
  pointwise
theorem pay15_at (y : FVec Ideal S512x1024 .f32) (v : FVec Ideal S512x1024 .f32) (g b : FVec Ideal S1x1024 .f32) (gt : FVec Ideal S512x1024 .f32) (r : Fin 512) (l : Fin 1024) :
    k0_pay15 (F := Ideal) y (k0_pay11 (F := Ideal) v g b) (k0_pay12 (F := Ideal) v g b) (Scalar.ofBits .f32 0x3F800000#32) gt (ix2 r l) = dgt (y (ix2 r l)) (aff (fun k => v (ix2 r k)) (fun k => g (ix2 0 k)) (fun k => b (ix2 0 k)) l) (gt (ix2 r l)) := by
  have h11 := pay11_at v g b r l
  have h13 := pay13_at v g b r l
  have h14 := pay14_at gt r l
  unfold k0_pay15
  revert h13 h14; rw [h11]; revert h11; generalize k0_pay13 (F := Ideal) _ _ = P13; generalize k0_pay14 (F := Ideal) _ = P14
  generalize k0_pay11 (F := Ideal) _ _ _ = P11; intro h11 h13 h14
  pointwise
  rw [h11, h13, h14]
theorem pay16_at (y : FVec Ideal S512x1024 .f32) (v : FVec Ideal S512x1024 .f32) (g b : FVec Ideal S1x1024 .f32) (gt : FVec Ideal S512x1024 .f32) (r : Fin 512) (l : Fin 1024) :
    k0_pay16 (F := Ideal) y (k0_pay11 (F := Ideal) v g b) (k0_pay12 (F := Ideal) v g b) (Scalar.ofBits .f32 0x3F800000#32) gt (ix2 r l) = dln (y (ix2 r l)) (aff (fun k => v (ix2 r k)) (fun k => g (ix2 0 k)) (fun k => b (ix2 0 k)) l) (gt (ix2 r l)) := by
  have h11 := pay11_at v g b r l
  have h13 := pay13_at v g b r l
  have h14 := pay14_at gt r l
  unfold k0_pay16
  revert h13 h14; rw [h11]; revert h11; generalize k0_pay13 (F := Ideal) _ _ = P13; generalize k0_pay14 (F := Ideal) _ = P14
  generalize k0_pay11 (F := Ideal) _ _ _ = P11; intro h11 h13 h14
  pointwise
  rw [h11, h13, h14]
theorem pay2_at (v : FVec Ideal S512x1024 .f32) (g : FVec Ideal S1x1024 .f32) (d : FVec Ideal S512x1024 .f32) (r : Fin 512) (l : Fin 1024) :
    k0_pay2 (F := Ideal) (k0_pay9 (F := Ideal) v) (k0_pay10 (F := Ideal) v) g d (ix2 r l) = dcv (fun k => v (ix2 r k)) (fun k => g (ix2 0 k)) (fun k => d (ix2 r k)) l := by
  have h9 := pay9_at v r 0
  have h10 := pay10_at v r
  unfold k0_pay2
  revert h9 h10; generalize k0_pay9 (F := Ideal) _ = P9; generalize k0_pay10 (F := Ideal) _ = P10; intro h9 h10
  pointwise
  simp only [h10]
  exact congrArg (· * _) h9

theorem pay7_at (x : FVec Ideal S512x1024 .bf16) (w : FVec Ideal S1024x1024 .bf16) (r : Fin 512) (l : Fin 1024) :
    k0_pay7 (F := Ideal) x w (ix2 r l) = ∑ k : Fin 1024, x (ix2 r k) * w (ix2 l k) := by
  pointwise [k0_pay7]

/-- Which block each window reads or writes at point `t`. -/
theorem idx : ∀ t : Fin cfg0.N, win0_0.index t = ![t.val, 0] ∧ win0_1.index t = ![1, 0] ∧ win0_2.index t = ![t.val, 2]
    ∧ win0_3.index t = ![t.val, 0] ∧ win0_4.index t = ![0, 0] ∧ win0_5.index t = ![0, 0] ∧ win0_6.index t = ![t.val, 0] ∧ win0_7.index t = ![t.val, 0]
    ∧ win0_8.index t = ![0, 0] ∧ win0_9.index t = ![0, 0] ∧ win0_10.index t = ![0, 0] :=
  (by decide +kernel : ∀ t : Fin grid0.N, _)

/-- Row `r` of the block of point `t` in the whole array. -/
abbrev row (t : Fin cfg0.N) (r : Fin 512) : Fin 4096 := ⟨t.val * 512 + r, by have := t.isLt; have : t.val < 8 := this; omega⟩

theorem emb6 (t : Fin cfg0.N) (r : Fin 512) (l : Fin 1024) :
    ((View.whole main_v4_0).slice (win0_6.rect t)).emb (ix2 r l) = (ix2 (row t r) l : S4096x1024.Idx) := by blk_ext [idx t]
theorem emb7 (t : Fin cfg0.N) (r : Fin 512) (l : Fin 1024) :
    ((View.whole main_v4_1).slice (win0_7.rect t)).emb (ix2 r l) = (ix2 (row t r) l : S4096x1024.Idx) := by blk_ext [idx t]

variable (m : (ℓ : Loc nD τ sig) → Buf (Elt Ideal) ℓ)

/-! The argument arrays. -/

abbrev X0 (c : Dev nD) : FVec Ideal S4096x1024 .f32 := m ((c : Thread nD τ).loc main_arg0)
abbrev X1 (c : Dev nD) : FVec Ideal S2048x1024 .f32 := m ((c : Thread nD τ).loc main_arg1)
abbrev X2 (c : Dev nD) : FVec Ideal S4096x3072 .f32 := m ((c : Thread nD τ).loc main_arg2)
abbrev X3 (c : Dev nD) : FVec Ideal S4096x1024 .f32 := m ((c : Thread nD τ).loc main_arg3)
abbrev X4 (c : Dev nD) : FVec Ideal S1x1024 .f32 := m ((c : Thread nD τ).loc main_arg4)
abbrev X5 (c : Dev nD) : FVec Ideal S1x1024 .f32 := m ((c : Thread nD τ).loc main_arg5)
abbrev X6 (c : Dev nD) : FVec Ideal S1x1024 .f32 := m ((c : Thread nD τ).loc main_arg6)

/-! The values at one token. -/

abbrev dy (c : Dev nD) (s : Fin 4096) (l : Fin 1024) : EReal := ∑ k : Fin 1024, X0 m c (ix2 s k) * X1 m c (ix2 ⟨1024 + l, by omega⟩ k)
abbrev gt (c : Dev nD) (s : Fin 4096) (l : Fin 1024) : EReal := X2 m c (ix2 s ⟨2048 + l, by omega⟩)
abbrev cv (c : Dev nD) (s : Fin 4096) (l : Fin 1024) : EReal := X3 m c (ix2 s l) + X4 m c (ix2 0 l)
abbrev lg (c : Dev nD) (l : Fin 1024) : EReal := X5 m c (ix2 0 l)
abbrev lb (c : Dev nD) (l : Fin 1024) : EReal := X6 m c (ix2 0 l)
abbrev dl (c : Dev nD) (s : Fin 4096) (l : Fin 1024) : EReal := dln (dy m c s l) (aff (cv m c s) (lg m c) (lb m c) l) (gt m c s l)

theorem blk0 (c : Dev nD) (t : Fin cfg0.N) (r : Fin 512) (l : Fin 1024) :
    (iblk m c 0 t : FVec Ideal S512x1024 .bf16) (ix2 r l) = X0 m c (ix2 (row t r) l) := by
  blk_point [iblk, V, idx t]
theorem blk1 (c : Dev nD) (t : Fin cfg0.N) (r l : Fin 1024)  :
    (iblk m c 1 t : FVec Ideal S1024x1024 .bf16) (ix2 r l) = X1 m c (ix2 ⟨1024 + r, by omega⟩ l) := by
  blk_point [iblk, V, idx t]
theorem blk2 (c : Dev nD) (t : Fin cfg0.N) (r : Fin 512) (l : Fin 1024) :
    (iblk m c 2 t : FVec Ideal S512x1024 .f32) (ix2 r l) = gt m c (row t r) l := by
  blk_point [iblk, V, idx t]
theorem V3 (c : Dev nD) (p : Fin 4096) (l : Fin 1024) : (V m c main_v3 : FVec Ideal S4096x1024 .f32) (ix2 p l) = cv m c p l := by
  unfold V
  simp only [hostOps0, List.flatten_cons, List.flatten_nil, List.append_nil]
  after_results
  pointwise
theorem blk3 (c : Dev nD) (t : Fin cfg0.N) (r : Fin 512) (l : Fin 1024) :
    (iblk m c 3 t : FVec Ideal S512x1024 .f32) (ix2 r l) = cv m c (row t r) l := by
  refine Eq.trans ?_ (V3 m c (row t r) l)
  blk_point [iblk, idx t]
theorem blk4 (c : Dev nD) (t : Fin cfg0.N) (l : Fin 1024) :
    (iblk m c 4 t : FVec Ideal S1x1024 .f32) (ix2 0 l) = lg m c l := by
  blk_point [iblk, V, idx t]
theorem blk5 (c : Dev nD) (t : Fin cfg0.N) (l : Fin 1024) :
    (iblk m c 5 t : FVec Ideal S1x1024 .f32) (ix2 0 l) = lb m c l := by
  blk_point [iblk, V, idx t]

/-! What the payloads hold at point `t`. -/

theorem p15 (c : Dev nD) (t : Fin cfg0.N) (r : Fin 512) (l : Fin 1024) :
    k0_pay15 (F := Ideal) (k0_pay7 (iblk m c 0 t) (iblk m c 1 t)) (k0_pay11 (iblk m c 3 t) (iblk m c 4 t) (iblk m c 5 t)) (k0_pay12 (iblk m c 3 t) (iblk m c 4 t) (iblk m c 5 t))
      (Scalar.ofBits .f32 0x3F800000#32) (iblk m c 2 t) (ix2 r l) = dgt (dy m c (row t r) l) (aff (cv m c (row t r)) (lg m c) (lb m c) l) (gt m c (row t r) l) := by
  rw [pay15_at, pay7_at]
  simp only [blk0, blk1, blk2, blk3, blk4, blk5]
theorem p16 (c : Dev nD) (t : Fin cfg0.N) (r : Fin 512) (l : Fin 1024) :
    k0_pay16 (F := Ideal) (k0_pay7 (iblk m c 0 t) (iblk m c 1 t)) (k0_pay11 (iblk m c 3 t) (iblk m c 4 t) (iblk m c 5 t)) (k0_pay12 (iblk m c 3 t) (iblk m c 4 t) (iblk m c 5 t))
      (Scalar.ofBits .f32 0x3F800000#32) (iblk m c 2 t) (ix2 r l) = dl m c (row t r) l := by
  rw [pay16_at, pay7_at]
  simp only [blk0, blk1, blk2, blk3, blk4, blk5]
theorem p10 (c : Dev nD) (t : Fin cfg0.N) (r : Fin 512) (l : Fin 1024) :
    k0_pay10 (F := Ideal) (iblk m c 3 t) (ix2 r l) = nrm (cv m c (row t r)) l := by
  rw [pay10_at]
  simp only [blk3]
theorem p2 (c : Dev nD) (t : Fin cfg0.N) (r : Fin 512) (l : Fin 1024) :
    k0_pay2 (F := Ideal) (k0_pay9 (iblk m c 3 t)) (k0_pay10 (iblk m c 3 t)) (iblk m c 4 t) (k0_pay16 (F := Ideal) (k0_pay7 (iblk m c 0 t) (iblk m c 1 t)) (k0_pay11 (iblk m c 3 t) (iblk m c 4 t) (iblk m c 5 t)) (k0_pay12 (iblk m c 3 t) (iblk m c 4 t) (iblk m c 5 t))
      (Scalar.ofBits .f32 0x3F800000#32) (iblk m c 2 t)) (ix2 r l) = dcv (cv m c (row t r)) (lg m c) (dl m c (row t r)) l := by
  rw [pay2_at]
  simp only [p16, blk3, blk4]

theorem final6 (c : Dev nD) : (dats m 0 c).arrAt 6 cfg0.N = fun i => dgt (dy m c (i 0) (i 1)) (aff (cv m c (i 0)) (lg m c) (lb m c) (i 1)) (gt m c (i 0) (i 1)) := by
  refine (dats m 0 c).arrAt_eq_of_covers 6 _ (by decide +kernel) fun t _ y => ?_
  blk_simp
  obtain ⟨r, l, rfl⟩ : ∃ (r : Fin 512) (l : Fin 1024), y = ix2 r l := ⟨y 0, y 1, by funext a; fin_cases a <;> rfl⟩
  rw [emb6, after0_6]
  refine Eq.trans ?_ (p15 m c t r l)
  by_cases h0 : t.val % 8 = 0
  · rw [outsAt0_A m c t h0]; frame_out
  · rw [outsAt0_B m c t h0]; frame_out

theorem final7 (c : Dev nD) : (dats m 0 c).arrAt 7 cfg0.N = fun i => dcv (cv m c (i 0)) (lg m c) (dl m c (i 0)) (i 1) := by
  refine (dats m 0 c).arrAt_eq_of_covers 7 _ (by decide +kernel) fun t _ y => ?_
  blk_simp
  obtain ⟨r, l, rfl⟩ : ∃ (r : Fin 512) (l : Fin 1024), y = ix2 r l := ⟨y 0, y 1, by funext a; fin_cases a <;> rfl⟩
  rw [emb7, after0_7]
  refine Eq.trans ?_ (p2 m c t r l)
  by_cases h0 : t.val % 8 = 0
  · rw [outsAt0_A m c t h0]; frame_out
  · rw [outsAt0_B m c t h0]; frame_out

theorem pay1_at (a : FVec Ideal S1x1024 .f32) (x : FVec Ideal S512x1024 .f32) (l : Fin 1024) :
    k0_pay1 (F := Ideal) (k0_pay18 a) x (ix2 0 l) = a (ix2 0 l) + ∑ r : Fin 512, x (ix2 r l) := by
  pointwise [k0_pay1, k0_pay18]
theorem pay17_at (y p1 p2 : FVec Ideal S512x1024 .f32) (q : Ideal .f32) (gt : FVec Ideal S512x1024 .f32) (a : FVec Ideal S1x1024 .f32) (l : Fin 1024) :
    k0_pay17 (F := Ideal) y p1 p2 q gt a (ix2 0 l) = a (ix2 0 l) + ∑ r : Fin 512, k0_pay16 (F := Ideal) y p1 p2 q gt (ix2 r l) := by
  unfold k0_pay17
  generalize k0_pay16 (F := Ideal) _ _ _ _ _ = P
  pointwise
theorem pay3_at (p9 : FVec Ideal S512x1 .f32) (p10 : FVec Ideal S512x1024 .f32) (g : FVec Ideal S1x1024 .f32) (d : FVec Ideal S512x1024 .f32) (a : FVec Ideal S1x1024 .f32) (l : Fin 1024) :
    k0_pay3 (F := Ideal) p9 p10 g d a (ix2 0 l) = a (ix2 0 l) + ∑ r : Fin 512, k0_pay2 (F := Ideal) p9 p10 g d (ix2 r l) := by
  unfold k0_pay3
  generalize k0_pay2 (F := Ideal) _ _ _ _ = P
  pointwise
theorem pay19_at (y p1 p2 : FVec Ideal S512x1024 .f32) (q : Ideal .f32) (p10 gt : FVec Ideal S512x1024 .f32) (r : Fin 512) (l : Fin 1024) :
    k0_pay19 (F := Ideal) y p10 p1 p2 q gt (ix2 r l) = k0_pay16 (F := Ideal) y p1 p2 q gt (ix2 r l) * p10 (ix2 r l) := by
  unfold k0_pay19
  generalize k0_pay16 (F := Ideal) _ _ _ _ _ = P
  pointwise
theorem zero4 (l : Fin 1024) : k0_pay4 (F := Ideal) (ix2 0 l) = 0 := by pointwise [k0_pay4]
theorem zero5 (l : Fin 1024) : k0_pay5 (F := Ideal) (ix2 0 l) = 0 := by pointwise [k0_pay5]
theorem zero6 (l : Fin 1024) : k0_pay6 (F := Ideal) (ix2 0 l) = 0 := by pointwise [k0_pay6]

theorem sum_rows (f : Fin 4096 → EReal) : ∑ p : Fin cfg0.N, ∑ r : Fin 512, f (row p r) = ∑ s, f s :=
  (Fin.sum_univ_tiles 8 512 rfl f).symm

theorem idx1 (j : S1x1024.Idx) : ∃ l : Fin 1024, j = ix2 0 l :=
  ⟨j 1, by funext a; fin_cases a; exacts [Fin.ext (by have h : (j 0 : ℕ) < 1 := (j 0).isLt; show (j 0 : ℕ) = 0; omega), rfl]⟩

theorem final8 (c : Dev nD) : (dats m 0 c).arrAt 8 cfg0.N = fun i => ∑ s : Fin 4096, dl m c s (i 1) * nrm (cv m c s) (i 1) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0)
    (fun t j => ∑ r : Fin 512, dl m c (row t r) (j 1) * nrm (cv m c (row t r)) (j 1))
    (fun t h j => by
      obtain ⟨l, rfl⟩ := idx1 j
      rw [outsAt0_A m c t h]; frame_out; rw [pay1_at, zero4]; simp only [pay19_at, p16, p10]; rfl)
    (fun t h j => by
      obtain ⟨l, rfl⟩ := idx1 j
      rw [outsAt0_B m c t h]; frame_out; rw [pay1_at]; simp only [pay19_at, p16, p10]; rfl)
    (le_of_eq N_0) t0_7 rfl j, zero_add]
  exact sum_rows fun s => dl m c s (j 1) * nrm (cv m c s) (j 1)

theorem final9 (c : Dev nD) : (dats m 0 c).arrAt 9 cfg0.N = fun i => ∑ s : Fin 4096, dl m c s (i 1) := by
  refine (dats m 0 c).arrAt_eq_of_after_last 9 t0_7 (by decide +kernel) _ fun j => ?_
  blk_simp
  rw [after0_9, Pipeline.eq_sum_fin_of_reset_step_apply_last (fun n h => (outsAt0 m c n h).2.2.2.1) 8 (fun _ => 0)
    (fun t j => ∑ r : Fin 512, dl m c (row t r) (j 1))
    (fun t h j => by
      obtain ⟨l, rfl⟩ := idx1 j
      rw [outsAt0_A m c t h]; frame_out; rw [pay17_at, zero5]; simp only [p16]; rfl)
    (fun t h j => by
      obtain ⟨l, rfl⟩ := idx1 j
      rw [outsAt0_B m c t h]; frame_out; rw [pay17_at]; simp only [p16]; rfl)
    (le_of_eq N_0) t0_7 rfl j, zero_add]
  exact sum_rows fun s => dl m c s (j 1)

theorem final10 (c : Dev nD) : (dats m 0 c).arrAt 10 cfg0.N = fun i => ∑ s : Fin 4096, dcv (cv m c s) (lg m c) (dl m c s) (i 1) := by
  refine (dats m 0 c).arrAt_eq_of_after_last 10 t0_7 (by decide +kernel) _ fun j => ?_
  blk_simp
  rw [after0_10, Pipeline.eq_sum_fin_of_reset_step_apply_last (fun n h => (outsAt0 m c n h).2.2.2.2) 8 (fun _ => 0)
    (fun t j => ∑ r : Fin 512, dcv (cv m c (row t r)) (lg m c) (dl m c (row t r)) (j 1))
    (fun t h j => by
      obtain ⟨l, rfl⟩ := idx1 j
      rw [outsAt0_A m c t h]; frame_out; rw [pay3_at, zero6]; simp only [p2]; rfl)
    (fun t h j => by
      obtain ⟨l, rfl⟩ := idx1 j
      rw [outsAt0_B m c t h]; frame_out; rw [pay3_at]; simp only [p2]; rfl)
    (le_of_eq N_0) t0_7 rfl j, zero_add]
  exact sum_rows fun s => dcv (cv m c s) (lg m c) (dl m c s) (j 1)

end Cert.LnormIdeal.Val
end
-- ==== Proof.LnormMath.lean ====
/- The convolution branch's backward call at the reals: one row of the layer norm, the swish and the gate, forwards and
   backwards; the kernel's forms coerced, the reference's stages coerced, and the one equation between the two forms of
   the layer norm's gradient. -/
module

public import proofs.«01_k».proof.Proof.LnormVal
public import proofs.«01_k».proof.Proof.Gen.LnormRefIdeal.Read

@[expose] public section
set_option maxRecDepth 16384
noncomputable section
namespace Cert.Lnorm.Math
open Idealize.ShloMosaic Idealize.ShloMosaic.TcCoe Idealize.SL.Sem
open Cert.LnormIdeal.Val Cert.Step

def rmean (f : Fin 1024 → ℝ) : ℝ := (∑ k, f k) / 1024
def rcen (f : Fin 1024 → ℝ) (l : Fin 1024) : ℝ := f l - rmean f
def rvar (f : Fin 1024 → ℝ) : ℝ := rmean (fun k => rcen f k * rcen f k) + eps5
def rrstd (f : Fin 1024 → ℝ) : ℝ := (Real.sqrt (rvar f))⁻¹
def rnrm (f : Fin 1024 → ℝ) (l : Fin 1024) : ℝ := rcen f l * rrstd f
def raff (f g b : Fin 1024 → ℝ) (l : Fin 1024) : ℝ := rnrm f l * g l + b l
def rdsilu (v : ℝ) : ℝ := sig v * (1 + v * (1 - sig v))
def rdgt (y ln gt : ℝ) : ℝ := y * (ln * sig ln) * rdsilu gt
def rdln (y ln gt : ℝ) : ℝ := y * (gt * sig gt) * rdsilu ln
def rdcv (f g d : Fin 1024 → ℝ) (l : Fin 1024) : ℝ :=
  rrstd f * (d l * g l - rmean (fun k => d k * g k) - rnrm f l * rmean (fun k => d k * g k * rnrm f k))

theorem rvar_pos (f : Fin 1024 → ℝ) : 0 < rvar f := by
  unfold rvar rmean
  have h : 0 ≤ ∑ k, rcen f k * rcen f k := Finset.sum_nonneg fun k _ => mul_self_nonneg _
  have := eps5_pos
  positivity

theorem div_1024 (x : ℝ) : Ideal.div (x : EReal) ((1024 : ℝ) : EReal) = ((x / 1024 : ℝ) : EReal) := div_coe_ne (by norm_num) x

/-! The kernel's forms. -/

theorem mean_coe (f : Fin 1024 → ℝ) : mean (fun k => (f k : EReal)) = (rmean f : EReal) := by
  unfold mean rmean; rw [ofBits_1024, coe_sum, div_1024]
theorem cen_coe (f : Fin 1024 → ℝ) (l : Fin 1024) : cen (fun k => (f k : EReal)) l = (rcen f l : EReal) := by
  unfold cen rcen; rw [mean_coe, EReal.coe_sub]
theorem rstd_coe (f : Fin 1024 → ℝ) : rstd (fun k => (f k : EReal)) = (rrstd f : EReal) := by
  unfold rstd rrstd; simp only [cen_coe, ← EReal.coe_mul]; rw [mean_coe, ofBits_eps5, ← EReal.coe_add]; exact rsqrt_coe (rvar_pos f)
theorem nrm_coe (f : Fin 1024 → ℝ) (l : Fin 1024) : nrm (fun k => (f k : EReal)) l = (rnrm f l : EReal) := by
  unfold nrm rnrm; rw [cen_coe, rstd_coe, EReal.coe_mul]
theorem aff_coe (f g b : Fin 1024 → ℝ) (l : Fin 1024) :
    aff (fun k => (f k : EReal)) (fun k => (g k : EReal)) (fun k => (b k : EReal)) l = (raff f g b l : EReal) := by
  unfold aff raff; rw [nrm_coe, EReal.coe_add, EReal.coe_mul]
theorem sg_coe (v : ℝ) : sg (v : EReal) = (sig v : EReal) := sig_coe' v
theorem dsilu_coe (v : ℝ) : dsilu (v : EReal) = (rdsilu v : EReal) := by
  unfold dsilu rdsilu; rw [sg_coe]; simp only [← EReal.coe_one, ← EReal.coe_mul, ← EReal.coe_add, ← EReal.coe_sub]
theorem dgt_coe (y ln gt : ℝ) : dgt (y : EReal) (ln : EReal) (gt : EReal) = (rdgt y ln gt : EReal) := by
  unfold dgt rdgt; rw [sg_coe, dsilu_coe]; simp only [← EReal.coe_mul]
theorem dln_coe (y ln gt : ℝ) : dln (y : EReal) (ln : EReal) (gt : EReal) = (rdln y ln gt : EReal) := by
  unfold dln rdln; rw [sg_coe, dsilu_coe]; simp only [← EReal.coe_mul]
theorem dcv_coe (f g d : Fin 1024 → ℝ) (l : Fin 1024) :
    dcv (fun k => (f k : EReal)) (fun k => (g k : EReal)) (fun k => (d k : EReal)) l = (rdcv f g d l : EReal) := by
  unfold dcv rdcv; simp only [rstd_coe, nrm_coe, ← EReal.coe_mul]; rw [mean_coe, mean_coe]; simp only [← EReal.coe_mul, ← EReal.coe_sub]

/-! The layer norm's gradient in the reference's form. -/

theorem sum_rcen (f : Fin 1024 → ℝ) : ∑ k, rcen f k = 0 := by
  unfold rcen rmean
  rw [Finset.sum_sub_distrib]; simp; ring

/-- The factor of the centred row in the gradient through the variance. -/
def rq (f g d : Fin 1024 → ℝ) : ℝ := (∑ k, rcen f k * (d k * g k)) * (-(1 / 2) * (rrstd f / rvar f)) / 1024

theorem rdcv_eq (f g d : Fin 1024 → ℝ) (l : Fin 1024) :
    rdcv f g d l = d l * g l * rrstd f + rq f g d * (2 * rcen f l)
      + ((∑ k, -(d k * g k * rrstd f)) + ∑ k, -(rq f g d * (2 * rcen f k))) / 1024 := by
  have h1 : ∑ k, -(rq f g d * (2 * rcen f k)) = 0 := by
    rw [Finset.sum_neg_distrib, ← Finset.mul_sum, ← Finset.mul_sum, sum_rcen]; ring
  have h2 : ∑ k, -(d k * g k * rrstd f) = -((∑ k, d k * g k) * rrstd f) := by
    rw [Finset.sum_neg_distrib, ← Finset.sum_mul]
  have h3 : ∑ k, d k * g k * rnrm f k = (∑ k, rcen f k * (d k * g k)) * rrstd f := by
    rw [Finset.sum_mul]; refine Finset.sum_congr rfl fun k _ => ?_; unfold rnrm; ring
  have h4 : rrstd f * rrstd f = (rvar f)⁻¹ := by
    unfold rrstd; rw [← mul_inv, Real.mul_self_sqrt (rvar_pos f).le]
  have h5 : rrstd f / rvar f = rrstd f * (rrstd f * rrstd f) := by rw [h4, div_eq_mul_inv]
  rw [h1, h2]
  unfold rdcv rq
  unfold rmean
  rw [h3, h5]
  unfold rnrm
  ring

/-! The reference's stages. -/
section
open Cert.LnormRefIdeal Cert.LnormRefIdeal.Read

theorem ofBits_neg_half : Ideal.ofBits .f32 0xBF000000#32 = ((-(1 / 2) : ℝ) : EReal) := by
  simp [Ideal.ofBits, Ideal.ieee, -EReal.coe_mul]; norm_num

variable (a0 a3 : S4096x1024.Idx → ℝ) (a1 : S2048x1024.Idx → ℝ) (a2 : S4096x3072.Idx → ℝ) (a4 a5 a6 : S1x1024.Idx → ℝ)

/-- An array of reals as the programs hold it. -/
abbrev up {s : Shape} (a : s.Idx → ℝ) : FVec Ideal s .f32 := fun i => (a i : EReal)

abbrev cvr (s : Fin 4096) (l : Fin 1024) : ℝ := a3 (ix2 s l) + a4 (ix2 0 l)
abbrev gr (l : Fin 1024) : ℝ := a5 (ix2 0 l)
abbrev dyr (s : Fin 4096) (l : Fin 1024) : ℝ := ∑ k : Fin 1024, a0 (ix2 s k) * a1 (ix2 ⟨1024 + l, by omega⟩ k)
abbrev gtr (s : Fin 4096) (l : Fin 1024) : ℝ := a2 (ix2 s ⟨2048 + l, by omega⟩)
abbrev lnr (s : Fin 4096) (l : Fin 1024) : ℝ := raff (cvr a3 a4 s) (gr a5) (gr a6) l
abbrev dlr (s : Fin 4096) (l : Fin 1024) : ℝ := rdln (dyr a0 a1 s l) (lnr a3 a4 a5 a6 s l) (gtr a2 s l)

theorem r4 (s : Fin 4096) (l : Fin 1024) : val_main_v4 (F := Ideal) (up a3) (up a4) (ix2 s l) = ((cvr a3 a4 s l : ℝ) : EReal) := by
  pointwise [val_main_v4, val_main_v3, val_main_v2, val_main_v1]
  rw [EReal.coe_add]
theorem r12 (s : Fin 4096) (l : Fin 1024) : val_main_v12 (F := Ideal) (up a3) (up a4) (ix2 s l) = ((rcen (cvr a3 a4 s) l : ℝ) : EReal) := by
  pointwise [val_main_v12, val_main_v11, val_main_v10, val_main_v9, val_main_v8, val_main_v7, val_main_cst, val_main_cst_0]
  simp only [r4]; exact cen_coe _ _
theorem r21 (s : Fin 4096) (l : Fin 1024) : val_main_v21 (F := Ideal) (up a3) (up a4) (ix2 s l) = ((rcen (cvr a3 a4 s) l : ℝ) : EReal) := by
  pointwise [val_main_v21, val_main_v20, val_main_v10, val_main_v9, val_main_v8, val_main_v7, val_main_cst, val_main_cst_0]
  simp only [r4]; exact cen_coe _ _
theorem r15 (s : Fin 4096) (l : Fin 1024) : val_main_v15 (F := Ideal) (up a3) (up a4) (ix2 s l) = ((2 * rcen (cvr a3 a4 s) l : ℝ) : EReal) := by
  pointwise [val_main_v15, val_main_v14, val_main_cst_1]
  rw [r12, ofBits_two, ← EReal.coe_mul]
theorem r23 (s : Fin 4096) : val_main_v23 (F := Ideal) (up a3) (up a4) (ix2 s 0) = ((rvar (cvr a3 a4 s) : ℝ) : EReal) := by
  pointwise [val_main_v23, val_main_v22, val_main_cst_4, val_main_v19, val_main_v18, val_main_cst_3, val_main_v17, val_main_v16, val_main_cst_2, val_main_v13]
  simp only [r12, ← EReal.coe_mul]; rw [ofBits_eps5, coe_sum, ofBits_1024, div_1024, ← EReal.coe_add]; rfl
theorem r24 (s : Fin 4096) : val_main_v24 (F := Ideal) (up a3) (up a4) (ix2 s 0) = ((rrstd (cvr a3 a4 s) : ℝ) : EReal) := by
  pointwise [val_main_v24]
  rw [r23]; exact rsqrt_coe (rvar_pos _)
theorem r27 (s : Fin 4096) : val_main_v27 (F := Ideal) (up a3) (up a4) (ix2 s 0) = ((-(1 / 2) * (rrstd (cvr a3 a4 s) / rvar (cvr a3 a4 s)) : ℝ) : EReal) := by
  pointwise [val_main_v27, val_main_v26, val_main_v25, val_main_cst_5]
  rw [r23, r24, ofBits_neg_half, div_coe_ne (rvar_pos _).ne', ← EReal.coe_mul]
theorem r29 (s : Fin 4096) (l : Fin 1024) : val_main_v29 (F := Ideal) (up a3) (up a4) (ix2 s l) = ((rnrm (cvr a3 a4 s) l : ℝ) : EReal) := by
  pointwise [val_main_v29, val_main_v28]
  rw [r21, show val_main_v24 (F := Ideal) (up a3) (up a4) (ix2 s 0) = _ from r24 a3 a4 s, ← EReal.coe_mul]; rfl
theorem r35 (s : Fin 4096) (l : Fin 1024) : val_main_v35 (F := Ideal) (up a3) (up a4) (up a5) (up a6) (ix2 s l) = ((lnr a3 a4 a5 a6 s l : ℝ) : EReal) := by
  pointwise [val_main_v35, val_main_v34, val_main_v33, val_main_v32, val_main_v31, val_main_v30, val_main_v6, val_main_v5]
  rw [r29]; simp only [← EReal.coe_mul, ← EReal.coe_add]; rfl
theorem r36_2 (s : Fin 4096) (l : Fin 1024) : val_main_v36_2 (F := Ideal) (up a3) (up a4) (up a5) (up a6) (ix2 s l) = ((sig (lnr a3 a4 a5 a6 s l) : ℝ) : EReal) := by
  pointwise [val_main_v36_2, val_main_call0_v4, val_main_call0_v3, val_main_call0_v2, val_main_call0_v1, val_main_call0_v0, val_main_call0_cst, val_main_call0_cst_0]
  rw [r35]; exact sig_coe _
theorem r36_1 (s : Fin 4096) (l : Fin 1024) : val_main_v36_1 (F := Ideal) (up a3) (up a4) (up a5) (up a6) (ix2 s l) = ((sig (lnr a3 a4 a5 a6 s l) * (1 - sig (lnr a3 a4 a5 a6 s l)) : ℝ) : EReal) := by
  pointwise [val_main_v36_1, val_main_call0_v7, val_main_call0_v6, val_main_call0_cst_1]
  rw [r36_2]; simp only [← EReal.coe_one, ← EReal.coe_sub, ← EReal.coe_mul]
theorem r36_0 (s : Fin 4096) (l : Fin 1024) : val_main_v36_0 (F := Ideal) (up a3) (up a4) (up a5) (up a6) (ix2 s l) = ((lnr a3 a4 a5 a6 s l * sig (lnr a3 a4 a5 a6 s l) : ℝ) : EReal) := by
  pointwise [val_main_v36_0]
  rw [r35, r36_2, ← EReal.coe_mul]
theorem r37_2 (s : Fin 4096) (l : Fin 1024) : val_main_v37_2 (F := Ideal) (up a2) (ix2 s l) = ((sig (gtr a2 s l) : ℝ) : EReal) := by
  pointwise [val_main_v37_2, val_main_call1_v4, val_main_call1_v3, val_main_call1_v2, val_main_call1_v1, val_main_call1_v0, val_main_call1_cst, val_main_call1_cst_0, val_main_v0]
  exact sig_coe _
theorem r37_1 (s : Fin 4096) (l : Fin 1024) : val_main_v37_1 (F := Ideal) (up a2) (ix2 s l) = ((sig (gtr a2 s l) * (1 - sig (gtr a2 s l)) : ℝ) : EReal) := by
  pointwise [val_main_v37_1, val_main_call1_v7, val_main_call1_v6, val_main_call1_cst_1]
  rw [r37_2]; simp only [← EReal.coe_one, ← EReal.coe_sub, ← EReal.coe_mul]
theorem r37_0 (s : Fin 4096) (l : Fin 1024) : val_main_v37_0 (F := Ideal) (up a2) (ix2 s l) = ((gtr a2 s l * sig (gtr a2 s l) : ℝ) : EReal) := by
  pointwise [val_main_v37_0, val_main_v0]
  rw [r37_2]; exact (EReal.coe_mul _ _).symm
theorem r41 (s : Fin 4096) (l : Fin 1024) : val_main_v41 (F := Ideal) (up a0) (up a1) (ix2 s l) = ((dyr a0 a1 s l : ℝ) : EReal) := by
  pointwise [val_main_v41, val_main_v39]
  simp only [← EReal.coe_mul]; rw [coe_sum]
theorem r44 (s : Fin 4096) (l : Fin 1024) : val_main_v44 (F := Ideal) (up a0) (up a1) (up a2) (up a3) (up a4) (up a5) (up a6) (ix2 s l) = ((rdgt (dyr a0 a1 s l) (lnr a3 a4 a5 a6 s l) (gtr a2 s l) : ℝ) : EReal) := by
  pointwise [val_main_v44, val_main_call2_v0, val_main_call2_v1, val_main_call2_v2, val_main_v42, val_main_v0]
  rw [r36_0, r37_2, r37_1, r41]; simp only [← EReal.coe_mul, ← EReal.coe_add]; congr 1; unfold rdgt rdsilu; ring
theorem r45 (s : Fin 4096) (l : Fin 1024) : val_main_v45 (F := Ideal) (up a0) (up a1) (up a2) (up a3) (up a4) (up a5) (up a6) (ix2 s l) = ((dlr a0 a3 a1 a2 a4 a5 a6 s l : ℝ) : EReal) := by
  pointwise [val_main_v45, val_main_call3_v0, val_main_call3_v1, val_main_call3_v2, val_main_v43]
  rw [r36_2, r36_1, r37_0, r41, r35]; simp only [← EReal.coe_mul, ← EReal.coe_add]; congr 1; unfold dlr rdln rdsilu; ring
theorem r53 (s : Fin 4096) (l : Fin 1024) : val_main_v53 (F := Ideal) (up a0) (up a1) (up a2) (up a3) (up a4) (up a5) (up a6) (ix2 s l) = ((dlr a0 a3 a1 a2 a4 a5 a6 s l * gr a5 l : ℝ) : EReal) := by
  pointwise [val_main_v53, val_main_v52, val_main_v30, val_main_v5]
  rw [r45, ← EReal.coe_mul]
theorem r59 (s : Fin 4096) (l : Fin 1024) : val_main_v59 (F := Ideal) (up a0) (up a1) (up a2) (up a3) (up a4) (up a5) (up a6) (ix2 s l) = ((dlr a0 a3 a1 a2 a4 a5 a6 s l * gr a5 l * rrstd (cvr a3 a4 s) : ℝ) : EReal) := by
  pointwise [val_main_v59, val_main_v58]
  rw [r53, show val_main_v24 (F := Ideal) (up a3) (up a4) (ix2 s 0) = _ from r24 a3 a4 s, ← EReal.coe_mul]
theorem r65 (s : Fin 4096) : val_main_v65 (F := Ideal) (up a0) (up a1) (up a2) (up a3) (up a4) (up a5) (up a6) (ix2 s 0) = ((rq (cvr a3 a4 s) (gr a5) (dlr a0 a3 a1 a2 a4 a5 a6 s) : ℝ) : EReal) := by
  pointwise [val_main_v65, val_main_v64, val_main_cst_12, val_main_v60, val_main_v57, val_main_v56, val_main_v55, val_main_cst_10]
  simp only [r21, r53]; rw [show val_main_v27 (F := Ideal) (up a3) (up a4) (ix2 s 0) = _ from r27 a3 a4 s]; simp only [← EReal.coe_mul]; rw [coe_sum, ← EReal.coe_mul, ofBits_1024, div_1024]; rfl
theorem r68 (s : Fin 4096) (l : Fin 1024) : val_main_v68 (F := Ideal) (up a0) (up a1) (up a2) (up a3) (up a4) (up a5) (up a6) (ix2 s l) = ((rq (cvr a3 a4 s) (gr a5) (dlr a0 a3 a1 a2 a4 a5 a6 s) * (2 * rcen (cvr a3 a4 s) l) : ℝ) : EReal) := by
  pointwise [val_main_v68, val_main_v67, val_main_v66, val_main_cst_13]
  rw [Fin.sum_univ_one, r15, show val_main_v65 (F := Ideal) (up a0) (up a1) (up a2) (up a3) (up a4) (up a5) (up a6) (ix2 s 0) = _ from r65 a0 a3 a1 a2 a4 a5 a6 s, ← EReal.coe_mul]
theorem r78 (s : Fin 4096) (l : Fin 1024) : val_main_v78 (F := Ideal) (up a0) (up a1) (up a2) (up a3) (up a4) (up a5) (up a6) (ix2 s l) = ((rdcv (cvr a3 a4 s) (gr a5) (dlr a0 a3 a1 a2 a4 a5 a6 s) l : ℝ) : EReal) := by
  pointwise [val_main_v78, val_main_v77, val_main_v76, val_main_cst_16, val_main_v75, val_main_v74, val_main_cst_15, val_main_v73, val_main_v72, val_main_v71, val_main_v70, val_main_cst_14, val_main_v69, val_main_v63, val_main_v62, val_main_cst_11, val_main_v61]
  rw [Fin.sum_univ_one]; simp only [r59, r68, ← EReal.coe_neg]; rw [coe_sum, coe_sum, ofBits_1024, ← EReal.coe_add, ← EReal.coe_add, div_1024, ← EReal.coe_add, rdcv_eq]
theorem r79 (l : Fin 1024) : val_main_v79 (F := Ideal) (up a0) (up a1) (up a2) (up a3) (up a4) (up a5) (up a6) (ix2 0 l) = ((∑ s, dlr a0 a3 a1 a2 a4 a5 a6 s l : ℝ) : EReal) := by
  pointwise [val_main_v79, val_main_v48, val_main_cst_7, val_main_v47, val_main_v46, val_main_cst_6]
  rw [Fin.sum_univ_one]; simp only [r45]; rw [coe_sum]
theorem r80 (l : Fin 1024) : val_main_v80 (F := Ideal) (up a0) (up a1) (up a2) (up a3) (up a4) (up a5) (up a6) (ix2 0 l) = ((∑ s, dlr a0 a3 a1 a2 a4 a5 a6 s l * rnrm (cvr a3 a4 s) l : ℝ) : EReal) := by
  pointwise [val_main_v80, val_main_v54, val_main_cst_9, val_main_v51, val_main_v50, val_main_cst_8, val_main_v49]
  rw [Fin.sum_univ_one]; simp only [r45, r29, ← EReal.coe_mul]; rw [coe_sum]; simp only [mul_comm]
theorem r84 (l : Fin 1024) : val_main_v84 (F := Ideal) (up a0) (up a1) (up a2) (up a3) (up a4) (up a5) (up a6) (ix2 0 l) = ((∑ s, rdcv (cvr a3 a4 s) (gr a5) (dlr a0 a3 a1 a2 a4 a5 a6 s) l : ℝ) : EReal) := by
  pointwise [val_main_v84, val_main_v83, val_main_cst_18, val_main_v82, val_main_v81, val_main_cst_17]
  rw [Fin.sum_univ_one]; simp only [r78]; rw [coe_sum]
theorem r85 (s : Fin 4096) (l : Fin 1024) : val_main_v85 (F := Ideal) (up a0) (up a1) (up a2) (up a3) (up a4) (up a5) (up a6) (ix2 s l) = ((rdgt (dyr a0 a1 s l) (lnr a3 a4 a5 a6 s l) (gtr a2 s l) : ℝ) : EReal) := by
  pointwise [val_main_v85]
  rw [r44]

end

end Cert.Lnorm.Math
end
-- ==== Proof.LnormClaim.lean ====
/- The convolution branch's backward call: at the reals, on finite arguments, the kernel's five results are the
   reference's. -/
module

public import proofs.«01_k».proof.Defs
public import proofs.«01_k».proof.Proof.LnormMath
public import proofs.«01_k».proof.Proof.Gen.LnormRefIdeal.Run
public import proofs.«01_k».proof.Proof.Gen.Lnorm.Frame

@[expose] public section
set_option maxRecDepth 16384
noncomputable section
namespace Cert.LnormIdeal.Val
open Idealize.ShloMosaic Idealize.ShloMosaic.TcCoe Idealize.SL.Sem
open Cert.LnormIdeal Cert.LnormIdeal.Gen Cert.Step Cert.Lnorm.Math

/-- The arguments are arrays of reals. -/
def Reals (m : (ℓ : Loc nD τ sig) → Buf (Elt Ideal) ℓ) (c : Dev nD) (a0 a3 : S4096x1024.Idx → ℝ) (a1 : S2048x1024.Idx → ℝ)
    (a2 : S4096x3072.Idx → ℝ) (a4 a5 a6 : S1x1024.Idx → ℝ) : Prop :=
  X0 m c = up a0 ∧ X1 m c = up a1 ∧ X2 m c = up a2 ∧ X3 m c = up a3 ∧ X4 m c = up a4 ∧ X5 m c = up a5 ∧ X6 m c = up a6

section
variable {m : (ℓ : Loc nD τ sig) → Buf (Elt Ideal) ℓ} {c : Dev nD} {a0 a3 : S4096x1024.Idx → ℝ} {a1 : S2048x1024.Idx → ℝ}
    {a2 : S4096x3072.Idx → ℝ} {a4 a5 a6 : S1x1024.Idx → ℝ}

theorem cv_eq (h : Reals m c a0 a3 a1 a2 a4 a5 a6) (s : Fin 4096) : cv m c s = fun l => ((cvr a3 a4 s l : ℝ) : EReal) := by
  obtain ⟨-, -, -, h3, h4, -, -⟩ := h
  funext l; unfold cv; rw [h3, h4, EReal.coe_add]
theorem lg_eq (h : Reals m c a0 a3 a1 a2 a4 a5 a6) : lg m c = fun l => ((gr a5 l : ℝ) : EReal) := by
  obtain ⟨-, -, -, -, -, h5, -⟩ := h
  funext l; unfold lg; rw [h5]
theorem lb_eq (h : Reals m c a0 a3 a1 a2 a4 a5 a6) : lb m c = fun l => ((gr a6 l : ℝ) : EReal) := by
  obtain ⟨-, -, -, -, -, -, h6⟩ := h
  funext l; unfold lb; rw [h6]
theorem gt_eq (h : Reals m c a0 a3 a1 a2 a4 a5 a6) (s : Fin 4096) (l : Fin 1024) : gt m c s l = ((gtr a2 s l : ℝ) : EReal) := by
  obtain ⟨-, -, h2, -, -, -, -⟩ := h
  unfold gt; rw [h2]
theorem dy_eq (h : Reals m c a0 a3 a1 a2 a4 a5 a6) (s : Fin 4096) (l : Fin 1024) : dy m c s l = ((dyr a0 a1 s l : ℝ) : EReal) := by
  obtain ⟨h0, h1, -, -, -, -, -⟩ := h
  unfold dy; rw [h0, h1]; simp only [← EReal.coe_mul]; rw [coe_sum]
theorem dl_eq (h : Reals m c a0 a3 a1 a2 a4 a5 a6) (s : Fin 4096) : dl m c s = fun l => ((dlr a0 a3 a1 a2 a4 a5 a6 s l : ℝ) : EReal) := by
  funext l; unfold dl; rw [cv_eq h, lg_eq h, lb_eq h, gt_eq h, dy_eq h, aff_coe, dln_coe]

theorem out6 (h : Reals m c a0 a3 a1 a2 a4 a5 a6) :
    (dats m 0 c).arrAt 6 cfg0.N = Cert.LnormRefIdeal.Read.val_main_v85 (F := Ideal) (X0 m c) (X1 m c) (X2 m c) (X3 m c) (X4 m c) (X5 m c) (X6 m c) := by
  rw [final6]
  funext i
  obtain ⟨r, l, rfl⟩ : ∃ (r : Fin 4096) (l : Fin 1024), i = ix2 r l := ⟨i 0, i 1, by funext a; fin_cases a <;> rfl⟩
  have e := r85 a0 a3 a1 a2 a4 a5 a6 r l
  rw [← h.1, ← h.2.1, ← h.2.2.1, ← h.2.2.2.1, ← h.2.2.2.2.1, ← h.2.2.2.2.2.1, ← h.2.2.2.2.2.2] at e
  rw [e]
  show dgt (dy m c r l) (aff (cv m c r) (lg m c) (lb m c) l) (gt m c r l) = _
  rw [cv_eq h r, lg_eq h, lb_eq h, gt_eq h, dy_eq h, aff_coe, dgt_coe]
theorem out7 (h : Reals m c a0 a3 a1 a2 a4 a5 a6) :
    (dats m 0 c).arrAt 7 cfg0.N = Cert.LnormRefIdeal.Read.val_main_v78 (F := Ideal) (X0 m c) (X1 m c) (X2 m c) (X3 m c) (X4 m c) (X5 m c) (X6 m c) := by
  rw [final7]
  funext i
  obtain ⟨r, l, rfl⟩ : ∃ (r : Fin 4096) (l : Fin 1024), i = ix2 r l := ⟨i 0, i 1, by funext a; fin_cases a <;> rfl⟩
  have e := r78 a0 a3 a1 a2 a4 a5 a6 r l
  rw [← h.1, ← h.2.1, ← h.2.2.1, ← h.2.2.2.1, ← h.2.2.2.2.1, ← h.2.2.2.2.2.1, ← h.2.2.2.2.2.2] at e
  rw [e]
  show dcv (cv m c r) (lg m c) (dl m c r) l = _
  rw [cv_eq h r, lg_eq h, dl_eq h r, dcv_coe]
theorem out8 (h : Reals m c a0 a3 a1 a2 a4 a5 a6) :
    (dats m 0 c).arrAt 8 cfg0.N = Cert.LnormRefIdeal.Read.val_main_v80 (F := Ideal) (X0 m c) (X1 m c) (X2 m c) (X3 m c) (X4 m c) (X5 m c) (X6 m c) := by
  rw [final8]
  funext i
  obtain ⟨l, rfl⟩ := idx1 i
  have e := r80 a0 a3 a1 a2 a4 a5 a6 l
  rw [← h.1, ← h.2.1, ← h.2.2.1, ← h.2.2.2.1, ← h.2.2.2.2.1, ← h.2.2.2.2.2.1, ← h.2.2.2.2.2.2] at e
  rw [e]
  show (∑ s : Fin 4096, dl m c s l * nrm (cv m c s) l : EReal) = _
  refine (Finset.sum_congr rfl fun s _ => ?_).trans (coe_sum _ _)
  rw [cv_eq h s, dl_eq h s, nrm_coe, ← EReal.coe_mul]
theorem out9 (h : Reals m c a0 a3 a1 a2 a4 a5 a6) :
    (dats m 0 c).arrAt 9 cfg0.N = Cert.LnormRefIdeal.Read.val_main_v79 (F := Ideal) (X0 m c) (X1 m c) (X2 m c) (X3 m c) (X4 m c) (X5 m c) (X6 m c) := by
  rw [final9]
  funext i
  obtain ⟨l, rfl⟩ := idx1 i
  have e := r79 a0 a3 a1 a2 a4 a5 a6 l
  rw [← h.1, ← h.2.1, ← h.2.2.1, ← h.2.2.2.1, ← h.2.2.2.2.1, ← h.2.2.2.2.2.1, ← h.2.2.2.2.2.2] at e
  rw [e]
  show (∑ s : Fin 4096, dl m c s l : EReal) = _
  refine (Finset.sum_congr rfl fun s _ => ?_).trans (coe_sum _ _)
  rw [dl_eq h s]
theorem out10 (h : Reals m c a0 a3 a1 a2 a4 a5 a6) :
    (dats m 0 c).arrAt 10 cfg0.N = Cert.LnormRefIdeal.Read.val_main_v84 (F := Ideal) (X0 m c) (X1 m c) (X2 m c) (X3 m c) (X4 m c) (X5 m c) (X6 m c) := by
  rw [final10]
  funext i
  obtain ⟨l, rfl⟩ := idx1 i
  have e := r84 a0 a3 a1 a2 a4 a5 a6 l
  rw [← h.1, ← h.2.1, ← h.2.2.1, ← h.2.2.2.1, ← h.2.2.2.2.1, ← h.2.2.2.2.2.1, ← h.2.2.2.2.2.2] at e
  rw [e]
  show (∑ s : Fin 4096, dcv (cv m c s) (lg m c) (dl m c s) l : EReal) = _
  refine (Finset.sum_congr rfl fun s _ => ?_).trans (coe_sum _ _)
  rw [cv_eq h s, lg_eq h, dl_eq h s, dcv_coe]
end

/-- The two programs end with equal results on finite arguments. -/
theorem algebraic [hPre : Cert.Pre_finite_lnorm.Facts] : Cert.algebraic_LnormIdeal_LnormRefIdeal_pre_finite_lnorm (hLnormIdeal := Cert.LnormIdeal.Gen.facts)
    (hLnormRefIdeal := Cert.LnormRefIdeal.Gen.facts) := by
  intro m g m' g' hpre hagree
  have hreal : ∀ c : Dev nD, ∃ a0 a3 a1 a2 a4 a5 a6, Reals m c a0 a3 a1 a2 a4 a5 a6 := fun c => by
    obtain ⟨h0, h1, h2, h3, h4, h5, h6⟩ := hpre c
    obtain ⟨a0, e0⟩ := exists_real (X0 m c) _ h0
    obtain ⟨a1, e1⟩ := exists_real (X1 m c) _ h1
    obtain ⟨a2, e2⟩ := exists_real (X2 m c) _ h2
    obtain ⟨a3, e3⟩ := exists_real (X3 m c) _ h3
    obtain ⟨a4, e4⟩ := exists_real (X4 m c) _ h4
    obtain ⟨a5, e5⟩ := exists_real (X5 m c) _ h5
    obtain ⟨a6, e6⟩ := exists_real (X6 m c) _ h6
    exact ⟨a0, a3, a1, a2, a4, a5, a6, e0, e1, e2, e3, e4, e5, e6⟩
  refine ⟨_, _, _, _, _, Cert.LnormIdeal.Value.run_blocks m g, (θ_run Cert.LnormRefIdeal.defs _ _).mono (fun r h c => ?_) (Cert.LnormRefIdeal.Value.run m' g')⟩
  obtain ⟨h0, h1, h2, h3, h4, hk⟩ := h c
  obtain ⟨g0, g1, g2, g3, g4, g5, g6⟩ := hagree c
  obtain ⟨a0, a3, a1, a2, a4, a5, a6, e⟩ := hreal c
  refine ⟨h0.trans ?_, h1.trans ?_, h2.trans ?_, h3.trans ?_, h4.trans ?_, hk⟩
  · rw [Cert.LnormRefIdeal.Read.val_main_v85_eq, g0, g1, g2, g3, g4, g5, g6]; exact (out6 e).symm
  · rw [Cert.LnormRefIdeal.Read.val_main_v78_eq, g0, g1, g2, g3, g4, g5, g6]; exact (out7 e).symm
  · rw [Cert.LnormRefIdeal.Read.val_main_v80_eq, g0, g1, g2, g3, g4, g5, g6]; exact (out8 e).symm
  · rw [Cert.LnormRefIdeal.Read.val_main_v79_eq, g0, g1, g2, g3, g4, g5, g6]; exact (out9 e).symm
  · rw [Cert.LnormRefIdeal.Read.val_main_v84_eq, g0, g1, g2, g3, g4, g5, g6]; exact (out10 e).symm

end Cert.LnormIdeal.Val
end
-- ==== Proof.LossVal.lean ====
/- The output projection with the loss, idealized: what its result arrays hold after the run, element by element, as
   functions of the argument arrays. The attention branch's rows come in the order by token mod 16 within chunks of 128
   rows; the call puts them back before the product. -/
module

public import proofs.«01_k».proof.Proof.Gen.LossIdeal.Frame
public import proofs.«01_k».proof.Proof.Reals
public import Idealize.ShloMosaic.Lib.Pipeline.ValueKit

@[expose] public section
set_option maxRecDepth 16384
noncomputable section
namespace Cert.LossIdeal.Val
open Idealize.ShloMosaic Idealize.ShloMosaic.TcCoe Idealize.SL.Sem
open Cert.LossIdeal Cert.LossIdeal.Gen Cert.Step

/-- The token that stands at row `r` of the attention branch's array. -/
abbrev tok (r : Fin 4096) : Fin 4096 := ⟨r / 128 * 128 + r % 8 * 16 + r % 128 / 8, by omega⟩
/-- The row, in one block of 512, at which token `r` of the block stands. -/
abbrev pinv (r : Fin 512) : Fin 512 := ⟨r / 128 * 128 + r % 16 * 8 + r % 128 / 16, by omega⟩

/-! One row of the norm and the loss, as the kernel computes them. -/

abbrev mean (f : Fin 1024 → EReal) : EReal := Ideal.div (∑ k, f k) (Ideal.ofBits .f32 0x44800000#32)
abbrev rstd (f : Fin 1024 → EReal) : EReal := Ideal.rsqrt (mean (fun k => f k * f k) + Ideal.ofBits .f32 0x358637BD#32)
abbrev nrm (f : Fin 1024 → EReal) (l : Fin 1024) : EReal := f l * rstd f
/-- The distance to the target. -/
abbrev df (f g t : Fin 1024 → EReal) (l : Fin 1024) : EReal := nrm f l * g l - t l
/-- The gradient of the norm's output. -/
abbrev dz (f g t : Fin 1024 → EReal) (l : Fin 1024) : EReal := df f g t l * Ideal.ofBits .f32 0x3A800000#32
/-- The gradient of the norm's input. -/
abbrev dxr (f g t : Fin 1024 → EReal) (l : Fin 1024) : EReal :=
  rstd f * (dz f g t l * g l - nrm f l * mean (fun k => dz f g t k * g k * nrm f k))

abbrev pq (v3 : FVec Ideal S512x1024 .f32) (v5 : FVec Ideal S512x1024 .bf16) (w0 : FVec Ideal S1024x1024 .bf16) (v70 : FVec Ideal S512x1024 .bf16) (w1 : FVec Ideal S1024x1024 .bf16) :=
  k0_pay8 (F := Ideal) v3 v5 (iota .tc S128x128 32 [0] iota_S128x128_d0_w32) (iota .tc S128x128 32 [1] iota_S128x128_d1_w32) k0_pay5 16#32 k0_pay6 k0_pay7 1#32 w0 v70 w1

theorem pay8_at (v3 : FVec Ideal S512x1024 .f32) (v5 : FVec Ideal S512x1024 .bf16) (w0 : FVec Ideal S1024x1024 .bf16) (v70 : FVec Ideal S512x1024 .bf16) (w1 : FVec Ideal S1024x1024 .bf16) (r : Fin 512) (l : Fin 1024) :
    pq v3 v5 w0 v70 w1 (ix2 r l) = v3 (ix2 r l) + (∑ k : Fin 1024, v5 (ix2 (pinv r) k) * w0 (ix2 k l)) + ∑ k : Fin 1024, v70 (ix2 r k) * w1 (ix2 k l) := by
  pointwise [k0_pay8, k0_pay5, k0_pay6, k0_pay7]
  have hr := r.isLt
  refine congrArg (· + _) (congrArg (_ + ·) (Finset.sum_congr rfl fun k _ => congrArg (· * _) ?_))
  by_cases h0 : (r : ℕ) < 128
  · rw [dif_pos h0]; refine (sum_resWord_inv h0 _).trans ?_
    congr 2; apply Fin.ext; simp only; omega
  rw [dif_neg h0]
  by_cases h1 : (r : ℕ) - 128 < 128
  · rw [dif_pos h1]; refine (sum_resWord_inv h1 _).trans ?_
    congr 2; apply Fin.ext; simp only; omega
  rw [dif_neg h1]
  by_cases h2 : (r : ℕ) - 128 - 128 < 128
  · rw [dif_pos h2]; refine (sum_resWord_inv h2 _).trans ?_
    congr 2; apply Fin.ext; simp only; omega
  rw [dif_neg h2]; refine (sum_resWord_inv (show (r : ℕ) - 128 - 128 - 128 < 128 by omega) _).trans ?_
  congr 2; apply Fin.ext; simp only; omega

section
variable (v3 : FVec Ideal S512x1024 .f32) (v5 : FVec Ideal S512x1024 .bf16) (w0 : FVec Ideal S1024x1024 .bf16) (v70 : FVec Ideal S512x1024 .bf16) (w1 : FVec Ideal S1024x1024 .bf16)
  (g : FVec Ideal S1x1024 .f32) (tg : FVec Ideal S512x1024 .f32)

abbrev pm := k0_pay9 (F := Ideal) v3 v5 (iota .tc S128x128 32 [0] iota_S128x128_d0_w32) (iota .tc S128x128 32 [1] iota_S128x128_d1_w32) k0_pay5 16#32 k0_pay6 k0_pay7 1#32 w0 v70 w1

theorem pay9_at (r : Fin 512) (l : Fin 1) : pm v3 v5 w0 v70 w1 (ix2 r l) = mean (fun k => pq v3 v5 w0 v70 w1 (ix2 r k) * pq v3 v5 w0 v70 w1 (ix2 r k)) := by
  unfold pm k0_pay9 pq
  generalize k0_pay8 (F := Ideal) _ _ _ _ _ _ _ _ _ _ _ _ = P
  pointwise

variable (h : FVec Ideal S512x1024 .f32) (mu : FVec Ideal S512x1 .f32)

theorem pay10_at (hm : ∀ r, mu (ix2 r 0) = mean (fun k => h (ix2 r k) * h (ix2 r k))) (r : Fin 512) :
    k0_pay10 (F := Ideal) mu (Scalar.ofBits .f32 0x358637BD#32) (ix2 r 0) = rstd (fun k => h (ix2 r k)) := by
  pointwise [k0_pay10]
  rw [hm]
theorem pay11_at (hm : ∀ r, mu (ix2 r 0) = mean (fun k => h (ix2 r k) * h (ix2 r k))) (r : Fin 512) (l : Fin 1024) :
    k0_pay11 (F := Ideal) h mu (Scalar.ofBits .f32 0x358637BD#32) (ix2 r l) = nrm (fun k => h (ix2 r k)) l := by
  have e := pay10_at h mu hm r
  unfold k0_pay11
  revert e; generalize k0_pay10 (F := Ideal) _ _ = P; intro e
  pointwise
  exact congrArg _ e
theorem pay13_at (hm : ∀ r, mu (ix2 r 0) = mean (fun k => h (ix2 r k) * h (ix2 r k))) (r : Fin 512) (l : Fin 1024) :
    k0_pay13 (F := Ideal) h mu (Scalar.ofBits .f32 0x358637BD#32) g tg (ix2 r l) = df (fun k => h (ix2 r k)) (fun k => g (ix2 0 k)) (fun k => tg (ix2 r k)) l := by
  have e := pay11_at h mu hm r l
  unfold k0_pay13
  revert e; generalize k0_pay11 (F := Ideal) _ _ _ = P; intro e
  pointwise [k0_pay12]
  rw [e]
theorem pay15_at (hm : ∀ r, mu (ix2 r 0) = mean (fun k => h (ix2 r k) * h (ix2 r k))) (r : Fin 512) (l : Fin 1024) :
    k0_pay15 (F := Ideal) h mu (Scalar.ofBits .f32 0x358637BD#32) g tg (ix2 r l) = dz (fun k => h (ix2 r k)) (fun k => g (ix2 0 k)) (fun k => tg (ix2 r k)) l := by
  have e := pay13_at g tg h mu hm r l
  unfold k0_pay15
  revert e; generalize k0_pay13 (F := Ideal) _ _ _ _ _ = P; intro e
  pointwise
  rw [e]
theorem pay17_at (hm : ∀ r, mu (ix2 r 0) = mean (fun k => h (ix2 r k) * h (ix2 r k))) (r : Fin 512) (l : Fin 1024) :
    k0_pay17 (F := Ideal) h mu (Scalar.ofBits .f32 0x358637BD#32) g tg (ix2 r l) = dxr (fun k => h (ix2 r k)) (fun k => g (ix2 0 k)) (fun k => tg (ix2 r k)) l := by
  have e10 := pay10_at h mu hm r
  have e11 := pay11_at h mu hm r
  have e15 := pay15_at g tg h mu hm r
  unfold k0_pay17
  revert e10 e11 e15; generalize k0_pay10 (F := Ideal) _ _ = P10; generalize k0_pay11 (F := Ideal) _ _ _ = P11; generalize k0_pay15 (F := Ideal) _ _ _ _ _ = P15
  intro e10 e11 e15
  pointwise [k0_pay12]
  simp only [e11, e15]
  exact congrArg (· * _) e10
theorem pay14_at (hm : ∀ r, mu (ix2 r 0) = mean (fun k => h (ix2 r k) * h (ix2 r k))) (a : FVec Ideal S1x1024 .f32) (l : Fin 1024) :
    k0_pay14 (F := Ideal) h mu (Scalar.ofBits .f32 0x358637BD#32) g tg a (ix2 0 l) = a (ix2 0 l) + ∑ r : Fin 512, df (fun k => h (ix2 r k)) (fun k => g (ix2 0 k)) (fun k => tg (ix2 r k)) l * df (fun k => h (ix2 r k)) (fun k => g (ix2 0 k)) (fun k => tg (ix2 r k)) l := by
  have e := fun r => pay13_at g tg h mu hm r l
  unfold k0_pay14
  revert e; generalize k0_pay13 (F := Ideal) _ _ _ _ _ = P; intro e
  pointwise
  simp only [e]
theorem pay16_at (hm : ∀ r, mu (ix2 r 0) = mean (fun k => h (ix2 r k) * h (ix2 r k))) (a : FVec Ideal S1x1024 .f32) (l : Fin 1024) :
    k0_pay16 (F := Ideal) h mu (Scalar.ofBits .f32 0x358637BD#32) g tg a (ix2 0 l) = a (ix2 0 l) + ∑ r : Fin 512, dz (fun k => h (ix2 r k)) (fun k => g (ix2 0 k)) (fun k => tg (ix2 r k)) l * nrm (fun k => h (ix2 r k)) l := by
  have e := fun r => pay15_at g tg h mu hm r l
  have e11 := fun r => pay11_at h mu hm r l
  unfold k0_pay16
  revert e e11; generalize k0_pay15 (F := Ideal) _ _ _ _ _ = P; generalize k0_pay11 (F := Ideal) _ _ _ = P11; intro e e11
  pointwise
  simp only [e, e11]
theorem zero2 (l : Fin 1024) : k0_pay2 (F := Ideal) (ix2 0 l) = 0 := by pointwise [k0_pay2]
theorem zero3 (l : Fin 1024) : k0_pay3 (F := Ideal) (ix2 0 l) = 0 := by pointwise [k0_pay3]
theorem pay4_eq (v : FVec Ideal S512x1024 .bf16) : k0_pay4 (F := Ideal) v = v := by
  funext y
  pointwise [k0_pay4]
end

/-- Which block each window reads or writes at point `t`. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] ∧ win0_7.index t = ![t.val, 0]
    ∧ win0_8.index t = ![0, 0] ∧ win0_9.index t = ![0, 0] :=
  (by decide +kernel : ∀ t : Fin grid0.N, _)

/-- Row `r` of the block of point `t` in the whole array. -/
abbrev row (t : Fin cfg0.N) (r : Fin 512) : Fin 4096 := ⟨t.val * 512 + r, by have := t.isLt; have : t.val < 8 := this; omega⟩

theorem tok_row (t : Fin cfg0.N) (r : Fin 512) : tok (row t (pinv r)) = row t r := by
  apply Fin.ext
  have h1 : (t.val * 512 + (r.val / 128 * 128 + r.val % 16 * 8 + r.val % 128 / 16)) / 128 = t.val * 4 + r.val / 128 := by omega
  have h2 : (t.val * 512 + (r.val / 128 * 128 + r.val % 16 * 8 + r.val % 128 / 16)) % 8 = r.val % 128 / 16 := by omega
  have h3 : (t.val * 512 + (r.val / 128 * 128 + r.val % 16 * 8 + r.val % 128 / 16)) % 128 / 8 = r.val % 16 := by omega
  simp only [h1, h2, h3]
  omega

theorem emb6 (t : Fin cfg0.N) (r : Fin 512) (l : Fin 1024) :
    ((View.whole main_v7_0).slice (win0_6.rect t)).emb (ix2 r l) = (ix2 (row t r) l : S4096x1024.Idx) := by blk_ext [idx t]
theorem emb7 (t : Fin cfg0.N) (r : Fin 512) (l : Fin 1024) :
    ((View.whole main_v7_1).slice (win0_7.rect t)).emb (ix2 r l) = (ix2 (row t r) l : S4096x1024.Idx) := by blk_ext [idx t]

variable (m : (ℓ : Loc nD τ sig) → Buf (Elt Ideal) ℓ)

/-! The argument arrays. -/

abbrev X0 (c : Dev nD) : FVec Ideal S4096x1024 .f32 := m ((c : Thread nD τ).loc main_arg0)
abbrev X1 (c : Dev nD) : FVec Ideal S4096x1024 .f32 := m ((c : Thread nD τ).loc main_arg1)
abbrev X2 (c : Dev nD) : FVec Ideal S4096x1024 .f32 := m ((c : Thread nD τ).loc main_arg2)
abbrev X3 (c : Dev nD) : FVec Ideal S2048x1024 .f32 := m ((c : Thread nD τ).loc main_arg3)
abbrev X4 (c : Dev nD) : FVec Ideal S1024 .f32 := m ((c : Thread nD τ).loc main_arg4)
abbrev X5 (c : Dev nD) : FVec Ideal S4096x1024 .f32 := m ((c : Thread nD τ).loc main_arg5)

/-- The residual stream behind the block, at token `s`. -/
abbrev hr (c : Dev nD) (s : Fin 4096) (l : Fin 1024) : EReal :=
  X0 m c (ix2 s l) + (∑ k : Fin 1024, X1 m c (ix2 s k) * X3 m c (ix2 ⟨k, by omega⟩ l)) + ∑ k : Fin 1024, X2 m c (ix2 s k) * X3 m c (ix2 ⟨1024 + k, by omega⟩ l)
abbrev gn (c : Dev nD) (l : Fin 1024) : EReal := X4 m c (ix1 l)
abbrev tgt (c : Dev nD) (s : Fin 4096) (l : Fin 1024) : EReal := X5 m c (ix2 s l)

theorem blk0 (c : Dev nD) (t : Fin cfg0.N) (r : Fin 512) (l : Fin 1024) :
    (iblk m c 0 t : FVec Ideal S512x1024 .f32) (ix2 r l) = X0 m c (ix2 (row t r) l) := by
  blk_point [iblk, V, V0, idx t]
theorem V3 (c : Dev nD) (p : Fin 4096) (l : Fin 1024) :
    (V m c main_v3 : FVec Ideal S4096x1024 .bf16) (ix2 p l) = X1 m c (ix2 (tok p) l) := by
  unfold V V0
  simp only [hostOps0, List.flatten_cons, List.flatten_nil, List.append_nil]
  after_results
  pointwise
  try (blk_ext; done)
theorem blk1 (c : Dev nD) (t : Fin cfg0.N) (r : Fin 512) (l : Fin 1024)  :
    (iblk m c 1 t : FVec Ideal S512x1024 .bf16) (ix2 r l) = X1 m c (ix2 (tok (row t r)) l) := by
  refine Eq.trans ?_ (V3 m c (row t r) l)
  blk_point [iblk, idx t]
theorem blk2 (c : Dev nD) (t : Fin cfg0.N) (r : Fin 512) (l : Fin 1024) :
    (iblk m c 2 t : FVec Ideal S512x1024 .bf16) (ix2 r l) = X2 m c (ix2 (row t r) l) := by
  blk_point [iblk, V, V0, idx t]
theorem blk3 (c : Dev nD) (t : Fin cfg0.N) (r : Fin 2048) (l : Fin 1024) :
    (iblk m c 3 t : FVec Ideal S2048x1024 .bf16) (ix2 r l) = X3 m c (ix2 r l) := by
  blk_point [iblk, V, V0, idx t]
theorem V6 (c : Dev nD) (l : Fin 1024) : (V m c main_v6 : FVec Ideal S1x1024 .f32) (ix2 0 l) = gn m c l := by
  unfold V V0
  simp only [hostOps0, List.flatten_cons, List.flatten_nil, List.append_nil]
  after_results
  pointwise
theorem blk4 (c : Dev nD) (t : Fin cfg0.N) (l : Fin 1024) :
    (iblk m c 4 t : FVec Ideal S1x1024 .f32) (ix2 0 l) = gn m c l := by
  refine Eq.trans ?_ (V6 m c l)
  blk_point [iblk, idx t]
theorem blk5 (c : Dev nD) (t : Fin cfg0.N) (r : Fin 512) (l : Fin 1024) :
    (iblk m c 5 t : FVec Ideal S512x1024 .f32) (ix2 r l) = tgt m c (row t r) l := by
  blk_point [iblk, V, V0, idx t]

/-- The two halves of the projection, as the body loads them. -/
abbrev wa (c : Dev nD) (t : Fin cfg0.N) : FVec Ideal S1024x1024 .bf16 := View.ld (iblk m c 3 t) (Rect.unit ![0, 0] ![1024, 1024] inb_S2048x1024_S1024x1024_0_0)
abbrev wb (c : Dev nD) (t : Fin cfg0.N) : FVec Ideal S1024x1024 .bf16 := View.ld (iblk m c 3 t) (Rect.unit ![1024, 0] ![1024, 1024] inb_S2048x1024_S1024x1024_1024_0)

theorem ld_a (B : FVec Ideal S2048x1024 .bf16) (k l : Fin 1024) :
    (View.ld (Val := Elt Ideal) (e' := .bf16) B (Rect.unit (s := S2048x1024) ![0, 0] ![1024, 1024] inb_S2048x1024_S1024x1024_0_0) : FVec Ideal S1024x1024 .bf16) (ix2 k l) = B (ix2 ⟨k, by omega⟩ l) := by
  pointwise
theorem ld_b (B : FVec Ideal S2048x1024 .bf16) (k l : Fin 1024) :
    (View.ld (Val := Elt Ideal) (e' := .bf16) B (Rect.unit (s := S2048x1024) ![1024, 0] ![1024, 1024] inb_S2048x1024_S1024x1024_1024_0) : FVec Ideal S1024x1024 .bf16) (ix2 k l) = B (ix2 ⟨1024 + k, by omega⟩ l) := by
  pointwise
theorem wa_at (c : Dev nD) (t : Fin cfg0.N) (k l : Fin 1024) : wa m c t (ix2 k l) = X3 m c (ix2 ⟨k, by omega⟩ l) :=
  (ld_a (iblk m c 3 t : FVec Ideal S2048x1024 .bf16) k l).trans (blk3 m c t ⟨k, by omega⟩ l)
theorem wb_at (c : Dev nD) (t : Fin cfg0.N) (k l : Fin 1024) : wb m c t (ix2 k l) = X3 m c (ix2 ⟨1024 + k, by omega⟩ l) :=
  (ld_b (iblk m c 3 t : FVec Ideal S2048x1024 .bf16) k l).trans (blk3 m c t ⟨1024 + k, by omega⟩ l)

abbrev bh (c : Dev nD) (t : Fin cfg0.N) := pq (iblk m c 0 t) (k0_pay4 (F := Ideal) (iblk m c 1 t)) (wa m c t) (iblk m c 2 t) (wb m c t)
abbrev bm (c : Dev nD) (t : Fin cfg0.N) := pm (iblk m c 0 t) (k0_pay4 (F := Ideal) (iblk m c 1 t)) (wa m c t) (iblk m c 2 t) (wb m c t)

theorem bh_at (c : Dev nD) (t : Fin cfg0.N) (r : Fin 512) (l : Fin 1024) : bh m c t (ix2 r l) = hr m c (row t r) l := by
  unfold bh
  rw [pay4_eq, pay8_at]
  simp only [blk0, blk1, blk2, wa_at, wb_at, tok_row]
theorem bh_row (c : Dev nD) (t : Fin cfg0.N) (r : Fin 512) : (fun k => bh m c t (ix2 r k)) = hr m c (row t r) := funext fun k => bh_at m c t r k
theorem g_row (c : Dev nD) (t : Fin cfg0.N) : (fun k => (iblk m c 4 t : FVec Ideal S1x1024 .f32) (ix2 0 k)) = gn m c := funext fun k => blk4 m c t k
theorem t_row (c : Dev nD) (t : Fin cfg0.N) (r : Fin 512) : (fun k => (iblk m c 5 t : FVec Ideal S512x1024 .f32) (ix2 r k)) = tgt m c (row t r) := funext fun k => blk5 m c t r k
theorem bm_at (c : Dev nD) (t : Fin cfg0.N) (r : Fin 512) : bm m c t (ix2 r 0) = mean (fun k => bh m c t (ix2 r k) * bh m c t (ix2 r k)) := pay9_at _ _ _ _ _ r 0

theorem p17 (c : Dev nD) (t : Fin cfg0.N) (r : Fin 512) (l : Fin 1024) :
    k0_pay17 (F := Ideal) (bh m c t) (bm m c t) (Scalar.ofBits .f32 0x358637BD#32) (iblk m c 4 t) (iblk m c 5 t) (ix2 r l) = dxr (hr m c (row t r)) (gn m c) (tgt m c (row t r)) l := by
  rw [pay17_at _ _ _ _ (bm_at m c t), bh_row, g_row, t_row]
theorem p14 (c : Dev nD) (t : Fin cfg0.N) (a : FVec Ideal S1x1024 .f32) (l : Fin 1024) :
    k0_pay14 (F := Ideal) (bh m c t) (bm m c t) (Scalar.ofBits .f32 0x358637BD#32) (iblk m c 4 t) (iblk m c 5 t) a (ix2 0 l) =
      a (ix2 0 l) + ∑ r : Fin 512, df (hr m c (row t r)) (gn m c) (tgt m c (row t r)) l * df (hr m c (row t r)) (gn m c) (tgt m c (row t r)) l := by
  rw [pay14_at _ _ _ _ (bm_at m c t)]; simp only [bh_row, g_row, t_row]
theorem p16 (c : Dev nD) (t : Fin cfg0.N) (a : FVec Ideal S1x1024 .f32) (l : Fin 1024) :
    k0_pay16 (F := Ideal) (bh m c t) (bm m c t) (Scalar.ofBits .f32 0x358637BD#32) (iblk m c 4 t) (iblk m c 5 t) a (ix2 0 l) =
      a (ix2 0 l) + ∑ r : Fin 512, dz (hr m c (row t r)) (gn m c) (tgt m c (row t r)) l * nrm (hr m c (row t r)) l := by
  rw [pay16_at _ _ _ _ (bm_at m c t)]; simp only [bh_row, g_row, t_row]

theorem final6 (c : Dev nD) : (dats m 0 c).arrAt 6 (cfgs 0).N = fun i => dxr (hr m c (i 0)) (gn m c) (tgt m c (i 0)) (i 1) := by
  refine (dats m 0 c).arrAt_eq_of_covers 6 _ (by decide +kernel) fun t _ y => ?_
  blk_simp
  obtain ⟨r, l, rfl⟩ : ∃ (r : Fin 512) (l : Fin 1024), y = ix2 r l := ⟨y 0, y 1, by funext a; fin_cases a <;> rfl⟩
  rw [emb6, after0_6]
  refine Eq.trans ?_ (p17 m c t r l)
  by_cases h0 : t.val % 8 = 0
  · rw [outsAt0_A m c t h0]; frame_out; rfl
  · rw [outsAt0_B m c t h0]; frame_out; rfl
theorem final7 (c : Dev nD) : (dats m 0 c).arrAt 7 (cfgs 0).N = fun i => dxr (hr m c (i 0)) (gn m c) (tgt m c (i 0)) (i 1) := by
  refine (dats m 0 c).arrAt_eq_of_covers 7 _ (by decide +kernel) fun t _ y => ?_
  blk_simp
  obtain ⟨r, l, rfl⟩ : ∃ (r : Fin 512) (l : Fin 1024), y = ix2 r l := ⟨y 0, y 1, by funext a; fin_cases a <;> rfl⟩
  rw [emb7, after0_7]
  refine Eq.trans ?_ (p17 m c t r l)
  by_cases h0 : t.val % 8 = 0
  · rw [outsAt0_A m c t h0]; frame_out; rfl
  · rw [outsAt0_B m c t h0]; frame_out; rfl

theorem sum_rows (f : Fin 4096 → EReal) : ∑ p : Fin cfg0.N, ∑ r : Fin 512, f (row p r) = ∑ s, f s :=
  (Fin.sum_univ_tiles 8 512 rfl f).symm

theorem idx1 (j : S1x1024.Idx) : ∃ l : Fin 1024, j = ix2 0 l :=
  ⟨j 1, by funext a; fin_cases a; exacts [Fin.ext (by have h : (j 0 : ℕ) < 1 := (j 0).isLt; show (j 0 : ℕ) = 0; omega), rfl]⟩

theorem final8 (c : Dev nD) : (dats m 0 c).arrAt 8 (cfgs 0).N = fun i => ∑ s : Fin 4096, df (hr m c s) (gn m c) (tgt m c s) (i 1) * df (hr m c s) (gn m c) (tgt m c s) (i 1) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0)
    (fun t j => ∑ r : Fin 512, df (hr m c (row t r)) (gn m c) (tgt m c (row t r)) (j 1) * df (hr m c (row t r)) (gn m c) (tgt m c (row t r)) (j 1))
    (fun t h j => by
      obtain ⟨l, rfl⟩ := idx1 j
      rw [outsAt0_A m c t h]; frame_out; refine (p14 m c t _ l).trans ?_; rw [zero2]; rfl)
    (fun t h j => by
      obtain ⟨l, rfl⟩ := idx1 j
      rw [outsAt0_B m c t h]; frame_out; exact p14 m c t _ l)
    (le_of_eq N_0) t0_7 rfl j, zero_add]
  exact sum_rows fun s => df (hr m c s) (gn m c) (tgt m c s) (j 1) * df (hr m c s) (gn m c) (tgt m c s) (j 1)
theorem final9 (c : Dev nD) : (dats m 0 c).arrAt 9 (cfgs 0).N = fun i => ∑ s : Fin 4096, dz (hr m c s) (gn m c) (tgt m c s) (i 1) * nrm (hr m c s) (i 1) := by
  refine (dats m 0 c).arrAt_eq_of_after_last 9 t0_7 (by decide +kernel) _ fun j => ?_
  blk_simp
  rw [after0_9, Pipeline.eq_sum_fin_of_reset_step_apply_last (fun n h => (outsAt0 m c n h).2.2.2) 8 (fun _ => 0)
    (fun t j => ∑ r : Fin 512, dz (hr m c (row t r)) (gn m c) (tgt m c (row t r)) (j 1) * nrm (hr m c (row t r)) (j 1))
    (fun t h j => by
      obtain ⟨l, rfl⟩ := idx1 j
      rw [outsAt0_A m c t h]; frame_out; refine (p16 m c t _ l).trans ?_; rw [zero3]; rfl)
    (fun t h j => by
      obtain ⟨l, rfl⟩ := idx1 j
      rw [outsAt0_B m c t h]; frame_out; exact p16 m c t _ l)
    (le_of_eq N_0) t0_7 rfl j, zero_add]
  exact sum_rows fun s => dz (hr m c s) (gn m c) (tgt m c s) (j 1) * nrm (hr m c s) (j 1)

/-- The loss: half the sum of the squared distances over the columns' number. -/
theorem tail9 (c : Dev nD) : Pipeline.afterTail₀ cfgs (dats m) 0 (V0 m) [hostOps1] c main_v9 =
    fun _ => Ideal.ofBits .f32 0x3A000000#32 * ∑ l : Fin 1024, ∑ s : Fin 4096, df (hr m c s) (gn m c) (tgt m c s) l * df (hr m c s) (gn m c) (tgt m c s) l := by
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.tc.devRef main_v7_2) =
      (dats m 0 c).arrAt 8 (cfgs 0).N := Pipeline.withArrays_arr (cfgs 0).spec (by decide) c _ _ 8
  rw [h, final8]
  funext i
  pointwise
  rw [Fin.sum_univ_one]

end Cert.LossIdeal.Val
end
-- ==== Proof.LossMath.lean ====
/- The output projection with the loss at the reals: one row of the norm and its gradient; the kernel's forms coerced, the
   reference's stages coerced, and the one equation between the two forms of the norm's gradient. -/
module

public import proofs.«01_k».proof.Proof.LossVal
public import proofs.«01_k».proof.Proof.Gen.LossRefIdeal.Read

@[expose] public section
set_option maxRecDepth 16384
noncomputable section
namespace Cert.Loss.Math
open Idealize.ShloMosaic Idealize.ShloMosaic.TcCoe Idealize.SL.Sem
open Cert.LossIdeal.Val Cert.Step

def rmean (f : Fin 1024 → ℝ) : ℝ := (∑ k, f k) / 1024
def rvar (f : Fin 1024 → ℝ) : ℝ := rmean (fun k => f k * f k) + eps6
def rrstd (f : Fin 1024 → ℝ) : ℝ := (Real.sqrt (rvar f))⁻¹
def rnrm (f : Fin 1024 → ℝ) (l : Fin 1024) : ℝ := f l * rrstd f
def rdf (f g t : Fin 1024 → ℝ) (l : Fin 1024) : ℝ := rnrm f l * g l - t l
def rdz (f g t : Fin 1024 → ℝ) (l : Fin 1024) : ℝ := rdf f g t l * (1 / 1024)
def rdx (f g t : Fin 1024 → ℝ) (l : Fin 1024) : ℝ :=
  rrstd f * (rdz f g t l * g l - rnrm f l * rmean (fun k => rdz f g t k * g k * rnrm f k))

theorem rvar_pos (f : Fin 1024 → ℝ) : 0 < rvar f := by
  unfold rvar rmean
  have h : 0 ≤ ∑ k, f k * f k := Finset.sum_nonneg fun k _ => mul_self_nonneg _
  have := eps6_pos
  positivity

theorem div_1024 (x : ℝ) : Ideal.div (x : EReal) ((1024 : ℝ) : EReal) = ((x / 1024 : ℝ) : EReal) := div_coe_ne (by norm_num) x

/-! The kernel's forms. -/

theorem mean_coe (f : Fin 1024 → ℝ) : mean (fun k => (f k : EReal)) = (rmean f : EReal) := by
  unfold mean rmean; rw [ofBits_1024, coe_sum, div_1024]
theorem rstd_coe (f : Fin 1024 → ℝ) : rstd (fun k => (f k : EReal)) = (rrstd f : EReal) := by
  unfold rstd rrstd; simp only [← EReal.coe_mul]; rw [mean_coe, ofBits_eps6, ← EReal.coe_add]; exact rsqrt_coe (rvar_pos f)
theorem nrm_coe (f : Fin 1024 → ℝ) (l : Fin 1024) : nrm (fun k => (f k : EReal)) l = (rnrm f l : EReal) := by
  unfold nrm rnrm; rw [rstd_coe, EReal.coe_mul]
theorem df_coe (f g t : Fin 1024 → ℝ) (l : Fin 1024) :
    df (fun k => (f k : EReal)) (fun k => (g k : EReal)) (fun k => (t k : EReal)) l = (rdf f g t l : EReal) := by
  unfold df rdf; rw [nrm_coe, EReal.coe_sub, EReal.coe_mul]
theorem dz_coe (f g t : Fin 1024 → ℝ) (l : Fin 1024) :
    dz (fun k => (f k : EReal)) (fun k => (g k : EReal)) (fun k => (t k : EReal)) l = (rdz f g t l : EReal) := by
  unfold dz rdz; rw [df_coe, ofBits_inv_1024, EReal.coe_mul]
theorem dxr_coe (f g t : Fin 1024 → ℝ) (l : Fin 1024) :
    dxr (fun k => (f k : EReal)) (fun k => (g k : EReal)) (fun k => (t k : EReal)) l = (rdx f g t l : EReal) := by
  unfold dxr rdx; simp only [rstd_coe, nrm_coe, dz_coe, ← EReal.coe_mul]; rw [mean_coe]; simp only [← EReal.coe_mul, ← EReal.coe_sub]

/-! The norm's gradient in the reference's form. -/

/-- The factor of the row in the gradient through the mean square. -/
def rq (f g t : Fin 1024 → ℝ) : ℝ := (∑ k, f k * (rdz f g t k * g k)) * (-(1 / 2) * (rrstd f / rvar f)) / 1024

theorem rdx_eq (f g t : Fin 1024 → ℝ) (l : Fin 1024) :
    rdx f g t l = rdz f g t l * g l * rrstd f + f l * rq f g t + rq f g t * f l := by
  have h3 : ∑ k, rdz f g t k * g k * rnrm f k = (∑ k, f k * (rdz f g t k * g k)) * rrstd f := by
    rw [Finset.sum_mul]; refine Finset.sum_congr rfl fun k _ => ?_; unfold rnrm; ring
  have h4 : rrstd f * rrstd f = (rvar f)⁻¹ := by
    unfold rrstd; rw [← mul_inv, Real.mul_self_sqrt (rvar_pos f).le]
  have h5 : rrstd f / rvar f = rrstd f * (rrstd f * rrstd f) := by rw [h4, div_eq_mul_inv]
  unfold rdx rq rmean
  rw [h3, h5]
  unfold rnrm
  ring

/-! The reference's stages. -/
section
open Cert.LossRefIdeal Cert.LossRefIdeal.Read

theorem ofBits_neg_half : Ideal.ofBits .f32 0xBF000000#32 = ((-(1 / 2) : ℝ) : EReal) := by
  simp [Ideal.ofBits, Ideal.ieee, -EReal.coe_mul]; norm_num
theorem ofBits_inv_2048 : Ideal.ofBits .f32 0x3A000000#32 = ((1 / 2048 : ℝ) : EReal) := by
  simp [Ideal.ofBits, Ideal.ieee, -EReal.coe_mul]; norm_num

variable (a0 a1 a2 : S4096x1024.Idx → ℝ) (a3 : S2048x1024.Idx → ℝ) (a4 : S1024.Idx → ℝ) (a5 : S4096x1024.Idx → ℝ)

/-- An array of reals as the programs hold it. -/
abbrev up {s : Shape} (a : s.Idx → ℝ) : FVec Ideal s .f32 := fun i => (a i : EReal)

abbrev hrr (s : Fin 4096) (l : Fin 1024) : ℝ :=
  a0 (ix2 s l) + (∑ k : Fin 1024, a1 (ix2 s k) * a3 (ix2 ⟨k, by omega⟩ l)) + ∑ k : Fin 1024, a2 (ix2 s k) * a3 (ix2 ⟨1024 + k, by omega⟩ l)
abbrev gr (l : Fin 1024) : ℝ := a4 (ix1 l)
abbrev tr (s : Fin 4096) (l : Fin 1024) : ℝ := a5 (ix2 s l)

theorem r2 (s : Fin 4096) (l : Fin 1024) : val_main_v2 (F := Ideal) (up a0) (up a1) (up a2) (up a3) (ix2 s l) = ((hrr a0 a1 a2 a3 s l : ℝ) : EReal) := by
  pointwise [val_main_v2, val_main_v1, val_main_v0]
  simp only [← EReal.coe_mul, coe_sum, ← EReal.coe_add]
  rw [← add_assoc]
theorem r9 (s : Fin 4096) : val_main_v9 (F := Ideal) (up a0) (up a1) (up a2) (up a3) (ix2 s 0) = ((rvar (hrr a0 a1 a2 a3 s) : ℝ) : EReal) := by
  pointwise [val_main_v9, val_main_v8, val_main_cst_1, val_main_v7, val_main_v6, val_main_cst_0, val_main_v5, val_main_v4, val_main_cst, val_main_v3]
  simp only [r2, ← EReal.coe_mul]; rw [ofBits_eps6, coe_sum, ofBits_1024, div_1024, ← EReal.coe_add]; rfl
theorem r10 (s : Fin 4096) : val_main_v10 (F := Ideal) (up a0) (up a1) (up a2) (up a3) (ix2 s 0) = ((rrstd (hrr a0 a1 a2 a3 s) : ℝ) : EReal) := by
  pointwise [val_main_v10]
  rw [r9]; exact rsqrt_coe (rvar_pos _)
theorem r13 (s : Fin 4096) : val_main_v13 (F := Ideal) (up a0) (up a1) (up a2) (up a3) (ix2 s 0) = ((-(1 / 2) * (rrstd (hrr a0 a1 a2 a3 s) / rvar (hrr a0 a1 a2 a3 s)) : ℝ) : EReal) := by
  pointwise [val_main_v13, val_main_v12, val_main_v11, val_main_cst_2]
  rw [r9, r10, ofBits_neg_half, div_coe_ne (rvar_pos _).ne', ← EReal.coe_mul]
theorem r15 (s : Fin 4096) (l : Fin 1024) : val_main_v15 (F := Ideal) (up a0) (up a1) (up a2) (up a3) (ix2 s l) = ((rnrm (hrr a0 a1 a2 a3 s) l : ℝ) : EReal) := by
  pointwise [val_main_v15, val_main_v14]
  rw [r2, show val_main_v10 (F := Ideal) (up a0) (up a1) (up a2) (up a3) (ix2 s 0) = _ from r10 a0 a1 a2 a3 s, ← EReal.coe_mul]; rfl
theorem r19 (s : Fin 4096) (l : Fin 1024) : val_main_v19 (F := Ideal) (up a0) (up a1) (up a2) (up a3) (up a4) (up a5) (ix2 s l) = ((rdf (hrr a0 a1 a2 a3 s) (gr a4) (tr a5 s) l : ℝ) : EReal) := by
  pointwise [val_main_v19, val_main_v18, val_main_v17, val_main_v16]
  rw [r15]; simp only [← EReal.coe_mul, ← EReal.coe_sub]; rfl
theorem r33 (s : Fin 4096) (l : Fin 1024) : val_main_v33 (F := Ideal) (up a0) (up a1) (up a2) (up a3) (up a4) (up a5) (ix2 s l) = ((rdz (hrr a0 a1 a2 a3 s) (gr a4) (tr a5 s) l : ℝ) : EReal) := by
  pointwise [val_main_v33, val_main_v32, val_main_v31, val_main_v30, val_main_cst_10, val_main_v29, val_main_v28, val_main_cst_8, val_main_cst_9, val_main_v22, val_main_v21, val_main_cst_3]
  rw [r19, ofBits_two, ofBits_half, ofBits_1024, div_1024]; simp only [← EReal.coe_mul]; congr 1; unfold rdz; ring
theorem r38 (s : Fin 4096) (l : Fin 1024) : val_main_v38 (F := Ideal) (up a0) (up a1) (up a2) (up a3) (up a4) (up a5) (ix2 s l) = ((rdz (hrr a0 a1 a2 a3 s) (gr a4) (tr a5 s) l * gr a4 l : ℝ) : EReal) := by
  pointwise [val_main_v38, val_main_v37, val_main_v16]
  rw [r33, ← EReal.coe_mul]
theorem r48 (s : Fin 4096) : val_main_v48 (F := Ideal) (up a0) (up a1) (up a2) (up a3) (up a4) (up a5) (ix1 s) = ((rq (hrr a0 a1 a2 a3 s) (gr a4) (tr a5 s) : ℝ) : EReal) := by
  pointwise [val_main_v48, val_main_cst_15, val_main_v47, val_main_v46, val_main_cst_14, val_main_v45, val_main_v42, val_main_v41, val_main_cst_13, val_main_v40]
  rw [Fin.sum_univ_one]
  simp only [r2, r38]; rw [show val_main_v13 (F := Ideal) (up a0) (up a1) (up a2) (up a3) (ix2 s 0) = _ from r13 a0 a1 a2 a3 s]; simp only [← EReal.coe_mul]; rw [coe_sum, ← EReal.coe_mul, ofBits_1024, div_1024]; rfl
theorem r53 (s : Fin 4096) (l : Fin 1024) : val_main_v53 (F := Ideal) (up a0) (up a1) (up a2) (up a3) (up a4) (up a5) (ix2 s l) = ((rdx (hrr a0 a1 a2 a3 s) (gr a4) (tr a5 s) l : ℝ) : EReal) := by
  pointwise [val_main_v53, val_main_v52, val_main_v51, val_main_v50, val_main_v49, val_main_v44, val_main_v43]
  rw [r2, r48, r38, show val_main_v10 (F := Ideal) (up a0) (up a1) (up a2) (up a3) (ix2 s 0) = _ from r10 a0 a1 a2 a3 s]; simp only [← EReal.coe_mul, ← EReal.coe_add]; rw [rdx_eq]
theorem r54 (s : Fin 4096) (l : Fin 1024) : val_main_v54 (F := Ideal) (up a0) (up a1) (up a2) (up a3) (up a4) (up a5) (ix2 s l) = ((rdx (hrr a0 a1 a2 a3 s) (gr a4) (tr a5 s) l : ℝ) : EReal) := by
  pointwise [val_main_v54]
  rw [r53]
theorem r55 (l : Fin 1024) : val_main_v55 (F := Ideal) (up a0) (up a1) (up a2) (up a3) (up a4) (up a5) (ix2 0 l) = ((∑ s, rdz (hrr a0 a1 a2 a3 s) (gr a4) (tr a5 s) l * rnrm (hrr a0 a1 a2 a3 s) l : ℝ) : EReal) := by
  pointwise [val_main_v55, val_main_v39, val_main_cst_12, val_main_v36, val_main_v35, val_main_cst_11, val_main_v34]
  rw [Fin.sum_univ_one]; simp only [r33, r15, ← EReal.coe_mul]; rw [coe_sum]; simp only [mul_comm]
theorem r27 (i : S_.Idx) : val_main_v27 (F := Ideal) (up a0) (up a1) (up a2) (up a3) (up a4) (up a5) i = ((1 / 2 * ∑ s, (∑ l, rdf (hrr a0 a1 a2 a3 s) (gr a4) (tr a5 s) l * rdf (hrr a0 a1 a2 a3 s) (gr a4) (tr a5 s) l) / 1024 : ℝ) : EReal) := by
  pointwise [val_main_v27, val_main_cst_7, val_main_v26, val_main_cst_6, val_main_v25, val_main_v24, val_main_cst_5, val_main_v23, val_main_cst_4, val_main_v20]
  simp only [r19, ← EReal.coe_mul, coe_sum, ofBits_1024, div_1024]; rw [ofBits_half, ← EReal.coe_mul]

end

end Cert.Loss.Math
end
-- ==== Proof.LossClaim.lean ====
/- The output projection with the loss: at the reals, on finite arguments, the kernel's four results are the
   reference's. -/
module

public import proofs.«01_k».proof.Defs
public import proofs.«01_k».proof.Proof.LossMath
public import proofs.«01_k».proof.Proof.Gen.LossRefIdeal.Run
public import proofs.«01_k».proof.Proof.Gen.Loss.Frame

@[expose] public section
set_option maxRecDepth 16384
noncomputable section
namespace Cert.LossIdeal.Val
open Idealize.ShloMosaic Idealize.ShloMosaic.TcCoe Idealize.SL.Sem
open Cert.LossIdeal Cert.LossIdeal.Gen Cert.Step Cert.Loss.Math

/-- The arguments are arrays of reals. -/
def Reals (m : (ℓ : Loc nD τ sig) → Buf (Elt Ideal) ℓ) (c : Dev nD) (a0 a1 a2 : S4096x1024.Idx → ℝ) (a3 : S2048x1024.Idx → ℝ)
    (a4 : S1024.Idx → ℝ) (a5 : S4096x1024.Idx → ℝ) : Prop :=
  X0 m c = up a0 ∧ X1 m c = up a1 ∧ X2 m c = up a2 ∧ X3 m c = up a3 ∧ X4 m c = up a4 ∧ X5 m c = up a5

section
variable {m : (ℓ : Loc nD τ sig) → Buf (Elt Ideal) ℓ} {c : Dev nD} {a0 a1 a2 : S4096x1024.Idx → ℝ} {a3 : S2048x1024.Idx → ℝ}
    {a4 : S1024.Idx → ℝ} {a5 : S4096x1024.Idx → ℝ}

theorem hr_eq (h : Reals m c a0 a1 a2 a3 a4 a5) (s : Fin 4096) : hr m c s = fun l => ((hrr a0 a1 a2 a3 s l : ℝ) : EReal) := by
  obtain ⟨h0, h1, h2, h3, -, -⟩ := h
  funext l; unfold hr; rw [h0, h1, h2, h3]; simp only [← EReal.coe_mul, coe_sum, ← EReal.coe_add]
theorem gn_eq (h : Reals m c a0 a1 a2 a3 a4 a5) : gn m c = fun l => ((gr a4 l : ℝ) : EReal) := by
  obtain ⟨-, -, -, -, h4, -⟩ := h
  funext l; unfold gn; rw [h4]
theorem tgt_eq (h : Reals m c a0 a1 a2 a3 a4 a5) (s : Fin 4096) : tgt m c s = fun l => ((tr a5 s l : ℝ) : EReal) := by
  obtain ⟨-, -, -, -, -, h5⟩ := h
  funext l; unfold tgt; rw [h5]

theorem out6 (h : Reals m c a0 a1 a2 a3 a4 a5) :
    (dats m 0 c).arrAt 6 (cfgs 0).N = Cert.LossRefIdeal.Read.val_main_v53 (F := Ideal) (X0 m c) (X1 m c) (X2 m c) (X3 m c) (X4 m c) (X5 m c) := by
  rw [final6]
  funext i
  obtain ⟨r, l, rfl⟩ : ∃ (r : Fin 4096) (l : Fin 1024), i = ix2 r l := ⟨i 0, i 1, by funext a; fin_cases a <;> rfl⟩
  have e := r53 a0 a1 a2 a3 a4 a5 r l
  rw [← h.1, ← h.2.1, ← h.2.2.1, ← h.2.2.2.1, ← h.2.2.2.2.1, ← h.2.2.2.2.2] at e
  rw [e]
  show dxr (hr m c r) (gn m c) (tgt m c r) l = _
  rw [hr_eq h r, gn_eq h, tgt_eq h r, dxr_coe]
theorem out7 (h : Reals m c a0 a1 a2 a3 a4 a5) :
    (dats m 0 c).arrAt 7 (cfgs 0).N = Cert.LossRefIdeal.Read.val_main_v54 (F := Ideal) (X0 m c) (X1 m c) (X2 m c) (X3 m c) (X4 m c) (X5 m c) := by
  rw [final7]
  funext i
  obtain ⟨r, l, rfl⟩ : ∃ (r : Fin 4096) (l : Fin 1024), i = ix2 r l := ⟨i 0, i 1, by funext a; fin_cases a <;> rfl⟩
  have e := r54 a0 a1 a2 a3 a4 a5 r l
  rw [← h.1, ← h.2.1, ← h.2.2.1, ← h.2.2.2.1, ← h.2.2.2.2.1, ← h.2.2.2.2.2] at e
  rw [e]
  show dxr (hr m c r) (gn m c) (tgt m c r) l = _
  rw [hr_eq h r, gn_eq h, tgt_eq h r, dxr_coe]
theorem out9 (h : Reals m c a0 a1 a2 a3 a4 a5) :
    (dats m 0 c).arrAt 9 (cfgs 0).N = Cert.LossRefIdeal.Read.val_main_v55 (F := Ideal) (X0 m c) (X1 m c) (X2 m c) (X3 m c) (X4 m c) (X5 m c) := by
  rw [final9]
  funext i
  obtain ⟨l, rfl⟩ := idx1 i
  have e := r55 a0 a1 a2 a3 a4 a5 l
  rw [← h.1, ← h.2.1, ← h.2.2.1, ← h.2.2.2.1, ← h.2.2.2.2.1, ← h.2.2.2.2.2] at e
  rw [e]
  show (∑ s : Fin 4096, dz (hr m c s) (gn m c) (tgt m c s) l * nrm (hr m c s) l : EReal) = _
  refine (Finset.sum_congr rfl fun s _ => ?_).trans (coe_sum _ _)
  rw [hr_eq h s, gn_eq h, tgt_eq h s, dz_coe, nrm_coe, ← EReal.coe_mul]
theorem outl (h : Reals m c a0 a1 a2 a3 a4 a5) :
    Pipeline.afterTail₀ cfgs (dats m) 0 (V0 m) [hostOps1] c main_v9 = Cert.LossRefIdeal.Read.val_main_v27 (F := Ideal) (X0 m c) (X1 m c) (X2 m c) (X3 m c) (X4 m c) (X5 m c) := by
  rw [tail9]
  funext i
  have e := r27 a0 a1 a2 a3 a4 a5 i
  rw [← h.1, ← h.2.1, ← h.2.2.1, ← h.2.2.2.1, ← h.2.2.2.2.1, ← h.2.2.2.2.2] at e
  rw [e]
  have e2 : (∑ l : Fin 1024, ∑ s : Fin 4096, df (hr m c s) (gn m c) (tgt m c s) l * df (hr m c s) (gn m c) (tgt m c s) l : EReal)
      = ((∑ l : Fin 1024, ∑ s : Fin 4096, rdf (hrr a0 a1 a2 a3 s) (gr a4) (tr a5 s) l * rdf (hrr a0 a1 a2 a3 s) (gr a4) (tr a5 s) l : ℝ) : EReal) := by
    refine (Finset.sum_congr rfl fun l _ => ?_).trans (coe_sum _ _)
    refine (Finset.sum_congr rfl fun s _ => ?_).trans (coe_sum _ _)
    rw [hr_eq h s, gn_eq h, tgt_eq h s, df_coe, ← EReal.coe_mul]
  rw [e2, ofBits_inv_2048, ← EReal.coe_mul, Finset.sum_comm, ← Finset.sum_div]
  congr 1
  ring
end

/-- The two programs end with equal results on finite arguments. -/
theorem algebraic [hPre : Cert.Pre_finite_loss.Facts] : Cert.algebraic_LossIdeal_LossRefIdeal_pre_finite_loss (hLossIdeal := Cert.LossIdeal.Gen.facts)
    (hLossRefIdeal := Cert.LossRefIdeal.Gen.facts) := by
  intro m g m' g' hpre hagree
  have hreal : ∀ c : Dev nD, ∃ a0 a1 a2 a3 a4 a5, Reals m c a0 a1 a2 a3 a4 a5 := fun c => by
    obtain ⟨h0, h1, h2, h3, h4, h5⟩ := hpre c
    obtain ⟨a0, e0⟩ := exists_real (X0 m c) _ h0
    obtain ⟨a1, e1⟩ := exists_real (X1 m c) _ h1
    obtain ⟨a2, e2⟩ := exists_real (X2 m c) _ h2
    obtain ⟨a3, e3⟩ := exists_real (X3 m c) _ h3
    obtain ⟨a4, e4⟩ := exists_real (X4 m c) _ h4
    obtain ⟨a5, e5⟩ := exists_real (X5 m c) _ h5
    exact ⟨a0, a1, a2, a3, a4, a5, e0, e1, e2, e3, e4, e5⟩
  have hsuf := fun (b : Ref sig .tc) (hs : b.isScoped = false) (ha : ∀ w, (spec0 w).arr.view.ref ≠ b) (r : PUnit × MemSt nD τ sig (Elt Ideal))
     (h : Pipeline.FramePost cfgs (dats m) 0 (Pipeline.afterTail₀ cfgs (dats m) 0 (V0 m) [hostOps1]) r) (c : Dev nD) => (h c).2 b (Pipeline.mem_restRefs_of b hs ha)
  refine ⟨_, _, _, _, (θ_run defs _ _).mono (fun r h c => ⟨hsuf main_v9 (by decide) (by decide) r h c,
    (h c).1 6, (h c).1 7, (h c).1 9,
    ((h c).1 0).trans (((dats m 0 c).arrAt_in 0 rfl _).trans ((A_eq m c 0).trans (V_main_arg0 m c))), (hsuf main_arg1 (by decide) (by decide) r h c).trans (W_main_arg1 m _ c),
    (hsuf main_arg2 (by decide) (by decide) r h c).trans (W_main_arg2 m _ c), (hsuf main_arg3 (by decide) (by decide) r h c).trans (W_main_arg3 m _ c),
    (hsuf main_arg4 (by decide) (by decide) r h c).trans (W_main_arg4 m _ c), ((h c).1 5).trans (((dats m 0 c).arrAt_in 5 rfl _).trans ((A_eq m c 5).trans (V_main_arg5 m c)))⟩) (run_main m g),
    (θ_run Cert.LossRefIdeal.defs _ _).mono (fun r h c => ?_) (Cert.LossRefIdeal.Value.run m' g')⟩
  obtain ⟨h0, h1, h2, h3, hk⟩ := h c
  obtain ⟨g0, g1, g2, g3, g4, g5⟩ := hagree c
  obtain ⟨a0, a1, a2, a3, a4, a5, e⟩ := hreal c
  refine ⟨h0.trans ?_, h1.trans ?_, h2.trans ?_, h3.trans ?_, hk⟩
  · rw [Cert.LossRefIdeal.Read.val_main_v27_eq, g0, g1, g2, g3, g4, g5]; exact (outl e).symm
  · rw [Cert.LossRefIdeal.Read.val_main_v53_eq, g0, g1, g2, g3, g4, g5]; exact (out6 e).symm
  · rw [Cert.LossRefIdeal.Read.val_main_v54_eq, g0, g1, g2, g3, g4, g5]; exact (out7 e).symm
  · rw [Cert.LossRefIdeal.Read.val_main_v55_eq, g0, g1, g2, g3, g4, g5]; exact (out9 e).symm

end Cert.LossIdeal.Val
end
-- ==== Proof.NormRun.lean ====
/- One point of the kernel behind the input projection: what it reads, and what it leaves in the scratch and the two outputs. -/
module

public import proofs.«01_k».proof.Proof.Gen.NormIdeal.Frame
public import proofs.«01_k».proof.Proof.Gen.NormIdeal.Skeleton
public import proofs.«01_k».proof.Proof.Gen.NormIdeal.Points
public import proofs.«01_k».proof.Proof.Gen.NormIdeal.Launch
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.VecWindow
public import Idealize.ShloMosaic.Lib.Pipeline.ValueKit

@[expose] public section

set_option maxRecDepth 16384

noncomputable section

namespace Cert.NormIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.NormIdeal Cert.NormIdeal.Gen

variable {F : FTy → Type} [FloatOps F]

local notation "𝕄" => MT nD τ sig Unit (Elt F) ℕ (UR sig nD τ) ℕ

/-- The staging buffers and the scratch a point works on. -/
structure Mems where
  a2 : Memref sig .tc .vmem S1024x512 .bf16
  h2 : a2.IsWhole
  a3 : Memref sig .tc .vmem S1024x512 .bf16
  h3 : a3.IsWhole
  a4 : Memref sig .tc .vmem S1024x512 .bf16
  h4 : a4.IsWhole
  a5 : Memref sig .tc .vmem S1024x512 .bf16
  h5 : a5.IsWhole
  a6 : Memref sig .tc .vmem S512x1024 .bf16
  h6 : a6.IsWhole
  a7 : Memref sig .tc .vmem S1024x1024 .f32
  h7 : a7.IsWhole
  a8 : Memref sig .tc .vmem S1024x1024 .f32
  h8 : a8.IsWhole
  a9 : Memref sig .tc .vmem S1x1024 .f32
  h9 : a9.IsWhole
  a10 : Memref sig .tc .vmem S1024x1024 .f32
  h10 : a10.IsWhole
  a11 : Memref sig .tc .vmem S1x1024 .f32
  h11 : a11.IsWhole
  a12 : Memref sig .tc .vmem S4x1024x1024 .f32
  h12 : a12.IsWhole

/-- The blocks a point reads. -/
structure Ins (F : FTy → Type) where
  x2 : Vec F S1024x512 .bf16
  x3 : Vec F S1024x512 .bf16
  x4 : Vec F S1024x512 .bf16
  x5 : Vec F S1024x512 .bf16
  x6 : Vec F S512x1024 .bf16
  x7 : Vec F S1024x1024 .f32
  x8 : Vec F S1024x1024 .f32
  x9 : Vec F S1x1024 .f32

/-- The kernel's body on those buffers. -/
abbrev body (i : grid0.Coords) (M : Mems) : Prog (TpuEff nD τ sig (Elt F) Λ₀ .tc) PUnit :=
  cc0_dh i M.a2 M.h2 M.a3 M.h3 M.a4 M.h4 M.a5 M.h5 M.a6 M.h6 M.a7 M.h7 M.a8 M.h8 M.a9 M.h9 M.a10 M.h10 M.a11 M.h11 M.a12 M.h12

/-- The eight read buffers, at their blocks. -/
def reads (c : Dev nD) (M : Mems) (X : Ins F) : sProp 𝕄 :=
  iprop(owns (c : Thread nD τ) M.a2 fullShare X.x2 ∗ owns (c : Thread nD τ) M.a3 fullShare X.x3 ∗ owns (c : Thread nD τ) M.a4 fullShare X.x4
    ∗ owns (c : Thread nD τ) M.a5 fullShare X.x5 ∗ owns (c : Thread nD τ) M.a6 fullShare X.x6 ∗ owns (c : Thread nD τ) M.a7 fullShare X.x7
    ∗ owns (c : Thread nD τ) M.a8 fullShare X.x8 ∗ owns (c : Thread nD τ) M.a9 fullShare X.x9)

/-- The three written buffers, at what they hold. -/
def holds (c : Dev nD) (M : Mems) (g : Vec F S1024x1024 .f32) (n : Vec F S1x1024 .f32) (A : Vec F S4x1024x1024 .f32) : sProp 𝕄 :=
  iprop(owns (c : Thread nD τ) M.a10 fullShare g ∗ owns (c : Thread nD τ) M.a11 fullShare n ∗ owns (c : Thread nD τ) M.a12 fullShare A)

/-- One of the four blocks of rows the scratch keeps. -/
def rowOf (A : Vec F S4x1024x1024 .f32) (r : Fin 4) : Vec F S1x1024x1024 .f32 := fun y => A (ix3 r (y 1) (y 2))

/-- The scratch with one of its blocks replaced. -/
def setRow (A : Vec F S4x1024x1024 .f32) (r : Fin 4) (P : Vec F S1x1024x1024 .f32) : Vec F S4x1024x1024 .f32 :=
  fun y => if (y 0).val = r.val then P (ix3 (0 : Fin 1) (y 1) (y 2)) else A y

/-- The product of one column block of the incoming gradients with its weights, on top of what the block's rows held. -/
def accRow (k : ℕ) (X : Ins F) (P : Vec F S1x1024x1024 .f32) : Vec F S1x1024x1024 .f32 :=
  if k < 2 then k0_pay3 (k0_pay12 X.x2) (iota .tc S128x128 32 [1] iota_S128x128_d1_w32) k0_pay13 k0_pay14 k0_pay15 k0_pay16 P X.x6
  else if k < 3 then k0_pay4 (k0_pay17 X.x3) (iota .tc S128x128 32 [1] iota_S128x128_d1_w32) k0_pay18 k0_pay19 k0_pay20 k0_pay21 P X.x6
  else if k < 5 then k0_pay5 (k0_pay22 X.x4) (iota .tc S128x128 32 [1] iota_S128x128_d1_w32) k0_pay23 k0_pay24 k0_pay25 k0_pay26 P X.x6
  else k0_pay6 X.x5 P X.x6

theorem cond1_iff (i : grid0.Coords) : k0_cond1 i = 1#1 ↔ (i 1).val = 0 ∧ (i 0).val = 0 := by
  unfold k0_cond1; generalize i 0 = a; generalize i 1 = b; revert a b; decide

theorem cond2_iff (i : grid0.Coords) : k0_cond2 i = 1#1 ↔ (i 0).val = 0 := by
  unfold k0_cond2; generalize i 0 = a; revert a; decide

theorem cond3_iff (i : grid0.Coords) : k0_cond3 i = 1#1 ↔ (i 0).val < 2 := by
  unfold k0_cond3; generalize i 0 = a; revert a; decide

theorem cond4_iff (i : grid0.Coords) : k0_cond4 i = 1#1 ↔ 2 ≤ (i 0).val ∧ (i 0).val < 3 := by
  unfold k0_cond4; generalize i 0 = a; revert a; decide

theorem cond5_iff (i : grid0.Coords) : k0_cond5 i = 1#1 ↔ 3 ≤ (i 0).val ∧ (i 0).val < 5 := by
  unfold k0_cond5; generalize i 0 = a; revert a; decide

theorem cond6_iff (i : grid0.Coords) : k0_cond6 i = 1#1 ↔ 5 ≤ (i 0).val := by
  unfold k0_cond6; generalize i 0 = a; revert a; decide

theorem cond7_iff (i : grid0.Coords) : k0_cond7 i = 1#1 ↔ (i 0).val = 10 := by
  unfold k0_cond7; generalize i 0 = a; revert a; decide

/-- The scratch row a point works on. -/
theorem off1_eq (i : grid0.Coords) : k0_off1 i = ![(i 1).val, 0, 0] := by unfold k0_off1; generalize i 1 = b; revert b; decide
theorem off2_eq (i : grid0.Coords) : k0_off2 i = ![(i 1).val, 0, 0] := off1_eq i
theorem off3_eq (i : grid0.Coords) : k0_off3 i = ![(i 1).val, 0, 0] := off1_eq i
theorem off4_eq (i : grid0.Coords) : k0_off4 i = ![(i 1).val, 0, 0] := off1_eq i
theorem off5_eq (i : grid0.Coords) : k0_off5 i = ![(i 1).val, 0, 0] := off1_eq i
theorem off6_eq (i : grid0.Coords) : k0_off6 i = ![(i 1).val, 0, 0] := off1_eq i

/-- Loading a block of rows of the scratch. -/
theorem ld_row (v : View sig .tc .vmem S4x1024x1024 .f32) (f : v.ty.Contents (Elt F)) {off : Fin 3 → ℕ} (inb) (r : Fin 4) (h : off = ![r.val, 0, 0]) :
    v.readAt (Elt F) (Rect.unit (s := S4x1024x1024) off S1x1024x1024.size inb).toLoadRect f = rowOf (v.read (Elt F) f) r := by
  subst h
  funext y
  refine View.ld_unit_apply_of (v.read (Elt F) f) _ _ inb y _ fun a => ?_
  match a with
  | ⟨0, _⟩ => show r.val = r.val + (y 0).val; have := (y 0).isLt; change _ < 1 at this; omega
  | ⟨1, _⟩ => exact (Nat.zero_add _).symm
  | ⟨2, _⟩ => exact (Nat.zero_add _).symm

/-- Storing a block of rows of the scratch. -/
theorem st_row (v : View sig .tc .vmem S4x1024x1024 .f32) (f : v.ty.Contents (Elt F)) {off : Fin 3 → ℕ} (inb) (r : Fin 4) (h : off = ![r.val, 0, 0])
    (P : Vec F S1x1024x1024 .f32) (L) :
    v.read (Elt F) (v.writes (Elt F) f (⟨Rect.unit (s := S4x1024x1024) off S1x1024x1024.size inb, P⟩ :: L)) = setRow (v.read (Elt F) (v.writes (Elt F) f L)) r P := by
  subst h
  funext y
  unfold setRow
  by_cases hy : (y 0).val = r.val
  · rw [if_pos hy]
    refine View.read_writes_cons_unit_of_mem v f inb P L y _ rfl fun a => ?_
    match a with
    | ⟨0, _⟩ => exact hy
    | ⟨1, _⟩ => exact (Nat.zero_add _).symm
    | ⟨2, _⟩ => exact (Nat.zero_add _).symm
  · rw [if_neg hy]
    refine View.read_writes_cons_unit_of_not_mem v f inb P L y rfl 0 ?_
    show (y 0).val < r.val ∨ r.val + 1 ≤ (y 0).val
    omega

theorem rowOf_setRow (A : Vec F S4x1024x1024 .f32) (r : Fin 4) (P : Vec F S1x1024x1024 .f32) : rowOf (setRow A r P) r = P := by
  funext y
  refine (if_pos (rfl : r.val = r.val)).trans ?_
  exact congrArg P (funext fun a => Fin.ext (by
    match a with
    | ⟨0, _⟩ => have := (y 0).isLt; change _ < 1 at this; show 0 = (y 0).val; omega
    | ⟨1, _⟩ => rfl
    | ⟨2, _⟩ => rfl))

theorem rowOf_setRow_ne (A : Vec F S4x1024x1024 .f32) (r r' : Fin 4) (h : r' ≠ r) (P : Vec F S1x1024x1024 .f32) : rowOf (setRow A r P) r' = rowOf A r' :=
  funext fun _ => if_neg (fun e : r'.val = r.val => h (Fin.ext e))

/-- Loading the block of rows stored last. -/
theorem cov_row (v : View sig .tc .vmem S4x1024x1024 .f32) {off off' : Fin 3 → ℕ} (inb inb') (r : Fin 4) (h : off = ![r.val, 0, 0]) (h' : off' = ![r.val, 0, 0])
    (P : Vec F S1x1024x1024 .f32) (L) :
    v.readCov (Val := Elt F) (⟨Rect.unit (s := S4x1024x1024) off S1x1024x1024.size inb, P⟩ :: L)
      (Rect.unit (s := S4x1024x1024) off' S1x1024x1024.size inb').toLoadRect = P :=
  (ld_row v _ inb' r h').trans ((congrArg (rowOf · r) (st_row v _ inb r h P L)).trans (rowOf_setRow _ r P))

theorem setRow_setRow (A : Vec F S4x1024x1024 .f32) (r : Fin 4) (P Q : Vec F S1x1024x1024 .f32) : setRow (setRow A r P) r Q = setRow A r Q := by
  funext y
  unfold setRow
  by_cases hy : (y 0).val = r.val <;> simp only [hy, if_true, if_false]

/-- What the point's block of rows holds before its product is added. -/
def rowIn (i : grid0.Coords) (A : Vec F S4x1024x1024 .f32) : Vec F S1x1024x1024 .f32 := if (i 0).val = 0 then k0_pay2 else rowOf A (i 1)

/-- and after. -/
def rowOut (i : grid0.Coords) (X : Ins F) (A : Vec F S4x1024x1024 .f32) : Vec F S1x1024x1024 .f32 := accRow (i 0).val X (rowIn i A)

/-- What a point leaves in the block of the gradient: at the last column block, the norm's gradient. -/
def gxOut (i : grid0.Coords) (X : Ins F) (g : Vec F S1024x1024 .f32) (A : Vec F S4x1024x1024 .f32) : Vec F S1024x1024 .f32 :=
  if (i 0).val = 10 then k0_pay11 (rowOut i X A) X.x7 X.x9 X.x8 else g

/-- What a point leaves in the gain's gradient. -/
def gngOut (i : grid0.Coords) (X : Ins F) (n : Vec F S1x1024 .f32) (A : Vec F S4x1024x1024 .f32) : Vec F S1x1024 .f32 :=
  if (i 0).val = 10 then k0_pay10 (rowOut i X A) X.x7 n else if (i 1).val = 0 ∧ (i 0).val = 0 then k0_pay1 else n

set_option maxHeartbeats 2000000 in
/-- A point of the kernel. -/
theorem run_point (c : Dev nD) (i : grid0.Coords) (M : Mems) (X : Ins F) (g : Vec F S1024x1024 .f32) (n : Vec F S1x1024 .f32)
    (A : Vec F S4x1024x1024 .f32) (E K) :
    iprop(reads c M X ∗ holds c M g n A
        ∗ (iprop(reads c M X ∗ holds c M (gxOut i X g A) (gngOut i X n A) (setRow A (i 1) (rowOut i X A))) -∗ K ⟨⟩))
      ⊢ wp frame (wpE (defs₀ (F := F)) Variants.none c none) E (body i M) K := by
  have hlt : (i 0).val < 11 := (i 0).isLt
  by_cases hc1 : k0_cond1 i = 1#1
  all_goals (have q1 := hc1; rw [cond1_iff] at q1)
  all_goals try (exfalso; omega)
  all_goals by_cases hc2 : k0_cond2 i = 1#1
  all_goals (have q2 := hc2; rw [cond2_iff] at q2)
  all_goals try (exfalso; omega)
  all_goals by_cases hc3 : k0_cond3 i = 1#1
  all_goals (have q3 := hc3; rw [cond3_iff] at q3)
  all_goals try (exfalso; omega)
  all_goals by_cases hc4 : k0_cond4 i = 1#1
  all_goals (have q4 := hc4; rw [cond4_iff] at q4)
  all_goals try (exfalso; omega)
  all_goals by_cases hc5 : k0_cond5 i = 1#1
  all_goals (have q5 := hc5; rw [cond5_iff] at q5)
  all_goals try (exfalso; omega)
  all_goals by_cases hc6 : k0_cond6 i = 1#1
  all_goals (have q6 := hc6; rw [cond6_iff] at q6)
  all_goals try (exfalso; omega)
  all_goals by_cases hc7 : k0_cond7 i = 1#1
  all_goals (have q7 := hc7; rw [cond7_iff] at q7)
  all_goals try (exfalso; omega)
  all_goals
    simp only [body, cc0_dh_eq_skeleton]
    unfold cc0_dh_skel reads holds owns
    iintro ⟨⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩⟩, ⟨⟨%f10, %e10, H10⟩, ⟨%f11, %e11, H11⟩, ⟨%f12, %e12, H12⟩⟩, Hk⟩
    sl_exec (disch := first | sl_exact hc1 | sl_exact hc2 | sl_exact hc3 | sl_exact hc4 | sl_exact hc5 | sl_exact hc6 | sl_exact hc7)
    sl_step
    iapply Hk
    isplitl [H2 H3 H4 H5 H6 H7 H8 H9]
    · isplitl [H2]; · iexists _; isplitr; · ipureintro; exact e2
                      iexact H2
      isplitl [H3]; · iexists _; isplitr; · ipureintro; exact e3
                      iexact H3
      isplitl [H4]; · iexists _; isplitr; · ipureintro; exact e4
                      iexact H4
      isplitl [H5]; · iexists _; isplitr; · ipureintro; exact e5
                      iexact H5
      isplitl [H6]; · iexists _; isplitr; · ipureintro; exact e6
                      iexact H6
      isplitl [H7]; · iexists _; isplitr; · ipureintro; exact e7
                      iexact H7
      isplitl [H8]; · iexists _; isplitr; · ipureintro; exact e8
                      iexact H8
      iexists _; isplitr; · ipureintro; exact e9
      iexact H9
    isplitl [H10]; · iexists _; isplitr; swap; · iexact H10
                     ipureintro
                     frame_open
                     simp only [View.read_writes_full (s := S1024x1024), View.read_writes_full (s := S1x1024), View.readAt_full (s := S1024x512), View.readAt_full (s := S512x1024), View.readAt_full (s := S1024x1024), View.readAt_full (s := S1x1024), View.writes_nil, cov_row _ _ _ (i 1) (off1_eq i) (off2_eq i), cov_row _ _ _ (i 1) (off5_eq i) (off6_eq i), ld_row _ _ _ (i 1) (off2_eq i), ld_row _ _ _ (i 1) (off3_eq i),
                       ld_row _ _ _ (i 1) (off4_eq i), ld_row _ _ _ (i 1) (off5_eq i), ld_row _ _ _ (i 1) (off6_eq i), st_row _ _ _ (i 1) (off1_eq i),
                       st_row _ _ _ (i 1) (off2_eq i), st_row _ _ _ (i 1) (off3_eq i), st_row _ _ _ (i 1) (off4_eq i), st_row _ _ _ (i 1) (off5_eq i),
                       rowOf_setRow, setRow_setRow, e2, e3, e4, e5, e6, e7, e8, e9, e10, e11, e12]
                     simp only [gxOut, gngOut, rowOut, rowIn, accRow]
                     split_ifs <;> first | rfl | omega
    isplitl [H11]; · iexists _; isplitr; swap; · iexact H11
                     ipureintro
                     frame_open
                     simp only [View.read_writes_full (s := S1024x1024), View.read_writes_full (s := S1x1024), View.readAt_full (s := S1024x512), View.readAt_full (s := S512x1024), View.readAt_full (s := S1024x1024), View.readAt_full (s := S1x1024), View.writes_nil, cov_row _ _ _ (i 1) (off1_eq i) (off2_eq i), cov_row _ _ _ (i 1) (off5_eq i) (off6_eq i), ld_row _ _ _ (i 1) (off2_eq i), ld_row _ _ _ (i 1) (off3_eq i),
                       ld_row _ _ _ (i 1) (off4_eq i), ld_row _ _ _ (i 1) (off5_eq i), ld_row _ _ _ (i 1) (off6_eq i), st_row _ _ _ (i 1) (off1_eq i),
                       st_row _ _ _ (i 1) (off2_eq i), st_row _ _ _ (i 1) (off3_eq i), st_row _ _ _ (i 1) (off4_eq i), st_row _ _ _ (i 1) (off5_eq i),
                       rowOf_setRow, setRow_setRow, e2, e3, e4, e5, e6, e7, e8, e9, e10, e11, e12]
                     simp only [gxOut, gngOut, rowOut, rowIn, accRow]
                     split_ifs <;> first | rfl | omega
    iexists _; isplitr; swap; · iexact H12
    ipureintro
    frame_open
    simp only [View.read_writes_full (s := S1024x1024), View.read_writes_full (s := S1x1024), View.readAt_full (s := S1024x512), View.readAt_full (s := S512x1024), View.readAt_full (s := S1024x1024), View.readAt_full (s := S1x1024), View.writes_nil, cov_row _ _ _ (i 1) (off1_eq i) (off2_eq i), cov_row _ _ _ (i 1) (off5_eq i) (off6_eq i), ld_row _ _ _ (i 1) (off2_eq i), ld_row _ _ _ (i 1) (off3_eq i),
      ld_row _ _ _ (i 1) (off4_eq i), ld_row _ _ _ (i 1) (off5_eq i), ld_row _ _ _ (i 1) (off6_eq i), st_row _ _ _ (i 1) (off1_eq i),
      st_row _ _ _ (i 1) (off2_eq i), st_row _ _ _ (i 1) (off3_eq i), st_row _ _ _ (i 1) (off4_eq i), st_row _ _ _ (i 1) (off5_eq i),
      rowOf_setRow, setRow_setRow, e2, e3, e4, e5, e6, e7, e8, e9, e10, e11, e12]
    simp only [gxOut, gngOut, rowOut, rowIn, accRow]
    split_ifs <;> first | rfl | exact (setRow_setRow _ _ _ _).trans rfl | omega

end Cert.NormIdeal.Step

end
-- ==== Proof.NormFrame.lean ====
/- The kernel behind the input projection at every grid point, and its run from launch to end. -/
module

public import proofs.«01_k».proof.Proof.NormRun
public import Idealize.ShloMosaic.Lib.Claim

@[expose] public section

set_option maxRecDepth 16384

noncomputable section

namespace Cert.NormIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.NormIdeal Cert.NormIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of point `t`. -/
def mems (t : Fin cfg0.N) : Mems where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := Memref.whole cc0_scratch0
  h12 := Memref.isWhole_whole _

/-- The blocks point `t` reads. -/
def ins (c : Dev nD) (t : Fin cfg0.N) : Ins F where
  x2 := iblk m c 0 t
  x3 := iblk m c 1 t
  x4 := iblk m c 2 t
  x5 := iblk m c 3 t
  x6 := iblk m c 4 t
  x7 := iblk m c 5 t
  x8 := iblk m c 6 t
  x9 := iblk m c 7 t

/-- The scratch and the gain's gradient after `n` points, from zeros: a point overwrites its own rows at the first column
    block, so no row the kernel reads depends on what was there before. -/
def state (c : Dev nD) : ℕ → Vec F S4x1024x1024 .f32 × Vec F S1x1024 .f32
  | 0 => (fun y => k0_pay2 (ix3 (0 : Fin 1) (y 1) (y 2)), k0_pay1)
  | n + 1 =>
    if h : n < cfg0.N then
      (setRow (state c n).1 (grid0.coords ⟨n, h⟩ 1) (rowOut (grid0.coords ⟨n, h⟩) (ins m c ⟨n, h⟩) (state c n).1),
        gngOut (grid0.coords ⟨n, h⟩) (ins m c ⟨n, h⟩) (state c n).2 (state c n).1)
    else state c n

theorem state_succ (c : Dev nD) (t : Fin cfg0.N) :
    state m c (t.val + 1) = (setRow (state m c t.val).1 (grid0.coords t 1) (rowOut (grid0.coords t) (ins m c t) (state m c t.val).1),
      gngOut (grid0.coords t) (ins m c t) (state m c t.val).2 (state m c t.val).1) := dif_pos t.isLt

/-- The column block of a point, and its block of rows. -/
theorem coord0 (t : Fin cfg0.N) : (grid0.coords t 0).val = t.val / 4 := by
  have h : t.val < 44 := t.isLt
  show t.val / grid0.stride 0 % 11 = _
  rw [show grid0.stride 0 = 4 from by decide]; omega

theorem coord1 (t : Fin cfg0.N) : (grid0.coords t 1).val = t.val % 4 := by
  show t.val / grid0.stride 1 % 4 = _
  rw [show grid0.stride 1 = 1 from by decide]; omega

/-- Contents of the scratch that agree with `state` on every block of rows the kernel has written. -/
def Agrees (c : Dev nD) (n : ℕ) (A : Vec F S4x1024x1024 .f32) : Prop := ∀ r : Fin 4, r.val < n → rowOf A r = rowOf (state m c n).1 r

theorem rowOut_agrees (c : Dev nD) (t : Fin cfg0.N) (A : Vec F S4x1024x1024 .f32) (h : Agrees m c t.val A) :
    rowOut (grid0.coords t) (ins m c t) A = rowOut (grid0.coords t) (ins m c t) (state m c t.val).1 := by
  unfold rowOut rowIn
  by_cases hk : (grid0.coords t 0).val = 0
  · rw [if_pos hk, if_pos hk]
  · rw [if_neg hk, if_neg hk, h (grid0.coords t 1) (by rw [coord1]; rw [coord0] at hk; omega)]

theorem agrees_succ (c : Dev nD) (t : Fin cfg0.N) (A : Vec F S4x1024x1024 .f32) (h : Agrees m c t.val A) :
    Agrees m c (t.val + 1) (setRow A (grid0.coords t 1) (rowOut (grid0.coords t) (ins m c t) A)) := by
  intro r hr
  rw [state_succ, rowOut_agrees m c t A h]
  by_cases e : r = grid0.coords t 1
  · subst e
    exact (rowOf_setRow _ _ _).trans (rowOf_setRow _ _ _).symm
  · have e' : r.val ≠ t.val % 4 := fun e2 => e (Fin.ext (e2.trans (coord1 t).symm))
    refine (rowOf_setRow_ne _ _ _ e _).trans (Eq.trans ?_ (rowOf_setRow_ne _ _ _ e _).symm)
    have := r.isLt
    exact h r (by omega)

/-- What a point at the last column block leaves in the block of the gradient. -/
def gxAt (c : Dev nD) (t : Fin cfg0.N) : Vec F S1024x1024 .f32 := gxOut (grid0.coords t) (ins m c t) (ins m c t).x7 (state m c t.val).1

/-- Before point `n`: the scratch holds what the points before it have left there. -/
def Inv (c : Dev nD) (n : ℕ) : sProp 𝕄 :=
  iprop((∃ A, ⌜Agrees m c n A⌝ ∗ owns (c : Thread nD τ) (Memref.whole cc0_scratch0) fullShare A) ∗ (∃ r, prngReg c r))

def dats : (p : Fin 1) → (c : Dev nD) → Dat τ (Elt F) Unit ℕ (UR sig nD τ) ℕ (cfgs p) c := fun _ c =>
  { A := fun w => V m c (Pipeline.arrRef spec0 w)
    after := fun w t => match w with
      | ⟨0, _⟩ => iblk m c 0 t
      | ⟨1, _⟩ => iblk m c 1 t
      | ⟨2, _⟩ => iblk m c 2 t
      | ⟨3, _⟩ => iblk m c 3 t
      | ⟨4, _⟩ => iblk m c 4 t
      | ⟨5, _⟩ => iblk m c 5 t
      | ⟨6, _⟩ => iblk m c 6 t
      | ⟨7, _⟩ => iblk m c 7 t
      | ⟨8, _⟩ => gxAt m c t
      | ⟨9, _⟩ => (state m c (t.val + 1)).2
    Φ := fun t => Inv m c t.val
    q := fun _ => fullShare
    owed := fun _ => 0 }

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = gxAt m c t := by dsimp only [dats]
theorem after0_9 (c : Dev nD) (t : Fin cfg0.N) : (dats m 0 c).after 9 t = (state m c (t.val + 1)).2 := by dsimp only [dats]

/-- The eight read buffers hold their blocks. -/
theorem before_ins (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t)
      ∧ (∀ d, (dats m 0 c).before 3 t d = iblk m c 3 t) ∧ (∀ d, (dats m 0 c).before 4 t d = iblk m c 4 t) ∧ (∀ d, (dats m 0 c).before 5 t d = iblk m c 5 t)
      ∧ (∀ d, (dats m 0 c).before 6 t d = iblk m c 6 t) ∧ (∀ d, (dats m 0 c).before 7 t d = iblk m c 7 t) :=
  ⟨before0_0_of m (dats m 0 c) (A_eq m c 0) (after0_0 m c) t, before0_1_of m (dats m 0 c) (A_eq m c 1) (after0_1 m c) t,
    before0_2_of m (dats m 0 c) (A_eq m c 2) (after0_2 m c) t, before0_3_of m (dats m 0 c) (A_eq m c 3) (after0_3 m c) t,
    before0_4_of m (dats m 0 c) (A_eq m c 4) (after0_4 m c) t, before0_5_of m (dats m 0 c) (A_eq m c 5) (after0_5 m c) t,
    before0_6_of m (dats m 0 c) (A_eq m c 6) (after0_6 m c) t, before0_7_of m (dats m 0 c) (A_eq m c 7) (after0_7 m c) t⟩

/-- When the two outputs are left alone, and when they are written back. -/
theorem idle8 (t : Fin cfg0.N) : cfg0.idle 8 (grid0.coords t) = true ↔ (grid0.coords t 0).val ≠ 10 := by
  rw [show cfg0.idle 8 (grid0.coords t) = !(k0_cond7 (grid0.coords t) == 1#1) from rfl]
  have := cond7_iff (grid0.coords t)
  by_cases h : k0_cond7 (grid0.coords t) = 1#1 <;> simp_all

theorem idle9 (t : Fin cfg0.N) : cfg0.idle 9 (grid0.coords t) = true ↔ (grid0.coords t 0).val ≠ 10 ∧ t.val ≠ 0 := by
  rw [show cfg0.idle 9 (grid0.coords t) = (!(k0_cond1 (grid0.coords t) == 1#1) && !(k0_cond7 (grid0.coords t) == 1#1)) from rfl]
  have h7 := cond7_iff (grid0.coords t)
  have h1 := cond1_iff (grid0.coords t)
  rw [coord0, coord1] at h1
  rw [coord0] at *
  by_cases h : k0_cond7 (grid0.coords t) = 1#1 <;> by_cases h' : k0_cond1 (grid0.coords t) = 1#1 <;> simp_all <;> omega

theorem flush8 : ∀ t : Fin cfg0.N, (cfg0.win 8).flush t = true → t.val / 4 = 10 := by decide +kernel

theorem flush9 (t : Fin cfg0.N) (h : t.val ≠ 43) : (cfg0.win 9).flush t = false := by
  have := flush0_9 t
  have hN : t.val < 44 := t.isLt
  cases hf : (cfg0.win 9).flush t
  · rfl
  · have := this.mp hf; omega

/-- At a point that leaves the gain's gradient alone, its state does not change. -/
theorem state_idle (c : Dev nD) (t : Fin cfg0.N) (h : (grid0.coords t 0).val ≠ 10) (h0 : t.val ≠ 0) : (state m c (t.val + 1)).2 = (state m c t.val).2 := by
  rw [state_succ]
  refine (if_neg h).trans (if_neg ?_)
  rw [coord0, coord1]
  omega

/-- After the first point the gain's gradient buffer holds what the points before left. -/
theorem before9 (c : Dev nD) : ∀ (n : ℕ) (t : Fin cfg0.N), t.val = n + 1 → ∀ d, (dats m 0 c).before 9 t d = (state m c t.val).2
  | n, t, ht, d => by
    have hN : t.val < 44 := t.isLt
    rw [Dat.before_of_pos _ 9 t (by omega) rfl d, flush9 ⟨t.val - 1, _⟩ (by show t.val - 1 ≠ 43; omega), if_neg Bool.false_ne_true]
    unfold Dat.left
    generalize hs : (⟨t.val - 1, Nat.lt_of_le_of_lt (Nat.sub_le _ _) t.isLt⟩ : Fin cfg0.N) = s
    have hsv : s.val + 1 = t.val := by rw [← hs]; show t.val - 1 + 1 = _; omega
    cases hi : cfg0.idle 9 (cfg0.grid.coords s) with
    | false => exact (after0_9 m c s).trans (by rw [hsv])
    | true =>
      have hi' := (idle9 s).mp hi
      obtain ⟨k, hk⟩ : ∃ k, n = k + 1 := ⟨n - 1, by omega⟩
      refine (before9 c k s (by omega) d).trans ?_
      rw [← state_idle m c s hi'.1 hi'.2, hsv]

/-- What the obligation asks of window `w` after point `t`. -/
abbrev postWin (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem post_live (c : Dev nD) (w : Fin cfg0.W) (t : Fin cfg0.N) (h : cfg0.idle w (cfg0.grid.coords t) = false) :
    owns (c : Thread nD τ) ((cfg0.win w).stage (cfg0.slots t w)) fullShare ((dats m 0 c).after w t) ⊢ postWin m c w t := by
  unfold postWin; rw [h]

theorem post_idle (c : Dev nD) (w : Fin cfg0.W) (t : Fin cfg0.N) (h : cfg0.idle w (cfg0.grid.coords t) = true) (hf : (cfg0.win w).flush t = false) (d) :
    owns (c : Thread nD τ) ((cfg0.win w).stage (cfg0.slots t w)) fullShare ((dats m 0 c).before w t d) ⊢ postWin m c w t := by
  unfold postWin; rw [h, hf]; dsimp only; iintro H; iexists d; iexact H

/-- The gradient's block after a point. -/
theorem post8 (c : Dev nD) (t : Fin cfg0.N) (A) (hA : Agrees m c t.val A) (d) :
    owns (c : Thread nD τ) (win0_8.stage (cfg0.slots t 8)) fullShare (gxOut (grid0.coords t) (ins m c t) ((dats m 0 c).before 8 t d) A) ⊢ postWin m c 8 t := by
  by_cases h : (grid0.coords t 0).val = 10
  · refine Entails.trans (Entails.of_eq ?_) (post_live m c 8 t (by have := (idle8 t).not.mpr (not_not.mpr h); simpa using this))
    rw [after0_8]
    congr 1
    unfold gxAt gxOut
    rw [if_pos h, if_pos h, rowOut_agrees m c t A hA]
  · refine Entails.trans (Entails.of_eq ?_) (post_idle m c 8 t ((idle8 t).mpr h) ?_ d)
    · congr 1
      exact if_neg h
    · cases hf : (cfg0.win 8).flush t
      · rfl
      · exact absurd ((coord0 t).trans (flush8 t hf)) h

/-- The gain's gradient after a point. -/
theorem post9 (c : Dev nD) (t : Fin cfg0.N) (A) (hA : Agrees m c t.val A) (d) :
    owns (c : Thread nD τ) (win0_9.stage (cfg0.slots t 9)) fullShare (gngOut (grid0.coords t) (ins m c t) ((dats m 0 c).before 9 t d) A) ⊢ postWin m c 9 t := by
  have hN : t.val < 44 := t.isLt
  have hs : t.val ≠ 0 → gngOut (grid0.coords t) (ins m c t) ((dats m 0 c).before 9 t d) A = (state m c (t.val + 1)).2 := fun h => by
    rw [state_succ, before9 m c (t.val - 1) t (by omega)]
    unfold gngOut
    rw [rowOut_agrees m c t A hA]
  by_cases h0 : t.val = 0
  · have hk : (grid0.coords t 0).val = 0 := by rw [coord0]; omega
    have hk1 : (grid0.coords t 1).val = 0 := by rw [coord1]; omega
    refine Entails.trans (Entails.of_eq ?_) (post_live m c 9 t (by have := (idle9 t).not.mpr (fun e => e.2 h0); simpa using this))
    rw [after0_9, state_succ]
    refine congrArg (owns (c : Thread nD τ) (win0_9.stage (cfg0.slots t 9)) fullShare) ?_
    exact ((if_neg (by omega)).trans (if_pos ⟨hk1, hk⟩)).trans ((if_neg (by omega)).trans (if_pos ⟨hk1, hk⟩)).symm
  · by_cases h : (grid0.coords t 0).val = 10
    · refine Entails.trans (Entails.of_eq ?_) (post_live m c 9 t (by have := (idle9 t).not.mpr (fun e => e.1 h); simpa using this))
      rw [after0_9, hs h0]
    · refine Entails.trans (Entails.of_eq ?_) (post_idle m c 9 t ((idle9 t).mpr ⟨h, h0⟩) (flush9 t ?_) d)
      · rw [hs h0, state_idle m c t h h0, before9 m c (t.val - 1) t (by omega)]
      · rw [coord0] at h; omega

/-- What the body is called with at point `t`, and what it returns. -/
def bodyPre (c : Dev nD) (t : Fin cfg0.N) : sProp 𝕄 :=
  iprop(Inv m c t.val ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

def bodyPost (c : Dev nD) (t : Fin cfg0.N) : sProp 𝕄 :=
  iprop(Inv m c (t.val + 1) ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ postWin m c 8 t ∗ postWin m c 9 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost Inv
  obtain ⟨b0, b1, b2, b3, b4, b5, b6, b7⟩ := before_ins m c t
  simp only [b0, b1, b2, b3, b4, b5, b6, b7]
  rw [show (dats m 0 c).owesAt () t.succ = (dats m 0 c).owesAt () t.castSucc from rfl,
    after0_0, after0_1, after0_2, after0_3, after0_4, after0_5, after0_6, after0_7]
  iintro ⟨⟨⟨%A, %hA, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (run_point c (grid0.coords t) (mems t) (ins m c t) ((dats m 0 c).before 8 t d8) ((dats m 0 c).before 9 t d9) A Set.univ _)
  isplitl [H0 H1 H2 H3 H4 H5 H6 H7]
  · unfold reads
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8 H9 HS]
  · unfold holds
    isplitl [H8]; · iexact H8
    isplitl [H9]; · iexact H9
    iexact HS
  unfold reads holds
  iintro ⟨⟨H0, H1, H2, H3, H4, H5, H6, H7⟩, H8, H9, HS⟩
  isplitl [HS Hg]
  · isplitl [HS]
    · iexists _; isplitr
      swap; · iexact HS
      ipureintro; exact agrees_succ m c t A hA
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iapply (post8 m c t A hA d8); iexact H8
  iapply (post9 m c t A hA d9); iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over, and what it takes back. -/
theorem phiA_eq (c : Dev nD) : (Pipeline.ΦA spec0 c : sProp 𝕄) = iprop((∃ d, owns (c : Thread nD τ) (Memref.whole cc0_scratch0) fullShare d) ∗ (∃ r, prngReg c r)) := by
  unfold Pipeline.ΦA; rw [scopedRest0_eq]; simp only [owns_whole]; try rfl

theorem hin (c : Dev nD) : Pipeline.ΦA spec0 c ⊢ (dats m 0 c).Φ 0 := by
  rw [show (dats m 0 c).Φ 0 = Inv m c 0 from rfl, phiA_eq]
  unfold Inv
  iintro ⟨⟨%A, HS⟩, Hg⟩
  isplitl [HS]
  · iexists A; isplitr
    · ipureintro; exact fun r h => absurd h (Nat.not_lt_zero _)
    iexact HS
  iexact Hg

theorem hout (c : Dev nD) : (dats m 0 c).Φ (Fin.last cfg0.N) ⊢ Pipeline.ΦA spec0 c := by
  rw [show (dats m 0 c).Φ (Fin.last cfg0.N) = Inv m c (Fin.last cfg0.N).val from rfl, phiA_eq]
  unfold Inv
  iintro ⟨⟨%A, %hA, HS⟩, Hg⟩
  isplitl [HS]
  · iexists A; iexact HS
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every execution ends, with the arguments unchanged and no counter raised. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Cert.NormIdeal.Step

end
-- ==== Proof.NormVal.lean ====
/- The call behind the input projection, idealized: what its two result arrays hold after the run, element by element, as
   functions of the argument arrays. -/
module

public import proofs.«01_k».proof.Proof.NormFrame
public import proofs.«01_k».proof.Proof.LossVal

@[expose] public section
set_option maxRecDepth 16384
noncomputable section
namespace Cert.NormIdeal.Val
open Idealize.ShloMosaic Idealize.ShloMosaic.TcCoe Idealize.SL.Sem
open Cert.NormIdeal Cert.NormIdeal.Gen Cert.NormIdeal.Step Cert.Step
open Cert.LossIdeal.Val (mean rstd nrm tok)

/-- The row, in one block of 1024, at which token `r` of the block stands. -/
abbrev pinv (r : Fin 1024) : Fin 1024 := ⟨r / 128 * 128 + r % 16 * 8 + r % 128 / 16, by omega⟩

/-! The products on top of what the rows held. -/

section
variable (x : FVec Ideal S1024x512 .bf16) (P : Vec Ideal S1x1024x1024 .f32) (w : FVec Ideal S512x1024 .bf16)

theorem pay6_at (r l : Fin 1024) : k0_pay6 (F := Ideal) x P w (ix3 0 r l) = P (ix3 0 r l) + ∑ j : Fin 512, x (ix2 r j) * w (ix2 j l) := by
  pointwise [k0_pay6]

theorem dite_eq {p : Prop} [Decidable p] {a : p → EReal} {b : ¬p → EReal} {v : EReal} (ha : ∀ h, a h = v) (hb : ∀ h, b h = v) : dite p a b = v := by
  by_cases h : p
  · rw [dif_pos h, ha]
  · rw [dif_neg h, hb]

theorem pay3_at (r l : Fin 1024) :
    k0_pay3 (F := Ideal) (k0_pay12 x) (iota .tc S128x128 32 [1] iota_S128x128_d1_w32) k0_pay13 k0_pay14 k0_pay15 k0_pay16 P w (ix3 0 r l)
      = P (ix3 0 r l) + ∑ j : Fin 512, x (ix2 (pinv r) j) * w (ix2 j l) := by
  pointwise [k0_pay3, k0_pay12, k0_pay13, k0_pay14, k0_pay15, k0_pay16]
  have hr := r.isLt
  refine congrArg (_ + ·) (Finset.sum_congr rfl fun k _ => congrArg (· * _) ?_)
  iterate 7 refine dite_eq (fun h => (sum_resWord_inv h _).trans (by congr 2; apply Fin.ext; simp only; omega)) fun h => ?_
  refine (sum_resWord_inv (by omega) _).trans ?_
  congr 2; apply Fin.ext; simp only; omega
end

/-! The norm's gradients. -/

/-- The gradient of the norm's input, from that of its output `d` and the gain `g`. -/
abbrev dxn (f d g : Fin 1024 → EReal) (l : Fin 1024) : EReal := rstd f * (d l * g l - nrm f l * mean (fun k => d k * g k * nrm f k))

section
variable (P : Vec Ideal S1x1024x1024 .f32) (x : Vec Ideal S1024x1024 .f32) (g : Vec Ideal S1x1024 .f32) (y : Vec Ideal S1024x1024 .f32)

theorem pay8_at (r : Fin 1024) (l : Fin 1) : k0_pay8 (F := Ideal) x (ix2 r l) = rstd (fun k => x (ix2 r k)) := by
  pointwise [k0_pay8]
theorem pay9_at (r l : Fin 1024) : k0_pay9 (F := Ideal) x (ix2 r l) = nrm (fun k => x (ix2 r k)) l := by
  have e := fun l => pay8_at x r l
  unfold k0_pay9
  revert e; generalize k0_pay8 (F := Ideal) _ = Q; intro e
  pointwise
  exact congrArg _ (e _)
theorem pay10_at (l : Fin 1024) : k0_pay10 (F := Ideal) P x g (ix2 0 l) = g (ix2 0 l) + ∑ r : Fin 1024, P (ix3 0 r l) * nrm (fun k => x (ix2 r k)) l := by
  have e := fun r => pay9_at x r l
  unfold k0_pay10
  revert e; generalize k0_pay9 (F := Ideal) _ = Q; intro e
  pointwise [k0_pay7]
  simp only [e]
theorem pay11_at (r l : Fin 1024) : k0_pay11 (F := Ideal) P x g y (ix2 r l) = y (ix2 r l) + dxn (fun k => x (ix2 r k)) (fun k => P (ix3 0 r k)) (fun k => g (ix2 0 k)) l := by
  have e := fun l => pay9_at x r l
  have e8 := fun l => pay8_at x r l
  unfold k0_pay11
  revert e e8; generalize k0_pay9 (F := Ideal) _ = Q; generalize k0_pay8 (F := Ideal) _ = R; intro e e8
  pointwise [k0_pay7]
  simp only [e]
  exact congrArg (fun q => _ + q * _) (e8 _)
theorem zero1 (l : Fin 1024) : k0_pay1 (F := Ideal) (ix2 0 l) = 0 := by pointwise [k0_pay1]
theorem zero2 (r l : Fin 1024) : k0_pay2 (F := Ideal) (ix3 0 r l) = 0 := by pointwise [k0_pay2]
end

/-- Which block each window reads or writes at point `t`, where the point uses it. -/
theorem idx : ∀ t : Fin cfg0.N, (t.val / 4 < 2 → win0_0.index t = ![t.val % 4, t.val / 4]) ∧ (t.val / 4 = 2 → win0_1.index t = ![t.val % 4, 0])
    ∧ (3 ≤ t.val / 4 → t.val / 4 < 5 → win0_2.index t = ![t.val % 4, t.val / 4 - 3]) ∧ (5 ≤ t.val / 4 → win0_3.index t = ![t.val % 4, t.val / 4 - 5])
    ∧ win0_4.index t = ![t.val / 4, 0]
    ∧ (t.val / 4 = 10 → win0_5.index t = ![t.val % 4, 0]) ∧ (t.val / 4 = 10 → win0_6.index t = ![t.val % 4, 0]) ∧ win0_7.index t = ![0, 0]
    ∧ (t.val / 4 = 10 → win0_8.index t = ![t.val % 4, 0]) :=
  (by decide +kernel : ∀ t : Fin grid0.N, _)

/-- Row `r` of the block of rows `i` in the whole array. -/
abbrev row (i : Fin 4) (r : Fin 1024) : Fin 4096 := ⟨i.val * 1024 + r, by omega⟩
/-- The block of rows of a point. -/
abbrev rb (t : Fin cfg0.N) : Fin 4 := ⟨t.val % 4, Nat.mod_lt _ (by decide)⟩

theorem tok_row (i : Fin 4) (r : Fin 1024) : tok (row i (pinv r)) = row i r := by
  apply Fin.ext
  have h1 : (i.val * 1024 + (r.val / 128 * 128 + r.val % 16 * 8 + r.val % 128 / 16)) / 128 = i.val * 8 + r.val / 128 := by omega
  have h2 : (i.val * 1024 + (r.val / 128 * 128 + r.val % 16 * 8 + r.val % 128 / 16)) % 8 = r.val % 128 / 16 := by omega
  have h3 : (i.val * 1024 + (r.val / 128 * 128 + r.val % 16 * 8 + r.val % 128 / 16)) % 128 / 8 = r.val % 16 := by omega
  simp only [h1, h2, h3]
  omega

variable (m : (ℓ : Loc nD τ sig) → Buf (Elt Ideal) ℓ)

/-! The argument arrays. -/

abbrev X0 (c : Dev nD) : FVec Ideal S4096x1024 .f32 := m ((c : Thread nD τ).loc main_arg0)
abbrev X1 (c : Dev nD) : FVec Ideal S4096x512 .f32 := m ((c : Thread nD τ).loc main_arg1)
abbrev X2 (c : Dev nD) : FVec Ideal S4096x1024 .f32 := m ((c : Thread nD τ).loc main_arg2)
abbrev X3 (c : Dev nD) : FVec Ideal S4096x3072 .f32 := m ((c : Thread nD τ).loc main_arg3)
abbrev X4 (c : Dev nD) : FVec Ideal S1024x5632 .f32 := m ((c : Thread nD τ).loc main_arg4)
abbrev X5 (c : Dev nD) : FVec Ideal S4096x1024 .f32 := m ((c : Thread nD τ).loc main_arg5)
abbrev X6 (c : Dev nD) : FVec Ideal S4096x1024 .f32 := m ((c : Thread nD τ).loc main_arg6)
abbrev X7 (c : Dev nD) : FVec Ideal S1x1024 .f32 := m ((c : Thread nD τ).loc main_arg7)

/-- The gradient of the projection's output at token `s`, the four segments side by side. -/
def dy (c : Dev nD) (s : Fin 4096) (q : ℕ) : EReal :=
  if h : q < 1024 then X0 m c (ix2 s ⟨q, h⟩) else if h : q < 1536 then X1 m c (ix2 s ⟨q - 1024, by omega⟩)
    else if h : q < 2560 then X2 m c (ix2 s ⟨q - 1536, by omega⟩) else if h : q < 5632 then X3 m c (ix2 s ⟨q - 2560, by omega⟩) else 0
/-- The weights. -/
def wt (c : Dev nD) (l : Fin 1024) (q : ℕ) : EReal := if h : q < 5632 then X4 m c (ix2 l ⟨q, h⟩) else 0

/-! What the region finds. -/

theorem V3 (c : Dev nD) (p : Fin 4096) (l : Fin 1024) : (V m c main_v3 : FVec Ideal S4096x1024 .bf16) (ix2 p l) = X0 m c (ix2 (tok p) l) := by
  unfold V; after_results; pointwise; try (blk_ext; done)
theorem V7 (c : Dev nD) (p : Fin 4096) (l : Fin 512) : (V m c main_v7 : FVec Ideal S4096x512 .bf16) (ix2 p l) = X1 m c (ix2 (tok p) l) := by
  unfold V; after_results; pointwise; try (blk_ext; done)
theorem V11 (c : Dev nD) (p : Fin 4096) (l : Fin 1024) : (V m c main_v11 : FVec Ideal S4096x1024 .bf16) (ix2 p l) = X2 m c (ix2 (tok p) l) := by
  unfold V; after_results; pointwise; try (blk_ext; done)
theorem V12 (c : Dev nD) (p : Fin 4096) (l : Fin 3072) : (V m c main_v12 : FVec Ideal S4096x3072 .bf16) (ix2 p l) = X3 m c (ix2 p l) := by
  unfold V; after_results; pointwise
theorem V14 (c : Dev nD) (q : Fin 5632) (l : Fin 1024) : (V m c main_v14 : FVec Ideal S5632x1024 .bf16) (ix2 q l) = X4 m c (ix2 l q) := by
  unfold V; after_results; pointwise

theorem blk0 (c : Dev nD) (t : Fin cfg0.N) (h : t.val / 4 < 2) (r : Fin 1024) (j : Fin 512) :
    (iblk m c 0 t : FVec Ideal S1024x512 .bf16) (ix2 r j) = X0 m c (ix2 (tok (row (rb t) r)) ⟨t.val / 4 * 512 + j, by omega⟩) := by
  refine Eq.trans ?_ (V3 m c (row (rb t) r) ⟨t.val / 4 * 512 + j, by omega⟩)
  blk_point [iblk, (idx t).1 h]
theorem blk1 (c : Dev nD) (t : Fin cfg0.N) (h : t.val / 4 = 2) (r : Fin 1024) (j : Fin 512) :
    (iblk m c 1 t : FVec Ideal S1024x512 .bf16) (ix2 r j) = X1 m c (ix2 (tok (row (rb t) r)) j) := by
  refine Eq.trans ?_ (V7 m c (row (rb t) r) j)
  blk_point [iblk, (idx t).2.1 h]
theorem blk2 (c : Dev nD) (t : Fin cfg0.N) (h : 3 ≤ t.val / 4) (h' : t.val / 4 < 5) (r : Fin 1024) (j : Fin 512) :
    (iblk m c 2 t : FVec Ideal S1024x512 .bf16) (ix2 r j) = X2 m c (ix2 (tok (row (rb t) r)) ⟨(t.val / 4 - 3) * 512 + j, by omega⟩) := by
  refine Eq.trans ?_ (V11 m c (row (rb t) r) ⟨(t.val / 4 - 3) * 512 + j, by omega⟩)
  blk_point [iblk, (idx t).2.2.1 h h']
theorem blk3 (c : Dev nD) (t : Fin cfg0.N) (h : 5 ≤ t.val / 4) (r : Fin 1024) (j : Fin 512) :
    (iblk m c 3 t : FVec Ideal S1024x512 .bf16) (ix2 r j) = X3 m c (ix2 (row (rb t) r) ⟨(t.val / 4 - 5) * 512 + j, by have h : t.val < 44 := t.isLt; omega⟩) := by
  refine Eq.trans ?_ (V12 m c (row (rb t) r) ⟨(t.val / 4 - 5) * 512 + j, by have h : t.val < 44 := t.isLt; omega⟩)
  blk_point [iblk, (idx t).2.2.2.1 h]
theorem blk4 (c : Dev nD) (t : Fin cfg0.N) (j : Fin 512) (l : Fin 1024) :
    (iblk m c 4 t : FVec Ideal S512x1024 .bf16) (ix2 j l) = X4 m c (ix2 l ⟨t.val / 4 * 512 + j, by have h : t.val < 44 := t.isLt; omega⟩) := by
  refine Eq.trans ?_ (V14 m c ⟨t.val / 4 * 512 + j, by have h : t.val < 44 := t.isLt; omega⟩ l)
  blk_point [iblk, (idx t).2.2.2.2.1]
theorem blk5 (c : Dev nD) (t : Fin cfg0.N) (h : t.val / 4 = 10) (r l : Fin 1024) :
    (iblk m c 5 t : FVec Ideal S1024x1024 .f32) (ix2 r l) = X5 m c (ix2 (row (rb t) r) l) := by
  blk_point [iblk, V, (idx t).2.2.2.2.2.1 h]
theorem blk6 (c : Dev nD) (t : Fin cfg0.N) (h : t.val / 4 = 10) (r l : Fin 1024) :
    (iblk m c 6 t : FVec Ideal S1024x1024 .f32) (ix2 r l) = X6 m c (ix2 (row (rb t) r) l) := by
  blk_point [iblk, V, (idx t).2.2.2.2.2.2.1 h]
theorem blk7 (c : Dev nD) (t : Fin cfg0.N) (l : Fin 1024) :
    (iblk m c 7 t : FVec Ideal S1x1024 .f32) (ix2 0 l) = X7 m c (ix2 0 l) := by
  blk_point [iblk, V, (idx t).2.2.2.2.2.2.2.1]

/-- One column block's part of the product with the weights. -/
def part (c : Dev nD) (k : ℕ) (s : Fin 4096) (l : Fin 1024) : EReal := ∑ j : Fin 512, dy m c s (k * 512 + j) * wt m c l (k * 512 + j)

theorem accRow_at (c : Dev nD) (t : Fin cfg0.N) (P : Vec Ideal S1x1024x1024 .f32) (r l : Fin 1024) :
    accRow (t.val / 4) (ins m c t) P (ix3 0 r l) = P (ix3 0 r l) + part m c (t.val / 4) (row (rb t) r) l := by
  have hN : t.val < 44 := t.isLt
  have hw : ∀ j : Fin 512, wt m c l (t.val / 4 * 512 + j) = (iblk m c 4 t : FVec Ideal S512x1024 .bf16) (ix2 j l) := fun j => by
    rw [blk4]; exact dif_pos _
  unfold accRow part
  simp only [hw]
  by_cases h2 : t.val / 4 < 2
  · rw [if_pos h2]
    refine (pay3_at (ins m c t).x2 P (ins m c t).x6 r l).trans (congrArg (_ + ·) (Finset.sum_congr rfl fun j _ => congrArg (· * _) ?_))
    refine (blk0 m c t h2 _ j).trans ?_
    rw [tok_row]
    unfold dy
    rw [dif_pos (by omega)]
  rw [if_neg h2]
  by_cases h3 : t.val / 4 < 3
  · rw [if_pos h3]
    refine (pay3_at (ins m c t).x3 P (ins m c t).x6 r l).trans (congrArg (_ + ·) (Finset.sum_congr rfl fun j _ => congrArg (· * _) ?_))
    refine (blk1 m c t (by omega) _ j).trans ?_
    rw [tok_row]
    unfold dy
    rw [dif_neg (by omega), dif_pos (by omega)]
    congr 2; apply Fin.ext; simp only; omega
  rw [if_neg h3]
  by_cases h5 : t.val / 4 < 5
  · rw [if_pos h5]
    refine (pay3_at (ins m c t).x4 P (ins m c t).x6 r l).trans (congrArg (_ + ·) (Finset.sum_congr rfl fun j _ => congrArg (· * _) ?_))
    refine (blk2 m c t (by omega) h5 _ j).trans ?_
    rw [tok_row]
    unfold dy
    rw [dif_neg (by omega), dif_neg (by omega), dif_pos (by omega)]
    congr 2; apply Fin.ext; simp only; omega
  rw [if_neg h5]
  refine (pay6_at (ins m c t).x5 P (ins m c t).x6 r l).trans (congrArg (_ + ·) (Finset.sum_congr rfl fun j _ => congrArg (· * _) ?_))
  refine (blk3 m c t (by omega) _ j).trans ?_
  unfold dy
  rw [dif_neg (by omega), dif_neg (by omega), dif_neg (by omega), dif_pos (by omega)]
  congr 2; apply Fin.ext; simp only; omega

/-- After `n` points a block of rows holds the parts of the column blocks it has been through. -/
theorem state_at (c : Dev nD) (i : Fin 4) (r l : Fin 1024) : ∀ n ≤ 44,
    (state m c n).1 (ix3 i r l) = ∑ k ∈ Finset.range ((n + 3 - i.val) / 4), part m c k (row i r) l
  | 0, _ => by
    rw [show (0 + 3 - i.val) / 4 = 0 by omega, Finset.sum_range_zero]
    exact zero2 r l
  | n + 1, h => by
    have ih := state_at c i r l n (by omega)
    obtain ⟨t, rfl⟩ : ∃ t : Fin cfg0.N, t.val = n := ⟨⟨n, h⟩, rfl⟩
    have hc1 := coord1 t
    have hc0 := coord0 t
    rw [state_succ]
    show (if i.val = (grid0.coords t 1).val then _ else _) = _
    by_cases e : i.val = t.val % 4
    · rw [if_pos (by rw [hc1]; exact e), show (t.val + 1 + 3 - i.val) / 4 = t.val / 4 + 1 by omega, Finset.sum_range_succ]
      unfold rowOut
      rw [hc0]
      refine (accRow_at m c t _ r l).trans ?_
      rw [show rb t = i from Fin.ext e.symm]
      refine congrArg (· + _) ?_
      unfold rowIn
      by_cases hk : (grid0.coords t 0).val = 0
      · rw [if_pos hk, zero2, show t.val / 4 = 0 by omega, Finset.sum_range_zero]
      · rw [if_neg hk, ← show (t.val + 3 - i.val) / 4 = t.val / 4 by omega, ← ih]
        show (state m c t.val).1 (ix3 (grid0.coords t 1) r l) = _
        rw [show (grid0.coords t 1 : Fin 4) = i from Fin.ext (hc1.trans e.symm)]
    · rw [if_neg (by rw [hc1]; exact e), show (t.val + 1 + 3 - i.val) / 4 = (t.val + 3 - i.val) / 4 by omega]
      exact ih

/-- The gradient of the norm's output at token `s`: the product with all of the weights. -/
abbrev dh (c : Dev nD) (s : Fin 4096) (l : Fin 1024) : EReal := ∑ q : Fin 5632, dy m c s q * wt m c l q

theorem parts (c : Dev nD) (s : Fin 4096) (l : Fin 1024) : ∑ k ∈ Finset.range 11, part m c k s l = dh m c s l := by
  rw [Finset.sum_range]
  exact (Fin.sum_univ_tiles 11 512 rfl fun q : Fin 5632 => dy m c s q * wt m c l q).symm

/-- At the last column block a point completes its rows. -/
theorem rowOut_at (c : Dev nD) (t : Fin cfg0.N) (h : t.val / 4 = 10) (r l : Fin 1024) :
    rowOut (grid0.coords t) (ins m c t) (state m c t.val).1 (ix3 0 r l) = dh m c (row (rb t) r) l := by
  have e := state_at m c (rb t) r l (t.val + 1) t.isLt
  rw [state_succ] at e
  rw [← parts, ← show (t.val + 1 + 3 - (rb t).val) / 4 = 11 by show (t.val + 1 + 3 - t.val % 4) / 4 = 11; omega, ← e]
  show _ = if (rb t).val = (grid0.coords t 1).val then _ else _
  rw [if_pos (coord1 t).symm]
  rfl

abbrev xr (c : Dev nD) (s : Fin 4096) (l : Fin 1024) : EReal := X5 m c (ix2 s l)
abbrev gn (c : Dev nD) (l : Fin 1024) : EReal := X7 m c (ix2 0 l)

theorem x_row (c : Dev nD) (t : Fin cfg0.N) (h : t.val / 4 = 10) (r : Fin 1024) : (fun k => (iblk m c 5 t : FVec Ideal S1024x1024 .f32) (ix2 r k)) = xr m c (row (rb t) r) :=
  funext fun k => blk5 m c t h r k

theorem gx_at (c : Dev nD) (t : Fin cfg0.N) (h : t.val / 4 = 10) (r l : Fin 1024) :
    gxAt m c t (ix2 r l) = X6 m c (ix2 (row (rb t) r) l) + dxn (xr m c (row (rb t) r)) (dh m c (row (rb t) r)) (gn m c) l := by
  unfold gxAt gxOut
  rw [if_pos ((coord0 t).trans h)]
  refine (pay11_at _ (ins m c t).x7 (ins m c t).x9 (ins m c t).x8 r l).trans ?_
  rw [show (fun k => (ins m c t).x7 (ix2 r k)) = _ from x_row m c t h r, show (fun k => (ins m c t).x9 (ix2 0 k)) = gn m c from funext fun k => blk7 m c t k]
  rw [show (ins m c t).x8 (ix2 r l) = _ from blk6 m c t h r l]
  simp only [rowOut_at m c t h]

theorem emb8 (t : Fin cfg0.N) (h : t.val / 4 = 10) (r l : Fin 1024) :
    ((View.whole main_v15_0).slice (win0_8.rect t)).emb (ix2 r l) = (ix2 (row (rb t) r) l : S4096x1024.Idx) := by blk_ext [(idx t).2.2.2.2.2.2.2.2 h]

theorem final8 (c : Dev nD) : (dats m 0 c).arrAt 8 (cfgs 0).N = fun i => X6 m c i + dxn (xr m c (i 0)) (dh m c (i 0)) (gn m c) (i 1) := by
  refine (dats m 0 c).arrAt_eq_of_covers 8 _ (by decide +kernel) fun t ht y => ?_
  have h := flush8 t ht
  blk_simp
  obtain ⟨r, l, rfl⟩ : ∃ (r l : Fin 1024), y = ix2 r l := ⟨y 0, y 1, by funext a; fin_cases a <;> rfl⟩
  rw [emb8 t h, after0_8]
  exact gx_at m c t h r l

/-- What one block of rows adds to the gain's gradient. -/
def gpart (c : Dev nD) (i : ℕ) (l : Fin 1024) : EReal :=
  if h : i < 4 then ∑ r : Fin 1024, dh m c (row ⟨i, h⟩ r) l * nrm (xr m c (row ⟨i, h⟩ r)) l else 0

theorem gng_at (c : Dev nD) (l : Fin 1024) : ∀ n ≤ 44, (state m c n).2 (ix2 0 l) = ∑ i ∈ Finset.range (n - 40), gpart m c i l
  | 0, _ => zero1 l
  | n + 1, h => by
    have ih := gng_at c l n (by omega)
    obtain ⟨t, rfl⟩ : ∃ t : Fin cfg0.N, t.val = n := ⟨⟨n, h⟩, rfl⟩
    have hc0 := coord0 t
    have hc1 := coord1 t
    rw [state_succ]
    show gngOut _ _ _ _ (ix2 0 l) = _
    unfold gngOut
    by_cases hk : (grid0.coords t 0).val = 10
    · rw [hc0] at hk
      rw [if_pos (hc0.trans hk), show t.val + 1 - 40 = t.val - 40 + 1 by omega, Finset.sum_range_succ, ← ih]
      refine (pay10_at _ (ins m c t).x7 _ l).trans (congrArg (_ + ·) ?_)
      unfold gpart
      rw [dif_pos (by omega)]
      refine Finset.sum_congr rfl fun r _ => ?_
      have er : (⟨t.val - 40, by omega⟩ : Fin 4) = rb t := Fin.ext (by show t.val - 40 = t.val % 4; omega)
      rw [er, rowOut_at m c t hk, show (fun k => (ins m c t).x7 (ix2 r k)) = _ from x_row m c t hk r]
    · rw [if_neg hk]
      rw [hc0] at hk
      rw [show t.val + 1 - 40 = 0 by omega, Finset.sum_range_zero]
      split_ifs
      · exact zero1 l
      · rw [ih, show t.val - 40 = 0 by omega, Finset.sum_range_zero]

theorem gparts (c : Dev nD) (l : Fin 1024) : ∑ i ∈ Finset.range 4, gpart m c i l = ∑ s : Fin 4096, dh m c s l * nrm (xr m c s) l := by
  rw [Finset.sum_range, (Fin.sum_univ_tiles 4 1024 rfl fun s : Fin 4096 => dh m c s l * nrm (xr m c s) l)]
  exact Finset.sum_congr rfl fun i _ => dif_pos i.isLt

theorem idx1 (j : S1x1024.Idx) : ∃ l : Fin 1024, j = ix2 0 l :=
  ⟨j 1, by funext a; fin_cases a; exacts [Fin.ext (by have h : (j 0 : ℕ) < 1 := (j 0).isLt; show (j 0 : ℕ) = 0; omega), rfl]⟩

/-- The last point. -/
abbrev tl : Fin cfg0.N := ⟨43, by decide⟩

theorem final9 (c : Dev nD) : (dats m 0 c).arrAt 9 (cfgs 0).N = fun i => ∑ s : Fin 4096, dh m c s (i 1) * nrm (xr m c s) (i 1) := by
  refine (dats m 0 c).arrAt_eq_of_after_last 9 tl (by decide +kernel) _ fun j => ?_
  blk_simp
  rw [after0_9]
  obtain ⟨l, rfl⟩ := idx1 j
  exact (gng_at m c l 44 le_rfl).trans (gparts m c l)

end Cert.NormIdeal.Val
end
-- ==== Proof.NormMath.lean ====
/- The call behind the input projection at the reals: the kernel's forms coerced, the reference's stages coerced, and the
   equation between the two forms of the norm's gradient. -/
module

public import proofs.«01_k».proof.Proof.NormVal
public import proofs.«01_k».proof.Proof.LossMath
public import proofs.«01_k».proof.Proof.Gen.NormRefIdeal.Read

@[expose] public section
set_option maxRecDepth 16384
noncomputable section
namespace Cert.Norm.Math
open Idealize.ShloMosaic Idealize.ShloMosaic.TcCoe Idealize.SL.Sem
open Cert.NormIdeal.Val Cert.Step
open Cert.LossIdeal.Val (mean rstd nrm)
open Cert.Loss.Math (rmean rvar rrstd rnrm rvar_pos div_1024 mean_coe rstd_coe nrm_coe ofBits_neg_half up)

/-- The gradient of the norm's input. -/
def rdxn (f d g : Fin 1024 → ℝ) (l : Fin 1024) : ℝ := rrstd f * (d l * g l - rnrm f l * rmean (fun k => d k * g k * rnrm f k))

theorem dxn_coe (f d g : Fin 1024 → ℝ) (l : Fin 1024) :
    dxn (fun k => (f k : EReal)) (fun k => (d k : EReal)) (fun k => (g k : EReal)) l = (rdxn f d g l : EReal) := by
  unfold dxn rdxn; simp only [rstd_coe, nrm_coe, ← EReal.coe_mul]; rw [mean_coe]; simp only [← EReal.coe_mul, ← EReal.coe_sub]

/-- The factor of the row in the gradient through the mean square. -/
def rqn (f d g : Fin 1024 → ℝ) : ℝ := (∑ k, f k * (d k * g k)) * (-(1 / 2) * (rrstd f / rvar f)) / 1024

theorem rdxn_eq (f d g : Fin 1024 → ℝ) (l : Fin 1024) : rdxn f d g l = d l * g l * rrstd f + f l * rqn f d g + rqn f d g * f l := by
  have h3 : ∑ k, d k * g k * rnrm f k = (∑ k, f k * (d k * g k)) * rrstd f := by
    rw [Finset.sum_mul]; refine Finset.sum_congr rfl fun k _ => ?_; unfold rnrm; ring
  have h4 : rrstd f * rrstd f = (rvar f)⁻¹ := by
    unfold rrstd; rw [← mul_inv, Real.mul_self_sqrt (rvar_pos f).le]
  have h5 : rrstd f / rvar f = rrstd f * (rrstd f * rrstd f) := by rw [h4, div_eq_mul_inv]
  unfold rdxn rqn rmean
  rw [h3, h5]
  unfold rnrm
  ring

section
open Cert.NormRefIdeal Cert.NormRefIdeal.Read

variable (a0 : S4096x1024.Idx → ℝ) (a1 : S4096x512.Idx → ℝ) (a2 : S4096x1024.Idx → ℝ) (a3 : S4096x3072.Idx → ℝ) (a4 : S1024x5632.Idx → ℝ)
  (a5 a6 : S4096x1024.Idx → ℝ) (a7 : S1x1024.Idx → ℝ)

/-- The gradient of the projection's output at token `s`, the four segments side by side, and that of its input. -/
def rdy (s : Fin 4096) (q : ℕ) : ℝ :=
  if h : q < 1024 then a0 (ix2 s ⟨q, h⟩) else if h : q < 1536 then a1 (ix2 s ⟨q - 1024, by omega⟩)
    else if h : q < 2560 then a2 (ix2 s ⟨q - 1536, by omega⟩) else if h : q < 5632 then a3 (ix2 s ⟨q - 2560, by omega⟩) else 0
def rdh (s : Fin 4096) (l : Fin 1024) : ℝ := ∑ q : Fin 5632, rdy a0 a1 a2 a3 s q * a4 (ix2 l q)
abbrev xrr (s : Fin 4096) (l : Fin 1024) : ℝ := a5 (ix2 s l)
abbrev gr (l : Fin 1024) : ℝ := a7 (ix2 0 l)

theorem r19 (s : Fin 4096) (l : Fin 1024) : val_main_v19 (F := Ideal) (up a0) (up a1) (up a2) (up a3) (up a4) (ix2 s l) = ((rdh a0 a1 a2 a3 a4 s l : ℝ) : EReal) := by
  pointwise [val_main_v19, val_main_v18]
  unfold rdh
  rw [← coe_sum]
  refine Finset.sum_congr rfl fun q _ => ?_
  rw [EReal.coe_mul]
  refine congrArg (· * _) ?_
  have hq := q.isLt
  unfold rdy
  by_cases h0 : (q : ℕ) < 1024
  · rw [dif_pos h0, dif_pos h0]
  rw [dif_neg h0, dif_neg h0]
  by_cases h1 : (q : ℕ) < 1536
  · rw [dif_pos (by omega), dif_pos h1]
  rw [dif_neg (by omega), dif_neg h1]
  by_cases h2 : (q : ℕ) < 2560
  · rw [dif_pos (by omega), dif_pos h2]; congr 3
  rw [dif_neg (by omega), dif_neg h2, dif_pos hq]; congr 3
theorem r7 (s : Fin 4096) : val_main_v7 (F := Ideal) (up a5) (ix2 s 0) = ((rvar (xrr a5 s) : ℝ) : EReal) := by
  pointwise [val_main_v7, val_main_v6, val_main_cst_1, val_main_v5, val_main_v4, val_main_cst_0, val_main_v3, val_main_v2, val_main_cst, val_main_v1]
  simp only [← EReal.coe_mul]; rw [ofBits_eps6, coe_sum, ofBits_1024, div_1024, ← EReal.coe_add]; rfl
theorem r8 (s : Fin 4096) : val_main_v8 (F := Ideal) (up a5) (ix2 s 0) = ((rrstd (xrr a5 s) : ℝ) : EReal) := by
  pointwise [val_main_v8]
  rw [r7]; exact rsqrt_coe (rvar_pos _)
theorem r11 (s : Fin 4096) : val_main_v11 (F := Ideal) (up a5) (ix2 s 0) = ((-(1 / 2) * (rrstd (xrr a5 s) / rvar (xrr a5 s)) : ℝ) : EReal) := by
  pointwise [val_main_v11, val_main_v10, val_main_v9, val_main_cst_2]
  rw [r7, r8, ofBits_neg_half, div_coe_ne (rvar_pos _).ne', ← EReal.coe_mul]
theorem r13 (s : Fin 4096) (l : Fin 1024) : val_main_v13 (F := Ideal) (up a5) (ix2 s l) = ((rnrm (xrr a5 s) l : ℝ) : EReal) := by
  pointwise [val_main_v13, val_main_v12]
  rw [show val_main_v8 (F := Ideal) (up a5) (ix2 s 0) = _ from r8 a5 s, ← EReal.coe_mul]; rfl
theorem r24 (s : Fin 4096) (l : Fin 1024) : val_main_v24 (F := Ideal) (up a0) (up a1) (up a2) (up a3) (up a4) (up a7) (ix2 s l) = ((rdh a0 a1 a2 a3 a4 s l * gr a7 l : ℝ) : EReal) := by
  pointwise [val_main_v24, val_main_v23, val_main_v14, val_main_v0]
  rw [r19, ← EReal.coe_mul]
theorem r35 (s : Fin 4096) : val_main_v35 (F := Ideal) (up a0) (up a1) (up a2) (up a3) (up a4) (up a5) (up a7) (ix1 s) = ((rqn (xrr a5 s) (rdh a0 a1 a2 a3 a4 s) (gr a7) : ℝ) : EReal) := by
  pointwise [val_main_v35, val_main_cst_7, val_main_v34, val_main_v33, val_main_cst_6, val_main_v32, val_main_v28, val_main_v27, val_main_cst_5, val_main_v26]
  rw [Fin.sum_univ_one]
  simp only [r24]; rw [show val_main_v11 (F := Ideal) (up a5) (ix2 s 0) = _ from r11 a5 s]; simp only [← EReal.coe_mul]; rw [coe_sum, ← EReal.coe_mul, ofBits_1024, div_1024]; rfl
theorem r40 (s : Fin 4096) (l : Fin 1024) : val_main_v40 (F := Ideal) (up a0) (up a1) (up a2) (up a3) (up a4) (up a5) (up a6) (up a7) (ix2 s l)
    = ((a6 (ix2 s l) + rdxn (xrr a5 s) (rdh a0 a1 a2 a3 a4 s) (gr a7) l : ℝ) : EReal) := by
  pointwise [val_main_v40, val_main_v39, val_main_v38, val_main_v37, val_main_v36, val_main_v31, val_main_v30, val_main_v29]
  rw [r35, r24, show val_main_v8 (F := Ideal) (up a5) (ix2 s 0) = _ from r8 a5 s]; simp only [← EReal.coe_mul, ← EReal.coe_add]; rw [rdxn_eq]
  congr 1; ring
theorem r41 (l : Fin 1024) : val_main_v41 (F := Ideal) (up a0) (up a1) (up a2) (up a3) (up a4) (up a5) (ix2 0 l)
    = ((∑ s, rdh a0 a1 a2 a3 a4 s l * rnrm (xrr a5 s) l : ℝ) : EReal) := by
  pointwise [val_main_v41, val_main_v25, val_main_cst_4, val_main_v22, val_main_v21, val_main_cst_3, val_main_v20]
  rw [Fin.sum_univ_one]; simp only [r19, r13, ← EReal.coe_mul]; rw [coe_sum]; simp only [mul_comm]
end
end Cert.Norm.Math
end
-- ==== Proof.NormClaim.lean ====
/- The call behind the input projection: its frames, and at the reals, on finite arguments, its two results are the
   reference's. -/
module

public import proofs.«01_k».proof.Defs
public import proofs.«01_k».proof.Proof.Gen.Norm
public import proofs.«01_k».proof.Proof.NormMath
public import proofs.«01_k».proof.Proof.Gen.NormRefIdeal.Run

@[expose] public section

set_option maxRecDepth 16384

noncomputable section

namespace Cert.NormIdeal.Step

open Idealize.ShloMosaic Idealize.SL.Sem Cert.NormIdeal Cert.NormIdeal.Gen

/-- What the run over any float values says of the program at the machine's floats. -/
def Runs : Prop := ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

/-- The two programs have one text. -/
theorem runs_eq : Cert.quiescent_Norm (hNorm := Cert.Norm.Gen.facts) = Runs := by sl_kernel_rfl

theorem frame_norm : Cert.quiescent_Norm (hNorm := Cert.Norm.Gen.facts) := runs_eq.mpr fun m g _ => frame_run m g

theorem frame_normIdeal : Cert.quiescent_NormIdeal (hNormIdeal := Cert.NormIdeal.Gen.facts) := fun m g _ => frame_run m g

end Cert.NormIdeal.Step

namespace Cert.NormIdeal.Val
open Idealize.ShloMosaic Idealize.ShloMosaic.TcCoe Idealize.SL.Sem
open Cert.NormIdeal Cert.NormIdeal.Gen Cert.NormIdeal.Step Cert.Step Cert.Norm.Math
open Cert.Loss.Math (up nrm_coe)

/-- The arguments are arrays of reals. -/
def Reals (m : (ℓ : Loc nD τ sig) → Buf (Elt Ideal) ℓ) (c : Dev nD) (a0 : S4096x1024.Idx → ℝ) (a1 : S4096x512.Idx → ℝ) (a2 : S4096x1024.Idx → ℝ)
    (a3 : S4096x3072.Idx → ℝ) (a4 : S1024x5632.Idx → ℝ) (a5 a6 : S4096x1024.Idx → ℝ) (a7 : S1x1024.Idx → ℝ) : Prop :=
  X0 m c = up a0 ∧ X1 m c = up a1 ∧ X2 m c = up a2 ∧ X3 m c = up a3 ∧ X4 m c = up a4 ∧ X5 m c = up a5 ∧ X6 m c = up a6 ∧ X7 m c = up a7

section
variable {m : (ℓ : Loc nD τ sig) → Buf (Elt Ideal) ℓ} {c : Dev nD} {a0 : S4096x1024.Idx → ℝ} {a1 : S4096x512.Idx → ℝ} {a2 : S4096x1024.Idx → ℝ}
    {a3 : S4096x3072.Idx → ℝ} {a4 : S1024x5632.Idx → ℝ} {a5 a6 : S4096x1024.Idx → ℝ} {a7 : S1x1024.Idx → ℝ}

theorem dy_eq (h : Reals m c a0 a1 a2 a3 a4 a5 a6 a7) (s : Fin 4096) (q : ℕ) : dy m c s q = ((rdy a0 a1 a2 a3 s q : ℝ) : EReal) := by
  obtain ⟨h0, h1, h2, h3, -⟩ := h
  unfold dy rdy; rw [h0, h1, h2, h3]
  split_ifs <;> rfl
theorem dh_eq (h : Reals m c a0 a1 a2 a3 a4 a5 a6 a7) (s : Fin 4096) : dh m c s = fun l => ((rdh a0 a1 a2 a3 a4 s l : ℝ) : EReal) := by
  funext l
  unfold dh rdh
  rw [← coe_sum]
  refine Finset.sum_congr rfl fun q _ => ?_
  rw [dy_eq h, EReal.coe_mul]
  refine congrArg (_ * ·) ?_
  unfold wt
  rw [dif_pos q.isLt, h.2.2.2.2.1]
theorem xr_eq (h : Reals m c a0 a1 a2 a3 a4 a5 a6 a7) (s : Fin 4096) : xr m c s = fun l => ((xrr a5 s l : ℝ) : EReal) := by
  funext l; unfold xr; rw [h.2.2.2.2.2.1]
theorem gn_eq (h : Reals m c a0 a1 a2 a3 a4 a5 a6 a7) : gn m c = fun l => ((gr a7 l : ℝ) : EReal) := by
  funext l; unfold gn; rw [h.2.2.2.2.2.2.2]

theorem out8 (h : Reals m c a0 a1 a2 a3 a4 a5 a6 a7) :
    (dats m 0 c).arrAt 8 (cfgs 0).N = Cert.NormRefIdeal.Read.val_main_v40 (F := Ideal) (X0 m c) (X1 m c) (X2 m c) (X3 m c) (X4 m c) (X5 m c) (X6 m c) (X7 m c) := by
  rw [final8]
  funext i
  obtain ⟨r, l, rfl⟩ : ∃ (r : Fin 4096) (l : Fin 1024), i = ix2 r l := ⟨i 0, i 1, by funext a; fin_cases a <;> rfl⟩
  show X6 m c (ix2 r l) + dxn (xr m c r) (dh m c r) (gn m c) l = _
  rw [xr_eq h r, dh_eq h r, gn_eq h, dxn_coe]
  obtain ⟨h0, h1, h2, h3, h4, h5, h6, h7⟩ := h
  rw [h0, h1, h2, h3, h4, h5, h6, h7, r40, EReal.coe_add]
theorem out9 (h : Reals m c a0 a1 a2 a3 a4 a5 a6 a7) :
    (dats m 0 c).arrAt 9 (cfgs 0).N = Cert.NormRefIdeal.Read.val_main_v41 (F := Ideal) (X0 m c) (X1 m c) (X2 m c) (X3 m c) (X4 m c) (X5 m c) := by
  rw [final9]
  funext i
  obtain ⟨l, rfl⟩ := idx1 i
  show (∑ s : Fin 4096, dh m c s l * Cert.LossIdeal.Val.nrm (xr m c s) l : EReal) = _
  have e : (∑ s : Fin 4096, dh m c s l * Cert.LossIdeal.Val.nrm (xr m c s) l : EReal) = _ := (Finset.sum_congr rfl fun s _ => by
    rw [dh_eq h s, xr_eq h s, nrm_coe, ← EReal.coe_mul]).trans (coe_sum _ _)
  rw [e]
  obtain ⟨h0, h1, h2, h3, h4, h5, -, -⟩ := h
  rw [h0, h1, h2, h3, h4, h5, r41]
end

/-- The two programs end with equal results on finite arguments. -/
theorem algebraic [hPre : Cert.Pre_finite_norm.Facts] : Cert.algebraic_NormIdeal_NormRefIdeal_pre_finite_norm (hNormIdeal := Cert.NormIdeal.Gen.facts)
    (hNormRefIdeal := Cert.NormRefIdeal.Gen.facts) := by
  intro m g m' g' hpre hagree
  have hreal : ∀ c : Dev nD, ∃ a0 a1 a2 a3 a4 a5 a6 a7, Reals m c a0 a1 a2 a3 a4 a5 a6 a7 := fun c => by
    obtain ⟨h0, h1, h2, h3, h4, h5, h6, h7⟩ := hpre c
    obtain ⟨a0, e0⟩ := exists_real (X0 m c) _ h0
    obtain ⟨a1, e1⟩ := exists_real (X1 m c) _ h1
    obtain ⟨a2, e2⟩ := exists_real (X2 m c) _ h2
    obtain ⟨a3, e3⟩ := exists_real (X3 m c) _ h3
    obtain ⟨a4, e4⟩ := exists_real (X4 m c) _ h4
    obtain ⟨a5, e5⟩ := exists_real (X5 m c) _ h5
    obtain ⟨a6, e6⟩ := exists_real (X6 m c) _ h6
    obtain ⟨a7, e7⟩ := exists_real (X7 m c) _ h7
    exact ⟨a0, a1, a2, a3, a4, a5, a6, a7, e0, e1, e2, e3, e4, e5, e6, e7⟩
  refine ⟨_, _, (θ_run defs _ _).mono (fun r h c => ⟨(h.1 c).1 8, (h.1 c).1 9, h.2.1 c⟩) (θ_run_and (run_main m g) (frame_run m g)),
    (θ_run Cert.NormRefIdeal.defs _ _).mono (fun r h c => ?_) (Cert.NormRefIdeal.Value.run m' g')⟩
  obtain ⟨h0, h1, hk⟩ := h c
  obtain ⟨g0, g1, g2, g3, g4, g5, g6, g7⟩ := hagree c
  obtain ⟨a0, a1, a2, a3, a4, a5, a6, a7, e⟩ := hreal c
  refine ⟨h0.trans ?_, h1.trans ?_, hk⟩
  · rw [Cert.NormRefIdeal.Read.val_main_v40_eq, g0, g1, g2, g3, g4, g5, g6, g7]; exact (out8 e).symm
  · rw [Cert.NormRefIdeal.Read.val_main_v41_eq, g0, g1, g2, g3, g4, g5]; exact (out9 e).symm

end Cert.NormIdeal.Val
end
-- ==== Proof.AttnBody.lean ====
/- What one point of the attention gradient kernel computes from its blocks, its table and its carry, as plain operations. -/
module

public import proofs.«01_k».proof.Proof.Gen.AttnIdeal.Skeleton
public import Idealize.ShloMosaic.Lib.ValueIdxCore
public import Idealize.ShloMosaic.Lib.Pipeline.ValueKit

@[expose] public section

set_option maxRecDepth 16384

noncomputable section

namespace Cert.AttnIdeal.Step

open Idealize.ShloMosaic Idealize.ShloMosaic.TcCoe
open Idealize.SL.Sem
open Cert.AttnIdeal Cert.AttnIdeal.Gen

variable {F : FTy → Type} [FloatOps F] [Named F]

/-- The blocks a point reads: queries, incoming gradients, log-denominators, row sums, and the keys and values of its block and of the one before. -/
structure Ins (F : FTy → Type) where
  q : Vec F S16x1x8x1024 .f32
  d : Vec F S16x1x8x1024 .f32
  lse : Vec F S16x1x8x128 .f32
  dl : Vec F S16x1x8x128 .f32
  kc : Vec F S16x1x8x512 .f32
  kp : Vec F S16x1x8x512 .f32

/-! ## Rows of the table, lanes of the blocks -/

/-- One of the eight groups of 128 lanes. -/
def lanes8 (x : Vec F S16x1x8x1024 .f32) (b : Fin 8) : Vec F S16x1x8x128 .f32 :=
  fun y => x (ix4 (y 0) (y 1) (y 2) (⟨128 * b.val + (y 3).val, by have := b.isLt; have h := (y 3).isLt; change _ < 128 at h; omega⟩ : Fin 1024))

/-- One of the four groups of 128 lanes of the carry. -/
def lanes4 (x : Vec F S128x512 .f32) (b : Fin 4) : Vec F S128x128 .f32 :=
  fun y => x (ix2 (y 0) (⟨128 * b.val + (y 1).val, by have := b.isLt; have h := (y 1).isLt; change _ < 128 at h; omega⟩ : Fin 512))

/-- A row of the table. -/
def rowOf (T : Vec F S32x256x128 .f32) (r : Fin 32) : Vec F S1x256x128 .f32 := fun y => T (ix3 r (y 1) (y 2))

/-- What a point works on: groups of lanes, saved rows, keys and values, and the table's rows of its sixteen heads. -/
structure Ops (F : FTy → Type) where
  q : Fin 8 → Vec F S16x1x8x128 .f32
  d : Fin 8 → Vec F S16x1x8x128 .f32
  lse : Vec F S16x1x8x128 .f32
  dl : Vec F S16x1x8x128 .f32
  kc : Vec F S16x1x8x512 .f32
  kp : Vec F S16x1x8x512 .f32
  t : Fin 16 → Vec F S1x256x128 .f32

def ops (X : Ins F) (T : Vec F S32x256x128 .f32) (base : Fin 2) : Ops F where
  q := lanes8 X.q
  d := lanes8 X.d
  lse := X.lse
  dl := X.dl
  kc := X.kc
  kp := X.kp
  t := fun h => rowOf T ⟨16 * base.val + h.val, by omega⟩

/-! ## The operands of one key head -/

/-- The rows of a block of 128 lanes. -/
def rows (v : Vec F S16x1x8x128 .f32) : FVec F S128x128 .f32 :=
  shapeCast S128x128 (shapeCast S16x8x128 v shapeCasts_S16x1x8x128_S16x8x128) shapeCasts_S16x8x128_S128x128

/-- Two groups of lanes, one below the other. -/
def pair (a b : Vec F S16x1x8x128 .f32) : FVec F S256x128 .bf16 :=
  truncf .bf16 (concatenate S256x128 0 [⟨S128x128, rows a⟩, ⟨S128x128, rows b⟩] concatenates_S128x128_S128x128_S256x128_d0) bitsLt_bf16_f32

/-- The two groups of lanes of key head `hk`, of the queries or of the incoming gradients. -/
def pairOf (x : Fin 8 → Vec F S16x1x8x128 .f32) (hk : Fin 4) : FVec F S256x128 .bf16 :=
  pair (x ⟨2 * hk.val, by omega⟩) (x ⟨2 * hk.val + 1, by omega⟩)

theorem slices_chunk : ∀ b : Fin 4, S256x512.Slices ![0, 128 * b.val] S256x128 := by decide

/-- A group of lanes of the keys and values. -/
def chunk (v : FVec F S256x512 .f32) (b : Fin 4) : FVec F S256x128 .f32 := extractStridedSlice S256x128 ![0, 128 * b.val] v (slices_chunk b)

def zero : FVec F S256x128 .f32 := broadcast S256x128 (Scalar.ofBits .f32 0x00000000#32)

/-- The lanes turned by half their number. -/
def turn (x : FVec F S256x128 .f32) : FVec F S256x128 .f32 := dynamicRotate 1 64#32 none x rotates_S256x128_d1

/-- The lower half of the lanes kept, or the upper half. -/
def keep (w : Bool) (x : FVec F S256x128 .f32) : FVec F S256x128 .bf16 :=
  truncf .bf16 (cond w (select k0_pay50 zero x) (select k0_pay50 x zero)) bitsLt_bf16_f32

/-- A head's keys or values in the lower or the upper half of the lanes: its own place, or turned. -/
def operand (v : FVec F S256x512 .f32) (b : Fin 4) (pos w : Bool) : FVec F S256x128 .bf16 := keep w (cond (xor pos w) (turn (chunk v b)) (chunk v b))

def posOf (hk : Fin 4) : Bool := match hk with | 0 => false | 1 => true | 2 => false | 3 => true
def keyChunk (hk : Fin 4) : Fin 4 := match hk with | 0 => 0 | 1 => 0 | 2 => 1 | 3 => 1
def valChunk (hk : Fin 4) : Fin 4 := match hk with | 0 => 2 | 1 => 2 | 2 => 3 | 3 => 3

def keys (O : Ops F) (hk : Fin 4) (w : Bool) : FVec F S256x128 .bf16 := operand (k0_pay47 O.kp O.kc) (keyChunk hk) (posOf hk) w
def vals (O : Ops F) (hk : Fin 4) (w : Bool) : FVec F S256x128 .bf16 := operand (k0_pay47 O.kp O.kc) (valChunk hk) (posOf hk) w

/-! ## Probabilities and their gradients -/

/-- The two query heads that share a half of the lanes. -/
def head (hk : Fin 4) (w : Bool) (j : Fin 2) : Fin 16 := ⟨4 * hk.val + 2 * j.val + cond w 1 0, by have := hk.isLt; have := j.isLt; cases w <;> simp <;> omega⟩

theorem slices_row : ∀ h : Fin 16, S128x128.Slices ![h.val, 0] S1x128 := by decide

/-- A saved row of one head beside that of another, down all the keys. -/
def across (v : FVec F S128x128 .f32) (h0 h1 : Fin 16) : FVec F S256x256 .f32 :=
  broadcastTo S256x256 (concatenate S1x256 1 [⟨S1x128, extractStridedSlice S1x128 ![h0.val, 0] v (slices_row h0)⟩,
    ⟨S1x128, extractStridedSlice S1x128 ![h1.val, 0] v (slices_row h1)⟩] concatenates_S1x128_S1x128_S1x256_d1) broadcasts_S1x256_S256x256

/-- Products of the rows of two operands. -/
def prods (a b : FVec F S256x128 .bf16) : FVec F S256x256 .f32 :=
  matmul dot_S256x128_S256x128_S256x256_1_1_0_0_n_n none a b (constant S256x256 .f32 0x00000000#32)

/-- The table's rows of the two heads of a point. -/
def biases (t : Fin 16 → Vec F S1x256x128 .f32) (h0 h1 : Fin 16) : FVec F S256x256 .f32 :=
  concatenate S256x256 1 [⟨S256x128, shapeCast S256x128 (t h0) shapeCasts_S1x256x128_S256x128⟩,
    ⟨S256x128, shapeCast S256x128 (t h1) shapeCasts_S1x256x128_S256x128⟩] concatenates_S256x128_S256x128_S256x256_d1

/-- The probabilities of the two heads, keys down, queries across. -/
def probs (O : Ops F) (hk : Fin 4) (w : Bool) : FVec F S256x256 .f32 :=
  exp (subf (addf (prods (keys O hk w) (pairOf O.q hk)) (biases O.t (head hk w 0) (head hk w 1))) (across (k0_pay48 O.lse) (head hk w 0) (head hk w 1)))

/-- The scores' gradients. -/
def grads (O : Ops F) (hk : Fin 4) (w : Bool) : FVec F S256x256 .bf16 :=
  truncf .bf16 (mulf (probs O hk w) (subf (prods (vals O hk w) (pairOf O.d hk)) (across (k0_pay49 O.dl) (head hk w 0) (head hk w 1)))) bitsLt_bf16_f32

/-! ## The three gradients -/

def dqHalf (O : Ops F) (hk : Fin 4) (w : Bool) : FVec F S256x128 .f32 :=
  matmul dot_S256x256_S256x128_S256x128_0_0_1_1_n_n none (grads O hk w) (keys O hk w) (constant S256x128 .f32 0x00000000#32)

def dqOf (O : Ops F) (hk : Fin 4) : FVec F S256x128 .f32 :=
  addf (addf zero (dqHalf O hk false)) (dqHalf O hk true)

/-- Weighted sums of the rows of an operand. -/
def sums (a : FVec F S256x256 .bf16) (b : FVec F S256x128 .bf16) : FVec F S256x128 .f32 :=
  matmul dot_S256x256_S256x128_S256x128_1_0_0_1_n_n none a b (constant S256x128 .f32 0x00000000#32)

def dkOf (O : Ops F) (hk : Fin 4) : FVec F S256x128 .f32 :=
  select k0_pay50 (sums (grads O hk false) (pairOf O.q hk)) (sums (grads O hk true) (pairOf O.q hk))

def dvOf (O : Ops F) (hk : Fin 4) : FVec F S256x128 .f32 :=
  select k0_pay50 (sums (truncf .bf16 (probs O hk false) bitsLt_bf16_f32) (pairOf O.d hk))
    (sums (truncf .bf16 (probs O hk true) bitsLt_bf16_f32) (pairOf O.d hk))

def both (x : FVec F S256x128 .f32) : FVec F S256x128 .f32 := addf x (turn x)

/-- Two key heads' gradients beside each other. -/
def beside (a b : FVec F S256x128 .f32) : FVec F S256x128 .f32 :=
  addf (addf zero (select k0_pay50 (both a) zero)) (select (k0_pay106 k0_pay50) (both b) zero)

/-- The four groups of lanes of the gradients of keys and values, over the rows of both blocks. -/
def kvOf (O : Ops F) (b : Fin 4) : FVec F S256x128 .f32 :=
  match b with
  | 0 => beside (dkOf O 0) (dkOf O 1)
  | 1 => beside (dkOf O 2) (dkOf O 3)
  | 2 => beside (dvOf O 0) (dvOf O 1)
  | 3 => beside (dvOf O 2) (dvOf O 3)

theorem slices_half : ∀ j : Fin 2, S256x128.Slices ![128 * j.val, 0] S128x128 := by decide

/-- The upper or the lower 128 rows. -/
def halfRows (x : FVec F S256x128 .f32) (j : Fin 2) : FVec F S128x128 .f32 := extractStridedSlice S128x128 ![128 * j.val, 0] x (slices_half j)

/-- Rows as a block stores them. -/
def asBlock (x : FVec F S128x128 .f32) : FVec F S16x1x8x128 .f32 :=
  shapeCast S16x1x8x128 (shapeCast S16x8x128 x shapeCasts_S128x128_S16x8x128) shapeCasts_S16x8x128_S16x1x8x128

/-- What a point stores into its three buffers, a group of lanes at a time. -/
def dqPiece (O : Ops F) (b : Fin 8) : FVec F S16x1x8x128 .f32 :=
  asBlock (halfRows (dqOf O ⟨b.val / 2, by omega⟩) ⟨b.val % 2, by omega⟩)

def kvPiece (O : Ops F) (C : Fin 4 → Vec F S128x128 .f32) (b : Fin 4) : FVec F S16x1x8x128 .f32 :=
  asBlock (addf (C b) (halfRows (kvOf O b) 0))

def carryPiece (O : Ops F) (b : Fin 4) : FVec F S128x128 .f32 :=
  shapeCast S128x128 (halfRows (kvOf O b) 1) shapeCasts_S128x128_S128x128

def dqOut (O : Ops F) : Vec F S16x1x8x1024 .f32 := fun y =>
  dqPiece O ⟨(y 3).val / 128, by have h := (y 3).isLt; change _ < 1024 at h; omega⟩
    (ix4 (y 0) (y 1) (y 2) (⟨(y 3).val % 128, Nat.mod_lt _ (by omega)⟩ : Fin 128))

def kvOut (O : Ops F) (C : Vec F S128x512 .f32) : Vec F S16x1x8x512 .f32 := fun y =>
  kvPiece O (lanes4 C) ⟨(y 3).val / 128, by have h := (y 3).isLt; change _ < 512 at h; omega⟩
    (ix4 (y 0) (y 1) (y 2) (⟨(y 3).val % 128, Nat.mod_lt _ (by omega)⟩ : Fin 128))

def carryOut (O : Ops F) : Vec F S128x512 .f32 := fun y =>
  carryPiece O ⟨(y 1).val / 128, by have h := (y 1).isLt; change _ < 512 at h; omega⟩ (ix2 (y 0) (⟨(y 1).val % 128, Nat.mod_lt _ (by omega)⟩ : Fin 128))

/-! ## The table -/

/-- The slope of a head: the named constants at the even heads, powers of two at the odd. -/
def slope (h : Fin 16) : F .f32 :=
  match h.val with
  | 0 => Named.named κ "slope0" 0x3F3504F3#32
  | 1 => Scalar.ofBits .f32 0x3F000000#32
  | 2 => Named.named κ "slope2" 0x3EB504F3#32
  | 3 => Scalar.ofBits .f32 0x3E800000#32
  | 4 => Named.named κ "slope4" 0x3E3504F3#32
  | 5 => Scalar.ofBits .f32 0x3E000000#32
  | 6 => Named.named κ "slope6" 0x3DB504F3#32
  | 7 => Scalar.ofBits .f32 0x3D800000#32
  | 8 => Named.named κ "slope8" 0x3D3504F3#32
  | 9 => Scalar.ofBits .f32 0x3D000000#32
  | 10 => Named.named κ "slope10" 0x3CB504F3#32
  | 11 => Scalar.ofBits .f32 0x3C800000#32
  | 12 => Named.named κ "slope12" 0x3C3504F3#32
  | 13 => Scalar.ofBits .f32 0x3C000000#32
  | 14 => Named.named κ "slope14" 0x3BB504F3#32
  | _ => Scalar.ofBits .f32 0x3B800000#32

/-- The biases of one head: over the block's own keys only, or over both blocks'. -/
def bias (whole : Fin 2) (h : Fin 16) : FVec F S1x256x128 .f32 :=
  shapeCast S1x256x128 (select (match whole with | 0 => k0_pay8 | 1 => k0_pay6) (mulf (broadcast S256x128 (slope h)) (k0_pay7 (F := F)))
    (broadcast S256x128 (Named.named κ "mask" 0xF149F2CA#32))) shapeCasts_S256x128_S1x256x128

/-- The table's rows. -/
def biasRow (r : Fin 32) : Vec F S1x256x128 .f32 := bias ⟨r.val / 16, by omega⟩ ⟨r.val % 16, Nat.mod_lt _ (by omega)⟩

def table : Vec F S32x256x128 .f32 := fun y => biasRow (y 0) (ix3 (0 : Fin 1) (y 1) (y 2))

end Cert.AttnIdeal.Step

end
-- ==== Proof.AttnRun.lean ====
/- One point of the attention gradient kernel: what it reads, and what it leaves in its outputs, its carry and its table. -/
module

public import proofs.«01_k».proof.Proof.Gen.AttnIdeal.Frame
public import proofs.«01_k».proof.Proof.Gen.AttnIdeal.Points
public import proofs.«01_k».proof.Proof.Gen.AttnIdeal.Launch
public import proofs.«01_k».proof.Proof.AttnBody
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.VecWindow

@[expose] public section

set_option maxRecDepth 16384

noncomputable section

namespace Cert.AttnIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.AttnIdeal Cert.AttnIdeal.Gen

variable {F : FTy → Type} [FloatOps F] [Named F]

local notation "𝕄" => MT nD τ sig Unit (Elt F) ℕ (UR sig nD τ) ℕ

/-- The staging buffers, the carry and the table a point works on. -/
structure Mems where
  a1 : Memref sig .tc .vmem S16x1x8x1024 .f32
  h1 : a1.IsWhole
  a2 : Memref sig .tc .vmem S16x1x8x1024 .f32
  h2 : a2.IsWhole
  a3 : Memref sig .tc .vmem S16x1x8x128 .f32
  h3 : a3.IsWhole
  a4 : Memref sig .tc .vmem S16x1x8x128 .f32
  h4 : a4.IsWhole
  a5 : Memref sig .tc .vmem S16x1x8x512 .f32
  h5 : a5.IsWhole
  a6 : Memref sig .tc .vmem S16x1x8x512 .f32
  h6 : a6.IsWhole
  a7 : Memref sig .tc .vmem S16x1x8x1024 .f32
  h7 : a7.IsWhole
  a8 : Memref sig .tc .vmem S16x1x8x512 .f32
  h8 : a8.IsWhole
  a9 : Memref sig .tc .vmem S128x512 .f32
  h9 : a9.IsWhole
  a10 : Memref sig .tc .vmem S32x256x128 .f32
  h10 : a10.IsWhole

/-- The kernel's body on those buffers. -/
abbrev body (i : grid0.Coords) (M : Mems) : Prog (TpuEff nD τ sig (Elt F) Λ₀ .tc) PUnit :=
  cc0_attn_bwd_d16 i M.a1 M.h1 M.a2 M.h2 M.a3 M.h3 M.a4 M.h4 M.a5 M.h5 M.a6 M.h6 M.a7 M.h7 M.a8 M.h8 M.a9 M.h9 M.a10 M.h10

/-- The six read buffers, at their blocks. -/
def reads (c : Dev nD) (M : Mems) (X : Ins F) : sProp 𝕄 :=
  iprop(owns (c : Thread nD τ) M.a1 fullShare X.q ∗ owns (c : Thread nD τ) M.a2 fullShare X.d ∗ owns (c : Thread nD τ) M.a3 fullShare X.lse
    ∗ owns (c : Thread nD τ) M.a4 fullShare X.dl ∗ owns (c : Thread nD τ) M.a5 fullShare X.kc ∗ owns (c : Thread nD τ) M.a6 fullShare X.kp)

/-- The four written buffers, at what they hold. -/
def holds (c : Dev nD) (M : Mems) (g : Vec F S16x1x8x1024 .f32) (n : Vec F S16x1x8x512 .f32) (C : Vec F S128x512 .f32) (T : Vec F S32x256x128 .f32) : sProp 𝕄 :=
  iprop(owns (c : Thread nD τ) M.a7 fullShare g ∗ owns (c : Thread nD τ) M.a8 fullShare n ∗ owns (c : Thread nD τ) M.a9 fullShare C
    ∗ owns (c : Thread nD τ) M.a10 fullShare T)

theorem cond2_iff (i : grid0.Coords) : k0_cond2 i = 1#1 ↔ (i 0).val < 32 := by
  unfold k0_cond2; generalize i 0 = a; revert a; decide

theorem cond3_iff (i : grid0.Coords) : k0_cond3 i = 1#1 ↔ (i 0).val = 32 := by
  unfold k0_cond3; generalize i 0 = a; revert a; decide

/-- The first point fills the table and clears the carry. -/
def cond1 (i : grid0.Coords) : BitVec 1 := Scalar.cmpi .ne (Scalar.extui (Scalar.cmpi .eq (BitVec.ofNat 32 (i 0).val) 0#32) : BitVec 32) 0#32

theorem cond1_iff (i : grid0.Coords) : cond1 i = 1#1 ↔ (i 0).val = 0 := by
  unfold cond1; generalize i 0 = a; revert a; decide

/-- Which half of the table a point's rows lie in. -/
def baseOf (i : grid0.Coords) : Fin 2 := ⟨(i 0).val % 2, Nat.mod_lt _ (by omega)⟩

theorem off1_eq (i : grid0.Coords) (h : Fin 16) : k0_off1 i (BitVec.ofNat 32 h.val) = ![16 * (baseOf i).val + h.val, 0, 0] := by
  revert i h; decide +kernel

theorem inb8 : ∀ (b : Fin 8) (a), (![0, 0, 0, 128 * b.val] : Fin 4 → ℕ) a + S16x1x8x128.size a ≤ S16x1x8x1024.size a := by decide
theorem inbT : ∀ (r : Fin 32) (a), (![r.val, 0, 0] : Fin 3 → ℕ) a + S1x256x128.size a ≤ S32x256x128.size a := by decide
theorem inb4 : ∀ (b : Fin 4) (a), (![0, 128 * b.val] : Fin 2 → ℕ) a + S128x128.size a ≤ S128x512.size a := by decide

/-! ## Loads and stores of groups of lanes and of rows -/

theorem ld8 (v : View sig .tc .vmem S16x1x8x1024 .f32) (f : v.ty.Contents (Elt F)) {off : Fin 4 → ℕ} (inb) (b : Fin 8) (h : off = ![0, 0, 0, 128 * b.val]) :
    v.readAt (Elt F) (Rect.unit (s := S16x1x8x1024) off S16x1x8x128.size inb).toLoadRect f = lanes8 (v.read (Elt F) f) b := by
  subst h
  funext y
  refine View.ld_unit_apply_of (v.read (Elt F) f) _ _ inb y _ fun a => ?_
  match a with
  | ⟨0, _⟩ => exact (Nat.zero_add _).symm
  | ⟨1, _⟩ => exact (Nat.zero_add _).symm
  | ⟨2, _⟩ => exact (Nat.zero_add _).symm
  | ⟨3, _⟩ => rfl

theorem ld4 (v : View sig .tc .vmem S128x512 .f32) (f : v.ty.Contents (Elt F)) {off : Fin 2 → ℕ} (inb) (b : Fin 4) (h : off = ![0, 128 * b.val]) :
    v.readAt (Elt F) (Rect.unit (s := S128x512) off S128x128.size inb).toLoadRect f = lanes4 (v.read (Elt F) f) b := by
  subst h
  funext y
  refine View.ld_unit_apply_of (v.read (Elt F) f) _ _ inb y _ fun a => ?_
  match a with
  | ⟨0, _⟩ => exact (Nat.zero_add _).symm
  | ⟨1, _⟩ => rfl

theorem ld_row (v : View sig .tc .vmem S32x256x128 .f32) (f : v.ty.Contents (Elt F)) {off : Fin 3 → ℕ} (inb) (r : Fin 32) (h : off = ![r.val, 0, 0]) :
    v.readAt (Elt F) (Rect.unit (s := S32x256x128) off S1x256x128.size inb).toLoadRect f = rowOf (v.read (Elt F) f) r := by
  subst h
  funext y
  refine View.ld_unit_apply_of (v.read (Elt F) f) _ _ inb y _ fun a => ?_
  match a with
  | ⟨0, _⟩ => show r.val = r.val + (y 0).val; have := (y 0).isLt; change _ < 1 at this; omega
  | ⟨1, _⟩ => exact (Nat.zero_add _).symm
  | ⟨2, _⟩ => exact (Nat.zero_add _).symm

theorem ld_head (v : View sig .tc .vmem S32x256x128 .f32) (f : v.ty.Contents (Elt F)) (i : grid0.Coords) (h : Fin 16) (inb) :
    v.readAt (Elt F) (Rect.unit (s := S32x256x128) (k0_off1 i (BitVec.ofNat 32 h.val)) S1x256x128.size inb).toLoadRect f
      = rowOf (v.read (Elt F) f) ⟨16 * (baseOf i).val + h.val, by omega⟩ :=
  ld_row v f inb _ (off1_eq i h)

/-- The same operands as the point loads them. -/
def opsAt (v1 : View sig .tc .vmem S16x1x8x1024 .f32) (f1 : v1.ty.Contents (Elt F)) (v2 : View sig .tc .vmem S16x1x8x1024 .f32) (f2 : v2.ty.Contents (Elt F))
    (v3 : View sig .tc .vmem S16x1x8x128 .f32) (f3 : v3.ty.Contents (Elt F)) (v4 : View sig .tc .vmem S16x1x8x128 .f32) (f4 : v4.ty.Contents (Elt F))
    (v5 : View sig .tc .vmem S16x1x8x512 .f32) (f5 : v5.ty.Contents (Elt F)) (v6 : View sig .tc .vmem S16x1x8x512 .f32) (f6 : v6.ty.Contents (Elt F))
    (v10 : View sig .tc .vmem S32x256x128 .f32) (f10 : v10.ty.Contents (Elt F)) (i : grid0.Coords) (hc : k0_cond2 i = 1#1) : Ops F where
  q := fun b => v1.readAt (Elt F) (Rect.unit (s := S16x1x8x1024) ![0, 0, 0, 128 * b.val] S16x1x8x128.size (inb8 b)).toLoadRect f1
  d := fun b => v2.readAt (Elt F) (Rect.unit (s := S16x1x8x1024) ![0, 0, 0, 128 * b.val] S16x1x8x128.size (inb8 b)).toLoadRect f2
  lse := v3.readAt (Elt F) (Rect.unit (s := S16x1x8x128) ![0, 0, 0, 0] S16x1x8x128.size inb_S16x1x8x128_S16x1x8x128_0_0_0_0).toLoadRect f3
  dl := v4.readAt (Elt F) (Rect.unit (s := S16x1x8x128) ![0, 0, 0, 0] S16x1x8x128.size inb_S16x1x8x128_S16x1x8x128_0_0_0_0).toLoadRect f4
  kc := v5.readAt (Elt F) (Rect.unit (s := S16x1x8x512) ![0, 0, 0, 0] S16x1x8x512.size inb_S16x1x8x512_S16x1x8x512_0_0_0_0).toLoadRect f5
  kp := v6.readAt (Elt F) (Rect.unit (s := S16x1x8x512) ![0, 0, 0, 0] S16x1x8x512.size inb_S16x1x8x512_S16x1x8x512_0_0_0_0).toLoadRect f6
  t := fun h => v10.readAt (Elt F) (Rect.unit (s := S32x256x128) (k0_off1 i (BitVec.ofNat 32 h.val)) S1x256x128.size (k0_off1_inb i hc h)).toLoadRect f10

theorem ops_eq (v1 : View sig .tc .vmem S16x1x8x1024 .f32) (f1 : v1.ty.Contents (Elt F)) (v2 : View sig .tc .vmem S16x1x8x1024 .f32) (f2 : v2.ty.Contents (Elt F))
    (v3 : View sig .tc .vmem S16x1x8x128 .f32) (f3 : v3.ty.Contents (Elt F)) (v4 : View sig .tc .vmem S16x1x8x128 .f32) (f4 : v4.ty.Contents (Elt F))
    (v5 : View sig .tc .vmem S16x1x8x512 .f32) (f5 : v5.ty.Contents (Elt F)) (v6 : View sig .tc .vmem S16x1x8x512 .f32) (f6 : v6.ty.Contents (Elt F))
    (v10 : View sig .tc .vmem S32x256x128 .f32) (f10 : v10.ty.Contents (Elt F)) (i : grid0.Coords) (hc : k0_cond2 i = 1#1) :
    opsAt v1 f1 v2 f2 v3 f3 v4 f4 v5 f5 v6 f6 v10 f10 i hc
      = ops ⟨v1.read (Elt F) f1, v2.read (Elt F) f2, v3.read (Elt F) f3, v4.read (Elt F) f4, v5.read (Elt F) f5, v6.read (Elt F) f6⟩ (v10.read (Elt F) f10) (baseOf i) := by
  unfold opsAt ops
  rw [funext fun b => ld8 v1 f1 (inb8 b) b rfl, funext fun b => ld8 v2 f2 (inb8 b) b rfl, View.readAt_full (s := S16x1x8x128) v3, View.readAt_full (s := S16x1x8x128) v4,
    View.readAt_full (s := S16x1x8x512) v5, View.readAt_full (s := S16x1x8x512) v6, funext fun h => ld_head v10 f10 i h (k0_off1_inb i hc h)]

/-- The carry's groups of lanes as the point loads them. -/
def carryAt (v : View sig .tc .vmem S128x512 .f32) (f : v.ty.Contents (Elt F)) : Fin 4 → Vec F S128x128 .f32 :=
  fun b => v.readAt (Elt F) (Rect.unit (s := S128x512) ![0, 128 * b.val] S128x128.size (inb4 b)).toLoadRect f

theorem carry_eq (v : View sig .tc .vmem S128x512 .f32) (f : v.ty.Contents (Elt F)) : carryAt v f = lanes4 (v.read (Elt F) f) := funext fun b => ld4 v f (inb4 b) b rfl

theorem kvOut_eq {O O' : Ops F} (h : O = O') {c : Fin 4 → Vec F S128x128 .f32} {C : Vec F S128x512 .f32} (hC : c = lanes4 C) :
    (fun y : S16x1x8x512.Idx => kvPiece O c ⟨(y 3).val / 128, by have h := (y 3).isLt; change _ < 512 at h; omega⟩
      (ix4 (y 0) (y 1) (y 2) (⟨(y 3).val % 128, Nat.mod_lt _ (by omega)⟩ : Fin 128))) = kvOut O' C := by subst h hC; rfl

/-- Storing one group of lanes, read back in its own place and in the others. -/
theorem st8 (v : View sig .tc .vmem S16x1x8x1024 .f32) (f : v.ty.Contents (Elt F)) {off : Fin 4 → ℕ} (inb) (b : Fin 8) (h : off = ![0, 0, 0, 128 * b.val])
    (P : Vec F S16x1x8x128 .f32) (L) (y : S16x1x8x1024.Idx) :
    v.read (Elt F) (v.writes (Elt F) f (⟨Rect.unit (s := S16x1x8x1024) off S16x1x8x128.size inb, P⟩ :: L)) y
      = if (y 3).val / 128 = b.val then P (ix4 (y 0) (y 1) (y 2) (⟨(y 3).val % 128, Nat.mod_lt _ (by omega)⟩ : Fin 128)) else v.read (Elt F) (v.writes (Elt F) f L) y := by
  subst h
  by_cases hy : (y 3).val / 128 = b.val
  · rw [if_pos hy]
    refine View.read_writes_cons_unit_of_mem v f inb P L y _ rfl fun a => ?_
    match a with
    | ⟨0, _⟩ => exact (Nat.zero_add _).symm
    | ⟨1, _⟩ => exact (Nat.zero_add _).symm
    | ⟨2, _⟩ => exact (Nat.zero_add _).symm
    | ⟨3, _⟩ => show (y 3).val = 128 * b.val + (y 3).val % 128; omega
  · rw [if_neg hy]
    refine View.read_writes_cons_unit_of_not_mem v f inb P L y rfl 3 ?_
    show (y 3).val < 128 * b.val ∨ 128 * b.val + 128 ≤ (y 3).val
    omega

theorem stkv (v : View sig .tc .vmem S16x1x8x512 .f32) (f : v.ty.Contents (Elt F)) {off : Fin 4 → ℕ} (inb) (b : Fin 4) (h : off = ![0, 0, 0, 128 * b.val])
    (P : Vec F S16x1x8x128 .f32) (L) (y : S16x1x8x512.Idx) :
    v.read (Elt F) (v.writes (Elt F) f (⟨Rect.unit (s := S16x1x8x512) off S16x1x8x128.size inb, P⟩ :: L)) y
      = if (y 3).val / 128 = b.val then P (ix4 (y 0) (y 1) (y 2) (⟨(y 3).val % 128, Nat.mod_lt _ (by omega)⟩ : Fin 128)) else v.read (Elt F) (v.writes (Elt F) f L) y := by
  subst h
  by_cases hy : (y 3).val / 128 = b.val
  · rw [if_pos hy]
    refine View.read_writes_cons_unit_of_mem v f inb P L y _ rfl fun a => ?_
    match a with
    | ⟨0, _⟩ => exact (Nat.zero_add _).symm
    | ⟨1, _⟩ => exact (Nat.zero_add _).symm
    | ⟨2, _⟩ => exact (Nat.zero_add _).symm
    | ⟨3, _⟩ => show (y 3).val = 128 * b.val + (y 3).val % 128; omega
  · rw [if_neg hy]
    refine View.read_writes_cons_unit_of_not_mem v f inb P L y rfl 3 ?_
    show (y 3).val < 128 * b.val ∨ 128 * b.val + 128 ≤ (y 3).val
    omega

theorem stC (v : View sig .tc .vmem S128x512 .f32) (f : v.ty.Contents (Elt F)) {off : Fin 2 → ℕ} (inb) (b : Fin 4) (h : off = ![0, 128 * b.val])
    (P : Vec F S128x128 .f32) (L) (y : S128x512.Idx) :
    v.read (Elt F) (v.writes (Elt F) f (⟨Rect.unit (s := S128x512) off S128x128.size inb, P⟩ :: L)) y
      = if (y 1).val / 128 = b.val then P (ix2 (y 0) (⟨(y 1).val % 128, Nat.mod_lt _ (by omega)⟩ : Fin 128)) else v.read (Elt F) (v.writes (Elt F) f L) y := by
  subst h
  by_cases hy : (y 1).val / 128 = b.val
  · rw [if_pos hy]
    refine View.read_writes_cons_unit_of_mem v f inb P L y _ rfl fun a => ?_
    match a with
    | ⟨0, _⟩ => exact (Nat.zero_add _).symm
    | ⟨1, _⟩ => show (y 1).val = 128 * b.val + (y 1).val % 128; omega
  · rw [if_neg hy]
    refine View.read_writes_cons_unit_of_not_mem v f inb P L y rfl 1 ?_
    show (y 1).val < 128 * b.val ∨ 128 * b.val + 128 ≤ (y 1).val
    omega

theorem stT (v : View sig .tc .vmem S32x256x128 .f32) (f : v.ty.Contents (Elt F)) {off : Fin 3 → ℕ} (inb) (r : Fin 32) (h : off = ![r.val, 0, 0])
    (P : Vec F S1x256x128 .f32) (L) (y : S32x256x128.Idx) :
    v.read (Elt F) (v.writes (Elt F) f (⟨Rect.unit (s := S32x256x128) off S1x256x128.size inb, P⟩ :: L)) y
      = if (y 0).val = r.val then P (ix3 (0 : Fin 1) (y 1) (y 2)) else v.read (Elt F) (v.writes (Elt F) f L) y := by
  subst h
  by_cases hy : (y 0).val = r.val
  · rw [if_pos hy]
    refine View.read_writes_cons_unit_of_mem v f inb P L y _ rfl fun a => ?_
    match a with
    | ⟨0, _⟩ => exact hy
    | ⟨1, _⟩ => exact (Nat.zero_add _).symm
    | ⟨2, _⟩ => exact (Nat.zero_add _).symm
  · rw [if_neg hy]
    refine View.read_writes_cons_unit_of_not_mem v f inb P L y rfl 0 ?_
    show (y 0).val < r.val ∨ r.val + 1 ≤ (y 0).val
    omega

/-- The rows below `n` of the table, stored one after another, the last one first. -/
def rowsList (P : Fin 32 → Vec F S1x256x128 .f32) : (n : ℕ) → n ≤ 32 → List (View.Piece (Elt F) S32x256x128 .f32)
  | 0, _ => []
  | n + 1, h => ⟨Rect.unit (s := S32x256x128) ![n, 0, 0] S1x256x128.size (inbT ⟨n, h⟩), P ⟨n, h⟩⟩ :: rowsList P n (Nat.le_of_succ_le h)

theorem read_rows (v : View sig .tc .vmem S32x256x128 .f32) (f : v.ty.Contents (Elt F)) (P : Fin 32 → Vec F S1x256x128 .f32) (y : S32x256x128.Idx) :
    ∀ (n : ℕ) (hn : n ≤ 32), (y 0).val < n → v.read (Elt F) (v.writes (Elt F) f (rowsList P n hn)) y = P (y 0) (ix3 (0 : Fin 1) (y 1) (y 2))
  | 0, _, h => absurd h (Nat.not_lt_zero _)
  | n + 1, hn, h => by
    refine (stT v f (inbT ⟨n, hn⟩) ⟨n, hn⟩ rfl (P ⟨n, hn⟩) _ y).trans ?_
    split_ifs with e
    · exact congrArg (P · _) (Fin.ext e.symm)
    · exact read_rows v f P y n (Nat.le_of_succ_le hn) (by have e' : (y 0).val ≠ n := e; omega)

/-- The table stored row by row. -/
theorem read_table (v : View sig .tc .vmem S32x256x128 .f32) (f : v.ty.Contents (Elt F)) :
    v.read (Elt F) (v.writes (Elt F) f (rowsList biasRow 32 le_rfl)) = table :=
  funext fun y => read_rows v f biasRow y 32 le_rfl (y 0).isLt

/-- Eight groups of lanes stored make up the block. -/
theorem read8 (v : View sig .tc .vmem S16x1x8x1024 .f32) (f : v.ty.Contents (Elt F)) (P : Fin 8 → Vec F S16x1x8x128 .f32) {p0 p1 p2 p3 p4 p5 p6 p7 : Vec F S16x1x8x128 .f32}
    (e0 : p0 = P 0) (e1 : p1 = P 1) (e2 : p2 = P 2) (e3 : p3 = P 3) (e4 : p4 = P 4) (e5 : p5 = P 5) (e6 : p6 = P 6) (e7 : p7 = P 7) (i0 i1 i2 i3 i4 i5 i6 i7) :
    v.read (Elt F) (v.writes (Elt F) f
      [⟨Rect.unit (s := S16x1x8x1024) ![0, 0, 0, 896] S16x1x8x128.size i7, p7⟩, ⟨Rect.unit (s := S16x1x8x1024) ![0, 0, 0, 768] S16x1x8x128.size i6, p6⟩,
       ⟨Rect.unit (s := S16x1x8x1024) ![0, 0, 0, 640] S16x1x8x128.size i5, p5⟩, ⟨Rect.unit (s := S16x1x8x1024) ![0, 0, 0, 512] S16x1x8x128.size i4, p4⟩,
       ⟨Rect.unit (s := S16x1x8x1024) ![0, 0, 0, 384] S16x1x8x128.size i3, p3⟩, ⟨Rect.unit (s := S16x1x8x1024) ![0, 0, 0, 256] S16x1x8x128.size i2, p2⟩,
       ⟨Rect.unit (s := S16x1x8x1024) ![0, 0, 0, 128] S16x1x8x128.size i1, p1⟩, ⟨Rect.unit (s := S16x1x8x1024) ![0, 0, 0, 0] S16x1x8x128.size i0, p0⟩])
      = fun y => P ⟨(y 3).val / 128, by have h := (y 3).isLt; change _ < 1024 at h; omega⟩
          (ix4 (y 0) (y 1) (y 2) (⟨(y 3).val % 128, Nat.mod_lt _ (by omega)⟩ : Fin 128)) := by
  subst e0 e1 e2 e3 e4 e5 e6 e7
  funext y
  have hlt : (y 3).val < 1024 := (y 3).isLt
  have key : ∀ b : Fin 8, (y 3).val / 128 = b.val → ∀ z, P b z = P ⟨(y 3).val / 128, by omega⟩ z := fun b h z => congrArg (P · z) (Fin.ext h.symm)
  rw [st8 v f i7 7 rfl, st8 v f i6 6 rfl, st8 v f i5 5 rfl, st8 v f i4 4 rfl, st8 v f i3 3 rfl, st8 v f i2 2 rfl, st8 v f i1 1 rfl, st8 v f i0 0 rfl]
  split_ifs with h7 h6 h5 h4 h3 h2 h1 h0
  · exact key 7 h7 _
  · exact key 6 h6 _
  · exact key 5 h5 _
  · exact key 4 h4 _
  · exact key 3 h3 _
  · exact key 2 h2 _
  · exact key 1 h1 _
  · exact key 0 h0 _
  · exfalso; simp only [Fin.val_ofNat] at *; omega

theorem readkv (v : View sig .tc .vmem S16x1x8x512 .f32) (f : v.ty.Contents (Elt F)) (P : Fin 4 → Vec F S16x1x8x128 .f32) {p0 p1 p2 p3 : Vec F S16x1x8x128 .f32}
    (e0 : p0 = P 0) (e1 : p1 = P 1) (e2 : p2 = P 2) (e3 : p3 = P 3) (i0 i1 i2 i3) :
    v.read (Elt F) (v.writes (Elt F) f
      [⟨Rect.unit (s := S16x1x8x512) ![0, 0, 0, 384] S16x1x8x128.size i3, p3⟩, ⟨Rect.unit (s := S16x1x8x512) ![0, 0, 0, 256] S16x1x8x128.size i2, p2⟩,
       ⟨Rect.unit (s := S16x1x8x512) ![0, 0, 0, 128] S16x1x8x128.size i1, p1⟩, ⟨Rect.unit (s := S16x1x8x512) ![0, 0, 0, 0] S16x1x8x128.size i0, p0⟩])
      = fun y => P ⟨(y 3).val / 128, by have h := (y 3).isLt; change _ < 512 at h; omega⟩
          (ix4 (y 0) (y 1) (y 2) (⟨(y 3).val % 128, Nat.mod_lt _ (by omega)⟩ : Fin 128)) := by
  subst e0 e1 e2 e3
  funext y
  have hlt : (y 3).val < 512 := (y 3).isLt
  have key : ∀ b : Fin 4, (y 3).val / 128 = b.val → ∀ z, P b z = P ⟨(y 3).val / 128, by omega⟩ z := fun b h z => congrArg (P · z) (Fin.ext h.symm)
  rw [stkv v f i3 3 rfl, stkv v f i2 2 rfl, stkv v f i1 1 rfl, stkv v f i0 0 rfl]
  split_ifs with h3 h2 h1 h0
  · exact key 3 h3 _
  · exact key 2 h2 _
  · exact key 1 h1 _
  · exact key 0 h0 _
  · exfalso; simp only [Fin.val_ofNat] at *; omega

theorem readC (v : View sig .tc .vmem S128x512 .f32) (f : v.ty.Contents (Elt F)) (P : Fin 4 → Vec F S128x128 .f32) {p0 p1 p2 p3 : Vec F S128x128 .f32}
    (e0 : p0 = P 0) (e1 : p1 = P 1) (e2 : p2 = P 2) (e3 : p3 = P 3) (i0 i1 i2 i3) (L) :
    v.read (Elt F) (v.writes (Elt F) f
      (⟨Rect.unit (s := S128x512) ![0, 384] S128x128.size i3, p3⟩ :: ⟨Rect.unit (s := S128x512) ![0, 256] S128x128.size i2, p2⟩ ::
       ⟨Rect.unit (s := S128x512) ![0, 128] S128x128.size i1, p1⟩ :: ⟨Rect.unit (s := S128x512) ![0, 0] S128x128.size i0, p0⟩ :: L))
      = fun y => P ⟨(y 1).val / 128, by have h := (y 1).isLt; change _ < 512 at h; omega⟩ (ix2 (y 0) (⟨(y 1).val % 128, Nat.mod_lt _ (by omega)⟩ : Fin 128)) := by
  subst e0 e1 e2 e3
  funext y
  have hlt : (y 1).val < 512 := (y 1).isLt
  have key : ∀ b : Fin 4, (y 1).val / 128 = b.val → ∀ z, P b z = P ⟨(y 1).val / 128, by omega⟩ z := fun b h z => congrArg (P · z) (Fin.ext h.symm)
  rw [stC v f i3 3 rfl, stC v f i2 2 rfl, stC v f i1 1 rfl, stC v f i0 0 rfl]
  split_ifs with h3 h2 h1 h0
  · exact key 3 h3 _
  · exact key 2 h2 _
  · exact key 1 h1 _
  · exact key 0 h0 _
  · exfalso; simp only [Fin.val_ofNat] at *; omega

set_option maxHeartbeats 2000000 in
theorem run_mid (c : Dev nD) (i : grid0.Coords) (h0 : 0 < (i 0).val) (h32 : (i 0).val < 32) (M : Mems) (X : Ins F) (g : Vec F S16x1x8x1024 .f32) (n : Vec F S16x1x8x512 .f32)
    (C : Vec F S128x512 .f32) (T : Vec F S32x256x128 .f32) (E K) :
    iprop(reads c M X ∗ holds c M g n C T
        ∗ (iprop(reads c M X ∗ holds c M (dqOut (ops X T (baseOf i))) (kvOut (ops X T (baseOf i)) C) (carryOut (ops X T (baseOf i))) T) -∗ K ⟨⟩))
      ⊢ wp frame (wpE (defs₀ (F := F)) Variants.none c none) E (body i M) K := by
  have hc1 : ¬ cond1 i = 1#1 := fun h => by rw [cond1_iff] at h; omega
  have hc2 : k0_cond2 i = 1#1 := (cond2_iff i).mpr h32
  have hc3 : ¬ k0_cond3 i = 1#1 := fun h => by rw [cond3_iff] at h; omega
  obtain ⟨xq, xd, xl, xs, xc, xp⟩ := X
  simp only [body, cc0_attn_bwd_d16_eq_skeleton]
  unfold cc0_attn_bwd_d16_skel reads holds owns
  iintro ⟨⟨⟨%f1, %e1, H1⟩, ⟨%f2, %e2, H2⟩, ⟨%f3, %e3, H3⟩, ⟨%f4, %e4, H4⟩, ⟨%f5, %e5, H5⟩, ⟨%f6, %e6, H6⟩⟩, ⟨⟨%f7, %e7, H7⟩, ⟨%f8, %e8, H8⟩, ⟨%f9, %e9, H9⟩, ⟨%f10, %e10, H10⟩⟩, Hk⟩
  sl_exec (disch := first | sl_exact hc1 | sl_exact hc2 | sl_exact hc3)
  dsimp only at e1 e2 e3 e4 e5 e6
  subst e1 e2 e3 e4 e5 e6 e9 e10
  have hO := ops_eq M.a1.view f1 M.a2.view f2 M.a3.view f3 M.a4.view f4 M.a5.view f5 M.a6.view f6 M.a10.view f10 i hc2
  have hC := carry_eq M.a9.view f9
  sl_step
  iapply Hk
  isplitl [H1 H2 H3 H4 H5 H6]
  · isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    iexists _; isplitr; · ipureintro; rfl
    iexact H6
  isplitl [H7]
  · iexists _; isplitr; swap; · iexact H7
    ipureintro
    refine (read8 _ _ (dqPiece (opsAt M.a1.view f1 M.a2.view f2 M.a3.view f3 M.a4.view f4 M.a5.view f5 M.a6.view f6 M.a10.view f10 i hc2)) ?_ ?_ ?_ ?_ ?_ ?_ ?_ ?_ _ _ _ _ _ _ _ _).trans (congrArg dqOut hO)
    · sl_kernel_rfl
    · sl_kernel_rfl
    · sl_kernel_rfl
    · sl_kernel_rfl
    · sl_kernel_rfl
    · sl_kernel_rfl
    · sl_kernel_rfl
    · sl_kernel_rfl
  isplitl [H8]
  · iexists _; isplitr; swap; · iexact H8
    ipureintro
    refine (readkv _ _ (kvPiece (opsAt M.a1.view f1 M.a2.view f2 M.a3.view f3 M.a4.view f4 M.a5.view f5 M.a6.view f6 M.a10.view f10 i hc2) (carryAt M.a9.view f9)) ?_ ?_ ?_ ?_ _ _ _ _).trans (kvOut_eq hO hC)
    · sl_kernel_rfl
    · sl_kernel_rfl
    · sl_kernel_rfl
    · sl_kernel_rfl
  isplitl [H9]
  · iexists _; isplitr; swap; · iexact H9
    ipureintro
    refine (readC _ _ (carryPiece (opsAt M.a1.view f1 M.a2.view f2 M.a3.view f3 M.a4.view f4 M.a5.view f5 M.a6.view f6 M.a10.view f10 i hc2)) ?_ ?_ ?_ ?_ _ _ _ _ _).trans (congrArg carryOut hO)
    · sl_kernel_rfl
    · sl_kernel_rfl
    · sl_kernel_rfl
    · sl_kernel_rfl
  iexists _; isplitr; · ipureintro; rfl
  iexact H10

/-- The last point, which has no block of its own, writes the carry out. -/
theorem run_last (c : Dev nD) (i : grid0.Coords) (h32 : (i 0).val = 32) (M : Mems) (X : Ins F) (g : Vec F S16x1x8x1024 .f32) (n : Vec F S16x1x8x512 .f32)
    (C : Vec F S128x512 .f32) (T : Vec F S32x256x128 .f32) (E K) :
    iprop(reads c M X ∗ holds c M g n C T ∗ (iprop(reads c M X ∗ holds c M g (k0_pay4 C) C T) -∗ K ⟨⟩))
      ⊢ wp frame (wpE (defs₀ (F := F)) Variants.none c none) E (body i M) K := by
  have hc1 : ¬ cond1 i = 1#1 := fun h => by rw [cond1_iff] at h; omega
  have hc2 : ¬ k0_cond2 i = 1#1 := fun h => by rw [cond2_iff] at h; omega
  have hc3 : k0_cond3 i = 1#1 := (cond3_iff i).mpr h32
  simp only [body, cc0_attn_bwd_d16_eq_skeleton]
  unfold cc0_attn_bwd_d16_skel reads holds owns
  iintro ⟨⟨⟨%f1, %e1, H1⟩, ⟨%f2, %e2, H2⟩, ⟨%f3, %e3, H3⟩, ⟨%f4, %e4, H4⟩, ⟨%f5, %e5, H5⟩, ⟨%f6, %e6, H6⟩⟩, ⟨⟨%f7, %e7, H7⟩, ⟨%f8, %e8, H8⟩, ⟨%f9, %e9, H9⟩, ⟨%f10, %e10, H10⟩⟩, Hk⟩
  sl_exec (disch := first | sl_exact hc1 | sl_exact hc2 | sl_exact hc3)
  subst e7 e9 e10
  sl_step
  iapply Hk
  isplitl [H1 H2 H3 H4 H5 H6]
  · isplitl [H1]; · iexists _; isplitr; · ipureintro; exact e1
                    iexact H1
    isplitl [H2]; · iexists _; isplitr; · ipureintro; exact e2
                    iexact H2
    isplitl [H3]; · iexists _; isplitr; · ipureintro; exact e3
                    iexact H3
    isplitl [H4]; · iexists _; isplitr; · ipureintro; exact e4
                    iexact H4
    isplitl [H5]; · iexists _; isplitr; · ipureintro; exact e5
                    iexact H5
    iexists _; isplitr; · ipureintro; exact e6
    iexact H6
  isplitl [H7]; · iexists _; isplitr; · ipureintro; rfl
                  iexact H7
  isplitl [H8]; · iexists _; isplitr; swap; · iexact H8
                  ipureintro
                  frame_open
                  refine (View.read_writes_full (s := S16x1x8x512) _ _ _ _ _).trans (congrArg k0_pay4 ?_)
                  exact View.readAt_full (s := S128x512) _ _ _
  isplitl [H9]; · iexists _; isplitr; · ipureintro; rfl
                  iexact H9
  iexists _; isplitr; · ipureintro; rfl
  iexact H10

set_option maxHeartbeats 2000000 in
/-- The first point, which fills the table and clears the carry before it. -/
theorem run_first (c : Dev nD) (i : grid0.Coords) (h0 : (i 0).val = 0) (M : Mems) (X : Ins F) (g : Vec F S16x1x8x1024 .f32) (n : Vec F S16x1x8x512 .f32)
    (C : Vec F S128x512 .f32) (T : Vec F S32x256x128 .f32) (E K) :
    iprop(reads c M X ∗ holds c M g n C T
        ∗ (iprop(reads c M X ∗ holds c M (dqOut (ops X table (baseOf i))) (kvOut (ops X table (baseOf i)) k0_pay46) (carryOut (ops X table (baseOf i))) table) -∗ K ⟨⟩))
      ⊢ wp frame (wpE (defs₀ (F := F)) Variants.none c none) E (body i M) K := by
  have hc1 : cond1 i = 1#1 := (cond1_iff i).mpr h0
  have hc2 : k0_cond2 i = 1#1 := (cond2_iff i).mpr (by omega)
  have hc3 : ¬ k0_cond3 i = 1#1 := fun h => by rw [cond3_iff] at h; omega
  obtain ⟨xq, xd, xl, xs, xc, xp⟩ := X
  simp only [body, cc0_attn_bwd_d16_eq_skeleton]
  unfold cc0_attn_bwd_d16_skel reads holds owns
  iintro ⟨⟨⟨%f1, %e1, H1⟩, ⟨%f2, %e2, H2⟩, ⟨%f3, %e3, H3⟩, ⟨%f4, %e4, H4⟩, ⟨%f5, %e5, H5⟩, ⟨%f6, %e6, H6⟩⟩, ⟨⟨%f7, %e7, H7⟩, ⟨%f8, %e8, H8⟩, ⟨%f9, %e9, H9⟩, ⟨%f10, %e10, H10⟩⟩, Hk⟩
  set_option sl_exec.stopBefore "k0_part9" in sl_exec (disch := first | sl_exact hc1 | sl_exact hc2 | sl_exact hc3)
  ihave H10 : owns (c : Thread nD τ) M.a10 fullShare (table (F := F)) $$ [H10]
  · unfold owns
    iexists _; isplitr; swap; · iexact H10
    ipureintro
    exact (congrArg (M.a10.view.read (Elt F)) (by sl_kernel_rfl)).trans (read_table M.a10.view f10)
  ihave H9 : owns (c : Thread nD τ) M.a9 fullShare (k0_pay46 (F := F)) $$ [H9]
  · unfold owns
    iexists _; isplitr; swap; · iexact H9
    ipureintro
    exact View.read_writes_full (s := S128x512) _ _ _ _ _
  unfold owns
  icases H10 with ⟨%f10', %e10', H10⟩
  icases H9 with ⟨%f9', %e9', H9⟩
  sl_exec (disch := first | sl_exact hc1 | sl_exact hc2 | sl_exact hc3)
  dsimp only at e1 e2 e3 e4 e5 e6
  subst e1 e2 e3 e4 e5 e6
  have hO := ops_eq M.a1.view f1 M.a2.view f2 M.a3.view f3 M.a4.view f4 M.a5.view f5 M.a6.view f6 M.a10.view f10' i hc2
  rw [e10'] at hO
  have hC := carry_eq M.a9.view f9'
  rw [e9'] at hC
  sl_step
  iapply Hk
  isplitl [H1 H2 H3 H4 H5 H6]
  · isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    iexists _; isplitr; · ipureintro; rfl
    iexact H6
  isplitl [H7]
  · iexists _; isplitr; swap; · iexact H7
    ipureintro
    refine (read8 _ _ (dqPiece (opsAt M.a1.view f1 M.a2.view f2 M.a3.view f3 M.a4.view f4 M.a5.view f5 M.a6.view f6 M.a10.view f10' i hc2)) ?_ ?_ ?_ ?_ ?_ ?_ ?_ ?_ _ _ _ _ _ _ _ _).trans (congrArg dqOut hO)
    · sl_kernel_rfl
    · sl_kernel_rfl
    · sl_kernel_rfl
    · sl_kernel_rfl
    · sl_kernel_rfl
    · sl_kernel_rfl
    · sl_kernel_rfl
    · sl_kernel_rfl
  isplitl [H8]
  · iexists _; isplitr; swap; · iexact H8
    ipureintro
    refine (readkv _ _ (kvPiece (opsAt M.a1.view f1 M.a2.view f2 M.a3.view f3 M.a4.view f4 M.a5.view f5 M.a6.view f6 M.a10.view f10' i hc2) (carryAt M.a9.view f9')) ?_ ?_ ?_ ?_ _ _ _ _).trans (kvOut_eq hO hC)
    · sl_kernel_rfl
    · sl_kernel_rfl
    · sl_kernel_rfl
    · sl_kernel_rfl
  isplitl [H9]
  · iexists _; isplitr; swap; · iexact H9
    ipureintro
    refine (readC _ _ (carryPiece (opsAt M.a1.view f1 M.a2.view f2 M.a3.view f3 M.a4.view f4 M.a5.view f5 M.a6.view f6 M.a10.view f10' i hc2)) ?_ ?_ ?_ ?_ _ _ _ _ _).trans (congrArg carryOut hO)
    · sl_kernel_rfl
    · sl_kernel_rfl
    · sl_kernel_rfl
    · sl_kernel_rfl
  iexists _; isplitr; · ipureintro; exact e10'
  iexact H10

end Cert.AttnIdeal.Step

end
-- ==== Proof.AttnFrame.lean ====
/- The attention gradient kernel at every grid point, and its run from launch to end. -/
module

public import proofs.«01_k».proof.Proof.AttnRun
public import Idealize.ShloMosaic.Lib.Claim

@[expose] public section

set_option maxRecDepth 16384

noncomputable section

namespace Cert.AttnIdeal.Step

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnIdeal Cert.AttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers of point `t`. -/
def mems (t : Fin cfg0.N) : Mems where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := win0_7.stage (cfg0.slots t 7)
  h8 := hstage0_7 ((cfg0.slots t 7).cast nbuf0_7)
  a9 := Memref.whole cc0_scratch0
  h9 := Memref.isWhole_whole _
  a10 := Memref.whole cc0_scratch1
  h10 := Memref.isWhole_whole _

/-- The blocks point `t` reads. -/
def ins (c : Dev nD) (t : Fin cfg0.N) : Ins F where
  q := iblk m c 0 t
  d := iblk m c 1 t
  lse := iblk m c 2 t
  dl := iblk m c 3 t
  kc := iblk m c 4 t
  kp := iblk m c 5 t

/-- The grid has one axis: a point is its own coordinate. -/
theorem coord0 (t : Fin cfg0.N) : (grid0.coords t 0).val = t.val := by
  have h : t.val < 33 := t.isLt
  show t.val / grid0.stride 0 % 33 = _
  rw [show grid0.stride 0 = 1 from by decide]; omega

/-- The operands of point `t`, beside the table of biases. -/
def opsOf (c : Dev nD) (t : Fin cfg0.N) : Ops F := ops (ins m c t) table (baseOf (grid0.coords t))

/-- The carry after `n` points. -/
def carry (c : Dev nD) : ℕ → Vec F S128x512 .f32
  | 0 => k0_pay46
  | n + 1 => if h : n < 32 then carryOut (opsOf m c ⟨n, Nat.lt_succ_of_lt h⟩) else carry c n

theorem carry_succ (c : Dev nD) (t : Fin cfg0.N) (h : t.val < 32) : carry m c (t.val + 1) = carryOut (opsOf m c t) := dif_pos h

theorem carry_end (c : Dev nD) (t : Fin cfg0.N) (h : t.val = 32) : carry m c (t.val + 1) = carry m c t.val := dif_neg (by omega)

/-- The block of the queries' gradient after a point: the last point leaves the one before it. -/
def dqAt (c : Dev nD) (t : Fin cfg0.N) : Vec F S16x1x8x1024 .f32 :=
  dqOut (opsOf m c (if t.val < 32 then t else ⟨31, by decide⟩))

/-- The block of the keys' and values' gradients after a point. -/
def kvAt (c : Dev nD) (t : Fin cfg0.N) : Vec F S16x1x8x512 .f32 :=
  if t.val < 32 then kvOut (opsOf m c t) (carry m c t.val) else k0_pay4 (carry m c t.val)

theorem dqAt_of (c : Dev nD) (t : Fin cfg0.N) (h : t.val < 32) : dqAt m c t = dqOut (opsOf m c t) := by unfold dqAt; rw [if_pos h]

theorem dqAt_end (c : Dev nD) (t s : Fin cfg0.N) (h : t.val = 32) (hs : s.val = 31) : dqAt m c t = dqAt m c s := by
  rw [dqAt_of m c s (by omega)]
  unfold dqAt
  rw [if_neg (by omega)]
  exact congrArg (fun x => dqOut (opsOf m c x)) (Fin.ext hs.symm)

theorem kvAt_of (c : Dev nD) (t : Fin cfg0.N) (h : t.val < 32) : kvAt m c t = kvOut (opsOf m c t) (carry m c t.val) := if_pos h

theorem kvAt_end (c : Dev nD) (t : Fin cfg0.N) (h : t.val = 32) : kvAt m c t = k0_pay4 (carry m c t.val) := if_neg (by omega)

/-- Before point `n`: after the first point, the carry is what the points before have left, and the table is filled. -/
def Inv (c : Dev nD) (n : ℕ) : sProp 𝕄 :=
  iprop((∃ C T, ⌜0 < n → C = carry m c n ∧ T = table⌝ ∗ owns (c : Thread nD τ) (Memref.whole cc0_scratch0) fullShare C
    ∗ owns (c : Thread nD τ) (Memref.whole cc0_scratch1) fullShare T) ∗ (∃ r, prngReg c r))

def dats : (p : Fin 1) → (c : Dev nD) → Dat τ (Elt F) Unit ℕ (UR sig nD τ) ℕ (cfgs p) c := fun _ c =>
  { A := fun w => V m c (Pipeline.arrRef spec0 w)
    after := fun w t => match w with
      | ⟨0, _⟩ => iblk m c 0 t
      | ⟨1, _⟩ => iblk m c 1 t
      | ⟨2, _⟩ => iblk m c 2 t
      | ⟨3, _⟩ => iblk m c 3 t
      | ⟨4, _⟩ => iblk m c 4 t
      | ⟨5, _⟩ => iblk m c 5 t
      | ⟨6, _⟩ => dqAt m c t
      | ⟨7, _⟩ => kvAt m c t
    Φ := fun t => Inv m c t.val
    q := fun _ => fullShare
    owed := fun _ => 0 }

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = dqAt m c t := by dsimp only [dats]
theorem after0_7 (c : Dev nD) (t : Fin cfg0.N) : (dats m 0 c).after 7 t = kvAt m c t := by dsimp only [dats]

/-- The six read buffers hold their blocks. -/
theorem before_ins (c : Dev nD) (t : Fin cfg0.N) :
    (∀ d, (dats m 0 c).before 0 t d = iblk m c 0 t)
      ∧ (∀ d, (dats m 0 c).before 1 t d = iblk m c 1 t)
      ∧ (∀ d, (dats m 0 c).before 2 t d = iblk m c 2 t)
      ∧ (∀ d, (dats m 0 c).before 3 t d = iblk m c 3 t)
      ∧ (∀ d, (dats m 0 c).before 4 t d = iblk m c 4 t)
      ∧ (∀ d, (dats m 0 c).before 5 t d = iblk m c 5 t) :=
  ⟨before0_0_of m (dats m 0 c) (A_eq m c 0) (after0_0 m c) t,
    before0_1_of m (dats m 0 c) (A_eq m c 1) (after0_1 m c) t,
    before0_2_of m (dats m 0 c) (A_eq m c 2) (after0_2 m c) t,
    before0_3_of m (dats m 0 c) (A_eq m c 3) (after0_3 m c) t,
    before0_4_of m (dats m 0 c) (A_eq m c 4) (after0_4 m c) t,
    before0_5_of m (dats m 0 c) (A_eq m c 5) (after0_5 m c) t⟩

/-- The queries' block is left alone at the last point only, and the keys' block nowhere. -/
theorem idle6 (t : Fin cfg0.N) : cfg0.idle 6 (grid0.coords t) = true ↔ t.val = 32 := by
  rw [show cfg0.idle 6 (grid0.coords t) = !(k0_cond2 (grid0.coords t) == 1#1) from rfl]
  have hN : t.val < 33 := t.isLt
  have := cond2_iff (grid0.coords t)
  rw [coord0] at this
  by_cases h : k0_cond2 (grid0.coords t) = 1#1 <;> simp_all <;> omega

theorem idle7 (t : Fin cfg0.N) : cfg0.idle 7 (grid0.coords t) = false := by
  rw [show cfg0.idle 7 (grid0.coords t) = (!(k0_cond2 (grid0.coords t) == 1#1) && !(k0_cond3 (grid0.coords t) == 1#1)) from rfl]
  have hN : t.val < 33 := t.isLt
  have h2 := cond2_iff (grid0.coords t)
  have h3 := cond3_iff (grid0.coords t)
  rw [coord0] at h2 h3
  by_cases h : k0_cond2 (grid0.coords t) = 1#1 <;> by_cases h' : k0_cond3 (grid0.coords t) = 1#1 <;> simp_all <;> omega

theorem flush6 : ∀ t : Fin cfg0.N, t.val = 31 → (cfg0.win 6).flush t = false := by decide +kernel

/-- At the last point the queries' block still holds what the point before left. -/
theorem before6 (c : Dev nD) (t : Fin cfg0.N) (ht : t.val = 32) (d) : (dats m 0 c).before 6 t d = dqAt m c t := by
  rw [Dat.before_of_pos _ 6 t (by omega) rfl d, flush6 ⟨t.val - 1, _⟩ (by show t.val - 1 = 31; omega), if_neg Bool.false_ne_true]
  unfold Dat.left
  generalize hs : (⟨t.val - 1, Nat.lt_of_le_of_lt (Nat.sub_le _ _) t.isLt⟩ : Fin cfg0.N) = s
  have hsv : s.val = 31 := by rw [← hs]; show t.val - 1 = _; omega
  cases hi : cfg0.idle 6 (cfg0.grid.coords s) with
  | false => exact (after0_6 m c s).trans (dqAt_end m c t s ht hsv).symm
  | true => exact absurd ((idle6 s).mp hi) (by omega)

/-- What the obligation asks of window `w` after point `t`. -/
abbrev postWin (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem post6 (c : Dev nD) (t : Fin cfg0.N) :
    owns (c : Thread nD τ) (win0_6.stage (cfg0.slots t 6)) fullShare (dqAt m c t) ⊢ postWin m c 6 t := by
  unfold postWin
  cases hi : cfg0.idle 6 (cfg0.grid.coords t) with
  | false => dsimp only; rw [after0_6]
  | true =>
    cases hf : (cfg0.win 6).flush t with
    | true => dsimp only; rw [after0_6]
    | false =>
      dsimp only
      iintro H
      iexists (dqAt m c t)
      rw [before6 m c t ((idle6 t).mp hi)]
      iexact H

theorem post7 (c : Dev nD) (t : Fin cfg0.N) :
    owns (c : Thread nD τ) (win0_7.stage (cfg0.slots t 7)) fullShare (kvAt m c t) ⊢ postWin m c 7 t := by
  unfold postWin; rw [show cfg0.idle 7 (cfg0.grid.coords t) = false from idle7 t]; dsimp only; rw [after0_7]

/-- What the body is called with at point `t`, and what it returns. -/
def bodyPre (c : Dev nD) (t : Fin cfg0.N) : sProp 𝕄 :=
  iprop(Inv m c t.val ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d)))

def bodyPost (c : Dev nD) (t : Fin cfg0.N) : sProp 𝕄 :=
  iprop(Inv m c (t.val + 1) ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ postWin m c 6 t ∗ postWin m c 7 t)

/-- The three kinds of point, in one: what a point leaves when the carry and the table are as the points before left them. -/
theorem run_at (c : Dev nD) (t : Fin cfg0.N) (g : Vec F S16x1x8x1024 .f32) (hg : t.val = 32 → g = dqAt m c t)
    (n : Vec F S16x1x8x512 .f32) (C : Vec F S128x512 .f32) (T : Vec F S32x256x128 .f32)
    (hCT : 0 < t.val → C = carry m c t.val ∧ T = table) (E K) :
    iprop(reads c (mems t) (ins m c t) ∗ holds c (mems t) g n C T
        ∗ (iprop(reads c (mems t) (ins m c t) ∗ holds c (mems t) (dqAt m c t) (kvAt m c t) (carry m c (t.val + 1)) table) -∗ K ⟨⟩))
      ⊢ wp frame (wpE (defs₀ (F := F)) Variants.none c none) E (body (grid0.coords t) (mems t)) K := by
  have hN : t.val < 33 := t.isLt
  by_cases h32 : t.val = 32
  · obtain ⟨rfl, rfl⟩ := hCT (by omega)
    rw [carry_end m c t h32, kvAt_end m c t h32, hg h32]
    exact run_last c (grid0.coords t) ((coord0 t).trans h32) (mems t) (ins m c t) (dqAt m c t) n (carry m c t.val) table E K
  · rw [carry_succ m c t (by omega), kvAt_of m c t (by omega), dqAt_of m c t (by omega)]
    unfold opsOf
    by_cases h0 : t.val = 0
    · rw [show carry m c t.val = k0_pay46 from by rw [h0]; rfl]
      exact run_first c (grid0.coords t) ((coord0 t).trans h0) (mems t) (ins m c t) g n C T E K
    · obtain ⟨rfl, rfl⟩ := hCT (by omega)
      exact run_mid c (grid0.coords t) (by rw [coord0]; omega) (by rw [coord0]; omega) (mems t) (ins m c t) g n (carry m c t.val) table E K

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost Inv
  obtain ⟨b0, b1, b2, b3, b4, b5⟩ := before_ins m c t
  simp only [b0, b1, b2, b3, b4, b5]
  rw [show (dats m 0 c).owesAt () t.succ = (dats m 0 c).owesAt () t.castSucc from rfl,
    after0_0, after0_1, after0_2, after0_3, after0_4, after0_5]
  iintro ⟨⟨⟨%C, %T, %hCT, HC, HT⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run_at m c t ((dats m 0 c).before 6 t d6) (fun h => before6 m c t h d6) ((dats m 0 c).before 7 t d7) C T hCT Set.univ _)
  isplitl [H0 H1 H2 H3 H4 H5]
  · unfold reads
    isplitl [H0]; · iexact H0
    isplitl [H1]; · iexact H1
    isplitl [H2]; · iexact H2
    isplitl [H3]; · iexact H3
    isplitl [H4]; · iexact H4
    iexact H5
  isplitl [H6 H7 HC HT]
  · unfold holds
    isplitl [H6]; · iexact H6
    isplitl [H7]; · iexact H7
    isplitl [HC]; · iexact HC
    iexact HT
  unfold reads holds
  iintro ⟨⟨H0, H1, H2, H3, H4, H5⟩, H6, H7, HC, HT⟩
  isplitl [HC HT Hg]
  · isplitl [HC HT]
    · iexists _; iexists _; isplitr
      swap
      · isplitl [HC]; · iexact HC
        iexact HT
      ipureintro; exact fun _ => ⟨rfl, rfl⟩
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (post6 m c t); iexact H6
  iapply (post7 m c t); iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over, and what it takes back. -/
theorem phiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d))
      ∗ (∃ r, prngReg c r)) := by
  unfold Pipeline.ΦA; rw [scopedRest0_eq]; simp only [owns_whole]; try rfl

theorem hin (c : Dev nD) : Pipeline.ΦA spec0 c ⊢ (dats m 0 c).Φ 0 := by
  rw [show (dats m 0 c).Φ 0 = Inv m c 0 from rfl, phiA_eq]
  unfold Inv
  iintro ⟨⟨⟨%C, HC⟩, ⟨%T, HT⟩⟩, Hg⟩
  isplitl [HC HT]
  · iexists C; iexists T; isplitr
    · ipureintro; exact fun h => absurd h (Nat.lt_irrefl _)
    isplitl [HC]; · iexact HC
    iexact HT
  iexact Hg

theorem hout (c : Dev nD) : (dats m 0 c).Φ (Fin.last cfg0.N) ⊢ Pipeline.ΦA spec0 c := by
  rw [show (dats m 0 c).Φ (Fin.last cfg0.N) = Inv m c (Fin.last cfg0.N).val from rfl, phiA_eq]
  unfold Inv
  iintro ⟨⟨%C, %T, %hCT, HC, HT⟩, Hg⟩
  isplitl [HC HT]
  · isplitl [HC]; · iexists C; iexact HC
    iexists T; iexact HT
  iexact Hg

set_option backward.isDefEq.respectTransparency.types false in
set_option maxHeartbeats 800000 in
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- Every execution ends, with the arguments unchanged and no counter raised. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.AttnIdeal.Step

end
-- ==== Proof.AttnRow.lean ====
/- The attention of one query row at the reals: its scores over the 256 keys of its window, of which `o` says which are in
   reach; the weights, the gradient through the weights, and the two programs' forms of both. -/
module

public import proofs.«01_k».proof.Proof.Reals

@[expose] public section
noncomputable section
namespace Cert.Attn.Row
open Idealize.ShloMosaic Cert.Step

variable (o : Fin 256 → Prop) [DecidablePred o] (s : Fin 256 → ℝ)

/-- The score as the programs hold it: minus infinity out of reach. -/
def score (j : Fin 256) : EReal := if o j then (s j : EReal) else ⊥
/-- The unnormalized weight at the shift `μ`. -/
def raw (μ : ℝ) (j : Fin 256) : ℝ := if o j then Real.exp (s j - μ) else 0
/-- The sum of the unnormalized weights at the shift `μ`. -/
def total (μ : ℝ) : ℝ := ∑ j, raw o s μ j
/-- The weight of key `j`. -/
def weight (j : Fin 256) : ℝ := raw o s 0 j / total o s 0

variable {o} in
theorem total_pos {j₀ : Fin 256} (h : o j₀) (μ : ℝ) : 0 < total o s μ := by
  unfold total
  refine Finset.sum_pos' (fun j _ => ?_) ⟨j₀, Finset.mem_univ _, ?_⟩
  · unfold raw; split <;> positivity
  · unfold raw; rw [if_pos h]; positivity

theorem raw_eq (μ : ℝ) (j : Fin 256) : raw o s μ j = raw o s 0 j * Real.exp (-μ) := by
  unfold raw; split
  · rw [← Real.exp_add]; congr 1; ring
  · ring

theorem total_eq (μ : ℝ) : total o s μ = total o s 0 * Real.exp (-μ) := by
  unfold total; rw [Finset.sum_mul]; exact Finset.sum_congr rfl fun j _ => raw_eq o s μ j

theorem raw_div (μ : ℝ) (j : Fin 256) : raw o s μ j / total o s μ = weight o s j := by
  unfold weight; rw [raw_eq, total_eq, mul_div_mul_right _ _ (Real.exp_pos _).ne']

variable {o} in
theorem sum_weight {j₀ : Fin 256} (h : o j₀) : ∑ j, weight o s j = 1 := by
  unfold weight; rw [← Finset.sum_div]; exact div_self (total_pos s h 0).ne'

theorem weight_zero {j : Fin 256} (h : ¬ o j) : weight o s j = 0 := by
  unfold weight raw; rw [if_neg h, zero_div]

variable {o} in
/-- The row's maximum is a real. -/
theorem max_real {j₀ : Fin 256} (h : o j₀) : ∃ μ : ℝ, Finset.univ.fold max (⊥ : EReal) (score o s) = (μ : EReal) := by
  have hub : Finset.univ.fold max (⊥ : EReal) (score o s) < ⊤ :=
    (Finset.fold_max_lt _).2 ⟨bot_lt_top, fun j _ => by unfold score; split; exacts [EReal.coe_lt_top _, bot_lt_top]⟩
  have hlb : (s j₀ : EReal) ≤ Finset.univ.fold max (⊥ : EReal) (score o s) :=
    (Finset.le_fold_max _).2 (Or.inr ⟨j₀, Finset.mem_univ _, by unfold score; rw [if_pos h]⟩)
  revert hub hlb
  generalize Finset.univ.fold max (⊥ : EReal) (score o s) = m
  intro hub hlb
  induction m with
  | bot => exact absurd hlb (by simp)
  | top => exact absurd hub (lt_irrefl _)
  | coe r => exact ⟨r, rfl⟩

theorem exp_score (μ : ℝ) (j : Fin 256) : Ideal.exp (score o s j - (μ : EReal)) = ((raw o s μ j : ℝ) : EReal) := by
  unfold score raw; split
  · rw [← EReal.coe_sub]; rfl
  · rw [EReal.bot_sub]; exact EReal.coe_zero.symm

variable {o} in
/-- The exponential of the score less the log-denominator is the weight. -/
theorem exp_lse {j₀ : Fin 256} (h : o j₀) (μ : ℝ) (j : Fin 256) :
    Ideal.exp (score o s j - ((μ + Real.log (total o s μ) : ℝ) : EReal)) = ((weight o s j : ℝ) : EReal) := by
  rw [exp_score, ← raw_div o s μ j]
  congr 1
  unfold raw; split
  · rw [← sub_sub, Real.exp_sub, Real.exp_log (total_pos s h μ)]
  · rw [zero_div]

/-! ## The gradient through the weights -/

variable (D : Fin 256 → ℝ)

/-- The gradient of the row's scores, of the products `D` of the output's gradient with the values. -/
def grad (j : Fin 256) : ℝ := weight o s j * (D j - ∑ k, weight o s k * D k)

variable {o} in
theorem sum_grad {j₀ : Fin 256} (h : o j₀) : ∑ j, grad o s D j = 0 := by
  unfold grad
  simp only [mul_sub, Finset.sum_sub_distrib]
  rw [← Finset.sum_mul, sum_weight s h]; ring

theorem grad_zero {j : Fin 256} (h : ¬ o j) : grad o s D j = 0 := by
  unfold grad; rw [weight_zero o s h, zero_mul]

/-- The reference's form: the unnormalized weight times the gradient of the unnormalized weight. -/
theorem grad_raw (μ : ℝ) (j : Fin 256) (l : ℝ) (hl : l = total o s μ) (A : ℝ) (hA : A = ∑ k, raw o s μ k * D k) :
    (D j / l + -(A * (1 / (l * l)))) * raw o s μ j = grad o s D j := by
  subst hl hA
  have e : ∑ k, weight o s k * D k = (∑ k, raw o s μ k * D k) / total o s μ := by
    rw [Finset.sum_div]; refine Finset.sum_congr rfl fun k _ => ?_; rw [← raw_div o s μ k]; ring
  unfold grad; rw [e, ← raw_div o s μ j]
  by_cases h : total o s μ = 0
  · simp [h]
  · field_simp; ring

end Cert.Attn.Row

/-! ## All rows -/

namespace Cert.Attn.Real
open Idealize.ShloMosaic Cert.Step Cert.Attn.Row

/-- Row `i` of block `b` of the queries (block `n` of residue `r` is `16 n + r`), at group `g` of key head `h`. -/
def heads (x : Fin 4096 → Fin 1024 → ℝ) (b : Fin 32) (i : Fin 128) (h g : Fin 4) (e : Fin 64) : ℝ :=
  x ⟨b / 16 * 2048 + i * 16 + b % 16, by omega⟩ ⟨h * 256 + g * 64 + e, by omega⟩

/-- Row `p` of the window of block `b`: the block before it (zeros before the first) and the block itself. -/
def win (x : Fin 4096 → Fin 256 → ℝ) (b : Fin 32) (p : Fin 256) (h : Fin 4) (e : Fin 64) : ℝ :=
  if p.val < 128 then
    if b.val < 16 then 0 else x ⟨(b - 16) / 16 * 2048 + p * 16 + (b - 16) % 16, by omega⟩ ⟨h * 64 + e, by omega⟩
  else x ⟨b / 16 * 2048 + (p - 128) * 16 + b % 16, by omega⟩ ⟨h * 64 + e, by omega⟩

/-- Key `p` of the window is in reach of query `i`. -/
def ok (b : Fin 32) (i : Fin 128) (p : Fin 256) : Prop := (i.val ≤ p.val ∧ p.val ≤ i.val + 128) ∧ (16 ≤ b.val ∨ 128 ≤ p.val)
instance (b : Fin 32) (i : Fin 128) : DecidablePred (ok b i) := fun p => by unfold ok; infer_instance

theorem ok_self (b : Fin 32) (i : Fin 128) : ok b i ⟨i + 128, by omega⟩ := by unfold ok; simp

/-- The slope of query head `4 h + g`. -/
def slope (h g : Fin 4) : ℝ := (Real.sqrt (2 ^ (h.val * 4 + g.val + 1)))⁻¹

theorem slope_pow (n : ℕ) : Real.rpow 2 (-(1 / 2) * ((n : ℝ) + 1)) = (Real.sqrt (2 ^ (n + 1)))⁻¹ := by
  show (2 : ℝ) ^ (-(1 / 2) * ((n : ℝ) + 1)) = _
  rw [Real.sqrt_eq_rpow, ← Real.rpow_natCast, ← Real.rpow_mul (by norm_num), ← Real.rpow_neg (by norm_num)]
  congr 1; push_cast; ring

variable (q : Fin 4096 → Fin 1024 → ℝ) (k v : Fin 4096 → Fin 256 → ℝ) (d : Fin 4096 → Fin 1024 → ℝ)

/-- The score of key `p` for query `i`. -/
def sc (b : Fin 32) (h g : Fin 4) (i : Fin 128) (p : Fin 256) : ℝ :=
  (∑ e, win k b p h e * heads q b i h g e) + -slope h g * (16 * (128 + i.val - p.val))

def W (b : Fin 32) (h g : Fin 4) (i : Fin 128) (p : Fin 256) : ℝ := weight (ok b i) (sc q k b h g i) p
def D (b : Fin 32) (h g : Fin 4) (i : Fin 128) (p : Fin 256) : ℝ := ∑ e, heads d b i h g e * win v b p h e
def G (b : Fin 32) (h g : Fin 4) (i : Fin 128) (p : Fin 256) : ℝ := grad (ok b i) (sc q k b h g i) (D v d b h g i) p

def dqR (b : Fin 32) (i : Fin 128) (h g : Fin 4) (e : Fin 64) : ℝ := ∑ p, G q k v d b h g i p * win k b p h e
def dkW (b : Fin 32) (p : Fin 256) (h : Fin 4) (e : Fin 64) : ℝ := ∑ i, ∑ g, G q k v d b h g i p * heads q b i h g e
def dvW (b : Fin 32) (p : Fin 256) (h : Fin 4) (e : Fin 64) : ℝ := ∑ g, ∑ i, W q k b h g i p * heads d b i h g e
/-- A block's own half of its window, and the half of the block after it that falls on it. -/
def both (f : Fin 32 → Fin 256 → Fin 4 → Fin 64 → ℝ) (b : Fin 32) (i : Fin 128) (h : Fin 4) (e : Fin 64) : ℝ :=
  f b ⟨128 + i, by omega⟩ h e + if c : b.val < 16 then f ⟨16 + b, by omega⟩ ⟨i, by omega⟩ h e else 0

end Cert.Attn.Real
-- ==== Proof.AttnVal.lean ====
/- One point of the attention gradient kernel at the reals. -/
module

public import proofs.«01_k».proof.Proof.AttnRow
public import proofs.«01_k».proof.Proof.AttnBody
public import Idealize.ShloMosaic.Lib.Pointwise

@[expose] public section
set_option maxRecDepth 16384
noncomputable section
namespace Cert.AttnIdeal.Val
open Idealize.ShloMosaic Idealize.ShloMosaic.TcCoe Idealize.SL.Sem Cert.AttnIdeal Cert.AttnIdeal.Gen Cert.AttnIdeal.Step Cert.Step
open Cert.Attn.Real

/-! ## The operations, pointwise -/

/-- A row of a block, as the block stores it. -/
abbrev at8 (i : Fin 128) {n : ℕ} (l : Fin n) := ix4 (⟨i.val / 8, by omega⟩ : Fin 16) (0 : Fin 1) (⟨i.val % 8, by omega⟩ : Fin 8) l
/-- Row `x` of two stacked halves: which half, and the row there. -/
abbrev up (x : Fin 256) : Fin 2 := ⟨x.val / 128, by omega⟩
abbrev lo (x : Fin 256) : Fin 128 := ⟨x.val % 128, Nat.mod_lt _ (by omega)⟩
/-- The lane inside its half of the lanes. -/
abbrev ln (l : Fin 128) : Fin 64 := ⟨l.val % 64, Nat.mod_lt _ (by omega)⟩

theorem dite_half {α : Type*} {x : Fin 256} {f : ∀ _ : x.val < 128, α} {g : ∀ _ : ¬ x.val < 128, α} {F : Fin 2 → Fin 128 → α}
    (hf : ∀ h, f h = F 0 ⟨x, h⟩) (hg : ∀ h, g h = F 1 ⟨x - 128, by omega⟩) : (if h : x.val < 128 then f h else g h) = F (up x) (lo x) := by
  by_cases h : x.val < 128
  · rw [dif_pos h, hf]; congr 1 <;> apply Fin.ext <;> simp only [up, lo] <;> first | omega | (simp; omega)
  · rw [dif_neg h, hg]; congr 1 <;> apply Fin.ext <;> simp only [up, lo] <;> first | omega | (simp; omega)

theorem rows_at (v : Vec Ideal S16x1x8x128 .f32) (i l : Fin 128) : rows v (ix2 i l) = v (at8 i l) := by pointwise [rows]
theorem pairOf_at (x : Fin 8 → Vec Ideal S16x1x8x128 .f32) (hk : Fin 4) (r : Fin 256) (l : Fin 128) :
    pairOf x hk (ix2 r l) = x ⟨2 * hk.val + (up r).val, by omega⟩ (at8 (lo r) l) := by
  pointwise [pairOf, pair]
  exact dite_half (F := fun j i => x ⟨2 * hk.val + j.val, by omega⟩ (at8 i l)) (fun h => rows_at _ _ _) fun h => rows_at _ _ _
theorem half_word : ∀ l : Fin 128, IntOp.cmpi CmpIPredicate.slt (BitVec.ofNat 32 l) 64#32 = BitVec.ofBool (decide (l.val < 64)) := by decide +kernel
theorem pay50_at (p : Fin 256) (l : Fin 128) : k0_pay50 (ix2 p l) = BitVec.ofBool (decide (l.val < 64)) := by
  pointwise [k0_pay50]; exact half_word l
theorem turn_at (x : FVec Ideal S256x128 .f32) (p : Fin 256) (l : Fin 128) : turn x (ix2 p l) = x (ix2 p ⟨(l.val + 64) % 128, Nat.mod_lt _ (by omega)⟩) := by
  pointwise [turn]
  rfl
/-- The rows of the window: the block before, then the block. -/
theorem pay47_at (a b : Vec Ideal S16x1x8x512 .f32) (p : Fin 256) (l : Fin 512) :
    k0_pay47 (F := Ideal) a b (ix2 p l) = (if (up p).val = 0 then a else b) (at8 (lo p) l) := by
  pointwise [k0_pay47]
  exact dite_half (F := fun j i => (if j.val = 0 then a else b) (at8 i l)) (fun h => rfl) fun h => rfl
theorem pay48_at (a : Vec Ideal S16x1x8x128 .f32) (p : Fin 128) (l : Fin 128) : k0_pay48 (F := Ideal) a (ix2 p l) = a (at8 l p) := by pointwise [k0_pay48]
theorem pay49_at (a : Vec Ideal S16x1x8x128 .f32) (p : Fin 128) (l : Fin 128) : k0_pay49 (F := Ideal) a (ix2 p l) = a (at8 l p) := by pointwise [k0_pay49]
theorem across_at (v : FVec Ideal S128x128 .f32) (h : Fin 2 → Fin 16) (p x : Fin 256) :
    across v (h 0) (h 1) (ix2 p x) = v (ix2 ⟨(h (up x)).val, by omega⟩ (lo x)) := by
  pointwise [across]
  exact dite_half (F := fun j i => v (ix2 ⟨(h j).val, by omega⟩ i)) (fun h => rfl) fun h => rfl
theorem biases_at (t : Fin 16 → Vec Ideal S1x256x128 .f32) (h : Fin 2 → Fin 16) (p x : Fin 256) :
    biases t (h 0) (h 1) (ix2 p x) = t (h (up x)) (ix3 0 p (lo x)) := by
  pointwise [biases]
  exact dite_half (F := fun j i => t (h j) (ix3 0 p i)) (fun h => rfl) fun h => rfl
theorem prods_at (a b : FVec Ideal S256x128 .bf16) (p x : Fin 256) : prods a b (ix2 p x) = ∑ l : Fin 128, a (ix2 p l) * b (ix2 x l) := by pointwise [prods]
theorem sums_at (a : FVec Ideal S256x256 .bf16) (b : FVec Ideal S256x128 .bf16) (p : Fin 256) (l : Fin 128) :
    sums a b (ix2 p l) = ∑ x : Fin 256, a (ix2 p x) * b (ix2 x l) := by pointwise [sums]

/-- A choice by lanes. -/
theorem lanes_at {φ : FTy} (a b : FVec Ideal S256x128 φ) (p : Fin 256) (l : Fin 128) :
    select k0_pay50 a b (ix2 p l) = if l.val < 64 then a (ix2 p l) else b (ix2 p l) := by
  pointwise
  rw [pay50_at]
  by_cases h : l.val < 64
  · simp only [h, decide_true, if_true]; rfl
  · simp only [h, decide_false, if_false]; rfl
theorem upper_at {φ : FTy} (a b : FVec Ideal S256x128 φ) (p : Fin 256) (l : Fin 128) :
    select (k0_pay106 k0_pay50) a b (ix2 p l) = if l.val < 64 then b (ix2 p l) else a (ix2 p l) := by
  pointwise [k0_pay106]
  rw [pay50_at]
  by_cases h : l.val < 64
  · simp only [h, decide_true, if_true]; rfl
  · simp only [h, decide_false, if_false]; rfl
theorem zero_at (p : Fin 256) (l : Fin 128) : zero (F := Ideal) (ix2 p l) = 0 := by pointwise [zero]
theorem keep_at (w : Bool) (x : FVec Ideal S256x128 .f32) (p : Fin 256) (l : Fin 128) :
    keep w x (ix2 p l) = if decide (64 ≤ l.val) = w then x (ix2 p l) else 0 := by
  by_cases h : l.val < 64
  · cases w
    · refine (lanes_at x zero p l).trans ?_; simp [h]
    · refine (lanes_at zero x p l).trans ?_; simp [h, zero_at]
  · cases w
    · refine (lanes_at x zero p l).trans ?_; simp [h, zero_at]
    · refine (lanes_at zero x p l).trans ?_; simp [h]

/-- The lanes of key head `hk` among a group of lanes of the window. -/
theorem operand_at (v : FVec Ideal S256x512 .f32) (b : Fin 4) (pos w : Bool) (p : Fin 256) (l : Fin 128) :
    operand v b pos w (ix2 p l) = if decide (64 ≤ l.val) = w then v (ix2 p ⟨128 * b.val + cond pos 64 0 + l.val % 64, by cases pos <;> simp <;> omega⟩) else 0 := by
  refine (keep_at w _ p l).trans ?_
  by_cases h : decide (64 ≤ l.val) = w
  · rw [if_pos h, if_pos h]
    have hc : ∀ l', chunk v b (ix2 p l') = v (ix2 p ⟨128 * b.val + l'.val, by omega⟩) := fun l' => by pointwise [chunk]
    cases pos <;> cases w <;> simp only [decide_eq_true_eq, decide_eq_false_iff_not] at h
    · refine (hc l).trans ?_; congr 2; apply Fin.ext; simp; omega
    · refine ((turn_at _ p l).trans (hc _)).trans ?_; congr 2; apply Fin.ext; simp; omega
    · refine ((turn_at _ p l).trans (hc _)).trans ?_; congr 2; apply Fin.ext; simp; omega
    · refine (hc l).trans ?_; congr 2; apply Fin.ext; simp; omega
  · rw [if_neg h, if_neg h]

theorem keys_at (O : Ops Ideal) (hk : Fin 4) (w : Bool) (p : Fin 256) (l : Fin 128) : keys O hk w (ix2 p l)
    = if decide (64 ≤ l.val) = w then k0_pay47 O.kp O.kc (ix2 p ⟨64 * hk.val + l.val % 64, by omega⟩) else 0 := by
  refine (operand_at _ _ _ _ p l).trans ?_
  refine congrArg (fun z => if decide (64 ≤ l.val) = w then k0_pay47 O.kp O.kc (ix2 p z) else 0) (Fin.ext ?_)
  match hk with | 0 => rfl | 1 => rfl | 2 => rfl | 3 => rfl
theorem vals_at (O : Ops Ideal) (hk : Fin 4) (w : Bool) (p : Fin 256) (l : Fin 128) : vals O hk w (ix2 p l)
    = if decide (64 ≤ l.val) = w then k0_pay47 O.kp O.kc (ix2 p ⟨256 + 64 * hk.val + l.val % 64, by omega⟩) else 0 := by
  refine (operand_at _ _ _ _ p l).trans ?_
  refine congrArg (fun z => if decide (64 ≤ l.val) = w then k0_pay47 O.kp O.kc (ix2 p z) else 0) (Fin.ext ?_)
  match hk with | 0 => rfl | 1 => rfl | 2 => rfl | 3 => rfl

/-- The query head of group `2 j + w` among key head `hk`'s. -/
abbrev grp (w : Bool) (j : Fin 2) : Fin 4 := ⟨2 * j.val + cond w 1 0, by cases w <;> simp <;> omega⟩

/-- A sum over the lanes of which one half is kept. -/
theorem sum_half (w : Bool) (f : Fin 64 → ℝ) (g : Fin 128 → ℝ) :
    ∑ l : Fin 128, (if decide (64 ≤ l.val) = w then f (ln l) else 0) * g l = ∑ e : Fin 64, f e * g ⟨64 * cond w 1 0 + e.val, by cases w <;> simp <;> omega⟩ := by
  rw [Fin.sum_univ_tiles 2 64 rfl, Fin.sum_univ_two]
  have h (j : Fin 2) (t : Fin 64) : (if decide (64 ≤ j.val * 64 + t.val) = w then f (ln ⟨j.val * 64 + t.val, by omega⟩) else 0)
      = if decide (j.val = 1) = w then f t else 0 := by
    rw [show decide (64 ≤ j.val * 64 + t.val) = decide (j.val = 1) from decide_eq_decide.2 (by omega), show ln ⟨j.val * 64 + t.val, _⟩ = t from Fin.ext (by simp only [ln]; omega)]
  simp only [h]
  cases w <;> simp

/-! ## A point at the reals -/

variable {q : Fin 4096 → Fin 1024 → ℝ} {k v : Fin 4096 → Fin 256 → ℝ} {d : Fin 4096 → Fin 1024 → ℝ}

/-- The lane of a query array's block. -/
abbrev hd (e8 : Fin 8) : Fin 4 := ⟨e8.val / 2, by omega⟩
abbrev gr (e8 : Fin 8) (l : Fin 128) : Fin 4 := ⟨2 * (e8.val % 2) + l.val / 64, by omega⟩

/-- What a point's operands are when it works on block `b`: keys and values out of reach may be any reals `K`, `U`. -/
structure Holds (q : Fin 4096 → Fin 1024 → ℝ) (k v : Fin 4096 → Fin 256 → ℝ) (d : Fin 4096 → Fin 1024 → ℝ)
    (O : Ops Ideal) (b : Fin 32) (K U : Fin 256 → Fin 4 → Fin 64 → ℝ) : Prop where
  xq : ∀ (e8 : Fin 8) (i l : Fin 128), O.q e8 (at8 i l) = ((heads q b i (hd e8) (gr e8 l) (ln l) : ℝ) : EReal)
  xd : ∀ (e8 : Fin 8) (i l : Fin 128), O.d e8 (at8 i l) = ((heads d b i (hd e8) (gr e8 l) (ln l) : ℝ) : EReal)
  xl : ∀ (i : Fin 128) (h g : Fin 4), ∃ μ : ℝ, O.lse (at8 i (⟨4 * h.val + g.val, by omega⟩ : Fin 128))
    = ((μ + Real.log (Cert.Attn.Row.total (ok b i) (sc q k b h g i) μ) : ℝ) : EReal)
  xs : ∀ (i : Fin 128) (h g : Fin 4), O.dl (at8 i (⟨4 * h.val + g.val, by omega⟩ : Fin 128))
    = ((∑ p, W q k b h g i p * D v d b h g i p : ℝ) : EReal)
  kk : ∀ p (h : Fin 4) (e : Fin 64), k0_pay47 O.kp O.kc (ix2 p ⟨64 * h.val + e.val, by omega⟩) = ((K p h e : ℝ) : EReal)
  vv : ∀ p (h : Fin 4) (e : Fin 64), k0_pay47 O.kp O.kc (ix2 p ⟨256 + 64 * h.val + e.val, by omega⟩) = ((U p h e : ℝ) : EReal)
  hK : ∀ p, (16 ≤ b.val ∨ 128 ≤ p.val) → K p = win k b p
  hU : ∀ p, (16 ≤ b.val ∨ 128 ≤ p.val) → U p = win v b p
  xt : ∀ (h g : Fin 4) (i : Fin 128) (p : Fin 256), O.t ⟨4 * h.val + g.val, by omega⟩ (ix3 0 p i)
    = if ok b i p then ((-slope h g * (16 * (128 + i.val - p.val)) : ℝ) : EReal) else ⊥

section point
variable {O : Ops Ideal} {b : Fin 32} {K U : Fin 256 → Fin 4 → Fin 64 → ℝ} (H : Holds q k v d O b K U)
include H

theorem keysR (hk : Fin 4) (w : Bool) (p : Fin 256) (l : Fin 128) : keys O hk w (ix2 p l) = ((if decide (64 ≤ l.val) = w then K p hk (ln l) else 0 : ℝ) : EReal) := by
  rw [keys_at, H.kk p hk (ln l)]; split <;> rfl
theorem valsR (hk : Fin 4) (w : Bool) (p : Fin 256) (l : Fin 128) : vals O hk w (ix2 p l) = ((if decide (64 ≤ l.val) = w then U p hk (ln l) else 0 : ℝ) : EReal) := by
  rw [vals_at, H.vv p hk (ln l)]; split <;> rfl

theorem fin8 (hk : Fin 4) (j : Fin 2) : (hd ⟨2 * hk.val + j.val, by omega⟩ = hk) ∧ ∀ l : Fin 128, gr ⟨2 * hk.val + j.val, by omega⟩ l = ⟨2 * j.val + l.val / 64, by omega⟩ :=
  ⟨Fin.ext (by simp only [hd]; omega), fun l => Fin.ext (by simp only [gr]; omega)⟩

theorem pairR (x : Fin 256) (hk : Fin 4) (l : Fin 128) :
    pairOf O.q hk (ix2 x l) = ((heads q b (lo x) hk ⟨2 * (up x).val + l.val / 64, by omega⟩ (ln l) : ℝ) : EReal) := by
  rw [pairOf_at, H.xq, (fin8 H hk (up x)).1, (fin8 H hk (up x)).2]
theorem pairD (x : Fin 256) (hk : Fin 4) (l : Fin 128) :
    pairOf O.d hk (ix2 x l) = ((heads d b (lo x) hk ⟨2 * (up x).val + l.val / 64, by omega⟩ (ln l) : ℝ) : EReal) := by
  rw [pairOf_at, H.xd, (fin8 H hk (up x)).1, (fin8 H hk (up x)).2]

theorem lane (w : Bool) (j : Fin 2) (e : Fin 64) (f : Fin 4 → Fin 64 → ℝ) :
    f ⟨2 * j.val + (64 * cond w 1 0 + e.val) / 64, by cases w <;> simp <;> omega⟩ (ln ⟨64 * cond w 1 0 + e.val, by cases w <;> simp <;> omega⟩) = f (grp w j) e := by
  congr 1
  · apply Fin.ext; cases w <;> simp [grp] <;> omega
  · apply Fin.ext; cases w <;> simp [ln] <;> omega

theorem scores (hk : Fin 4) (w : Bool) (p x : Fin 256) : prods (keys O hk w) (pairOf O.q hk) (ix2 p x)
    = ((∑ e, K p hk e * heads q b (lo x) hk (grp w (up x)) e : ℝ) : EReal) := by
  rw [prods_at]
  simp only [keysR H, pairR H, ← EReal.coe_mul, coe_sum]
  rw [sum_half w (K p hk)]
  exact congrArg _ (Finset.sum_congr rfl fun e _ => congrArg _ (lane H w (up x) e (heads q b (lo x) hk)))
theorem dprods (hk : Fin 4) (w : Bool) (p x : Fin 256) : prods (vals O hk w) (pairOf O.d hk) (ix2 p x)
    = ((∑ e, U p hk e * heads d b (lo x) hk (grp w (up x)) e : ℝ) : EReal) := by
  rw [prods_at]
  simp only [valsR H, pairD H, ← EReal.coe_mul, coe_sum]
  rw [sum_half w (U p hk)]
  exact congrArg _ (Finset.sum_congr rfl fun e _ => congrArg _ (lane H w (up x) e (heads d b (lo x) hk)))

theorem head_eq (hk : Fin 4) (w : Bool) (j : Fin 2) : head hk w j = ⟨4 * hk.val + (grp w j).val, by omega⟩ := Fin.ext (by simp only [head, grp]; omega)

theorem probsR (hk : Fin 4) (w : Bool) (p x : Fin 256) : probs O hk w (ix2 p x) = ((W q k b hk (grp w (up x)) (lo x) p : ℝ) : EReal) := by
  obtain ⟨μ, hμ⟩ := H.xl (lo x) hk (grp w (up x))
  refine Eq.trans (b := Ideal.exp (prods (keys O hk w) (pairOf O.q hk) (ix2 p x) + biases O.t (head hk w 0) (head hk w 1) (ix2 p x)
    - across (k0_pay48 O.lse) (head hk w 0) (head hk w 1) (ix2 p x))) (by pointwise [probs]) ?_
  have h1 : O.t (head hk w (up x)) (ix3 0 p (lo x)) = _ := (congrArg (fun z => O.t z (ix3 0 p (lo x))) (head_eq H hk w (up x))).trans (H.xt hk (grp w (up x)) (lo x) p)
  have h2 : O.lse (at8 (lo x) ⟨(head hk w (up x)).val, by omega⟩) = _ :=
    (congrArg (fun z => O.lse (at8 (lo x) z)) (Fin.ext (show (head hk w (up x)).val = _ from congrArg Fin.val (head_eq H hk w (up x))))).trans hμ
  rw [scores H, biases_at O.t (head hk w), across_at _ (head hk w), pay48_at, h1, h2, W, ← Cert.Attn.Row.exp_lse _ (ok_self b (lo x)) μ]
  refine congrArg (fun z => Ideal.exp (z - _)) ?_
  unfold Cert.Attn.Row.score sc
  by_cases h : ok b (lo x) p
  · rw [if_pos h, if_pos h, ← EReal.coe_add, H.hK p h.2]
  · rw [if_neg h, if_neg h]; exact EReal.add_bot _

theorem gradsR (hk : Fin 4) (w : Bool) (p x : Fin 256) : grads O hk w (ix2 p x) = ((G q k v d b hk (grp w (up x)) (lo x) p : ℝ) : EReal) := by
  refine Eq.trans (b := probs O hk w (ix2 p x) * (prods (vals O hk w) (pairOf O.d hk) (ix2 p x)
    - across (k0_pay49 O.dl) (head hk w 0) (head hk w 1) (ix2 p x))) (by pointwise [grads]) ?_
  have h2 : O.dl (at8 (lo x) ⟨(head hk w (up x)).val, by omega⟩) = _ :=
    (congrArg (fun z => O.dl (at8 (lo x) z)) (Fin.ext (show (head hk w (up x)).val = _ from congrArg Fin.val (head_eq H hk w (up x))))).trans (H.xs (lo x) hk (grp w (up x)))
  rw [probsR H, dprods H, across_at _ (head hk w), pay49_at, h2, ← EReal.coe_sub, ← EReal.coe_mul]
  congr 1
  by_cases h : ok b (lo x) p
  · unfold G Cert.Attn.Row.grad; rw [H.hU p h.2]
    refine congrArg₂ (· * ·) rfl (congrArg (· - _) ?_)
    exact Finset.sum_congr rfl fun e _ => mul_comm _ _
  · rw [show W q k b hk (grp w (up x)) (lo x) p = 0 from Cert.Attn.Row.weight_zero _ _ h, show G q k v d b hk (grp w (up x)) (lo x) p = 0 from Cert.Attn.Row.grad_zero _ _ _ h, zero_mul]

theorem GK (h g : Fin 4) (i : Fin 128) (p : Fin 256) (e : Fin 64) : G q k v d b h g i p * K p h e = G q k v d b h g i p * win k b p h e := by
  by_cases ho : ok b i p
  · rw [H.hK p ho.2]
  · rw [show G q k v d b h g i p = 0 from Cert.Attn.Row.grad_zero _ _ _ ho, zero_mul, zero_mul]

/-- The queries' gradient. -/
theorem dqHalfR (hk : Fin 4) (w : Bool) (x : Fin 256) (l : Fin 128) : dqHalf O hk w (ix2 x l)
    = ((if decide (64 ≤ l.val) = w then dqR q k v d b (lo x) hk (grp w (up x)) (ln l) else 0 : ℝ) : EReal) := by
  refine Eq.trans (b := ∑ p : Fin 256, grads O hk w (ix2 p x) * keys O hk w (ix2 p l)) (by pointwise [dqHalf]) ?_
  simp only [gradsR H, keysR H, ← EReal.coe_mul, coe_sum]
  congr 1
  by_cases h : decide (64 ≤ l.val) = w
  · simp only [if_pos h]; unfold dqR; exact Finset.sum_congr rfl fun p _ => GK H _ _ _ _ _
  · simp only [if_neg h, mul_zero, Finset.sum_const_zero]
theorem dqOfR (hk : Fin 4) (x : Fin 256) (l : Fin 128) : dqOf O hk (ix2 x l)
    = ((dqR q k v d b (lo x) hk ⟨2 * (up x).val + l.val / 64, by omega⟩ (ln l) : ℝ) : EReal) := by
  refine Eq.trans (b := zero (ix2 x l) + dqHalf O hk false (ix2 x l) + dqHalf O hk true (ix2 x l)) (by pointwise [dqOf]) ?_
  rw [zero_at, dqHalfR H, dqHalfR H, zero_add, ← EReal.coe_add]
  congr 1
  by_cases h : 64 ≤ l.val
  · rw [if_neg (by simp [h]), if_pos (by simp [h]), zero_add]; congr 1; apply Fin.ext; simp [grp]; omega
  · rw [if_pos (by simp [h]), if_neg (by simp [h]), add_zero]; congr 1; apply Fin.ext; simp [grp]; omega

/-- A sum over the rows of two stacked halves. -/
theorem sum_rows (f : Fin 2 → Fin 128 → ℝ) : ∑ x : Fin 256, f (up x) (lo x) = ∑ j, ∑ i, f j i := by
  rw [Fin.sum_univ_tiles 2 128 rfl]
  refine Finset.sum_congr rfl fun j _ => Finset.sum_congr rfl fun i _ => ?_
  congr 1 <;> apply Fin.ext <;> simp only [up, lo] <;> omega

/-- What the two halves of the lanes add up to: the sum over the four query heads. -/
theorem bothR {x : FVec Ideal S256x128 .f32} {f : Fin 4 → ℝ} {F : Fin 4 → Fin 64 → Fin 256 → ℝ}
    (hx : ∀ p l, x (ix2 p l) = ((∑ j : Fin 2, F ⟨2 * j.val + l.val / 64, by omega⟩ (ln l) p : ℝ) : EReal)) (p : Fin 256) (l : Fin 128) :
    Step.both x (ix2 p l) = ((∑ g, F g (ln l) p : ℝ) : EReal) := by
  refine Eq.trans (b := x (ix2 p l) + turn x (ix2 p l)) (by pointwise [Step.both]) ?_
  rw [turn_at, hx, hx, ← EReal.coe_add]
  congr 1
  rw [Fin.sum_univ_two, Fin.sum_univ_two, Fin.sum_univ_four]
  have hl : (⟨(l.val + 64) % 128 % 64, Nat.mod_lt _ (by omega)⟩ : Fin 64) = ln l := Fin.ext (by simp only [ln]; omega)
  simp only [ln] at hl ⊢
  rw [hl]
  have hl' := l.isLt
  rcases (by omega : l.val / 64 = 0 ∨ l.val / 64 = 1) with h | h
  · have h2 : (l.val + 64) % 128 / 64 = 1 := by omega
    simp only [h, h2]
    show F 0 _ p + F 2 _ p + (F 1 _ p + F 3 _ p) = _
    ring
  · have h2 : (l.val + 64) % 128 / 64 = 0 := by omega
    simp only [h, h2]
    show F 1 _ p + F 3 _ p + (F 0 _ p + F 2 _ p) = _
    ring

theorem dkOfR (hk : Fin 4) (p : Fin 256) (l : Fin 128) : dkOf O hk (ix2 p l)
    = ((∑ j : Fin 2, ∑ i, G q k v d b hk ⟨2 * j.val + l.val / 64, by omega⟩ i p * heads q b i hk ⟨2 * j.val + l.val / 64, by omega⟩ (ln l) : ℝ) : EReal) := by
  refine (lanes_at _ _ p l).trans ?_
  rw [sums_at, sums_at]
  simp only [gradsR H, pairR H, ← EReal.coe_mul, coe_sum]
  rw [sum_rows H fun j i => G q k v d b hk (grp false j) i p * heads q b i hk ⟨2 * j.val + l.val / 64, by omega⟩ (ln l),
    sum_rows H fun j i => G q k v d b hk (grp true j) i p * heads q b i hk ⟨2 * j.val + l.val / 64, by omega⟩ (ln l)]
  by_cases h : l.val < 64
  · rw [if_pos h]
    refine congrArg _ (Finset.sum_congr rfl fun j _ => Finset.sum_congr rfl fun i _ => congrArg (fun z => G q k v d b hk z i p * _) (Fin.ext ?_))
    simp [grp]; omega
  · rw [if_neg h]
    refine congrArg _ (Finset.sum_congr rfl fun j _ => Finset.sum_congr rfl fun i _ => congrArg (fun z => G q k v d b hk z i p * _) (Fin.ext ?_))
    simp [grp]; omega
theorem dvOfR (hk : Fin 4) (p : Fin 256) (l : Fin 128) : dvOf O hk (ix2 p l)
    = ((∑ j : Fin 2, ∑ i, W q k b hk ⟨2 * j.val + l.val / 64, by omega⟩ i p * heads d b i hk ⟨2 * j.val + l.val / 64, by omega⟩ (ln l) : ℝ) : EReal) := by
  refine (lanes_at _ _ p l).trans ?_
  rw [sums_at, sums_at]
  have ht : ∀ w x, truncf (F := Ideal) .bf16 (probs O hk w) bitsLt_bf16_f32 (ix2 p x) = ((W q k b hk (grp w (up x)) (lo x) p : ℝ) : EReal) :=
    fun w x => (probsR H hk w p x)
  simp only [ht, pairD H, ← EReal.coe_mul, coe_sum]
  rw [sum_rows H fun j i => W q k b hk (grp false j) i p * heads d b i hk ⟨2 * j.val + l.val / 64, by omega⟩ (ln l),
    sum_rows H fun j i => W q k b hk (grp true j) i p * heads d b i hk ⟨2 * j.val + l.val / 64, by omega⟩ (ln l)]
  by_cases h : l.val < 64
  · rw [if_pos h]
    refine congrArg _ (Finset.sum_congr rfl fun j _ => Finset.sum_congr rfl fun i _ => congrArg (fun z => W q k b hk z i p * _) (Fin.ext ?_))
    simp [grp]; omega
  · rw [if_neg h]
    refine congrArg _ (Finset.sum_congr rfl fun j _ => Finset.sum_congr rfl fun i _ => congrArg (fun z => W q k b hk z i p * _) (Fin.ext ?_))
    simp [grp]; omega

theorem dkB (hk : Fin 4) (p : Fin 256) (l : Fin 128) : Step.both (dkOf O hk) (ix2 p l) = ((dkW q k v d b p hk (ln l) : ℝ) : EReal) := by
  rw [bothR H (f := fun _ => 0) (F := fun g e p => ∑ i, G q k v d b hk g i p * heads q b i hk g e) (dkOfR H hk) p l]
  unfold dkW; rw [Finset.sum_comm]
theorem dvB (hk : Fin 4) (p : Fin 256) (l : Fin 128) : Step.both (dvOf O hk) (ix2 p l) = ((dvW q k d b p hk (ln l) : ℝ) : EReal) := by
  rw [bothR H (f := fun _ => 0) (F := fun g e p => ∑ i, W q k b hk g i p * heads d b i hk g e) (dvOfR H hk) p l]
  rfl

omit H in
theorem besideR {x y : FVec Ideal S256x128 .f32} {f : Fin 2 → ℝ} {p : Fin 256} {l : Fin 128} (hx : Step.both x (ix2 p l) = ((f 0 : ℝ) : EReal))
    (hy : Step.both y (ix2 p l) = ((f 1 : ℝ) : EReal)) : beside x y (ix2 p l) = ((f ⟨l.val / 64, by omega⟩ : ℝ) : EReal) := by
  refine Eq.trans (b := zero (ix2 p l) + select k0_pay50 (Step.both x) zero (ix2 p l) + select (k0_pay106 k0_pay50) (Step.both y) zero (ix2 p l)) (by pointwise [beside]) ?_
  rw [lanes_at, upper_at, zero_at, hx, hy, zero_add]
  have hl := l.isLt
  by_cases h : l.val < 64
  · rw [if_pos h, if_pos h, add_zero]; congr 2; apply Fin.ext; simp; omega
  · rw [if_neg h, if_neg h, zero_add]; congr 2; apply Fin.ext; simp; omega

/-- The gradients of the window's keys, then of its values: one array of 512 lanes. -/
def kvR (q : Fin 4096 → Fin 1024 → ℝ) (k v : Fin 4096 → Fin 256 → ℝ) (d : Fin 4096 → Fin 1024 → ℝ) (b : Fin 32) (p : Fin 256) (x : Fin 4) (l : Fin 128) : ℝ :=
  if x.val < 2 then dkW q k v d b p ⟨(2 * x.val + l.val / 64) % 4, Nat.mod_lt _ (by omega)⟩ (ln l)
  else dvW q k d b p ⟨(2 * x.val + l.val / 64) % 4, Nat.mod_lt _ (by omega)⟩ (ln l)

theorem kvOfR (x : Fin 4) (p : Fin 256) (l : Fin 128) : kvOf O x (ix2 p l) = ((kvR q k v d b p x l : ℝ) : EReal) := by
  have hl : (⟨l.val / 64, by omega⟩ : Fin 2) = 0 ∨ (⟨l.val / 64, by omega⟩ : Fin 2) = 1 := by
    have := l.isLt
    rcases (by omega : l.val / 64 = 0 ∨ l.val / 64 = 1) with h | h
    · left; exact Fin.ext h
    · right; exact Fin.ext h
  have hl' : l.val / 64 = 0 ∨ l.val / 64 = 1 := by have := l.isLt; omega
  match x with
  | 0 => refine (besideR (f := fun j => dkW q k v d b p ⟨j.val, by omega⟩ (ln l)) (dkB H 0 p l) (dkB H 1 p l)).trans ?_
         unfold kvR; rcases hl' with h | h <;> simp [h]
  | 1 => refine (besideR (f := fun j => dkW q k v d b p ⟨2 + j.val, by omega⟩ (ln l)) (dkB H 2 p l) (dkB H 3 p l)).trans ?_
         unfold kvR; rcases hl' with h | h <;> simp [h]
  | 2 => refine (besideR (f := fun j => dvW q k d b p ⟨j.val, by omega⟩ (ln l)) (dvB H 0 p l) (dvB H 1 p l)).trans ?_
         unfold kvR; rcases hl' with h | h <;> simp [h]
  | 3 => refine (besideR (f := fun j => dvW q k d b p ⟨2 + j.val, by omega⟩ (ln l)) (dvB H 2 p l) (dvB H 3 p l)).trans ?_
         unfold kvR; rcases hl' with h | h <;> simp [h]

/-! What the point stores. -/

theorem dqOutR (i : Fin 128) (c : Fin 1024) : dqOut O (at8 i c)
    = ((dqR q k v d b i ⟨c.val / 256, by omega⟩ ⟨c.val / 64 % 4, Nat.mod_lt _ (by omega)⟩ ⟨c.val % 64, Nat.mod_lt _ (by omega)⟩ : ℝ) : EReal) := by
  refine Eq.trans (b := dqOf O ⟨c.val / 128 / 2, by omega⟩ (ix2 ⟨128 * (c.val / 128 % 2) + i.val, by omega⟩ ⟨c.val % 128, Nat.mod_lt _ (by omega)⟩)) ?_ ?_
  · show dqPiece O ⟨c.val / 128, by omega⟩ (at8 i ⟨c.val % 128, Nat.mod_lt _ (by omega)⟩) = _
    pointwise [dqPiece, asBlock, halfRows]
    congr 2; apply Fin.ext; simp only; omega
  · rw [dqOfR H]
    congr 2 <;> apply Fin.ext <;> simp [up, lo, ln] <;> omega
theorem kvOutR (C : Vec Ideal S128x512 .f32) (i : Fin 128) (c : Fin 512) : kvOut O C (at8 i c)
    = C (ix2 i c) + ((kvR q k v d b ⟨i, by omega⟩ ⟨c.val / 128, by omega⟩ ⟨c.val % 128, Nat.mod_lt _ (by omega)⟩ : ℝ) : EReal) := by
  rw [← kvOfR H]
  show kvPiece O (lanes4 C) ⟨c.val / 128, by omega⟩ (at8 i ⟨c.val % 128, Nat.mod_lt _ (by omega)⟩) = _
  pointwise [kvPiece, asBlock, halfRows]
  have hi : (⟨i.val / 8 * 8 + i.val % 8, by omega⟩ : Fin 128) = i := Fin.ext (by simp only; omega)
  have hi' : (⟨i.val / 8 * 8 + i.val % 8, by omega⟩ : Fin 256) = ⟨i, by omega⟩ := Fin.ext (by simp only; omega)
  refine congrArg₂ (· + ·) ?_ (congrArg (fun z => kvOf O _ (ix2 z _)) hi')
  refine (congrArg (fun z => lanes4 C _ (ix2 z _)) hi).trans ?_
  show C (ix2 i _) = _
  congr 2; apply Fin.ext; simp; omega
theorem carryR (i : Fin 128) (c : Fin 512) : carryOut O (ix2 i c)
    = ((kvR q k v d b ⟨128 + i, by omega⟩ ⟨c.val / 128, by omega⟩ ⟨c.val % 128, Nat.mod_lt _ (by omega)⟩ : ℝ) : EReal) := by
  rw [← kvOfR H]
  show carryPiece O ⟨c.val / 128, by omega⟩ (ix2 i ⟨c.val % 128, Nat.mod_lt _ (by omega)⟩) = _
  pointwise [carryPiece, halfRows]
end point

end Cert.AttnIdeal.Val
-- ==== Proof.AttnTable.lean ====
/- The attention gradient kernel's table of biases at the reals. -/
module

public import proofs.«01_k».proof.Proof.AttnRow
public import proofs.«01_k».proof.Proof.AttnBody
public import Idealize.ShloMosaic.Lib.Pointwise

@[expose] public section
set_option maxRecDepth 16384
noncomputable section
namespace Cert.AttnIdeal.Val
open Idealize.ShloMosaic Idealize.ShloMosaic.TcCoe Idealize.SL.Sem Cert.AttnIdeal Cert.AttnIdeal.Gen Cert.AttnIdeal.Step Cert.Step
open Cert.Attn.Real

/-! ## The table -/

theorem mod_word : ∀ p : Fin 256, Scalar.select
      (IntOp.andi
        (IntOp.xori (IntOp.cmpi CmpIPredicate.slt (IntOp.remsi ArithUnit.vector (BitVec.ofNat 32 p) (Scalar.select (Scalar.cmpi CmpIPredicate.eq 128#32 0#32) 1#32 128#32)) 0#32)
          (Scalar.cmpi CmpIPredicate.slt (Scalar.select (Scalar.cmpi CmpIPredicate.eq 128#32 0#32) 1#32 128#32) 0#32))
        (IntOp.cmpi CmpIPredicate.ne (IntOp.remsi ArithUnit.vector (BitVec.ofNat 32 p) (Scalar.select (Scalar.cmpi CmpIPredicate.eq 128#32 0#32) 1#32 128#32)) 0#32))
      (IntOp.addi (IntOp.remsi ArithUnit.vector (BitVec.ofNat 32 p) (Scalar.select (Scalar.cmpi CmpIPredicate.eq 128#32 0#32) 1#32 128#32)) (Scalar.select (Scalar.cmpi CmpIPredicate.eq 128#32 0#32) 1#32 128#32))
      (IntOp.remsi ArithUnit.vector (BitVec.ofNat 32 p) (Scalar.select (Scalar.cmpi CmpIPredicate.eq 128#32 0#32) 1#32 128#32)) = BitVec.ofNat 32 (p.val % 128) := by decide +kernel
/-- The distance of a query from a key, in rows of blocks. -/
def distW (p : Fin 256) (i : Fin 128) : BitVec 32 :=
  IntOp.addi (IntOp.subi (BitVec.ofNat 32 i) (BitVec.ofNat 32 (p.val % 128))) (Scalar.select (IntOp.cmpi CmpIPredicate.slt (BitVec.ofNat 32 p) 128#32) 128#32 0#32)
theorem pay5_at (p : Fin 256) (i : Fin 128) : k0_pay5 (ix2 p i) = distW p i := by pointwise [k0_pay5]; rw [mod_word]; rfl
theorem reach_word : ∀ (p : Fin 256) (i : Fin 128), IntOp.andi (IntOp.cmpi CmpIPredicate.sge (distW p i) 0#32) (IntOp.cmpi CmpIPredicate.sle (distW p i) 128#32)
    = BitVec.ofBool (decide (i.val ≤ p.val ∧ p.val ≤ i.val + 128)) := by decide +kernel
theorem own_word : ∀ p : Fin 256, IntOp.cmpi CmpIPredicate.sge (BitVec.ofNat 32 p) 128#32 = BitVec.ofBool (decide (128 ≤ p.val)) := by decide +kernel
theorem times_word : ∀ (p : Fin 256) (i : Fin 128), (IntOp.muli (distW p i) 4294967280#32).toInt = -(16 * (128 + (i.val : ℤ) - (p.val : ℤ))) := by decide +kernel

theorem pay6_at (p : Fin 256) (i : Fin 128) : k0_pay6 (ix2 p i) = BitVec.ofBool (decide (i.val ≤ p.val ∧ p.val ≤ i.val + 128)) := by
  pointwise [k0_pay6]; rw [pay5_at]; exact reach_word p i
theorem pay8_at (p : Fin 256) (i : Fin 128) : k0_pay8 (ix2 p i) = BitVec.ofBool (decide ((i.val ≤ p.val ∧ p.val ≤ i.val + 128) ∧ 128 ≤ p.val)) := by
  pointwise [k0_pay8]; rw [pay6_at, own_word]
  rw [Bool.decide_and (_ ∧ _)]
  generalize decide (i.val ≤ p.val ∧ p.val ≤ i.val + 128) = x
  generalize decide (128 ≤ p.val) = y
  cases x <;> cases y <;> rfl
theorem pay7_at (p : Fin 256) (i : Fin 128) : k0_pay7 (F := Ideal) (ix2 p i) = ((-(16 * (128 + i.val - p.val)) : ℝ) : EReal) := by
  pointwise [k0_pay7]
  rw [pay5_at]
  refine (congrArg (fun z : ℤ => ((z : ℝ) : EReal)) (times_word p i)).trans ?_
  push_cast; rfl

theorem slope_at (h g : Fin 4) : Step.slope (F := Ideal) ⟨4 * h.val + g.val, by omega⟩ = ((slope h g : ℝ) : EReal) := by
  have odd : ∀ n : ℕ, (Real.sqrt (2 ^ (2 * n)))⁻¹ = (1 / 2 : ℝ) ^ n := fun n => by
    rw [pow_mul', Real.sqrt_sq (by positivity), one_div, inv_pow]
  have key : ∀ (n : ℕ) (r : ℝ), r = (Real.sqrt (2 ^ (n + 1)))⁻¹ → ∀ x : EReal, x = (r : EReal) → x = (((Real.sqrt (2 ^ (n + 1)))⁻¹ : ℝ) : EReal) := fun n r h x hx => by rw [hx, h]
  unfold Cert.Attn.Real.slope
  fin_cases h <;> fin_cases g
  · exact key 0 _ (by norm_num) _ rfl
  · refine key 1 _ (odd 1).symm _ (Eq.trans (b := Ideal.ofBits .f32 0x3F000000#32) rfl ?_); simp [Ideal.ofBits, Ideal.ieee, -EReal.coe_mul]; norm_num
  · exact key 2 _ (by norm_num) _ rfl
  · refine key 3 _ (odd 2).symm _ (Eq.trans (b := Ideal.ofBits .f32 0x3E800000#32) rfl ?_); simp [Ideal.ofBits, Ideal.ieee, -EReal.coe_mul]; norm_num
  · exact key 4 _ (by norm_num) _ rfl
  · refine key 5 _ (odd 3).symm _ (Eq.trans (b := Ideal.ofBits .f32 0x3E000000#32) rfl ?_); simp [Ideal.ofBits, Ideal.ieee, -EReal.coe_mul]; norm_num
  · exact key 6 _ (by norm_num) _ rfl
  · refine key 7 _ (odd 4).symm _ (Eq.trans (b := Ideal.ofBits .f32 0x3D800000#32) rfl ?_); simp [Ideal.ofBits, Ideal.ieee, -EReal.coe_mul]; norm_num
  · exact key 8 _ (by norm_num) _ rfl
  · refine key 9 _ (odd 5).symm _ (Eq.trans (b := Ideal.ofBits .f32 0x3D000000#32) rfl ?_); simp [Ideal.ofBits, Ideal.ieee, -EReal.coe_mul]; norm_num
  · exact key 10 _ (by norm_num) _ rfl
  · refine key 11 _ (odd 6).symm _ (Eq.trans (b := Ideal.ofBits .f32 0x3C800000#32) rfl ?_); simp [Ideal.ofBits, Ideal.ieee, -EReal.coe_mul]; norm_num
  · exact key 12 _ (by norm_num) _ rfl
  · refine key 13 _ (odd 7).symm _ (Eq.trans (b := Ideal.ofBits .f32 0x3C000000#32) rfl ?_); simp [Ideal.ofBits, Ideal.ieee, -EReal.coe_mul]; norm_num
  · exact key 14 _ (by norm_num) _ rfl
  · refine key 15 _ (odd 8).symm _ (Eq.trans (b := Ideal.ofBits .f32 0x3B800000#32) rfl ?_); simp [Ideal.ofBits, Ideal.ieee, -EReal.coe_mul]; norm_num

theorem bias_at (w : Fin 2) (h g : Fin 4) (b : Fin 32) (hb : w.val = b.val / 16) (p : Fin 256) (i : Fin 128) :
    bias (F := Ideal) w ⟨4 * h.val + g.val, by omega⟩ (ix3 0 p i) = if ok b i p then ((-slope h g * (16 * (128 + i.val - p.val)) : ℝ) : EReal) else ⊥ := by
  have hm : Named.named (F := Ideal) κ "mask" (φ := .f32) 0xF149F2CA#32 = ⊥ := rfl
  have key : ∀ (M : IVec S256x128 1), M (ix2 p i) = BitVec.ofBool (decide (ok b i p)) →
      shapeCast S1x256x128 (select M (mulf (broadcast S256x128 (Step.slope (F := Ideal) ⟨4 * h.val + g.val, by omega⟩)) (k0_pay7 (F := Ideal)))
        (broadcast S256x128 (Named.named κ "mask" 0xF149F2CA#32))) shapeCasts_S256x128_S1x256x128 (ix3 0 p i)
      = if ok b i p then ((-slope h g * (16 * (128 + i.val - p.val)) : ℝ) : EReal) else ⊥ := by
    intro M hM
    pointwise
    rw [hM, pay7_at, slope_at, hm, ← EReal.coe_mul]
    by_cases ho : ok b i p
    · simp only [ho, decide_true, if_true]
      exact congrArg (fun z : ℝ => (z : EReal)) (by ring)
    · simp only [ho, decide_false, if_false]; rfl
  have hb' := b.isLt
  match w, hb with
  | 0, hb => exact key k0_pay8 ((pay8_at p i).trans (congrArg BitVec.ofBool (decide_eq_decide.2 (by unfold ok; simp at hb; omega))))
  | 1, hb => exact key k0_pay6 ((pay6_at p i).trans (congrArg BitVec.ofBool (decide_eq_decide.2 (by unfold ok; simp at hb; omega))))

/-- The table's rows that a point on block `b` reads. -/
theorem table_at (w : Fin 2) (h g : Fin 4) (b : Fin 32) (hb : w.val = b.val / 16) (p : Fin 256) (i : Fin 128) :
    Step.rowOf (F := Ideal) table ⟨16 * w.val + (4 * h.val + g.val), by omega⟩ (ix3 0 p i) = if ok b i p then ((-slope h g * (16 * (128 + i.val - p.val)) : ℝ) : EReal) else ⊥ := by
  rw [← bias_at w h g b hb p i]
  show bias ⟨(16 * w.val + (4 * h.val + g.val)) / 16, by omega⟩ ⟨(16 * w.val + (4 * h.val + g.val)) % 16, Nat.mod_lt _ (by omega)⟩ (ix3 0 p i) = _
  exact congrArg₂ (fun x y => bias x y (ix3 0 p i)) (Fin.ext (by simp only; omega)) (Fin.ext (by simp only; omega))

end Cert.AttnIdeal.Val
-- ==== Proof.AttnWords.lean ====
/- The words and the scores of the attention's forward pass, as the host computes them, at the reals. -/
module

public import proofs.«01_k».proof.Proof.AttnRow
public import Idealize.ShloMosaic.Lib.Pointwise
public import Idealize.ShloMosaic.Lib.IdealHost

@[expose] public section
set_option maxRecDepth 16384
noncomputable section
namespace Cert.Attn.Words
open Idealize.ShloMosaic Idealize.ShloMosaic.TcCoe Cert.Step Cert.Attn.Real

/-- The mask's word. -/
theorem mask_word : ∀ (i : Fin 128) (p : Fin 256),
    IntOp.andi (IntOp.cmpi CmpIPredicate.sge (IntOp.subi (IntOp.addi (128#32) (BitVec.ofNat 32 i)) (BitVec.ofNat 32 p)) 0#32)
      (IntOp.cmpi CmpIPredicate.sle (IntOp.subi (IntOp.addi (128#32) (BitVec.ofNat 32 i)) (BitVec.ofNat 32 p)) 128#32)
    = BitVec.ofBool (decide (i.val ≤ p.val ∧ p.val ≤ i.val + 128)) := by decide +kernel
theorem first_word : ∀ b : Fin 32, IntOp.cmpi CmpIPredicate.sge (BitVec.ofNat 32 b) 16#32 = BitVec.ofBool (decide (16 ≤ b.val)) := by decide +kernel
theorem own_word : ∀ p : Fin 256, IntOp.cmpi CmpIPredicate.sge (BitVec.ofNat 32 p) 128#32 = BitVec.ofBool (decide (128 ≤ p.val)) := by decide +kernel
theorem dist_word : ∀ (i : Fin 128) (p : Fin 256),
    (IntOp.muli (IntOp.subi (IntOp.addi (128#32) (BitVec.ofNat 32 i)) (BitVec.ofNat 32 p)) 16#32).toInt
      = 16 * (128 + (i.val : ℤ) - (p.val : ℤ)) := by decide +kernel
theorem head_word : ∀ h g : Fin 4, (BitVec.ofNat 32 (h.val * 4 + g.val)).toInt = ((h.val * 4 + g.val : ℕ) : ℤ) := by decide +kernel
theorem ofBits_neg_half : Ideal.ofBits .f32 0xBF000000#32 = ((-(1 / 2) : ℝ) : EReal) := by
  simp [Ideal.ofBits, Ideal.ieee, -EReal.coe_mul]; norm_num
theorem ofBits_bot : Ideal.ofBits .f32 0xFF800000#32 = ⊥ := by simp [Ideal.ofBits, Ideal.ieee]

theorem slope_word (h g : Fin 4) : Ideal.pow (Ideal.ofBits FTy.f32 1073741824#32)
    (Ideal.ofBits FTy.f32 3204448256#32 * (FloatOps.sitofp (F := Ideal) FTy.f32 (BitVec.ofNat 32 (h.val * 4 + g.val)) + 1)) = ((slope h g : ℝ) : EReal) := by
  rw [show FloatOps.sitofp (F := Ideal) FTy.f32 (BitVec.ofNat 32 (h.val * 4 + g.val)) = (((h.val * 4 + g.val : ℕ) : ℝ) : EReal) from
    congrArg (fun z : ℤ => ((z : ℝ) : EReal)) (head_word h g)]
  rw [ofBits_two, show Ideal.ofBits FTy.f32 3204448256#32 = _ from ofBits_neg_half, ← EReal.coe_one, ← EReal.coe_add, ← EReal.coe_mul, Ideal.pow_coe_coe, slope_pow]
  rfl

theorem ok_word (b : Fin 32) (i : Fin 128) (p : Fin 256) :
    IntOp.andi (IntOp.andi (IntOp.cmpi CmpIPredicate.sge (IntOp.subi (IntOp.addi (128#32) (BitVec.ofNat 32 i)) (BitVec.ofNat 32 p)) 0#32)
        (IntOp.cmpi CmpIPredicate.sle (IntOp.subi (IntOp.addi (128#32) (BitVec.ofNat 32 i)) (BitVec.ofNat 32 p)) 128#32))
      (IntOp.ori (IntOp.cmpi CmpIPredicate.sge (BitVec.ofNat 32 b) 16#32) (IntOp.cmpi CmpIPredicate.sge (BitVec.ofNat 32 p) 128#32))
    = BitVec.ofBool (decide (ok b i p)) := by
  rw [mask_word, first_word, own_word]
  rw [show decide (ok b i p) = (decide (i.val ≤ p.val ∧ p.val ≤ i.val + 128) && (decide (16 ≤ b.val) || decide (128 ≤ p.val))) from by
    rw [← Bool.decide_or, ← Bool.decide_and]; exact decide_eq_decide.2 Iff.rfl]
  generalize decide (i.val ≤ p.val ∧ p.val ≤ i.val + 128) = x
  generalize decide (16 ≤ b.val) = y
  generalize decide (128 ≤ p.val) = z
  cases x <;> cases y <;> cases z <;> rfl

/-- The masked score of key `p` for query `i`, from the words. -/
theorem score_word {q : Fin 4096 → Fin 1024 → ℝ} {k : Fin 4096 → Fin 256 → ℝ} (b : Fin 32) (h g : Fin 4) (i : Fin 128) (p : Fin 256) {w : BitVec 1}
    (hw : w = BitVec.ofBool (decide (ok b i p))) (A B : Fin 64 → EReal) (hA : ∀ e, A e = ((win k b p h e : ℝ) : EReal)) (hB : ∀ e, B e = ((heads q b i h g e : ℝ) : EReal)) :
    Scalar.select w (∑ e, A e * B e + -Ideal.pow (Ideal.ofBits FTy.f32 1073741824#32)
          (Ideal.ofBits FTy.f32 3204448256#32 * (FloatOps.sitofp (F := Ideal) FTy.f32 (BitVec.ofNat 32 (h.val * 4 + g.val)) + 1))
        * FloatOps.sitofp (F := Ideal) FTy.f32 (IntOp.muli (IntOp.subi (IntOp.addi (128#32) (BitVec.ofNat 32 i)) (BitVec.ofNat 32 p)) 16#32))
      (Ideal.ofBits FTy.f32 4286578688#32) = Cert.Attn.Row.score (ok b i) (sc q k b h g i) p := by
  simp only [hA, hB, ← EReal.coe_mul, coe_sum]
  rw [hw, slope_word, show FloatOps.sitofp (F := Ideal) FTy.f32 (IntOp.muli (IntOp.subi (IntOp.addi (128#32) (BitVec.ofNat 32 i)) (BitVec.ofNat 32 p)) 16#32)
    = (((16 * (128 + (i.val : ℤ) - (p.val : ℤ)) : ℤ) : ℝ) : EReal) from congrArg (fun z : ℤ => ((z : ℝ) : EReal)) (dist_word i p)]
  rw [← EReal.coe_neg, ← EReal.coe_mul, ← EReal.coe_add, show Ideal.ofBits FTy.f32 4286578688#32 = _ from ofBits_bot]
  unfold Cert.Attn.Row.score sc
  by_cases hok : ok b i p
  · simp only [hok, decide_true, if_true]; push_cast; rfl
  · simp only [hok, decide_false, if_false]; rfl

/-- What the window of a block holds, read from the whole array. -/
theorem win_word {x : Fin 4096 → Fin 256 → ℝ} {A : Idealize.ShloMosaic.FVec Ideal ⟨2, ![4096, 256]⟩ .f32} (hA : A = fun j => (x (j 0) (j 1) : EReal))
    (b : Fin 32) (p : Fin 256) (h : Fin 4) (e : Fin 64) :
    (if h1 : p.val < 128 then
      if h2 : b.val < 16 then 0
      else A (ix2 ⟨(b.val - 16) / 16 * 2048 + p.val * 16 + (b.val - 16) % 16, by omega⟩ ⟨h.val * 64 + e.val, by omega⟩)
    else A (ix2 ⟨b.val / 16 * 2048 + (p.val - 128) * 16 + b.val % 16, by omega⟩ ⟨h.val * 64 + e.val, by omega⟩)) = ((win x b p h e : ℝ) : EReal) := by
  unfold win
  by_cases h1 : p.val < 128
  · by_cases h2 : b.val < 16
    · simp only [h1, h2, dite_true, if_true]; rfl
    · simp only [h1, h2, dite_true, dite_false, if_true, if_false]; exact congrFun hA _
  · simp only [h1, dite_false, if_false]; exact congrFun hA _
end Cert.Attn.Words
-- ==== Proof.AttnHost.lean ====
/- The host's forward pass before the attention gradient kernel, at the reals. -/
module

public import proofs.«01_k».proof.Proof.AttnWords
public import proofs.«01_k».proof.Proof.AttnFrame
public import Idealize.ShloMosaic.Lib.Pointwise
public import Idealize.ShloMosaic.Lib.StableHlo.ReadAt

@[expose] public section
set_option maxRecDepth 16384
noncomputable section
namespace Cert.AttnIdeal.Val
open Idealize.ShloMosaic Idealize.ShloMosaic.TcCoe Idealize.SL.Sem Cert.AttnIdeal Cert.AttnIdeal.Gen Cert.AttnIdeal.Step Cert.Step
open Cert.Attn.Real Cert.Attn.Words StableHlo

/-! ## Three stretches: to the scores, to their exponentials, to the kernel's operands -/

variable (X : Valuation τ sig (Elt Ideal))

def upA : Valuation τ sig (Elt Ideal) := after (hostOps0.take 61) X
def upB : Valuation τ sig (Elt Ideal) := after ((hostOps0.drop 61).take 7) X
def upC : Valuation τ sig (Elt Ideal) := after (hostOps0.drop 68) X

variable {X} {q : Fin 4096 → Fin 1024 → ℝ} {k v : Fin 4096 → Fin 256 → ℝ} {d : Fin 4096 → Fin 1024 → ℝ}

theorem upA_arg0 : upA X (Proc.devRef .tc main_arg0) = X (Proc.devRef .tc main_arg0) := by unfold upA; after_reads_simp
theorem upA_arg1 : upA X (Proc.devRef .tc main_arg1) = X (Proc.devRef .tc main_arg1) := by unfold upA; after_reads_simp
theorem upA_arg2 : upA X (Proc.devRef .tc main_arg2) = X (Proc.devRef .tc main_arg2) := by unfold upA; after_reads_simp
theorem upA_arg3 : upA X (Proc.devRef .tc main_arg3) = X (Proc.devRef .tc main_arg3) := by unfold upA; after_reads_simp
theorem upB_arg0 : upB X (Proc.devRef .tc main_arg0) = X (Proc.devRef .tc main_arg0) := by unfold upB; after_reads_simp
theorem upB_arg1 : upB X (Proc.devRef .tc main_arg1) = X (Proc.devRef .tc main_arg1) := by unfold upB; after_reads_simp
theorem upB_arg2 : upB X (Proc.devRef .tc main_arg2) = X (Proc.devRef .tc main_arg2) := by unfold upB; after_reads_simp
theorem upB_arg3 : upB X (Proc.devRef .tc main_arg3) = X (Proc.devRef .tc main_arg3) := by unfold upB; after_reads_simp
theorem upB_v24 : upB X (Proc.devRef .tc main_v24) = X (Proc.devRef .tc main_v24) := by unfold upB; after_reads_simp

theorem a17 (hk : X (Proc.devRef .tc main_arg1) = fun j => (k (j 0) (j 1) : EReal)) (b : Fin 32) (p : Fin 256) (h : Fin 4) (e : Fin 64) :
    (upA X (Proc.devRef .tc main_v17) : FVec Ideal S32x256x4x64 .f32) (ix4 b p h e) = ((win k b p h e : ℝ) : EReal) := by
  unfold upA
  after_reads_simp
  pointwise
  after_reads_simp
  pointwise
  exact win_word hk b p h e
theorem a24 (hv : X (Proc.devRef .tc main_arg2) = fun j => (v (j 0) (j 1) : EReal)) (b : Fin 32) (p : Fin 256) (h : Fin 4) (e : Fin 64) :
    (upA X (Proc.devRef .tc main_v24) : FVec Ideal S32x256x4x64 .f32) (ix4 b p h e) = ((win v b p h e : ℝ) : EReal) := by
  unfold upA
  after_reads_simp
  pointwise
  after_reads_simp
  pointwise
  exact win_word hv b p h e
theorem a51 (hq : X (Proc.devRef .tc main_arg0) = fun j => (q (j 0) (j 1) : EReal)) (hk : X (Proc.devRef .tc main_arg1) = fun j => (k (j 0) (j 1) : EReal))
    (b : Fin 32) (h g : Fin 4) (i : Fin 128) (p : Fin 256) :
    (upA X (Proc.devRef .tc main_v51) : FVec Ideal S32x4x4x128x256 .f32) (ix5 b h g i p) = Cert.Attn.Row.score (ok b i) (sc q k b h g i) p := by
  unfold upA
  after_reads_simp
  pointwise
  after_reads_simp
  pointwise
  refine score_word b h g i p (ok_word b i p) _ _ (fun e => ?_) (fun e => ?_)
  · exact win_word hk b p h e
  · exact congrFun hq _

/-- The scores, a row's shift, its exponentials and their sum. -/
abbrev e51 (X : Valuation τ sig (Elt Ideal)) (b : Fin 32) (h g : Fin 4) (i : Fin 128) (p : Fin 256) : EReal :=
  (X (Proc.devRef .tc main_v51) : FVec Ideal S32x4x4x128x256 .f32) (ix5 b h g i p)
abbrev e52 (X : Valuation τ sig (Elt Ideal)) (b : Fin 32) (h g : Fin 4) (i : Fin 128) : EReal := (X (Proc.devRef .tc main_v52) : FVec Ideal S32x4x4x128 .f32) (ix4 b h g i)
abbrev e55 (X : Valuation τ sig (Elt Ideal)) (b : Fin 32) (h g : Fin 4) (i : Fin 128) (p : Fin 256) : EReal :=
  (X (Proc.devRef .tc main_v55) : FVec Ideal S32x4x4x128x256 .f32) (ix5 b h g i p)
abbrev e56 (X : Valuation τ sig (Elt Ideal)) (b : Fin 32) (h g : Fin 4) (i : Fin 128) : EReal := (X (Proc.devRef .tc main_v56) : FVec Ideal S32x4x4x128 .f32) (ix4 b h g i)

/-- The rows of the scores after the second stretch: shift, exponentials, their sum. -/
structure Soft (X : Valuation τ sig (Elt Ideal)) (q : Fin 4096 → Fin 1024 → ℝ) (k v : Fin 4096 → Fin 256 → ℝ) (d : Fin 4096 → Fin 1024 → ℝ) : Prop where
  hq : X (Proc.devRef .tc main_arg0) = fun j => (q (j 0) (j 1) : EReal)
  hk : X (Proc.devRef .tc main_arg1) = fun j => (k (j 0) (j 1) : EReal)
  hv : X (Proc.devRef .tc main_arg2) = fun j => (v (j 0) (j 1) : EReal)
  hd : X (Proc.devRef .tc main_arg3) = fun j => (d (j 0) (j 1) : EReal)
  hw : ∀ (b : Fin 32) (p : Fin 256) (h : Fin 4) (e : Fin 64), (X (Proc.devRef .tc main_v24) : FVec Ideal S32x256x4x64 .f32) (ix4 b p h e) = ((win v b p h e : ℝ) : EReal)
  rows : ∀ (b : Fin 32) (h g : Fin 4) (i : Fin 128), ∃ μ : ℝ, e52 X b h g i = (μ : EReal)
    ∧ (∀ p : Fin 256, e55 X b h g i p = ((Cert.Attn.Row.raw (ok b i) (sc q k b h g i) μ p : ℝ) : EReal))
    ∧ e56 X b h g i = ((Cert.Attn.Row.total (ok b i) (sc q k b h g i) μ : ℝ) : EReal)

theorem b52 (b : Fin 32) (h g : Fin 4) (i : Fin 128) : e52 (upB X) b h g i = Finset.univ.fold max (Ideal.ofBits FTy.f32 4286578688#32) (e51 X b h g i) := by
  unfold e52 upB
  after_reads_simp
  pointwise
theorem b55' (b : Fin 32) (h g : Fin 4) (i : Fin 128) (p : Fin 256) : e55 (upB X) b h g i p
    = Ideal.exp (e51 X b h g i p - Finset.univ.fold max (Ideal.ofBits FTy.f32 4286578688#32) (e51 X b h g i)) := by
  unfold e55 upB
  after_reads_simp
  pointwise
theorem b55 (b : Fin 32) (h g : Fin 4) (i : Fin 128) (p : Fin 256) : e55 (upB X) b h g i p = Ideal.exp (e51 X b h g i p - e52 (upB X) b h g i) := by
  rw [b52, b55']
theorem b56 (b : Fin 32) (h g : Fin 4) (i : Fin 128) : e56 (upB X) b h g i = ∑ p : Fin 256, e55 (upB X) b h g i p := by
  refine Eq.trans ?_ (Finset.sum_congr rfl fun p _ => (b55' b h g i p).symm)
  unfold e56 upB
  after_reads_simp
  pointwise

theorem soft (hq : X (Proc.devRef .tc main_arg0) = fun j => (q (j 0) (j 1) : EReal)) (hk : X (Proc.devRef .tc main_arg1) = fun j => (k (j 0) (j 1) : EReal))
    (hv : X (Proc.devRef .tc main_arg2) = fun j => (v (j 0) (j 1) : EReal)) (hd : X (Proc.devRef .tc main_arg3) = fun j => (d (j 0) (j 1) : EReal)) :
    Soft (upB (upA X)) q k v d where
  hq := upB_arg0.trans (upA_arg0.trans hq)
  hk := upB_arg1.trans (upA_arg1.trans hk)
  hv := upB_arg2.trans (upA_arg2.trans hv)
  hd := upB_arg3.trans (upA_arg3.trans hd)
  hw b p h e := (congrFun upB_v24 _).trans (a24 hv b p h e)
  rows b h g i := by
    obtain ⟨μ, hμ⟩ := Cert.Attn.Row.max_real (sc q k b h g i) (ok_self b i)
    have e0 : e51 (upA X) b h g i = Cert.Attn.Row.score (ok b i) (sc q k b h g i) := funext fun p => a51 hq hk b h g i p
    have e1 : e52 (upB (upA X)) b h g i = (μ : EReal) := by
      rw [b52, e0, show Ideal.ofBits FTy.f32 4286578688#32 = _ from ofBits_bot]; exact hμ
    have e2 : ∀ p : Fin 256, e55 (upB (upA X)) b h g i p = ((Cert.Attn.Row.raw (ok b i) (sc q k b h g i) μ p : ℝ) : EReal) :=
      fun p => by rw [b55, e1, e0]; exact Cert.Attn.Row.exp_score _ _ μ p
    exact ⟨μ, e1, e2, (b56 b h g i).trans ((Finset.sum_congr rfl fun p _ => e2 p).trans (coe_sum _ _))⟩

/-! ## The operands of the kernel -/

theorem c93 (S : Soft X q k v d) (P : Fin 32) (r : Fin 16) (y : Fin 8) (l : Fin 1024) : (upC X (Proc.devRef .tc main_v93) : FVec Ideal S32x16x8x1024 .f32) (ix4 P r y l)
    = ((q ⟨P.val * 128 + y.val * 16 + r.val, by omega⟩ l : ℝ) : EReal) := by
  unfold upC
  after_reads_simp
  pointwise
  exact congrFun S.hq _
theorem c94 (S : Soft X q k v d) (P : Fin 32) (r : Fin 16) (y : Fin 8) (l : Fin 1024) : (upC X (Proc.devRef .tc main_v94) : FVec Ideal S32x16x8x1024 .f32) (ix4 P r y l)
    = ((d ⟨P.val * 128 + y.val * 16 + r.val, by omega⟩ l : ℝ) : EReal) := by
  unfold upC
  after_reads_simp
  pointwise
  exact congrFun S.hd _
theorem kv_word {A B : FVec Ideal S4096x256 .f32} (hA : A = fun j => (k (j 0) (j 1) : EReal)) (hB : B = fun j => (v (j 0) (j 1) : EReal)) (s : Fin 4096) (l : Fin 512) :
    (if h : l.val < 256 then A (ix2 s ⟨l.val, h⟩) else B (ix2 s ⟨l.val - 256, by omega⟩))
      = ((if h : l.val < 256 then k s ⟨l.val, h⟩ else v s ⟨l.val - 256, by omega⟩ : ℝ) : EReal) := by
  by_cases h : l.val < 256
  · simp only [h, dite_true]; exact congrFun hA _
  · simp only [h, dite_false]; exact congrFun hB _
theorem c97 (S : Soft X q k v d) (P : Fin 32) (r : Fin 16) (y : Fin 8) (l : Fin 512) : (upC X (Proc.devRef .tc main_v97) : FVec Ideal S32x16x8x512 .f32) (ix4 P r y l)
    = ((if h : l.val < 256 then k ⟨P.val * 128 + y.val * 16 + r.val, by omega⟩ ⟨l.val, h⟩ else v ⟨P.val * 128 + y.val * 16 + r.val, by omega⟩ ⟨l.val - 256, by omega⟩ : ℝ) : EReal) := by
  unfold upC
  after_reads_simp
  pointwise
  after_reads_simp
  pointwise
  exact kv_word S.hk S.hv ⟨P.val * 128 + y.val * 16 + r.val, by omega⟩ l
theorem c98 (S : Soft X q k v d) (P : Fin 32) (r : Fin 16) (y : Fin 8) (l : Fin 512) : (upC X (Proc.devRef .tc main_v98) : FVec Ideal S32x16x8x512 .f32) (ix4 P r y l)
    = ((if h : l.val < 256 then k ⟨P.val * 128 + y.val * 16 + r.val, by omega⟩ ⟨l.val, h⟩ else v ⟨P.val * 128 + y.val * 16 + r.val, by omega⟩ ⟨l.val - 256, by omega⟩ : ℝ) : EReal) := by
  unfold upC
  after_reads_simp
  pointwise
  after_reads_simp
  pointwise
  exact kv_word S.hk S.hv ⟨P.val * 128 + y.val * 16 + r.val, by omega⟩ l

theorem ix4_of {n0 n1 n2 n3 : ℕ} {a a' : Fin n0} {b b' : Fin n1} {c c' : Fin n2} {e e' : Fin n3} (h0 : a.val = a'.val) (h1 : b.val = b'.val) (h2 : c.val = c'.val) (h3 : e.val = e'.val) :
    ix4 a b c e = ix4 a' b' c' e' := by rw [Fin.ext h0, Fin.ext h1, Fin.ext h2, Fin.ext h3]
theorem ix5_of {n0 n1 n2 n3 n4 : ℕ} {a a' : Fin n0} {b b' : Fin n1} {c c' : Fin n2} {e e' : Fin n3} {f f' : Fin n4} (h0 : a.val = a'.val) (h1 : b.val = b'.val) (h2 : c.val = c'.val) (h3 : e.val = e'.val)
    (h4 : f.val = f'.val) : ix5 a b c e f = ix5 a' b' c' e' f' := by rw [Fin.ext h0, Fin.ext h1, Fin.ext h2, Fin.ext h3, Fin.ext h4]

/-- The row of the blocks' array that holds row `i` of block `b`, at a lane. -/
abbrev atB (b : Fin 32) (i : Fin 128) {n : ℕ} (l : Fin n) :=
  ix4 (⟨16 * (b.val / 16) + i.val / 8, by omega⟩ : Fin 32) (⟨b.val % 16, by omega⟩ : Fin 16) (⟨i.val % 8, by omega⟩ : Fin 8) l

theorem log_real {x : ℝ} (hx : 0 < x) : Ideal.log (x : EReal) = ((Real.log x : ℝ) : EReal) := by
  show (if x ≤ 0 then (⊥ : EReal) else _) = _
  rw [if_neg (not_le.2 hx)]

theorem c95 (S : Soft X q k v d) (b : Fin 32) (i : Fin 128) (h g : Fin 4) :
    ∃ μ : ℝ, (upC X (Proc.devRef .tc main_v95) : FVec Ideal S32x16x8x128 .f32) (atB b i (⟨4 * h.val + g.val, by omega⟩ : Fin 128))
      = ((μ + Real.log (Cert.Attn.Row.total (ok b i) (sc q k b h g i) μ) : ℝ) : EReal) := by
  obtain ⟨μ, h1, -, h3⟩ := S.rows b h g i
  refine ⟨μ, ?_⟩
  unfold upC
  after_reads_simp
  pointwise
  after_reads_simp
  pointwise
  rw [dif_pos (show 4 * h.val + g.val < 16 by omega)]
  refine Eq.trans ?_ (congrArg₂ (fun x y : EReal => x + y) h1 ((congrArg Ideal.log h3).trans (log_real (Cert.Attn.Row.total_pos _ (ok_self b i) μ))))
  refine congrArg₂ (fun x y : S32x4x4x128.Idx => @HAdd.hAdd EReal EReal EReal _ ((X (Proc.devRef .tc main_v52) : FVec Ideal S32x4x4x128 .f32) x) (Ideal.log ((X (Proc.devRef .tc main_v56) : FVec Ideal S32x4x4x128 .f32) y))) ?_ ?_ <;>
  · refine ix4_of ?_ ?_ ?_ ?_ <;> dsimp only <;> omega
theorem delta_real {o : Fin 256 → Prop} [DecidablePred o] {s : Fin 256 → ℝ} {j₀ : Fin 256} (h : o j₀) (μ : ℝ) (D : Fin 64 → ℝ) (E : Fin 256 → Fin 64 → ℝ) :
    ∑ e, D e * ((∑ p, E p e * Cert.Attn.Row.raw o s μ p) / Cert.Attn.Row.total o s μ) = ∑ p, Cert.Attn.Row.weight o s p * ∑ e, D e * E p e := by
  simp only [Finset.sum_div, Finset.mul_sum]
  rw [Finset.sum_comm]
  refine Finset.sum_congr rfl fun p _ => Finset.sum_congr rfl fun e _ => ?_
  rw [← Cert.Attn.Row.raw_div o s μ p]; ring
theorem delta_of {o : Fin 256 → Prop} [DecidablePred o] {s : Fin 256 → ℝ} {j₀ : Fin 256} (h : o j₀) (μ : ℝ) (D : Fin 64 → ℝ) (E : Fin 256 → Fin 64 → ℝ)
    (A : Fin 64 → EReal) (B R : Fin 64 → Fin 256 → EReal) (T : Fin 64 → EReal) (hA : ∀ e, A e = (D e : EReal)) (hB : ∀ e p, B e p = (E p e : EReal))
    (hR : ∀ e p, R e p = ((Cert.Attn.Row.raw o s μ p : ℝ) : EReal)) (hT : ∀ e, T e = ((Cert.Attn.Row.total o s μ : ℝ) : EReal)) :
    ∑ e, A e * Ideal.div (∑ p, B e p * R e p) (T e) = ((∑ p, Cert.Attn.Row.weight o s p * ∑ e, D e * E p e : ℝ) : EReal) := by
  rw [← delta_real h μ, ← coe_sum]
  refine Finset.sum_congr rfl fun e _ => ?_
  simp only [hA, hB, hR, hT, ← EReal.coe_mul, coe_sum]
  rw [div_coe_ne (Cert.Attn.Row.total_pos s h μ).ne', ← EReal.coe_mul]
theorem c96 (S : Soft X q k v d) (b : Fin 32) (i : Fin 128) (h g : Fin 4) :
    (upC X (Proc.devRef .tc main_v96) : FVec Ideal S32x16x8x128 .f32) (atB b i (⟨4 * h.val + g.val, by omega⟩ : Fin 128))
      = ((∑ p, W q k b h g i p * D v d b h g i p : ℝ) : EReal) := by
  obtain ⟨μ, -, h2, h3⟩ := S.rows b h g i
  unfold upC
  after_reads_simp
  pointwise
  after_reads_simp
  pointwise
  rw [dif_pos (show 4 * h.val + g.val < 16 by omega)]
  refine delta_of (ok_self b i) μ (fun e => heads d b i h g e) (fun p e => win v b p h e) _ _ _ _ (fun e => ?_) (fun e p => ?_) (fun e p => ?_) (fun e => ?_)
  · refine (congrFun S.hd _).trans ?_
    unfold heads
    refine congrArg₂ (fun x y => ((d x y : ℝ) : EReal)) (Fin.ext ?_) (Fin.ext ?_)
    · show (16 * (b.val / 16) + i.val / 8) * 128 + i.val % 8 * 16 + b.val % 16 = b.val / 16 * 2048 + i.val * 16 + b.val % 16; omega
    · show (4 * h.val + g.val) * 64 + e.val = h.val * 256 + g.val * 64 + e.val; omega
  · refine Eq.trans (congrArg (X (Proc.devRef .tc main_v24) : FVec Ideal S32x256x4x64 .f32) (ix4_of ?_ ?_ ?_ ?_)) (S.hw b p h e) <;> dsimp only <;> omega
  · refine Eq.trans (congrArg (X (Proc.devRef .tc main_v55) : FVec Ideal S32x4x4x128x256 .f32) (ix5_of ?_ ?_ ?_ ?_ ?_)) (h2 p) <;> dsimp only <;> omega
  · refine Eq.trans (congrArg (X (Proc.devRef .tc main_v56) : FVec Ideal S32x4x4x128 .f32) (ix4_of ?_ ?_ ?_ ?_)) h3 <;> dsimp only <;> omega
end Cert.AttnIdeal.Val
-- ==== Proof.AttnIns.lean ====
/- What one point of the attention gradient kernel finds in its windows, at the reals. -/
module

public import proofs.«01_k».proof.Proof.AttnVal
public import proofs.«01_k».proof.Proof.AttnTable
public import proofs.«01_k».proof.Proof.AttnHost

@[expose] public section
set_option maxRecDepth 16384
noncomputable section
namespace Cert.AttnIdeal.Val
open Idealize.ShloMosaic Idealize.ShloMosaic.TcCoe Idealize.SL.Sem Cert.AttnIdeal Cert.AttnIdeal.Gen Cert.AttnIdeal.Step Cert.Step
open Cert.Attn.Real StableHlo

theorem idx : ∀ t : Fin cfg0.N, (t.val < 32 → win0_0.index t = ![t.val % 2, t.val / 2, 0, 0] ∧ win0_1.index t = ![t.val % 2, t.val / 2, 0, 0]
    ∧ win0_2.index t = ![t.val % 2, t.val / 2, 0, 0] ∧ win0_3.index t = ![t.val % 2, t.val / 2, 0, 0] ∧ win0_4.index t = ![t.val % 2, t.val / 2, 0, 0]
    ∧ win0_5.index t = ![0, t.val / 2, 0, 0]) ∧ win0_6.index t = ![min t.val 31 % 2, min t.val 31 / 2, 0, 0] ∧ win0_7.index t = ![(t.val - 1) % 2, (t.val - 1) / 2, 0, 0] :=
  (by decide +kernel : ∀ t : Fin grid0.N, _)

variable (m : (ℓ : Loc nD τ sig) → Buf (Elt Ideal) ℓ) (c : Dev nD)

/-- The host's operations before the kernel are the three stretches. -/
theorem V0_eq : V0 m c = upC (upB (upA fun b => m (c, b))) := by
  unfold upA upB upC
  rw [← after_append, ← after_append]
  rfl

section blocks
variable (t : Fin cfg0.N) (ht : t.val < 32) (b : Fin 32) (h1 : b.val / 16 = t.val % 2) (h2 : b.val % 16 = t.val / 2) (i : Fin 128)
include ht h1 h2
theorem emb0 (l : Fin 1024) : ((View.whole main_v93).slice (win0_0.rect t)).emb (at8 i l) = (atB b i l : S32x16x8x1024.Idx) := by unfold at8 atB; blk_ext [((idx t).1 ht).1]
theorem emb1 (l : Fin 1024) : ((View.whole main_v94).slice (win0_1.rect t)).emb (at8 i l) = (atB b i l : S32x16x8x1024.Idx) := by unfold at8 atB; blk_ext [((idx t).1 ht).2.1]
theorem emb2 (l : Fin 128) : ((View.whole main_v95).slice (win0_2.rect t)).emb (at8 i l) = (atB b i l : S32x16x8x128.Idx) := by unfold at8 atB; blk_ext [((idx t).1 ht).2.2.1]
theorem emb3 (l : Fin 128) : ((View.whole main_v96).slice (win0_3.rect t)).emb (at8 i l) = (atB b i l : S32x16x8x128.Idx) := by unfold at8 atB; blk_ext [((idx t).1 ht).2.2.2.1]
theorem emb4 (l : Fin 512) : ((View.whole main_v97).slice (win0_4.rect t)).emb (at8 i l) = (atB b i l : S32x16x8x512.Idx) := by unfold at8 atB; blk_ext [((idx t).1 ht).2.2.2.2.1]
theorem emb5 (l : Fin 512) : ((View.whole main_v98).slice (win0_5.rect t)).emb (at8 i l) = (ix4 ⟨i.val / 8, by omega⟩ ⟨b.val % 16, by omega⟩ ⟨i.val % 8, by omega⟩ l : S32x16x8x512.Idx) := by unfold at8; blk_ext [((idx t).1 ht).2.2.2.2.2]
theorem blk0 (l : Fin 1024) : (iblk m c 0 t : FVec Ideal S16x1x8x1024 .f32) (at8 i l) = (V m c main_v93 : FVec Ideal S32x16x8x1024 .f32) (atB b i l) :=
  congrArg (V m c main_v93) (emb0 t ht b h1 h2 i l)
theorem blk1 (l : Fin 1024) : (iblk m c 1 t : FVec Ideal S16x1x8x1024 .f32) (at8 i l) = (V m c main_v94 : FVec Ideal S32x16x8x1024 .f32) (atB b i l) :=
  congrArg (V m c main_v94) (emb1 t ht b h1 h2 i l)
theorem blk2 (l : Fin 128) : (iblk m c 2 t : FVec Ideal S16x1x8x128 .f32) (at8 i l) = (V m c main_v95 : FVec Ideal S32x16x8x128 .f32) (atB b i l) :=
  congrArg (V m c main_v95) (emb2 t ht b h1 h2 i l)
theorem blk3 (l : Fin 128) : (iblk m c 3 t : FVec Ideal S16x1x8x128 .f32) (at8 i l) = (V m c main_v96 : FVec Ideal S32x16x8x128 .f32) (atB b i l) :=
  congrArg (V m c main_v96) (emb3 t ht b h1 h2 i l)
theorem blk4 (l : Fin 512) : (iblk m c 4 t : FVec Ideal S16x1x8x512 .f32) (at8 i l) = (V m c main_v97 : FVec Ideal S32x16x8x512 .f32) (atB b i l) :=
  congrArg (V m c main_v97) (emb4 t ht b h1 h2 i l)
theorem blk5 (l : Fin 512) : (iblk m c 5 t : FVec Ideal S16x1x8x512 .f32) (at8 i l) = (V m c main_v98 : FVec Ideal S32x16x8x512 .f32) (ix4 ⟨i.val / 8, by omega⟩ ⟨b.val % 16, by omega⟩ ⟨i.val % 8, by omega⟩ l) :=
  congrArg (V m c main_v98) (emb5 t ht b h1 h2 i l)
end blocks

/-- The keys (or values) the kernel finds for block `b`: the block before it — the first block itself, where there is none — and its own. -/
def near (x : Fin 4096 → Fin 256 → ℝ) (b : Fin 32) (p : Fin 256) (h : Fin 4) (e : Fin 64) : ℝ :=
  if p.val < 128 then x ⟨p.val % 128 * 16 + b.val % 16, by omega⟩ ⟨h.val * 64 + e.val, by omega⟩
  else x ⟨b.val / 16 * 2048 + p.val % 128 * 16 + b.val % 16, by omega⟩ ⟨h.val * 64 + e.val, by omega⟩

theorem near_win (x : Fin 4096 → Fin 256 → ℝ) (b : Fin 32) (p : Fin 256) (hp : 16 ≤ b.val ∨ 128 ≤ p.val) : near x b p = win x b p := by
  funext h e
  unfold near win
  by_cases h1 : p.val < 128
  · rw [if_pos h1, if_pos h1]
    rw [if_neg (show ¬ b.val < 16 by omega)]
    refine congrArg (fun z => x z _) (Fin.ext ?_)
    show p.val % 128 * 16 + b.val % 16 = (b.val - 16) / 16 * 2048 + p.val * 16 + (b.val - 16) % 16; omega
  · rw [if_neg h1, if_neg h1]
    refine congrArg (fun z => x z _) (Fin.ext ?_)
    show b.val / 16 * 2048 + p.val % 128 * 16 + b.val % 16 = b.val / 16 * 2048 + (p.val - 128) * 16 + b.val % 16; omega

variable {q : Fin 4096 → Fin 1024 → ℝ} {k v : Fin 4096 → Fin 256 → ℝ} {d : Fin 4096 → Fin 1024 → ℝ}

/-- The arguments are arrays of reals. -/
structure Reals (q : Fin 4096 → Fin 1024 → ℝ) (k v : Fin 4096 → Fin 256 → ℝ) (d : Fin 4096 → Fin 1024 → ℝ) : Prop where
  hq : m (c, Proc.devRef .tc main_arg0) = fun j => (q (j 0) (j 1) : EReal)
  hk : m (c, Proc.devRef .tc main_arg1) = fun j => (k (j 0) (j 1) : EReal)
  hv : m (c, Proc.devRef .tc main_arg2) = fun j => (v (j 0) (j 1) : EReal)
  hd : m (c, Proc.devRef .tc main_arg3) = fun j => (d (j 0) (j 1) : EReal)

/-- A row of the blocks' array that holds query rows, at the reals. -/
theorem heads_of (x : Fin 4096 → Fin 1024 → ℝ) (b : Fin 32) (i : Fin 128) (e8 : Fin 8) (l : Fin 128) {s : Fin 4096} {z : Fin 1024}
    (hs : s.val = (16 * (b.val / 16) + i.val / 8) * 128 + i.val % 8 * 16 + b.val % 16) (hz : z.val = 128 * e8.val + l.val) : x s z = heads x b i (hd e8) (gr e8 l) (ln l) := by
  unfold heads
  refine congrArg₂ x (Fin.ext ?_) (Fin.ext ?_)
  · show s.val = b.val / 16 * 2048 + i.val * 16 + b.val % 16; omega
  · show z.val = e8.val / 2 * 256 + (2 * (e8.val % 2) + l.val / 64) * 64 + l.val % 64; omega

theorem kv_of (X : FVec Ideal S16x1x8x512 .f32) (Y : FVec Ideal S16x1x8x512 .f32) (b : Fin 32)
    (hX : ∀ (i : Fin 128) (l : Fin 512), X (at8 i l) = ((if h : l.val < 256 then k ⟨i.val / 8 * 128 + i.val % 8 * 16 + b.val % 16, by omega⟩ ⟨l.val, h⟩
      else v ⟨i.val / 8 * 128 + i.val % 8 * 16 + b.val % 16, by omega⟩ ⟨l.val - 256, by omega⟩ : ℝ) : EReal))
    (hY : ∀ (i : Fin 128) (l : Fin 512), Y (at8 i l) = ((if h : l.val < 256 then k ⟨(16 * (b.val / 16) + i.val / 8) * 128 + i.val % 8 * 16 + b.val % 16, by omega⟩ ⟨l.val, h⟩
      else v ⟨(16 * (b.val / 16) + i.val / 8) * 128 + i.val % 8 * 16 + b.val % 16, by omega⟩ ⟨l.val - 256, by omega⟩ : ℝ) : EReal)) (p : Fin 256) (h : Fin 4) (e : Fin 64) :
    (if (up p).val = 0 then X else Y) (at8 (lo p) (⟨64 * h.val + e.val, by omega⟩ : Fin 512)) = ((near k b p h e : ℝ) : EReal)
    ∧ (if (up p).val = 0 then X else Y) (at8 (lo p) (⟨256 + 64 * h.val + e.val, by omega⟩ : Fin 512)) = ((near v b p h e : ℝ) : EReal) := by
  unfold near
  by_cases hp : p.val < 128
  · rw [if_pos (show (up p).val = 0 by show p.val / 128 = 0; omega), hX, hX, dif_pos (show 64 * h.val + e.val < 256 by omega), dif_neg (show ¬ 256 + 64 * h.val + e.val < 256 by omega), if_pos hp, if_pos hp]
    constructor
    · refine congrArg₂ (fun a b => ((k a b : ℝ) : EReal)) (Fin.ext ?_) (Fin.ext ?_)
      · show p.val % 128 / 8 * 128 + p.val % 128 % 8 * 16 + b.val % 16 = p.val % 128 * 16 + b.val % 16; omega
      · show 64 * h.val + e.val = h.val * 64 + e.val; omega
    · refine congrArg₂ (fun a b => ((v a b : ℝ) : EReal)) (Fin.ext ?_) (Fin.ext ?_)
      · show p.val % 128 / 8 * 128 + p.val % 128 % 8 * 16 + b.val % 16 = p.val % 128 * 16 + b.val % 16; omega
      · show 256 + 64 * h.val + e.val - 256 = h.val * 64 + e.val; omega
  · rw [if_neg (show ¬ (up p).val = 0 by show ¬ p.val / 128 = 0; omega), hY, hY, dif_pos (show 64 * h.val + e.val < 256 by omega), dif_neg (show ¬ 256 + 64 * h.val + e.val < 256 by omega), if_neg hp, if_neg hp]
    constructor
    · refine congrArg₂ (fun a b => ((k a b : ℝ) : EReal)) (Fin.ext ?_) (Fin.ext ?_)
      · show (16 * (b.val / 16) + p.val % 128 / 8) * 128 + p.val % 128 % 8 * 16 + b.val % 16 = b.val / 16 * 2048 + p.val % 128 * 16 + b.val % 16; omega
      · show 64 * h.val + e.val = h.val * 64 + e.val; omega
    · refine congrArg₂ (fun a b => ((v a b : ℝ) : EReal)) (Fin.ext ?_) (Fin.ext ?_)
      · show (16 * (b.val / 16) + p.val % 128 / 8) * 128 + p.val % 128 % 8 * 16 + b.val % 16 = b.val / 16 * 2048 + p.val % 128 * 16 + b.val % 16; omega
      · show 256 + 64 * h.val + e.val - 256 = h.val * 64 + e.val; omega

variable {m c}

section read
variable (S : Soft (upB (upA fun b => m (c, b))) q k v d)
include S
theorem v93 (P : Fin 32) (r : Fin 16) (y : Fin 8) (l : Fin 1024) : (V m c main_v93 : FVec Ideal S32x16x8x1024 .f32) (ix4 P r y l)
    = ((q ⟨P.val * 128 + y.val * 16 + r.val, by omega⟩ l : ℝ) : EReal) :=
  (congrFun (congrFun (V0_eq m c) (Proc.devRef .tc main_v93)) (ix4 P r y l)).trans (c93 S P r y l)
theorem v94 (P : Fin 32) (r : Fin 16) (y : Fin 8) (l : Fin 1024) : (V m c main_v94 : FVec Ideal S32x16x8x1024 .f32) (ix4 P r y l)
    = ((d ⟨P.val * 128 + y.val * 16 + r.val, by omega⟩ l : ℝ) : EReal) :=
  (congrFun (congrFun (V0_eq m c) (Proc.devRef .tc main_v94)) (ix4 P r y l)).trans (c94 S P r y l)
theorem v95 (b : Fin 32) (i : Fin 128) (h g : Fin 4) : ∃ μ : ℝ, (V m c main_v95 : FVec Ideal S32x16x8x128 .f32) (atB b i (⟨4 * h.val + g.val, by omega⟩ : Fin 128))
      = ((μ + Real.log (Cert.Attn.Row.total (ok b i) (sc q k b h g i) μ) : ℝ) : EReal) :=
  (c95 S b i h g).imp fun _ hμ => (congrFun (congrFun (V0_eq m c) (Proc.devRef .tc main_v95)) _).trans hμ
theorem v96 (b : Fin 32) (i : Fin 128) (h g : Fin 4) : (V m c main_v96 : FVec Ideal S32x16x8x128 .f32) (atB b i (⟨4 * h.val + g.val, by omega⟩ : Fin 128))
      = ((∑ p, W q k b h g i p * D v d b h g i p : ℝ) : EReal) :=
  (congrFun (congrFun (V0_eq m c) (Proc.devRef .tc main_v96)) _).trans (c96 S b i h g)
theorem v97 (P : Fin 32) (r : Fin 16) (y : Fin 8) (l : Fin 512) : (V m c main_v97 : FVec Ideal S32x16x8x512 .f32) (ix4 P r y l)
    = ((if h : l.val < 256 then k ⟨P.val * 128 + y.val * 16 + r.val, by omega⟩ ⟨l.val, h⟩ else v ⟨P.val * 128 + y.val * 16 + r.val, by omega⟩ ⟨l.val - 256, by omega⟩ : ℝ) : EReal) :=
  (congrFun (congrFun (V0_eq m c) (Proc.devRef .tc main_v97)) (ix4 P r y l)).trans (c97 S P r y l)
theorem v98 (P : Fin 32) (r : Fin 16) (y : Fin 8) (l : Fin 512) : (V m c main_v98 : FVec Ideal S32x16x8x512 .f32) (ix4 P r y l)
    = ((if h : l.val < 256 then k ⟨P.val * 128 + y.val * 16 + r.val, by omega⟩ ⟨l.val, h⟩ else v ⟨P.val * 128 + y.val * 16 + r.val, by omega⟩ ⟨l.val - 256, by omega⟩ : ℝ) : EReal) :=
  (congrFun (congrFun (V0_eq m c) (Proc.devRef .tc main_v98)) (ix4 P r y l)).trans (c98 S P r y l)

variable (t : Fin cfg0.N) (ht : t.val < 32) (b : Fin 32) (h1 : b.val / 16 = t.val % 2) (h2 : b.val % 16 = t.val / 2)
include ht h1 h2

theorem q_in (e8 : Fin 8) (i l : Fin 128) : (iblk m c 0 t : FVec Ideal S16x1x8x1024 .f32) (at8 i (⟨128 * e8.val + l.val, by omega⟩ : Fin 1024))
    = ((heads q b i (hd e8) (gr e8 l) (ln l) : ℝ) : EReal) := by
  rw [blk0 m c t ht b h1 h2, v93 S]
  exact congrArg (fun z : ℝ => (z : EReal)) (heads_of q b i e8 l rfl rfl)
theorem d_in (e8 : Fin 8) (i l : Fin 128) : (iblk m c 1 t : FVec Ideal S16x1x8x1024 .f32) (at8 i (⟨128 * e8.val + l.val, by omega⟩ : Fin 1024))
    = ((heads d b i (hd e8) (gr e8 l) (ln l) : ℝ) : EReal) := by
  rw [blk1 m c t ht b h1 h2, v94 S]
  exact congrArg (fun z : ℝ => (z : EReal)) (heads_of d b i e8 l rfl rfl)
theorem lse_in (i : Fin 128) (h g : Fin 4) : ∃ μ : ℝ, (iblk m c 2 t : FVec Ideal S16x1x8x128 .f32) (at8 i (⟨4 * h.val + g.val, by omega⟩ : Fin 128))
    = ((μ + Real.log (Cert.Attn.Row.total (ok b i) (sc q k b h g i) μ) : ℝ) : EReal) := by
  rw [blk2 m c t ht b h1 h2]; exact v95 S b i h g
theorem dl_in (i : Fin 128) (h g : Fin 4) : (iblk m c 3 t : FVec Ideal S16x1x8x128 .f32) (at8 i (⟨4 * h.val + g.val, by omega⟩ : Fin 128))
    = ((∑ p, W q k b h g i p * D v d b h g i p : ℝ) : EReal) := by
  rw [blk3 m c t ht b h1 h2]; exact v96 S b i h g
theorem kv_in (p : Fin 256) (h : Fin 4) (e : Fin 64) :
    k0_pay47 (F := Ideal) (iblk m c 5 t) (iblk m c 4 t) (ix2 p (⟨64 * h.val + e.val, by omega⟩ : Fin 512)) = ((near k b p h e : ℝ) : EReal)
    ∧ k0_pay47 (F := Ideal) (iblk m c 5 t) (iblk m c 4 t) (ix2 p (⟨256 + 64 * h.val + e.val, by omega⟩ : Fin 512)) = ((near v b p h e : ℝ) : EReal) := by
  have e5 := fun (i : Fin 128) (l : Fin 512) => blk5 m c t ht b h1 h2 i l
  have e4 := fun (i : Fin 128) (l : Fin 512) => blk4 m c t ht b h1 h2 i l
  simp only [v97 S, v98 S] at e4 e5
  rw [pay47_at, pay47_at]
  exact kv_of (iblk m c 5 t) (iblk m c 4 t) b e5 e4 p h e
end read

theorem lanes8_at (X : FVec Ideal S16x1x8x1024 .f32) (e : Fin 8) (i l : Fin 128) : lanes8 (F := Ideal) X e (at8 i l) = X (at8 i (⟨128 * e.val + l.val, by omega⟩ : Fin 1024)) := rfl

theorem ops_q (t : Fin cfg0.N) : (opsOf m c t).q = lanes8 (ins m c t).q := rfl
theorem ops_d (t : Fin cfg0.N) : (opsOf m c t).d = lanes8 (ins m c t).d := rfl
theorem ops_lse (t : Fin cfg0.N) : (opsOf m c t).lse = (ins m c t).lse := rfl
theorem ins_lse (t : Fin cfg0.N) : (ins m c t).lse = (iblk m c 2 t : FVec Ideal S16x1x8x128 .f32) := rfl
theorem ops_dl (t : Fin cfg0.N) : (opsOf m c t).dl = (ins m c t).dl := rfl
theorem ins_dl (t : Fin cfg0.N) : (ins m c t).dl = (iblk m c 3 t : FVec Ideal S16x1x8x128 .f32) := rfl
theorem ops_kc (t : Fin cfg0.N) : (opsOf m c t).kc = (ins m c t).kc := rfl
theorem ins_kc (t : Fin cfg0.N) : (ins m c t).kc = (iblk m c 4 t : FVec Ideal S16x1x8x512 .f32) := rfl
theorem ops_kp (t : Fin cfg0.N) : (opsOf m c t).kp = (ins m c t).kp := rfl
theorem ins_kp (t : Fin cfg0.N) : (ins m c t).kp = (iblk m c 5 t : FVec Ideal S16x1x8x512 .f32) := rfl
theorem ins_q (t : Fin cfg0.N) : (ins m c t).q = (iblk m c 0 t : FVec Ideal S16x1x8x1024 .f32) := rfl
theorem ins_d (t : Fin cfg0.N) : (ins m c t).d = (iblk m c 1 t : FVec Ideal S16x1x8x1024 .f32) := rfl

/-- What a point of the grid holds. -/
theorem holds (R : Reals m c q k v d) (t : Fin cfg0.N) (ht : t.val < 32) (b : Fin 32) (h1 : b.val / 16 = t.val % 2) (h2 : b.val % 16 = t.val / 2) :
    Holds q k v d (opsOf m c t) b (near k b) (near v b) := by
  have S := soft (X := fun b => m (c, b)) R.hq R.hk R.hv R.hd
  have hb : (baseOf (grid0.coords t)).val = b.val / 16 := by show (grid0.coords t 0).val % 2 = _; rw [coord0, h1]
  exact
    { xq := fun e8 i l => by
        rw [ops_q, lanes8_at, ins_q]
        exact q_in S t ht b h1 h2 e8 i l
      xd := fun e8 i l => by
        rw [ops_d, lanes8_at, ins_d]
        exact d_in S t ht b h1 h2 e8 i l
      xl := fun i h g => by rw [ops_lse, ins_lse]; exact lse_in S t ht b h1 h2 i h g
      xs := fun i h g => by rw [ops_dl, ins_dl]; exact dl_in S t ht b h1 h2 i h g
      kk := fun p h e => by rw [ops_kp, ops_kc, ins_kp, ins_kc]; exact (kv_in S t ht b h1 h2 p h e).1
      vv := fun p h e => by rw [ops_kp, ops_kc, ins_kp, ins_kc]; exact (kv_in S t ht b h1 h2 p h e).2
      hK := near_win k b
      hU := near_win v b
      xt := fun h g i p => by
        unfold opsOf ops
        exact table_at (baseOf (grid0.coords t)) h g b hb p i }
end Cert.AttnIdeal.Val
-- ==== Proof.AttnOut.lean ====
/- What the attention gradient kernel leaves in its arrays, and the three results, at the reals. -/
module

public import proofs.«01_k».proof.Proof.AttnIns

@[expose] public section
set_option maxRecDepth 16384
noncomputable section
namespace Cert.AttnIdeal.Val
open Idealize.ShloMosaic Idealize.ShloMosaic.TcCoe Idealize.SL.Sem Cert.AttnIdeal Cert.AttnIdeal.Gen Cert.AttnIdeal.Step Cert.Step
open Cert.Attn.Real StableHlo

variable (q : Fin 4096 → Fin 1024 → ℝ) (k v : Fin 4096 → Fin 256 → ℝ) (d : Fin 4096 → Fin 1024 → ℝ)

/-- The queries' gradient of a block's row at a lane; the keys' and values' gradients, beside one another, of both windows that hold the row. -/
def dqB (b : Fin 32) (i : Fin 128) (l : Fin 1024) : ℝ := dqR q k v d b i ⟨l.val / 256, by omega⟩ ⟨l.val / 64 % 4, Nat.mod_lt _ (by omega)⟩ ⟨l.val % 64, Nat.mod_lt _ (by omega)⟩
def kvP (b : Fin 32) (p : Fin 256) (l : Fin 512) : ℝ := kvR q k v d b p ⟨l.val / 128, by omega⟩ ⟨l.val % 128, Nat.mod_lt _ (by omega)⟩
def kvB (b : Fin 32) (i : Fin 128) (l : Fin 512) : ℝ :=
  kvP q k v d b ⟨128 + i.val, by omega⟩ l + if h : b.val < 16 then kvP q k v d ⟨16 + b.val, by omega⟩ ⟨i.val, by omega⟩ l else 0

/-- The first blocks' windows begin before the sequence: nothing comes of those rows. -/
theorem kvP_zero (b : Fin 32) (hb : b.val < 16) (p : Fin 256) (hp : p.val < 128) (l : Fin 512) : kvP q k v d b p l = 0 := by
  have hok : ∀ i, ¬ ok b i p := fun i h => by rcases h.2 with h | h <;> omega
  unfold kvP kvR dkW dvW
  split_ifs
  · refine Finset.sum_eq_zero fun i _ => Finset.sum_eq_zero fun g _ => ?_
    rw [show G q k v d b _ g i p = 0 from Cert.Attn.Row.grad_zero _ _ _ (hok i), zero_mul]
  · refine Finset.sum_eq_zero fun g _ => Finset.sum_eq_zero fun i _ => ?_
    rw [show W q k b _ g i p = 0 from Cert.Attn.Row.weight_zero _ _ (hok i), zero_mul]

theorem kvB_dk (b : Fin 32) (i : Fin 128) (l : Fin 256) : kvB q k v d b i ⟨l.val, by omega⟩ = Cert.Attn.Real.both (dkW q k v d) b i ⟨l.val / 64, by omega⟩ ⟨l.val % 64, Nat.mod_lt _ (by omega)⟩ := by
  have e : ∀ b p, kvP q k v d b p ⟨l.val, by omega⟩ = dkW q k v d b p ⟨l.val / 64, by omega⟩ ⟨l.val % 64, Nat.mod_lt _ (by omega)⟩ := fun b p => by
    unfold kvP kvR
    rw [if_pos (show l.val / 128 < 2 by omega)]
    refine congrArg₂ (dkW q k v d b p) (Fin.ext ?_) (Fin.ext ?_)
    · show (2 * (l.val / 128) + l.val % 128 / 64) % 4 = l.val / 64; omega
    · show l.val % 128 % 64 = l.val % 64; omega
  unfold kvB Cert.Attn.Real.both
  simp only [e]
theorem kvB_dv (b : Fin 32) (i : Fin 128) (l : Fin 256) : kvB q k v d b i ⟨256 + l.val, by omega⟩ = Cert.Attn.Real.both (dvW q k d) b i ⟨l.val / 64, by omega⟩ ⟨l.val % 64, Nat.mod_lt _ (by omega)⟩ := by
  have e : ∀ b p, kvP q k v d b p ⟨256 + l.val, by omega⟩ = dvW q k d b p ⟨l.val / 64, by omega⟩ ⟨l.val % 64, Nat.mod_lt _ (by omega)⟩ := fun b p => by
    unfold kvP kvR
    rw [if_neg (show ¬ (256 + l.val) / 128 < 2 by omega)]
    refine congrArg₂ (dvW q k d b p) (Fin.ext ?_) (Fin.ext ?_)
    · show (2 * ((256 + l.val) / 128) + (256 + l.val) % 128 / 64) % 4 = l.val / 64; omega
    · show (256 + l.val) % 128 % 64 = l.val % 64; omega
  unfold kvB Cert.Attn.Real.both
  simp only [e]

/-- The arrays' values. -/
abbrev blkAt (P : Fin 32) (r : Fin 16) : Fin 32 := ⟨16 * (P.val / 16) + r.val, by omega⟩
abbrev rowAt (P : Fin 32) (y : Fin 8) : Fin 128 := ⟨8 * (P.val % 16) + y.val, by omega⟩
def dqArr : FVec Ideal S32x16x8x1024 .f32 := fun j => ((dqB q k v d (blkAt (j 0) (j 1)) (rowAt (j 0) (j 2)) (j 3) : ℝ) : EReal)
def kvArr : FVec Ideal S32x16x8x512 .f32 := fun j => ((kvB q k v d (blkAt (j 0) (j 1)) (rowAt (j 0) (j 2)) (j 3) : ℝ) : EReal)
theorem blkAt_of (b : Fin 32) (i : Fin 128) : blkAt ⟨16 * (b.val / 16) + i.val / 8, by omega⟩ ⟨b.val % 16, by omega⟩ = b := Fin.ext (by
  show 16 * ((16 * (b.val / 16) + i.val / 8) / 16) + b.val % 16 = b.val; omega)
theorem rowAt_of (b : Fin 32) (i : Fin 128) : rowAt ⟨16 * (b.val / 16) + i.val / 8, by omega⟩ ⟨i.val % 8, by omega⟩ = i := Fin.ext (by
  show 8 * ((16 * (b.val / 16) + i.val / 8) % 16) + i.val % 8 = i.val; omega)
theorem dqArr_at (b : Fin 32) (i : Fin 128) (l : Fin 1024) : dqArr q k v d (atB b i l) = ((dqB q k v d b i l : ℝ) : EReal) :=
  congrArg₂ (fun x y => ((dqB q k v d x y l : ℝ) : EReal)) (blkAt_of b i) (rowAt_of b i)
theorem kvArr_at (b : Fin 32) (i : Fin 128) (l : Fin 512) : kvArr q k v d (atB b i l) = ((kvB q k v d b i l : ℝ) : EReal) :=
  congrArg₂ (fun x y => ((kvB q k v d x y l : ℝ) : EReal)) (blkAt_of b i) (rowAt_of b i)

theorem at8_of {n : ℕ} (y : (⟨4, ![16, 1, 8, n]⟩ : Idealize.ShloMosaic.Shape).Idx) : ∃ (i : Fin 128) (l : Fin n), y = at8 i l := by
  have h0 : (y 0).val < 16 := (y 0).isLt
  have h1 : (y 1).val < 1 := (y 1).isLt
  have h2 : (y 2).val < 8 := (y 2).isLt
  refine ⟨⟨8 * (y 0).val + (y 2).val, by omega⟩, y 3, ?_⟩
  funext a
  match a with
  | ⟨0, _⟩ => exact Fin.ext (show (y 0).val = (8 * (y 0).val + (y 2).val) / 8 by omega)
  | ⟨1, _⟩ => exact Fin.ext (show (y 1).val = 0 by omega)
  | ⟨2, _⟩ => exact Fin.ext (show (y 2).val = (8 * (y 0).val + (y 2).val) % 8 by omega)
  | ⟨3, _⟩ => rfl

variable {m : (ℓ : Loc nD τ sig) → Buf (Elt Ideal) ℓ} {c : Dev nD} {q k v d}

theorem emb6 (t : Fin cfg0.N) (b : Fin 32) (h1 : b.val / 16 = min t.val 31 % 2) (h2 : b.val % 16 = min t.val 31 / 2) (i : Fin 128) (l : Fin 1024) :
    ((View.whole main_v99_0).slice (win0_6.rect t)).emb (at8 i l) = (atB b i l : S32x16x8x1024.Idx) := by unfold at8 atB; blk_ext [(idx t).2.1]
theorem emb7 (t : Fin cfg0.N) (b : Fin 32) (h1 : b.val / 16 = (t.val - 1) % 2) (h2 : b.val % 16 = (t.val - 1) / 2) (i : Fin 128) (l : Fin 512) :
    ((View.whole main_v99_1).slice (win0_7.rect t)).emb (at8 i l) = (atB b i l : S32x16x8x512.Idx) := by unfold at8 atB; blk_ext [(idx t).2.2]
theorem flush7 : ∀ t : Fin cfg0.N, (cfg0.win 7).flush t = true → 1 ≤ t.val := by decide +kernel

theorem pay4_at (C : Vec Ideal S128x512 .f32) (i : Fin 128) (l : Fin 512) : k0_pay4 (F := Ideal) C (at8 i l) = C (ix2 i l) := by
  pointwise [k0_pay4]
  exact congrArg (fun z => C (ix2 z l)) (Fin.ext (show i.val / 8 * 8 + i.val % 8 = i.val by omega))

/-! A token's place in the blocks' array, through the two reshapes. -/

theorem tok0 (s : Fin 4096) : (s.val / 128 * 128 + s.val % 16 * 8 + s.val / 16 % 8) / 128 = s.val / 128 := by omega
theorem tok1 (s : Fin 4096) : (s.val / 128 * 128 + s.val % 16 * 8 + s.val / 16 % 8) / 8 % 16 = s.val % 16 := by
  rw [show s.val / 128 = s.val / 16 / 8 by omega]
  generalize s.val / 16 = a
  omega
theorem tok2 (s : Fin 4096) : (s.val / 128 * 128 + s.val % 16 * 8 + s.val / 16 % 8) % 8 = s.val / 16 % 8 := by omega

section
variable (R : Reals m c q k v d)
include R

theorem dqAt_at (s : Fin cfg0.N) (hs : s.val < 32) (b : Fin 32) (h1 : b.val / 16 = s.val % 2) (h2 : b.val % 16 = s.val / 2) (i : Fin 128) (l : Fin 1024) :
    dqAt m c s (at8 i l) = ((dqB q k v d b i l : ℝ) : EReal) := by
  rw [dqAt_of m c s hs]
  exact dqOutR (holds R s hs b h1 h2) i l

theorem carry_at (s : Fin cfg0.N) (hs : s.val < 32) (b : Fin 32) (h1 : b.val / 16 = s.val % 2) (h2 : b.val % 16 = s.val / 2) (i : Fin 128) (l : Fin 512) :
    carry m c (s.val + 1) (ix2 i l) = ((kvP q k v d b ⟨128 + i.val, by omega⟩ l : ℝ) : EReal) := by
  rw [carry_succ m c s hs]
  exact carryR (holds R s hs b h1 h2) i l

theorem kvAt_at (s t : Fin cfg0.N) (hs : s.val < 32) (hst : t.val = s.val + 1) (b : Fin 32) (h1 : b.val / 16 = s.val % 2) (h2 : b.val % 16 = s.val / 2) (i : Fin 128) (l : Fin 512) :
    kvAt m c t (at8 i l) = ((kvB q k v d b i l : ℝ) : EReal) := by
  have hlt : t.val < 33 := t.isLt
  have hc := carry_at R s hs b h1 h2 i l
  rw [← hst] at hc
  unfold kvB
  rw [EReal.coe_add]
  by_cases ht : t.val < 32
  · rw [kvAt_of m c t ht]
    refine (kvOutR (holds R t ht ⟨16 * (t.val % 2) + t.val / 2, by omega⟩ (by simp only; omega) (by simp only; omega)) (carry m c t.val) i l).trans ?_
    rw [hc]
    refine congrArg₂ (fun x y : EReal => x + y) rfl (congrArg (fun z : ℝ => (z : EReal)) ?_)
    by_cases hb : b.val < 16
    · rw [dif_pos hb]
      refine Eq.trans (b := kvP q k v d ⟨16 * (t.val % 2) + t.val / 2, by omega⟩ ⟨i.val, by omega⟩ l) rfl ?_
      refine congrArg (fun z => kvP q k v d z _ l) (Fin.ext ?_)
      show 16 * (t.val % 2) + t.val / 2 = 16 + b.val; omega
    · rw [dif_neg hb]
      have hb' : b.val / 16 = 1 := by omega
      have ht2 : t.val % 2 = 0 := by omega
      exact kvP_zero q k v d ⟨16 * (t.val % 2) + t.val / 2, by omega⟩ (by simp only; omega) ⟨i.val, by omega⟩ i.isLt l
  · rw [kvAt_end m c t (by omega), pay4_at, hc, dif_neg (show ¬ b.val < 16 by omega), EReal.coe_zero, add_zero]

theorem final6 : (dats m 0 c).arrAt 6 (cfgs 0).N = dqArr q k v d := by
  refine (dats m 0 c).arrAt_eq_of_covers 6 _ (by decide +kernel) fun t ht y => ?_
  have hlt : t.val < 33 := t.isLt
  blk_simp
  obtain ⟨i, l, rfl⟩ := at8_of y
  obtain ⟨b, h1, h2⟩ : ∃ b : Fin 32, b.val / 16 = min t.val 31 % 2 ∧ b.val % 16 = min t.val 31 / 2 :=
    ⟨⟨16 * (min t.val 31 % 2) + min t.val 31 / 2, by omega⟩, by simp only; omega, by simp only; omega⟩
  rw [emb6 t b h1 h2, after0_6, dqArr_at]
  by_cases h : t.val < 32
  · exact dqAt_at R t h b (by omega) (by omega) i l
  · rw [dqAt_end m c t ⟨31, by decide⟩ (by omega) rfl]
    exact dqAt_at R ⟨31, by decide⟩ (by simp only; omega) b (by simp only; omega) (by simp only; omega) i l

theorem final7 : (dats m 0 c).arrAt 7 (cfgs 0).N = kvArr q k v d := by
  refine (dats m 0 c).arrAt_eq_of_covers 7 _ (by decide +kernel) fun t ht y => ?_
  have hlt : t.val < 33 := t.isLt
  have h := flush7 t ht
  blk_simp
  obtain ⟨i, l, rfl⟩ := at8_of y
  obtain ⟨b, h1, h2⟩ : ∃ b : Fin 32, b.val / 16 = (t.val - 1) % 2 ∧ b.val % 16 = (t.val - 1) / 2 :=
    ⟨⟨16 * ((t.val - 1) % 2) + (t.val - 1) / 2, by omega⟩, by simp only; omega, by simp only; omega⟩
  rw [emb7 t b h1 h2, after0_7, kvArr_at]
  exact kvAt_at R ⟨t.val - 1, by show t.val - 1 < 33; omega⟩ t (by simp only; omega) (by simp only; omega) b h1 h2 i l

/-! ## The results -/

theorem tail107 (s : Fin 4096) (l : Fin 1024) : (Pipeline.afterTail₀ cfgs (dats m) 0 (V0 m) [hostOps1] c main_v107 : FVec Ideal S4096x1024 .f32) (ix2 s l)
    = dqArr q k v d (ix4 ⟨s.val / 128, by omega⟩ ⟨s.val % 16, by omega⟩ ⟨s.val / 16 % 8, by omega⟩ l) := by
  rw [← final6 R]
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.tc.devRef main_v99_0) =
      (dats m 0 c).arrAt 6 (cfgs 0).N := Pipeline.withArrays_arr (cfgs 0).spec (by decide) c _ _ 6
  rw [h]
  pointwise
  exact congrArg ((dats m 0 c).arrAt 6 (cfgs 0).N) (ix4_of (tok0 s) (tok1 s) (tok2 s) rfl)
theorem tail108 (s : Fin 4096) (l : Fin 256) : (Pipeline.afterTail₀ cfgs (dats m) 0 (V0 m) [hostOps1] c main_v108 : FVec Ideal S4096x256 .f32) (ix2 s l)
    = kvArr q k v d (ix4 ⟨s.val / 128, by omega⟩ ⟨s.val % 16, by omega⟩ ⟨s.val / 16 % 8, by omega⟩ ⟨l.val, by omega⟩) := by
  rw [← final7 R]
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.tc.devRef main_v99_1) =
      (dats m 0 c).arrAt 7 (cfgs 0).N := Pipeline.withArrays_arr (cfgs 0).spec (by decide) c _ _ 7
  rw [h]
  pointwise
  exact congrArg ((dats m 0 c).arrAt 7 (cfgs 0).N) (ix4_of (tok0 s) (tok1 s) (tok2 s) rfl)
theorem tail109 (s : Fin 4096) (l : Fin 256) : (Pipeline.afterTail₀ cfgs (dats m) 0 (V0 m) [hostOps1] c main_v109 : FVec Ideal S4096x256 .f32) (ix2 s l)
    = kvArr q k v d (ix4 ⟨s.val / 128, by omega⟩ ⟨s.val % 16, by omega⟩ ⟨s.val / 16 % 8, by omega⟩ ⟨256 + l.val, by omega⟩) := by
  rw [← final7 R]
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.tc.devRef main_v99_1) =
      (dats m 0 c).arrAt 7 (cfgs 0).N := Pipeline.withArrays_arr (cfgs 0).spec (by decide) c _ _ 7
  rw [h]
  pointwise
  exact congrArg ((dats m 0 c).arrAt 7 (cfgs 0).N) (ix4_of (tok0 s) (tok1 s) (tok2 s) rfl)
end
end Cert.AttnIdeal.Val
-- ==== Proof.AttnRefVal.lean ====
/- The reference's attention at the reals: each stage of its gradient coerced. -/
module

public import proofs.«01_k».proof.Proof.AttnWords
public import proofs.«01_k».proof.Proof.Gen.AttnRefIdeal.Run

@[expose] public section
set_option maxRecDepth 16384
noncomputable section
namespace Cert.AttnRefIdeal.Val
open Idealize.ShloMosaic Idealize.ShloMosaic.TcCoe Idealize.SL.Sem Cert.AttnRefIdeal Cert.AttnRefIdeal.Value Cert.AttnRefIdeal.Facts₀ Cert.Step
open Cert.Attn.Real Cert.Attn.Words

variable (V : Valuation τ sig (Elt Ideal)) {q : Fin 4096 → Fin 1024 → ℝ} {k v : Fin 4096 → Fin 256 → ℝ} {d : Fin 4096 → Fin 1024 → ℝ}
variable (hq : V (Proc.devRef .tc main_arg0) = fun j => (q (j 0) (j 1) : EReal)) (hk : V (Proc.devRef .tc main_arg1) = fun j => (k (j 0) (j 1) : EReal))
  (hv : V (Proc.devRef .tc main_arg2) = fun j => (v (j 0) (j 1) : EReal)) (hd : V (Proc.devRef .tc main_arg3) = fun j => (d (j 0) (j 1) : EReal))

include hq in
theorem r10 (b : Fin 32) (i : Fin 128) (h g : Fin 4) (e : Fin 64) : res_main_v10 (F := Ideal) V (ix5 b i h g e) = ((heads q b i h g e : ℝ) : EReal) := by
  pointwise [res_main_v10]
  exact congrFun hq _
include hd in
theorem r84 (b : Fin 32) (i : Fin 128) (h g : Fin 4) (e : Fin 64) : res_main_v84 (F := Ideal) V (ix5 b i h g e) = ((heads d b i h g e : ℝ) : EReal) := by
  pointwise [res_main_v84]
  exact congrFun hd _
include hk in
theorem r18 (b : Fin 32) (p : Fin 256) (h : Fin 4) (e : Fin 64) : res_main_v18 (F := Ideal) V (ix4 b p h e) = ((win k b p h e : ℝ) : EReal) := by
  pointwise [res_main_v18, res_main_v13]
  exact win_word hk b p h e
include hv in
theorem r26 (b : Fin 32) (p : Fin 256) (h : Fin 4) (e : Fin 64) : res_main_v26 (F := Ideal) V (ix4 b p h e) = ((win v b p h e : ℝ) : EReal) := by
  pointwise [res_main_v26, res_main_v21]
  exact win_word hv b p h e
theorem r50 (b : Fin 32) (h g : Fin 4) (i : Fin 128) (p : Fin 256) : res_main_v50 (F := Ideal) V (ix5 b h g i p) = BitVec.ofBool (decide (ok b i p)) := by
  pointwise [res_main_v50, res_main_v36, res_main_v31, res_main_v32, res_main_v33]
  exact ok_word b i p
include hq hk in
theorem r53 (b : Fin 32) (h g : Fin 4) (i : Fin 128) (p : Fin 256) :
    res_main_v53 (F := Ideal) V (ix5 b h g i p) = Cert.Attn.Row.score (ok b i) (sc q k b h g i) p := by
  pointwise [res_main_v53, res_main_v36, res_main_v31, res_main_v32, res_main_v33]
  exact score_word b h g i p (r50 V b h g i p) _ _ (r18 V hk b p h) (r10 V hq b i h g)
include hq hk in
/-- The row's maximum is some real; what follows of a row is read at that real. -/
theorem r55 (b : Fin 32) (h g : Fin 4) (i : Fin 128) : ∃ μ : ℝ, res_main_v55 (F := Ideal) V (ix4 b h g i) = (μ : EReal) := by
  obtain ⟨μ, hμ⟩ := Cert.Attn.Row.max_real (sc q k b h g i) (ok_self b i)
  refine ⟨μ, ?_⟩
  pointwise [res_main_v55]
  refine (Shape.ReducesTo.fold_fiber_r5_a4 _ _ _ _ _).trans ?_
  refine Eq.trans ?_ hμ
  rw [show Ideal.ofBits FTy.f32 4286578688#32 = _ from ofBits_bot]
  refine congrArg (fun f => Finset.univ.fold max (⊥ : EReal) f) (funext fun p => ?_)
  exact r53 V hq hk b h g i p

section row
variable {b : Fin 32} {h g : Fin 4} {i : Fin 128} {μ : ℝ} (hμ : res_main_v55 (F := Ideal) V (ix4 b h g i) = (μ : EReal))

include hq hk hμ in
theorem r63 (p : Fin 256) : res_main_v63 (F := Ideal) V (ix5 b h g i p) = ((Cert.Attn.Row.raw (ok b i) (sc q k b h g i) μ p : ℝ) : EReal) := by
  pointwise [res_main_v63]
  rw [hμ, r53 V hq hk, Cert.Attn.Row.exp_score]
include hq hk hμ in
theorem r68 (e : Fin 64) : res_main_v68 (F := Ideal) V (ix5 b i h g e) = ((Cert.Attn.Row.total (ok b i) (sc q k b h g i) μ : ℝ) : EReal) := by
  pointwise [res_main_v68, res_main_v64]
  simp only [r63 V hq hk hμ, coe_sum]; rfl
include hq hk hv hμ in
theorem r66 (e : Fin 64) : res_main_v66 (F := Ideal) V (ix5 b i h g e)
    = ((∑ p, win v b p h e * Cert.Attn.Row.raw (ok b i) (sc q k b h g i) μ p : ℝ) : EReal) := by
  pointwise [res_main_v66]
  simp only [r63 V hq hk hμ, r26 V hv, ← EReal.coe_mul, coe_sum]
include hq hk hv hd hμ in
theorem r97' (p : Fin 256) : res_main_v97 (F := Ideal) V (ix5 b h g i p) = ((G q k v d b h g i p : ℝ) : EReal) := by
  have hl : (0 : ℝ) < Cert.Attn.Row.total (ok b i) (sc q k b h g i) μ := Cert.Attn.Row.total_pos _ (ok_self b i) μ
  pointwise [res_main_v97, res_main_v91]
  simp only [r63 V hq hk hμ, r66 V hq hk hv hμ, r68 V hq hk hμ, r84 V hd, r26 V hv, div_coe_ne hl.ne', ← EReal.coe_mul]
  rw [← EReal.coe_one]
  simp only [div_coe_ne (mul_pos hl hl).ne', ← EReal.coe_mul, ← EReal.coe_neg, coe_sum, ← EReal.coe_add]
  rw [G, ← Cert.Attn.Row.grad_raw _ _ _ μ p _ rfl _ rfl]
  refine congrArg (fun x : ℝ => ((x * Cert.Attn.Row.raw (ok b i) (sc q k b h g i) μ p : ℝ) : EReal)) (congrArg₂ (· + ·) ?_ ?_)
  · unfold D; rw [Finset.sum_div]; exact Finset.sum_congr rfl fun e _ => by ring
  · rw [Finset.sum_neg_distrib, Finset.sum_mul]
    refine congrArg _ ?_
    simp only [D, Finset.mul_sum]
    rw [Finset.sum_comm]
    simp only [Finset.sum_mul]
    exact Finset.sum_congr rfl fun x _ => Finset.sum_congr rfl fun e _ => by ring
end row

include hq hk hv hd in
theorem r97 (b : Fin 32) (h g : Fin 4) (i : Fin 128) (p : Fin 256) : res_main_v97 (F := Ideal) V (ix5 b h g i p) = ((G q k v d b h g i p : ℝ) : EReal) :=
  let ⟨_, hμ⟩ := r55 V hq hk b h g i
  r97' V hq hk hv hd hμ p
include hq hk hd in
theorem r94 (b : Fin 32) (p : Fin 256) (h : Fin 4) (e : Fin 64) : res_main_v94 (F := Ideal) V (ix4 b p h e) = ((dvW q k d b p h e : ℝ) : EReal) := by
  pointwise [res_main_v94, res_main_v91]
  unfold dvW
  choose μ hμ using r55 V hq hk b h
  have hl : ∀ g i, (0 : ℝ) < Cert.Attn.Row.total (ok b i) (sc q k b h g i) (μ g i) := fun g i => Cert.Attn.Row.total_pos _ (ok_self b i) _
  simp only [r84 V hd, r68 V hq hk (hμ _ _), r63 V hq hk (hμ _ _)]
  simp only [div_coe_ne (hl _ _).ne', ← EReal.coe_mul, coe_sum]
  congr 1
  refine Finset.sum_congr rfl fun g _ => Finset.sum_congr rfl fun i _ => ?_
  unfold W; rw [← Cert.Attn.Row.raw_div _ _ (μ g i)]; ring

/-- A quotient of zero by a count, times one of what is counted. -/
theorem zero_count {n : ℕ} (f : Fin n → ℕ) (p : Fin n) :
    Ideal.div ((0 : ℝ) : EReal) (∑ x, ((f x : ℝ) : EReal)) * ((f p : ℝ) : EReal) = 0 := by
  rw [coe_sum]
  by_cases hc : (∑ x, (f x : ℝ)) = 0
  · have := (Finset.sum_eq_zero_iff_of_nonneg (fun x _ => Nat.cast_nonneg (f x))).1 hc p (Finset.mem_univ _)
    rw [this]; exact mul_zero _
  · rw [div_coe_ne hc, zero_div, ← EReal.coe_mul, zero_mul]; rfl

include hq hk hv hd in
theorem r106 (b : Fin 32) (h g : Fin 4) (i : Fin 128) (p : Fin 256) : res_main_v106 (F := Ideal) V (ix5 b h p i g) = ((G q k v d b h g i p : ℝ) : EReal) := by
  pointwise [res_main_v106]
  simp only [r97 V hq hk hv hd, ← EReal.coe_neg, coe_sum, r50]
  rw [Finset.sum_neg_distrib, show (∑ x, G q k v d b h g i x) = 0 from Cert.Attn.Row.sum_grad _ _ (ok_self b i), neg_zero]
  have h59 : ∃ f : Fin 256 → ℕ, ∀ x, res_main_v59 (F := Ideal) V (ix5 b h g i x) = ((f x : ℝ) : EReal) :=
    ⟨_, fun x => by pointwise [res_main_v59]; rfl⟩
  obtain ⟨f, hf⟩ := h59
  simp only [hf]
  rw [zero_count, add_zero]
  by_cases hok : ok b i p
  · simp only [hok, decide_true]; rfl
  · simp only [hok, decide_false]
    rw [show G q k v d b h g i p = 0 from Cert.Attn.Row.grad_zero _ _ _ hok]; rfl
include hq hk hv hd in
theorem r110 (b : Fin 32) (p : Fin 256) (h : Fin 4) (e : Fin 64) : res_main_v110 (F := Ideal) V (ix4 b p h e) = ((dkW q k v d b p h e : ℝ) : EReal) := by
  pointwise [res_main_v110]
  simp only [r106 V hq hk hv hd, r10 V hq, ← EReal.coe_mul, coe_sum]; rfl
end Cert.AttnRefIdeal.Val
-- ==== Proof.AttnRefRes.lean ====
/- The reference's three gradients at the reals. -/
module

public import proofs.«01_k».proof.Proof.AttnRefVal

@[expose] public section
set_option maxRecDepth 16384
noncomputable section
namespace Cert.AttnRefIdeal.Val
open Idealize.ShloMosaic Idealize.ShloMosaic.TcCoe Idealize.SL.Sem Cert.AttnRefIdeal Cert.AttnRefIdeal.Value Cert.AttnRefIdeal.Facts₀ Cert.Step
open Cert.Attn.Real

variable (V : Valuation τ sig (Elt Ideal)) {q : Fin 4096 → Fin 1024 → ℝ} {k v : Fin 4096 → Fin 256 → ℝ} {d : Fin 4096 → Fin 1024 → ℝ}
variable (hq : V (Proc.devRef .tc main_arg0) = fun j => (q (j 0) (j 1) : EReal)) (hk : V (Proc.devRef .tc main_arg1) = fun j => (k (j 0) (j 1) : EReal))
  (hv : V (Proc.devRef .tc main_arg2) = fun j => (v (j 0) (j 1) : EReal)) (hd : V (Proc.devRef .tc main_arg3) = fun j => (d (j 0) (j 1) : EReal))

/-! ## The three results -/

/-- The block of a token, its row there. -/
def blkOf (t : Fin 4096) : Fin 32 := ⟨t.val / 2048 * 16 + t.val % 16, by omega⟩
def rowOf (t : Fin 4096) : Fin 128 := ⟨t.val / 16 % 128, Nat.mod_lt _ (by omega)⟩

/-- A gradient over the windows of all blocks, as the reference adds it up: a block's own half, and the half of the block after it. -/
def fold (X : FVec Ideal S32x256x4x64 .f32) (Y : FVec Ideal S32x128x4x64 .f32) : FVec Ideal S4096x256 .f32 :=
  shapeCast _ (transpose S2x128x16x4x64 [0, 2, 1, 3, 4] (shapeCast _ (addf (extractStridedSlice S32x128x4x64 ![0, 128, 0, 0] X slices_S32x256x4x64_S32x128x4x64_0_128_0_0) (pad S32x128x4x64 ![0, 0, 0, 0] ![16, 0, 0, 0] ![0, 0, 0, 0] (extractStridedSlice S16x128x4x64 ![16, 0, 0, 0] Y slices_S32x128x4x64_S16x128x4x64_16_0_0_0) (constant S_ .f32 0x00000000#32) pads_S16x128x4x64_S32x128x4x64_0160_000_000_000 h_S_)) shapeCasts_S32x128x4x64_S2x16x128x4x64) transposes_S2x16x128x4x64_S2x128x16x4x64_0_2_1_3_4) shapeCasts_S2x128x16x4x64_S4096x256

theorem fold_point (X : FVec Ideal S32x256x4x64 .f32) (Y : FVec Ideal S32x128x4x64 .f32) (f : Fin 32 → Fin 256 → Fin 4 → Fin 64 → ℝ)
    (hX : ∀ b p h e, X (ix4 b p h e) = ((f b p h e : ℝ) : EReal)) (hY : ∀ (b : Fin 32) (i : Fin 128) h e, Y (ix4 b i h e) = X (ix4 b ⟨i, by omega⟩ h e))
    (b : Fin 32) (i : Fin 128) (h : Fin 4) (e : Fin 64) :
    (X (ix4 b ⟨128 + i.val, by omega⟩ h e) + if hc : b.val < 16 ∧ i.val < 128 ∧ h.val < 4 ∧ e.val < 64 then Y (ix4 ⟨16 + b.val, by omega⟩ i h e) else 0)
      = ((both f b i h e : ℝ) : EReal) := by
  unfold both
  rw [EReal.coe_add, hX]
  refine congrArg (_ + ·) ?_
  by_cases hb : b.val < 16
  · rw [dif_pos ⟨hb, i.isLt, h.isLt, e.isLt⟩, dif_pos hb, hY, hX]
  · rw [dif_neg fun hc => hb hc.1, dif_neg hb]; rfl

theorem fold_at (X : FVec Ideal S32x256x4x64 .f32) (Y : FVec Ideal S32x128x4x64 .f32) (f : Fin 32 → Fin 256 → Fin 4 → Fin 64 → ℝ)
    (hX : ∀ b p h e, X (ix4 b p h e) = ((f b p h e : ℝ) : EReal)) (hY : ∀ (b : Fin 32) (i : Fin 128) h e, Y (ix4 b i h e) = X (ix4 b ⟨i, by omega⟩ h e))
    (t : Fin 4096) (c : Fin 256) : fold X Y (ix2 t c)
      = ((both f (blkOf t) (rowOf t) ⟨c.val / 64, by omega⟩ ⟨c.val % 64, Nat.mod_lt _ (by omega)⟩ : ℝ) : EReal) := by
  pointwise [fold]
  exact fold_point X Y f hX hY (blkOf t) (rowOf t) ⟨c.val / 64, by omega⟩ ⟨c.val % 64, Nat.mod_lt _ (by omega)⟩

def queries (X : FVec Ideal S32x4x256x128x4 .f32) (Y : FVec Ideal S32x256x4x64 .f32) : FVec Ideal S4096x1024 .f32 :=
  shapeCast _ (transpose S2x128x16x4x4x64 [0, 2, 1, 3, 4, 5] (shapeCast _ (transpose S32x128x4x4x64 [0, 2, 1, 3, 4] (Host.dotGeneral (φ₁ := .f32) (φ₂ := .f32) dot_S32x4x256x128x4_S32x256x4x64_S32x4x128x4x64_2_1_34_3_01_02 none X Y) transposes_S32x4x128x4x64_S32x128x4x4x64_0_2_1_3_4) shapeCasts_S32x128x4x4x64_S2x16x128x4x4x64) transposes_S2x16x128x4x4x64_S2x128x16x4x4x64_0_2_1_3_4_5) shapeCasts_S2x128x16x4x4x64_S4096x1024

theorem queries_at (X : FVec Ideal S32x4x256x128x4 .f32) (Y : FVec Ideal S32x256x4x64 .f32) (t : Fin 4096) (c : Fin 1024) : queries X Y (ix2 t c)
    = ∑ p : Fin 256, X (ix5 (blkOf t) ⟨c.val / 256, by omega⟩ p (rowOf t) ⟨c.val / 64 % 4, Nat.mod_lt _ (by omega)⟩)
      * Y (ix4 (blkOf t) p ⟨c.val / 256, by omega⟩ ⟨c.val % 64, Nat.mod_lt _ (by omega)⟩) := by
  pointwise [queries]
  rfl

include hq hk hv hd in
theorem dq_at (t : Fin 4096) (c : Fin 1024) : queries (res_main_v106 (F := Ideal) V) (res_main_v18 (F := Ideal) V) (ix2 t c)
    = ((dqR q k v d (blkOf t) (rowOf t) ⟨c.val / 256, by omega⟩ ⟨c.val / 64 % 4, Nat.mod_lt _ (by omega)⟩ ⟨c.val % 64, Nat.mod_lt _ (by omega)⟩ : ℝ) : EReal) := by
  refine (queries_at _ _ t c).trans ?_
  simp only [r106 V hq hk hv hd, r18 V hk, ← EReal.coe_mul, coe_sum]; rfl
include hq hk hv hd in
theorem dk_at (t : Fin 4096) (c : Fin 256) : fold (res_main_v110 (F := Ideal) V) (res_main_v120 (F := Ideal) V) (ix2 t c)
    = ((both (dkW q k v d) (blkOf t) (rowOf t) ⟨c.val / 64, by omega⟩ ⟨c.val % 64, Nat.mod_lt _ (by omega)⟩ : ℝ) : EReal) :=
  fold_at _ _ _ (r110 V hq hk hv hd) (fun b i h e => by pointwise [res_main_v120]) t c
include hq hk hd in
theorem dv_at (t : Fin 4096) (c : Fin 256) : fold (res_main_v94 (F := Ideal) V) (res_main_v111 (F := Ideal) V) (ix2 t c)
    = ((both (dvW q k d) (blkOf t) (rowOf t) ⟨c.val / 64, by omega⟩ ⟨c.val % 64, Nat.mod_lt _ (by omega)⟩ : ℝ) : EReal) :=
  fold_at _ _ _ (r94 V hq hk hd) (fun b i h e => by pointwise [res_main_v111]) t c
end Cert.AttnRefIdeal.Val
-- ==== Proof.AttnClaim.lean ====
/- The attention gradient: its frames, its named constants, and, at the reals, on finite arguments, its three results are
   the reference's. -/
module

public import proofs.«01_k».proof.Defs
public import proofs.«01_k».proof.Proof.Gen.Attn
public import proofs.«01_k».proof.Proof.AttnFrame
public import proofs.«01_k».proof.Proof.AttnOut
public import proofs.«01_k».proof.Proof.AttnRefRes

@[expose] public section

set_option maxRecDepth 16384

noncomputable section

namespace Cert.AttnIdeal.Step

open Idealize.ShloMosaic Idealize.SL.Sem Cert.AttnIdeal Cert.AttnIdeal.Gen

/-- At the machine's floats a named constant is its pattern. -/
@[reducible] def pattern : Named Bits where
  named _ _ {φ} b := FloatOps.ofBits φ b

/-- What the run over any float values says of the program at the machine's floats. -/
def Runs : Prop := letI := pattern
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- The two programs have one text, named constants read as their patterns. -/
theorem runs_eq : Cert.quiescent_Attn (hAttn := Cert.Attn.Gen.facts) = Runs := by sl_kernel_rfl

theorem frame_attn : Cert.quiescent_Attn (hAttn := Cert.Attn.Gen.facts) := runs_eq.mpr fun m g _ => letI := pattern; frame_run m g

theorem frame_attnIdeal : Cert.quiescent_AttnIdeal (hAttnIdeal := Cert.AttnIdeal.Gen.facts) := fun m g _ => frame_run m g

/-- Each named constant is its table's. -/
theorem names : Cert.preserves_Attn_AttnIdeal :=
  ⟨IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl⟩

end Cert.AttnIdeal.Step

namespace Cert.AttnIdeal.Val
open Idealize.ShloMosaic Idealize.ShloMosaic.TcCoe Idealize.SL.Sem
open Cert.AttnIdeal Cert.AttnIdeal.Gen Cert.AttnIdeal.Step Cert.Step Cert.Attn.Real
open Cert.AttnRefIdeal.Val (blkOf rowOf)

section
variable {m : (ℓ : Loc nD τ sig) → Buf (Elt Ideal) ℓ} {c : Dev nD} {q : Fin 4096 → Fin 1024 → ℝ} {k v : Fin 4096 → Fin 256 → ℝ} {d : Fin 4096 → Fin 1024 → ℝ}

theorem blk_tok (s : Fin 4096) : blkAt ⟨s.val / 128, by omega⟩ ⟨s.val % 16, by omega⟩ = blkOf s := Fin.ext (by
  show 16 * (s.val / 128 / 16) + s.val % 16 = s.val / 2048 * 16 + s.val % 16; omega)
theorem row_tok (s : Fin 4096) : rowAt ⟨s.val / 128, by omega⟩ ⟨s.val / 16 % 8, by omega⟩ = rowOf s := Fin.ext (by
  show 8 * (s.val / 128 % 16) + s.val / 16 % 8 = s.val / 16 % 128
  rw [show s.val / 128 = s.val / 16 / 8 by omega]; generalize s.val / 16 = a; omega)

/-- An array of rows and lanes, from its entries. -/
theorem ext2 {n l : ℕ} {α : Type*} {x y : (⟨2, ![n, l]⟩ : Idealize.ShloMosaic.Shape).Idx → α} (h : ∀ (i : Fin n) (j : Fin l), x (ix2 i j) = y (ix2 i j)) : x = y :=
  funext fun z => by rw [show z = ix2 (z 0) (z 1) by funext a; fin_cases a <;> rfl]; exact h _ _

theorem dq_tail (R : Reals m c q k v d) (s : Fin 4096) (l : Fin 1024) : (Pipeline.afterTail₀ cfgs (dats m) 0 (V0 m) [hostOps1] c main_v107 : FVec Ideal S4096x1024 .f32) (ix2 s l)
    = ((dqB q k v d (blkOf s) (rowOf s) l : ℝ) : EReal) :=
  (tail107 R s l).trans (congrArg₂ (fun x y => ((dqB q k v d x y l : ℝ) : EReal)) (blk_tok s) (row_tok s))
theorem dk_tail (R : Reals m c q k v d) (s : Fin 4096) (l : Fin 256) : (Pipeline.afterTail₀ cfgs (dats m) 0 (V0 m) [hostOps1] c main_v108 : FVec Ideal S4096x256 .f32) (ix2 s l)
    = ((Cert.Attn.Real.both (dkW q k v d) (blkOf s) (rowOf s) ⟨l.val / 64, by omega⟩ ⟨l.val % 64, Nat.mod_lt _ (by omega)⟩ : ℝ) : EReal) :=
  (tail108 R s l).trans ((congrArg₂ (fun x y => ((kvB q k v d x y ⟨l.val, by omega⟩ : ℝ) : EReal)) (blk_tok s) (row_tok s)).trans
    (congrArg (fun z : ℝ => (z : EReal)) (kvB_dk q k v d _ _ l)))
theorem dv_tail (R : Reals m c q k v d) (s : Fin 4096) (l : Fin 256) : (Pipeline.afterTail₀ cfgs (dats m) 0 (V0 m) [hostOps1] c main_v109 : FVec Ideal S4096x256 .f32) (ix2 s l)
    = ((Cert.Attn.Real.both (dvW q k d) (blkOf s) (rowOf s) ⟨l.val / 64, by omega⟩ ⟨l.val % 64, Nat.mod_lt _ (by omega)⟩ : ℝ) : EReal) :=
  (tail109 R s l).trans ((congrArg₂ (fun x y => ((kvB q k v d x y ⟨256 + l.val, by omega⟩ : ℝ) : EReal)) (blk_tok s) (row_tok s)).trans
    (congrArg (fun z : ℝ => (z : EReal)) (kvB_dv q k v d _ _ l)))

/-- An array of reals, by rows and lanes. -/
theorem rows_of {n l : ℕ} {x : (⟨2, ![n, l]⟩ : Idealize.ShloMosaic.Shape).Idx → EReal} {a : (⟨2, ![n, l]⟩ : Idealize.ShloMosaic.Shape).Idx → ℝ} (h : x = fun i => (a i : EReal)) :
    x = fun j => ((fun (i : Fin n) (e : Fin l) => a (ix2 i e)) (j 0) (j 1) : EReal) := by subst h; exact ext2 fun _ _ => rfl
end

theorem algebraic [hPre : Cert.Pre_finite_attn.Facts] : Cert.algebraic_AttnIdeal_AttnRefIdeal_pre_finite_attn (hAttnIdeal := Cert.AttnIdeal.Gen.facts)
    (hAttnRefIdeal := Cert.AttnRefIdeal.Gen.facts) := by
  intro m g m' g' hpre hagree
  have hreal : ∀ c : Dev nD, ∃ q k v d, Reals m c q k v d := fun c => by
    obtain ⟨h0, h1, h2, h3⟩ := hpre c
    obtain ⟨a0, e0⟩ := exists_real (m (c, Proc.devRef .tc main_arg0)) _ h0
    obtain ⟨a1, e1⟩ := exists_real (m (c, Proc.devRef .tc main_arg1)) _ h1
    obtain ⟨a2, e2⟩ := exists_real (m (c, Proc.devRef .tc main_arg2)) _ h2
    obtain ⟨a3, e3⟩ := exists_real (m (c, Proc.devRef .tc main_arg3)) _ h3
    exact ⟨fun i e => a0 (ix2 i e), fun i e => a1 (ix2 i e), fun i e => a2 (ix2 i e), fun i e => a3 (ix2 i e), rows_of e0, rows_of e1, rows_of e2, rows_of e3⟩
  have hsuf := fun (b : Ref sig .tc) (hs : b.isScoped = false) (ha : ∀ w, (spec0 w).arr.view.ref ≠ b) (r : PUnit × MemSt nD τ sig (Elt Ideal))
     (h : Pipeline.FramePost cfgs (dats m) 0 (Pipeline.afterTail₀ cfgs (dats m) 0 (V0 m) [hostOps1]) r) (c : Dev nD) => (h c).2 b (Pipeline.mem_restRefs_of b hs ha)
  refine ⟨_, _, _, (θ_run defs _ _).mono (fun r h c => ⟨hsuf main_v107 (by decide) (by decide) r h.1 c, hsuf main_v108 (by decide) (by decide) r h.1 c,
      hsuf main_v109 (by decide) (by decide) r h.1 c, h.2.1 c⟩) (θ_run_and (run_main m g) (frame_run m g)),
    (θ_run Cert.AttnRefIdeal.defs _ _).mono (fun r h c => ?_) (Cert.AttnRefIdeal.Value.run m' g')⟩
  obtain ⟨h0, h1, h2, hk⟩ := h c
  obtain ⟨g0, g1, g2, g3⟩ := hagree c
  obtain ⟨q, k, v, d, R⟩ := hreal c
  have r0 := g0.trans R.hq
  have r1 := g1.trans R.hk
  have r2 := g2.trans R.hv
  have r3 := g3.trans R.hd
  refine ⟨h0.trans ?_, h1.trans ?_, h2.trans ?_, hk⟩
  · exact ext2 (x := Cert.AttnRefIdeal.Val.queries _ _) fun s l => (Cert.AttnRefIdeal.Val.dq_at (StableHlo.launchContents m' c) r0 r1 r2 r3 s l).trans (dq_tail R s l).symm
  · exact ext2 (x := Cert.AttnRefIdeal.Val.fold _ _) fun s l => (Cert.AttnRefIdeal.Val.dk_at (StableHlo.launchContents m' c) r0 r1 r2 r3 s l).trans (dk_tail R s l).symm
  · exact ext2 (x := Cert.AttnRefIdeal.Val.fold _ _) fun s l => (Cert.AttnRefIdeal.Val.dv_at (StableHlo.launchContents m' c) r0 r1 r3 s l).trans (dv_tail R s l).symm

end Cert.AttnIdeal.Val

end
-- ==== Proof.FwdRow.lean ====
/- What the attention's forward call gives, row by row: finite queries and keys, any values. -/
module

public import proofs.«01_k».proof.Proof.AttnWords

@[expose] public section
noncomputable section
namespace Cert.Fwd.Real
open Idealize.ShloMosaic Cert.Step Cert.Attn.Real Cert.Attn.Row

/-- Row `p` of the window of block `b` of the values: the block before it (zeros before the first) and the block itself. -/
def winV (x : Fin 4096 → Fin 256 → EReal) (b : Fin 32) (p : Fin 256) (h : Fin 4) (e : Fin 64) : EReal :=
  if p.val < 128 then
    if b.val < 16 then 0 else x ⟨(b - 16) / 16 * 2048 + p * 16 + (b - 16) % 16, by omega⟩ ⟨h * 64 + e, by omega⟩
  else x ⟨b / 16 * 2048 + (p - 128) * 16 + b % 16, by omega⟩ ⟨h * 64 + e, by omega⟩

/-- The values the kernel finds: where there is no block before, it finds the block itself. -/
def nearV (x : Fin 4096 → Fin 256 → EReal) (b : Fin 32) (p : Fin 256) (h : Fin 4) (e : Fin 64) : EReal :=
  if p.val < 128 then x ⟨p.val % 128 * 16 + b.val % 16, by omega⟩ ⟨h.val * 64 + e.val, by omega⟩
  else x ⟨b.val / 16 * 2048 + p.val % 128 * 16 + b.val % 16, by omega⟩ ⟨h.val * 64 + e.val, by omega⟩

theorem nearV_win (x : Fin 4096 → Fin 256 → EReal) (b : Fin 32) (p : Fin 256) (hp : 16 ≤ b.val ∨ 128 ≤ p.val) (h : Fin 4) (e : Fin 64) : nearV x b p h e = winV x b p h e := by
  unfold nearV winV
  by_cases h1 : p.val < 128
  · rw [if_pos h1, if_pos h1]
    rw [if_neg (show ¬ b.val < 16 by omega)]
    refine congrArg (fun z => x z _) (Fin.ext ?_)
    show p.val % 128 * 16 + b.val % 16 = (b.val - 16) / 16 * 2048 + p.val * 16 + (b.val - 16) % 16; omega
  · rw [if_neg h1, if_neg h1]
    refine congrArg (fun z => x z _) (Fin.ext ?_)
    show b.val / 16 * 2048 + p.val % 128 * 16 + b.val % 16 = b.val / 16 * 2048 + (p.val - 128) * 16 + b.val % 16; omega

/-- What the window of a block holds, read from the whole array. -/
theorem winV_word {x : Fin 4096 → Fin 256 → EReal} {A : Idealize.ShloMosaic.FVec Ideal ⟨2, ![4096, 256]⟩ .f32} (hA : A = fun j => x (j 0) (j 1))
    (b : Fin 32) (p : Fin 256) (h : Fin 4) (e : Fin 64) :
    (if h1 : p.val < 128 then
      if h2 : b.val < 16 then 0
      else A (ix2 ⟨(b.val - 16) / 16 * 2048 + p.val * 16 + (b.val - 16) % 16, by omega⟩ ⟨h.val * 64 + e.val, by omega⟩)
    else A (ix2 ⟨b.val / 16 * 2048 + (p.val - 128) * 16 + b.val % 16, by omega⟩ ⟨h.val * 64 + e.val, by omega⟩)) = winV x b p h e := by
  unfold winV
  by_cases h1 : p.val < 128
  · by_cases h2 : b.val < 16
    · simp only [h1, h2, dite_true, if_true]
    · simp only [h1, h2, dite_true, dite_false, if_true, if_false]; exact congrFun hA _
  · simp only [h1, dite_false, if_false]; exact congrFun hA _

/-- A quotient by a nonzero real is a product with its inverse. -/
theorem div_real {y : ℝ} (h : y ≠ 0) (x : EReal) : Ideal.div x (y : EReal) = x * ((y⁻¹ : ℝ) : EReal) := by
  rw [Ideal.div_coe h, one_div]

variable (q : Fin 4096 → Fin 1024 → ℝ) (k : Fin 4096 → Fin 256 → ℝ) (v : Fin 4096 → Fin 256 → EReal)

/-- The largest score of a row. -/
def mu (b : Fin 32) (h g : Fin 4) (i : Fin 128) : ℝ := (max_real (sc q k b h g i) (ok_self b i)).choose

theorem mu_spec (b : Fin 32) (h g : Fin 4) (i : Fin 128) :
    Finset.univ.fold max (⊥ : EReal) (score (ok b i) (sc q k b h g i)) = ((mu q k b h g i : ℝ) : EReal) :=
  (max_real (sc q k b h g i) (ok_self b i)).choose_spec

/-- The exponentials below it, and their sum. -/
def ex (b : Fin 32) (h g : Fin 4) (i : Fin 128) (p : Fin 256) : ℝ := raw (ok b i) (sc q k b h g i) (mu q k b h g i) p
def den (b : Fin 32) (h g : Fin 4) (i : Fin 128) : ℝ := total (ok b i) (sc q k b h g i) (mu q k b h g i)

theorem den_pos (b : Fin 32) (h g : Fin 4) (i : Fin 128) : 0 < den q k b h g i := total_pos _ (ok_self b i) _

/-- The two results of a row. -/
def oR (b : Fin 32) (i : Fin 128) (h g : Fin 4) (e : Fin 64) : EReal :=
  (∑ p, ((ex q k b h g i p : ℝ) : EReal) * winV v b p h e) * (((den q k b h g i)⁻¹ : ℝ) : EReal)
def lseR (b : Fin 32) (i : Fin 128) (h g : Fin 4) : ℝ := mu q k b h g i + Real.log (den q k b h g i)

theorem ex_near (b : Fin 32) (h g : Fin 4) (i : Fin 128) (p : Fin 256) (e : Fin 64) :
    ((ex q k b h g i p : ℝ) : EReal) * nearV v b p h e = ((ex q k b h g i p : ℝ) : EReal) * winV v b p h e := by
  by_cases ho : ok b i p
  · rw [nearV_win v b p ho.2]
  · have : ex q k b h g i p = 0 := by unfold ex raw; rw [if_neg ho]
    rw [this, EReal.coe_zero, zero_mul, zero_mul]

theorem log_pos {x : ℝ} (hx : 0 < x) : Ideal.log (x : EReal) = ((Real.log x : ℝ) : EReal) := by
  show (if x ≤ 0 then (⊥ : EReal) else _) = _
  rw [if_neg (not_le.2 hx)]

end Cert.Fwd.Real
-- ==== Proof.FwdBody.lean ====
/- What one point of the attention kernel computes from its blocks and its table, as plain operations. -/
module

public import proofs.«01_k».proof.Proof.Gen.FwdIdeal.Skeleton
public import Idealize.ShloMosaic.Lib.ValueIdxCore
public import Idealize.ShloMosaic.Lib.Pipeline.ValueKit

@[expose] public section

set_option maxRecDepth 16384

noncomputable section

namespace Cert.FwdIdeal.Step

open Idealize.ShloMosaic Idealize.ShloMosaic.TcCoe
open Idealize.SL.Sem
open Cert.FwdIdeal Cert.FwdIdeal.Gen

variable {F : FTy → Type} [FloatOps F] [Named F]

/-- One of the eight groups of 128 lanes of the queries. -/
def lanes8 (x : Vec F S16x1x8x1024 .f32) (b : Fin 8) : Vec F S16x1x8x128 .f32 :=
  fun y => x (ix4 (y 0) (y 1) (y 2) (⟨128 * b.val + (y 3).val, by have := b.isLt; have h := (y 3).isLt; change _ < 128 at h; omega⟩ : Fin 1024))

/-- A row of the table. -/
def rowOf (T : Vec F S32x128x256 .f32) (r : Fin 32) : Vec F S1x128x256 .f32 := fun y => T (ix3 r (y 1) (y 2))

/-- What a point works on: groups of lanes of the queries, keys and values of its block and of the one before, and the table's rows of its sixteen heads. -/
structure Ops (F : FTy → Type) where
  q : Fin 8 → Vec F S16x1x8x128 .f32
  kc : Vec F S16x1x8x512 .f32
  kp : Vec F S16x1x8x512 .f32
  t : Fin 16 → Vec F S1x128x256 .f32

def ops (q : Vec F S16x1x8x1024 .f32) (kc kp : Vec F S16x1x8x512 .f32) (T : Vec F S32x128x256 .f32) (base : Fin 2) : Ops F where
  q := lanes8 q
  kc := kc
  kp := kp
  t := fun h => rowOf T ⟨16 * base.val + h.val, by omega⟩

/-! ## The operands of one key head -/

/-- The rows of a block of 128 lanes. -/
def rows (v : Vec F S16x1x8x128 .f32) : FVec F S128x128 .f32 :=
  shapeCast S128x128 (shapeCast S16x8x128 v shapeCasts_S16x1x8x128_S16x8x128) shapeCasts_S16x8x128_S128x128

/-- The two groups of query heads of a key head, one below the other. -/
def pairOf (x : Fin 8 → Vec F S16x1x8x128 .f32) (hk : Fin 4) : FVec F S256x128 .bf16 :=
  truncf .bf16 (concatenate S256x128 0 [⟨S128x128, rows (x ⟨2 * hk.val, by omega⟩)⟩, ⟨S128x128, rows (x ⟨2 * hk.val + 1, by omega⟩)⟩]
    concatenates_S128x128_S128x128_S256x128_d0) bitsLt_bf16_f32

theorem slices_chunk : ∀ b : Fin 4, S256x512.Slices ![0, 128 * b.val] S256x128 := by decide

/-- A group of lanes of the keys and values. -/
def chunk (v : FVec F S256x512 .f32) (b : Fin 4) : FVec F S256x128 .f32 := extractStridedSlice S256x128 ![0, 128 * b.val] v (slices_chunk b)

def zero : FVec F S256x128 .f32 := broadcast S256x128 (Scalar.ofBits .f32 0x00000000#32)

/-- The lanes turned by half their number. -/
def turn (x : FVec F S256x128 .f32) : FVec F S256x128 .f32 := dynamicRotate 1 64#32 none x rotates_S256x128_d1

/-- The lower half of the lanes kept, or the upper half. -/
def keep (w : Bool) (x : FVec F S256x128 .f32) : FVec F S256x128 .bf16 :=
  truncf .bf16 (cond w (select k0_pay45 zero x) (select k0_pay45 x zero)) bitsLt_bf16_f32

/-- A head's keys or values in the lower or the upper half of the lanes: its own place, or turned. -/
def operand (v : FVec F S256x512 .f32) (b : Fin 4) (pos w : Bool) : FVec F S256x128 .bf16 := keep w (cond (xor pos w) (turn (chunk v b)) (chunk v b))

def posOf (hk : Fin 4) : Bool := match hk with | 0 => false | 1 => true | 2 => false | 3 => true
def keyChunk (hk : Fin 4) : Fin 4 := match hk with | 0 => 0 | 1 => 0 | 2 => 1 | 3 => 1
def valChunk (hk : Fin 4) : Fin 4 := match hk with | 0 => 2 | 1 => 2 | 2 => 3 | 3 => 3

def keys (O : Ops F) (hk : Fin 4) (w : Bool) : FVec F S256x128 .bf16 := operand (k0_pay44 O.kp O.kc) (keyChunk hk) (posOf hk) w
def vals (O : Ops F) (hk : Fin 4) (w : Bool) : FVec F S256x128 .bf16 := operand (k0_pay44 O.kp O.kc) (valChunk hk) (posOf hk) w

/-! ## The softmax of the two heads that share a half of the lanes -/

/-- The two query heads that share a half of the lanes. -/
def head (hk : Fin 4) (w : Bool) (j : Fin 2) : Fin 16 := ⟨4 * hk.val + 2 * j.val + cond w 1 0, by have := hk.isLt; have := j.isLt; cases w <;> simp <;> omega⟩

/-- The scores: the queries of both heads down, the keys across. -/
def scores (O : Ops F) (hk : Fin 4) (w : Bool) : FVec F S256x256 .f32 :=
  addf (matmul dot_S256x128_S256x128_S256x256_1_1_0_0_n_n none (pairOf O.q hk) (keys O hk w) (constant S256x256 .f32 0x00000000#32))
    (concatenate S256x256 0 [⟨S128x256, shapeCast S128x256 (O.t (head hk w 0)) shapeCasts_S1x128x256_S128x256⟩,
      ⟨S128x256, shapeCast S128x256 (O.t (head hk w 1)) shapeCasts_S1x128x256_S128x256⟩] concatenates_S128x256_S128x256_S256x256_d0)

/-- The largest score of each row. -/
def top (O : Ops F) (hk : Fin 4) (w : Bool) : FVec F S256x1 .f32 :=
  shapeCast S256x1 (multiReduction .maximumf [1] S256 (scores O hk w) 0xFF800000#32 reduces_S256x256_S256 (.inl rfl) rfl) shapeCasts_S256_S256x1

/-- The exponentials of the scores below it. -/
def raws (O : Ops F) (hk : Fin 4) (w : Bool) : FVec F S256x256 .f32 := exp (subf (scores O hk w) (broadcastTo S256x256 (top O hk w) broadcasts_S256x1_S256x256))

/-- Their sum. -/
def tot (O : Ops F) (hk : Fin 4) (w : Bool) : FVec F S256x1 .f32 :=
  shapeCast S256x1 (multiReduction .add [1] S256 (raws O hk w) 0x00000000#32 reduces_S256x256_S256 (.inl rfl) rfl) shapeCasts_S256_S256x1

/-- The weighted values. -/
def part (O : Ops F) (hk : Fin 4) (w : Bool) : FVec F S256x128 .f32 :=
  mulf (matmul dot_S256x256_S256x128_S256x128_1_0_0_1_n_n none (truncf .bf16 (raws O hk w) bitsLt_bf16_f32) (vals O hk w) (constant S256x128 .f32 0x00000000#32))
    (broadcastTo S256x128 (divf (broadcast S256x1 (Scalar.ofBits .f32 0x3F800000#32)) (tot O hk w)) broadcasts_S256x1_S256x128)

def outOf (O : Ops F) (hk : Fin 4) : FVec F S256x128 .f32 := addf (addf zero (part O hk false)) (part O hk true)

theorem slices_half : ∀ j : Fin 2, S256x128.Slices ![128 * j.val, 0] S128x128 := by decide

/-- The upper or the lower 128 rows. -/
def halfRows (x : FVec F S256x128 .f32) (j : Fin 2) : FVec F S128x128 .f32 := extractStridedSlice S128x128 ![128 * j.val, 0] x (slices_half j)

/-- Rows as a block stores them. -/
def asBlock (x : FVec F S128x128 .f32) : FVec F S16x1x8x128 .f32 :=
  shapeCast S16x1x8x128 (shapeCast S16x8x128 x shapeCasts_S128x128_S16x8x128) shapeCasts_S16x8x128_S16x1x8x128

/-- What a point stores into its output, a group of lanes at a time. -/
def oPiece (O : Ops F) (b : Fin 8) : FVec F S16x1x8x128 .f32 :=
  asBlock (halfRows (outOf O ⟨b.val / 2, by omega⟩) ⟨b.val % 2, by omega⟩)

def oOut (O : Ops F) : Vec F S16x1x8x1024 .f32 := fun y =>
  oPiece O ⟨(y 3).val / 128, by have h := (y 3).isLt; change _ < 1024 at h; omega⟩
    (ix4 (y 0) (y 1) (y 2) (⟨(y 3).val % 128, Nat.mod_lt _ (by omega)⟩ : Fin 128))

/-! ## The log-denominators, a lane to a head -/

/-- The logarithm of the sum of exponentials. -/
def lseOf (O : Ops F) (hk : Fin 4) (w : Bool) : FVec F S256x1 .f32 := addf (top O hk w) (log (tot O hk w))

theorem slices_col : ∀ j : Fin 2, S256x1.Slices ![128 * j.val, 0] S128x1 := by decide

/-- A head's column put into its lane. -/
def put (h : Fin 16) (j : Fin 2) (x : FVec F S256x1 .f32) (v : FVec F S128x128 .f32) : FVec F S128x128 .f32 :=
  select (cmpi .eq (iota .tc S128x128 32 [1] iota_S128x128_d1_w32) (broadcast S128x128 (BitVec.ofNat 32 h.val)))
    (broadcastTo S128x128 (shapeCast S128x1 (extractStridedSlice S128x1 ![128 * j.val, 0] x (slices_col j)) shapeCasts_S128x1_S128x1) broadcasts_S128x1_S128x128) v

/-- The two heads of a half of the lanes. -/
def puts (O : Ops F) (hk : Fin 4) (w : Bool) (v : FVec F S128x128 .f32) : FVec F S128x128 .f32 :=
  put (head hk w 1) 1 (lseOf O hk w) (put (head hk w 0) 0 (lseOf O hk w) v)

def stats (O : Ops F) : FVec F S128x128 .f32 :=
  puts O 3 true (puts O 3 false (puts O 2 true (puts O 2 false (puts O 1 true (puts O 1 false (puts O 0 true (puts O 0 false k0_pay46)))))))

def lseOut (O : Ops F) : Vec F S16x1x8x128 .f32 := asBlock (stats O)

/-! ## The table -/

/-- The slope of a head: the named constants at the even heads, powers of two at the odd. -/
def slope (h : Fin 16) : F .f32 :=
  match h.val with
  | 0 => Named.named κ "slope0" 0x3F3504F3#32
  | 1 => Scalar.ofBits .f32 0x3F000000#32
  | 2 => Named.named κ "slope2" 0x3EB504F3#32
  | 3 => Scalar.ofBits .f32 0x3E800000#32
  | 4 => Named.named κ "slope4" 0x3E3504F3#32
  | 5 => Scalar.ofBits .f32 0x3E000000#32
  | 6 => Named.named κ "slope6" 0x3DB504F3#32
  | 7 => Scalar.ofBits .f32 0x3D800000#32
  | 8 => Named.named κ "slope8" 0x3D3504F3#32
  | 9 => Scalar.ofBits .f32 0x3D000000#32
  | 10 => Named.named κ "slope10" 0x3CB504F3#32
  | 11 => Scalar.ofBits .f32 0x3C800000#32
  | 12 => Named.named κ "slope12" 0x3C3504F3#32
  | 13 => Scalar.ofBits .f32 0x3C000000#32
  | 14 => Named.named κ "slope14" 0x3BB504F3#32
  | _ => Scalar.ofBits .f32 0x3B800000#32

/-- The biases of one head: over the block's own keys only, or over both blocks'. -/
def bias (whole : Fin 2) (h : Fin 16) : FVec F S1x128x256 .f32 :=
  shapeCast S1x128x256 (select (match whole with | 0 => k0_pay6 | 1 => k0_pay4) (mulf (broadcast S128x256 (slope h)) (k0_pay5 (F := F)))
    (broadcast S128x256 (Named.named κ "mask" 0xF149F2CA#32))) shapeCasts_S128x256_S1x128x256

/-- The table's rows. -/
def biasRow (r : Fin 32) : Vec F S1x128x256 .f32 := bias ⟨r.val / 16, by omega⟩ ⟨r.val % 16, Nat.mod_lt _ (by omega)⟩

def table : Vec F S32x128x256 .f32 := fun y => biasRow (y 0) (ix3 (0 : Fin 1) (y 1) (y 2))

end Cert.FwdIdeal.Step

end
-- ==== Proof.FwdVal.lean ====
/- One point of the attention kernel at the reals. -/
module

public import proofs.«01_k».proof.Proof.FwdRow
public import proofs.«01_k».proof.Proof.FwdBody
public import proofs.«01_k».proof.Proof.AttnVal
public import Idealize.ShloMosaic.Lib.Pointwise

@[expose] public section
set_option maxRecDepth 16384
noncomputable section
namespace Cert.FwdIdeal.Val
open Idealize.ShloMosaic Idealize.ShloMosaic.TcCoe Idealize.SL.Sem Cert.FwdIdeal Cert.FwdIdeal.Gen Cert.FwdIdeal.Step Cert.Step
open Cert.Attn.Real Cert.Fwd.Real
open Cert.AttnIdeal.Val (at8 up lo ln dite_half half_word grp hd gr sum_half)

/-! ## The operations, pointwise -/

theorem rows_at (v : Vec Ideal S16x1x8x128 .f32) (i l : Fin 128) : rows v (ix2 i l) = v (at8 i l) := by pointwise [rows]
theorem pairOf_at (x : Fin 8 → Vec Ideal S16x1x8x128 .f32) (hk : Fin 4) (r : Fin 256) (l : Fin 128) :
    pairOf x hk (ix2 r l) = x ⟨2 * hk.val + (up r).val, by omega⟩ (at8 (lo r) l) := by
  pointwise [pairOf]
  exact dite_half (F := fun j i => x ⟨2 * hk.val + j.val, by omega⟩ (at8 i l)) (fun h => rows_at _ _ _) fun h => rows_at _ _ _
theorem lanes_word (p : Fin 256) (l : Fin 128) : k0_pay45 (ix2 p l) = BitVec.ofBool (decide (l.val < 64)) := by
  pointwise [k0_pay45]; exact half_word l
theorem turn_at (x : FVec Ideal S256x128 .f32) (p : Fin 256) (l : Fin 128) : turn x (ix2 p l) = x (ix2 p ⟨(l.val + 64) % 128, Nat.mod_lt _ (by omega)⟩) := by
  pointwise [turn]
  rfl
/-- The rows of the window: the block before, then the block. -/
theorem window_at (a b : Vec Ideal S16x1x8x512 .f32) (p : Fin 256) (l : Fin 512) :
    k0_pay44 (F := Ideal) a b (ix2 p l) = (if (up p).val = 0 then a else b) (at8 (lo p) l) := by
  pointwise [k0_pay44]
  exact dite_half (F := fun j i => (if j.val = 0 then a else b) (at8 i l)) (fun h => rfl) fun h => rfl
theorem biases_at (t : Fin 16 → Vec Ideal S1x128x256 .f32) (h : Fin 2 → Fin 16) (x p : Fin 256) :
    concatenate S256x256 0 [⟨S128x256, shapeCast S128x256 (t (h 0)) shapeCasts_S1x128x256_S128x256⟩,
      ⟨S128x256, shapeCast S128x256 (t (h 1)) shapeCasts_S1x128x256_S128x256⟩] concatenates_S128x256_S128x256_S256x256_d0 (ix2 x p) = t (h (up x)) (ix3 0 (lo x) p) := by
  pointwise
  exact dite_half (F := fun j i => t (h j) (ix3 0 i p)) (fun h => rfl) fun h => rfl

/-- A choice by lanes. -/
theorem choose_at {φ : FTy} (a b : FVec Ideal S256x128 φ) (p : Fin 256) (l : Fin 128) :
    select k0_pay45 a b (ix2 p l) = if l.val < 64 then a (ix2 p l) else b (ix2 p l) := by
  pointwise
  rw [lanes_word]
  by_cases h : l.val < 64
  · simp only [h, decide_true, if_true]; rfl
  · simp only [h, decide_false, if_false]; rfl
theorem zero_at (p : Fin 256) (l : Fin 128) : zero (F := Ideal) (ix2 p l) = 0 := by pointwise [zero]
theorem keep_at (w : Bool) (x : FVec Ideal S256x128 .f32) (p : Fin 256) (l : Fin 128) :
    keep w x (ix2 p l) = if decide (64 ≤ l.val) = w then x (ix2 p l) else 0 := by
  by_cases h : l.val < 64
  · cases w
    · refine (choose_at x zero p l).trans ?_; simp [h]
    · refine (choose_at zero x p l).trans ?_; simp [h, zero_at]
  · cases w
    · refine (choose_at x zero p l).trans ?_; simp [h, zero_at]
    · refine (choose_at zero x p l).trans ?_; simp [h]

/-- The lanes of a key head among a group of lanes of the window. -/
theorem operand_at (v : FVec Ideal S256x512 .f32) (b : Fin 4) (pos w : Bool) (p : Fin 256) (l : Fin 128) :
    operand v b pos w (ix2 p l) = if decide (64 ≤ l.val) = w then v (ix2 p ⟨128 * b.val + cond pos 64 0 + l.val % 64, by cases pos <;> simp <;> omega⟩) else 0 := by
  refine (keep_at w _ p l).trans ?_
  by_cases h : decide (64 ≤ l.val) = w
  · rw [if_pos h, if_pos h]
    have hc : ∀ l', chunk v b (ix2 p l') = v (ix2 p ⟨128 * b.val + l'.val, by omega⟩) := fun l' => by pointwise [chunk]
    cases pos <;> cases w <;> simp only [decide_eq_true_eq, decide_eq_false_iff_not] at h
    · refine (hc l).trans ?_; congr 2; apply Fin.ext; simp; omega
    · refine ((turn_at _ p l).trans (hc _)).trans ?_; congr 2; apply Fin.ext; simp; omega
    · refine ((turn_at _ p l).trans (hc _)).trans ?_; congr 2; apply Fin.ext; simp; omega
    · refine (hc l).trans ?_; congr 2; apply Fin.ext; simp; omega
  · rw [if_neg h, if_neg h]
theorem keys_at (O : Ops Ideal) (hk : Fin 4) (w : Bool) (p : Fin 256) (l : Fin 128) : keys O hk w (ix2 p l)
    = if decide (64 ≤ l.val) = w then k0_pay44 O.kp O.kc (ix2 p ⟨64 * hk.val + l.val % 64, by omega⟩) else 0 := by
  refine (operand_at _ _ _ _ p l).trans ?_
  refine congrArg (fun z => if decide (64 ≤ l.val) = w then k0_pay44 O.kp O.kc (ix2 p z) else 0) (Fin.ext ?_)
  match hk with | 0 => rfl | 1 => rfl | 2 => rfl | 3 => rfl
theorem vals_at (O : Ops Ideal) (hk : Fin 4) (w : Bool) (p : Fin 256) (l : Fin 128) : vals O hk w (ix2 p l)
    = if decide (64 ≤ l.val) = w then k0_pay44 O.kp O.kc (ix2 p ⟨256 + 64 * hk.val + l.val % 64, by omega⟩) else 0 := by
  refine (operand_at _ _ _ _ p l).trans ?_
  refine congrArg (fun z => if decide (64 ≤ l.val) = w then k0_pay44 O.kp O.kc (ix2 p z) else 0) (Fin.ext ?_)
  match hk with | 0 => rfl | 1 => rfl | 2 => rfl | 3 => rfl

/-! The products, the row maximum and the row sum, over any arrays. -/

theorem dots_at (a b : FVec Ideal S256x128 .bf16) (x p : Fin 256) :
    matmul dot_S256x128_S256x128_S256x256_1_1_0_0_n_n none a b (constant (F := Ideal) S256x256 .f32 0x00000000#32) (ix2 x p) = ∑ l : Fin 128, a (ix2 x l) * b (ix2 p l) := by pointwise
theorem sums_at (a : FVec Ideal S256x256 .bf16) (b : FVec Ideal S256x128 .bf16) (x : Fin 256) (l : Fin 128) :
    matmul dot_S256x256_S256x128_S256x128_1_0_0_1_n_n none a b (constant (F := Ideal) S256x128 .f32 0x00000000#32) (ix2 x l) = ∑ p : Fin 256, a (ix2 x p) * b (ix2 p l) := by pointwise
theorem max_at (s : FVec Ideal S256x256 .f32) (x : Fin 256) :
    shapeCast S256x1 (multiReduction .maximumf [1] S256 s 0xFF800000#32 reduces_S256x256_S256 (.inl rfl) rfl) shapeCasts_S256_S256x1 (ix2 x 0)
      = Finset.univ.fold max (⊥ : EReal) (fun p : Fin 256 => s (ix2 x p)) := by
  pointwise
  rw [show Ideal.ofBits FTy.f32 0xFF800000#32 = _ from Cert.Attn.Words.ofBits_bot]
theorem add_at (s : FVec Ideal S256x256 .f32) (x : Fin 256) :
    shapeCast S256x1 (multiReduction .add [1] S256 s 0x00000000#32 reduces_S256x256_S256 (.inl rfl) rfl) shapeCasts_S256_S256x1 (ix2 x 0)
      = ∑ p : Fin 256, s (ix2 x p) := by pointwise
theorem exps_at (s : FVec Ideal S256x256 .f32) (t : FVec Ideal S256x1 .f32) (x p : Fin 256) :
    exp (subf s (broadcastTo S256x256 t broadcasts_S256x1_S256x256)) (ix2 x p) = Ideal.exp (s (ix2 x p) - t (ix2 x 0)) := by pointwise
theorem scaled_at (a : FVec Ideal S256x128 .f32) (t : FVec Ideal S256x1 .f32) (x : Fin 256) (l : Fin 128) :
    mulf a (broadcastTo S256x128 (divf (broadcast S256x1 (Scalar.ofBits .f32 0x3F800000#32)) t) broadcasts_S256x1_S256x128) (ix2 x l)
      = @HMul.hMul EReal EReal EReal _ (a (ix2 x l)) (Ideal.div 1 (t (ix2 x 0))) := by pointwise
theorem logs_at (a t : FVec Ideal S256x1 .f32) (x : Fin 256) : addf a (log t) (ix2 x 0) = @HAdd.hAdd EReal EReal EReal _ (a (ix2 x 0)) (Ideal.log (t (ix2 x 0))) := by pointwise

/-! ## A point at the reals -/

variable {q : Fin 4096 → Fin 1024 → ℝ} {k : Fin 4096 → Fin 256 → ℝ} {v : Fin 4096 → Fin 256 → EReal}

/-- What a point's operands are when it works on block `b`: keys out of reach may be any reals `K`. -/
structure Holds (q : Fin 4096 → Fin 1024 → ℝ) (k : Fin 4096 → Fin 256 → ℝ) (v : Fin 4096 → Fin 256 → EReal)
    (O : Ops Ideal) (b : Fin 32) (K : Fin 256 → Fin 4 → Fin 64 → ℝ) : Prop where
  xq : ∀ (e8 : Fin 8) (i l : Fin 128), O.q e8 (at8 i l) = ((heads q b i (hd e8) (gr e8 l) (ln l) : ℝ) : EReal)
  kk : ∀ p (h : Fin 4) (e : Fin 64), k0_pay44 (F := Ideal) O.kp O.kc (ix2 p ⟨64 * h.val + e.val, by omega⟩) = ((K p h e : ℝ) : EReal)
  vv : ∀ p (h : Fin 4) (e : Fin 64), k0_pay44 (F := Ideal) O.kp O.kc (ix2 p ⟨256 + 64 * h.val + e.val, by omega⟩) = nearV v b p h e
  hK : ∀ p, (16 ≤ b.val ∨ 128 ≤ p.val) → K p = win k b p
  xt : ∀ (h g : Fin 4) (i : Fin 128) (p : Fin 256), O.t ⟨4 * h.val + g.val, by omega⟩ (ix3 0 i p)
    = if ok b i p then ((-slope h g * (16 * (128 + i.val - p.val)) : ℝ) : EReal) else ⊥

section point
variable {O : Ops Ideal} {b : Fin 32} {K : Fin 256 → Fin 4 → Fin 64 → ℝ} (H : Holds q k v O b K)
include H

theorem keysR (hk : Fin 4) (w : Bool) (p : Fin 256) (l : Fin 128) : keys O hk w (ix2 p l) = ((if decide (64 ≤ l.val) = w then K p hk (ln l) else 0 : ℝ) : EReal) := by
  rw [keys_at, H.kk p hk (ln l)]; split <;> rfl
theorem valsR (hk : Fin 4) (w : Bool) (p : Fin 256) (l : Fin 128) : vals O hk w (ix2 p l) = if decide (64 ≤ l.val) = w then nearV v b p hk (ln l) else 0 := by
  rw [vals_at, H.vv p hk (ln l)]

theorem fin8 (hk : Fin 4) (j : Fin 2) : (hd ⟨2 * hk.val + j.val, by omega⟩ = hk) ∧ ∀ l : Fin 128, gr ⟨2 * hk.val + j.val, by omega⟩ l = ⟨2 * j.val + l.val / 64, by omega⟩ :=
  ⟨Fin.ext (by simp only [hd]; omega), fun l => Fin.ext (by simp only [gr]; omega)⟩

theorem pairR (x : Fin 256) (hk : Fin 4) (l : Fin 128) :
    pairOf O.q hk (ix2 x l) = ((heads q b (lo x) hk ⟨2 * (up x).val + l.val / 64, by omega⟩ (ln l) : ℝ) : EReal) := by
  rw [pairOf_at, H.xq, (fin8 H hk (up x)).1, (fin8 H hk (up x)).2]

theorem lane (w : Bool) (j : Fin 2) (e : Fin 64) (f : Fin 4 → Fin 64 → ℝ) :
    f ⟨2 * j.val + (64 * cond w 1 0 + e.val) / 64, by cases w <;> simp <;> omega⟩ (ln ⟨64 * cond w 1 0 + e.val, by cases w <;> simp <;> omega⟩) = f (grp w j) e := by
  congr 1
  · apply Fin.ext; cases w <;> simp [grp] <;> omega
  · apply Fin.ext; cases w <;> simp [ln] <;> omega

theorem dotsR (hk : Fin 4) (w : Bool) (x p : Fin 256) : matmul dot_S256x128_S256x128_S256x256_1_1_0_0_n_n none (pairOf O.q hk) (keys O hk w) (constant (F := Ideal) S256x256 .f32 0x00000000#32) (ix2 x p)
    = ((∑ e, K p hk e * heads q b (lo x) hk (grp w (up x)) e : ℝ) : EReal) := by
  rw [dots_at]
  simp only [keysR H, pairR H, ← EReal.coe_mul, coe_sum, mul_comm (heads q b _ _ _ _)]
  rw [sum_half w (K p hk)]
  exact congrArg _ (Finset.sum_congr rfl fun e _ => congrArg _ (lane H w (up x) e (heads q b (lo x) hk)))

theorem head_eq (hk : Fin 4) (w : Bool) (j : Fin 2) : head hk w j = ⟨4 * hk.val + (grp w j).val, by omega⟩ := Fin.ext (by simp only [head, grp]; omega)

theorem scoresR (hk : Fin 4) (w : Bool) (x p : Fin 256) : Step.scores O hk w (ix2 x p)
    = Cert.Attn.Row.score (ok b (lo x)) (sc q k b hk (grp w (up x)) (lo x)) p := by
  have h1 : O.t (head hk w (up x)) (ix3 0 (lo x) p) = _ := (congrArg (fun z => O.t z (ix3 0 (lo x) p)) (head_eq H hk w (up x))).trans (H.xt hk (grp w (up x)) (lo x) p)
  refine (congrArg₂ (fun y z : EReal => y + z) (dotsR H hk w x p) ((biases_at O.t (head hk w) x p).trans h1)).trans ?_
  unfold Cert.Attn.Row.score sc
  by_cases h : ok b (lo x) p
  · rw [if_pos h, if_pos h, ← EReal.coe_add, H.hK p h.2]
  · rw [if_neg h, if_neg h]; exact EReal.add_bot _

theorem topR (hk : Fin 4) (w : Bool) (x : Fin 256) : top O hk w (ix2 x 0) = ((mu q k b hk (grp w (up x)) (lo x) : ℝ) : EReal) := by
  refine (max_at _ x).trans ?_
  rw [← mu_spec]
  exact congrArg (fun f => Finset.univ.fold max (⊥ : EReal) f) (funext fun p => scoresR H hk w x p)
theorem rawsR (hk : Fin 4) (w : Bool) (x p : Fin 256) : raws O hk w (ix2 x p) = ((ex q k b hk (grp w (up x)) (lo x) p : ℝ) : EReal) := by
  refine (exps_at _ _ x p).trans ?_
  rw [scoresR H, topR H]
  exact Cert.Attn.Row.exp_score _ _ _ _
theorem totR (hk : Fin 4) (w : Bool) (x : Fin 256) : tot O hk w (ix2 x 0) = ((den q k b hk (grp w (up x)) (lo x) : ℝ) : EReal) := by
  refine (add_at _ x).trans ?_
  simp only [rawsR H, coe_sum]
  rfl
theorem partR (hk : Fin 4) (w : Bool) (x : Fin 256) (l : Fin 128) : part O hk w (ix2 x l)
    = if decide (64 ≤ l.val) = w then oR q k v b (lo x) hk (grp w (up x)) (ln l) else 0 := by
  refine (scaled_at _ _ x l).trans ?_
  rw [sums_at, totR H, div_real (den_pos ..).ne', one_mul]
  have ht : ∀ p, truncf (F := Ideal) .bf16 (raws O hk w) bitsLt_bf16_f32 (ix2 x p) = ((ex q k b hk (grp w (up x)) (lo x) p : ℝ) : EReal) :=
    fun p => rawsR H hk w x p
  simp only [ht, valsR H]
  by_cases h : decide (64 ≤ l.val) = w
  · simp only [if_pos h, ex_near]; rfl
  · simp only [if_neg h, mul_zero, Finset.sum_const_zero, zero_mul]
theorem outOfR (hk : Fin 4) (x : Fin 256) (l : Fin 128) : outOf O hk (ix2 x l)
    = oR q k v b (lo x) hk ⟨2 * (up x).val + l.val / 64, by omega⟩ (ln l) := by
  refine Eq.trans (b := (zero (F := Ideal) (ix2 x l) + part O hk false (ix2 x l) + part O hk true (ix2 x l) : EReal)) (by pointwise [outOf]) ?_
  rw [zero_at, partR H, partR H]
  by_cases h : 64 ≤ l.val
  · rw [if_neg (by simp [h]), if_pos (by simp [h]), zero_add, zero_add]; congr 1; apply Fin.ext; simp [grp]; omega
  · rw [if_pos (by simp [h]), if_neg (by simp [h]), zero_add, add_zero]; congr 1; apply Fin.ext; simp [grp]; omega
theorem lseOfR (hk : Fin 4) (w : Bool) (x : Fin 256) : lseOf O hk w (ix2 x 0) = ((lseR q k b (lo x) hk (grp w (up x)) : ℝ) : EReal) := by
  refine (logs_at _ _ x).trans ?_
  rw [topR H, totR H, log_pos (den_pos ..), lseR, EReal.coe_add]

/-! What the point stores. -/

theorem oOutR (i : Fin 128) (c : Fin 1024) : oOut O (at8 i c)
    = oR q k v b i ⟨c.val / 256, by omega⟩ ⟨c.val / 64 % 4, Nat.mod_lt _ (by omega)⟩ ⟨c.val % 64, Nat.mod_lt _ (by omega)⟩ := by
  refine Eq.trans (b := outOf O ⟨c.val / 128 / 2, by omega⟩ (ix2 ⟨128 * (c.val / 128 % 2) + i.val, by omega⟩ ⟨c.val % 128, Nat.mod_lt _ (by omega)⟩)) ?_ ?_
  · show oPiece O ⟨c.val / 128, by omega⟩ (at8 i ⟨c.val % 128, Nat.mod_lt _ (by omega)⟩) = _
    pointwise [oPiece, asBlock, halfRows]
    congr 2; apply Fin.ext; simp only; omega
  · rw [outOfR H]
    congr 1 <;> apply Fin.ext <;> simp [up, lo, ln] <;> omega
end point

theorem lane_word (h : Fin 16) (l : Fin 128) : IntOp.cmpi CmpIPredicate.eq (BitVec.ofNat 32 l.val) (BitVec.ofNat 32 h.val) = BitVec.ofBool (decide (l.val = h.val)) := by
  revert h l; decide +kernel
theorem put_at (h : Fin 16) (j : Fin 2) (x : FVec Ideal S256x1 .f32) (y : FVec Ideal S128x128 .f32) (i l : Fin 128) :
    put h j x y (ix2 i l) = if l.val = h.val then x (ix2 ⟨128 * j.val + i.val, by omega⟩ 0) else y (ix2 i l) := by
  pointwise [put]
  rw [lane_word]
  by_cases h' : l.val = h.val
  · simp only [h', decide_true, if_true]; rfl
  · simp only [h', decide_false, if_false]; rfl

/-- Each head's lane holds its own column; the other lanes hold zero. -/
theorem puts_at (O : Ops Ideal) (hk : Fin 4) (w : Bool) (y : FVec Ideal S128x128 .f32) (f : Fin 4 → Fin 4 → EReal) (i l : Fin 128)
    (hf : ∀ j : Fin 2, lseOf O hk w (ix2 ⟨128 * j.val + i.val, by omega⟩ 0) = f hk (grp w j)) :
    puts O hk w y (ix2 i l) = if l.val = 4 * hk.val + (grp w 1).val then f hk (grp w 1) else if l.val = 4 * hk.val + (grp w 0).val then f hk (grp w 0) else y (ix2 i l) := by
  refine (put_at _ _ _ _ i l).trans ?_
  rw [put_at, hf, hf]
  have e (j : Fin 2) : (head hk w j).val = 4 * hk.val + (grp w j).val := by simp only [head, grp]; omega
  rw [e, e]
theorem none_at (i l : Fin 128) : k0_pay46 (F := Ideal) (ix2 i l) = 0 := by pointwise [k0_pay46]

/-- What the lanes hold: sixteen heads' columns, then zeros. -/
def lanesOf (f : Fin 4 → Fin 4 → EReal) (l : Fin 128) : EReal := if h : l.val < 16 then f ⟨l.val / 4, by omega⟩ ⟨l.val % 4, Nat.mod_lt _ (by omega)⟩ else 0

theorem stats_at (O : Ops Ideal) (f : Fin 4 → Fin 4 → EReal) (i l : Fin 128)
    (hf : ∀ (hk : Fin 4) (w : Bool) (j : Fin 2), lseOf O hk w (ix2 ⟨128 * j.val + i.val, by omega⟩ 0) = f hk (grp w j)) :
    stats O (ix2 i l) = lanesOf f l := by
  unfold stats
  rw [puts_at O 3 true _ f i l (hf 3 true), puts_at O 3 false _ f i l (hf 3 false), puts_at O 2 true _ f i l (hf 2 true), puts_at O 2 false _ f i l (hf 2 false),
    puts_at O 1 true _ f i l (hf 1 true), puts_at O 1 false _ f i l (hf 1 false), puts_at O 0 true _ f i l (hf 0 true), puts_at O 0 false _ f i l (hf 0 false), none_at]
  unfold lanesOf
  by_cases h : l.val < 16
  · rw [dif_pos h]
    obtain ⟨l, hl⟩ := l
    have h : l < 16 := h
    interval_cases l <;> simp [grp] <;> rfl
  · rw [dif_neg h]
    simp only [grp, Bool.cond_true, Bool.cond_false, Fin.val_zero, Fin.val_one, Fin.val_two]
    rw [if_neg (by simp; omega), if_neg (by simp; omega), if_neg (by simp; omega), if_neg (by simp; omega), if_neg (by simp; omega), if_neg (by simp; omega), if_neg (by simp; omega), if_neg (by simp; omega),
      if_neg (by simp; omega), if_neg (by simp; omega), if_neg (by simp; omega), if_neg (by simp; omega), if_neg (by simp; omega), if_neg (by simp; omega), if_neg (by simp; omega), if_neg (by simp; omega)]

theorem lseOutR {O : Ops Ideal} {b : Fin 32} {K : Fin 256 → Fin 4 → Fin 64 → ℝ} (H : Holds q k v O b K) (i l : Fin 128) :
    lseOut O (at8 i l) = lanesOf (fun h g => ((lseR q k b i h g : ℝ) : EReal)) l := by
  refine Eq.trans (b := stats O (ix2 i l)) ?_ (stats_at O _ i l fun hk w j => ?_)
  · pointwise [lseOut, asBlock]
    congr 2; apply Fin.ext; simp only; omega
  · rw [lseOfR H]
    have h1 : lo ⟨128 * j.val + i.val, by omega⟩ = i := Fin.ext (by simp only [lo]; omega)
    have h2 : up ⟨128 * j.val + i.val, by omega⟩ = j := Fin.ext (by simp only [up]; omega)
    rw [h1, h2]
end Cert.FwdIdeal.Val
-- ==== Proof.FwdTable.lean ====
/- The attention kernel's table of biases at the reals. -/
module

public import proofs.«01_k».proof.Proof.FwdRow
public import proofs.«01_k».proof.Proof.FwdBody
public import proofs.«01_k».proof.Proof.AttnTable
public import Idealize.ShloMosaic.Lib.Pointwise

@[expose] public section
set_option maxRecDepth 16384
noncomputable section
namespace Cert.FwdIdeal.Val
open Idealize.ShloMosaic Idealize.ShloMosaic.TcCoe Idealize.SL.Sem Cert.FwdIdeal Cert.FwdIdeal.Gen Cert.FwdIdeal.Step Cert.Step
open Cert.Attn.Real
open Cert.AttnIdeal.Val (mod_word distW reach_word own_word times_word)

theorem away_at (i : Fin 128) (p : Fin 256) : k0_pay3 (ix2 i p) = distW p i := by pointwise [k0_pay3]; rw [mod_word]; rfl
theorem reach_at (i : Fin 128) (p : Fin 256) : k0_pay4 (ix2 i p) = BitVec.ofBool (decide (i.val ≤ p.val ∧ p.val ≤ i.val + 128)) := by
  pointwise [k0_pay4]; rw [away_at]; exact reach_word p i
theorem own_at (i : Fin 128) (p : Fin 256) : k0_pay6 (ix2 i p) = BitVec.ofBool (decide ((i.val ≤ p.val ∧ p.val ≤ i.val + 128) ∧ 128 ≤ p.val)) := by
  pointwise [k0_pay6]; rw [reach_at, own_word]
  rw [Bool.decide_and (_ ∧ _)]
  generalize decide (i.val ≤ p.val ∧ p.val ≤ i.val + 128) = x
  generalize decide (128 ≤ p.val) = y
  cases x <;> cases y <;> rfl
theorem times_at (i : Fin 128) (p : Fin 256) : k0_pay5 (F := Ideal) (ix2 i p) = ((-(16 * (128 + i.val - p.val)) : ℝ) : EReal) := by
  pointwise [k0_pay5]
  rw [away_at]
  refine (congrArg (fun z : ℤ => ((z : ℝ) : EReal)) (times_word p i)).trans ?_
  push_cast; rfl

/-- The slopes are the ones of the gradient kernel. -/
theorem slope_same (h : Fin 16) : Step.slope (F := Ideal) h = Cert.AttnIdeal.Step.slope (F := Ideal) h := by
  fin_cases h <;> rfl
theorem slope_at (h g : Fin 4) : Step.slope (F := Ideal) ⟨4 * h.val + g.val, by omega⟩ = ((slope h g : ℝ) : EReal) :=
  (slope_same _).trans (Cert.AttnIdeal.Val.slope_at h g)

theorem bias_at (w : Fin 2) (h g : Fin 4) (b : Fin 32) (hb : w.val = b.val / 16) (i : Fin 128) (p : Fin 256) :
    bias (F := Ideal) w ⟨4 * h.val + g.val, by omega⟩ (ix3 0 i p) = if ok b i p then ((-slope h g * (16 * (128 + i.val - p.val)) : ℝ) : EReal) else ⊥ := by
  have hm : Named.named (F := Ideal) κ "mask" (φ := .f32) 0xF149F2CA#32 = ⊥ := rfl
  have key : ∀ (M : IVec S128x256 1), M (ix2 i p) = BitVec.ofBool (decide (ok b i p)) →
      shapeCast S1x128x256 (select M (mulf (broadcast S128x256 (Step.slope (F := Ideal) ⟨4 * h.val + g.val, by omega⟩)) (k0_pay5 (F := Ideal)))
        (broadcast S128x256 (Named.named κ "mask" 0xF149F2CA#32))) shapeCasts_S128x256_S1x128x256 (ix3 0 i p)
      = if ok b i p then ((-slope h g * (16 * (128 + i.val - p.val)) : ℝ) : EReal) else ⊥ := by
    intro M hM
    pointwise
    rw [hM, times_at, slope_at, hm, ← EReal.coe_mul]
    by_cases ho : ok b i p
    · simp only [ho, decide_true, if_true]
      exact congrArg (fun z : ℝ => (z : EReal)) (by ring)
    · simp only [ho, decide_false, if_false]; rfl
  have hb' := b.isLt
  match w, hb with
  | 0, hb => exact key k0_pay6 ((own_at i p).trans (congrArg BitVec.ofBool (decide_eq_decide.2 (by unfold ok; simp at hb; omega))))
  | 1, hb => exact key k0_pay4 ((reach_at i p).trans (congrArg BitVec.ofBool (decide_eq_decide.2 (by unfold ok; simp at hb; omega))))

/-- The table's rows that a point on block `b` reads. -/
theorem table_at (w : Fin 2) (h g : Fin 4) (b : Fin 32) (hb : w.val = b.val / 16) (i : Fin 128) (p : Fin 256) :
    Step.rowOf (F := Ideal) table ⟨16 * w.val + (4 * h.val + g.val), by omega⟩ (ix3 0 i p) = if ok b i p then ((-slope h g * (16 * (128 + i.val - p.val)) : ℝ) : EReal) else ⊥ := by
  rw [← bias_at w h g b hb i p]
  show bias ⟨(16 * w.val + (4 * h.val + g.val)) / 16, by omega⟩ ⟨(16 * w.val + (4 * h.val + g.val)) % 16, Nat.mod_lt _ (by omega)⟩ (ix3 0 i p) = _
  exact congrArg₂ (fun x y => bias x y (ix3 0 i p)) (Fin.ext (by simp only; omega)) (Fin.ext (by simp only; omega))

end Cert.FwdIdeal.Val
-- ==== Proof.FwdRun.lean ====
/- One point of the attention kernel: what it leaves in its outputs and its table. -/
module

public import proofs.«01_k».proof.Proof.Gen.FwdIdeal.Frame
public import proofs.«01_k».proof.Proof.FwdBody
public import Idealize.ShloMosaic.Lib.WritesUnit
public import Idealize.ShloMosaic.Lib.VecWindow
public import Idealize.ShloMosaic.Lib.Tactic

@[expose] public section
set_option maxRecDepth 16384
noncomputable section
namespace Cert.FwdIdeal.Step
open Idealize.ShloMosaic Idealize.ShloMosaic.TcCoe Idealize.ShloMosaic.Tactic
open Idealize.SL.Sem
open Cert.FwdIdeal Cert.FwdIdeal.Gen
variable {F : FTy → Type} [FloatOps F] [Named F]

/-- Which half of the table a point's rows lie in. -/
def baseOf (i : grid0.Coords) : Fin 2 := i 1

theorem off1_eq (i : grid0.Coords) (h : Fin 16) : k0_off1 i (BitVec.ofNat 32 h.val) = ![16 * (baseOf i).val + h.val, 0, 0] := by
  revert i h; decide +kernel

theorem inb8 : ∀ (b : Fin 8) (a), (![0, 0, 0, 128 * b.val] : Fin 4 → ℕ) a + S16x1x8x128.size a ≤ S16x1x8x1024.size a := by decide
theorem inbT : ∀ (r : Fin 32) (a), (![r.val, 0, 0] : Fin 3 → ℕ) a + S1x128x256.size a ≤ S32x128x256.size a := by decide

theorem ld8 (v : View sig .tc .vmem S16x1x8x1024 .f32) (f : v.ty.Contents (Elt F)) {off : Fin 4 → ℕ} (inb) (b : Fin 8) (h : off = ![0, 0, 0, 128 * b.val]) :
    v.readAt (Elt F) (Rect.unit (s := S16x1x8x1024) off S16x1x8x128.size inb).toLoadRect f = lanes8 (v.read (Elt F) f) b := by
  subst h
  funext y
  refine View.ld_unit_apply_of (v.read (Elt F) f) _ _ inb y _ fun a => ?_
  match a with
  | ⟨0, _⟩ => exact (Nat.zero_add _).symm
  | ⟨1, _⟩ => exact (Nat.zero_add _).symm
  | ⟨2, _⟩ => exact (Nat.zero_add _).symm
  | ⟨3, _⟩ => rfl

theorem ld_row (v : View sig .tc .vmem S32x128x256 .f32) (f : v.ty.Contents (Elt F)) {off : Fin 3 → ℕ} (inb) (r : Fin 32) (h : off = ![r.val, 0, 0]) :
    v.readAt (Elt F) (Rect.unit (s := S32x128x256) off S1x128x256.size inb).toLoadRect f = rowOf (v.read (Elt F) f) r := by
  subst h
  funext y
  refine View.ld_unit_apply_of (v.read (Elt F) f) _ _ inb y _ fun a => ?_
  match a with
  | ⟨0, _⟩ => show r.val = r.val + (y 0).val; have := (y 0).isLt; change _ < 1 at this; omega
  | ⟨1, _⟩ => exact (Nat.zero_add _).symm
  | ⟨2, _⟩ => exact (Nat.zero_add _).symm

theorem ld_head (v : View sig .tc .vmem S32x128x256 .f32) (f : v.ty.Contents (Elt F)) (i : grid0.Coords) (h : Fin 16) (inb) :
    v.readAt (Elt F) (Rect.unit (s := S32x128x256) (k0_off1 i (BitVec.ofNat 32 h.val)) S1x128x256.size inb).toLoadRect f
      = rowOf (v.read (Elt F) f) ⟨16 * (baseOf i).val + h.val, by omega⟩ :=
  ld_row v f inb _ (off1_eq i h)

/-- The same operands as the point loads them. -/
def opsAt (v1 : View sig .tc .vmem S16x1x8x1024 .f32) (f1 : v1.ty.Contents (Elt F)) (v2 : View sig .tc .vmem S16x1x8x512 .f32) (f2 : v2.ty.Contents (Elt F))
    (v3 : View sig .tc .vmem S16x1x8x512 .f32) (f3 : v3.ty.Contents (Elt F)) (v7 : View sig .tc .vmem S32x128x256 .f32) (f7 : v7.ty.Contents (Elt F)) (i : grid0.Coords) : Ops F where
  q := fun b => v1.readAt (Elt F) (Rect.unit (s := S16x1x8x1024) ![0, 0, 0, 128 * b.val] S16x1x8x128.size (inb8 b)).toLoadRect f1
  kc := v2.readAt (Elt F) (Rect.unit (s := S16x1x8x512) ![0, 0, 0, 0] S16x1x8x512.size inb_S16x1x8x512_S16x1x8x512_0_0_0_0).toLoadRect f2
  kp := v3.readAt (Elt F) (Rect.unit (s := S16x1x8x512) ![0, 0, 0, 0] S16x1x8x512.size inb_S16x1x8x512_S16x1x8x512_0_0_0_0).toLoadRect f3
  t := fun h => v7.readAt (Elt F) (Rect.unit (s := S32x128x256) (k0_off1 i (BitVec.ofNat 32 h.val)) S1x128x256.size (k0_off1_inb i h)).toLoadRect f7

theorem ops_eq (v1 : View sig .tc .vmem S16x1x8x1024 .f32) (f1 : v1.ty.Contents (Elt F)) (v2 : View sig .tc .vmem S16x1x8x512 .f32) (f2 : v2.ty.Contents (Elt F))
    (v3 : View sig .tc .vmem S16x1x8x512 .f32) (f3 : v3.ty.Contents (Elt F)) (v7 : View sig .tc .vmem S32x128x256 .f32) (f7 : v7.ty.Contents (Elt F)) (i : grid0.Coords) :
    opsAt v1 f1 v2 f2 v3 f3 v7 f7 i = ops (v1.read (Elt F) f1) (v2.read (Elt F) f2) (v3.read (Elt F) f3) (v7.read (Elt F) f7) (baseOf i) := by
  unfold opsAt ops
  rw [funext fun b => ld8 v1 f1 (inb8 b) b rfl, View.readAt_full (s := S16x1x8x512) v2, View.readAt_full (s := S16x1x8x512) v3, funext fun h => ld_head v7 f7 i h (k0_off1_inb i h)]

/-- Storing one group of lanes, read back in its own place and in the others. -/
theorem st8 (v : View sig .tc .vmem S16x1x8x1024 .f32) (f : v.ty.Contents (Elt F)) {off : Fin 4 → ℕ} (inb) (b : Fin 8) (h : off = ![0, 0, 0, 128 * b.val])
    (P : Vec F S16x1x8x128 .f32) (L) (y : S16x1x8x1024.Idx) :
    v.read (Elt F) (v.writes (Elt F) f (⟨Rect.unit (s := S16x1x8x1024) off S16x1x8x128.size inb, P⟩ :: L)) y
      = if (y 3).val / 128 = b.val then P (ix4 (y 0) (y 1) (y 2) (⟨(y 3).val % 128, Nat.mod_lt _ (by omega)⟩ : Fin 128)) else v.read (Elt F) (v.writes (Elt F) f L) y := by
  subst h
  by_cases hy : (y 3).val / 128 = b.val
  · rw [if_pos hy]
    refine View.read_writes_cons_unit_of_mem v f inb P L y _ rfl fun a => ?_
    match a with
    | ⟨0, _⟩ => exact (Nat.zero_add _).symm
    | ⟨1, _⟩ => exact (Nat.zero_add _).symm
    | ⟨2, _⟩ => exact (Nat.zero_add _).symm
    | ⟨3, _⟩ => show (y 3).val = 128 * b.val + (y 3).val % 128; omega
  · rw [if_neg hy]
    refine View.read_writes_cons_unit_of_not_mem v f inb P L y rfl 3 ?_
    show (y 3).val < 128 * b.val ∨ 128 * b.val + 128 ≤ (y 3).val
    omega

theorem stT (v : View sig .tc .vmem S32x128x256 .f32) (f : v.ty.Contents (Elt F)) {off : Fin 3 → ℕ} (inb) (r : Fin 32) (h : off = ![r.val, 0, 0])
    (P : Vec F S1x128x256 .f32) (L) (y : S32x128x256.Idx) :
    v.read (Elt F) (v.writes (Elt F) f (⟨Rect.unit (s := S32x128x256) off S1x128x256.size inb, P⟩ :: L)) y
      = if (y 0).val = r.val then P (ix3 (0 : Fin 1) (y 1) (y 2)) else v.read (Elt F) (v.writes (Elt F) f L) y := by
  subst h
  by_cases hy : (y 0).val = r.val
  · rw [if_pos hy]
    refine View.read_writes_cons_unit_of_mem v f inb P L y _ rfl fun a => ?_
    match a with
    | ⟨0, _⟩ => exact hy
    | ⟨1, _⟩ => exact (Nat.zero_add _).symm
    | ⟨2, _⟩ => exact (Nat.zero_add _).symm
  · rw [if_neg hy]
    refine View.read_writes_cons_unit_of_not_mem v f inb P L y rfl 0 ?_
    show (y 0).val < r.val ∨ r.val + 1 ≤ (y 0).val
    omega

/-- The rows below `n` of the table, stored one after another, the last one first. -/
def rowsList (P : Fin 32 → Vec F S1x128x256 .f32) : (n : ℕ) → n ≤ 32 → List (View.Piece (Elt F) S32x128x256 .f32)
  | 0, _ => []
  | n + 1, h => ⟨Rect.unit (s := S32x128x256) ![n, 0, 0] S1x128x256.size (inbT ⟨n, h⟩), P ⟨n, h⟩⟩ :: rowsList P n (Nat.le_of_succ_le h)

theorem read_rows (v : View sig .tc .vmem S32x128x256 .f32) (f : v.ty.Contents (Elt F)) (P : Fin 32 → Vec F S1x128x256 .f32) (y : S32x128x256.Idx) :
    ∀ (n : ℕ) (hn : n ≤ 32), (y 0).val < n → v.read (Elt F) (v.writes (Elt F) f (rowsList P n hn)) y = P (y 0) (ix3 (0 : Fin 1) (y 1) (y 2))
  | 0, _, h => absurd h (Nat.not_lt_zero _)
  | n + 1, hn, h => by
    refine (stT v f (inbT ⟨n, hn⟩) ⟨n, hn⟩ rfl (P ⟨n, hn⟩) _ y).trans ?_
    split_ifs with e
    · exact congrArg (P · _) (Fin.ext e.symm)
    · exact read_rows v f P y n (Nat.le_of_succ_le hn) (by have e' : (y 0).val ≠ n := e; omega)

/-- The table stored row by row. -/
theorem read_table (v : View sig .tc .vmem S32x128x256 .f32) (f : v.ty.Contents (Elt F)) :
    v.read (Elt F) (v.writes (Elt F) f (rowsList biasRow 32 le_rfl)) = table :=
  funext fun y => read_rows v f biasRow y 32 le_rfl (y 0).isLt

/-- Eight groups of lanes stored make up the block. -/
theorem read8 (v : View sig .tc .vmem S16x1x8x1024 .f32) (f : v.ty.Contents (Elt F)) (P : Fin 8 → Vec F S16x1x8x128 .f32) {p0 p1 p2 p3 p4 p5 p6 p7 : Vec F S16x1x8x128 .f32}
    (e0 : p0 = P 0) (e1 : p1 = P 1) (e2 : p2 = P 2) (e3 : p3 = P 3) (e4 : p4 = P 4) (e5 : p5 = P 5) (e6 : p6 = P 6) (e7 : p7 = P 7) (i0 i1 i2 i3 i4 i5 i6 i7) :
    v.read (Elt F) (v.writes (Elt F) f
      [⟨Rect.unit (s := S16x1x8x1024) ![0, 0, 0, 896] S16x1x8x128.size i7, p7⟩, ⟨Rect.unit (s := S16x1x8x1024) ![0, 0, 0, 768] S16x1x8x128.size i6, p6⟩,
       ⟨Rect.unit (s := S16x1x8x1024) ![0, 0, 0, 640] S16x1x8x128.size i5, p5⟩, ⟨Rect.unit (s := S16x1x8x1024) ![0, 0, 0, 512] S16x1x8x128.size i4, p4⟩,
       ⟨Rect.unit (s := S16x1x8x1024) ![0, 0, 0, 384] S16x1x8x128.size i3, p3⟩, ⟨Rect.unit (s := S16x1x8x1024) ![0, 0, 0, 256] S16x1x8x128.size i2, p2⟩,
       ⟨Rect.unit (s := S16x1x8x1024) ![0, 0, 0, 128] S16x1x8x128.size i1, p1⟩, ⟨Rect.unit (s := S16x1x8x1024) ![0, 0, 0, 0] S16x1x8x128.size i0, p0⟩])
      = fun y => P ⟨(y 3).val / 128, by have h := (y 3).isLt; change _ < 1024 at h; omega⟩
          (ix4 (y 0) (y 1) (y 2) (⟨(y 3).val % 128, Nat.mod_lt _ (by omega)⟩ : Fin 128)) := by
  subst e0 e1 e2 e3 e4 e5 e6 e7
  funext y
  have hlt : (y 3).val < 1024 := (y 3).isLt
  have key : ∀ b : Fin 8, (y 3).val / 128 = b.val → ∀ z, P b z = P ⟨(y 3).val / 128, by omega⟩ z := fun b h z => congrArg (P · z) (Fin.ext h.symm)
  rw [st8 v f i7 7 rfl, st8 v f i6 6 rfl, st8 v f i5 5 rfl, st8 v f i4 4 rfl, st8 v f i3 3 rfl, st8 v f i2 2 rfl, st8 v f i1 1 rfl, st8 v f i0 0 rfl]
  split_ifs with h7 h6 h5 h4 h3 h2 h1 h0
  · exact key 7 h7 _
  · exact key 6 h6 _
  · exact key 5 h5 _
  · exact key 4 h4 _
  · exact key 3 h3 _
  · exact key 2 h2 _
  · exact key 1 h1 _
  · exact key 0 h0 _
  · exfalso; simp only [Fin.val_ofNat] at *; omega

/-- One store of a whole block, read back. -/
theorem st_whole (v : View sig .tc .vmem S16x1x8x128 .f32) (f : v.ty.Contents (Elt F)) {off : Fin 4 → ℕ} (inb) (h : off = ![0, 0, 0, 0]) (P : Vec F S16x1x8x128 .f32) :
    v.read (Elt F) (v.writes (Elt F) f [⟨Rect.unit (s := S16x1x8x128) off S16x1x8x128.size inb, P⟩]) = P := by
  subst h
  funext y
  refine View.read_writes_cons_unit_of_mem v f inb P [] y _ rfl fun a => ?_
  match a with
  | ⟨0, _⟩ => exact (Nat.zero_add _).symm
  | ⟨1, _⟩ => exact (Nat.zero_add _).symm
  | ⟨2, _⟩ => exact (Nat.zero_add _).symm
  | ⟨3, _⟩ => exact (Nat.zero_add _).symm

/-- The operands of a point from what its buffers hold. -/
theorem ops_unread (i : grid0.Coords) (arg2 : Memref sig .tc .vmem S16x1x8x1024 .f32) (harg2 : arg2.IsWhole) (arg3 : Memref sig .tc .vmem S16x1x8x512 .f32) (harg3 : arg3.IsWhole) (arg4 : Memref sig .tc .vmem S16x1x8x512 .f32) (harg4 : arg4.IsWhole) (arg7 : Memref sig .tc .vmem S32x128x256 .f32) (harg7 : arg7.IsWhole)
    (x0 : Vec F S16x1x8x1024 .f32) (x1 x2 : Vec F S16x1x8x512 .f32) (T : Vec F S32x128x256 .f32) :
    opsAt arg2.view (harg2.unread x0) arg3.view (harg3.unread x1) arg4.view (harg4.unread x2) arg7.view (harg7.unread T) i = ops x0 x1 x2 T (baseOf i) := by
  rw [ops_eq, harg2.read_unread, harg3.read_unread, harg4.read_unread, harg7.read_unread]

theorem out_B_3 (c : Dev nD) (i : grid0.Coords) (arg2 : Memref sig .tc .vmem S16x1x8x1024 .f32) (harg2 : arg2.IsWhole) (arg3 : Memref sig .tc .vmem S16x1x8x512 .f32) (harg3 : arg3.IsWhole) (arg4 : Memref sig .tc .vmem S16x1x8x512 .f32) (harg4 : arg4.IsWhole) (arg5 : Memref sig .tc .vmem S16x1x8x1024 .f32) (harg5 : arg5.IsWhole) (arg6 : Memref sig .tc .vmem S16x1x8x128 .f32) (harg6 : arg6.IsWhole) (arg7 : Memref sig .tc .vmem S32x128x256 .f32) (harg7 : arg7.IsWhole)
    (hc0 : ¬cond0_0 i) (x0 : Vec F S16x1x8x1024 .f32) (x1 x2 : Vec F S16x1x8x512 .f32) (xs0 : Vec F S32x128x256 .f32) :
    out0_B_3 c i arg2 harg2 arg3 harg3 arg4 harg4 arg5 harg5 arg6 harg6 arg7 harg7 hc0 x0 x1 x2 xs0 = oOut (ops x0 x1 x2 xs0 (baseOf i)) := by
  unfold out0_B_3
  refine (read8 _ _ (oPiece (opsAt arg2.view (harg2.unread x0) arg3.view (harg3.unread x1) arg4.view (harg4.unread x2) arg7.view (harg7.unread xs0) i)) ?_ ?_ ?_ ?_ ?_ ?_ ?_ ?_ _ _ _ _ _ _ _ _).trans
    (congrArg oOut (ops_unread i arg2 harg2 arg3 harg3 arg4 harg4 arg7 harg7 x0 x1 x2 xs0))
  · sl_kernel_rfl
  · sl_kernel_rfl
  · sl_kernel_rfl
  · sl_kernel_rfl
  · sl_kernel_rfl
  · sl_kernel_rfl
  · sl_kernel_rfl
  · sl_kernel_rfl

theorem out_B_4 (c : Dev nD) (i : grid0.Coords) (arg2 : Memref sig .tc .vmem S16x1x8x1024 .f32) (harg2 : arg2.IsWhole) (arg3 : Memref sig .tc .vmem S16x1x8x512 .f32) (harg3 : arg3.IsWhole) (arg4 : Memref sig .tc .vmem S16x1x8x512 .f32) (harg4 : arg4.IsWhole) (arg5 : Memref sig .tc .vmem S16x1x8x1024 .f32) (harg5 : arg5.IsWhole) (arg6 : Memref sig .tc .vmem S16x1x8x128 .f32) (harg6 : arg6.IsWhole) (arg7 : Memref sig .tc .vmem S32x128x256 .f32) (harg7 : arg7.IsWhole)
    (hc0 : ¬cond0_0 i) (x0 : Vec F S16x1x8x1024 .f32) (x1 x2 : Vec F S16x1x8x512 .f32) (xs0 : Vec F S32x128x256 .f32) :
    out0_B_4 c i arg2 harg2 arg3 harg3 arg4 harg4 arg5 harg5 arg6 harg6 arg7 harg7 hc0 x0 x1 x2 xs0 = lseOut (ops x0 x1 x2 xs0 (baseOf i)) := by
  unfold out0_B_4
  refine Eq.trans (b := lseOut (opsAt arg2.view (harg2.unread x0) arg3.view (harg3.unread x1) arg4.view (harg4.unread x2) arg7.view (harg7.unread xs0) i)) ?_
    (congrArg lseOut (ops_unread i arg2 harg2 arg3 harg3 arg4 harg4 arg7 harg7 x0 x1 x2 xs0))
  exact (st_whole VO0_4 VO0_4.junk _ rfl _).trans (by sl_kernel_rfl)

/-- The operands of the first point, which reads its table from the rows it has just stored. -/
theorem ops_first (i : grid0.Coords) (arg2 : Memref sig .tc .vmem S16x1x8x1024 .f32) (harg2 : arg2.IsWhole) (arg3 : Memref sig .tc .vmem S16x1x8x512 .f32) (harg3 : arg3.IsWhole) (arg4 : Memref sig .tc .vmem S16x1x8x512 .f32) (harg4 : arg4.IsWhole) (arg7 : Memref sig .tc .vmem S32x128x256 .f32)
    (x0 : Vec F S16x1x8x1024 .f32) (x1 x2 : Vec F S16x1x8x512 .f32) :
    opsAt arg2.view (harg2.unread x0) arg3.view (harg3.unread x1) arg4.view (harg4.unread x2) arg7.view (arg7.view.writes (Elt F) arg7.view.junk (rowsList biasRow 32 le_rfl)) i
      = ops x0 x1 x2 table (baseOf i) := by
  rw [ops_eq, harg2.read_unread, harg3.read_unread, harg4.read_unread, read_table]

theorem sout_A_0 (c : Dev nD) (i : grid0.Coords) (arg2 : Memref sig .tc .vmem S16x1x8x1024 .f32) (harg2 : arg2.IsWhole) (arg3 : Memref sig .tc .vmem S16x1x8x512 .f32) (harg3 : arg3.IsWhole) (arg4 : Memref sig .tc .vmem S16x1x8x512 .f32) (harg4 : arg4.IsWhole) (arg5 : Memref sig .tc .vmem S16x1x8x1024 .f32) (harg5 : arg5.IsWhole) (arg6 : Memref sig .tc .vmem S16x1x8x128 .f32) (harg6 : arg6.IsWhole) (arg7 : Memref sig .tc .vmem S32x128x256 .f32) (harg7 : arg7.IsWhole)
    (hc0 : cond0_0 i) (x0 : Vec F S16x1x8x1024 .f32) (x1 x2 : Vec F S16x1x8x512 .f32) :
    sout0_A_0 c i arg2 harg2 arg3 harg3 arg4 harg4 arg5 harg5 arg6 harg6 arg7 harg7 hc0 x0 x1 x2 = table := by
  unfold sout0_A_0
  refine Eq.trans (congrArg (fun L => VS0_0.read (Elt F) (VS0_0.writes (Elt F) VS0_0.junk L)) ?_) (read_table VS0_0 VS0_0.junk)
  sl_kernel_rfl

theorem out_A_3 (c : Dev nD) (i : grid0.Coords) (arg2 : Memref sig .tc .vmem S16x1x8x1024 .f32) (harg2 : arg2.IsWhole) (arg3 : Memref sig .tc .vmem S16x1x8x512 .f32) (harg3 : arg3.IsWhole) (arg4 : Memref sig .tc .vmem S16x1x8x512 .f32) (harg4 : arg4.IsWhole) (arg5 : Memref sig .tc .vmem S16x1x8x1024 .f32) (harg5 : arg5.IsWhole) (arg6 : Memref sig .tc .vmem S16x1x8x128 .f32) (harg6 : arg6.IsWhole) (arg7 : Memref sig .tc .vmem S32x128x256 .f32) (harg7 : arg7.IsWhole)
    (hc0 : cond0_0 i) (x0 : Vec F S16x1x8x1024 .f32) (x1 x2 : Vec F S16x1x8x512 .f32) :
    out0_A_3 c i arg2 harg2 arg3 harg3 arg4 harg4 arg5 harg5 arg6 harg6 arg7 harg7 hc0 x0 x1 x2 = oOut (ops x0 x1 x2 table (baseOf i)) := by
  unfold out0_A_3
  refine (read8 _ _ (oPiece (opsAt arg2.view (harg2.unread x0) arg3.view (harg3.unread x1) arg4.view (harg4.unread x2) arg7.view (arg7.view.writes (Elt F) arg7.view.junk (rowsList biasRow 32 le_rfl)) i)) ?_ ?_ ?_ ?_ ?_ ?_ ?_ ?_ _ _ _ _ _ _ _ _).trans
    (congrArg oOut (ops_first i arg2 harg2 arg3 harg3 arg4 harg4 arg7 x0 x1 x2))
  · sl_kernel_rfl
  · sl_kernel_rfl
  · sl_kernel_rfl
  · sl_kernel_rfl
  · sl_kernel_rfl
  · sl_kernel_rfl
  · sl_kernel_rfl
  · sl_kernel_rfl

theorem out_A_4 (c : Dev nD) (i : grid0.Coords) (arg2 : Memref sig .tc .vmem S16x1x8x1024 .f32) (harg2 : arg2.IsWhole) (arg3 : Memref sig .tc .vmem S16x1x8x512 .f32) (harg3 : arg3.IsWhole) (arg4 : Memref sig .tc .vmem S16x1x8x512 .f32) (harg4 : arg4.IsWhole) (arg5 : Memref sig .tc .vmem S16x1x8x1024 .f32) (harg5 : arg5.IsWhole) (arg6 : Memref sig .tc .vmem S16x1x8x128 .f32) (harg6 : arg6.IsWhole) (arg7 : Memref sig .tc .vmem S32x128x256 .f32) (harg7 : arg7.IsWhole)
    (hc0 : cond0_0 i) (x0 : Vec F S16x1x8x1024 .f32) (x1 x2 : Vec F S16x1x8x512 .f32) :
    out0_A_4 c i arg2 harg2 arg3 harg3 arg4 harg4 arg5 harg5 arg6 harg6 arg7 harg7 hc0 x0 x1 x2 = lseOut (ops x0 x1 x2 table (baseOf i)) := by
  unfold out0_A_4
  refine Eq.trans (b := lseOut (opsAt arg2.view (harg2.unread x0) arg3.view (harg3.unread x1) arg4.view (harg4.unread x2) arg7.view (arg7.view.writes (Elt F) arg7.view.junk (rowsList biasRow 32 le_rfl)) i)) ?_
    (congrArg lseOut (ops_first i arg2 harg2 arg3 harg3 arg4 harg4 arg7 x0 x1 x2))
  exact (st_whole VO0_4 VO0_4.junk _ rfl _).trans (by sl_kernel_rfl)

/-! ## All points -/

variable (m : (ℓ : Loc nD τ sig) → Buf (Elt F) ℓ) (c : Dev nD)

/-- A point's operands. -/
def opsOf (t : Fin cfg0.N) : Ops F := ops (iblk m c 0 t) (iblk m c 1 t) (iblk m c 2 t) table (baseOf (grid0.coords t))

theorem outs_at : ∀ (n : ℕ) (hn : n < cfg0.N), outsAt0 m c n hn = (oOut (opsOf m c ⟨n, hn⟩), lseOut (opsOf m c ⟨n, hn⟩), table)
  | 0, hn => by
    refine (outsAt0_A m c ⟨0, hn⟩ rfl).trans ?_
    rw [out_A_3, out_A_4, sout_A_0]; rfl
  | n + 1, hn => by
    have hlt : n + 1 < 32 := hn
    refine (outsAt0_B m c ⟨n + 1, hn⟩ (by show ¬ (n + 1) % 32 = 0; omega)).trans ?_
    have ih : (outsAt0 m c n (Nat.lt_of_succ_lt hn)).2.2 = table := congrArg (fun z => z.2.2) (outs_at n (Nat.lt_of_succ_lt hn))
    rw [out_B_3, out_B_4]
    refine (congrArg (fun T => (oOut (ops (iblk m c 0 ⟨n + 1, hn⟩) (iblk m c 1 ⟨n + 1, hn⟩) (iblk m c 2 ⟨n + 1, hn⟩) T (baseOf (grid0.coords ⟨n + 1, hn⟩))),
      lseOut (ops (iblk m c 0 ⟨n + 1, hn⟩) (iblk m c 1 ⟨n + 1, hn⟩) (iblk m c 2 ⟨n + 1, hn⟩) T (baseOf (grid0.coords ⟨n + 1, hn⟩))), T)) ih).trans rfl

end Cert.FwdIdeal.Step
-- ==== Proof.FwdIns.lean ====
/- What one point of the attention kernel finds in its windows, at the reals. -/
module

public import proofs.«01_k».proof.Proof.FwdVal
public import proofs.«01_k».proof.Proof.FwdTable
public import proofs.«01_k».proof.Proof.FwdRun
public import proofs.«01_k».proof.Proof.AttnOut

@[expose] public section
set_option maxRecDepth 16384
noncomputable section
namespace Cert.FwdIdeal.Val
open Idealize.ShloMosaic Idealize.ShloMosaic.TcCoe Idealize.SL.Sem Cert.FwdIdeal Cert.FwdIdeal.Gen Cert.FwdIdeal.Step Cert.Step
open Cert.Attn.Real Cert.Fwd.Real StableHlo
open Cert.AttnIdeal.Val (at8 up lo ln grp hd gr atB near near_win heads_of)

theorem idx : ∀ t : Fin cfg0.N, win0_0.index t = ![t.val % 2, t.val / 2, 0, 0] ∧ win0_1.index t = ![t.val % 2, t.val / 2, 0, 0]
    ∧ win0_2.index t = ![0, t.val / 2, 0, 0] ∧ win0_3.index t = ![t.val % 2, t.val / 2, 0, 0] ∧ win0_4.index t = ![t.val % 2, t.val / 2, 0, 0] :=
  (by decide +kernel : ∀ t : Fin grid0.N, _)
theorem base_at : ∀ t : Fin cfg0.N, (baseOf (grid0.coords t)).val = t.val % 2 := (by decide +kernel : ∀ t : Fin grid0.N, _)

variable (m : (ℓ : Loc nD τ sig) → Buf (Elt Ideal) ℓ) (c : Dev nD)

section blocks
variable (t : Fin cfg0.N) (b : Fin 32) (h1 : b.val / 16 = t.val % 2) (h2 : b.val % 16 = t.val / 2) (i : Fin 128)
include h1 h2
theorem emb0 (l : Fin 1024) : ((View.whole main_v7).slice (win0_0.rect t)).emb (at8 i l) = (atB b i l : S32x16x8x1024.Idx) := by unfold at8 atB; blk_ext [(idx t).1]
theorem emb1 (l : Fin 512) : ((View.whole main_v8).slice (win0_1.rect t)).emb (at8 i l) = (atB b i l : S32x16x8x512.Idx) := by unfold at8 atB; blk_ext [(idx t).2.1]
theorem emb2 (l : Fin 512) : ((View.whole main_v9).slice (win0_2.rect t)).emb (at8 i l) = (ix4 ⟨i.val / 8, by omega⟩ ⟨b.val % 16, by omega⟩ ⟨i.val % 8, by omega⟩ l : S32x16x8x512.Idx) := by unfold at8; blk_ext [(idx t).2.2.1]
theorem emb3 (l : Fin 1024) : ((View.whole main_v10_0).slice (win0_3.rect t)).emb (at8 i l) = (atB b i l : S32x16x8x1024.Idx) := by unfold at8 atB; blk_ext [(idx t).2.2.2.1]
theorem emb4 (l : Fin 128) : ((View.whole main_v10_1).slice (win0_4.rect t)).emb (at8 i l) = (atB b i l : S32x16x8x128.Idx) := by unfold at8 atB; blk_ext [(idx t).2.2.2.2]
theorem blk0 (l : Fin 1024) : (iblk m c 0 t : FVec Ideal S16x1x8x1024 .f32) (at8 i l) = (V m c main_v7 : FVec Ideal S32x16x8x1024 .f32) (atB b i l) :=
  congrArg (V m c main_v7) (emb0 t b h1 h2 i l)
theorem blk1 (l : Fin 512) : (iblk m c 1 t : FVec Ideal S16x1x8x512 .f32) (at8 i l) = (V m c main_v8 : FVec Ideal S32x16x8x512 .f32) (atB b i l) :=
  congrArg (V m c main_v8) (emb1 t b h1 h2 i l)
theorem blk2 (l : Fin 512) : (iblk m c 2 t : FVec Ideal S16x1x8x512 .f32) (at8 i l) = (V m c main_v9 : FVec Ideal S32x16x8x512 .f32) (ix4 ⟨i.val / 8, by omega⟩ ⟨b.val % 16, by omega⟩ ⟨i.val % 8, by omega⟩ l) :=
  congrArg (V m c main_v9) (emb2 t b h1 h2 i l)
end blocks

variable {q : Fin 4096 → Fin 1024 → ℝ} {k : Fin 4096 → Fin 256 → ℝ} {v : Fin 4096 → Fin 256 → EReal}

/-- The queries and keys are arrays of reals; the values are any. -/
structure Reals (q : Fin 4096 → Fin 1024 → ℝ) (k : Fin 4096 → Fin 256 → ℝ) (v : Fin 4096 → Fin 256 → EReal) : Prop where
  hq : m (c, Proc.devRef .tc main_arg0) = fun j => (q (j 0) (j 1) : EReal)
  hk : m (c, Proc.devRef .tc main_arg1) = fun j => (k (j 0) (j 1) : EReal)
  hv : m (c, Proc.devRef .tc main_arg2) = fun j => v (j 0) (j 1)

/-- The keys' lanes, then the values'. -/
def kvLane (k : Fin 4096 → Fin 256 → ℝ) (v : Fin 4096 → Fin 256 → EReal) (s : Fin 4096) (l : Fin 512) : EReal :=
  if h : l.val < 256 then ((k s ⟨l.val, h⟩ : ℝ) : EReal) else v s ⟨l.val - 256, by omega⟩

theorem kv_word {A B : FVec Ideal S4096x256 .f32} (hA : A = fun j => (k (j 0) (j 1) : EReal)) (hB : B = fun j => v (j 0) (j 1)) (s : Fin 4096) (l : Fin 512) :
    (if h : l.val < 256 then A (ix2 s ⟨l.val, h⟩) else B (ix2 s ⟨l.val - 256, by omega⟩)) = kvLane k v s l := by
  unfold kvLane
  by_cases h : l.val < 256
  · rw [dif_pos h, dif_pos h]; exact congrFun hA _
  · rw [dif_neg h, dif_neg h]; exact congrFun hB _

theorem kv_of (X Y : FVec Ideal S16x1x8x512 .f32) (b : Fin 32)
    (hX : ∀ (i : Fin 128) (l : Fin 512), X (at8 i l) = kvLane k v ⟨i.val / 8 * 128 + i.val % 8 * 16 + b.val % 16, by omega⟩ l)
    (hY : ∀ (i : Fin 128) (l : Fin 512), Y (at8 i l) = kvLane k v ⟨(16 * (b.val / 16) + i.val / 8) * 128 + i.val % 8 * 16 + b.val % 16, by omega⟩ l) (p : Fin 256) (h : Fin 4) (e : Fin 64) :
    (if (up p).val = 0 then X else Y) (at8 (lo p) (⟨64 * h.val + e.val, by omega⟩ : Fin 512)) = ((near k b p h e : ℝ) : EReal)
    ∧ (if (up p).val = 0 then X else Y) (at8 (lo p) (⟨256 + 64 * h.val + e.val, by omega⟩ : Fin 512)) = nearV v b p h e := by
  unfold near nearV
  by_cases hp : p.val < 128
  · rw [if_pos (show (up p).val = 0 by show p.val / 128 = 0; omega), hX, hX, kvLane, kvLane, dif_pos (show 64 * h.val + e.val < 256 by omega), dif_neg (show ¬ 256 + 64 * h.val + e.val < 256 by omega), if_pos hp, if_pos hp]
    constructor
    · refine congrArg₂ (fun a b => ((k a b : ℝ) : EReal)) (Fin.ext ?_) (Fin.ext ?_)
      · show p.val % 128 / 8 * 128 + p.val % 128 % 8 * 16 + b.val % 16 = p.val % 128 * 16 + b.val % 16; omega
      · show 64 * h.val + e.val = h.val * 64 + e.val; omega
    · refine congrArg₂ (fun a b => v a b) (Fin.ext ?_) (Fin.ext ?_)
      · show p.val % 128 / 8 * 128 + p.val % 128 % 8 * 16 + b.val % 16 = p.val % 128 * 16 + b.val % 16; omega
      · show 256 + 64 * h.val + e.val - 256 = h.val * 64 + e.val; omega
  · rw [if_neg (show ¬ (up p).val = 0 by show ¬ p.val / 128 = 0; omega), hY, hY, kvLane, kvLane, dif_pos (show 64 * h.val + e.val < 256 by omega), dif_neg (show ¬ 256 + 64 * h.val + e.val < 256 by omega), if_neg hp, if_neg hp]
    constructor
    · refine congrArg₂ (fun a b => ((k a b : ℝ) : EReal)) (Fin.ext ?_) (Fin.ext ?_)
      · show (16 * (b.val / 16) + p.val % 128 / 8) * 128 + p.val % 128 % 8 * 16 + b.val % 16 = b.val / 16 * 2048 + p.val % 128 * 16 + b.val % 16; omega
      · show 64 * h.val + e.val = h.val * 64 + e.val; omega
    · refine congrArg₂ (fun a b => v a b) (Fin.ext ?_) (Fin.ext ?_)
      · show (16 * (b.val / 16) + p.val % 128 / 8) * 128 + p.val % 128 % 8 * 16 + b.val % 16 = b.val / 16 * 2048 + p.val % 128 * 16 + b.val % 16; omega
      · show 256 + 64 * h.val + e.val - 256 = h.val * 64 + e.val; omega

variable {m c}

section read
variable (R : Reals m c q k v)
include R
theorem v7 (P : Fin 32) (r : Fin 16) (y : Fin 8) (l : Fin 1024) : (V m c main_v7 : FVec Ideal S32x16x8x1024 .f32) (ix4 P r y l)
    = ((q ⟨P.val * 128 + y.val * 16 + r.val, by omega⟩ l : ℝ) : EReal) := by
  after_reads_simp
  pointwise
  exact congrFun R.hq _
theorem v8 (P : Fin 32) (r : Fin 16) (y : Fin 8) (l : Fin 512) : (V m c main_v8 : FVec Ideal S32x16x8x512 .f32) (ix4 P r y l)
    = kvLane k v ⟨P.val * 128 + y.val * 16 + r.val, by omega⟩ l := by
  after_reads_simp
  pointwise
  exact kv_word R.hk R.hv ⟨P.val * 128 + y.val * 16 + r.val, by omega⟩ l
theorem v9 (P : Fin 32) (r : Fin 16) (y : Fin 8) (l : Fin 512) : (V m c main_v9 : FVec Ideal S32x16x8x512 .f32) (ix4 P r y l)
    = kvLane k v ⟨P.val * 128 + y.val * 16 + r.val, by omega⟩ l := by
  after_reads_simp
  pointwise
  exact kv_word R.hk R.hv ⟨P.val * 128 + y.val * 16 + r.val, by omega⟩ l

variable (t : Fin cfg0.N) (b : Fin 32) (h1 : b.val / 16 = t.val % 2) (h2 : b.val % 16 = t.val / 2)
include h1 h2

theorem q_in (e8 : Fin 8) (i l : Fin 128) : (iblk m c 0 t : FVec Ideal S16x1x8x1024 .f32) (at8 i (⟨128 * e8.val + l.val, by omega⟩ : Fin 1024))
    = ((heads q b i (hd e8) (gr e8 l) (ln l) : ℝ) : EReal) := by
  rw [blk0 m c t b h1 h2, v7 R]
  exact congrArg (fun z : ℝ => (z : EReal)) (heads_of q b i e8 l rfl rfl)
theorem kv_in (p : Fin 256) (h : Fin 4) (e : Fin 64) :
    k0_pay44 (F := Ideal) (iblk m c 2 t) (iblk m c 1 t) (ix2 p (⟨64 * h.val + e.val, by omega⟩ : Fin 512)) = ((near k b p h e : ℝ) : EReal)
    ∧ k0_pay44 (F := Ideal) (iblk m c 2 t) (iblk m c 1 t) (ix2 p (⟨256 + 64 * h.val + e.val, by omega⟩ : Fin 512)) = nearV v b p h e := by
  have e2 := fun (i : Fin 128) (l : Fin 512) => (blk2 m c t b h1 h2 i l).trans (v9 R _ _ _ l)
  have e1 := fun (i : Fin 128) (l : Fin 512) => (blk1 m c t b h1 h2 i l).trans (v8 R _ _ _ l)
  rw [window_at, window_at]
  exact kv_of (iblk m c 2 t) (iblk m c 1 t) b e2 e1 p h e
end read

theorem lanes8_at (X : FVec Ideal S16x1x8x1024 .f32) (e : Fin 8) (i l : Fin 128) : lanes8 (F := Ideal) X e (at8 i l) = X (at8 i (⟨128 * e.val + l.val, by omega⟩ : Fin 1024)) := rfl

theorem ops_q (t : Fin cfg0.N) : (opsOf m c t).q = lanes8 (iblk m c 0 t : FVec Ideal S16x1x8x1024 .f32) := rfl
theorem ops_kc (t : Fin cfg0.N) : (opsOf m c t).kc = (iblk m c 1 t : FVec Ideal S16x1x8x512 .f32) := rfl
theorem ops_kp (t : Fin cfg0.N) : (opsOf m c t).kp = (iblk m c 2 t : FVec Ideal S16x1x8x512 .f32) := rfl

/-- What a point of the grid holds. -/
theorem holds (R : Reals m c q k v) (t : Fin cfg0.N) (b : Fin 32) (h1 : b.val / 16 = t.val % 2) (h2 : b.val % 16 = t.val / 2) :
    Holds q k v (opsOf m c t) b (near k b) := by
  have hb : (baseOf (grid0.coords t)).val = b.val / 16 := by rw [base_at, h1]
  exact
    { xq := fun e8 i l => by
        rw [ops_q, lanes8_at]
        exact q_in R t b h1 h2 e8 i l
      kk := fun p h e => by rw [ops_kp, ops_kc]; exact (kv_in R t b h1 h2 p h e).1
      vv := fun p h e => by rw [ops_kp, ops_kc]; exact (kv_in R t b h1 h2 p h e).2
      hK := near_win k b
      xt := fun h g i p => by
        unfold opsOf ops
        exact table_at (baseOf (grid0.coords t)) h g b hb i p }
end Cert.FwdIdeal.Val
-- ==== Proof.FwdOut.lean ====
/- What the attention kernel leaves in its arrays, and the two results, at the reals. -/
module

public import proofs.«01_k».proof.Proof.FwdIns

@[expose] public section
set_option maxRecDepth 16384
noncomputable section
namespace Cert.FwdIdeal.Val
open Idealize.ShloMosaic Idealize.ShloMosaic.TcCoe Idealize.SL.Sem Cert.FwdIdeal Cert.FwdIdeal.Gen Cert.FwdIdeal.Step Cert.Step
open Cert.Attn.Real Cert.Fwd.Real StableHlo
open Cert.AttnIdeal.Val (at8 at8_of atB blkAt rowAt blkAt_of rowAt_of ix4_of tok0 tok1 tok2)

variable (q : Fin 4096 → Fin 1024 → ℝ) (k : Fin 4096 → Fin 256 → ℝ) (v : Fin 4096 → Fin 256 → EReal)

/-- The two results of a block's row, at a lane. -/
def oB (b : Fin 32) (i : Fin 128) (l : Fin 1024) : EReal := oR q k v b i ⟨l.val / 256, by omega⟩ ⟨l.val / 64 % 4, Nat.mod_lt _ (by omega)⟩ ⟨l.val % 64, Nat.mod_lt _ (by omega)⟩
def lseB (b : Fin 32) (i : Fin 128) (l : Fin 128) : EReal := lanesOf (fun h g => ((lseR q k b i h g : ℝ) : EReal)) l

/-- The arrays' values. -/
def oArr : FVec Ideal S32x16x8x1024 .f32 := fun j => oB q k v (blkAt (j 0) (j 1)) (rowAt (j 0) (j 2)) (j 3)
def lseArr : FVec Ideal S32x16x8x128 .f32 := fun j => lseB q k (blkAt (j 0) (j 1)) (rowAt (j 0) (j 2)) (j 3)
theorem oArr_at (b : Fin 32) (i : Fin 128) (l : Fin 1024) : oArr q k v (atB b i l) = oB q k v b i l :=
  congrArg₂ (fun x y => oB q k v x y l) (blkAt_of b i) (rowAt_of b i)
theorem lseArr_at (b : Fin 32) (i : Fin 128) (l : Fin 128) : lseArr q k (atB b i l) = lseB q k b i l :=
  congrArg₂ (fun x y => lseB q k x y l) (blkAt_of b i) (rowAt_of b i)

variable {m : (ℓ : Loc nD τ sig) → Buf (Elt Ideal) ℓ} {c : Dev nD} {q k v}

theorem outs_o (t : Fin cfg0.N) : (outsAt0 m c t.val t.isLt).1 = oOut (opsOf m c t) := congrArg (fun z => z.1) (outs_at m c t.val t.isLt)
theorem outs_lse (t : Fin cfg0.N) : (outsAt0 m c t.val t.isLt).2.1 = lseOut (opsOf m c t) := congrArg (fun z => z.2.1) (outs_at m c t.val t.isLt)

section
variable (R : Reals m c q k v)
include R

theorem final3 : (dats m 0 c).arrAt 3 (cfgs 0).N = oArr q k v := by
  refine (dats m 0 c).arrAt_eq_of_covers 3 _ (by decide +kernel) fun t ht y => ?_
  have hlt : t.val < 32 := t.isLt
  blk_simp
  obtain ⟨i, l, rfl⟩ := at8_of y
  obtain ⟨b, h1, h2⟩ : ∃ b : Fin 32, b.val / 16 = t.val % 2 ∧ b.val % 16 = t.val / 2 :=
    ⟨⟨16 * (t.val % 2) + t.val / 2, by omega⟩, by simp only; omega, by simp only; omega⟩
  rw [emb3 t b h1 h2, after0_3, oArr_at, outs_o]
  exact oOutR (holds R t b h1 h2) i l
theorem final4 : (dats m 0 c).arrAt 4 (cfgs 0).N = lseArr q k := by
  refine (dats m 0 c).arrAt_eq_of_covers 4 _ (by decide +kernel) fun t ht y => ?_
  have hlt : t.val < 32 := t.isLt
  blk_simp
  obtain ⟨i, l, rfl⟩ := at8_of y
  obtain ⟨b, h1, h2⟩ : ∃ b : Fin 32, b.val / 16 = t.val % 2 ∧ b.val % 16 = t.val / 2 :=
    ⟨⟨16 * (t.val % 2) + t.val / 2, by omega⟩, by simp only; omega, by simp only; omega⟩
  rw [emb4 t b h1 h2, after0_4, lseArr_at, outs_lse]
  exact lseOutR (holds R t b h1 h2) i l

/-! ## The results -/

theorem tail15 (s : Fin 4096) (l : Fin 1024) : (Pipeline.afterTail₀ cfgs (dats m) 0 (V0 m) [hostOps1] c main_v15 : FVec Ideal S4096x1024 .f32) (ix2 s l)
    = oArr q k v (ix4 ⟨s.val / 128, by omega⟩ ⟨s.val % 16, by omega⟩ ⟨s.val / 16 % 8, by omega⟩ l) := by
  rw [← final3 R]
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.tc.devRef main_v10_0) =
      (dats m 0 c).arrAt 3 (cfgs 0).N := Pipeline.withArrays_arr (cfgs 0).spec (by decide) c _ _ 3
  rw [h]
  pointwise
  exact congrArg ((dats m 0 c).arrAt 3 (cfgs 0).N) (ix4_of (tok0 s) (tok1 s) (tok2 s) rfl)
theorem tail19 (s : Fin 4096) (l : Fin 16) : (Pipeline.afterTail₀ cfgs (dats m) 0 (V0 m) [hostOps1] c main_v19 : FVec Ideal S4096x16 .f32) (ix2 s l)
    = lseArr q k (ix4 ⟨s.val / 128, by omega⟩ ⟨s.val % 16, by omega⟩ ⟨s.val / 16 % 8, by omega⟩ ⟨l.val, by omega⟩) := by
  rw [← final4 R]
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.tc.devRef main_v10_1) =
      (dats m 0 c).arrAt 4 (cfgs 0).N := Pipeline.withArrays_arr (cfgs 0).spec (by decide) c _ _ 4
  rw [h]
  pointwise
  exact congrArg ((dats m 0 c).arrAt 4 (cfgs 0).N) (ix4_of (tok0 s) (tok1 s) (tok2 s) rfl)
end
end Cert.FwdIdeal.Val
-- ==== Proof.FwdRef.lean ====
/- The reference's forward attention at the reals. -/
module

public import proofs.«01_k».proof.Proof.FwdRow
public import proofs.«01_k».proof.Proof.Gen.FwdRefIdeal.Run
public import Idealize.ShloMosaic.Lib.Tactic

@[expose] public section
set_option maxRecDepth 16384
noncomputable section
namespace Cert.FwdRefIdeal.Val
open Idealize.ShloMosaic Idealize.ShloMosaic.TcCoe Idealize.ShloMosaic.Tactic Idealize.SL.Sem Cert.FwdRefIdeal Cert.FwdRefIdeal.Gen Cert.FwdRefIdeal.Value Cert.Step
open Cert.Attn.Real Cert.Attn.Words Cert.Fwd.Real

/-! ## The stages, as functions of the arguments -/

/-- The query rows of a block, by heads. -/
def qRows (A : FVec Ideal S4096x1024 .f32) : FVec Ideal S32x128x4x4x64 .f32 :=
  shapeCast _ (transpose S2x16x128x4x4x64 [0, 2, 1, 3, 4, 5] (shapeCast _ A shapeCasts_S4096x1024_S2x128x16x4x4x64)
    transposes_S2x128x16x4x4x64_S2x16x128x4x4x64_0_2_1_3_4_5) shapeCasts_S2x16x128x4x4x64_S32x128x4x4x64

/-- The key or value rows of a block, by heads; the rows of its window. -/
def kRows (A : FVec Ideal S4096x256 .f32) : FVec Ideal S32x128x4x64 .f32 :=
  shapeCast _ (transpose S2x16x128x4x64 [0, 2, 1, 3, 4] (shapeCast _ A shapeCasts_S4096x256_S2x128x16x4x64)
    transposes_S2x128x16x4x64_S2x16x128x4x64_0_2_1_3_4) shapeCasts_S2x16x128x4x64_S32x128x4x64
def kWin (A : FVec Ideal S4096x256 .f32) : FVec Ideal S32x256x4x64 .f32 :=
  concatenate S32x256x4x64 1 [⟨S32x128x4x64, concatenate S32x128x4x64 0 [⟨S16x128x4x64, broadcastInDim S16x128x4x64 ![] bcast_S_S16x128x4x64 (constant S_ .f32 0x00000000#32)⟩,
      ⟨S16x128x4x64, extractStridedSlice S16x128x4x64 ![0, 0, 0, 0] (kRows A) slices_S32x128x4x64_S16x128x4x64_0_0_0_0⟩] concatenates_S16x128x4x64_S16x128x4x64_S32x128x4x64_d0⟩,
    ⟨S32x128x4x64, kRows A⟩] concatenates_S32x128x4x64_S32x128x4x64_S32x256x4x64_d1

/-- How far a key lies before a query; which keys are in reach. -/
def away : IVec S32x128x256 32 :=
  subi (addi (broadcastInDim S32x128x256 ![] bcast_S_S32x128x256 (constantI S_ 32 128#32)) (iotaInDim S32x128x256 32 1)) (iotaInDim S32x128x256 32 2)
def reach : IVec S32x4x4x128x256 1 :=
  broadcastInDim S32x4x4x128x256 ![0, 3, 4] bcast_S32x128x256_S32x4x4x128x256_0_3_4
    (andi (andi (cmpi .sge away (broadcastInDim S32x128x256 ![] bcast_S_S32x128x256 (constantI S_ 32 0#32)))
        (cmpi .sle away (broadcastInDim S32x128x256 ![] bcast_S_S32x128x256 (constantI S_ 32 128#32))))
      (ori (cmpi .sge (iotaInDim S32x128x256 32 0) (broadcastInDim S32x128x256 ![] bcast_S_S32x128x256 (constantI S_ 32 16#32)))
        (cmpi .sge (iotaInDim S32x128x256 32 2) (broadcastInDim S32x128x256 ![] bcast_S_S32x128x256 (constantI S_ 32 128#32)))))
def slopes : FVec Ideal S4x4 .f32 :=
  Host.negf (shapeCast _ (Host.powf (broadcastInDim S16 ![] bcast_S_S16 (constant S_ .f32 0x40000000#32)) (mulf (broadcastInDim S16 ![] bcast_S_S16 (constant S_ .f32 0xBF000000#32))
    (addf (sitofp .f32 (iotaInDim S16 32 0)) (broadcastInDim S16 ![] bcast_S_S16 (constant S_ .f32 0x3F800000#32))))) shapeCasts_S16_S4x4)

/-- The scores, the largest of each row, the exponentials below it, their sum. -/
def scores (A : FVec Ideal S4096x1024 .f32) (B : FVec Ideal S4096x256 .f32) : FVec Ideal S32x4x4x128x256 .f32 :=
  select reach (addf (transpose S32x4x4x128x256 [0, 1, 4, 3, 2]
      (Host.dotGeneral (φ₁ := .f32) (φ₂ := .f32) dot_S32x256x4x64_S32x128x4x4x64_S32x4x256x128x4_3_4_1_13_02_02 none (kWin B) (qRows A)) transposes_S32x4x256x128x4_S32x4x4x128x256_0_1_4_3_2)
    (mulf (broadcastInDim S32x4x4x128x256 ![1, 2] bcast_S4x4_S32x4x4x128x256_1_2 slopes)
      (broadcastInDim S32x4x4x128x256 ![0, 3, 4] bcast_S32x128x256_S32x4x4x128x256_0_3_4
        (sitofp .f32 (muli away (broadcastInDim S32x128x256 ![] bcast_S_S32x128x256 (constantI S_ 32 16#32)))))))
    (broadcastInDim S32x4x4x128x256 ![] bcast_S_S32x4x4x128x256 (constant S_ .f32 0xFF800000#32))
def tops (S : FVec Ideal S32x4x4x128x256 .f32) : FVec Ideal S32x4x4x128 .f32 :=
  Host.reduce FloatOps.maximumf S (constant S_ .f32 0xFF800000#32) reducesTo_S32x4x4x128x256_S32x4x4x128_d4 h_S_
def exps (S : FVec Ideal S32x4x4x128x256 .f32) : FVec Ideal S32x4x4x128x256 .f32 :=
  Host.exp (subf S (broadcastInDim S32x4x4x128x256 ![0, 1, 2, 3] bcast_S32x4x4x128_S32x4x4x128x256_0_1_2_3 (tops S)))
def dens (S : FVec Ideal S32x4x4x128x256 .f32) : FVec Ideal S32x4x4x128 .f32 :=
  Host.reduceAdd (exps S) (constant S_ .f32 0x00000000#32) reducesTo_S32x4x4x128x256_S32x4x4x128_d4 h_S_

/-- The two results, by blocks, and as tokens. -/
def oBlk (S : FVec Ideal S32x4x4x128x256 .f32) (B : FVec Ideal S4096x256 .f32) : FVec Ideal S32x128x4x4x64 .f32 :=
  Host.divf (transpose S32x128x4x4x64 [0, 4, 1, 3, 2]
      (Host.dotGeneral (φ₁ := .f32) (φ₂ := .f32) dot_S32x256x4x64_S32x4x4x128x256_S32x4x64x4x128_1_4_3_23_02_01 none (kWin B) (exps S)) transposes_S32x4x64x4x128_S32x128x4x4x64_0_4_1_3_2)
    (broadcastInDim S32x128x4x4x64 ![0, 1, 2, 3] bcast_S32x128x4x4_S32x128x4x4x64_0_1_2_3 (transpose S32x128x4x4 [0, 3, 1, 2] (dens S) transposes_S32x4x4x128_S32x128x4x4_0_3_1_2))
def oTok (X : FVec Ideal S32x128x4x4x64 .f32) : FVec Ideal S4096x1024 .f32 :=
  shapeCast _ (transpose S2x128x16x4x4x64 [0, 2, 1, 3, 4, 5] (shapeCast _ X shapeCasts_S32x128x4x4x64_S2x16x128x4x4x64)
    transposes_S2x16x128x4x4x64_S2x128x16x4x4x64_0_2_1_3_4_5) shapeCasts_S2x128x16x4x4x64_S4096x1024
def lseBlk (T D : FVec Ideal S32x4x4x128 .f32) : FVec Ideal S32x128x4x4 .f32 :=
  transpose S32x128x4x4 [0, 3, 1, 2] (addf T (Host.log D)) transposes_S32x4x4x128_S32x128x4x4_0_3_1_2
def lseTok (X : FVec Ideal S32x128x4x4 .f32) : FVec Ideal S4096x16 .f32 :=
  shapeCast _ (transpose S2x128x16x4x4 [0, 2, 1, 3, 4] (shapeCast _ X shapeCasts_S32x128x4x4_S2x16x128x4x4)
    transposes_S2x16x128x4x4_S2x128x16x4x4_0_2_1_3_4) shapeCasts_S2x128x16x4x4_S4096x16

section
variable (m : (ℓ : Loc nD τ sig) → Buf (Elt Ideal) ℓ) (c : Dev nD)

/-- The program's results are these. -/
theorem out0_eq : res_out0 m c = oTok (oBlk (scores (m ((c.tc : Thread nD τ).loc main_arg0)) (m ((c.tc : Thread nD τ).loc main_arg1))) (m ((c.tc : Thread nD τ).loc main_arg2))) := by
  sl_kernel_rfl
theorem out1_eq : res_out1 m c = lseTok (lseBlk (tops (scores (m ((c.tc : Thread nD τ).loc main_arg0)) (m ((c.tc : Thread nD τ).loc main_arg1)))) (dens (scores (m ((c.tc : Thread nD τ).loc main_arg0)) (m ((c.tc : Thread nD τ).loc main_arg1))))) := by
  sl_kernel_rfl
end

/-! ## The stages at the reals -/

variable {A : FVec Ideal S4096x1024 .f32} {B C : FVec Ideal S4096x256 .f32} {q : Fin 4096 → Fin 1024 → ℝ} {k : Fin 4096 → Fin 256 → ℝ} {v : Fin 4096 → Fin 256 → EReal}
variable (hq : A = fun j => (q (j 0) (j 1) : EReal)) (hk : B = fun j => (k (j 0) (j 1) : EReal)) (hv : C = fun j => v (j 0) (j 1))

include hq in
theorem qRows_at (b : Fin 32) (i : Fin 128) (h g : Fin 4) (e : Fin 64) : qRows A (ix5 b i h g e) = ((heads q b i h g e : ℝ) : EReal) := by
  pointwise [qRows]
  exact congrFun hq _
include hk in
theorem kWin_at (b : Fin 32) (p : Fin 256) (h : Fin 4) (e : Fin 64) : kWin B (ix4 b p h e) = ((win k b p h e : ℝ) : EReal) := by
  pointwise [kWin, kRows]
  exact win_word hk b p h e
include hv in
theorem vWin_at (b : Fin 32) (p : Fin 256) (h : Fin 4) (e : Fin 64) : kWin C (ix4 b p h e) = winV v b p h e := by
  pointwise [kWin, kRows]
  exact winV_word hv b p h e
theorem reach_at (b : Fin 32) (h g : Fin 4) (i : Fin 128) (p : Fin 256) : reach (ix5 b h g i p) = BitVec.ofBool (decide (ok b i p)) := by
  pointwise [reach, away]
  exact ok_word b i p
include hq hk in
theorem scores_at (b : Fin 32) (h g : Fin 4) (i : Fin 128) (p : Fin 256) :
    scores A B (ix5 b h g i p) = Cert.Attn.Row.score (ok b i) (sc q k b h g i) p := by
  pointwise [scores, away, slopes]
  exact score_word b h g i p (reach_at b h g i p) _ _ (kWin_at hk b p h) (qRows_at hq b i h g)
include hq hk in
theorem tops_at (b : Fin 32) (h g : Fin 4) (i : Fin 128) : tops (scores A B) (ix4 b h g i) = ((mu q k b h g i : ℝ) : EReal) := by
  pointwise [tops]
  refine Eq.trans ?_ (mu_spec q k b h g i)
  rw [show Ideal.ofBits FTy.f32 4286578688#32 = _ from ofBits_bot]
  refine congrArg (fun f => Finset.univ.fold max (⊥ : EReal) f) (funext fun p => ?_)
  exact scores_at hq hk b h g i p
include hq hk in
theorem exps_at (b : Fin 32) (h g : Fin 4) (i : Fin 128) (p : Fin 256) : exps (scores A B) (ix5 b h g i p) = ((ex q k b h g i p : ℝ) : EReal) := by
  pointwise [exps]
  rw [tops_at hq hk, scores_at hq hk, Cert.Attn.Row.exp_score]; rfl
include hq hk in
theorem dens_at (b : Fin 32) (h g : Fin 4) (i : Fin 128) : dens (scores A B) (ix4 b h g i) = ((den q k b h g i : ℝ) : EReal) := by
  pointwise [dens]
  simp only [exps_at hq hk, coe_sum]; rfl
include hq hk hv in
theorem oBlk_at (b : Fin 32) (i : Fin 128) (h g : Fin 4) (e : Fin 64) : oBlk (scores A B) C (ix5 b i h g e) = oR q k v b i h g e := by
  pointwise [oBlk]
  simp only [exps_at hq hk, vWin_at hv, dens_at hq hk]
  rw [div_real (den_pos q k b h g i).ne', oR]
  exact congrArg (fun z : EReal => z * _) (Finset.sum_congr rfl fun p _ => mul_comm _ _)
theorem lseBlk_word (T D : FVec Ideal S32x4x4x128 .f32) (b : Fin 32) (i : Fin 128) (h g : Fin 4) :
    lseBlk T D (ix4 b i h g) = @HAdd.hAdd EReal EReal EReal _ (T (ix4 b h g i)) (Ideal.log (D (ix4 b h g i))) := by
  pointwise [lseBlk]
include hq hk in
theorem lseBlk_at (b : Fin 32) (i : Fin 128) (h g : Fin 4) : lseBlk (tops (scores A B)) (dens (scores A B)) (ix4 b i h g) = ((lseR q k b i h g : ℝ) : EReal) := by
  refine (lseBlk_word _ _ b i h g).trans ?_
  refine (congrArg₂ (fun x y : EReal => x + Ideal.log y) (tops_at hq hk b h g i) (dens_at hq hk b h g i)).trans ?_
  rw [lseR, EReal.coe_add]
  exact congrArg (fun z : EReal => ((mu q k b h g i : ℝ) : EReal) + z) (log_pos (den_pos q k b h g i))
end Cert.FwdRefIdeal.Val
-- ==== Proof.FwdRefRes.lean ====
/- The reference's forward attention, from blocks to tokens. -/
module

public import proofs.«01_k».proof.Proof.FwdRef
public import Idealize.ShloMosaic.Lib.Tactic

@[expose] public section
set_option maxRecDepth 16384
noncomputable section
namespace Cert.FwdRefIdeal.Val
open Idealize.ShloMosaic Idealize.ShloMosaic.TcCoe Idealize.ShloMosaic.Tactic Idealize.SL.Sem Cert.FwdRefIdeal Cert.FwdRefIdeal.Gen Cert.FwdRefIdeal.Value Cert.Step
open Cert.Attn.Real Cert.Attn.Words Cert.Fwd.Real

theorem ix4_of {n0 n1 n2 n3 : ℕ} {a a' : Fin n0} {b b' : Fin n1} {c c' : Fin n2} {e e' : Fin n3} (h0 : a.val = a'.val) (h1 : b.val = b'.val) (h2 : c.val = c'.val) (h3 : e.val = e'.val) :
    ix4 a b c e = ix4 a' b' c' e' := by rw [Fin.ext h0, Fin.ext h1, Fin.ext h2, Fin.ext h3]
theorem ix5_of {n0 n1 n2 n3 n4 : ℕ} {a a' : Fin n0} {b b' : Fin n1} {c c' : Fin n2} {e e' : Fin n3} {f f' : Fin n4} (h0 : a.val = a'.val) (h1 : b.val = b'.val) (h2 : c.val = c'.val) (h3 : e.val = e'.val)
    (h4 : f.val = f'.val) : ix5 a b c e f = ix5 a' b' c' e' f' := by rw [Fin.ext h0, Fin.ext h1, Fin.ext h2, Fin.ext h3, Fin.ext h4]

/-- The block of a token, its row there. -/
def blkOf (t : Fin 4096) : Fin 32 := ⟨t.val / 2048 * 16 + t.val % 16, by omega⟩
def rowOf (t : Fin 4096) : Fin 128 := ⟨t.val / 16 % 128, Nat.mod_lt _ (by omega)⟩

theorem oTok_at (X : FVec Ideal S32x128x4x4x64 .f32) (t : Fin 4096) (l : Fin 1024) : oTok X (ix2 t l)
    = X (ix5 (blkOf t) (rowOf t) ⟨l.val / 256, by omega⟩ ⟨l.val / 64 % 4, Nat.mod_lt _ (by omega)⟩ ⟨l.val % 64, Nat.mod_lt _ (by omega)⟩) := by
  pointwise [oTok]
  exact congrArg X (ix5_of (by dsimp only [blkOf] ) (by dsimp only [rowOf] ) (by dsimp only ) (by dsimp only ) (by dsimp only ))
theorem lseTok_at (X : FVec Ideal S32x128x4x4 .f32) (t : Fin 4096) (l : Fin 16) : lseTok X (ix2 t l)
    = X (ix4 (blkOf t) (rowOf t) ⟨l.val / 4, by omega⟩ ⟨l.val % 4, Nat.mod_lt _ (by omega)⟩) := by
  pointwise [lseTok]
  exact congrArg X (ix4_of (by dsimp only [blkOf]) (by dsimp only [rowOf]) (by dsimp only) (by dsimp only))
end Cert.FwdRefIdeal.Val
-- ==== Proof.FwdClaim.lean ====
/- The attention's forward call: its frames, its named constants, and, at the reals, on finite queries and keys, its two
   results are the reference's. -/
module

public import proofs.«01_k».proof.Defs
public import proofs.«01_k».proof.Proof.Gen.Fwd
public import proofs.«01_k».proof.Proof.FwdOut
public import proofs.«01_k».proof.Proof.FwdRefRes
public import proofs.«01_k».proof.Proof.AttnClaim

@[expose] public section

set_option maxRecDepth 16384

noncomputable section

namespace Cert.FwdIdeal.Step

open Idealize.ShloMosaic Idealize.ShloMosaic.Tactic Idealize.SL.Sem Cert.FwdIdeal Cert.FwdIdeal.Gen

/-- At the machine's floats a named constant is its pattern. -/
@[reducible] def pattern : Named Bits where
  named _ _ {φ} b := FloatOps.ofBits φ b

/-- What the run over any float values says of the program at the machine's floats. -/
def Runs : Prop := letI := pattern
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)

/-- The two programs have one text, named constants read as their patterns. -/
theorem runs_eq : Cert.quiescent_Fwd (hFwd := Cert.Fwd.Gen.facts) = Runs := by sl_kernel_rfl

theorem frame_fwd : Cert.quiescent_Fwd (hFwd := Cert.Fwd.Gen.facts) := runs_eq.mpr fun m g _ => letI := pattern; frame m g

theorem frame_fwdIdeal : Cert.quiescent_FwdIdeal (hFwdIdeal := Cert.FwdIdeal.Gen.facts) := fun m g _ => frame m g

/-- Each named constant is its table's. -/
theorem names : Cert.preserves_Fwd_FwdIdeal :=
  ⟨IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl,
    IdealRules.named_const.statement _ _ _ _ _ rfl, IdealRules.named_const.statement _ _ _ _ _ rfl, IdealRules.named_const.statement _ _ _ _ _ rfl⟩

end Cert.FwdIdeal.Step

namespace Cert.FwdIdeal.Val
open Idealize.ShloMosaic Idealize.ShloMosaic.TcCoe Idealize.SL.Sem
open Cert.FwdIdeal Cert.FwdIdeal.Gen Cert.FwdIdeal.Step Cert.Step Cert.Attn.Real Cert.Fwd.Real
open Cert.AttnIdeal.Val (blk_tok row_tok ext2 rows_of)

section
variable {m : (ℓ : Loc nD τ sig) → Buf (Elt Ideal) ℓ} {c : Dev nD} {q : Fin 4096 → Fin 1024 → ℝ} {k : Fin 4096 → Fin 256 → ℝ} {v : Fin 4096 → Fin 256 → EReal}

theorem o_tail (R : Reals m c q k v) (s : Fin 4096) (l : Fin 1024) : (Pipeline.afterTail₀ cfgs (dats m) 0 (V0 m) [hostOps1] c main_v15 : FVec Ideal S4096x1024 .f32) (ix2 s l)
    = oR q k v (FwdRefIdeal.Val.blkOf s) (FwdRefIdeal.Val.rowOf s) ⟨l.val / 256, by omega⟩ ⟨l.val / 64 % 4, Nat.mod_lt _ (by omega)⟩ ⟨l.val % 64, Nat.mod_lt _ (by omega)⟩ :=
  (tail15 R s l).trans (congrArg₂ (fun x y => oB q k v x y l) (blk_tok s) (row_tok s))
theorem lse_tail (R : Reals m c q k v) (s : Fin 4096) (l : Fin 16) : (Pipeline.afterTail₀ cfgs (dats m) 0 (V0 m) [hostOps1] c main_v19 : FVec Ideal S4096x16 .f32) (ix2 s l)
    = ((lseR q k (FwdRefIdeal.Val.blkOf s) (FwdRefIdeal.Val.rowOf s) ⟨l.val / 4, by omega⟩ ⟨l.val % 4, Nat.mod_lt _ (by omega)⟩ : ℝ) : EReal) := by
  refine (tail19 R s l).trans ((congrArg₂ (fun x y => lseB q k x y ⟨l.val, by omega⟩) (blk_tok s) (row_tok s)).trans ?_)
  unfold lseB lanesOf
  rw [dif_pos (show l.val < 16 from l.isLt)]
  rfl

/-- Any array, by rows and lanes. -/
theorem rows_any {n l : ℕ} (x : (⟨2, ![n, l]⟩ : Idealize.ShloMosaic.Shape).Idx → EReal) : x = fun j => (fun (i : Fin n) (e : Fin l) => x (ix2 i e)) (j 0) (j 1) := ext2 fun _ _ => rfl
end

theorem algebraic [hPre : Cert.Pre_finite_fwd.Facts] : Cert.algebraic_FwdIdeal_FwdRefIdeal_pre_finite_fwd (hFwdIdeal := Cert.FwdIdeal.Gen.facts)
    (hFwdRefIdeal := Cert.FwdRefIdeal.Gen.facts) := by
  intro m g m' g' hpre hagree
  have hreal : ∀ c : Dev nD, ∃ q k v, Reals m c q k v := fun c => by
    obtain ⟨h0, h1⟩ := hpre c
    obtain ⟨a0, e0⟩ := exists_real (m (c, Proc.devRef .tc main_arg0)) _ h0
    obtain ⟨a1, e1⟩ := exists_real (m (c, Proc.devRef .tc main_arg1)) _ h1
    exact ⟨fun i e => a0 (ix2 i e), fun i e => a1 (ix2 i e), fun i e => m (c, Proc.devRef .tc main_arg2) (ix2 i e), rows_of e0, rows_of e1, rows_any (m (c, Proc.devRef .tc main_arg2))⟩
  have hsuf := fun (b : Ref sig .tc) (hs : b.isScoped = false) (ha : ∀ w, (spec0 w).arr.view.ref ≠ b) (r : PUnit × MemSt nD τ sig (Elt Ideal))
     (h : Pipeline.FramePost cfgs (dats m) 0 (Pipeline.afterTail₀ cfgs (dats m) 0 (V0 m) [hostOps1]) r) (c : Dev nD) => (h c).2 b (Pipeline.mem_restRefs_of b hs ha)
  refine ⟨_, _, (θ_run defs _ _).mono (fun r h c => ⟨hsuf main_v15 (by decide) (by decide) r h.1 c, hsuf main_v19 (by decide) (by decide) r h.1 c,
      h.2.1 c⟩) (θ_run_and (run_main m g) (frame m g)),
    (θ_run Cert.FwdRefIdeal.defs _ _).mono (fun r h c => ?_) (Cert.FwdRefIdeal.Value.run m' g')⟩
  obtain ⟨h0, h1, hk⟩ := h c
  obtain ⟨g0, g1, g2⟩ := hagree c
  obtain ⟨q, k, v, R⟩ := hreal c
  have r0 := g0.trans R.hq
  have r1 := g1.trans R.hk
  have r2 := g2.trans R.hv
  refine ⟨(h0.trans (Cert.FwdRefIdeal.Val.out0_eq m' c)).trans ?_, (h1.trans (Cert.FwdRefIdeal.Val.out1_eq m' c)).trans ?_, hk⟩
  · exact ext2 (x := Cert.FwdRefIdeal.Val.oTok _) fun s l => (Cert.FwdRefIdeal.Val.oTok_at _ s l).trans
      ((Cert.FwdRefIdeal.Val.oBlk_at r0 r1 r2 _ _ _ _ _).trans (o_tail R s l).symm)
  · exact ext2 (x := Cert.FwdRefIdeal.Val.lseTok _) fun s l => (Cert.FwdRefIdeal.Val.lseTok_at _ s l).trans
      ((Cert.FwdRefIdeal.Val.lseBlk_at r0 r1 _ _ _ _).trans (lse_tail R s l).symm)

end Cert.FwdIdeal.Val

end
-- ==== Proof.RmsClaim.lean ====
/- The first norm's forward call, idealized: both of its results are the reference's, for any arguments. One result is the
   normalised rows as they are; the other is the same rows ordered by token mod 16, which the host operations after the
   region put back. -/
module

public import proofs.«01_k».proof.Defs
public import proofs.«01_k».proof.Proof.GateVal
public import proofs.«01_k».proof.Proof.LossVal
public import proofs.«01_k».proof.Proof.Gen.RmsIdeal.Frame
public import proofs.«01_k».proof.Proof.Gen.RmsRefIdeal.Run
public import proofs.«01_k».proof.Proof.Gen.Rms.Frame
public import Idealize.ShloMosaic.Lib.Pipeline.ValueKit

@[expose] public section
set_option maxRecDepth 16384
noncomputable section
namespace Cert.RmsIdeal.Val
open Idealize.ShloMosaic Idealize.ShloMosaic.TcCoe Idealize.SL.Sem
open Cert.RmsIdeal Cert.RmsIdeal.Gen Cert.Step
open Cert.GateIdeal.Val (tok pi tok_inv)
open Cert.LossIdeal.Val (mean rstd nrm)

/-- The body's one-hot products put the rows in the order by token mod 16. -/
theorem pay1_at (v : FVec Ideal S512x1024 .bf16) (r : Fin 512) (l : Fin 1024) :
    k0_pay1 (F := Ideal) v (iota .tc S128x128 32 [0] iota_S128x128_d0_w32) (iota .tc S128x128 32 [1] iota_S128x128_d1_w32)
      k0_pay3 16#32 k0_pay4 k0_pay5 (ix2 r l) = v (ix2 (pi r) l) := by
  pointwise [k0_pay1, k0_pay3, k0_pay4, k0_pay5]
  have hr := r.isLt
  by_cases h0 : (r : ℕ) < 128
  · rw [dif_pos h0, sum_resWord h0]
    congr 2; apply Fin.ext; simp only; omega
  rw [dif_neg h0]
  by_cases h1 : (r : ℕ) - 128 < 128
  · rw [dif_pos h1, sum_resWord h1]
    congr 2; apply Fin.ext; simp only; omega
  rw [dif_neg h1]
  by_cases h2 : (r : ℕ) - 128 - 128 < 128
  · rw [dif_pos h2, sum_resWord h2]
    congr 2; apply Fin.ext; simp only; omega
  rw [dif_neg h2, sum_resWord (by omega)]
  congr 2; apply Fin.ext; simp only; omega

/-- The normalised rows of one block. -/
theorem pay2_at (x : FVec Ideal S512x1024 .f32) (g : FVec Ideal S1x1024 .f32) (r : Fin 512) (l : Fin 1024) :
    k0_pay2 (F := Ideal) x g (ix2 r l) = nrm (fun k => x (ix2 r k)) l * g (ix2 0 l) := by
  pointwise [k0_pay2]

/-- Which block each window reads or writes at point `t`. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- Row `r` of the block of point `t` in the whole array. -/
abbrev row (t : Fin cfg0.N) (r : Fin 512) : Fin 4096 := ⟨t.val * 512 + r, by have := t.isLt; have : t.val < 8 := this; omega⟩

theorem tok_row (t : Fin cfg0.N) (r : Fin 512) : tok (row t r) = row t (pi r) := by
  apply Fin.ext; simp only; omega

theorem emb2 (t : Fin cfg0.N) (r : Fin 512) (l : Fin 1024) :
    ((View.whole main_v0_0).slice (win0_2.rect t)).emb (ix2 r l) = (ix2 (row t r) l : S4096x1024.Idx) := by blk_ext [idx t]
theorem emb3 (t : Fin cfg0.N) (r : Fin 512) (l : Fin 1024) :
    ((View.whole main_v0_1).slice (win0_3.rect t)).emb (ix2 r l) = (ix2 (row t r) l : S4096x1024.Idx) := by blk_ext [idx t]

variable (m : (ℓ : Loc nD τ sig) → Buf (Elt Ideal) ℓ)

abbrev X (c : Dev nD) : FVec Ideal S4096x1024 .f32 := m ((c : Thread nD τ).loc main_arg0)
abbrev G (c : Dev nD) : FVec Ideal S1x1024 .f32 := m ((c : Thread nD τ).loc main_arg1)

theorem blk0 (c : Dev nD) (t : Fin cfg0.N) (r : Fin 512) (l : Fin 1024) :
    (iblk m c 0 t : FVec Ideal S512x1024 .f32) (ix2 r l) = X m c (ix2 (row t r) l) := by
  blk_point [iblk, V, idx t]
theorem blk1 (c : Dev nD) (t : Fin cfg0.N) (l : Fin 1024) :
    (iblk m c 1 t : FVec Ideal S1x1024 .f32) (ix2 0 l) = G m c (ix2 0 l) := by
  blk_point [iblk, V, idx t]

/-- The normalised value at token `s`, column `l`. -/
abbrev hv (c : Dev nD) (s : Fin 4096) (l : Fin 1024) : EReal := nrm (fun k => X m c (ix2 s k)) l * G m c (ix2 0 l)

theorem rows_at (c : Dev nD) (t : Fin cfg0.N) (r : Fin 512) (l : Fin 1024) :
    k0_pay2 (F := Ideal) (iblk m c 0 t : FVec Ideal S512x1024 .f32) (iblk m c 1 t : FVec Ideal S1x1024 .f32) (ix2 r l) = hv m c (row t r) l := by
  rw [pay2_at]
  simp only [blk0, blk1]

theorem final3 (c : Dev nD) : (dats m 0 c).arrAt 3 (cfgs 0).N = fun i => hv m c (i 0) (i 1) := by
  refine (dats m 0 c).arrAt_eq_of_covers 3 _ (by decide +kernel) fun t _ y => ?_
  blk_simp
  rw [after0_3]
  unfold out0_3
  frame_out
  obtain ⟨r, l, rfl⟩ : ∃ (r : Fin 512) (l : Fin 1024), y = ix2 r l := ⟨y 0, y 1, by funext a; fin_cases a <;> rfl⟩
  rw [emb3]
  exact rows_at m c t r l

theorem final2 (c : Dev nD) : (dats m 0 c).arrAt 2 (cfgs 0).N = fun i => hv m c (tok (i 0)) (i 1) := by
  refine (dats m 0 c).arrAt_eq_of_covers 2 _ (by decide +kernel) fun t _ y => ?_
  blk_simp
  rw [after0_2]
  unfold out0_2
  frame_out
  obtain ⟨r, l, rfl⟩ : ∃ (r : Fin 512) (l : Fin 1024), y = ix2 r l := ⟨y 0, y 1, by funext a; fin_cases a <;> rfl⟩
  rw [emb2]
  refine (pay1_at _ r l).trans ((rows_at m c t (pi r) l).trans ?_)
  rw [← tok_row]; rfl

theorem tail (c : Dev nD) : Pipeline.afterTail₀ cfgs (dats m) 0 (V0 m) [hostOps1] c main_v3 = fun i => hv m c (i 0) (i 1) := by
  unfold Pipeline.afterTail₀
  simp only [hostOps1, List.flatten_cons, List.flatten_nil, List.append_nil]
  after_results
  have h : Pipeline.withArrays (cfgs 0).spec c (V0 m c) (fun w => (dats m 0 c).arrAt w (cfgs 0).N) (Proc.tc.devRef main_v0_0) =
      (dats m 0 c).arrAt 2 (cfgs 0).N := Pipeline.withArrays_arr (cfgs 0).spec (by decide) c _ _ 2
  rw [h, final2]
  funext i
  obtain ⟨r, l, rfl⟩ : ∃ (r : Fin 4096) (l : Fin 1024), i = ix2 r l := ⟨i 0, i 1, by funext a; fin_cases a <;> rfl⟩
  pointwise
  rw [tok_inv]

/-- The two programs end with equal results on any arguments. -/
theorem algebraic : Cert.algebraic_RmsIdeal_RmsRefIdeal (hRmsIdeal := Cert.RmsIdeal.Gen.facts)
    (hRmsRefIdeal := Cert.RmsRefIdeal.Gen.facts) := by
  intro m g m' g' _ hagree
  have hsuf := fun (b : Ref sig .tc) (hs : b.isScoped = false) (ha : ∀ w, (spec0 w).arr.view.ref ≠ b) (r : PUnit × MemSt nD τ sig (Elt Ideal))
     (h : Pipeline.FramePost cfgs (dats m) 0 (Pipeline.afterTail₀ cfgs (dats m) 0 (V0 m) [hostOps1]) r) (c : Dev nD) => (h c).2 b (Pipeline.mem_restRefs_of b hs ha)
  refine ⟨fun c i => hv m c (i 0) (i 1), fun c i => hv m c (i 0) (i 1),
    (θ_run defs _ _).mono (fun r h c => ⟨(hsuf main_v3 (by decide) (by decide) r h c).trans (tail m c),
      ((h c).1 3).trans (final3 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m g),
    (θ_run Cert.RmsRefIdeal.defs _ _).mono (fun r h c => ?_) (Cert.RmsRefIdeal.Value.run m' g')⟩
  obtain ⟨h0, -, hk⟩ := h c
  obtain ⟨g0, g1⟩ := hagree c
  rw [g0, g1] at h0
  have h1 : r.2.mem ((c.tc : Thread Cert.RmsRefIdeal.nD Cert.RmsRefIdeal.τ).loc Cert.RmsRefIdeal.main_v14) = fun i => hv m c (i 0) (i 1) := h0.trans (by
    funext i
    obtain ⟨r, l, rfl⟩ : ∃ (r : Fin 4096) (l : Fin 1024), i = ix2 r l := ⟨i 0, i 1, by funext a; fin_cases a <;> rfl⟩
    pointwise)
  exact ⟨h1, h1, hk⟩

end Cert.RmsIdeal.Val

end
-- ==== Proof.GwVal.lean ====
/- The weight gradient of the convolution's gates, idealized: what the result array holds after the run. The 4096 rows
   come in eight blocks of 512; the sum is carried from block to block in six groups of 512 rows. -/
module

public import proofs.«01_k».proof.Proof.Gen.GwIdeal.Frame
public import proofs.«01_k».proof.Proof.Reals
public import Idealize.ShloMosaic.Lib.Pipeline.ValueKit

@[expose] public section
set_option maxRecDepth 16384
noncomputable section
namespace Cert.GwIdeal.Val
open Idealize.ShloMosaic Idealize.ShloMosaic.TcCoe Idealize.SL.Sem
open Cert.GwIdeal Cert.GwIdeal.Gen Cert.Step

/-! ## Stores and loads of groups of rows -/

section
variable {n k : ℕ} {e : EltTy}

theorem not_mem_rows {off size : Fin 2 → ℕ} (inb) {y : (⟨2, ![n, k]⟩ : Shape).Idx} (h : (y 0).val < off 0 ∨ off 0 + size 0 ≤ (y 0).val) :
    y ∉ (Rect.unit (s := ⟨2, ![n, k]⟩) off size inb).set := by
  intro hy
  obtain ⟨x, rfl⟩ := (Rect.unit (s := ⟨2, ![n, k]⟩) off size inb).exists_idx_of_mem hy
  have h1 := Rect.idx_unit_val (s := ⟨2, ![n, k]⟩) off size inb x 0
  have h2 : (x 0 : ℕ) < size 0 := (x 0).isLt
  omega

/-- A load of rows a store did not touch. -/
theorem rows_skip {sig : RefSig} {κ : Kind} {sp : Space} (v : View sig κ sp (⟨2, ![n, k]⟩ : Shape) e) {off size off' size' : Fin 2 → ℕ} (inb inb')
    (P : (Rect.unit (s := ⟨2, ![n, k]⟩) off size inb).shape.Idx → Elt Ideal e) (L : List (View.Piece (Elt Ideal) ⟨2, ![n, k]⟩ e))
    (h : off 0 + size 0 ≤ off' 0 ∨ off' 0 + size' 0 ≤ off 0) :
    v.readCov (⟨Rect.unit (s := ⟨2, ![n, k]⟩) off size inb, P⟩ :: L) (Rect.unit (s := ⟨2, ![n, k]⟩) off' size' inb').toLoadRect
      = v.readCov L (Rect.unit (s := ⟨2, ![n, k]⟩) off' size' inb').toLoadRect := by
  rw [View.readCov_eq_canon', View.readCov_eq_canon']
  funext x
  refine View.canon_cons_of_not_mem _ L (not_mem_rows inb ?_)
  have h1 := Rect.idx_unit_val (s := ⟨2, ![n, k]⟩) off' size' inb' x 0
  have h2 : (x 0 : ℕ) < size' 0 := (x 0).isLt
  change ((Rect.unit (s := ⟨2, ![n, k]⟩) off' size' inb').idx x 0 : ℕ) < _ ∨ _ ≤ ((Rect.unit (s := ⟨2, ![n, k]⟩) off' size' inb').idx x 0 : ℕ)
  omega
end

abbrev R (o : ℕ) (h : ∀ a : Fin 2, ![o, 0] a + S512x1024.size a ≤ S3072x1024.size a) : Rect S3072x1024 := Rect.unit (s := S3072x1024) ![o, 0] S512x1024.size h

/-- One group stored, read back in its own place and in the others. -/
theorem stC (b : ℕ) {o : ℕ} (ho : o = 512 * b) (h) (P : FVec Ideal S512x1024 .f32) (L : List (View.Piece (Elt Ideal) S3072x1024 .f32)) (y : S3072x1024.Idx) :
    View.canon (⟨R o h, P⟩ :: L) y = if (y 0).val / 512 = b then P (ix2 (⟨(y 0).val % 512, Nat.mod_lt _ (by omega)⟩ : Fin 512) (y 1)) else View.canon L y := by
  subst ho
  by_cases hy : (y 0).val / 512 = b
  · rw [if_pos hy]
    have e : y = (R (512 * b) h).emb (ix2 (⟨(y 0).val % 512, Nat.mod_lt _ (by omega)⟩ : Fin 512) (y 1)) := by
      funext a
      apply Fin.ext
      refine Eq.trans ?_ (Rect.idx_unit_val (s := S3072x1024) ![512 * b, 0] S512x1024.size h _ a).symm
      match a with
      | ⟨0, _⟩ => show (y 0).val = 512 * b + (y 0).val % 512; omega
      | ⟨1, _⟩ => show (y 1).val = 0 + (y 1).val; omega
    have e2 := View.canon_cons_emb (R (512 * b) h) P L (ix2 (⟨(y 0).val % 512, Nat.mod_lt _ (by omega)⟩ : Fin 512) (y 1))
    rw [← e] at e2
    exact e2
  · rw [if_neg hy]
    refine View.canon_cons_of_not_mem _ L (not_mem_rows h ?_)
    show (y 0).val < 512 * b ∨ 512 * b + 512 ≤ (y 0).val
    omega

/-- The six groups stored make up the array. -/
theorem read6 (G : FVec Ideal S3072x1024 .f32) {p0 p1 p2 p3 p4 p5 : FVec Ideal S512x1024 .f32} (L : List (View.Piece (Elt Ideal) S3072x1024 .f32)) (h0 h1 h2 h3 h4 h5)
    (e0 : ∀ (r : Fin 512) (l : Fin 1024), p0 (ix2 r l) = G (ix2 (⟨0 + r.val, by omega⟩ : Fin 3072) l)) (e1 : ∀ (r : Fin 512) (l : Fin 1024), p1 (ix2 r l) = G (ix2 (⟨512 + r.val, by omega⟩ : Fin 3072) l))
    (e2 : ∀ (r : Fin 512) (l : Fin 1024), p2 (ix2 r l) = G (ix2 (⟨1024 + r.val, by omega⟩ : Fin 3072) l)) (e3 : ∀ (r : Fin 512) (l : Fin 1024), p3 (ix2 r l) = G (ix2 (⟨1536 + r.val, by omega⟩ : Fin 3072) l))
    (e4 : ∀ (r : Fin 512) (l : Fin 1024), p4 (ix2 r l) = G (ix2 (⟨2048 + r.val, by omega⟩ : Fin 3072) l)) (e5 : ∀ (r : Fin 512) (l : Fin 1024), p5 (ix2 r l) = G (ix2 (⟨2560 + r.val, by omega⟩ : Fin 3072) l)) :
    View.canon (⟨R 2560 h5, p5⟩ :: ⟨R 2048 h4, p4⟩ :: ⟨R 1536 h3, p3⟩ :: ⟨R 1024 h2, p2⟩ :: ⟨R 512 h1, p1⟩ :: ⟨R 0 h0, p0⟩ :: L) = G := by
  funext y
  obtain ⟨r, l, rfl⟩ : ∃ (r : Fin 3072) (l : Fin 1024), y = ix2 r l := ⟨y 0, y 1, by funext a; fin_cases a <;> rfl⟩
  have key : ∀ (o : ℕ) (ho : o ≤ 2560) (q : Fin 3072), o + r.val % 512 = r.val → G (ix2 (⟨o + (r.val % 512), by omega⟩ : Fin 3072) l) = G (ix2 r l) := fun o _ _ h => by
    congr 2; exact Fin.ext h
  rw [stC 5 rfl, stC 4 rfl, stC 3 rfl, stC 2 rfl, stC 1 rfl, stC 0 rfl]
  have hr := r.isLt
  split_ifs with c5 c4 c3 c2 c1 c0
  · exact (e5 _ l).trans (key 2560 (by omega) r (by change r.val / 512 = 5 at c5; omega))
  · exact (e4 _ l).trans (key 2048 (by omega) r (by change r.val / 512 = 4 at c4; omega))
  · exact (e3 _ l).trans (key 1536 (by omega) r (by change r.val / 512 = 3 at c3; omega))
  · exact (e2 _ l).trans (key 1024 (by omega) r (by change r.val / 512 = 2 at c2; omega))
  · exact (e1 _ l).trans (key 512 (by omega) r (by change r.val / 512 = 1 at c1; omega))
  · exact (e0 _ l).trans (key 0 (by omega) r (by change r.val / 512 = 0 at c0; omega))
  · exfalso
    change ¬ r.val / 512 = 5 at c5; change ¬ r.val / 512 = 4 at c4; change ¬ r.val / 512 = 3 at c3
    change ¬ r.val / 512 = 2 at c2; change ¬ r.val / 512 = 1 at c1; change ¬ r.val / 512 = 0 at c0
    omega

/-! ## The payloads -/

section
variable (h : FVec Ideal S512x1024 .bf16) (a : FVec Ideal S512x1024 .f32) (d : FVec Ideal S512x512 .bf16) (r : Fin 512) (l : Fin 1024)

/-- One group's new sum. -/
abbrev addT : EReal := a (ix2 r l) + ∑ k : Fin 512, d (ix2 k r) * h (ix2 k l)

theorem pay7_eq : k0_pay7 (F := Ideal) h = h := by
  funext y
  pointwise [k0_pay7]
theorem pay1_at : k0_pay1 (F := Ideal) h a d (ix2 r l) = addT h a d r l := by pointwise [k0_pay1]
theorem pay2_at : k0_pay2 (F := Ideal) h a d (ix2 r l) = addT h a d r l := by pointwise [k0_pay2]
theorem pay3_at : k0_pay3 (F := Ideal) h a d (ix2 r l) = addT h a d r l := by pointwise [k0_pay3]
theorem pay8_at : k0_pay8 (F := Ideal) h a d (ix2 r l) = addT h a d r l := by pointwise [k0_pay8, k0_pay7]
theorem pay9_at : k0_pay9 (F := Ideal) h a d (ix2 r l) = addT h a d r l := by pointwise [k0_pay9, k0_pay7]
theorem pay10_at : k0_pay10 (F := Ideal) h a d (ix2 r l) = addT h a d r l := by pointwise [k0_pay10, k0_pay7]
theorem pay6_at (r : Fin 3072) : k0_pay6 (F := Ideal) (ix2 r l) = 0 := by pointwise [k0_pay6]
theorem pay4_eq (h : FVec Ideal S448x1024 .bf16) : k0_pay4 (F := Ideal) h = h := by
  funext y
  pointwise [k0_pay4]
theorem pay5_at (v : FVec Ideal S3072x1024 .f32) (r : Fin 3072) : k0_pay5 (F := Ideal) v (ix2 r l) = v (ix2 r l) := by pointwise [k0_pay5]
end

/-- The new sum of all rows. -/
abbrev nxt (x0 : FVec Ideal S512x3072 .bf16) (x1 : FVec Ideal S512x1024 .bf16) (a : FVec Ideal S3072x1024 .f32) : FVec Ideal S3072x1024 .f32 :=
  fun i => a i + ∑ k : Fin 512, x0 (ix2 k (i 0)) * x1 (ix2 k (i 1))

/-- A group of rows of the old sum, and the columns of the first factor it takes. -/
theorem addT_at (x0 : FVec Ideal S512x3072 .bf16) (x1 : FVec Ideal S512x1024 .bf16) (a : FVec Ideal S3072x1024 .f32) (o : ℕ) (ho : o ≤ 2560) (h h') (r : Fin 512) (l : Fin 1024) :
    addT x1 (View.ld (Val := Elt Ideal) (e' := .f32) a (R o h)) (View.ld (Val := Elt Ideal) (e' := .bf16) x0 (Rect.unit (s := S512x3072) ![0, o] S512x512.size h')) r l
      = nxt x0 x1 a (ix2 (⟨o + r.val, by omega⟩ : Fin 3072) l) := by
  refine congr (congrArg HAdd.hAdd ?_) (Finset.sum_congr rfl fun k _ => congrArg (· * _) ?_)
  · refine View.ld_unit_apply_of (Val := Elt Ideal) (S := S3072x1024) (e := .f32) a ![o, 0] S512x1024.size h _ _ fun z => ?_
    match z with
    | ⟨0, _⟩ => rfl
    | ⟨1, _⟩ => exact (Nat.zero_add _).symm
  · refine View.ld_unit_apply_of (Val := Elt Ideal) (S := S512x3072) (e := .bf16) x0 ![0, o] S512x512.size h' _ _ fun z => ?_
    match z with
    | ⟨0, _⟩ => exact (Nat.zero_add _).symm
    | ⟨1, _⟩ => rfl

theorem rd_acc (hw : (Memref.whole cc0_scratch0).IsWhole) (a : FVec Ideal S3072x1024 .f32) :
    View.read (Elt Ideal) (View.whole cc0_scratch0) (hw.unread a) = a :=
  Memref.IsWhole.read_unread (Val := Elt Ideal) hw a

theorem rd_zero (v : View sig .tc .vmem S3072x1024 .f32) (o : ℕ) (h i) :
    v.readCov [⟨Rect.unit (s := S3072x1024) ![0, 0] S3072x1024.size i, k0_pay6 (F := Ideal)⟩] (R o h).toLoadRect = View.ld (Val := Elt Ideal) (e' := .f32) (fun _ => (0 : EReal) : FVec Ideal S3072x1024 .f32) (R o h) := by
  rw [View.readCov_eq_canon']
  funext x
  refine (congrFun (View.canon_cons_unit_lit (Val := Elt Ideal) (S := S3072x1024) (e := .f32) i (k0_pay6 (F := Ideal)) [] (by decide)) _).trans ?_
  generalize (R o h).toLoadRect.idx x = y
  obtain ⟨r, l, rfl⟩ : ∃ (r : Fin 3072) (l : Fin 1024), y = ix2 r l := ⟨y 0, y 1, by funext a; fin_cases a <;> rfl⟩
  exact pay6_at l r

variable (m : (ℓ : Loc nD τ sig) → Buf (Elt Ideal) ℓ)

/-- The first point leaves its own products. -/
theorem acc_A (c : Dev nD) (t : Fin cfg0.N) (h0 : t.val % 8 = 0) :
    (outsAt0 m c t.val t.isLt).2 = nxt (iblk m c 0 t) (iblk m c 1 t) (fun _ => 0) := by
  rw [outsAt0_A m c t h0 (by omega)]
  frame_out
  simp (disch := decide) only [rows_skip]
  refine read6 _ _ _ _ _ _ _ _ (fun r l => ?_) (fun r l => ?_) (fun r l => ?_) (fun r l => ?_) (fun r l => ?_) (fun r l => ?_)
  · rw [pay8_at, rd_zero]; exact addT_at _ _ _ 0 (by omega) _ _ r l
  · rw [pay9_at, rd_zero]; exact addT_at _ _ _ 512 (by omega) _ _ r l
  · rw [pay10_at, rd_zero]; exact addT_at _ _ _ 1024 (by omega) _ _ r l
  · rw [pay7_eq, pay1_at, rd_zero]; exact addT_at _ _ _ 1536 (by omega) _ _ r l
  · rw [pay7_eq, pay2_at, rd_zero]; exact addT_at _ _ _ 2048 (by omega) _ _ r l
  · rw [pay7_eq, pay3_at, rd_zero]; exact addT_at _ _ _ 2560 (by omega) _ _ r l

/-- Every other point adds its products. -/
theorem acc_B (c : Dev nD) (t : Fin cfg0.N) (h0 : ¬t.val % 8 = 0) :
    (outsAt0 m c t.val t.isLt).2 = nxt (iblk m c 0 t) (iblk m c 1 t) (outsAt0 m c (t.val - 1) (Nat.lt_of_le_of_lt (Nat.sub_le _ _) t.isLt)).2 := by
  by_cases h1 : t.val % 8 = 7
  · rw [outsAt0_C m c t h0 h1]
    frame_out
    simp only [rd_acc]
    refine read6 _ _ _ _ _ _ _ _ (fun r l => ?_) (fun r l => ?_) (fun r l => ?_) (fun r l => ?_) (fun r l => ?_) (fun r l => ?_)
    · rw [pay8_at]; exact addT_at _ _ _ 0 (by omega) _ _ r l
    · rw [pay9_at]; exact addT_at _ _ _ 512 (by omega) _ _ r l
    · rw [pay10_at]; exact addT_at _ _ _ 1024 (by omega) _ _ r l
    · rw [pay7_eq, pay1_at]; exact addT_at _ _ _ 1536 (by omega) _ _ r l
    · rw [pay7_eq, pay2_at]; exact addT_at _ _ _ 2048 (by omega) _ _ r l
    · rw [pay7_eq, pay3_at]; exact addT_at _ _ _ 2560 (by omega) _ _ r l
  · rw [outsAt0_B m c t h0 h1]
    frame_out
    simp only [rd_acc]
    refine read6 _ _ _ _ _ _ _ _ (fun r l => ?_) (fun r l => ?_) (fun r l => ?_) (fun r l => ?_) (fun r l => ?_) (fun r l => ?_)
    · rw [pay8_at]; exact addT_at _ _ _ 0 (by omega) _ _ r l
    · rw [pay9_at]; exact addT_at _ _ _ 512 (by omega) _ _ r l
    · rw [pay10_at]; exact addT_at _ _ _ 1024 (by omega) _ _ r l
    · rw [pay7_eq, pay1_at]; exact addT_at _ _ _ 1536 (by omega) _ _ r l
    · rw [pay7_eq, pay2_at]; exact addT_at _ _ _ 2048 (by omega) _ _ r l
    · rw [pay7_eq, pay3_at]; exact addT_at _ _ _ 2560 (by omega) _ _ r l

end Cert.GwIdeal.Val
end
-- ==== Proof.GwClaim.lean ====
/- The weight gradient of the convolution's gates: the call's result is the reference's, for any arguments. -/
module

public import proofs.«01_k».proof.Defs
public import proofs.«01_k».proof.Proof.GwVal
public import proofs.«01_k».proof.Proof.Gen.GwRefIdeal.Run
public import proofs.«01_k».proof.Proof.Gen.Gw.Frame

@[expose] public section
set_option maxRecDepth 16384
noncomputable section
namespace Cert.GwIdeal.Val
open Idealize.ShloMosaic Idealize.ShloMosaic.TcCoe Idealize.SL.Sem
open Cert.GwIdeal Cert.GwIdeal.Gen Cert.Step

/-- Which block each window reads or writes at point `t`. -/
theorem idx : ∀ t : Fin cfg0.N, win0_0.index t = ![t.val, 0] ∧ win0_1.index t = ![t.val, 0] ∧ win0_2.index t = ![0, 0] ∧ win0_3.index t = ![0, 0] :=
  (by decide +kernel : ∀ t : Fin grid0.N, _)

/-- Row `r` of the block of point `t` in the whole array. -/
abbrev row (t : Fin cfg0.N) (r : Fin 512) : Fin 4096 := ⟨t.val * 512 + r, by have := t.isLt; have : t.val < 8 := this; omega⟩

variable (m : (ℓ : Loc nD τ sig) → Buf (Elt Ideal) ℓ)

abbrev Dg (c : Dev nD) : FVec Ideal S4096x3072 .f32 := m ((c : Thread nD τ).loc main_arg0)
abbrev H (c : Dev nD) : FVec Ideal S4096x1024 .f32 := m ((c : Thread nD τ).loc main_arg1)
abbrev G (c : Dev nD) : FVec Ideal S448x1024 .f32 := m ((c : Thread nD τ).loc main_arg2)

theorem blk0 (c : Dev nD) (t : Fin cfg0.N) (r : Fin 512) (l : Fin 3072) :
    (iblk m c 0 t : FVec Ideal S512x3072 .bf16) (ix2 r l) = Dg m c (ix2 (row t r) l) := by
  blk_point [iblk, V, idx t]
theorem blk1 (c : Dev nD) (t : Fin cfg0.N) (r : Fin 512) (l : Fin 1024) :
    (iblk m c 1 t : FVec Ideal S512x1024 .bf16) (ix2 r l) = H m c (ix2 (row t r) l) := by
  blk_point [iblk, V, idx t]
theorem blk2 (c : Dev nD) (t : Fin cfg0.N) (r : Fin 448) (l : Fin 1024) :
    (iblk m c 2 t : FVec Ideal S448x1024 .bf16) (ix2 r l) = G m c (ix2 r l) := by
  blk_point [iblk, V, idx t]

theorem nxt_at (c : Dev nD) (t : Fin cfg0.N) (a : FVec Ideal S3072x1024 .f32) (r : Fin 3072) (l : Fin 1024) :
    nxt (iblk m c 0 t) (iblk m c 1 t) a (ix2 r l) = a (ix2 r l) + ∑ k : Fin 512, Dg m c (ix2 (row t k) r) * H m c (ix2 (row t k) l) := by
  refine congrArg (_ + ·) (Finset.sum_congr rfl fun k _ => ?_)
  exact congr (congrArg HMul.hMul (blk0 m c t k r)) (blk1 m c t k l)

theorem sum_rows (f : Fin 4096 → EReal) : ∑ p : Fin cfg0.N, ∑ r : Fin 512, f (row p r) = ∑ s, f s :=
  (Fin.sum_univ_tiles 8 512 rfl f).symm

/-- The sum behind the last point. -/
theorem acc_last (c : Dev nD) (r : Fin 3072) (l : Fin 1024) :
    (outsAt0 m c t0_7.val t0_7.isLt).2 (ix2 r l) = ∑ s : Fin 4096, Dg m c (ix2 s r) * H m c (ix2 s l) := by
  rw [Pipeline.eq_sum_fin_of_reset_step_apply_last (fun n h => (outsAt0 m c n h).2) 8 (fun _ => 0)
    (fun t j => ∑ k : Fin 512, Dg m c (ix2 (row t k) (j 0)) * H m c (ix2 (row t k) (j 1)))
    (fun t h j => by
      obtain ⟨r, l, rfl⟩ : ∃ (r : Fin 3072) (l : Fin 1024), j = ix2 r l := ⟨j 0, j 1, by funext a; fin_cases a <;> rfl⟩
      rw [acc_A m c t h]; exact nxt_at m c t _ r l)
    (fun t h j => by
      obtain ⟨r, l, rfl⟩ : ∃ (r : Fin 3072) (l : Fin 1024), j = ix2 r l := ⟨j 0, j 1, by funext a; fin_cases a <;> rfl⟩
      rw [acc_B m c t h]; exact nxt_at m c t _ r l)
    (le_of_eq N_0) t0_7 rfl (ix2 r l), zero_add]
  exact sum_rows fun s => Dg m c (ix2 s r) * H m c (ix2 s l)

/-- The result: the rows given ready, then the sums. -/
abbrev res (c : Dev nD) : FVec Ideal S3520x1024 .bf16 := fun i =>
  if h : (i 0).val < 448 then G m c (ix2 (⟨(i 0).val, h⟩ : Fin 448) (i 1))
  else (∑ s : Fin 4096, Dg m c (ix2 s (⟨(i 0).val - 448, by have h := (i 0).isLt; change _ < 3520 at h; omega⟩ : Fin 3072)) * H m c (ix2 s (i 1)) : EReal)

/-- Two stores, of the first 448 rows and of the rest, read back. -/
theorem read2 (P : FVec Ideal S3072x1024 .bf16) (Q : FVec Ideal S448x1024 .bf16) (i j) (r : Fin 3520) (l : Fin 1024) :
    View.canon (Val := Elt Ideal) (e := .bf16) [⟨Rect.unit (s := S3520x1024) ![448, 0] S3072x1024.size i, P⟩, ⟨Rect.unit (s := S3520x1024) ![0, 0] S448x1024.size j, Q⟩] (ix2 r l)
      = if h : r.val < 448 then Q (ix2 (⟨r.val, h⟩ : Fin 448) l) else P (ix2 (⟨r.val - 448, by have h := r.isLt; omega⟩ : Fin 3072) l) := by
  by_cases h : r.val < 448
  · rw [dif_pos h]
    have hn : (ix2 r l : S3520x1024.Idx) ∉ (Rect.unit (s := S3520x1024) ![448, 0] S3072x1024.size i).set := by
      refine not_mem_rows i ?_
      show r.val < 448 ∨ 448 + 3072 ≤ r.val
      exact Or.inl h
    have e1 := View.canon_cons_of_not_mem (Val := Elt Ideal) (e := .bf16) ⟨Rect.unit (s := S3520x1024) ![448, 0] S3072x1024.size i, P⟩
      [⟨Rect.unit (s := S3520x1024) ![0, 0] S448x1024.size j, Q⟩] hn
    refine e1.trans ?_
    have e : (ix2 r l : S3520x1024.Idx) = (Rect.unit (s := S3520x1024) ![0, 0] S448x1024.size j).emb (ix2 (⟨r.val, h⟩ : Fin 448) l) := by
      funext a
      apply Fin.ext
      refine Eq.trans ?_ (Rect.idx_unit_val (s := S3520x1024) ![0, 0] S448x1024.size j _ a).symm
      match a with
      | ⟨0, _⟩ => exact (Nat.zero_add _).symm
      | ⟨1, _⟩ => exact (Nat.zero_add _).symm
    have e2 := View.canon_cons_emb (Val := Elt Ideal) (e := .bf16) (Rect.unit (s := S3520x1024) ![0, 0] S448x1024.size j) Q [] (ix2 (⟨r.val, h⟩ : Fin 448) l)
    rw [← e] at e2
    exact e2
  · rw [dif_neg h]
    have e : (ix2 r l : S3520x1024.Idx) = (Rect.unit (s := S3520x1024) ![448, 0] S3072x1024.size i).emb (ix2 (⟨r.val - 448, by have h := r.isLt; omega⟩ : Fin 3072) l) := by
      funext a
      apply Fin.ext
      refine Eq.trans ?_ (Rect.idx_unit_val (s := S3520x1024) ![448, 0] S3072x1024.size i _ a).symm
      match a with
      | ⟨0, _⟩ => show r.val = 448 + (r.val - 448); omega
      | ⟨1, _⟩ => exact (Nat.zero_add _).symm
    have e2 := View.canon_cons_emb (Val := Elt Ideal) (e := .bf16) (Rect.unit (s := S3520x1024) ![448, 0] S3072x1024.size i) P
      [⟨Rect.unit (s := S3520x1024) ![0, 0] S448x1024.size j, Q⟩] (ix2 (⟨r.val - 448, by have h := r.isLt; omega⟩ : Fin 3072) l)
    rw [← e] at e2
    exact e2

/-- A load of everything stored so far. -/
theorem rd_all (v : View sig .tc .vmem S3072x1024 .f32) (L : List (View.Piece (Elt Ideal) S3072x1024 .f32)) (i) :
    v.readCov L (Rect.unit (s := S3072x1024) ![0, 0] S3072x1024.size i).toLoadRect = View.canon L := by
  rw [View.readCov_eq_canon']
  exact View.ld_unit_lit i (View.canon L) (by decide)

/-- What the last point writes. -/
theorem out_last (c : Dev nD) (t : Fin cfg0.N) (h0 : ¬t.val % 8 = 0) (h1 : t.val % 8 = 7) (r : Fin 3520) (l : Fin 1024) :
    (outsAt0 m c t.val t.isLt).1 (ix2 r l) = if h : r.val < 448 then (iblk m c 2 t : FVec Ideal S448x1024 .bf16) (ix2 (⟨r.val, h⟩ : Fin 448) l)
      else (outsAt0 m c t.val t.isLt).2 (ix2 (⟨r.val - 448, by have h := r.isLt; omega⟩ : Fin 3072) l) := by
  rw [outsAt0_C m c t h0 h1]
  frame_out
  rw [rd_all]
  generalize View.canon (Val := Elt Ideal) (s := S3072x1024) _ = A
  rw [pay4_eq, read2]
  simp only [pay5_at]

theorem res_at (c : Dev nD) (r : Fin 3520) (l : Fin 1024) : res m c (ix2 r l) = if h : r.val < 448 then G m c (ix2 (⟨r.val, h⟩ : Fin 448) l)
    else (∑ s : Fin 4096, Dg m c (ix2 s (⟨r.val - 448, by have h := r.isLt; omega⟩ : Fin 3072)) * H m c (ix2 s l) : EReal) := rfl

theorem emb3 (t : Fin cfg0.N) (r : Fin 3520) (l : Fin 1024) :
    ((View.whole main_v3).slice (win0_3.rect t)).emb (ix2 r l) = (ix2 r l : S3520x1024.Idx) := by blk_ext [idx t]

theorem final3 (c : Dev nD) : (dats m 0 c).arrAt 3 (cfgs 0).N = res m c := by
  refine (dats m 0 c).arrAt_eq_of_after_last 3 t0_7 (by decide +kernel) _ fun j => ?_
  blk_simp
  obtain ⟨r, l, rfl⟩ : ∃ (r : Fin 3520) (l : Fin 1024), j = ix2 r l := ⟨j 0, j 1, by funext a; fin_cases a <;> rfl⟩
  rw [after0_3]
  refine (out_last m c t0_7 (by decide) (by decide) r l).trans ?_
  by_cases h : r.val < 448
  · rw [dif_pos h, blk2, res_at, dif_pos h]
  · rw [dif_neg h, acc_last, res_at, dif_neg h]

/-- The two programs end with equal results on any arguments. -/
theorem algebraic : Cert.algebraic_GwIdeal_GwRefIdeal (hGwIdeal := Cert.GwIdeal.Gen.facts)
    (hGwRefIdeal := Cert.GwRefIdeal.Gen.facts) := by
  intro m g m' g' _ hagree
  refine ⟨fun c => res m c,
    θ_run_and (Cert.GwIdeal.Gen.unchanged m g) (Cert.GwIdeal.Gen.run_main m g) |> (θ_run defs _ _).mono (fun r h c =>
      ⟨((h.2 c).1 3).trans (final3 m c), h.1 c⟩),
    (θ_run Cert.GwRefIdeal.defs _ _).mono (fun r h c => ?_) (Cert.GwRefIdeal.Value.run m' g')⟩
  obtain ⟨h0, hk⟩ := h c
  obtain ⟨g0, g1, g2⟩ := hagree c
  rw [g0, g1, g2] at h0
  refine ⟨h0.trans ?_, hk⟩
  funext i
  obtain ⟨r, l, rfl⟩ : ∃ (r : Fin 3520) (l : Fin 1024), i = ix2 r l := ⟨i 0, i 1, by funext a; fin_cases a <;> rfl⟩
  pointwise
  rfl

end Cert.GwIdeal.Val

end
-- ==== Proof.AdamClaim.lean ====
/- The optimiser's step of one device's rows of w_out, idealized: the sum of the eight parts of the gradient and the three
   arrays made of it are the reference's, for any arguments. -/
module

public import proofs.«01_k».proof.Defs
public import proofs.«01_k».proof.Proof.Gen.AdamIdeal.Frame
public import proofs.«01_k».proof.Proof.Gen.AdamRefIdeal.Run
public import proofs.«01_k».proof.Proof.Gen.Adam.Frame
public import proofs.«01_k».proof.Proof.Reals
public import Idealize.ShloMosaic.Lib.Pipeline.ValueKit

@[expose] public section
set_option maxRecDepth 16384
noncomputable section
namespace Cert.AdamIdeal.Val
open Idealize.ShloMosaic Idealize.ShloMosaic.TcCoe Idealize.SL.Sem
open Cert.AdamIdeal Cert.AdamIdeal.Gen Cert.Step

/-! One element of the step, from the gradient `g`, the weight `w` and the two moments. -/

abbrev mom (g m : EReal) : EReal := Ideal.ofBits .f32 0x3F666666#32 * m + Ideal.ofBits .f32 0x3DCCCCCD#32 * g
abbrev vel (g v : EReal) : EReal := Ideal.ofBits .f32 0x3F7FBE77#32 * v + Ideal.ofBits .f32 0x3A83126F#32 * (g * g)
abbrev step (g w m v : EReal) : EReal :=
  Ideal.ofBits .f32 0xBA83126F#32 * (Ideal.div (Ideal.div (mom g m) (Ideal.ofBits .f32 0x3F26BD02#32))
    (Ideal.sqrt (Ideal.div (vel g v) (Ideal.ofBits .f32 0x3C231ACC#32)) + Ideal.ofBits .f32 0x322BCC77#32) + Ideal.ofBits .f32 0x3C23D70A#32 * w)

section
variable (p : FVec Ideal S8x128x1024 .bf16) (w a b g : FVec Ideal S128x1024 .f32) (r : Fin 128) (l : Fin 1024)

/-- The parts added one after another are their sum. -/
theorem sum_at : k0_pay5 (F := Ideal) p w a b (ix2 r l) = ∑ k : Fin 8, p (ix3 k r l) := by
  rw [Fin.sum_univ_eight]
  pointwise [k0_pay5, k0_pay4]

theorem mom_at : k0_pay1 (F := Ideal) g a (Scalar.ofBits .f32 0x3F666666#32) (ix2 r l) = mom (g (ix2 r l)) (a (ix2 r l)) := by
  pointwise [k0_pay1]
theorem vel_at : k0_pay2 (F := Ideal) g b (ix2 r l) = vel (g (ix2 r l)) (b (ix2 r l)) := by
  pointwise [k0_pay2]
theorem step_at : k0_pay3 (F := Ideal) g a (Scalar.ofBits .f32 0x3F666666#32) b w (ix2 r l) = step (g (ix2 r l)) (w (ix2 r l)) (a (ix2 r l)) (b (ix2 r l)) := by
  pointwise [k0_pay3, k0_pay1, k0_pay2]
end

/-- Which block each window reads or writes at point `t`. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, _)

/-- Row `r` of the block of point `t` in the whole array. -/
abbrev row (t : Fin cfg0.N) (r : Fin 128) : Fin 256 := ⟨t.val * 128 + r, by have := t.isLt; have : t.val < 2 := this; omega⟩

variable (m : (ℓ : Loc nD τ sig) → Buf (Elt Ideal) ℓ)

abbrev X (c : Dev nD) : FVec Ideal S8x256x1024 .f32 := m ((c : Thread nD τ).loc main_arg0)
abbrev W (c : Dev nD) : FVec Ideal S256x1024 .f32 := m ((c : Thread nD τ).loc main_arg1)
abbrev A (c : Dev nD) : FVec Ideal S256x1024 .f32 := m ((c : Thread nD τ).loc main_arg2)
abbrev B (c : Dev nD) : FVec Ideal S256x1024 .f32 := m ((c : Thread nD τ).loc main_arg3)

theorem blk0 (c : Dev nD) (t : Fin cfg0.N) (k : Fin 8) (r : Fin 128) (l : Fin 1024) :
    (iblk m c 0 t : FVec Ideal S8x128x1024 .bf16) (ix3 k r l) = X m c (ix3 k (row t r) l) := by
  blk_point [iblk, V, idx t]
theorem blk1 (c : Dev nD) (t : Fin cfg0.N) (r : Fin 128) (l : Fin 1024) :
    (iblk m c 1 t : FVec Ideal S128x1024 .f32) (ix2 r l) = W m c (ix2 (row t r) l) := by
  blk_point [iblk, V, idx t]
theorem blk2 (c : Dev nD) (t : Fin cfg0.N) (r : Fin 128) (l : Fin 1024) :
    (iblk m c 2 t : FVec Ideal S128x1024 .f32) (ix2 r l) = A m c (ix2 (row t r) l) := by
  blk_point [iblk, V, idx t]
theorem blk3 (c : Dev nD) (t : Fin cfg0.N) (r : Fin 128) (l : Fin 1024) :
    (iblk m c 3 t : FVec Ideal S128x1024 .f32) (ix2 r l) = B m c (ix2 (row t r) l) := by
  blk_point [iblk, V, idx t]

theorem emb4 (t : Fin cfg0.N) (r : Fin 128) (l : Fin 1024) :
    ((View.whole main_v1_0).slice (win0_4.rect t)).emb (ix2 r l) = (ix2 (row t r) l : S256x1024.Idx) := by blk_ext [idx t]
theorem emb5 (t : Fin cfg0.N) (r : Fin 128) (l : Fin 1024) :
    ((View.whole main_v1_1).slice (win0_5.rect t)).emb (ix2 r l) = (ix2 (row t r) l : S256x1024.Idx) := by blk_ext [idx t]
theorem emb6 (t : Fin cfg0.N) (r : Fin 128) (l : Fin 1024) :
    ((View.whole main_v1_2).slice (win0_6.rect t)).emb (ix2 r l) = (ix2 (row t r) l : S256x1024.Idx) := by blk_ext [idx t]
theorem emb7 (t : Fin cfg0.N) (r : Fin 128) (l : Fin 1024) :
    ((View.whole main_v1_3).slice (win0_7.rect t)).emb (ix2 r l) = (ix2 (row t r) l : S256x1024.Idx) := by blk_ext [idx t]

/-- The gradient: the sum of the parts. -/
abbrev gr (c : Dev nD) : FVec Ideal S256x1024 .f32 := fun i => (∑ k : Fin 8, X m c (ix3 k (i 0) (i 1)) : EReal)

/-- What the first payload is at point `t`. -/
theorem gr_at (c : Dev nD) (t : Fin cfg0.N) (r : Fin 128) (l : Fin 1024) :
    k0_pay5 (F := Ideal) (iblk m c 0 t : FVec Ideal S8x128x1024 .bf16) (iblk m c 1 t : FVec Ideal S128x1024 .f32) (iblk m c 2 t : FVec Ideal S128x1024 .f32)
      (iblk m c 3 t : FVec Ideal S128x1024 .f32) (ix2 r l) = gr m c (ix2 (row t r) l) := by
  rw [sum_at]
  simp only [blk0]
  rfl

theorem final4 (c : Dev nD) : (dats m 0 c).arrAt 4 (cfgs 0).N = gr m c := by
  refine (dats m 0 c).arrAt_eq_of_covers 4 _ (by decide +kernel) fun t _ y => ?_
  blk_simp
  rw [after0_4]
  unfold out0_4
  frame_out
  obtain ⟨r, l, rfl⟩ : ∃ (r : Fin 128) (l : Fin 1024), y = ix2 r l := ⟨y 0, y 1, by funext a; fin_cases a <;> rfl⟩
  rw [emb4]
  exact gr_at m c t r l

theorem final5 (c : Dev nD) : (dats m 0 c).arrAt 5 (cfgs 0).N = fun i => step (gr m c i) (W m c i) (A m c i) (B m c i) := by
  refine (dats m 0 c).arrAt_eq_of_covers 5 _ (by decide +kernel) fun t _ y => ?_
  blk_simp
  rw [after0_5]
  unfold out0_5
  frame_out
  obtain ⟨r, l, rfl⟩ : ∃ (r : Fin 128) (l : Fin 1024), y = ix2 r l := ⟨y 0, y 1, by funext a; fin_cases a <;> rfl⟩
  rw [emb5]
  refine (step_at _ _ _ _ r l).trans ?_
  rw [gr_at, blk1, blk2, blk3]

theorem final6 (c : Dev nD) : (dats m 0 c).arrAt 6 (cfgs 0).N = fun i => mom (gr m c i) (A m c i) := by
  refine (dats m 0 c).arrAt_eq_of_covers 6 _ (by decide +kernel) fun t _ y => ?_
  blk_simp
  rw [after0_6]
  unfold out0_6
  frame_out
  obtain ⟨r, l, rfl⟩ : ∃ (r : Fin 128) (l : Fin 1024), y = ix2 r l := ⟨y 0, y 1, by funext a; fin_cases a <;> rfl⟩
  rw [emb6]
  refine (mom_at _ _ r l).trans ?_
  rw [gr_at, blk2]

theorem final7 (c : Dev nD) : (dats m 0 c).arrAt 7 (cfgs 0).N = fun i => vel (gr m c i) (B m c i) := by
  refine (dats m 0 c).arrAt_eq_of_covers 7 _ (by decide +kernel) fun t _ y => ?_
  blk_simp
  rw [after0_7]
  unfold out0_7
  frame_out
  obtain ⟨r, l, rfl⟩ : ∃ (r : Fin 128) (l : Fin 1024), y = ix2 r l := ⟨y 0, y 1, by funext a; fin_cases a <;> rfl⟩
  rw [emb7]
  refine (vel_at _ _ r l).trans ?_
  rw [gr_at, blk3]

/-- The two programs end with equal results on any arguments. -/
theorem algebraic : Cert.algebraic_AdamIdeal_AdamRefIdeal (hAdamIdeal := Cert.AdamIdeal.Gen.facts)
    (hAdamRefIdeal := Cert.AdamRefIdeal.Gen.facts) := by
  intro m g m' g' _ hagree
  refine ⟨fun c => gr m c, fun c i => step (gr m c i) (W m c i) (A m c i) (B m c i), fun c i => mom (gr m c i) (A m c i), fun c i => vel (gr m c i) (B m c i),
    θ_run_and (Cert.AdamIdeal.Gen.unchanged m g) (Cert.AdamIdeal.Gen.run_main m g) |> (θ_run defs _ _).mono (fun r h c =>
      ⟨((h.2 c).1 4).trans (final4 m c), ((h.2 c).1 5).trans (final5 m c), ((h.2 c).1 6).trans (final6 m c), ((h.2 c).1 7).trans (final7 m c), h.1 c⟩),
    (θ_run Cert.AdamRefIdeal.defs _ _).mono (fun r h c => ?_) (Cert.AdamRefIdeal.Value.run m' g')⟩
  obtain ⟨h0, h1, h2, h3, hk⟩ := h c
  obtain ⟨g0, g1, g2, g3⟩ := hagree c
  rw [g0] at h0
  rw [g0, g1, g2, g3] at h1
  rw [g0, g2] at h2
  rw [g0, g3] at h3
  refine ⟨h0.trans ?_, h1.trans ?_, h2.trans ?_, h3.trans ?_, hk⟩
  all_goals
    funext i
    obtain ⟨r, l, rfl⟩ : ∃ (r : Fin 256) (l : Fin 1024), i = ix2 r l := ⟨i 0, i 1, by funext a; fin_cases a <;> rfl⟩
    pointwise
    try rfl

end Cert.AdamIdeal.Val

end
-- ==== Proof.SmallVal.lean ====
/- The optimiser's step of the small weights, idealized: what the call leaves in its four arrays, and the rows packed
   into its arguments on the host. -/
module

public import proofs.«01_k».proof.Proof.Gen.SmallIdeal.Frame
public import proofs.«01_k».proof.Proof.Reals
public import Idealize.ShloMosaic.Lib.Pipeline.ValueKit
public import Idealize.ShloMosaic.Lib.Claim

@[expose] public section
set_option maxRecDepth 16384
noncomputable section
namespace Cert.SmallIdeal.Val
open Idealize.ShloMosaic Idealize.ShloMosaic.TcCoe Idealize.SL.Sem
open Cert.SmallIdeal Cert.SmallIdeal.Gen Cert.Step

/-! One element of the step, from the gradient `g`, the weight `w` and the two moments. -/

abbrev mom (g m : EReal) : EReal := Ideal.ofBits .f32 0x3F666666#32 * m + Ideal.ofBits .f32 0x3DCCCCCD#32 * g
abbrev vel (g v : EReal) : EReal := Ideal.ofBits .f32 0x3F7FBE77#32 * v + Ideal.ofBits .f32 0x3A83126F#32 * (g * g)
/-- The update, from both new moments. -/
abbrev upd (m v w : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

section
variable (p : FVec Ideal S8x8x1024 .f32) (w a b g : FVec Ideal S8x1024 .f32) (r : Fin 8) (l : Fin 1024)

/-- The parts added one after another are their sum. -/
theorem sum_at : k0_pay5 (F := Ideal) p w a b (ix2 r l) = ∑ k : Fin 8, p (ix3 k r l) := by
  rw [Fin.sum_univ_eight]
  pointwise [k0_pay5, k0_pay3]
theorem vel_at : k0_pay1 (F := Ideal) g b (ix2 r l) = vel (g (ix2 r l)) (b (ix2 r l)) := by
  pointwise [k0_pay1]
theorem mom_at : k0_pay6 (F := Ideal) p w a b (ix2 r l) = mom (∑ k : Fin 8, p (ix3 k r l)) (a (ix2 r l)) := by
  rw [Fin.sum_univ_eight]
  pointwise [k0_pay6, k0_pay4, k0_pay3]
theorem upd_at (n : FVec Ideal S8x1024 .f32) : k0_pay2 (F := Ideal) g n b w (ix2 r l) = upd (n (ix2 r l)) (vel (g (ix2 r l)) (b (ix2 r l))) (w (ix2 r l)) := by
  pointwise [k0_pay2, k0_pay1]
end

/-- Every window is its whole array. -/
theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

variable (m : (ℓ : Loc nD τ sig) → Buf (Elt Ideal) ℓ)

/-! The four packed arrays. -/
abbrev P (c : Dev nD) : FVec Ideal S8x8x1024 .f32 := V m c main_v2
abbrev W (c : Dev nD) : FVec Ideal S8x1024 .f32 := V m c main_v4
abbrev A (c : Dev nD) : FVec Ideal S8x1024 .f32 := V m c main_v6
abbrev B (c : Dev nD) : FVec Ideal S8x1024 .f32 := V m c main_v12

theorem blk0 (c : Dev nD) (t : Fin cfg0.N) (k r : Fin 8) (l : Fin 1024) :
    (iblk m c 0 t : FVec Ideal S8x8x1024 .f32) (ix3 k r l) = P m c (ix3 k r l) := by
  blk_point [iblk, idx t]
theorem blk1 (c : Dev nD) (t : Fin cfg0.N) (r : Fin 8) (l : Fin 1024) :
    (iblk m c 1 t : FVec Ideal S8x1024 .f32) (ix2 r l) = W m c (ix2 r l) := by
  blk_point [iblk, idx t]
theorem blk2 (c : Dev nD) (t : Fin cfg0.N) (r : Fin 8) (l : Fin 1024) :
    (iblk m c 2 t : FVec Ideal S8x1024 .f32) (ix2 r l) = A m c (ix2 r l) := by
  blk_point [iblk, idx t]
theorem blk3 (c : Dev nD) (t : Fin cfg0.N) (r : Fin 8) (l : Fin 1024) :
    (iblk m c 3 t : FVec Ideal S8x1024 .f32) (ix2 r l) = B m c (ix2 r l) := by
  blk_point [iblk, idx t]
theorem emb4 (t : Fin cfg0.N) (r : Fin 8) (l : Fin 1024) :
    ((View.whole main_v13_0).slice (win0_4.rect t)).emb (ix2 r l) = (ix2 r l : S8x1024.Idx) := by blk_ext [idx t]
theorem emb5 (t : Fin cfg0.N) (r : Fin 8) (l : Fin 1024) :
    ((View.whole main_v13_1).slice (win0_5.rect t)).emb (ix2 r l) = (ix2 r l : S8x1024.Idx) := by blk_ext [idx t]
theorem emb6 (t : Fin cfg0.N) (r : Fin 8) (l : Fin 1024) :
    ((View.whole main_v13_2).slice (win0_6.rect t)).emb (ix2 r l) = (ix2 r l : S8x1024.Idx) := by blk_ext [idx t]
theorem emb7 (t : Fin cfg0.N) (r : Fin 8) (l : Fin 1024) :
    ((View.whole main_v13_3).slice (win0_7.rect t)).emb (ix2 r l) = (ix2 r l : S8x1024.Idx) := by blk_ext [idx t]

/-! Row `r`, column `l` of the four results. -/
abbrev gr (c : Dev nD) (r : Fin 8) (l : Fin 1024) : EReal := ∑ k : Fin 8, P m c (ix3 k r l)
abbrev mr (c : Dev nD) (r : Fin 8) (l : Fin 1024) : EReal := mom (gr m c r l) (A m c (ix2 r l))
abbrev vr (c : Dev nD) (r : Fin 8) (l : Fin 1024) : EReal := vel (gr m c r l) (B m c (ix2 r l))
abbrev ur (c : Dev nD) (r : Fin 8) (l : Fin 1024) : EReal := upd (mr m c r l) (vr m c r l) (W m c (ix2 r l))

theorem gr_at (c : Dev nD) (t : Fin cfg0.N) (r : Fin 8) (l : Fin 1024) :
    k0_pay5 (F := Ideal) (iblk m c 0 t : FVec Ideal S8x8x1024 .f32) (iblk m c 1 t : FVec Ideal S8x1024 .f32) (iblk m c 2 t : FVec Ideal S8x1024 .f32)
      (iblk m c 3 t : FVec Ideal S8x1024 .f32) (ix2 r l) = gr m c r l := by
  rw [sum_at]
  simp only [blk0]
theorem mr_at (c : Dev nD) (t : Fin cfg0.N) (r : Fin 8) (l : Fin 1024) :
    k0_pay6 (F := Ideal) (iblk m c 0 t : FVec Ideal S8x8x1024 .f32) (iblk m c 1 t : FVec Ideal S8x1024 .f32) (iblk m c 2 t : FVec Ideal S8x1024 .f32)
      (iblk m c 3 t : FVec Ideal S8x1024 .f32) (ix2 r l) = mr m c r l := by
  rw [mom_at]
  simp only [blk0, blk2]

theorem final4 (c : Dev nD) : (dats m 0 c).arrAt 4 (cfgs 0).N = fun i => gr m c (i 0) (i 1) := by
  refine (dats m 0 c).arrAt_eq_of_covers 4 _ (by decide +kernel) fun t _ y => ?_
  blk_simp
  rw [after0_4]
  unfold out0_4
  frame_out
  obtain ⟨r, l, rfl⟩ : ∃ (r : Fin 8) (l : Fin 1024), y = ix2 r l := ⟨y 0, y 1, by funext a; fin_cases a <;> rfl⟩
  rw [emb4]
  exact gr_at m c t r l

theorem final5 (c : Dev nD) : (dats m 0 c).arrAt 5 (cfgs 0).N = fun i => ur m c (i 0) (i 1) := by
  refine (dats m 0 c).arrAt_eq_of_covers 5 _ (by decide +kernel) fun t _ y => ?_
  blk_simp
  rw [after0_5]
  unfold out0_5
  frame_out
  obtain ⟨r, l, rfl⟩ : ∃ (r : Fin 8) (l : Fin 1024), y = ix2 r l := ⟨y 0, y 1, by funext a; fin_cases a <;> rfl⟩
  rw [emb5]
  refine (upd_at _ _ _ r l _).trans ?_
  rw [gr_at, mr_at, blk1, blk3]
  rfl

theorem final6 (c : Dev nD) : (dats m 0 c).arrAt 6 (cfgs 0).N = fun i => mr m c (i 0) (i 1) := by
  refine (dats m 0 c).arrAt_eq_of_covers 6 _ (by decide +kernel) fun t _ y => ?_
  blk_simp
  rw [after0_6]
  unfold out0_6
  frame_out
  obtain ⟨r, l, rfl⟩ : ∃ (r : Fin 8) (l : Fin 1024), y = ix2 r l := ⟨y 0, y 1, by funext a; fin_cases a <;> rfl⟩
  rw [emb6]
  exact mr_at m c t r l

theorem final7 (c : Dev nD) : (dats m 0 c).arrAt 7 (cfgs 0).N = fun i => vr m c (i 0) (i 1) := by
  refine (dats m 0 c).arrAt_eq_of_covers 7 _ (by decide +kernel) fun t _ y => ?_
  blk_simp
  rw [after0_7]
  unfold out0_7
  frame_out
  obtain ⟨r, l, rfl⟩ : ∃ (r : Fin 8) (l : Fin 1024), y = ix2 r l := ⟨y 0, y 1, by funext a; fin_cases a <;> rfl⟩
  rw [emb7]
  refine (vel_at _ _ r l).trans ?_
  rw [gr_at, blk3]
  rfl

/-! ## The packed rows -/

/-- The rows of the packed parts. -/
theorem parts (c : Dev nD) (k : Fin 8) (l : Fin 1024) :
    P m c (ix3 k 0 l) = (m ((c : Thread nD τ).loc main_arg0) : FVec Ideal S8x1x1024 .f32) (ix3 k 0 l)
      ∧ P m c (ix3 k 1 l) = (m ((c : Thread nD τ).loc main_arg1) : FVec Ideal S8x1x1024 .f32) (ix3 k 0 l)
      ∧ P m c (ix3 k 2 l) = (m ((c : Thread nD τ).loc main_arg2) : FVec Ideal S8x1x1024 .f32) (ix3 k 0 l)
      ∧ P m c (ix3 k 3 l) = (m ((c : Thread nD τ).loc main_arg3) : FVec Ideal S8x1x1024 .f32) (ix3 k 0 l)
      ∧ P m c (ix3 k 4 l) = (m ((c : Thread nD τ).loc main_arg4) : FVec Ideal S8x1x1024 .f32) (ix3 k 0 l)
      ∧ P m c (ix3 k 5 l) = (m ((c : Thread nD τ).loc main_arg5) : FVec Ideal S8x1x1024 .f32) (ix3 k 0 l) := by
  unfold P V V0
  refine ⟨?_, ?_, ?_, ?_, ?_, ?_⟩
  all_goals
    simp only [hostOps0, List.flatten_cons, List.flatten_nil, List.append_nil]
    after_results
    pointwise
    after_results_steps
    try first | rfl | (pointwise; done)

/-- The rows of the packed weights. -/
theorem weights (c : Dev nD) (l : Fin 1024) :
    W m c (ix2 0 l) = (m ((c : Thread nD τ).loc main_arg6) : FVec Ideal S1x1024 .f32) (ix2 0 l)
      ∧ W m c (ix2 1 l) = (m ((c : Thread nD τ).loc main_arg7) : FVec Ideal S1x1024 .f32) (ix2 0 l)
      ∧ W m c (ix2 2 l) = (m ((c : Thread nD τ).loc main_arg8) : FVec Ideal S1x1024 .f32) (ix2 0 l)
      ∧ W m c (ix2 3 l) = (m ((c : Thread nD τ).loc main_arg9) : FVec Ideal S1x1024 .f32) (ix2 0 l)
      ∧ W m c (ix2 4 l) = (m ((c : Thread nD τ).loc main_arg10) : FVec Ideal S1024 .f32) (ix1 l) := by
  unfold W V V0
  refine ⟨?_, ?_, ?_, ?_, ?_⟩
  all_goals
    simp only [hostOps0, List.flatten_cons, List.flatten_nil, List.append_nil]
    after_results
    pointwise
    after_results_steps
    try first | rfl | (pointwise; done)

/-- The rows of the packed first moments. -/
theorem moms (c : Dev nD) (l : Fin 1024) :
    A m c (ix2 0 l) = (m ((c : Thread nD τ).loc main_arg11) : FVec Ideal S1x1024 .f32) (ix2 0 l)
      ∧ A m c (ix2 1 l) = (m ((c : Thread nD τ).loc main_arg12) : FVec Ideal S1x1024 .f32) (ix2 0 l)
      ∧ A m c (ix2 2 l) = (m ((c : Thread nD τ).loc main_arg13) : FVec Ideal S1x1024 .f32) (ix2 0 l)
      ∧ A m c (ix2 3 l) = (m ((c : Thread nD τ).loc main_arg14) : FVec Ideal S1x1024 .f32) (ix2 0 l)
      ∧ A m c (ix2 4 l) = (m ((c : Thread nD τ).loc main_arg15) : FVec Ideal S1024 .f32) (ix1 l) := by
  unfold A V V0
  refine ⟨?_, ?_, ?_, ?_, ?_⟩
  all_goals
    simp only [hostOps0, List.flatten_cons, List.flatten_nil, List.append_nil]
    after_results
    pointwise
    after_results_steps
    try first | rfl | (pointwise; done)

/-- The rows of the packed second moments. -/
theorem vels (c : Dev nD) (l : Fin 1024) :
    B m c (ix2 0 l) = (m ((c : Thread nD τ).loc main_arg16) : FVec Ideal S1x1024 .f32) (ix2 0 l)
      ∧ B m c (ix2 1 l) = (m ((c : Thread nD τ).loc main_arg17) : FVec Ideal S1x1024 .f32) (ix2 0 l)
      ∧ B m c (ix2 2 l) = (m ((c : Thread nD τ).loc main_arg18) : FVec Ideal S1x1024 .f32) (ix2 0 l)
      ∧ B m c (ix2 3 l) = (m ((c : Thread nD τ).loc main_arg19) : FVec Ideal S1x1024 .f32) (ix2 0 l)
      ∧ B m c (ix2 4 l) = (m ((c : Thread nD τ).loc main_arg20) : FVec Ideal S1024 .f32) (ix1 l) := by
  unfold B V V0
  refine ⟨?_, ?_, ?_, ?_, ?_⟩
  all_goals
    simp only [hostOps0, List.flatten_cons, List.flatten_nil, List.append_nil]
    after_results
    pointwise
    after_results_steps
    try first | rfl | (pointwise; done)

/-- The gradients of the packed rows, the loss's columns last. -/
theorem grads (c : Dev nD) (l : Fin 1024) :
    gr m c 0 l = (∑ k : Fin 8, (m ((c : Thread nD τ).loc main_arg0) : FVec Ideal S8x1x1024 .f32) (ix3 k 0 l) : EReal)
      ∧ gr m c 1 l = (∑ k : Fin 8, (m ((c : Thread nD τ).loc main_arg1) : FVec Ideal S8x1x1024 .f32) (ix3 k 0 l) : EReal)
      ∧ gr m c 2 l = (∑ k : Fin 8, (m ((c : Thread nD τ).loc main_arg2) : FVec Ideal S8x1x1024 .f32) (ix3 k 0 l) : EReal)
      ∧ gr m c 3 l = (∑ k : Fin 8, (m ((c : Thread nD τ).loc main_arg3) : FVec Ideal S8x1x1024 .f32) (ix3 k 0 l) : EReal)
      ∧ gr m c 4 l = (∑ k : Fin 8, (m ((c : Thread nD τ).loc main_arg4) : FVec Ideal S8x1x1024 .f32) (ix3 k 0 l) : EReal)
      ∧ gr m c 5 l = (∑ k : Fin 8, (m ((c : Thread nD τ).loc main_arg5) : FVec Ideal S8x1x1024 .f32) (ix3 k 0 l) : EReal) := by
  have h := fun k => parts m c k l
  refine ⟨?_, ?_, ?_, ?_, ?_, ?_⟩
  all_goals
    refine Finset.sum_congr rfl fun k _ => ?_
    obtain ⟨h0, h1, h2, h3, h4, h5⟩ := h k
    assumption

/-! ## The rows the host takes out of the four arrays -/

/-- The four arrays as the operations after the call read them. -/
theorem arrays (c : Dev nD) :
    Pipeline.withArrays (cfgs 0).spec c (V0 m c) (fun w => (dats m 0 c).arrAt w (cfgs 0).N) (Proc.devRef .tc main_v13_0) = (fun i => gr m c (i 0) (i 1))
      ∧ Pipeline.withArrays (cfgs 0).spec c (V0 m c) (fun w => (dats m 0 c).arrAt w (cfgs 0).N) (Proc.devRef .tc main_v13_1) = (fun i => ur m c (i 0) (i 1))
      ∧ Pipeline.withArrays (cfgs 0).spec c (V0 m c) (fun w => (dats m 0 c).arrAt w (cfgs 0).N) (Proc.devRef .tc main_v13_2) = (fun i => mr m c (i 0) (i 1))
      ∧ Pipeline.withArrays (cfgs 0).spec c (V0 m c) (fun w => (dats m 0 c).arrAt w (cfgs 0).N) (Proc.devRef .tc main_v13_3) = fun i => vr m c (i 0) (i 1) :=
  ⟨(Pipeline.withArrays_arr (cfgs 0).spec (by decide) c _ _ 4).trans (final4 m c), (Pipeline.withArrays_arr (cfgs 0).spec (by decide) c _ _ 5).trans (final5 m c),
    (Pipeline.withArrays_arr (cfgs 0).spec (by decide) c _ _ 6).trans (final6 m c), (Pipeline.withArrays_arr (cfgs 0).spec (by decide) c _ _ 7).trans (final7 m c)⟩

theorem tail_loss (c : Dev nD) : Pipeline.afterTail₀ cfgs (dats m) 0 (V0 m) [hostOps1] c main_v17 = fun _ => (Ideal.ofBits .f32 0x3A000000#32 * ∑ l : Fin 1024, gr m c 5 l : EReal) := by
  unfold Pipeline.afterTail₀
  simp only [hostOps1, List.flatten_cons, List.flatten_nil, List.append_nil]
  after_results
  rw [(arrays m c).1]
  funext i
  pointwise

theorem tail_rows (c : Dev nD) :
    Pipeline.afterTail₀ cfgs (dats m) 0 (V0 m) [hostOps1] c main_v18 = (fun i => gr m c 0 (i 1))
      ∧ Pipeline.afterTail₀ cfgs (dats m) 0 (V0 m) [hostOps1] c main_v19 = (fun i => gr m c 1 (i 1))
      ∧ Pipeline.afterTail₀ cfgs (dats m) 0 (V0 m) [hostOps1] c main_v20 = (fun i => gr m c 2 (i 1))
      ∧ Pipeline.afterTail₀ cfgs (dats m) 0 (V0 m) [hostOps1] c main_v21 = (fun i => gr m c 3 (i 1))
      ∧ Pipeline.afterTail₀ cfgs (dats m) 0 (V0 m) [hostOps1] c main_v24 = (fun i => ur m c 0 (i 1))
      ∧ Pipeline.afterTail₀ cfgs (dats m) 0 (V0 m) [hostOps1] c main_v25 = (fun i => ur m c 1 (i 1))
      ∧ Pipeline.afterTail₀ cfgs (dats m) 0 (V0 m) [hostOps1] c main_v26 = (fun i => ur m c 2 (i 1))
      ∧ Pipeline.afterTail₀ cfgs (dats m) 0 (V0 m) [hostOps1] c main_v27 = (fun i => ur m c 3 (i 1))
      ∧ Pipeline.afterTail₀ cfgs (dats m) 0 (V0 m) [hostOps1] c main_v30 = (fun i => mr m c 0 (i 1))
      ∧ Pipeline.afterTail₀ cfgs (dats m) 0 (V0 m) [hostOps1] c main_v31 = (fun i => mr m c 1 (i 1))
      ∧ Pipeline.afterTail₀ cfgs (dats m) 0 (V0 m) [hostOps1] c main_v32 = (fun i => mr m c 2 (i 1))
      ∧ Pipeline.afterTail₀ cfgs (dats m) 0 (V0 m) [hostOps1] c main_v33 = (fun i => mr m c 3 (i 1))
      ∧ Pipeline.afterTail₀ cfgs (dats m) 0 (V0 m) [hostOps1] c main_v36 = (fun i => vr m c 0 (i 1))
      ∧ Pipeline.afterTail₀ cfgs (dats m) 0 (V0 m) [hostOps1] c main_v37 = (fun i => vr m c 1 (i 1))
      ∧ Pipeline.afterTail₀ cfgs (dats m) 0 (V0 m) [hostOps1] c main_v38 = (fun i => vr m c 2 (i 1))
      ∧ Pipeline.afterTail₀ cfgs (dats m) 0 (V0 m) [hostOps1] c main_v39 = (fun i => vr m c 3 (i 1)) := by
  obtain ⟨h0, h1, h2, h3⟩ := arrays m c
  unfold Pipeline.afterTail₀
  simp only [hostOps1, List.flatten_cons, List.flatten_nil, List.append_nil]
  refine ⟨?_, ?_, ?_, ?_, ?_, ?_, ?_, ?_, ?_, ?_, ?_, ?_, ?_, ?_, ?_, ?_⟩
  all_goals
    after_results
    first | rw [h0] | rw [h1] | rw [h2] | rw [h3]
    funext i
    obtain ⟨l, rfl⟩ : ∃ l : Fin 1024, i = ix2 0 l := ⟨i 1, by funext a; fin_cases a; exact Subsingleton.elim (α := Fin 1) _ _; rfl⟩
    pointwise
    try rfl

theorem tail_last (c : Dev nD) :
    Pipeline.afterTail₀ cfgs (dats m) 0 (V0 m) [hostOps1] c main_v23 = (fun i => gr m c 4 (i 0))
      ∧ Pipeline.afterTail₀ cfgs (dats m) 0 (V0 m) [hostOps1] c main_v29 = (fun i => ur m c 4 (i 0))
      ∧ Pipeline.afterTail₀ cfgs (dats m) 0 (V0 m) [hostOps1] c main_v35 = (fun i => mr m c 4 (i 0))
      ∧ Pipeline.afterTail₀ cfgs (dats m) 0 (V0 m) [hostOps1] c main_v41 = (fun i => vr m c 4 (i 0)) := by
  obtain ⟨h0, h1, h2, h3⟩ := arrays m c
  unfold Pipeline.afterTail₀
  simp only [hostOps1, List.flatten_cons, List.flatten_nil, List.append_nil]
  refine ⟨?_, ?_, ?_, ?_⟩
  all_goals
    after_results
    first | rw [h0] | rw [h1] | rw [h2] | rw [h3]
    funext i
    obtain ⟨l, rfl⟩ : ∃ l : Fin 1024, i = ix1 l := ⟨i 0, by funext a; fin_cases a; rfl⟩
    pointwise
    try rfl

end Cert.SmallIdeal.Val

end
-- ==== Proof.SmallClaim.lean ====
/- The optimiser's step of the small weights, idealized: the loss, and the gradient, the update and the two moments of
   each of the five small weights are the reference's, for any arguments. -/
module

public import proofs.«01_k».proof.Defs
public import proofs.«01_k».proof.Proof.SmallVal
public import proofs.«01_k».proof.Proof.Gen.SmallRefIdeal.Run
public import proofs.«01_k».proof.Proof.Gen.Small.Frame

@[expose] public section
set_option maxRecDepth 16384
noncomputable section
namespace Cert.SmallIdeal.Val
open Idealize.ShloMosaic Idealize.ShloMosaic.TcCoe Idealize.SL.Sem
open Cert.SmallIdeal Cert.SmallIdeal.Gen Cert.Step

set_option maxHeartbeats 4000000 in
/-- The two programs end with equal results on any arguments. -/
theorem algebraic : Cert.algebraic_SmallIdeal_SmallRefIdeal (hSmallIdeal := Cert.SmallIdeal.Gen.facts)
    (hSmallRefIdeal := Cert.SmallRefIdeal.Gen.facts) := by
  intro m g m' g' _ hagree
  have hsuf := fun (b : Ref sig .tc) (hs : b.isScoped = false) (ha : ∀ w, (spec0 w).arr.view.ref ≠ b) (r : PUnit × MemSt nD τ sig (Elt Ideal))
     (h : Pipeline.FramePost cfgs (dats m) 0 (Pipeline.afterTail₀ cfgs (dats m) 0 (V0 m) [hostOps1]) r) (c : Dev nD) => (h c).2 b (Pipeline.mem_restRefs_of b hs ha)
  refine ⟨fun c _ => (Ideal.ofBits .f32 0x3A000000#32 * ∑ l : Fin 1024, gr m c 5 l : EReal),
    fun c i => gr m c 0 (i 1),
    fun c i => gr m c 1 (i 1),
    fun c i => gr m c 2 (i 1),
    fun c i => gr m c 3 (i 1),
    fun c i => gr m c 4 (i 0),
    fun c i => ur m c 0 (i 1),
    fun c i => ur m c 1 (i 1),
    fun c i => ur m c 2 (i 1),
    fun c i => ur m c 3 (i 1),
    fun c i => ur m c 4 (i 0),
    fun c i => mr m c 0 (i 1),
    fun c i => mr m c 1 (i 1),
    fun c i => mr m c 2 (i 1),
    fun c i => mr m c 3 (i 1),
    fun c i => mr m c 4 (i 0),
    fun c i => vr m c 0 (i 1),
    fun c i => vr m c 1 (i 1),
    fun c i => vr m c 2 (i 1),
    fun c i => vr m c 3 (i 1),
    fun c i => vr m c 4 (i 0),
    θ_run_and (Cert.SmallIdeal.Gen.unchanged m g) (Cert.SmallIdeal.Gen.run_main m g) |> (θ_run defs _ _).mono (fun r h c =>
      ⟨(hsuf main_v17 (by decide) (by decide) r h.2 c).trans (tail_loss m c),
       (hsuf main_v18 (by decide) (by decide) r h.2 c).trans ((tail_rows m c).1),
       (hsuf main_v19 (by decide) (by decide) r h.2 c).trans ((tail_rows m c).2.1),
       (hsuf main_v20 (by decide) (by decide) r h.2 c).trans ((tail_rows m c).2.2.1),
       (hsuf main_v21 (by decide) (by decide) r h.2 c).trans ((tail_rows m c).2.2.2.1),
       (hsuf main_v23 (by decide) (by decide) r h.2 c).trans ((tail_last m c).1),
       (hsuf main_v24 (by decide) (by decide) r h.2 c).trans ((tail_rows m c).2.2.2.2.1),
       (hsuf main_v25 (by decide) (by decide) r h.2 c).trans ((tail_rows m c).2.2.2.2.2.1),
       (hsuf main_v26 (by decide) (by decide) r h.2 c).trans ((tail_rows m c).2.2.2.2.2.2.1),
       (hsuf main_v27 (by decide) (by decide) r h.2 c).trans ((tail_rows m c).2.2.2.2.2.2.2.1),
       (hsuf main_v29 (by decide) (by decide) r h.2 c).trans ((tail_last m c).2.1),
       (hsuf main_v30 (by decide) (by decide) r h.2 c).trans ((tail_rows m c).2.2.2.2.2.2.2.2.1),
       (hsuf main_v31 (by decide) (by decide) r h.2 c).trans ((tail_rows m c).2.2.2.2.2.2.2.2.2.1),
       (hsuf main_v32 (by decide) (by decide) r h.2 c).trans ((tail_rows m c).2.2.2.2.2.2.2.2.2.2.1),
       (hsuf main_v33 (by decide) (by decide) r h.2 c).trans ((tail_rows m c).2.2.2.2.2.2.2.2.2.2.2.1),
       (hsuf main_v35 (by decide) (by decide) r h.2 c).trans ((tail_last m c).2.2.1),
       (hsuf main_v36 (by decide) (by decide) r h.2 c).trans ((tail_rows m c).2.2.2.2.2.2.2.2.2.2.2.2.1),
       (hsuf main_v37 (by decide) (by decide) r h.2 c).trans ((tail_rows m c).2.2.2.2.2.2.2.2.2.2.2.2.2.1),
       (hsuf main_v38 (by decide) (by decide) r h.2 c).trans ((tail_rows m c).2.2.2.2.2.2.2.2.2.2.2.2.2.2.1),
       (hsuf main_v39 (by decide) (by decide) r h.2 c).trans ((tail_rows m c).2.2.2.2.2.2.2.2.2.2.2.2.2.2.2),
       (hsuf main_v41 (by decide) (by decide) r h.2 c).trans ((tail_last m c).2.2.2), h.1 c⟩),
    (θ_run Cert.SmallRefIdeal.defs _ _).mono (fun r h c => ?_) (Cert.SmallRefIdeal.Value.run m' g')⟩
  obtain ⟨h0, h1, h2, h3, h4, h5, h6, h7, h8, h9, h10, h11, h12, h13, h14, h15, h16, h17, h18, h19, h20, hk⟩ := h c
  obtain ⟨g0, g1, g2, g3, g4, g5, g6, g7, g8, g9, g10, g11, g12, g13, g14, g15, g16, g17, g18, g19, g20⟩ := hagree c
  refine ⟨h0.trans ?_, h1.trans ?_, h2.trans ?_, h3.trans ?_, h4.trans ?_, h5.trans ?_, h6.trans ?_, h7.trans ?_, h8.trans ?_, h9.trans ?_, h10.trans ?_, h11.trans ?_, h12.trans ?_, h13.trans ?_, h14.trans ?_, h15.trans ?_, h16.trans ?_, h17.trans ?_, h18.trans ?_, h19.trans ?_, h20.trans ?_, hk⟩
  clear hk h h0 h1 h2 h3 h4 h5 h6 h7 h8 h9 h10 h11 h12 h13 h14 h15 h16 h17 h18 h19 h20
  all_goals
    funext i
    first
      | obtain ⟨l, rfl⟩ : ∃ l : Fin 1024, i = ix2 0 l := ⟨i 1, by funext a; fin_cases a; exact Subsingleton.elim (α := Fin 1) _ _; rfl⟩
      | obtain ⟨l, rfl⟩ : ∃ l : Fin 1024, i = ix1 l := ⟨i 0, by funext a; fin_cases a; rfl⟩
      | skip
    pointwise [Cert.SmallRefIdeal.Value.res_main_v4, Cert.SmallRefIdeal.Value.res_main_v5, Cert.SmallRefIdeal.Value.res_main_v6, Cert.SmallRefIdeal.Value.res_main_v7,
      Cert.SmallRefIdeal.Value.res_main_v9]
    try simp only [g0, g1, g2, g3, g4, g5, g6, g7, g8, g9, g10, g11, g12, g13, g14, g15, g16, g17, g18, g19, g20]
    simp only [mr, vr, ur, fun l => (grads m c l).1, fun l => (grads m c l).2.1, fun l => (grads m c l).2.2.1, fun l => (grads m c l).2.2.2.1, fun l => (grads m c l).2.2.2.2.1,
      fun l => (grads m c l).2.2.2.2.2, fun l => (weights m c l).1, fun l => (weights m c l).2.1, fun l => (weights m c l).2.2.1, fun l => (weights m c l).2.2.2.1,
      fun l => (weights m c l).2.2.2.2, fun l => (moms m c l).1, fun l => (moms m c l).2.1, fun l => (moms m c l).2.2.1, fun l => (moms m c l).2.2.2.1, fun l => (moms m c l).2.2.2.2,
      fun l => (vels m c l).1, fun l => (vels m c l).2.1, fun l => (vels m c l).2.2.1, fun l => (vels m c l).2.2.2.1, fun l => (vels m c l).2.2.2.2]
    try rfl

end Cert.SmallIdeal.Val

end
-- ==== Proof.CwClaim.lean ====
/- The optimiser's step of one device's columns of conv_w, idealized: one block is the whole array. The sum of the eight
   parts of the gradient and the three arrays made of it are the reference's, for any arguments. -/
module

public import proofs.«01_k».proof.Defs
public import proofs.«01_k».proof.Proof.SmallVal
public import proofs.«01_k».proof.Proof.Gen.CwIdeal.Frame
public import proofs.«01_k».proof.Proof.Gen.CwRefIdeal.Run
public import proofs.«01_k».proof.Proof.Gen.Cw.Frame
public import Idealize.ShloMosaic.Lib.Pipeline.ValueKit

@[expose] public section
set_option maxRecDepth 16384
noncomputable section
namespace Cert.CwIdeal.Val
open Idealize.ShloMosaic Idealize.ShloMosaic.TcCoe Idealize.SL.Sem
open Cert.CwIdeal Cert.CwIdeal.Gen Cert.Step
open Cert.SmallIdeal.Val (mom vel upd)

section
variable (p : FVec Ideal S8x31x128 .f32) (w a b g n : FVec Ideal S31x128 .f32) (r : Fin 31) (l : Fin 128)

/-- The parts added one after another are their sum. -/
theorem sum_at : k0_pay5 (F := Ideal) p w a b (ix2 r l) = ∑ k : Fin 8, p (ix3 k r l) := by
  rw [Fin.sum_univ_eight]
  pointwise [k0_pay5, k0_pay3]
theorem mom_at : k0_pay6 (F := Ideal) p w a b (ix2 r l) = mom (∑ k : Fin 8, p (ix3 k r l)) (a (ix2 r l)) := by
  rw [Fin.sum_univ_eight]
  pointwise [k0_pay6, k0_pay4, k0_pay3]
theorem vel_at : k0_pay1 (F := Ideal) g b (ix2 r l) = vel (g (ix2 r l)) (b (ix2 r l)) := by
  pointwise [k0_pay1]
theorem upd_at : k0_pay2 (F := Ideal) g n b w (ix2 r l) = upd (n (ix2 r l)) (vel (g (ix2 r l)) (b (ix2 r l))) (w (ix2 r l)) := by
  pointwise [k0_pay2, k0_pay1]
end

/-- Every window is its whole array. -/
theorem idx : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

variable (m : (ℓ : Loc nD τ sig) → Buf (Elt Ideal) ℓ)

abbrev X (c : Dev nD) : FVec Ideal S8x31x128 .f32 := m ((c : Thread nD τ).loc main_arg0)
abbrev W (c : Dev nD) : FVec Ideal S31x128 .f32 := m ((c : Thread nD τ).loc main_arg1)
abbrev A (c : Dev nD) : FVec Ideal S31x128 .f32 := m ((c : Thread nD τ).loc main_arg2)
abbrev B (c : Dev nD) : FVec Ideal S31x128 .f32 := m ((c : Thread nD τ).loc main_arg3)

theorem blk0 (c : Dev nD) (t : Fin cfg0.N) (k : Fin 8) (r : Fin 31) (l : Fin 128) :
    (iblk m c 0 t : FVec Ideal S8x31x128 .f32) (ix3 k r l) = X m c (ix3 k r l) := by
  blk_point [iblk, V, idx t]
theorem blk1 (c : Dev nD) (t : Fin cfg0.N) (r : Fin 31) (l : Fin 128) :
    (iblk m c 1 t : FVec Ideal S31x128 .f32) (ix2 r l) = W m c (ix2 r l) := by
  blk_point [iblk, V, idx t]
theorem blk2 (c : Dev nD) (t : Fin cfg0.N) (r : Fin 31) (l : Fin 128) :
    (iblk m c 2 t : FVec Ideal S31x128 .f32) (ix2 r l) = A m c (ix2 r l) := by
  blk_point [iblk, V, idx t]
theorem blk3 (c : Dev nD) (t : Fin cfg0.N) (r : Fin 31) (l : Fin 128) :
    (iblk m c 3 t : FVec Ideal S31x128 .f32) (ix2 r l) = B m c (ix2 r l) := by
  blk_point [iblk, V, idx t]

theorem emb4 (t : Fin cfg0.N) (r : Fin 31) (l : Fin 128) :
    ((View.whole main_v0_0).slice (win0_4.rect t)).emb (ix2 r l) = (ix2 r l : S31x128.Idx) := by blk_ext [idx t]
theorem emb5 (t : Fin cfg0.N) (r : Fin 31) (l : Fin 128) :
    ((View.whole main_v0_1).slice (win0_5.rect t)).emb (ix2 r l) = (ix2 r l : S31x128.Idx) := by blk_ext [idx t]
theorem emb6 (t : Fin cfg0.N) (r : Fin 31) (l : Fin 128) :
    ((View.whole main_v0_2).slice (win0_6.rect t)).emb (ix2 r l) = (ix2 r l : S31x128.Idx) := by blk_ext [idx t]
theorem emb7 (t : Fin cfg0.N) (r : Fin 31) (l : Fin 128) :
    ((View.whole main_v0_3).slice (win0_7.rect t)).emb (ix2 r l) = (ix2 r l : S31x128.Idx) := by blk_ext [idx t]

/-! The four results. -/
abbrev gr (c : Dev nD) : FVec Ideal S31x128 .f32 := fun i => (∑ k : Fin 8, X m c (ix3 k (i 0) (i 1)) : EReal)
abbrev mr (c : Dev nD) : FVec Ideal S31x128 .f32 := fun i => mom (gr m c i) (A m c i)
abbrev vr (c : Dev nD) : FVec Ideal S31x128 .f32 := fun i => vel (gr m c i) (B m c i)
abbrev ur (c : Dev nD) : FVec Ideal S31x128 .f32 := fun i => upd (mr m c i) (vr m c i) (W m c i)

theorem gr_at (c : Dev nD) (t : Fin cfg0.N) (r : Fin 31) (l : Fin 128) :
    k0_pay5 (F := Ideal) (iblk m c 0 t : FVec Ideal S8x31x128 .f32) (iblk m c 1 t : FVec Ideal S31x128 .f32) (iblk m c 2 t : FVec Ideal S31x128 .f32)
      (iblk m c 3 t : FVec Ideal S31x128 .f32) (ix2 r l) = gr m c (ix2 r l) := by
  rw [sum_at]
  simp only [blk0]
  rfl
theorem mr_at (c : Dev nD) (t : Fin cfg0.N) (r : Fin 31) (l : Fin 128) :
    k0_pay6 (F := Ideal) (iblk m c 0 t : FVec Ideal S8x31x128 .f32) (iblk m c 1 t : FVec Ideal S31x128 .f32) (iblk m c 2 t : FVec Ideal S31x128 .f32)
      (iblk m c 3 t : FVec Ideal S31x128 .f32) (ix2 r l) = mr m c (ix2 r l) := by
  rw [mom_at]
  simp only [blk0, blk2]
  rfl

theorem final4 (c : Dev nD) : (dats m 0 c).arrAt 4 (cfgs 0).N = gr m c := by
  refine (dats m 0 c).arrAt_eq_of_covers 4 _ (by decide +kernel) fun t _ y => ?_
  blk_simp
  rw [after0_4]
  unfold out0_4
  frame_out
  obtain ⟨r, l, rfl⟩ : ∃ (r : Fin 31) (l : Fin 128), y = ix2 r l := ⟨y 0, y 1, by funext a; fin_cases a <;> rfl⟩
  rw [emb4]
  exact gr_at m c t r l

theorem final5 (c : Dev nD) : (dats m 0 c).arrAt 5 (cfgs 0).N = ur m c := by
  refine (dats m 0 c).arrAt_eq_of_covers 5 _ (by decide +kernel) fun t _ y => ?_
  blk_simp
  rw [after0_5]
  unfold out0_5
  frame_out
  obtain ⟨r, l, rfl⟩ : ∃ (r : Fin 31) (l : Fin 128), y = ix2 r l := ⟨y 0, y 1, by funext a; fin_cases a <;> rfl⟩
  rw [emb5]
  refine (upd_at _ _ _ _ r l).trans ?_
  rw [gr_at, mr_at, blk1, blk3]

theorem final6 (c : Dev nD) : (dats m 0 c).arrAt 6 (cfgs 0).N = mr m c := by
  refine (dats m 0 c).arrAt_eq_of_covers 6 _ (by decide +kernel) fun t _ y => ?_
  blk_simp
  rw [after0_6]
  unfold out0_6
  frame_out
  obtain ⟨r, l, rfl⟩ : ∃ (r : Fin 31) (l : Fin 128), y = ix2 r l := ⟨y 0, y 1, by funext a; fin_cases a <;> rfl⟩
  rw [emb6]
  exact mr_at m c t r l

theorem final7 (c : Dev nD) : (dats m 0 c).arrAt 7 (cfgs 0).N = vr m c := by
  refine (dats m 0 c).arrAt_eq_of_covers 7 _ (by decide +kernel) fun t _ y => ?_
  blk_simp
  rw [after0_7]
  unfold out0_7
  frame_out
  obtain ⟨r, l, rfl⟩ : ∃ (r : Fin 31) (l : Fin 128), y = ix2 r l := ⟨y 0, y 1, by funext a; fin_cases a <;> rfl⟩
  rw [emb7]
  refine (vel_at _ _ r l).trans ?_
  rw [gr_at, blk3]

/-- The two programs end with equal results on any arguments. -/
theorem algebraic : Cert.algebraic_CwIdeal_CwRefIdeal (hCwIdeal := Cert.CwIdeal.Gen.facts)
    (hCwRefIdeal := Cert.CwRefIdeal.Gen.facts) := by
  intro m g m' g' _ hagree
  refine ⟨gr m, ur m, mr m, vr m,
    θ_run_and (Cert.CwIdeal.Gen.unchanged m g) (Cert.CwIdeal.Gen.run_main m g) |> (θ_run defs _ _).mono (fun r h c =>
      ⟨((h.2 c).1 4).trans (final4 m c), ((h.2 c).1 5).trans (final5 m c), ((h.2 c).1 6).trans (final6 m c), ((h.2 c).1 7).trans (final7 m c), h.1 c⟩),
    (θ_run Cert.CwRefIdeal.defs _ _).mono (fun r h c => ?_) (Cert.CwRefIdeal.Value.run m' g')⟩
  obtain ⟨h0, h1, h2, h3, hk⟩ := h c
  obtain ⟨g0, g1, g2, g3⟩ := hagree c
  rw [g0] at h0
  rw [g0, g1, g2, g3] at h1
  rw [g0, g2] at h2
  rw [g0, g3] at h3
  refine ⟨h0.trans ?_, h1.trans ?_, h2.trans ?_, h3.trans ?_, hk⟩
  all_goals
    funext i
    obtain ⟨r, l, rfl⟩ : ∃ (r : Fin 31) (l : Fin 128), i = ix2 r l := ⟨i 0, i 1, by funext a; fin_cases a <;> rfl⟩
    pointwise
    try rfl

end Cert.CwIdeal.Val

end
-- ==== Proof.GoutVal.lean ====
/- The output projection's weight gradient, idealized: two sums, one for each branch's rows of the weight, carried over
   eight blocks of 512 tokens in two groups of 512 rows each. -/
module

public import proofs.«01_k».proof.Proof.Gen.GoutIdeal.Frame
public import proofs.«01_k».proof.Proof.GwVal
public import proofs.«01_k».proof.Proof.Reals
public import Idealize.ShloMosaic.Lib.Pipeline.ValueKit

@[expose] public section
set_option maxRecDepth 16384
noncomputable section
namespace Cert.GoutIdeal.Val
open Idealize.ShloMosaic Idealize.ShloMosaic.TcCoe Idealize.SL.Sem
open Cert.GoutIdeal Cert.GoutIdeal.Gen Cert.Step
open Cert.GwIdeal.Val (not_mem_rows rows_skip)

/-- Two stores, of the upper and of the lower half of the rows, read back. -/
theorem halves {N n k : ℕ} (hN : N = n + n) {e : EltTy} (P Q : (⟨2, ![n, k]⟩ : Shape).Idx → Elt Ideal e) (L : List (View.Piece (Elt Ideal) ⟨2, ![N, k]⟩ e)) (i j)
    (r : Fin N) (l : Fin k) :
    View.canon (⟨Rect.unit (s := ⟨2, ![N, k]⟩) ![n, 0] ![n, k] i, P⟩ :: ⟨Rect.unit (s := ⟨2, ![N, k]⟩) ![0, 0] ![n, k] j, Q⟩ :: L) (ix2 r l)
      = if h : r.val < n then Q (ix2 (⟨r.val, h⟩ : Fin n) l) else P (ix2 (⟨r.val - n, by have h := r.isLt; omega⟩ : Fin n) l) := by
  by_cases h : r.val < n
  · rw [dif_pos h]
    have hn : (ix2 r l : (⟨2, ![N, k]⟩ : Shape).Idx) ∉ (Rect.unit (s := ⟨2, ![N, k]⟩) ![n, 0] ![n, k] i).set := by
      refine not_mem_rows i ?_
      show r.val < n ∨ n + n ≤ r.val
      exact Or.inl h
    refine (View.canon_cons_of_not_mem (Val := Elt Ideal) (e := e) ⟨Rect.unit (s := ⟨2, ![N, k]⟩) ![n, 0] ![n, k] i, P⟩ _ hn).trans ?_
    have e0 : (ix2 r l : (⟨2, ![N, k]⟩ : Shape).Idx) = (Rect.unit (s := ⟨2, ![N, k]⟩) ![0, 0] ![n, k] j).emb (ix2 (⟨r.val, h⟩ : Fin n) l) := by
      funext a
      apply Fin.ext
      refine Eq.trans ?_ (Rect.idx_unit_val (s := ⟨2, ![N, k]⟩) ![0, 0] ![n, k] j _ a).symm
      match a with
      | ⟨0, _⟩ => exact (Nat.zero_add _).symm
      | ⟨1, _⟩ => exact (Nat.zero_add _).symm
    have e2 := View.canon_cons_emb (Val := Elt Ideal) (e := e) (Rect.unit (s := ⟨2, ![N, k]⟩) ![0, 0] ![n, k] j) Q L (ix2 (⟨r.val, h⟩ : Fin n) l)
    rw [← e0] at e2
    exact e2
  · rw [dif_neg h]
    have e0 : (ix2 r l : (⟨2, ![N, k]⟩ : Shape).Idx) = (Rect.unit (s := ⟨2, ![N, k]⟩) ![n, 0] ![n, k] i).emb (ix2 (⟨r.val - n, by have h := r.isLt; omega⟩ : Fin n) l) := by
      funext a
      apply Fin.ext
      refine Eq.trans ?_ (Rect.idx_unit_val (s := ⟨2, ![N, k]⟩) ![n, 0] ![n, k] i _ a).symm
      match a with
      | ⟨0, _⟩ => show r.val = n + (r.val - n); omega
      | ⟨1, _⟩ => exact (Nat.zero_add _).symm
    have e2 := View.canon_cons_emb (Val := Elt Ideal) (e := e) (Rect.unit (s := ⟨2, ![N, k]⟩) ![n, 0] ![n, k] i) P
      (⟨Rect.unit (s := ⟨2, ![N, k]⟩) ![0, 0] ![n, k] j, Q⟩ :: L) (ix2 (⟨r.val - n, by have h := r.isLt; omega⟩ : Fin n) l)
    rw [← e0] at e2
    exact e2

abbrev R (o : ℕ) (h : ∀ a : Fin 2, ![o, 0] a + S512x1024.size a ≤ S1024x1024.size a) : Rect S1024x1024 := Rect.unit (s := S1024x1024) ![o, 0] S512x1024.size h

/-- The two groups stored make up one sum. -/
theorem read (G : FVec Ideal S1024x1024 .f32) {p0 p1 : FVec Ideal S512x1024 .f32} (L : List (View.Piece (Elt Ideal) S1024x1024 .f32)) (h0 h1)
    (e0 : ∀ (r : Fin 512) (l : Fin 1024), p0 (ix2 r l) = G (ix2 (⟨0 + r.val, by omega⟩ : Fin 1024) l)) (e1 : ∀ (r : Fin 512) (l : Fin 1024), p1 (ix2 r l) = G (ix2 (⟨512 + r.val, by omega⟩ : Fin 1024) l)) :
    View.canon (⟨R 512 h1, p1⟩ :: ⟨R 0 h0, p0⟩ :: L) = G := by
  funext y
  obtain ⟨r, l, rfl⟩ : ∃ (r l : Fin 1024), y = ix2 r l := ⟨y 0, y 1, by funext a; fin_cases a <;> rfl⟩
  refine (halves (n := 512) rfl (e := .f32) p1 p0 L h1 h0 r l).trans ?_
  by_cases h : r.val < 512
  · rw [dif_pos h, e0]
    congr 2; apply Fin.ext; simp only; omega
  · rw [dif_neg h, e1]
    congr 2; apply Fin.ext; simp only; omega

/-! ## The payloads -/

section
variable (h : FVec Ideal S512x1024 .bf16) (a : FVec Ideal S512x1024 .f32) (d : FVec Ideal S512x512 .bf16) (r : Fin 512) (l : Fin 1024)

/-- One group's new sum. -/
abbrev addT : EReal := a (ix2 r l) + ∑ k : Fin 512, d (ix2 k r) * h (ix2 k l)

theorem pay8_at : k0_pay8 (F := Ideal) h a d (ix2 r l) = addT h a d r l := by pointwise [k0_pay8, k0_pay7]
theorem pay9_at : k0_pay9 (F := Ideal) h a d (ix2 r l) = addT h a d r l := by pointwise [k0_pay9, k0_pay7]
theorem pay11_at : k0_pay1 (F := Ideal) (k0_pay11 h a d) (ix2 r l) = addT h a d r l := by pointwise [k0_pay1, k0_pay11, k0_pay10]
theorem pay2_at : k0_pay2 (F := Ideal) (k0_pay10 h) a d (ix2 r l) = addT h a d r l := by pointwise [k0_pay2, k0_pay10]
theorem pay5_at (r : Fin 1024) : k0_pay5 (F := Ideal) (ix2 r l) = 0 := by pointwise [k0_pay5]
theorem pay6_at (r : Fin 1024) : k0_pay6 (F := Ideal) (ix2 r l) = 0 := by pointwise [k0_pay6]
theorem pay3_at (v : FVec Ideal S1024x1024 .f32) (r : Fin 1024) : k0_pay3 (F := Ideal) v (ix2 r l) = v (ix2 r l) := by pointwise [k0_pay3]
theorem pay4_at (v : FVec Ideal S1024x1024 .f32) (r : Fin 1024) : k0_pay4 (F := Ideal) v (ix2 r l) = v (ix2 r l) := by pointwise [k0_pay4]
end

/-- The new sum of all rows. -/
abbrev nxt (x0 x1 : FVec Ideal S512x1024 .bf16) (a : FVec Ideal S1024x1024 .f32) : FVec Ideal S1024x1024 .f32 :=
  fun i => a i + ∑ k : Fin 512, x0 (ix2 k (i 0)) * x1 (ix2 k (i 1))

/-- A group of rows of the old sum, and the columns of the first factor it takes. -/
theorem addT_at (x0 x1 : FVec Ideal S512x1024 .bf16) (a : FVec Ideal S1024x1024 .f32) (o : ℕ) (ho : o ≤ 512) (h h') (r : Fin 512) (l : Fin 1024) :
    addT x1 (View.ld (Val := Elt Ideal) (e' := .f32) a (R o h)) (View.ld (Val := Elt Ideal) (e' := .bf16) x0 (Rect.unit (s := S512x1024) ![0, o] S512x512.size h')) r l
      = nxt x0 x1 a (ix2 (⟨o + r.val, by omega⟩ : Fin 1024) l) := by
  refine congr (congrArg HAdd.hAdd ?_) (Finset.sum_congr rfl fun k _ => congrArg (· * _) ?_)
  · refine View.ld_unit_apply_of (Val := Elt Ideal) (S := S1024x1024) (e := .f32) a ![o, 0] S512x1024.size h _ _ fun z => ?_
    match z with
    | ⟨0, _⟩ => rfl
    | ⟨1, _⟩ => exact (Nat.zero_add _).symm
  · refine View.ld_unit_apply_of (Val := Elt Ideal) (S := S512x1024) (e := .bf16) x0 ![0, o] S512x512.size h' _ _ fun z => ?_
    match z with
    | ⟨0, _⟩ => exact (Nat.zero_add _).symm
    | ⟨1, _⟩ => rfl

theorem rd_acc0 (hw : (Memref.whole cc0_scratch0).IsWhole) (a : FVec Ideal S1024x1024 .f32) :
    View.read (Elt Ideal) (View.whole cc0_scratch0) (hw.unread a) = a :=
  Memref.IsWhole.read_unread (Val := Elt Ideal) hw a
theorem rd_acc1 (hw : (Memref.whole cc0_scratch1).IsWhole) (a : FVec Ideal S1024x1024 .f32) :
    View.read (Elt Ideal) (View.whole cc0_scratch1) (hw.unread a) = a :=
  Memref.IsWhole.read_unread (Val := Elt Ideal) hw a

/-- A load from a buffer filled with zeros. -/
theorem rd_fill (v : View sig .tc .vmem S1024x1024 .f32) (z : FVec Ideal S1024x1024 .f32) (hz : ∀ r l, z (ix2 r l) = 0) (o : ℕ) (h i) :
    v.readCov [⟨Rect.unit (s := S1024x1024) ![0, 0] S1024x1024.size i, z⟩] (R o h).toLoadRect = View.ld (Val := Elt Ideal) (e' := .f32) (fun _ => (0 : EReal) : FVec Ideal S1024x1024 .f32) (R o h) := by
  rw [View.readCov_eq_canon']
  funext x
  refine (congrFun (View.canon_cons_unit_lit (Val := Elt Ideal) (S := S1024x1024) (e := .f32) i z [] (by decide)) _).trans ?_
  generalize (R o h).toLoadRect.idx x = y
  obtain ⟨r, l, rfl⟩ : ∃ (r l : Fin 1024), y = ix2 r l := ⟨y 0, y 1, by funext a; fin_cases a <;> rfl⟩
  exact hz r l
theorem rd_zero0 (v : View sig .tc .vmem S1024x1024 .f32) (o : ℕ) (h i) :
    v.readCov [⟨Rect.unit (s := S1024x1024) ![0, 0] S1024x1024.size i, k0_pay5 (F := Ideal)⟩] (R o h).toLoadRect = View.ld (Val := Elt Ideal) (e' := .f32) (fun _ => (0 : EReal) : FVec Ideal S1024x1024 .f32) (R o h) :=
  rd_fill v (k0_pay5 (F := Ideal)) (fun r l => pay5_at l r) o h i
theorem rd_zero1 (v : View sig .tc .vmem S1024x1024 .f32) (o : ℕ) (h i) :
    v.readCov [⟨Rect.unit (s := S1024x1024) ![0, 0] S1024x1024.size i, k0_pay6 (F := Ideal)⟩] (R o h).toLoadRect = View.ld (Val := Elt Ideal) (e' := .f32) (fun _ => (0 : EReal) : FVec Ideal S1024x1024 .f32) (R o h) :=
  rd_fill v (k0_pay6 (F := Ideal)) (fun r l => pay6_at l r) o h i

variable (m : (ℓ : Loc nD τ sig) → Buf (Elt Ideal) ℓ)

/-- The first point leaves its own products. -/
theorem acc_A (c : Dev nD) (t : Fin cfg0.N) (h0 : t.val % 8 = 0) :
    (outsAt0 m c t.val t.isLt).2.1 = nxt (iblk m c 0 t) (iblk m c 1 t) (fun _ => 0) ∧ (outsAt0 m c t.val t.isLt).2.2 = nxt (iblk m c 2 t) (iblk m c 3 t) (fun _ => 0) := by
  rw [outsAt0_A m c t h0 (by omega)]
  constructor
  · frame_out
    simp (disch := decide) only [rows_skip]
    refine read _ _ _ _ (fun r l => ?_) (fun r l => ?_)
    · rw [pay8_at, rd_zero0]; exact addT_at _ _ _ 0 (by omega) _ _ r l
    · rw [pay9_at, rd_zero0]; exact addT_at _ _ _ 512 (by omega) _ _ r l
  · frame_out
    simp (disch := decide) only [rows_skip]
    refine read _ _ _ _ (fun r l => ?_) (fun r l => ?_)
    · rw [pay11_at, rd_zero1]; exact addT_at _ _ _ 0 (by omega) _ _ r l
    · rw [pay2_at, rd_zero1]; exact addT_at _ _ _ 512 (by omega) _ _ r l

/-- Every other point adds its products. -/
theorem acc_B (c : Dev nD) (t : Fin cfg0.N) (h0 : ¬t.val % 8 = 0) :
    (outsAt0 m c t.val t.isLt).2.1 = nxt (iblk m c 0 t) (iblk m c 1 t) (outsAt0 m c (t.val - 1) (Nat.lt_of_le_of_lt (Nat.sub_le _ _) t.isLt)).2.1
      ∧ (outsAt0 m c t.val t.isLt).2.2 = nxt (iblk m c 2 t) (iblk m c 3 t) (outsAt0 m c (t.val - 1) (Nat.lt_of_le_of_lt (Nat.sub_le _ _) t.isLt)).2.2 := by
  by_cases h1 : t.val % 8 = 7
  · rw [outsAt0_C m c t h0 h1]
    constructor
    · frame_out
      simp only [rd_acc0, rd_acc1]
      refine read _ _ _ _ (fun r l => ?_) (fun r l => ?_)
      · rw [pay8_at]; exact addT_at _ _ _ 0 (by omega) _ _ r l
      · rw [pay9_at]; exact addT_at _ _ _ 512 (by omega) _ _ r l
    · frame_out
      simp only [rd_acc0, rd_acc1]
      refine read _ _ _ _ (fun r l => ?_) (fun r l => ?_)
      · rw [pay11_at]; exact addT_at _ _ _ 0 (by omega) _ _ r l
      · rw [pay2_at]; exact addT_at _ _ _ 512 (by omega) _ _ r l
  · rw [outsAt0_B m c t h0 h1]
    constructor
    · frame_out
      simp only [rd_acc0, rd_acc1]
      refine read _ _ _ _ (fun r l => ?_) (fun r l => ?_)
      · rw [pay8_at]; exact addT_at _ _ _ 0 (by omega) _ _ r l
      · rw [pay9_at]; exact addT_at _ _ _ 512 (by omega) _ _ r l
    · frame_out
      simp only [rd_acc0, rd_acc1]
      refine read _ _ _ _ (fun r l => ?_) (fun r l => ?_)
      · rw [pay11_at]; exact addT_at _ _ _ 0 (by omega) _ _ r l
      · rw [pay2_at]; exact addT_at _ _ _ 512 (by omega) _ _ r l

end Cert.GoutIdeal.Val
end
-- ==== Proof.GoutClaim.lean ====
/- The output projection's weight gradient: the call's result is the reference's, for any arguments. -/
module

public import proofs.«01_k».proof.Defs
public import proofs.«01_k».proof.Proof.GoutVal
public import proofs.«01_k».proof.Proof.GateVal
public import proofs.«01_k».proof.Proof.Gen.GoutRefIdeal.Run
public import proofs.«01_k».proof.Proof.Gen.Gout.Frame

@[expose] public section
set_option maxRecDepth 16384
noncomputable section
namespace Cert.GoutIdeal.Val
open Idealize.ShloMosaic Idealize.ShloMosaic.TcCoe Idealize.SL.Sem
open Cert.GoutIdeal Cert.GoutIdeal.Gen Cert.Step
open Cert.GateIdeal.Val (tok tok_inv)

/-- Which block each window reads or writes at point `t`. -/
theorem idx : ∀ t : Fin cfg0.N, win0_0.index t = ![t.val, 0] ∧ win0_1.index t = ![t.val, 0] ∧ win0_2.index t = ![t.val, 0] ∧ win0_3.index t = ![t.val, 0] ∧ win0_4.index t = ![0, 0] :=
  (by decide +kernel : ∀ t : Fin grid0.N, _)

/-- Row `r` of the block of point `t` in the whole array. -/
abbrev row (t : Fin cfg0.N) (r : Fin 512) : Fin 4096 := ⟨t.val * 512 + r, by have := t.isLt; have : t.val < 8 := this; omega⟩

variable (m : (ℓ : Loc nD τ sig) → Buf (Elt Ideal) ℓ)

abbrev Y0 (c : Dev nD) : FVec Ideal S4096x1024 .f32 := m ((c : Thread nD τ).loc main_arg0)
abbrev Y1 (c : Dev nD) : FVec Ideal S4096x1024 .f32 := m ((c : Thread nD τ).loc main_arg1)
abbrev DX (c : Dev nD) : FVec Ideal S4096x1024 .f32 := m ((c : Thread nD τ).loc main_arg2)

/-! The host operations before the call order the rows by token mod 16 within chunks of 128. -/
theorem V4 (c : Dev nD) (p : Fin 4096) (l : Fin 1024) :
    (V m c main_v4 : FVec Ideal S4096x1024 .bf16) (ix2 p l) = Y0 m c (ix2 (tok p) l) := by
  unfold V
  simp only [hostOps0, List.flatten_cons, List.flatten_nil, List.append_nil]
  after_results
  pointwise
  try (blk_ext; done)
theorem V7 (c : Dev nD) (p : Fin 4096) (l : Fin 1024) :
    (V m c main_v7 : FVec Ideal S4096x1024 .bf16) (ix2 p l) = DX m c (ix2 (tok p) l) := by
  unfold V
  simp only [hostOps0, List.flatten_cons, List.flatten_nil, List.append_nil]
  after_results
  pointwise
  try (blk_ext; done)

theorem blk0 (c : Dev nD) (t : Fin cfg0.N) (r : Fin 512) (l : Fin 1024) :
    (iblk m c 0 t : FVec Ideal S512x1024 .bf16) (ix2 r l) = Y0 m c (ix2 (tok (row t r)) l) := by
  refine Eq.trans ?_ (V4 m c (row t r) l)
  blk_point [iblk, idx t]
theorem blk1 (c : Dev nD) (t : Fin cfg0.N) (r : Fin 512) (l : Fin 1024) :
    (iblk m c 1 t : FVec Ideal S512x1024 .bf16) (ix2 r l) = DX m c (ix2 (tok (row t r)) l) := by
  refine Eq.trans ?_ (V7 m c (row t r) l)
  blk_point [iblk, idx t]
theorem blk2 (c : Dev nD) (t : Fin cfg0.N) (r : Fin 512) (l : Fin 1024) :
    (iblk m c 2 t : FVec Ideal S512x1024 .bf16) (ix2 r l) = Y1 m c (ix2 (row t r) l) := by
  blk_point [iblk, V, idx t]
theorem blk3 (c : Dev nD) (t : Fin cfg0.N) (r : Fin 512) (l : Fin 1024) :
    (iblk m c 3 t : FVec Ideal S512x1024 .bf16) (ix2 r l) = DX m c (ix2 (row t r) l) := by
  blk_point [iblk, V, idx t]

theorem nxt0_at (c : Dev nD) (t : Fin cfg0.N) (a : FVec Ideal S1024x1024 .f32) (r l : Fin 1024) :
    nxt (iblk m c 0 t) (iblk m c 1 t) a (ix2 r l) = a (ix2 r l) + ∑ k : Fin 512, Y0 m c (ix2 (tok (row t k)) r) * DX m c (ix2 (tok (row t k)) l) := by
  refine congrArg (_ + ·) (Finset.sum_congr rfl fun k _ => ?_)
  exact congr (congrArg HMul.hMul (blk0 m c t k r)) (blk1 m c t k l)
theorem nxt1_at (c : Dev nD) (t : Fin cfg0.N) (a : FVec Ideal S1024x1024 .f32) (r l : Fin 1024) :
    nxt (iblk m c 2 t) (iblk m c 3 t) a (ix2 r l) = a (ix2 r l) + ∑ k : Fin 512, Y1 m c (ix2 (row t k) r) * DX m c (ix2 (row t k) l) := by
  refine congrArg (_ + ·) (Finset.sum_congr rfl fun k _ => ?_)
  exact congr (congrArg HMul.hMul (blk2 m c t k r)) (blk3 m c t k l)

theorem sum_rows (f : Fin 4096 → EReal) : ∑ p : Fin cfg0.N, ∑ r : Fin 512, f (row p r) = ∑ s, f s :=
  (Fin.sum_univ_tiles 8 512 rfl f).symm

/-- Every token stands at one row, so a sum over the rows is a sum over the tokens. -/
theorem sum_tok (f : Fin 4096 → EReal) : ∑ s, f (tok s) = ∑ s, f s := by
  have hs : Function.Surjective tok := fun s => ⟨_, tok_inv s⟩
  exact Function.Bijective.sum_comp ⟨Finite.injective_iff_surjective.mpr hs, hs⟩ f

/-- The attention rows' sum behind the last point. -/
theorem acc0_last (c : Dev nD) (r l : Fin 1024) :
    (outsAt0 m c t0_7.val t0_7.isLt).2.1 (ix2 r l) = ∑ s : Fin 4096, Y0 m c (ix2 s r) * DX m c (ix2 s l) := by
  rw [Pipeline.eq_sum_fin_of_reset_step_apply_last (fun n h => (outsAt0 m c n h).2.1) 8 (fun _ => 0)
    (fun t j => ∑ k : Fin 512, Y0 m c (ix2 (tok (row t k)) (j 0)) * DX m c (ix2 (tok (row t k)) (j 1)))
    (fun t h j => by
      obtain ⟨r, l, rfl⟩ : ∃ (r l : Fin 1024), j = ix2 r l := ⟨j 0, j 1, by funext a; fin_cases a <;> rfl⟩
      rw [(acc_A m c t h).1]; exact nxt0_at m c t _ r l)
    (fun t h j => by
      obtain ⟨r, l, rfl⟩ : ∃ (r l : Fin 1024), j = ix2 r l := ⟨j 0, j 1, by funext a; fin_cases a <;> rfl⟩
      rw [(acc_B m c t h).1]; exact nxt0_at m c t _ r l)
    (le_of_eq N_0) t0_7 rfl (ix2 r l), zero_add]
  exact (sum_rows fun s => Y0 m c (ix2 (tok s) r) * DX m c (ix2 (tok s) l)).trans (sum_tok fun s => Y0 m c (ix2 s r) * DX m c (ix2 s l))

/-- The convolution rows' sum behind the last point. -/
theorem acc1_last (c : Dev nD) (r l : Fin 1024) :
    (outsAt0 m c t0_7.val t0_7.isLt).2.2 (ix2 r l) = ∑ s : Fin 4096, Y1 m c (ix2 s r) * DX m c (ix2 s l) := by
  rw [Pipeline.eq_sum_fin_of_reset_step_apply_last (fun n h => (outsAt0 m c n h).2.2) 8 (fun _ => 0)
    (fun t j => ∑ k : Fin 512, Y1 m c (ix2 (row t k) (j 0)) * DX m c (ix2 (row t k) (j 1)))
    (fun t h j => by
      obtain ⟨r, l, rfl⟩ : ∃ (r l : Fin 1024), j = ix2 r l := ⟨j 0, j 1, by funext a; fin_cases a <;> rfl⟩
      rw [(acc_A m c t h).2]; exact nxt1_at m c t _ r l)
    (fun t h j => by
      obtain ⟨r, l, rfl⟩ : ∃ (r l : Fin 1024), j = ix2 r l := ⟨j 0, j 1, by funext a; fin_cases a <;> rfl⟩
      rw [(acc_B m c t h).2]; exact nxt1_at m c t _ r l)
    (le_of_eq N_0) t0_7 rfl (ix2 r l), zero_add]
  exact sum_rows fun s => Y1 m c (ix2 s r) * DX m c (ix2 s l)

/-- The result: the attention rows' sums, then the convolution rows'. -/
abbrev res (c : Dev nD) : FVec Ideal S2048x1024 .bf16 := fun i =>
  if h : (i 0).val < 1024 then (∑ s : Fin 4096, Y0 m c (ix2 s (⟨(i 0).val, h⟩ : Fin 1024)) * DX m c (ix2 s (i 1)) : EReal)
  else (∑ s : Fin 4096, Y1 m c (ix2 s (⟨(i 0).val - 1024, by have h := (i 0).isLt; change _ < 2048 at h; omega⟩ : Fin 1024)) * DX m c (ix2 s (i 1)) : EReal)

theorem res_at (c : Dev nD) (r : Fin 2048) (l : Fin 1024) : res m c (ix2 r l) =
    if h : r.val < 1024 then (∑ s : Fin 4096, Y0 m c (ix2 s (⟨r.val, h⟩ : Fin 1024)) * DX m c (ix2 s l) : EReal)
    else (∑ s : Fin 4096, Y1 m c (ix2 s (⟨r.val - 1024, by have h := r.isLt; omega⟩ : Fin 1024)) * DX m c (ix2 s l) : EReal) := rfl

/-- A load of everything stored so far. -/
theorem rd_all (v : View sig .tc .vmem S1024x1024 .f32) (L : List (View.Piece (Elt Ideal) S1024x1024 .f32)) (i) :
    v.readCov L (Rect.unit (s := S1024x1024) ![0, 0] S1024x1024.size i).toLoadRect = View.canon L := by
  rw [View.readCov_eq_canon']
  exact View.ld_unit_lit i (View.canon L) (by decide)

/-- What the last point writes. -/
theorem out_last (c : Dev nD) (t : Fin cfg0.N) (h0 : ¬t.val % 8 = 0) (h1 : t.val % 8 = 7) (r : Fin 2048) (l : Fin 1024) :
    (outsAt0 m c t.val t.isLt).1 (ix2 r l) = if h : r.val < 1024 then (outsAt0 m c t.val t.isLt).2.1 (ix2 (⟨r.val, h⟩ : Fin 1024) l)
      else (outsAt0 m c t.val t.isLt).2.2 (ix2 (⟨r.val - 1024, by have h := r.isLt; omega⟩ : Fin 1024) l) := by
  rw [outsAt0_C m c t h0 h1]
  frame_out
  rw [rd_all, rd_all]
  generalize View.canon (Val := Elt Ideal) (s := S1024x1024) _ = A
  generalize View.canon (Val := Elt Ideal) (s := S1024x1024) _ = B
  refine (halves (n := 1024) rfl (e := .bf16) _ _ [] _ _ r l).trans ?_
  simp only [pay3_at, pay4_at]

theorem final4 (c : Dev nD) : (dats m 0 c).arrAt 4 (cfgs 0).N = res m c := by
  refine (dats m 0 c).arrAt_eq_of_after_last 4 t0_7 (by decide +kernel) _ fun j => ?_
  blk_simp
  obtain ⟨r, l, rfl⟩ : ∃ (r : Fin 2048) (l : Fin 1024), j = ix2 r l := ⟨j 0, j 1, by funext a; fin_cases a <;> rfl⟩
  rw [after0_4]
  refine (out_last m c t0_7 (by decide) (by decide) r l).trans ?_
  by_cases h : r.val < 1024
  · rw [dif_pos h, acc0_last, res_at, dif_pos h]
  · rw [dif_neg h, acc1_last, res_at, dif_neg h]

/-- The two programs end with equal results on any arguments. -/
theorem algebraic : Cert.algebraic_GoutIdeal_GoutRefIdeal (hGoutIdeal := Cert.GoutIdeal.Gen.facts)
    (hGoutRefIdeal := Cert.GoutRefIdeal.Gen.facts) := by
  intro m g m' g' _ hagree
  refine ⟨fun c => res m c,
    θ_run_and (Cert.GoutIdeal.Gen.unchanged m g) (Cert.GoutIdeal.Gen.run_main m g) |> (θ_run defs _ _).mono (fun r h c =>
      ⟨((h.2 c).1 4).trans (final4 m c), h.1 c⟩),
    (θ_run Cert.GoutRefIdeal.defs _ _).mono (fun r h c => ?_) (Cert.GoutRefIdeal.Value.run m' g')⟩
  obtain ⟨h0, hk⟩ := h c
  obtain ⟨g0, g1, g2⟩ := hagree c
  rw [g0, g1, g2] at h0
  refine ⟨h0.trans ?_, hk⟩
  funext i
  obtain ⟨r, l, rfl⟩ : ∃ (r : Fin 2048) (l : Fin 1024), i = ix2 r l := ⟨i 0, i 1, by funext a; fin_cases a <;> rfl⟩
  refine Eq.trans ?_ (res_at m c r l).symm
  pointwise
  by_cases h : r.val < 1024
  · simp only [dif_pos h]
    exact Finset.sum_congr rfl fun s _ => mul_comm _ _
  · simp only [dif_neg h]
    exact Finset.sum_congr rfl fun s _ => mul_comm _ _

end Cert.GoutIdeal.Val

end
-- ==== Proof.lean ====
/- The certificate's claims, each from its own module. -/
module

public import proofs.«01_k».proof.Defs
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateRefIdeal
public import proofs.«01_k».proof.Proof.Gen.GateRefIdeal.Run
public import proofs.«01_k».proof.Proof.Gen.Lnorm
public import proofs.«01_k».proof.Proof.Gen.Lnorm.Frame
public import proofs.«01_k».proof.Proof.Gen.LnormIdeal
public import proofs.«01_k».proof.Proof.Gen.LnormIdeal.Frame
public import proofs.«01_k».proof.Proof.Gen.LnormIdeal.Value
public import proofs.«01_k».proof.Proof.Gen.LnormRefIdeal
public import proofs.«01_k».proof.Proof.Gen.LnormRefIdeal.Run
public import proofs.«01_k».proof.Proof.Gen.LnormRefIdeal.Read
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossRefIdeal
public import proofs.«01_k».proof.Proof.Gen.LossRefIdeal.Run
public import proofs.«01_k».proof.Proof.Gen.LossRefIdeal.Read
public import proofs.«01_k».proof.Proof.Gen.Norm
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormRefIdeal.Run
public import proofs.«01_k».proof.Proof.Gen.NormRefIdeal.Read
public import proofs.«01_k».proof.Proof.Gen.Attn
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.Fwd
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdRefIdeal
public import proofs.«01_k».proof.Proof.Gen.FwdRefIdeal.Run
public import proofs.«01_k».proof.Proof.Gen.Rms
public import proofs.«01_k».proof.Proof.Gen.Rms.Frame
public import proofs.«01_k».proof.Proof.Gen.RmsIdeal
public import proofs.«01_k».proof.Proof.Gen.RmsIdeal.Frame
public import proofs.«01_k».proof.Proof.Gen.RmsRefIdeal
public import proofs.«01_k».proof.Proof.Gen.RmsRefIdeal.Run
public import proofs.«01_k».proof.Proof.Gen.Gw
public import proofs.«01_k».proof.Proof.Gen.Gw.Frame
public import proofs.«01_k».proof.Proof.Gen.GwIdeal
public import proofs.«01_k».proof.Proof.Gen.GwIdeal.Frame
public import proofs.«01_k».proof.Proof.Gen.GwRefIdeal
public import proofs.«01_k».proof.Proof.Gen.GwRefIdeal.Run
public import proofs.«01_k».proof.Proof.Gen.Adam
public import proofs.«01_k».proof.Proof.Gen.Adam.Frame
public import proofs.«01_k».proof.Proof.Gen.AdamIdeal
public import proofs.«01_k».proof.Proof.Gen.AdamIdeal.Frame
public import proofs.«01_k».proof.Proof.Gen.AdamRefIdeal
public import proofs.«01_k».proof.Proof.Gen.AdamRefIdeal.Run
public import proofs.«01_k».proof.Proof.Gen.Small
public import proofs.«01_k».proof.Proof.Gen.Small.Frame
public import proofs.«01_k».proof.Proof.Gen.SmallIdeal
public import proofs.«01_k».proof.Proof.Gen.SmallIdeal.Frame
public import proofs.«01_k».proof.Proof.Gen.SmallRefIdeal
public import proofs.«01_k».proof.Proof.Gen.SmallRefIdeal.Run
public import proofs.«01_k».proof.Proof.Gen.Cw
public import proofs.«01_k».proof.Proof.Gen.Cw.Frame
public import proofs.«01_k».proof.Proof.Gen.CwIdeal
public import proofs.«01_k».proof.Proof.Gen.CwIdeal.Frame
public import proofs.«01_k».proof.Proof.Gen.CwRefIdeal
public import proofs.«01_k».proof.Proof.Gen.CwRefIdeal.Run
public import proofs.«01_k».proof.Proof.Gen.Gout
public import proofs.«01_k».proof.Proof.Gen.Gout.Frame
public import proofs.«01_k».proof.Proof.Gen.GoutIdeal
public import proofs.«01_k».proof.Proof.Gen.GoutIdeal.Frame
public import proofs.«01_k».proof.Proof.Gen.GoutRefIdeal
public import proofs.«01_k».proof.Proof.Gen.GoutRefIdeal.Run
public import proofs.«01_k».proof.Proof.GateClaim
public import proofs.«01_k».proof.Proof.LnormClaim
public import proofs.«01_k».proof.Proof.LossClaim
public import proofs.«01_k».proof.Proof.NormClaim
public import proofs.«01_k».proof.Proof.AttnClaim
public import proofs.«01_k».proof.Proof.FwdClaim
public import proofs.«01_k».proof.Proof.RmsClaim
public import proofs.«01_k».proof.Proof.GwClaim
public import proofs.«01_k».proof.Proof.AdamClaim
public import proofs.«01_k».proof.Proof.SmallClaim
public import proofs.«01_k».proof.Proof.CwClaim
public import proofs.«01_k».proof.Proof.GoutClaim
public import Idealize.ShloMosaic.Adequacy
public import Idealize.ShloMosaic.Init

@[expose] public section

noncomputable section

namespace Cert.Proof

open Idealize.ShloMosaic Idealize.SL.Sem

/-- The gate's reference ends with its arguments unchanged and no counter raised: it is a list of host operations. -/
theorem frame_gateRef : Cert.quiescent_GateRefIdeal (hGateRefIdeal := Cert.GateRefIdeal.Gen.facts) := fun m g _ =>
  (θ_run (Cert.GateRefIdeal.defs (F := Ideal)) _ _).mono (fun r h => ⟨fun c => (h c).2.2.2.2, sem_eq_zero_of_no_sems (by decide) r.2⟩)
    (Cert.GateRefIdeal.Value.run (F := Ideal) m g)

/-- The side conditions of the precondition's own program. -/
theorem gateFinite : Cert.Pre_finite_gate.Facts := ⟨by decide, by decide⟩

/-- The convolution branch's reference, likewise. -/
theorem frame_lnormRef : Cert.quiescent_LnormRefIdeal (hLnormRefIdeal := Cert.LnormRefIdeal.Gen.facts) := fun m g _ =>
  (θ_run (Cert.LnormRefIdeal.defs (F := Ideal)) _ _).mono (fun r h => ⟨fun c => (h c).2.2.2.2.2, sem_eq_zero_of_no_sems (by decide) r.2⟩)
    (Cert.LnormRefIdeal.Value.run (F := Ideal) m g)

theorem lnormFinite : Cert.Pre_finite_lnorm.Facts := ⟨by decide, by decide, by decide, by decide⟩

/-- The loss's reference, likewise. -/
theorem frame_lossRef : Cert.quiescent_LossRefIdeal (hLossRefIdeal := Cert.LossRefIdeal.Gen.facts) := fun m g _ =>
  (θ_run (Cert.LossRefIdeal.defs (F := Ideal)) _ _).mono (fun r h => ⟨fun c => (h c).2.2.2.2, sem_eq_zero_of_no_sems (by decide) r.2⟩)
    (Cert.LossRefIdeal.Value.run (F := Ideal) m g)

theorem lossFinite : Cert.Pre_finite_loss.Facts := ⟨by decide, by decide, by decide⟩

/-- The reference of the call behind the input projection, likewise. -/
theorem frame_normRef : Cert.quiescent_NormRefIdeal (hNormRefIdeal := Cert.NormRefIdeal.Gen.facts) := fun m g _ =>
  (θ_run (Cert.NormRefIdeal.defs (F := Ideal)) _ _).mono (fun r h => ⟨fun c => (h c).2.2, sem_eq_zero_of_no_sems (by decide) r.2⟩)
    (Cert.NormRefIdeal.Value.run (F := Ideal) m g)

theorem normFinite : Cert.Pre_finite_norm.Facts := ⟨by decide, by decide, by decide, by decide, by decide, by decide⟩

/-- The attention's reference, likewise. -/
theorem frame_attnRef : Cert.quiescent_AttnRefIdeal (hAttnRefIdeal := Cert.AttnRefIdeal.Gen.facts) := fun m g _ =>
  (θ_run (Cert.AttnRefIdeal.defs (F := Ideal)) _ _).mono (fun r h => ⟨fun c => (h c).2.2.2, sem_eq_zero_of_no_sems (by decide) r.2⟩)
    (Cert.AttnRefIdeal.Value.run (F := Ideal) m g)

theorem attnFinite : Cert.Pre_finite_attn.Facts := ⟨by decide, by decide⟩

/-- The reference of the attention's forward call, likewise. -/
theorem frame_fwdRef : Cert.quiescent_FwdRefIdeal (hFwdRefIdeal := Cert.FwdRefIdeal.Gen.facts) := fun m g _ =>
  (θ_run (Cert.FwdRefIdeal.defs (F := Ideal)) _ _).mono (fun r h => ⟨fun c => (h c).2.2, sem_eq_zero_of_no_sems (by decide) r.2⟩)
    (Cert.FwdRefIdeal.Value.run (F := Ideal) m g)

theorem fwdFinite : Cert.Pre_finite_fwd.Facts := ⟨by decide, by decide⟩

/-- The reference of the first norm's forward call, likewise. -/
theorem frame_rmsRef : Cert.quiescent_RmsRefIdeal (hRmsRefIdeal := Cert.RmsRefIdeal.Gen.facts) := fun m g _ =>
  (θ_run (Cert.RmsRefIdeal.defs (F := Ideal)) _ _).mono (fun r h => ⟨fun c => (h c).2.2, sem_eq_zero_of_no_sems (by decide) r.2⟩)
    (Cert.RmsRefIdeal.Value.run (F := Ideal) m g)

/-- The reference of the gates' weight gradient, likewise. -/
theorem frame_gwRef : Cert.quiescent_GwRefIdeal (hGwRefIdeal := Cert.GwRefIdeal.Gen.facts) := fun m g _ =>
  (θ_run (Cert.GwRefIdeal.defs (F := Ideal)) _ _).mono (fun r h => ⟨fun c => (h c).2, sem_eq_zero_of_no_sems (by decide) r.2⟩)
    (Cert.GwRefIdeal.Value.run (F := Ideal) m g)

/-- The optimiser's reference, likewise. -/
theorem frame_adamRef : Cert.quiescent_AdamRefIdeal (hAdamRefIdeal := Cert.AdamRefIdeal.Gen.facts) := fun m g _ =>
  (θ_run (Cert.AdamRefIdeal.defs (F := Ideal)) _ _).mono (fun r h => ⟨fun c => (h c).2.2.2.2, sem_eq_zero_of_no_sems (by decide) r.2⟩)
    (Cert.AdamRefIdeal.Value.run (F := Ideal) m g)

/-- The reference of the small weights' step, likewise. -/
theorem frame_smallRef : Cert.quiescent_SmallRefIdeal (hSmallRefIdeal := Cert.SmallRefIdeal.Gen.facts) := fun m g _ =>
  (θ_run (Cert.SmallRefIdeal.defs (F := Ideal)) _ _).mono (fun r h => ⟨fun c => (h c).2.2.2.2.2.2.2.2.2.2.2.2.2.2.2.2.2.2.2.2.2, sem_eq_zero_of_no_sems (by decide) r.2⟩)
    (Cert.SmallRefIdeal.Value.run (F := Ideal) m g)

/-- The reference of conv_w's step, likewise. -/
theorem frame_cwRef : Cert.quiescent_CwRefIdeal (hCwRefIdeal := Cert.CwRefIdeal.Gen.facts) := fun m g _ =>
  (θ_run (Cert.CwRefIdeal.defs (F := Ideal)) _ _).mono (fun r h => ⟨fun c => (h c).2.2.2.2, sem_eq_zero_of_no_sems (by decide) r.2⟩)
    (Cert.CwRefIdeal.Value.run (F := Ideal) m g)

/-- The reference of the output projection's weight gradient, likewise. -/
theorem frame_goutRef : Cert.quiescent_GoutRefIdeal (hGoutRefIdeal := Cert.GoutRefIdeal.Gen.facts) := fun m g _ =>
  (θ_run (Cert.GoutRefIdeal.defs (F := Ideal)) _ _).mono (fun r h => ⟨fun c => (h c).2, sem_eq_zero_of_no_sems (by decide) r.2⟩)
    (Cert.GoutRefIdeal.Value.run (F := Ideal) m g)

theorem claim : Cert.Claim :=
  ⟨Cert.Gate.Gen.facts, Cert.GateIdeal.Gen.facts, Cert.GateRefIdeal.Gen.facts,
    Cert.Lnorm.Gen.facts, Cert.LnormIdeal.Gen.facts, Cert.LnormRefIdeal.Gen.facts,
    Cert.Loss.Gen.facts, Cert.LossIdeal.Gen.facts, Cert.LossRefIdeal.Gen.facts,
    Cert.Norm.Gen.facts, Cert.NormIdeal.Gen.facts, Cert.NormRefIdeal.Gen.facts,
    Cert.Attn.Gen.facts, Cert.AttnIdeal.Gen.facts, Cert.AttnRefIdeal.Gen.facts,
    Cert.Fwd.Gen.facts, Cert.FwdIdeal.Gen.facts, Cert.FwdRefIdeal.Gen.facts,
    Cert.Rms.Gen.facts, Cert.RmsIdeal.Gen.facts, Cert.RmsRefIdeal.Gen.facts,
    Cert.Gw.Gen.facts, Cert.GwIdeal.Gen.facts, Cert.GwRefIdeal.Gen.facts,
    Cert.Adam.Gen.facts, Cert.AdamIdeal.Gen.facts, Cert.AdamRefIdeal.Gen.facts,
    Cert.Small.Gen.facts, Cert.SmallIdeal.Gen.facts, Cert.SmallRefIdeal.Gen.facts,
    Cert.Cw.Gen.facts, Cert.CwIdeal.Gen.facts, Cert.CwRefIdeal.Gen.facts,
    Cert.Gout.Gen.facts, Cert.GoutIdeal.Gen.facts, Cert.GoutRefIdeal.Gen.facts, gateFinite, lnormFinite, lossFinite, normFinite, attnFinite, fwdFinite,
    fun m g _ => Cert.Gate.Gen.frame m g, fun m g _ => Cert.GateIdeal.Gen.frame m g, fun m g _ => Cert.GateIdeal.Gen.frame m g,
    frame_gateRef, fun m g _ => frame_gateRef m g trivial,
    fun m g _ => Cert.Lnorm.Gen.frame m g, fun m g _ => Cert.LnormIdeal.Gen.frame m g, fun m g _ => Cert.LnormIdeal.Gen.frame m g,
    frame_lnormRef, fun m g _ => frame_lnormRef m g trivial,
    fun m g _ => Cert.Loss.Gen.frame m g, fun m g _ => Cert.LossIdeal.Gen.frame m g, fun m g _ => Cert.LossIdeal.Gen.frame m g,
    frame_lossRef, fun m g _ => frame_lossRef m g trivial,
    Cert.NormIdeal.Step.frame_norm, Cert.NormIdeal.Step.frame_normIdeal, fun m g _ => Cert.NormIdeal.Step.frame_normIdeal m g trivial,
    frame_normRef, fun m g _ => frame_normRef m g trivial,
    Cert.AttnIdeal.Step.frame_attn, Cert.AttnIdeal.Step.frame_attnIdeal, fun m g _ => Cert.AttnIdeal.Step.frame_attnIdeal m g trivial,
    frame_attnRef, fun m g _ => frame_attnRef m g trivial,
    Cert.FwdIdeal.Step.frame_fwd, Cert.FwdIdeal.Step.frame_fwdIdeal, fun m g _ => Cert.FwdIdeal.Step.frame_fwdIdeal m g trivial,
    frame_fwdRef, fun m g _ => frame_fwdRef m g trivial,
    fun m g _ => Cert.Rms.Gen.frame m g, fun m g _ => Cert.RmsIdeal.Gen.frame m g, frame_rmsRef,
    fun m g _ => Cert.Gw.Gen.frame m g, fun m g _ => Cert.GwIdeal.Gen.frame m g, frame_gwRef,
    fun m g _ => Cert.Adam.Gen.frame m g, fun m g _ => Cert.AdamIdeal.Gen.frame m g, frame_adamRef,
    fun m g _ => Cert.Small.Gen.frame m g, fun m g _ => Cert.SmallIdeal.Gen.frame m g, frame_smallRef,
    fun m g _ => Cert.Cw.Gen.frame m g, fun m g _ => Cert.CwIdeal.Gen.frame m g, frame_cwRef,
    fun m g _ => Cert.Gout.Gen.frame m g, fun m g _ => Cert.GoutIdeal.Gen.frame m g, frame_goutRef,
    trivial, Cert.GateIdeal.Val.algebraic (hPre := gateFinite),
    trivial, Cert.LnormIdeal.Val.algebraic (hPre := lnormFinite),
    trivial, Cert.LossIdeal.Val.algebraic (hPre := lossFinite),
    trivial, Cert.NormIdeal.Val.algebraic (hPre := normFinite),
    Cert.AttnIdeal.Step.names, Cert.AttnIdeal.Val.algebraic (hPre := attnFinite),
    Cert.FwdIdeal.Step.names, Cert.FwdIdeal.Val.algebraic (hPre := fwdFinite),
    trivial, Cert.RmsIdeal.Val.algebraic,
    trivial, Cert.GwIdeal.Val.algebraic,
    trivial, Cert.AdamIdeal.Val.algebraic,
    trivial, Cert.SmallIdeal.Val.algebraic,
    trivial, Cert.CwIdeal.Val.algebraic,
    trivial, Cert.GoutIdeal.Val.algebraic⟩

end Cert.Proof

end
